-- ==== Defs.lean ====
def Pre_Kernel [hPre_nodes : Cert.Pre_nodes.Facts] (m : (ℓ : Loc Cert.Kernel.nD Cert.Kernel.τ Cert.Kernel.sig) → Buf (Elt Bits) ℓ) : Prop :=
  ∀ c : Dev Cert.Kernel.nD,
    (Cert.Pre_nodes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_nodes : Cert.Pre_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_KernelIdeal_finite_nodes [hPre_finite_nodes : Cert.Pre_finite_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_nodes [hPre_finite_nodes : Cert.Pre_finite_nodes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_nodes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] [hPre_nodes : Cert.Pre_nodes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_nodes : Cert.Pre_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_nodes [hKernelIdeal : Cert.KernelIdeal.Facts] [hPre_finite_nodes : Cert.Pre_finite_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_nodes m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_nodes [hReferenceIdeal : Cert.ReferenceIdeal.Facts] [hPre_finite_nodes : Cert.Pre_finite_nodes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_nodes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_nodes [hKernelIdeal : Cert.KernelIdeal.Facts] [hReferenceIdeal : Cert.ReferenceIdeal.Facts] [hPre_finite_nodes : Cert.Pre_finite_nodes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_nodes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_nodes : Cert.Pre_nodes.Facts) (hPre_finite_nodes : Cert.Pre_finite_nodes.Facts),
    quiescent_Kernel (hKernel := hKernel) (hPre_nodes := hPre_nodes)
    ∧ quiescent_KernelIdeal (hKernelIdeal := hKernelIdeal) (hPre_nodes := hPre_nodes)
    ∧ quiescent_KernelIdeal_pre_finite_nodes (hKernelIdeal := hKernelIdeal) (hPre_finite_nodes := hPre_finite_nodes)
    ∧ quiescent_ReferenceIdeal (hReferenceIdeal := hReferenceIdeal)
    ∧ quiescent_ReferenceIdeal_pre_finite_nodes (hReferenceIdeal := hReferenceIdeal) (hPre_finite_nodes := hPre_finite_nodes)
    ∧ preserves_Kernel_KernelIdeal
    ∧ algebraic_KernelIdeal_ReferenceIdeal_pre_finite_nodes (hKernelIdeal := hKernelIdeal) (hReferenceIdeal := hReferenceIdeal) (hPre_finite_nodes := hPre_finite_nodes)
-- ==== Pre_finite_nodes.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg17 : FVec F S64 .f32) (main_v80 : IVec S_ 1) (main_v84 : IVec S_ 1) : IVec S_ 1 :=
  let main_v85 : IVec S_ 1 := andi main_v80 main_v84
  let main_v86 : FVec F S64 .f32 := Host.absf main_arg17
  let main_cst_33 : FVec F S_ .f32 := constant S_ .f32 0x7F800000#32
  let main_v87 : FVec F S64 .f32 := broadcastInDim S64 ![] bcast_S_S64 main_cst_33
  let main_v88 : IVec S64 1 := cmpf .olt main_v86 main_v87
  let main_c_34 : IVec S_ 1 := constantI S_ 1 1#1
  let main_v89 : IVec S_ 1 := (fun x v => Host.reduce IntOp.andi x v reducesTo_S64_S_d0 h_S_) main_v88 main_c_34
  let main_v90 : IVec S_ 1 := andi main_v85 main_v89
  main_v90

def fn_part4 {F : FTy → Type} [FloatOps F] (main_arg14 : FVec F S128x64 .f32) (main_arg15 : FVec F S64 .f32) (main_arg16 : FVec F S64x64 .f32) (main_arg17 : FVec F S64 .f32) (main_v65 : IVec S_ 1) (main_v66 : FVec F S64 .f32) (main_v67 : FVec F S64 .f32) : IVec S_ 1 :=
  let main_v68 : IVec S64 1 := cmpf .olt main_v66 main_v67
  let main_c_26 : IVec S_ 1 := constantI S_ 1 1#1
  let main_v69 : IVec S_ 1 := (fun x v => Host.reduce IntOp.andi x v reducesTo_S64_S_d0 h_S_) main_v68 main_c_26
  let main_v70 : IVec S_ 1 := andi main_v65 main_v69
  let main_v71 : FVec F S128x64 .f32 := Host.absf main_arg14
  let main_cst_27 : FVec F S_ .f32 := constant S_ .f32 0x7F800000#32
  let main_v72 : FVec F S128x64 .f32 := broadcastInDim S128x64 ![] bcast_S_S128x64 main_cst_27
  let main_v73 : IVec S128x64 1 := cmpf .olt main_v71 main_v72
  let main_c_28 : IVec S_ 1 := constantI S_ 1 1#1
  let main_v74 : IVec S_ 1 := (fun x v => Host.reduce IntOp.andi x v reducesTo_S128x64_S_d0_1 h_S_) main_v73 main_c_28
  let main_v75 : IVec S_ 1 := andi main_v70 main_v74
  let main_v76 : FVec F S64 .f32 := Host.absf main_arg15
  let main_cst_29 : FVec F S_ .f32 := constant S_ .f32 0x7F800000#32
  let main_v77 : FVec F S64 .f32 := broadcastInDim S64 ![] bcast_S_S64 main_cst_29
  let main_v78 : IVec S64 1 := cmpf .olt main_v76 main_v77
  let main_c_30 : IVec S_ 1 := constantI S_ 1 1#1
  let main_v79 : IVec S_ 1 := (fun x v => Host.reduce IntOp.andi x v reducesTo_S64_S_d0 h_S_) main_v78 main_c_30
  let main_v80 : IVec S_ 1 := andi main_v75 main_v79
  let main_v81 : FVec F S64x64 .f32 := Host.absf main_arg16
  let main_cst_31 : FVec F S_ .f32 := constant S_ .f32 0x7F800000#32
  let main_v82 : FVec F S64x64 .f32 := broadcastInDim S64x64 ![] bcast_S_S64x64 main_cst_31
  let main_v83 : IVec S64x64 1 := cmpf .olt main_v81 main_v82
  let main_c_32 : IVec S_ 1 := constantI S_ 1 1#1
  let main_v84 : IVec S_ 1 := (fun x v => Host.reduce IntOp.andi x v reducesTo_S64x64_S_d0_1 h_S_) main_v83 main_c_32
  fn_part5 (F := F) main_arg17 main_v80 main_v84

def fn_part3 {F : FTy → Type} [FloatOps F] (main_arg10 : FVec F S128x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_v50 : IVec S_ 1) : IVec S_ 1 :=
  let main_v51 : FVec F S128x64 .f32 := Host.absf main_arg10
  let main_cst_19 : FVec F S_ .f32 := constant S_ .f32 0x7F800000#32
  let main_v52 : FVec F S128x64 .f32 := broadcastInDim S128x64 ![] bcast_S_S128x64 main_cst_19
  let main_v53 : IVec S128x64 1 := cmpf .olt main_v51 main_v52
  let main_c_20 : IVec S_ 1 := constantI S_ 1 1#1
  let main_v54 : IVec S_ 1 := (fun x v => Host.reduce IntOp.andi x v reducesTo_S128x64_S_d0_1 h_S_) main_v53 main_c_20
  let main_v55 : IVec S_ 1 := andi main_v50 main_v54
  let main_v56 : FVec F S64 .f32 := Host.absf main_arg11
  let main_cst_21 : FVec F S_ .f32 := constant S_ .f32 0x7F800000#32
  let main_v57 : FVec F S64 .f32 := broadcastInDim S64 ![] bcast_S_S64 main_cst_21
  let main_v58 : IVec S64 1 := cmpf .olt main_v56 main_v57
  let main_c_22 : IVec S_ 1 := constantI S_ 1 1#1
  let main_v59 : IVec S_ 1 := (fun x v => Host.reduce IntOp.andi x v reducesTo_S64_S_d0 h_S_) main_v58 main_c_22
  let main_v60 : IVec S_ 1 := andi main_v55 main_v59
  let main_v61 : FVec F S64x64 .f32 := Host.absf main_arg12
  let main_cst_23 : FVec F S_ .f32 := constant S_ .f32 0x7F800000#32
  let main_v62 : FVec F S64x64 .f32 := broadcastInDim S64x64 ![] bcast_S_S64x64 main_cst_23
  let main_v63 : IVec S64x64 1 := cmpf .olt main_v61 main_v62
  let main_c_24 : IVec S_ 1 := constantI S_ 1 1#1
  let main_v64 : IVec S_ 1 := (fun x v => Host.reduce IntOp.andi x v reducesTo_S64x64_S_d0_1 h_S_) main_v63 main_c_24
  let main_v65 : IVec S_ 1 := andi main_v60 main_v64
  let main_v66 : FVec F S64 .f32 := Host.absf main_arg13
  let main_cst_25 : FVec F S_ .f32 := constant S_ .f32 0x7F800000#32
  let main_v67 : FVec F S64 .f32 := broadcastInDim S64 ![] bcast_S_S64 main_cst_25
  fn_part4 (F := F) main_arg14 main_arg15 main_arg16 main_arg17 main_v65 main_v66 main_v67

def fn_part2 {F : FTy → Type} [FloatOps F] (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_v30 : IVec S_ 1) (main_v33 : IVec S128x64 1) : IVec S_ 1 :=
  let main_c_12 : IVec S_ 1 := constantI S_ 1 1#1
  let main_v34 : IVec S_ 1 := (fun x v => Host.reduce IntOp.andi x v reducesTo_S128x64_S_d0_1 h_S_) main_v33 main_c_12
  let main_v35 : IVec S_ 1 := andi main_v30 main_v34
  let main_v36 : FVec F S64 .f32 := Host.absf main_arg7
  let main_cst_13 : FVec F S_ .f32 := constant S_ .f32 0x7F800000#32
  let main_v37 : FVec F S64 .f32 := broadcastInDim S64 ![] bcast_S_S64 main_cst_13
  let main_v38 : IVec S64 1 := cmpf .olt main_v36 main_v37
  let main_c_14 : IVec S_ 1 := constantI S_ 1 1#1
  let main_v39 : IVec S_ 1 := (fun x v => Host.reduce IntOp.andi x v reducesTo_S64_S_d0 h_S_) main_v38 main_c_14
  let main_v40 : IVec S_ 1 := andi main_v35 main_v39
  let main_v41 : FVec F S64x64 .f32 := Host.absf main_arg8
  let main_cst_15 : FVec F S_ .f32 := constant S_ .f32 0x7F800000#32
  let main_v42 : FVec F S64x64 .f32 := broadcastInDim S64x64 ![] bcast_S_S64x64 main_cst_15
  let main_v43 : IVec S64x64 1 := cmpf .olt main_v41 main_v42
  let main_c_16 : IVec S_ 1 := constantI S_ 1 1#1
  let main_v44 : IVec S_ 1 := (fun x v => Host.reduce IntOp.andi x v reducesTo_S64x64_S_d0_1 h_S_) main_v43 main_c_16
  let main_v45 : IVec S_ 1 := andi main_v40 main_v44
  let main_v46 : FVec F S64 .f32 := Host.absf main_arg9
  let main_cst_17 : FVec F S_ .f32 := constant S_ .f32 0x7F800000#32
  let main_v47 : FVec F S64 .f32 := broadcastInDim S64 ![] bcast_S_S64 main_cst_17
  let main_v48 : IVec S64 1 := cmpf .olt main_v46 main_v47
  let main_c_18 : IVec S_ 1 := constantI S_ 1 1#1
  let main_v49 : IVec S_ 1 := (fun x v => Host.reduce IntOp.andi x v reducesTo_S64_S_d0 h_S_) main_v48 main_c_18
  let main_v50 : IVec S_ 1 := andi main_v45 main_v49
  fn_part3 (F := F) main_arg10 main_arg11 main_arg12 main_arg13 main_arg14 main_arg15 main_arg16 main_arg17 main_v50

def fn_part1 {F : FTy → Type} [FloatOps F] (main_arg4 : FVec F S64x64 .f32) (main_arg5 : FVec F S64 .f32) (main_arg6 : FVec F S128x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) (main_v15 : IVec S_ 1) (main_v16 : FVec F S64 .f32) : IVec S_ 1 :=
  let main_cst_5 : FVec F S_ .f32 := constant S_ .f32 0x7F800000#32
  let main_v17 : FVec F S64 .f32 := broadcastInDim S64 ![] bcast_S_S64 main_cst_5
  let main_v18 : IVec S64 1 := cmpf .olt main_v16 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v15 main_v19
  let main_v21 : FVec F S64x64 .f32 := Host.absf main_arg4
  let main_cst_7 : FVec F S_ .f32 := constant S_ .f32 0x7F800000#32
  let main_v22 : FVec F S64x64 .f32 := broadcastInDim S64x64 ![] bcast_S_S64x64 main_cst_7
  let main_v23 : IVec S64x64 1 := cmpf .olt main_v21 main_v22
  let main_c_8 : IVec S_ 1 := constantI S_ 1 1#1
  let main_v24 : IVec S_ 1 := (fun x v => Host.reduce IntOp.andi x v reducesTo_S64x64_S_d0_1 h_S_) main_v23 main_c_8
  let main_v25 : IVec S_ 1 := andi main_v20 main_v24
  let main_v26 : FVec F S64 .f32 := Host.absf main_arg5
  let main_cst_9 : FVec F S_ .f32 := constant S_ .f32 0x7F800000#32
  let main_v27 : FVec F S64 .f32 := broadcastInDim S64 ![] bcast_S_S64 main_cst_9
  let main_v28 : IVec S64 1 := cmpf .olt main_v26 main_v27
  let main_c_10 : IVec S_ 1 := constantI S_ 1 1#1
  let main_v29 : IVec S_ 1 := (fun x v => Host.reduce IntOp.andi x v reducesTo_S64_S_d0 h_S_) main_v28 main_c_10
  let main_v30 : IVec S_ 1 := andi main_v25 main_v29
  let main_v31 : FVec F S128x64 .f32 := Host.absf main_arg6
  let main_cst_11 : FVec F S_ .f32 := constant S_ .f32 0x7F800000#32
  let main_v32 : FVec F S128x64 .f32 := broadcastInDim S128x64 ![] bcast_S_S128x64 main_cst_11
  let main_v33 : IVec S128x64 1 := cmpf .olt main_v31 main_v32
  fn_part2 (F := F) main_arg7 main_arg8 main_arg9 main_arg10 main_arg11 main_arg12 main_arg13 main_arg14 main_arg15 main_arg16 main_arg17 main_v30 main_v33

def fn {F : FTy → Type} [FloatOps F] (main_arg0 : FVec F S10000x128 .f32) (main_arg1 : IVec S2x320000 32) (main_arg2 : FVec F S128x64 .f32) (main_arg3 : FVec F S64 .f32) (main_arg4 : FVec F S64x64 .f32) (main_arg5 : FVec F S64 .f32) (main_arg6 : FVec F S128x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  let main_v6 : FVec F S10000x128 .f32 := Host.absf main_arg0
  let main_cst : FVec F S_ .f32 := constant S_ .f32 0x7F800000#32
  let main_v7 : FVec F S10000x128 .f32 := broadcastInDim S10000x128 ![] bcast_S_S10000x128 main_cst
  let main_v8 : IVec S10000x128 1 := cmpf .olt main_v6 main_v7
  let main_c_2 : IVec S_ 1 := constantI S_ 1 1#1
  let main_v9 : IVec S_ 1 := (fun x v => Host.reduce IntOp.andi x v reducesTo_S10000x128_S_d0_1 h_S_) main_v8 main_c_2
  let main_v10 : IVec S_ 1 := andi main_v5 main_v9
  let main_v11 : FVec F S128x64 .f32 := Host.absf main_arg2
  let main_cst_3 : FVec F S_ .f32 := constant S_ .f32 0x7F800000#32
  let main_v12 : FVec F S128x64 .f32 := broadcastInDim S128x64 ![] bcast_S_S128x64 main_cst_3
  let main_v13 : IVec S128x64 1 := cmpf .olt main_v11 main_v12
  let main_c_4 : IVec S_ 1 := constantI S_ 1 1#1
  let main_v14 : IVec S_ 1 := (fun x v => Host.reduce IntOp.andi x v reducesTo_S128x64_S_d0_1 h_S_) main_v13 main_c_4
  let main_v15 : IVec S_ 1 := andi main_v10 main_v14
  let main_v16 : FVec F S64 .f32 := Host.absf main_arg3
  fn_part1 (F := F) main_arg4 main_arg5 main_arg6 main_arg7 main_arg8 main_arg9 main_arg10 main_arg11 main_arg12 main_arg13 main_arg14 main_arg15 main_arg16 main_arg17 main_v15 main_v16
-- ==== Pre_nodes.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel

variable [Facts]

def fn {F : FTy → Type} [FloatOps F] (main_arg0 : FVec F S10000x128 .f32) (main_arg1 : IVec S2x320000 32) (main_arg2 : FVec F S128x64 .f32) (main_arg3 : FVec F S64 .f32) (main_arg4 : FVec F S64x64 .f32) (main_arg5 : FVec F S64 .f32) (main_arg6 : FVec F S128x64 .f32) (main_arg7 : FVec F S64 .f32) (main_arg8 : FVec F S64x64 .f32) (main_arg9 : FVec F S64 .f32) (main_arg10 : FVec F S128x64 .f32) (main_arg11 : FVec F S64 .f32) (main_arg12 : FVec F S64x64 .f32) (main_arg13 : FVec F S64 .f32) (main_arg14 : FVec F S128x64 .f32) (main_arg15 : FVec F S64 .f32) (main_arg16 : FVec F S64x64 .f32) (main_arg17 : FVec F S64 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  main_v5
-- ==== Kernel.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S1x320000 : Shape := ⟨2, ![1, 320000]⟩
abbrev S320000 : Shape := ⟨1, ![320000]⟩
abbrev S64x128 : Shape := ⟨2, ![64, 128]⟩
abbrev S_ : Shape := ⟨0, ![]⟩
abbrev S128 : Shape := ⟨1, ![128]⟩
abbrev S1x128 : Shape := ⟨2, ![1, 128]⟩
abbrev S128x128 : Shape := ⟨2, ![128, 128]⟩
abbrev S1 : Shape := ⟨1, ![1]⟩
abbrev S2 : Shape := ⟨1, ![2]⟩
abbrev S10240128 : Shape := ⟨1, ![10240128]⟩
abbrev S4096 : Shape := ⟨1, ![4096]⟩
abbrev S512 : Shape := ⟨1, ![512]⟩
abbrev S40000 : Shape := ⟨1, ![40000]⟩
abbrev S40016 : Shape := ⟨1, ![40016]⟩
abbrev S16 : Shape := ⟨1, ![16]⟩
abbrev S1x64 : Shape := ⟨2, ![1, 64]⟩
abbrev S2000x128 : Shape := ⟨2, ![2000, 128]⟩
abbrev S2000x64 : Shape := ⟨2, ![2000, 64]⟩
abbrev S176640x128 : Shape := ⟨2, ![176640, 128]⟩
abbrev S144 : Shape := ⟨1, ![144]⟩
abbrev S1x16 : Shape := ⟨2, ![1, 16]⟩
abbrev S1920x128 : Shape := ⟨2, ![1920, 128]⟩
abbrev S5120x128 : Shape := ⟨2, ![5120, 128]⟩
abbrev S160x128 : Shape := ⟨2, ![160, 128]⟩
abbrev S5000x128 : Shape := ⟨2, ![5000, 128]⟩
abbrev S10000x64 : Shape := ⟨2, ![10000, 64]⟩

abbrev nBuf : Table → Nat
  | .hbm => 120
  | .local .tc .vmem => 40
  | .local .scVector .vmem => 44
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S128x64, .f32⟩
  | .hbm, ⟨15, _⟩ => ⟨S64, .f32⟩
  | .hbm, ⟨16, _⟩ => ⟨S64x64, .f32⟩
  | .hbm, ⟨17, _⟩ => ⟨S64, .f32⟩
  | .hbm, ⟨18, _⟩ => ⟨S1x320000, .i32⟩
  | .hbm, ⟨19, _⟩ => ⟨S320000, .i32⟩
  | .hbm, ⟨20, _⟩ => ⟨S1x320000, .i32⟩
  | .hbm, ⟨21, _⟩ => ⟨S320000, .i32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x128, .f32⟩
  | .hbm, ⟨27, _⟩ => ⟨S_, .f32⟩
  | .hbm, ⟨28, _⟩ => ⟨S64, .f32⟩
  | .hbm, ⟨29, _⟩ => ⟨S128, .f32⟩
  | .hbm, ⟨30, _⟩ => ⟨S1x128, .f32⟩
  | .hbm, ⟨31, _⟩ => ⟨S_, .f32⟩
  | .hbm, ⟨32, _⟩ => ⟨S128x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S128x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S128x128, .f32⟩
  | .hbm, ⟨45, _⟩ => ⟨S128, .f32⟩
  | .hbm, ⟨46, _⟩ => ⟨S1x128, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x128, .f32⟩
  | .hbm, ⟨52, _⟩ => ⟨S_, .f32⟩
  | .hbm, ⟨53, _⟩ => ⟨S64, .f32⟩
  | .hbm, ⟨54, _⟩ => ⟨S128, .f32⟩
  | .hbm, ⟨55, _⟩ => ⟨S1x128, .f32⟩
  | .hbm, ⟨56, _⟩ => ⟨S_, .f32⟩
  | .hbm, ⟨57, _⟩ => ⟨S128x128, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S128x128, .f32⟩
  | .hbm, ⟨64, _⟩ => ⟨S_, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S2, .i32⟩
  | .hbm, ⟨69, _⟩ => ⟨S128x128, .f32⟩
  | .hbm, ⟨70, _⟩ => ⟨S128, .f32⟩
  | .hbm, ⟨71, _⟩ => ⟨S1x128, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S64x128, .f32⟩
  | .hbm, ⟨77, _⟩ => ⟨S_, .f32⟩
  | .hbm, ⟨78, _⟩ => ⟨S64, .f32⟩
  | .hbm, ⟨79, _⟩ => ⟨S128, .f32⟩
  | .hbm, ⟨80, _⟩ => ⟨S1x128, .f32⟩
  | .hbm, ⟨81, _⟩ => ⟨S_, .f32⟩
  | .hbm, ⟨82, _⟩ => ⟨S128x128, .f32⟩
  | .hbm, ⟨83, _⟩ => ⟨S_, .i32⟩
  | .hbm, ⟨84, _⟩ => ⟨S1, .i32⟩
  | .hbm, ⟨85, _⟩ => ⟨S_, .i32⟩
  | .hbm, ⟨86, _⟩ => ⟨S1, .i32⟩
  | .hbm, ⟨87, _⟩ => ⟨S2, .i32⟩
  | .hbm, ⟨88, _⟩ => ⟨S128x128, .f32⟩
  | .hbm, ⟨89, _⟩ => ⟨S_, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S2, .i32⟩
  | .hbm, ⟨94, _⟩ => ⟨S128x128, .f32⟩
  | .hbm, ⟨95, _⟩ => ⟨S128, .f32⟩
  | .hbm, ⟨96, _⟩ => ⟨S1x128, .f32⟩
  | .hbm, ⟨97, _⟩ => ⟨S10240128, .i32⟩
  | .hbm, ⟨98, _⟩ => ⟨S4096, .i32⟩
  | .hbm, ⟨99, _⟩ => ⟨S512, .i32⟩
  | .hbm, ⟨100, _⟩ => ⟨S1x64, .f32⟩
  | .hbm, ⟨101, _⟩ => ⟨S1x64, .f32⟩
  | .hbm, ⟨102, _⟩ => ⟨S10000x128, .f32⟩
  | .hbm, ⟨103, _⟩ => ⟨S176640x128, .f32⟩
  | .hbm, ⟨104, _⟩ => ⟨S176640x128, .f32⟩
  | .hbm, ⟨105, _⟩ => ⟨S5120x128, .f32⟩
  | .hbm, ⟨106, _⟩ => ⟨S5000x128, .f32⟩
  | .hbm, ⟨107, _⟩ => ⟨S10000x64, .f32⟩
  | .hbm, ⟨108, _⟩ => ⟨S10000x128, .f32⟩
  | .hbm, ⟨109, _⟩ => ⟨S176640x128, .f32⟩
  | .hbm, ⟨110, _⟩ => ⟨S176640x128, .f32⟩
  | .hbm, ⟨111, _⟩ => ⟨S5120x128, .f32⟩
  | .hbm, ⟨112, _⟩ => ⟨S5000x128, .f32⟩
  | .hbm, ⟨113, _⟩ => ⟨S10000x64, .f32⟩
  | .hbm, ⟨114, _⟩ => ⟨S10000x128, .f32⟩
  | .hbm, ⟨115, _⟩ => ⟨S176640x128, .f32⟩
  | .hbm, ⟨116, _⟩ => ⟨S176640x128, .f32⟩
  | .hbm, ⟨117, _⟩ => ⟨S5120x128, .f32⟩
  | .hbm, ⟨118, _⟩ => ⟨S5000x128, .f32⟩
  | .hbm, ⟨119, _⟩ => ⟨S10000x64, .f32⟩
  | .local .tc .vmem, ⟨0, _⟩ => ⟨S2000x128, .f32⟩
  | .local .tc .vmem, ⟨1, _⟩ => ⟨S2000x128, .f32⟩
  | .local .tc .vmem, ⟨2, _⟩ => ⟨S128x64, .f32⟩
  | .local .tc .vmem, ⟨3, _⟩ => ⟨S1x64, .f32⟩
  | .local .tc .vmem, ⟨4, _⟩ => ⟨S64x64, .f32⟩
  | .local .tc .vmem, ⟨5, _⟩ => ⟨S1x64, .f32⟩
  | .local .tc .vmem, ⟨6, _⟩ => ⟨S64x128, .f32⟩
  | .local .tc .vmem, ⟨7, _⟩ => ⟨S1x128, .f32⟩
  | .local .tc .vmem, ⟨8, _⟩ => ⟨S2000x128, .f32⟩
  | .local .tc .vmem, ⟨9, _⟩ => ⟨S2000x128, .f32⟩
  | .local .tc .vmem, ⟨10, _⟩ => ⟨S1920x128, .f32⟩
  | .local .tc .vmem, ⟨11, _⟩ => ⟨S1920x128, .f32⟩
  | .local .tc .vmem, ⟨12, _⟩ => ⟨S128x128, .f32⟩
  | .local .tc .vmem, ⟨13, _⟩ => ⟨S1x128, .f32⟩
  | .local .tc .vmem, ⟨14, _⟩ => ⟨S1920x128, .f32⟩
  | .local .tc .vmem, ⟨15, _⟩ => ⟨S1920x128, .f32⟩
  | .local .tc .vmem, ⟨16, _⟩ => ⟨S2000x64, .f32⟩
  | .local .tc .vmem, ⟨17, _⟩ => ⟨S2000x64, .f32⟩
  | .local .tc .vmem, ⟨18, _⟩ => ⟨S64x128, .f32⟩
  | .local .tc .vmem, ⟨19, _⟩ => ⟨S1x128, .f32⟩
  | .local .tc .vmem, ⟨20, _⟩ => ⟨S2000x128, .f32⟩
  | .local .tc .vmem, ⟨21, _⟩ => ⟨S2000x128, .f32⟩
  | .local .tc .vmem, ⟨22, _⟩ => ⟨S1920x128, .f32⟩
  | .local .tc .vmem, ⟨23, _⟩ => ⟨S1920x128, .f32⟩
  | .local .tc .vmem, ⟨24, _⟩ => ⟨S128x128, .f32⟩
  | .local .tc .vmem, ⟨25, _⟩ => ⟨S1x128, .f32⟩
  | .local .tc .vmem, ⟨26, _⟩ => ⟨S1920x128, .f32⟩
  | .local .tc .vmem, ⟨27, _⟩ => ⟨S1920x128, .f32⟩
  | .local .tc .vmem, ⟨28, _⟩ => ⟨S2000x64, .f32⟩
  | .local .tc .vmem, ⟨29, _⟩ => ⟨S2000x64, .f32⟩
  | .local .tc .vmem, ⟨30, _⟩ => ⟨S64x128, .f32⟩
  | .local .tc .vmem, ⟨31, _⟩ => ⟨S1x128, .f32⟩
  | .local .tc .vmem, ⟨32, _⟩ => ⟨S2000x128, .f32⟩
  | .local .tc .vmem, ⟨33, _⟩ => ⟨S2000x128, .f32⟩
  | .local .tc .vmem, ⟨34, _⟩ => ⟨S1920x128, .f32⟩
  | .local .tc .vmem, ⟨35, _⟩ => ⟨S1920x128, .f32⟩
  | .local .tc .vmem, ⟨36, _⟩ => ⟨S128x128, .f32⟩
  | .local .tc .vmem, ⟨37, _⟩ => ⟨S1x128, .f32⟩
  | .local .tc .vmem, ⟨38, _⟩ => ⟨S1920x128, .f32⟩
  | .local .tc .vmem, ⟨39, _⟩ => ⟨S1920x128, .f32⟩
  | .local .scVector .vmem, ⟨0, _⟩ => ⟨S40000, .i32⟩
  | .local .scVector .vmem, ⟨1, _⟩ => ⟨S40000, .i32⟩
  | .local .scVector .vmem, ⟨2, _⟩ => ⟨S40016, .i32⟩
  | .local .scVector .vmem, ⟨3, _⟩ => ⟨S128, .i32⟩
  | .local .scVector .vmem, ⟨4, _⟩ => ⟨S16, .i32⟩
  | .local .scVector .vmem, ⟨5, _⟩ => ⟨S144, .i32⟩
  | .local .scVector .vmem, ⟨6, _⟩ => ⟨S128, .i32⟩
  | .local .scVector .vmem, ⟨7, _⟩ => ⟨S128, .i32⟩
  | .local .scVector .vmem, ⟨8, _⟩ => ⟨S128x128, .f32⟩
  | .local .scVector .vmem, ⟨9, _⟩ => ⟨S128x128, .f32⟩
  | .local .scVector .vmem, ⟨10, _⟩ => ⟨S64x128, .f32⟩
  | .local .scVector .vmem, ⟨11, _⟩ => ⟨S128, .i32⟩
  | .local .scVector .vmem, ⟨12, _⟩ => ⟨S512, .i32⟩
  | .local .scVector .vmem, ⟨13, _⟩ => ⟨S160x128, .f32⟩
  | .local .scVector .vmem, ⟨14, _⟩ => ⟨S144, .i32⟩
  | .local .scVector .vmem, ⟨15, _⟩ => ⟨S64x128, .f32⟩
  | .local .scVector .vmem, ⟨16, _⟩ => ⟨S128, .i32⟩
  | .local .scVector .vmem, ⟨17, _⟩ => ⟨S512, .i32⟩
  | .local .scVector .vmem, ⟨18, _⟩ => ⟨S144, .i32⟩
  | .local .scVector .vmem, ⟨19, _⟩ => ⟨S128, .i32⟩
  | .local .scVector .vmem, ⟨20, _⟩ => ⟨S128, .i32⟩
  | .local .scVector .vmem, ⟨21, _⟩ => ⟨S128x128, .f32⟩
  | .local .scVector .vmem, ⟨22, _⟩ => ⟨S128x128, .f32⟩
  | .local .scVector .vmem, ⟨23, _⟩ => ⟨S64x128, .f32⟩
  | .local .scVector .vmem, ⟨24, _⟩ => ⟨S128, .i32⟩
  | .local .scVector .vmem, ⟨25, _⟩ => ⟨S512, .i32⟩
  | .local .scVector .vmem, ⟨26, _⟩ => ⟨S160x128, .f32⟩
  | .local .scVector .vmem, ⟨27, _⟩ => ⟨S144, .i32⟩
  | .local .scVector .vmem, ⟨28, _⟩ => ⟨S64x128, .f32⟩
  | .local .scVector .vmem, ⟨29, _⟩ => ⟨S128, .i32⟩
  | .local .scVector .vmem, ⟨30, _⟩ => ⟨S512, .i32⟩
  | .local .scVector .vmem, ⟨31, _⟩ => ⟨S144, .i32⟩
  | .local .scVector .vmem, ⟨32, _⟩ => ⟨S128, .i32⟩
  | .local .scVector .vmem, ⟨33, _⟩ => ⟨S128, .i32⟩
  | .local .scVector .vmem, ⟨34, _⟩ => ⟨S128x128, .f32⟩
  | .local .scVector .vmem, ⟨35, _⟩ => ⟨S128x128, .f32⟩
  | .local .scVector .vmem, ⟨36, _⟩ => ⟨S64x128, .f32⟩
  | .local .scVector .vmem, ⟨37, _⟩ => ⟨S128, .i32⟩
  | .local .scVector .vmem, ⟨38, _⟩ => ⟨S512, .i32⟩
  | .local .scVector .vmem, ⟨39, _⟩ => ⟨S160x128, .f32⟩
  | .local .scVector .vmem, ⟨40, _⟩ => ⟨S144, .i32⟩
  | .local .scVector .vmem, ⟨41, _⟩ => ⟨S64x128, .f32⟩
  | .local .scVector .vmem, ⟨42, _⟩ => ⟨S128, .i32⟩
  | .local .scVector .vmem, ⟨43, _⟩ => ⟨S512, .i32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 90 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => true
  | ⟨37, _⟩ => true
  | ⟨38, _⟩ => true
  | ⟨39, _⟩ => true
  | ⟨40, _⟩ => true
  | ⟨41, _⟩ => true
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => true
  | ⟨51, _⟩ => true
  | ⟨52, _⟩ => true
  | ⟨53, _⟩ => true
  | ⟨54, _⟩ => true
  | ⟨55, _⟩ => true
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => true
  | ⟨64, _⟩ => true
  | ⟨65, _⟩ => true
  | ⟨66, _⟩ => true
  | ⟨67, _⟩ => true
  | ⟨68, _⟩ => true
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => true
  | ⟨78, _⟩ => true
  | ⟨79, _⟩ => true
  | ⟨80, _⟩ => true
  | ⟨81, _⟩ => true
  | ⟨82, _⟩ => true
  | ⟨83, _⟩ => false
  | ⟨84, _⟩ => false
  | ⟨85, _⟩ => false
  | ⟨86, _⟩ => false
  | ⟨87, _⟩ => false
  | ⟨88, _⟩ => false
  | ⟨89, _⟩ => false
  | _ => false

abbrev sig : RefSig :=
  ofTables nBuf rfl bufTy 4 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_8 : Ref sig .tc := ⟨.hbm, 64, rfl⟩
abbrev main_v36 : Ref sig .tc := ⟨.hbm, 65, rfl⟩
abbrev main_c_9 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_c_12 : Ref sig .tc := ⟨.hbm, 83, rfl⟩
abbrev main_v51 : Ref sig .tc := ⟨.hbm, 84, rfl⟩
abbrev main_c_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_14 : Ref sig .tc := ⟨.hbm, 89, rfl⟩
abbrev main_v55 : Ref sig .tc := ⟨.hbm, 90, rfl⟩
abbrev main_c_15 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61_0 : Ref sig .tc := ⟨.hbm, 97, rfl⟩
abbrev main_v61_1 : Ref sig .tc := ⟨.hbm, 98, rfl⟩
abbrev main_v61_2 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v3_scv : Ref sig .scVector := ⟨.hbm, 21, rfl⟩
abbrev main_v1_scv : Ref sig .scVector := ⟨.hbm, 19, rfl⟩
abbrev main_v61_0_scv : Ref sig .scVector := ⟨.hbm, 97, rfl⟩
abbrev main_v61_1_scv : Ref sig .scVector := ⟨.hbm, 98, rfl⟩
abbrev main_v61_2_scv : Ref sig .scVector := ⟨.hbm, 99, rfl⟩
abbrev main_v64_scv : Ref sig .scVector := ⟨.hbm, 102, rfl⟩
abbrev main_v65_scv : Ref sig .scVector := ⟨.hbm, 103, rfl⟩
abbrev main_v66_scv : Ref sig .scVector := ⟨.hbm, 104, rfl⟩
abbrev main_v67_scv : Ref sig .scVector := ⟨.hbm, 105, rfl⟩
abbrev main_v70_scv : Ref sig .scVector := ⟨.hbm, 108, rfl⟩
abbrev main_v71_scv : Ref sig .scVector := ⟨.hbm, 109, rfl⟩
abbrev main_v72_scv : Ref sig .scVector := ⟨.hbm, 110, rfl⟩
abbrev main_v73_scv : Ref sig .scVector := ⟨.hbm, 111, rfl⟩
abbrev main_v76_scv : Ref sig .scVector := ⟨.hbm, 114, rfl⟩
abbrev main_v77_scv : Ref sig .scVector := ⟨.hbm, 115, rfl⟩
abbrev main_v78_scv : Ref sig .scVector := ⟨.hbm, 116, rfl⟩
abbrev main_v79_scv : Ref sig .scVector := ⟨.hbm, 117, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg2_0 : Ref sig .tc := ⟨.vmem, 13, rfl⟩
abbrev cc3_stg3_0 : Ref sig .tc := ⟨.vmem, 14, rfl⟩
abbrev cc3_stg3_1 : Ref sig .tc := ⟨.vmem, 15, rfl⟩
abbrev cc5_stg0_0 : Ref sig .tc := ⟨.vmem, 16, rfl⟩
abbrev cc5_stg0_1 : Ref sig .tc := ⟨.vmem, 17, rfl⟩
abbrev cc5_stg1_0 : Ref sig .tc := ⟨.vmem, 18, rfl⟩
abbrev cc5_stg2_0 : Ref sig .tc := ⟨.vmem, 19, rfl⟩
abbrev cc5_stg3_0 : Ref sig .tc := ⟨.vmem, 20, rfl⟩
abbrev cc5_stg3_1 : Ref sig .tc := ⟨.vmem, 21, rfl⟩
abbrev cc7_stg0_0 : Ref sig .tc := ⟨.vmem, 22, rfl⟩
abbrev cc7_stg0_1 : Ref sig .tc := ⟨.vmem, 23, rfl⟩
abbrev cc7_stg1_0 : Ref sig .tc := ⟨.vmem, 24, rfl⟩
abbrev cc7_stg2_0 : Ref sig .tc := ⟨.vmem, 25, rfl⟩
abbrev cc7_stg3_0 : Ref sig .tc := ⟨.vmem, 26, rfl⟩
abbrev cc7_stg3_1 : Ref sig .tc := ⟨.vmem, 27, rfl⟩
abbrev cc9_stg0_0 : Ref sig .tc := ⟨.vmem, 28, rfl⟩
abbrev cc9_stg0_1 : Ref sig .tc := ⟨.vmem, 29, rfl⟩
abbrev cc9_stg1_0 : Ref sig .tc := ⟨.vmem, 30, rfl⟩
abbrev cc9_stg2_0 : Ref sig .tc := ⟨.vmem, 31, rfl⟩
abbrev cc9_stg3_0 : Ref sig .tc := ⟨.vmem, 32, rfl⟩
abbrev cc9_stg3_1 : Ref sig .tc := ⟨.vmem, 33, rfl⟩
abbrev cc11_stg0_0 : Ref sig .tc := ⟨.vmem, 34, rfl⟩
abbrev cc11_stg0_1 : Ref sig .tc := ⟨.vmem, 35, rfl⟩
abbrev cc11_stg1_0 : Ref sig .tc := ⟨.vmem, 36, rfl⟩
abbrev cc11_stg2_0 : Ref sig .tc := ⟨.vmem, 37, rfl⟩
abbrev cc11_stg3_0 : Ref sig .tc := ⟨.vmem, 38, rfl⟩
abbrev cc11_stg3_1 : Ref sig .tc := ⟨.vmem, 39, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc2_scratch0 : Ref sig .scVector := ⟨.vmem, 5, rfl⟩
abbrev cc2_scratch1 : Ref sig .scVector := ⟨.vmem, 6, rfl⟩
abbrev cc2_scratch2 : Ref sig .scVector := ⟨.vmem, 7, rfl⟩
abbrev cc2_scratch3 : Ref sig .scVector := ⟨.vmem, 8, rfl⟩
abbrev cc2_scratch4 : Ref sig .scVector := ⟨.vmem, 9, rfl⟩
abbrev cc2_scratch5 : Ref sig .scVector := ⟨.vmem, 10, rfl⟩
abbrev cc2_scratch6 : Ref sig .scVector := ⟨.vmem, 11, rfl⟩
abbrev cc2_scratch7 : Ref sig .scVector := ⟨.vmem, 12, rfl⟩
abbrev cc4_scratch0 : Ref sig .scVector := ⟨.vmem, 13, rfl⟩
abbrev cc4_scratch1 : Ref sig .scVector := ⟨.vmem, 14, rfl⟩
abbrev cc4_scratch2 : Ref sig .scVector := ⟨.vmem, 15, rfl⟩
abbrev cc4_scratch3 : Ref sig .scVector := ⟨.vmem, 16, rfl⟩
abbrev cc4_scratch4 : Ref sig .scVector := ⟨.vmem, 17, rfl⟩
abbrev cc6_scratch0 : Ref sig .scVector := ⟨.vmem, 18, rfl⟩
abbrev cc6_scratch1 : Ref sig .scVector := ⟨.vmem, 19, rfl⟩
abbrev cc6_scratch2 : Ref sig .scVector := ⟨.vmem, 20, rfl⟩
abbrev cc6_scratch3 : Ref sig .scVector := ⟨.vmem, 21, rfl⟩
abbrev cc6_scratch4 : Ref sig .scVector := ⟨.vmem, 22, rfl⟩
abbrev cc6_scratch5 : Ref sig .scVector := ⟨.vmem, 23, rfl⟩
abbrev cc6_scratch6 : Ref sig .scVector := ⟨.vmem, 24, rfl⟩
abbrev cc6_scratch7 : Ref sig .scVector := ⟨.vmem, 25, rfl⟩
abbrev cc8_scratch0 : Ref sig .scVector := ⟨.vmem, 26, rfl⟩
abbrev cc8_scratch1 : Ref sig .scVector := ⟨.vmem, 27, rfl⟩
abbrev cc8_scratch2 : Ref sig .scVector := ⟨.vmem, 28, rfl⟩
abbrev cc8_scratch3 : Ref sig .scVector := ⟨.vmem, 29, rfl⟩
abbrev cc8_scratch4 : Ref sig .scVector := ⟨.vmem, 30, rfl⟩
abbrev cc10_scratch0 : Ref sig .scVector := ⟨.vmem, 31, rfl⟩
abbrev cc10_scratch1 : Ref sig .scVector := ⟨.vmem, 32, rfl⟩
abbrev cc10_scratch2 : Ref sig .scVector := ⟨.vmem, 33, rfl⟩
abbrev cc10_scratch3 : Ref sig .scVector := ⟨.vmem, 34, rfl⟩
abbrev cc10_scratch4 : Ref sig .scVector := ⟨.vmem, 35, rfl⟩
abbrev cc10_scratch5 : Ref sig .scVector := ⟨.vmem, 36, rfl⟩
abbrev cc10_scratch6 : Ref sig .scVector := ⟨.vmem, 37, rfl⟩
abbrev cc10_scratch7 : Ref sig .scVector := ⟨.vmem, 38, rfl⟩
abbrev cc12_scratch0 : Ref sig .scVector := ⟨.vmem, 39, rfl⟩
abbrev cc12_scratch1 : Ref sig .scVector := ⟨.vmem, 40, rfl⟩
abbrev cc12_scratch2 : Ref sig .scVector := ⟨.vmem, 41, rfl⟩
abbrev cc12_scratch3 : Ref sig .scVector := ⟨.vmem, 42, rfl⟩
abbrev cc12_scratch4 : Ref sig .scVector := ⟨.vmem, 43, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem3_1 : DmaSem sig := 28
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc7_sem0_0 : DmaSem sig := 50
abbrev cc7_sem0_1 : DmaSem sig := 51
abbrev cc7_sem1_0 : DmaSem sig := 52
abbrev cc7_sem2_0 : DmaSem sig := 53
abbrev cc7_sem3_0 : DmaSem sig := 54
abbrev cc7_sem3_1 : DmaSem sig := 55
abbrev cc9_sem0_0 : DmaSem sig := 63
abbrev cc9_sem0_1 : DmaSem sig := 64
abbrev cc9_sem1_0 : DmaSem sig := 65
abbrev cc9_sem2_0 : DmaSem sig := 66
abbrev cc9_sem3_0 : DmaSem sig := 67
abbrev cc9_sem3_1 : DmaSem sig := 68
abbrev cc11_sem0_0 : DmaSem sig := 77
abbrev cc11_sem0_1 : DmaSem sig := 78
abbrev cc11_sem1_0 : DmaSem sig := 79
abbrev cc11_sem2_0 : DmaSem sig := 80
abbrev cc11_sem3_0 : DmaSem sig := 81
abbrev cc11_sem3_1 : DmaSem sig := 82
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2501_i32 : BitVec 32 := 2501#32
  let v3 : BitVec 32 := Scalar.addi c0_i32_0 c2501_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32_9 : BitVec 32 := 16#32
  let v12 : BitVec 32 := Scalar.muli arg12 c16_i32_9
  let v13 : Index := Scalar.indexCast v12
  ![v13.toNat]
@[reducible] def k0_t2_loop : Scf.Loop 32 :=
  let c0_i32_3 : BitVec 32 := 0#32
  let c8_i32 : BitVec 32 := 8#32
  let v4 : BitVec 32 := Scalar.addi c0_i32_3 c8_i32
  let c1_i32_4 : BitVec 32 := 1#32
  ⟨c0_i32_3, v4, c1_i32_4⟩
def k0_off2 (k0_t2 : Fin k0_t2_loop.trips) : Fin 1 → Nat :=
  let c0_i32_3 : BitVec 32 := 0#32
  let c1_i32_4 : BitVec 32 := 1#32
  let arg12 : BitVec 32 := Scf.iv c0_i32_3 c1_i32_4 k0_t2
  let c40000_i32 : BitVec 32 := 40000#32
  let v11 : BitVec 32 := Scalar.muli arg12 c40000_i32
  ![v11.toNat]
@[reducible] def k0_t3_loop : Scf.Loop 32 :=
  let c0_i32_10 : BitVec 32 := 0#32
  let c2500_i32 : BitVec 32 := 2500#32
  let v13 : BitVec 32 := Scalar.addi c0_i32_10 c2500_i32
  let c1_i32_11 : BitVec 32 := 1#32
  ⟨c0_i32_10, v13, c1_i32_11⟩
def k0_off3 (k0_t3 : Fin k0_t3_loop.trips) : Fin 1 → Nat :=
  let c0_i32_10 : BitVec 32 := 0#32
  let c1_i32_11 : BitVec 32 := 1#32
  let arg14 : BitVec 32 := Scf.iv c0_i32_10 c1_i32_11 k0_t3
  let c16_i32_24 : BitVec 32 := 16#32
  let v42 : BitVec 32 := Scalar.muli arg14 c16_i32_24
  let v43 : Index := Scalar.indexCast v42
  ![v43.toNat]

def k0_chk1 (v68 : IVec S16 32) : Prop :=
  (∀ a x, ((![v68] : Fin 1 → IVec S16 32) a x).toNat < S40016.size a)
theorem k0_idx1_inb : ∀ (v68 : IVec S16 32) (k0_hw1 : k0_chk1 v68), ∀ a x, ((![v68] : Fin 1 → IVec S16 32) a x).toNat < S40016.size a := fun v68 k0_hw1 => k0_hw1
def k0_off4 (k0_t2 : Fin k0_t2_loop.trips) : Fin 1 → Nat :=
  let c0_i32_3 : BitVec 32 := 0#32
  let c1_i32_4 : BitVec 32 := 1#32
  let arg12 : BitVec 32 := Scf.iv c0_i32_3 c1_i32_4 k0_t2
  let c16_i32_13 : BitVec 32 := 16#32
  let v16 : BitVec 32 := Scalar.muli arg12 c16_i32_13
  let v17 : Index := Scalar.indexCast v16
  ![v17.toNat]
def k0_off5 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_14 : BitVec 32 := 8#32
  let v19 : BitVec 32 := Scalar.muli v1 c8_i32_14
  let c0_i32_3 : BitVec 32 := 0#32
  let c1_i32_4 : BitVec 32 := 1#32
  let arg12 : BitVec 32 := Scf.iv c0_i32_3 c1_i32_4 k0_t2
  let v20 : BitVec 32 := Scalar.addi v19 arg12
  let c40000_i32_15 : BitVec 32 := 40000#32
  let v21 : BitVec 32 := Scalar.muli v20 c40000_i32_15
  ![v21.toNat]
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_6 : BitVec 32 := 8#32
  let v8 : BitVec 32 := Scalar.muli v1 c8_i32_6
  let c16_i32 : BitVec 32 := 16#32
  let v9 : BitVec 32 := Scalar.muli v8 c16_i32
  ![v9.toNat]
def k0_off7 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_7 : BitVec 32 := 16#32
  let v10 : BitVec 32 := Scalar.muli v1 c16_i32_7
  ![v10.toNat]
abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v4 : BitVec 32 := Scalar.muli v1 c8_i32
  let c16_i32 : BitVec 32 := 16#32
  let v5 : BitVec 32 := Scalar.muli v4 c16_i32
  ![v5.toNat]
@[reducible] def k2_t1_loop (i : grid2.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.subi v1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_1 : BitVec 32 := 1#32
  ⟨c0_i32, v10, c1_i32_1⟩
def k2_off2 (i : grid2.Coords) (k2_t1 : Fin (k2_t1_loop i).trips) : Fin 1 → Nat :=
  let c0_i32 : BitVec 32 := 0#32
  let c1_i32_1 : BitVec 32 := 1#32
  let arg17 : BitVec 32 := Scf.iv c0_i32 c1_i32_1 k2_t1
  let c16_i32_7 : BitVec 32 := 16#32
  let v15 : BitVec 32 := Scalar.muli arg17 c16_i32_7
  let v16 : Index := Scalar.indexCast v15
  ![v16.toNat]
@[reducible] def k2_t2_loop (i : grid2.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.subi v1 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_2 : BitVec 32 := 1#32
  ⟨v10, v7, c1_i32_2⟩
def k2_off3 (i : grid2.Coords) (k2_t2 : Fin (k2_t2_loop i).trips) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.subi v1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_2 : BitVec 32 := 1#32
  let arg17 : BitVec 32 := Scf.iv v10 c1_i32_2 k2_t2
  let c16_i32_7 : BitVec 32 := 16#32
  let v15 : BitVec 32 := Scalar.muli arg17 c16_i32_7
  let v16 : Index := Scalar.indexCast v15
  ![v16.toNat]
@[reducible] def k2_t3_loop : Scf.Loop 32 :=
  let c0_i32_3 : BitVec 32 := 0#32
  let c8_i32_4 : BitVec 32 := 8#32
  let v13 : BitVec 32 := Scalar.addi c0_i32_3 c8_i32_4
  let c1_i32_5 : BitVec 32 := 1#32
  ⟨c0_i32_3, v13, c1_i32_5⟩
def k2_off4 (k2_t3 : Fin k2_t3_loop.trips) : Fin 1 → Nat :=
  let c0_i32_3 : BitVec 32 := 0#32
  let c1_i32_5 : BitVec 32 := 1#32
  let arg17 : BitVec 32 := Scf.iv c0_i32_3 c1_i32_5 k2_t3
  let c16_i32_7 : BitVec 32 := 16#32
  let v15 : BitVec 32 := Scalar.muli arg17 c16_i32_7
  let v16 : Index := Scalar.indexCast v15
  ![v16.toNat]
@[reducible] def k2_t4_loop (v19 : BitVec 32) : Scf.Loop 32 :=
  let c0_i32_17 : BitVec 32 := 0#32
  let c128_i32 : BitVec 32 := 128#32
  let v20 : BitVec 32 := Scalar.addi v19 c128_i32
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c128_i32_9 : BitVec 32 := 128#32
  let c0_i32_12 : BitVec 32 := 0#32
  let v28 : BitVec 1 := Scalar.cmpi .sgt c128_i32_9 c0_i32_12
  let v29 : BitVec 32 := Scalar.extui v28
  let c0_i32_13 : BitVec 32 := 0#32
  let v30 : BitVec 1 := Scalar.cmpi .slt c128_i32_9 c0_i32_13
  let v31 : BitVec 32 := Scalar.extui v30
  let v32 : BitVec 32 := Scalar.subi v29 v31
  let v33 : BitVec 1 := Scalar.cmpi .ne v27 v32
  let v34 : BitVec 32 := Scalar.remsi v21 c128_i32_9
  let c0_i32_14 : BitVec 32 := 0#32
  let v35 : BitVec 1 := Scalar.cmpi .ne v34 c0_i32_14
  let v36 : BitVec 1 := Scalar.andi v33 v35
  let v22 : BitVec 32 := Scalar.divsi v21 c128_i32_9
  let c1_i32_15 : BitVec 32 := 1#32
  let v37 : BitVec 32 := Scalar.subi v22 c1_i32_15
  let v38 : BitVec 32 := Scalar.select v36 v37 v22
  let v42 : BitVec 32 := Scalar.subi v38 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_19 : BitVec 32 := 1#32
  ⟨c0_i32_17, v46, c1_i32_19⟩

def k2_off5 (i : grid2.Coords) (k2_t3 : Fin k2_t3_loop.trips) (v19 : BitVec 32) (k2_t4 : Fin (k2_t4_loop v19).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_16 : BitVec 32 := 8#32
  let v39 : BitVec 32 := Scalar.muli v1 c8_i32_16
  let c0_i32_3 : BitVec 32 := 0#32
  let c1_i32_5 : BitVec 32 := 1#32
  let arg17 : BitVec 32 := Scf.iv c0_i32_3 c1_i32_5 k2_t3
  let v40 : BitVec 32 := Scalar.addi v39 arg17
  let c40000_i32 : BitVec 32 := 40000#32
  let v41 : BitVec 32 := Scalar.muli v40 c40000_i32
  let c0_i32_17 : BitVec 32 := 0#32
  let c1_i32_19 : BitVec 32 := 1#32
  let arg19 : BitVec 32 := Scf.iv c0_i32_17 c1_i32_19 k2_t4
  let c128_i32_21 : BitVec 32 := 128#32
  let v49 : BitVec 32 := Scalar.muli arg19 c128_i32_21
  let v50 : BitVec 32 := Scalar.addi v41 v49
  ![v50.toNat]
@[reducible] def k2_t5_loop : Scf.Loop 32 :=
  let c0_i32_24 : BitVec 32 := 0#32
  let c8_i32_25 : BitVec 32 := 8#32
  let v53 : BitVec 32 := Scalar.addi c0_i32_24 c8_i32_25
  let c1_i32_26 : BitVec 32 := 1#32
  ⟨c0_i32_24, v53, c1_i32_26⟩
def k2_off6 (k2_t5 : Fin k2_t5_loop.trips) : Fin 1 → Nat :=
  let c0_i32_24 : BitVec 32 := 0#32
  let c1_i32_26 : BitVec 32 := 1#32
  let arg21 : BitVec 32 := Scf.iv c0_i32_24 c1_i32_26 k2_t5
  let c16_i32_42 : BitVec 32 := 16#32
  let v62 : BitVec 32 := Scalar.muli arg21 c16_i32_42
  let v63 : Index := Scalar.indexCast v62
  ![v63.toNat]
def k2_off7 (k2_t5 : Fin k2_t5_loop.trips) : Fin 1 → Nat :=
  let c0_i32_24 : BitVec 32 := 0#32
  let c1_i32_26 : BitVec 32 := 1#32
  let arg21 : BitVec 32 := Scf.iv c0_i32_24 c1_i32_26 k2_t5
  let c16_i32_44 : BitVec 32 := 16#32
  let v73 : BitVec 32 := Scalar.muli arg21 c16_i32_44
  let v74 : Index := Scalar.indexCast v73
  ![v74.toNat]
@[reducible] def k2_t6_loop : Scf.Loop 32 :=
  let c0_i32_37 : BitVec 32 := 0#32
  let c64_i32 : BitVec 32 := 64#32
  let v58 : BitVec 32 := Scalar.addi c0_i32_37 c64_i32
  let c1_i32_38 : BitVec 32 := 1#32
  ⟨c0_i32_37, v58, c1_i32_38⟩
def k2_off8 (k2_t6 : Fin k2_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t6
  let v62 : BitVec 32 := Scalar.muli c2_i32_42 arg21
  let v63 : BitVec 32 := Scalar.addi v62 c0_i32_43
  let v64 : Index := Scalar.indexCast v63
  let c0 : Index := 0#32
  ![v64.toNat, 0]
def k2_off9 (k2_t6 : Fin k2_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t6
  let v62 : BitVec 32 := Scalar.muli c2_i32_42 arg21
  let v63 : BitVec 32 := Scalar.addi v62 c0_i32_43
  let v66 : Index := Scalar.indexCast v63
  let c64 : Index := 64#32
  ![v66.toNat, 64]
def k2_off10 (k2_t6 : Fin k2_t6_loop.trips) : Fin 2 → Nat :=
  let c0_i32_37 : BitVec 32 := 0#32
  let c1_i32_38 : BitVec 32 := 1#32
  let arg21 : BitVec 32 := Scf.iv c0_i32_37 c1_i32_38 k2_t6
  let v69 : Index := Scalar.indexCast arg21
  let c0_44 : Index := 0#32
  ![v69.toNat, 0]
def k2_off11 (k2_t6 : Fin k2_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t6
  let v62 : BitVec 32 := Scalar.muli c2_i32_42 arg21
  let v63 : BitVec 32 := Scalar.addi v62 c0_i32_43
  let v71 : Index := Scalar.indexCast v63
  let c16 : Index := 16#32
  ![v71.toNat, 16]
def k2_off12 (k2_t6 : Fin k2_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t6
  let v62 : BitVec 32 := Scalar.muli c2_i32_42 arg21
  let v63 : BitVec 32 := Scalar.addi v62 c0_i32_43
  let v73 : Index := Scalar.indexCast v63
  let c80 : Index := 80#32
  ![v73.toNat, 80]
def k2_off13 (k2_t6 : Fin k2_t6_loop.trips) : Fin 2 → Nat :=
  let c0_i32_37 : BitVec 32 := 0#32
  let c1_i32_38 : BitVec 32 := 1#32
  let arg21 : BitVec 32 := Scf.iv c0_i32_37 c1_i32_38 k2_t6
  let v76 : Index := Scalar.indexCast arg21
  let c16_45 : Index := 16#32
  ![v76.toNat, 16]
def k2_off14 (k2_t6 : Fin k2_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t6
  let v62 : BitVec 32 := Scalar.muli c2_i32_42 arg21
  let v63 : BitVec 32 := Scalar.addi v62 c0_i32_43
  let v78 : Index := Scalar.indexCast v63
  let c32 : Index := 32#32
  ![v78.toNat, 32]
def k2_off15 (k2_t6 : Fin k2_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t6
  let v62 : BitVec 32 := Scalar.muli c2_i32_42 arg21
  let v63 : BitVec 32 := Scalar.addi v62 c0_i32_43
  let v80 : Index := Scalar.indexCast v63
  let c96 : Index := 96#32
  ![v80.toNat, 96]
def k2_off16 (k2_t6 : Fin k2_t6_loop.trips) : Fin 2 → Nat :=
  let c0_i32_37 : BitVec 32 := 0#32
  let c1_i32_38 : BitVec 32 := 1#32
  let arg21 : BitVec 32 := Scf.iv c0_i32_37 c1_i32_38 k2_t6
  let v83 : Index := Scalar.indexCast arg21
  let c32_46 : Index := 32#32
  ![v83.toNat, 32]
def k2_off17 (k2_t6 : Fin k2_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t6
  let v62 : BitVec 32 := Scalar.muli c2_i32_42 arg21
  let v63 : BitVec 32 := Scalar.addi v62 c0_i32_43
  let v85 : Index := Scalar.indexCast v63
  let c48 : Index := 48#32
  ![v85.toNat, 48]
def k2_off18 (k2_t6 : Fin k2_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t6
  let v62 : BitVec 32 := Scalar.muli c2_i32_42 arg21
  let v63 : BitVec 32 := Scalar.addi v62 c0_i32_43
  let v87 : Index := Scalar.indexCast v63
  let c112 : Index := 112#32
  ![v87.toNat, 112]
def k2_off19 (k2_t6 : Fin k2_t6_loop.trips) : Fin 2 → Nat :=
  let c0_i32_37 : BitVec 32 := 0#32
  let c1_i32_38 : BitVec 32 := 1#32
  let arg21 : BitVec 32 := Scf.iv c0_i32_37 c1_i32_38 k2_t6
  let v90 : Index := Scalar.indexCast arg21
  let c48_47 : Index := 48#32
  ![v90.toNat, 48]
def k2_off20 (k2_t6 : Fin k2_t6_loop.trips) : Fin 2 → Nat :=
  let c0_i32_37 : BitVec 32 := 0#32
  let c1_i32_38 : BitVec 32 := 1#32
  let arg21 : BitVec 32 := Scf.iv c0_i32_37 c1_i32_38 k2_t6
  let v99 : Index := Scalar.indexCast arg21
  let c64_52 : Index := 64#32
  ![v99.toNat, 64]
def k2_off21 (k2_t6 : Fin k2_t6_loop.trips) : Fin 2 → Nat :=
  let c0_i32_37 : BitVec 32 := 0#32
  let c1_i32_38 : BitVec 32 := 1#32
  let arg21 : BitVec 32 := Scf.iv c0_i32_37 c1_i32_38 k2_t6
  let v106 : Index := Scalar.indexCast arg21
  let c80_55 : Index := 80#32
  ![v106.toNat, 80]
def k2_off22 (k2_t6 : Fin k2_t6_loop.trips) : Fin 2 → Nat :=
  let c0_i32_37 : BitVec 32 := 0#32
  let c1_i32_38 : BitVec 32 := 1#32
  let arg21 : BitVec 32 := Scf.iv c0_i32_37 c1_i32_38 k2_t6
  let v113 : Index := Scalar.indexCast arg21
  let c96_58 : Index := 96#32
  ![v113.toNat, 96]
def k2_off23 (k2_t6 : Fin k2_t6_loop.trips) : Fin 2 → Nat :=
  let c0_i32_37 : BitVec 32 := 0#32
  let c1_i32_38 : BitVec 32 := 1#32
  let arg21 : BitVec 32 := Scf.iv c0_i32_37 c1_i32_38 k2_t6
  let v120 : Index := Scalar.indexCast arg21
  let c112_61 : Index := 112#32
  ![v120.toNat, 112]
def k2_mult1 (arg20 : BitVec 32) : BitVec 32 :=
  let c64_i32_40 : BitVec 32 := 64#32
  let v59 : BitVec 32 := Scalar.muli arg20 c64_i32_40
  v59

def k2_off24 (arg20 : BitVec 32) : Fin 2 → Nat :=
  let c64_i32_40 : BitVec 32 := 64#32
  let v59 : BitVec 32 := Scalar.muli arg20 c64_i32_40
  let v60 : BitVec 32 := v59
  let c0_i32_42_r3 : BitVec 32 := 0#32
  ![v60.toNat, 0]

def k2_chk2 (arg20 : BitVec 32) : Prop :=
  (8 ∣ (k2_mult1 arg20).toNat) ∧
  (∀ a, (k2_off24 arg20) a + S64x128.size a ≤ S176640x128.size a)
theorem k2_mult1_dvd : ∀ (arg20 : BitVec 32) (k2_hw2 : k2_chk2 arg20), 8 ∣ (k2_mult1 arg20).toNat := fun arg20 k2_hw2 => k2_hw2.1
theorem k2_off24_inb : ∀ (arg20 : BitVec 32) (k2_hw2 : k2_chk2 arg20), ∀ a, (k2_off24 arg20) a + S64x128.size a ≤ S176640x128.size a := fun arg20 k2_hw2 => k2_hw2.2

@[reducible] def k2_t7_loop (v19 : BitVec 32) : Scf.Loop 32 :=
  let c0_i32_17 : BitVec 32 := 0#32
  let c128_i32 : BitVec 32 := 128#32
  let v20 : BitVec 32 := Scalar.addi v19 c128_i32
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c128_i32_9 : BitVec 32 := 128#32
  let c0_i32_12 : BitVec 32 := 0#32
  let v28 : BitVec 1 := Scalar.cmpi .sgt c128_i32_9 c0_i32_12
  let v29 : BitVec 32 := Scalar.extui v28
  let c0_i32_13 : BitVec 32 := 0#32
  let v30 : BitVec 1 := Scalar.cmpi .slt c128_i32_9 c0_i32_13
  let v31 : BitVec 32 := Scalar.extui v30
  let v32 : BitVec 32 := Scalar.subi v29 v31
  let v33 : BitVec 1 := Scalar.cmpi .ne v27 v32
  let v34 : BitVec 32 := Scalar.remsi v21 c128_i32_9
  let c0_i32_14 : BitVec 32 := 0#32
  let v35 : BitVec 1 := Scalar.cmpi .ne v34 c0_i32_14
  let v36 : BitVec 1 := Scalar.andi v33 v35
  let v22 : BitVec 32 := Scalar.divsi v21 c128_i32_9
  let c1_i32_15 : BitVec 32 := 1#32
  let v37 : BitVec 32 := Scalar.subi v22 c1_i32_15
  let v38 : BitVec 32 := Scalar.select v36 v37 v22
  let v42 : BitVec 32 := Scalar.subi v38 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let v43 : BitVec 32 := Scalar.addi c0_i32_17 v42
  let c1_i32_20 : BitVec 32 := 1#32
  ⟨v46, v43, c1_i32_20⟩
def k2_off25 (i : grid2.Coords) (k2_t3 : Fin k2_t3_loop.trips) (v19 : BitVec 32) (k2_t7 : Fin (k2_t7_loop v19).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_16 : BitVec 32 := 8#32
  let v39 : BitVec 32 := Scalar.muli v1 c8_i32_16
  let c0_i32_3 : BitVec 32 := 0#32
  let c1_i32_5 : BitVec 32 := 1#32
  let arg17 : BitVec 32 := Scf.iv c0_i32_3 c1_i32_5 k2_t3
  let v40 : BitVec 32 := Scalar.addi v39 arg17
  let c40000_i32 : BitVec 32 := 40000#32
  let v41 : BitVec 32 := Scalar.muli v40 c40000_i32
  let c0_i32_17 : BitVec 32 := 0#32
  let c128_i32 : BitVec 32 := 128#32
  let v20 : BitVec 32 := Scalar.addi v19 c128_i32
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c128_i32_9 : BitVec 32 := 128#32
  let c0_i32_12 : BitVec 32 := 0#32
  let v28 : BitVec 1 := Scalar.cmpi .sgt c128_i32_9 c0_i32_12
  let v29 : BitVec 32 := Scalar.extui v28
  let c0_i32_13 : BitVec 32 := 0#32
  let v30 : BitVec 1 := Scalar.cmpi .slt c128_i32_9 c0_i32_13
  let v31 : BitVec 32 := Scalar.extui v30
  let v32 : BitVec 32 := Scalar.subi v29 v31
  let v33 : BitVec 1 := Scalar.cmpi .ne v27 v32
  let v34 : BitVec 32 := Scalar.remsi v21 c128_i32_9
  let c0_i32_14 : BitVec 32 := 0#32
  let v35 : BitVec 1 := Scalar.cmpi .ne v34 c0_i32_14
  let v36 : BitVec 1 := Scalar.andi v33 v35
  let v22 : BitVec 32 := Scalar.divsi v21 c128_i32_9
  let c1_i32_15 : BitVec 32 := 1#32
  let v37 : BitVec 32 := Scalar.subi v22 c1_i32_15
  let v38 : BitVec 32 := Scalar.select v36 v37 v22
  let v42 : BitVec 32 := Scalar.subi v38 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg19 : BitVec 32 := Scf.iv v46 c1_i32_20 k2_t7
  let c128_i32_21 : BitVec 32 := 128#32
  let v49 : BitVec 32 := Scalar.muli arg19 c128_i32_21
  let v50 : BitVec 32 := Scalar.addi v41 v49
  ![v50.toNat]

def k2_chk1 (i : grid2.Coords) (k2_t3 : Fin k2_t3_loop.trips) (v19 : BitVec 32) : Prop :=
  ((k2_t4_loop v19).OK) ∧
  (∀ k2_t4 : Fin (k2_t4_loop v19).trips, ∀ a, (k2_off5 i k2_t3 v19 k2_t4) a + S128.size a ≤ S10240128.size a) ∧
  ((k2_t7_loop v19).OK) ∧
  (∀ k2_t7 : Fin (k2_t7_loop v19).trips, ∀ a, (k2_off25 i k2_t3 v19 k2_t7) a + S128.size a ≤ S10240128.size a)
theorem k2_t4_ok : ∀ (i : grid2.Coords) (k2_t3 : Fin k2_t3_loop.trips) (v19 : BitVec 32) (k2_hw1 : k2_chk1 i k2_t3 v19), (k2_t4_loop v19).OK := fun i k2_t3 v19 k2_hw1 => k2_hw1.1
theorem k2_off5_inb : ∀ (i : grid2.Coords) (k2_t3 : Fin k2_t3_loop.trips) (v19 : BitVec 32) (k2_hw1 : k2_chk1 i k2_t3 v19) (k2_t4 : Fin (k2_t4_loop v19).trips), ∀ a, (k2_off5 i k2_t3 v19 k2_t4) a + S128.size a ≤ S10240128.size a := fun i k2_t3 v19 k2_hw1 k2_t4 => k2_hw1.2.1 k2_t4
theorem k2_t7_ok : ∀ (i : grid2.Coords) (k2_t3 : Fin k2_t3_loop.trips) (v19 : BitVec 32) (k2_hw1 : k2_chk1 i k2_t3 v19), (k2_t7_loop v19).OK := fun i k2_t3 v19 k2_hw1 => k2_hw1.2.2.1
theorem k2_off25_inb : ∀ (i : grid2.Coords) (k2_t3 : Fin k2_t3_loop.trips) (v19 : BitVec 32) (k2_hw1 : k2_chk1 i k2_t3 v19) (k2_t7 : Fin (k2_t7_loop v19).trips), ∀ a, (k2_off25 i k2_t3 v19 k2_t7) a + S128.size a ≤ S10240128.size a := fun i k2_t3 v19 k2_hw1 k2_t7 => k2_hw1.2.2.2 k2_t7

@[reducible] def k2_t8_loop : Scf.Loop 32 :=
  let c0_i32_24 : BitVec 32 := 0#32
  let c8_i32_25 : BitVec 32 := 8#32
  let v53 : BitVec 32 := Scalar.addi c0_i32_24 c8_i32_25
  let c1_i32_26 : BitVec 32 := 1#32
  ⟨c0_i32_24, v53, c1_i32_26⟩
def k2_off26 (k2_t8 : Fin k2_t8_loop.trips) : Fin 1 → Nat :=
  let c0_i32_24 : BitVec 32 := 0#32
  let c1_i32_26 : BitVec 32 := 1#32
  let arg21 : BitVec 32 := Scf.iv c0_i32_24 c1_i32_26 k2_t8
  let c16_i32_42 : BitVec 32 := 16#32
  let v62 : BitVec 32 := Scalar.muli arg21 c16_i32_42
  let v63 : Index := Scalar.indexCast v62
  ![v63.toNat]
def k2_off27 (k2_t8 : Fin k2_t8_loop.trips) : Fin 1 → Nat :=
  let c0_i32_24 : BitVec 32 := 0#32
  let c1_i32_26 : BitVec 32 := 1#32
  let arg21 : BitVec 32 := Scf.iv c0_i32_24 c1_i32_26 k2_t8
  let c16_i32_44 : BitVec 32 := 16#32
  let v73 : BitVec 32 := Scalar.muli arg21 c16_i32_44
  let v74 : Index := Scalar.indexCast v73
  ![v74.toNat]
@[reducible] def k2_t9_loop : Scf.Loop 32 :=
  let c0_i32_37 : BitVec 32 := 0#32
  let c64_i32 : BitVec 32 := 64#32
  let v58 : BitVec 32 := Scalar.addi c0_i32_37 c64_i32
  let c1_i32_38 : BitVec 32 := 1#32
  ⟨c0_i32_37, v58, c1_i32_38⟩
def k2_off28 (k2_t9 : Fin k2_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t9
  let v62 : BitVec 32 := Scalar.muli c2_i32_42 arg21
  let v63 : BitVec 32 := Scalar.addi v62 c0_i32_43
  let v64 : Index := Scalar.indexCast v63
  let c0 : Index := 0#32
  ![v64.toNat, 0]
def k2_off29 (k2_t9 : Fin k2_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t9
  let v62 : BitVec 32 := Scalar.muli c2_i32_42 arg21
  let v63 : BitVec 32 := Scalar.addi v62 c0_i32_43
  let v66 : Index := Scalar.indexCast v63
  let c64 : Index := 64#32
  ![v66.toNat, 64]
def k2_off30 (k2_t9 : Fin k2_t9_loop.trips) : Fin 2 → Nat :=
  let c0_i32_37 : BitVec 32 := 0#32
  let c1_i32_38 : BitVec 32 := 1#32
  let arg21 : BitVec 32 := Scf.iv c0_i32_37 c1_i32_38 k2_t9
  let v69 : Index := Scalar.indexCast arg21
  let c0_44 : Index := 0#32
  ![v69.toNat, 0]
def k2_off31 (k2_t9 : Fin k2_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t9
  let v62 : BitVec 32 := Scalar.muli c2_i32_42 arg21
  let v63 : BitVec 32 := Scalar.addi v62 c0_i32_43
  let v71 : Index := Scalar.indexCast v63
  let c16 : Index := 16#32
  ![v71.toNat, 16]
def k2_off32 (k2_t9 : Fin k2_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t9
  let v62 : BitVec 32 := Scalar.muli c2_i32_42 arg21
  let v63 : BitVec 32 := Scalar.addi v62 c0_i32_43
  let v73 : Index := Scalar.indexCast v63
  let c80 : Index := 80#32
  ![v73.toNat, 80]
def k2_off33 (k2_t9 : Fin k2_t9_loop.trips) : Fin 2 → Nat :=
  let c0_i32_37 : BitVec 32 := 0#32
  let c1_i32_38 : BitVec 32 := 1#32
  let arg21 : BitVec 32 := Scf.iv c0_i32_37 c1_i32_38 k2_t9
  let v76 : Index := Scalar.indexCast arg21
  let c16_45 : Index := 16#32
  ![v76.toNat, 16]
def k2_off34 (k2_t9 : Fin k2_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t9
  let v62 : BitVec 32 := Scalar.muli c2_i32_42 arg21
  let v63 : BitVec 32 := Scalar.addi v62 c0_i32_43
  let v78 : Index := Scalar.indexCast v63
  let c32 : Index := 32#32
  ![v78.toNat, 32]
def k2_off35 (k2_t9 : Fin k2_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t9
  let v62 : BitVec 32 := Scalar.muli c2_i32_42 arg21
  let v63 : BitVec 32 := Scalar.addi v62 c0_i32_43
  let v80 : Index := Scalar.indexCast v63
  let c96 : Index := 96#32
  ![v80.toNat, 96]
def k2_off36 (k2_t9 : Fin k2_t9_loop.trips) : Fin 2 → Nat :=
  let c0_i32_37 : BitVec 32 := 0#32
  let c1_i32_38 : BitVec 32 := 1#32
  let arg21 : BitVec 32 := Scf.iv c0_i32_37 c1_i32_38 k2_t9
  let v83 : Index := Scalar.indexCast arg21
  let c32_46 : Index := 32#32
  ![v83.toNat, 32]
def k2_off37 (k2_t9 : Fin k2_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t9
  let v62 : BitVec 32 := Scalar.muli c2_i32_42 arg21
  let v63 : BitVec 32 := Scalar.addi v62 c0_i32_43
  let v85 : Index := Scalar.indexCast v63
  let c48 : Index := 48#32
  ![v85.toNat, 48]
def k2_off38 (k2_t9 : Fin k2_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k2_t9
  let v62 : BitVec 32 := Scalar.muli c2_i32_42 arg21
  let v63 : BitVec 32 := Scalar.addi v62 c0_i32_43
  let v87 : Index := Scalar.indexCast v63
  let c112 : Index := 112#32
  ![v87.toNat, 112]
def k2_off39 (k2_t9 : Fin k2_t9_loop.trips) : Fin 2 → Nat :=
  let c0_i32_37 : BitVec 32 := 0#32
  let c1_i32_38 : BitVec 32 := 1#32
  let arg21 : BitVec 32 := Scf.iv c0_i32_37 c1_i32_38 k2_t9
  let v90 : Index := Scalar.indexCast arg21
  let c48_47 : Index := 48#32
  ![v90.toNat, 48]
def k2_off40 (k2_t9 : Fin k2_t9_loop.trips) : Fin 2 → Nat :=
  let c0_i32_37 : BitVec 32 := 0#32
  let c1_i32_38 : BitVec 32 := 1#32
  let arg21 : BitVec 32 := Scf.iv c0_i32_37 c1_i32_38 k2_t9
  let v99 : Index := Scalar.indexCast arg21
  let c64_52 : Index := 64#32
  ![v99.toNat, 64]
def k2_off41 (k2_t9 : Fin k2_t9_loop.trips) : Fin 2 → Nat :=
  let c0_i32_37 : BitVec 32 := 0#32
  let c1_i32_38 : BitVec 32 := 1#32
  let arg21 : BitVec 32 := Scf.iv c0_i32_37 c1_i32_38 k2_t9
  let v106 : Index := Scalar.indexCast arg21
  let c80_55 : Index := 80#32
  ![v106.toNat, 80]
def k2_off42 (k2_t9 : Fin k2_t9_loop.trips) : Fin 2 → Nat :=
  let c0_i32_37 : BitVec 32 := 0#32
  let c1_i32_38 : BitVec 32 := 1#32
  let arg21 : BitVec 32 := Scf.iv c0_i32_37 c1_i32_38 k2_t9
  let v113 : Index := Scalar.indexCast arg21
  let c96_58 : Index := 96#32
  ![v113.toNat, 96]
def k2_off43 (k2_t9 : Fin k2_t9_loop.trips) : Fin 2 → Nat :=
  let c0_i32_37 : BitVec 32 := 0#32
  let c1_i32_38 : BitVec 32 := 1#32
  let arg21 : BitVec 32 := Scf.iv c0_i32_37 c1_i32_38 k2_t9
  let v120 : Index := Scalar.indexCast arg21
  let c112_61 : Index := 112#32
  ![v120.toNat, 112]
def k2_mult2 (arg20 : BitVec 32) : BitVec 32 :=
  let c64_i32_40 : BitVec 32 := 64#32
  let v59 : BitVec 32 := Scalar.muli arg20 c64_i32_40
  v59

def k2_off44 (arg20 : BitVec 32) : Fin 2 → Nat :=
  let c64_i32_40 : BitVec 32 := 64#32
  let v59 : BitVec 32 := Scalar.muli arg20 c64_i32_40
  let v60 : BitVec 32 := v59
  let c0_i32_42_r5 : BitVec 32 := 0#32
  ![v60.toNat, 0]

def k2_chk3 (arg20 : BitVec 32) : Prop :=
  (8 ∣ (k2_mult2 arg20).toNat) ∧
  (∀ a, (k2_off44 arg20) a + S64x128.size a ≤ S176640x128.size a)
theorem k2_mult2_dvd : ∀ (arg20 : BitVec 32) (k2_hw3 : k2_chk3 arg20), 8 ∣ (k2_mult2 arg20).toNat := fun arg20 k2_hw3 => k2_hw3.1
theorem k2_off44_inb : ∀ (arg20 : BitVec 32) (k2_hw3 : k2_chk3 arg20), ∀ a, (k2_off44 arg20) a + S64x128.size a ≤ S176640x128.size a := fun arg20 k2_hw3 => k2_hw3.2

abbrev grid3 : Pipeline.Grid := ⟨1, ![92], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1920x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1920x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![2, 16], ![false, false]⟩

def k4_off1 (i : grid4.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32 : BitVec 32 := 16#32
  let v3 : BitVec 32 := Scalar.muli v2 c16_i32
  ![v3.toNat]
@[reducible] def k4_t1_loop (i : grid4.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.subi v1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_1 : BitVec 32 := 1#32
  ⟨c0_i32, v8, c1_i32_1⟩
def k4_off2 (i : grid4.Coords) (k4_t1 : Fin (k4_t1_loop i).trips) : Fin 1 → Nat :=
  let c0_i32 : BitVec 32 := 0#32
  let c1_i32_1 : BitVec 32 := 1#32
  let arg12 : BitVec 32 := Scf.iv c0_i32 c1_i32_1 k4_t1
  let c16_i32_12 : BitVec 32 := 16#32
  let v16 : BitVec 32 := Scalar.muli arg12 c16_i32_12
  let v17 : Index := Scalar.indexCast v16
  ![v17.toNat]
@[reducible] def k4_t2_loop (i : grid4.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.subi v1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_2 : BitVec 32 := 1#32
  ⟨v8, v5, c1_i32_2⟩
def k4_off3 (i : grid4.Coords) (k4_t2 : Fin (k4_t2_loop i).trips) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.subi v1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_2 : BitVec 32 := 1#32
  let arg12 : BitVec 32 := Scf.iv v8 c1_i32_2 k4_t2
  let c16_i32_12 : BitVec 32 := 16#32
  let v16 : BitVec 32 := Scalar.muli arg12 c16_i32_12
  let v17 : Index := Scalar.indexCast v16
  ![v17.toNat]
@[reducible] def k4_t3_loop : Scf.Loop 32 :=
  let c0_i32_4 : BitVec 32 := 0#32
  let c160_i32 : BitVec 32 := 160#32
  let v11 : BitVec 32 := Scalar.addi c0_i32_4 c160_i32
  let c1_i32_5 : BitVec 32 := 1#32
  ⟨c0_i32_4, v11, c1_i32_5⟩
def k4_off4 (k4_t3 : Fin k4_t3_loop.trips) : Fin 2 → Nat :=
  let c0_i32_4 : BitVec 32 := 0#32
  let c1_i32_5 : BitVec 32 := 1#32
  let arg12 : BitVec 32 := Scf.iv c0_i32_4 c1_i32_5 k4_t3
  let v17 : Index := Scalar.indexCast arg12
  let c0 : Index := 0#32
  ![v17.toNat, 0]
def k4_off5 (k4_t3 : Fin k4_t3_loop.trips) : Fin 2 → Nat :=
  let c0_i32_4 : BitVec 32 := 0#32
  let c1_i32_5 : BitVec 32 := 1#32
  let arg12 : BitVec 32 := Scf.iv c0_i32_4 c1_i32_5 k4_t3
  let v20 : Index := Scalar.indexCast arg12
  let c16 : Index := 16#32
  ![v20.toNat, 16]
def k4_off6 (k4_t3 : Fin k4_t3_loop.trips) : Fin 2 → Nat :=
  let c0_i32_4 : BitVec 32 := 0#32
  let c1_i32_5 : BitVec 32 := 1#32
  let arg12 : BitVec 32 := Scf.iv c0_i32_4 c1_i32_5 k4_t3
  let v23 : Index := Scalar.indexCast arg12
  let c32 : Index := 32#32
  ![v23.toNat, 32]
def k4_off7 (k4_t3 : Fin k4_t3_loop.trips) : Fin 2 → Nat :=
  let c0_i32_4 : BitVec 32 := 0#32
  let c1_i32_5 : BitVec 32 := 1#32
  let arg12 : BitVec 32 := Scf.iv c0_i32_4 c1_i32_5 k4_t3
  let v26 : Index := Scalar.indexCast arg12
  let c48 : Index := 48#32
  ![v26.toNat, 48]
def k4_off8 (k4_t3 : Fin k4_t3_loop.trips) : Fin 2 → Nat :=
  let c0_i32_4 : BitVec 32 := 0#32
  let c1_i32_5 : BitVec 32 := 1#32
  let arg12 : BitVec 32 := Scf.iv c0_i32_4 c1_i32_5 k4_t3
  let v29 : Index := Scalar.indexCast arg12
  let c64 : Index := 64#32
  ![v29.toNat, 64]
def k4_off9 (k4_t3 : Fin k4_t3_loop.trips) : Fin 2 → Nat :=
  let c0_i32_4 : BitVec 32 := 0#32
  let c1_i32_5 : BitVec 32 := 1#32
  let arg12 : BitVec 32 := Scf.iv c0_i32_4 c1_i32_5 k4_t3
  let v32 : Index := Scalar.indexCast arg12
  let c80 : Index := 80#32
  ![v32.toNat, 80]
def k4_off10 (k4_t3 : Fin k4_t3_loop.trips) : Fin 2 → Nat :=
  let c0_i32_4 : BitVec 32 := 0#32
  let c1_i32_5 : BitVec 32 := 1#32
  let arg12 : BitVec 32 := Scf.iv c0_i32_4 c1_i32_5 k4_t3
  let v35 : Index := Scalar.indexCast arg12
  let c96 : Index := 96#32
  ![v35.toNat, 96]
def k4_off11 (k4_t3 : Fin k4_t3_loop.trips) : Fin 2 → Nat :=
  let c0_i32_4 : BitVec 32 := 0#32
  let c1_i32_5 : BitVec 32 := 1#32
  let arg12 : BitVec 32 := Scf.iv c0_i32_4 c1_i32_5 k4_t3
  let v38 : Index := Scalar.indexCast arg12
  let c112 : Index := 112#32
  ![v38.toNat, 112]
@[reducible] def k4_t4_loop : Scf.Loop 32 :=
  let c0_i32_7 : BitVec 32 := 0#32
  let c8_i32_8 : BitVec 32 := 8#32
  let v12 : BitVec 32 := Scalar.addi c0_i32_7 c8_i32_8
  let c1_i32_9 : BitVec 32 := 1#32
  ⟨c0_i32_7, v12, c1_i32_9⟩
def k4_off12 (k4_t4 : Fin k4_t4_loop.trips) : Fin 1 → Nat :=
  let c0_i32_7 : BitVec 32 := 0#32
  let c1_i32_9 : BitVec 32 := 1#32
  let arg12 : BitVec 32 := Scf.iv c0_i32_7 c1_i32_9 k4_t4
  let c16_i32_12 : BitVec 32 := 16#32
  let v16 : BitVec 32 := Scalar.muli arg12 c16_i32_12
  let v17 : Index := Scalar.indexCast v16
  ![v17.toNat]
@[reducible] def k4_t5_loop (v20 : BitVec 32) : Scf.Loop 32 :=
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_24 : BitVec 32 := 1#32
  ⟨c0_i32_22, v47, c1_i32_24⟩

def k4_off13 (i : grid4.Coords) (k4_t4 : Fin k4_t4_loop.trips) (v20 : BitVec 32) (k4_t5 : Fin (k4_t5_loop v20).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_21 : BitVec 32 := 8#32
  let v40 : BitVec 32 := Scalar.muli v1 c8_i32_21
  let c0_i32_7 : BitVec 32 := 0#32
  let c1_i32_9 : BitVec 32 := 1#32
  let arg12 : BitVec 32 := Scf.iv c0_i32_7 c1_i32_9 k4_t4
  let v41 : BitVec 32 := Scalar.addi v40 arg12
  let c40000_i32 : BitVec 32 := 40000#32
  let v42 : BitVec 32 := Scalar.muli v41 c40000_i32
  let c0_i32_22 : BitVec 32 := 0#32
  let c1_i32_24 : BitVec 32 := 1#32
  let arg14 : BitVec 32 := Scf.iv c0_i32_22 c1_i32_24 k4_t5
  let c128_i32_26 : BitVec 32 := 128#32
  let v50 : BitVec 32 := Scalar.muli arg14 c128_i32_26
  let v51 : BitVec 32 := Scalar.addi v42 v50
  ![v51.toNat]
def k4_mult1 (arg15 : BitVec 32) : BitVec 32 :=
  let c64_i32 : BitVec 32 := 64#32
  let v55 : BitVec 32 := Scalar.muli arg15 c64_i32
  v55

def k4_off14 (arg15 : BitVec 32) : Fin 2 → Nat :=
  let c64_i32 : BitVec 32 := 64#32
  let v55 : BitVec 32 := Scalar.muli arg15 c64_i32
  let v56 : BitVec 32 := v55
  let c0_i32_35_r3 : BitVec 32 := 0#32
  ![v56.toNat, 0]

def k4_chk2 (arg15 : BitVec 32) : Prop :=
  (8 ∣ (k4_mult1 arg15).toNat) ∧
  (∀ a, (k4_off14 arg15) a + S64x128.size a ≤ S176640x128.size a)
theorem k4_mult1_dvd : ∀ (arg15 : BitVec 32) (k4_hw2 : k4_chk2 arg15), 8 ∣ (k4_mult1 arg15).toNat := fun arg15 k4_hw2 => k4_hw2.1
theorem k4_off14_inb : ∀ (arg15 : BitVec 32) (k4_hw2 : k4_chk2 arg15), ∀ a, (k4_off14 arg15) a + S64x128.size a ≤ S176640x128.size a := fun arg15 k4_hw2 => k4_hw2.2

@[reducible] def k4_t6_loop (v20 : BitVec 32) (k4_t5 : Fin (k4_t5_loop v20).trips) : Scf.Loop 32 :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k4_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_32 : BitVec 32 := 1#32
  ⟨c0_i32_30, v61, c1_i32_32⟩
def k4_off15 (v20 : BitVec 32) (k4_t5 : Fin (k4_t5_loop v20).trips) (k4_t6 : Fin (k4_t6_loop v20 k4_t5).trips) : Fin 1 → Nat :=
  let c0_i32_30 : BitVec 32 := 0#32
  let c1_i32_32 : BitVec 32 := 1#32
  let arg16 : BitVec 32 := Scf.iv c0_i32_30 c1_i32_32 k4_t6
  let v63 : Index := Scalar.indexCast arg16
  ![v63.toNat]
def k4_off16 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k4_chk3 (v66 : BitVec 32) : Prop :=
  (∀ (r : Fin 4), ∀ a, (k4_off16 v66 (BitVec.ofNat 32 (16 * r.val))) a + S1x16.size a ≤ S160x128.size a)
theorem k4_off16_inb : ∀ (v66 : BitVec 32) (k4_hw3 : k4_chk3 v66), ∀ (r : Fin 4), ∀ a, (k4_off16 v66 (BitVec.ofNat 32 (16 * r.val))) a + S1x16.size a ≤ S160x128.size a := fun v66 k4_hw3 r => k4_hw3 r

def k4_off17 (v20 : BitVec 32) (k4_t5 : Fin (k4_t5_loop v20).trips) (k4_t6 : Fin (k4_t6_loop v20 k4_t5).trips) (c0_i32_42 : BitVec 32) : Fin 2 → Nat :=
  let c0_i32_30 : BitVec 32 := 0#32
  let c1_i32_32 : BitVec 32 := 1#32
  let arg16 : BitVec 32 := Scf.iv c0_i32_30 c1_i32_32 k4_t6
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]
@[reducible] def k4_t7_loop (v20 : BitVec 32) (k4_t5 : Fin (k4_t5_loop v20).trips) : Scf.Loop 32 :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k4_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let v58 : BitVec 32 := Scalar.addi c0_i32_30 v57
  let c1_i32_33 : BitVec 32 := 1#32
  ⟨v61, v58, c1_i32_33⟩
def k4_off18 (v20 : BitVec 32) (k4_t5 : Fin (k4_t5_loop v20).trips) (k4_t7 : Fin (k4_t7_loop v20 k4_t5).trips) : Fin 1 → Nat :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k4_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k4_t7
  let v63 : Index := Scalar.indexCast arg16
  ![v63.toNat]
def k4_off19 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k4_chk4 (v66 : BitVec 32) : Prop :=
  (∀ (r : Fin 4), ∀ a, (k4_off19 v66 (BitVec.ofNat 32 (16 * r.val))) a + S1x16.size a ≤ S160x128.size a)
theorem k4_off19_inb : ∀ (v66 : BitVec 32) (k4_hw4 : k4_chk4 v66), ∀ (r : Fin 4), ∀ a, (k4_off19 v66 (BitVec.ofNat 32 (16 * r.val))) a + S1x16.size a ≤ S160x128.size a := fun v66 k4_hw4 r => k4_hw4 r

def k4_off20 (v20 : BitVec 32) (k4_t5 : Fin (k4_t5_loop v20).trips) (k4_t7 : Fin (k4_t7_loop v20 k4_t5).trips) (c0_i32_42 : BitVec 32) : Fin 2 → Nat :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k4_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k4_t7
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]
@[reducible] def k4_t8_loop (v20 : BitVec 32) : Scf.Loop 32 :=
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let v44 : BitVec 32 := Scalar.addi c0_i32_22 v43
  let c1_i32_25 : BitVec 32 := 1#32
  ⟨v47, v44, c1_i32_25⟩
def k4_off21 (i : grid4.Coords) (k4_t4 : Fin k4_t4_loop.trips) (v20 : BitVec 32) (k4_t8 : Fin (k4_t8_loop v20).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_21 : BitVec 32 := 8#32
  let v40 : BitVec 32 := Scalar.muli v1 c8_i32_21
  let c0_i32_7 : BitVec 32 := 0#32
  let c1_i32_9 : BitVec 32 := 1#32
  let arg12 : BitVec 32 := Scf.iv c0_i32_7 c1_i32_9 k4_t4
  let v41 : BitVec 32 := Scalar.addi v40 arg12
  let c40000_i32 : BitVec 32 := 40000#32
  let v42 : BitVec 32 := Scalar.muli v41 c40000_i32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k4_t8
  let c128_i32_26 : BitVec 32 := 128#32
  let v50 : BitVec 32 := Scalar.muli arg14 c128_i32_26
  let v51 : BitVec 32 := Scalar.addi v42 v50
  ![v51.toNat]
def k4_mult2 (arg15 : BitVec 32) : BitVec 32 :=
  let c64_i32 : BitVec 32 := 64#32
  let v55 : BitVec 32 := Scalar.muli arg15 c64_i32
  v55

def k4_off22 (arg15 : BitVec 32) : Fin 2 → Nat :=
  let c64_i32 : BitVec 32 := 64#32
  let v55 : BitVec 32 := Scalar.muli arg15 c64_i32
  let v56 : BitVec 32 := v55
  let c0_i32_35_r5 : BitVec 32 := 0#32
  ![v56.toNat, 0]

def k4_chk5 (arg15 : BitVec 32) : Prop :=
  (8 ∣ (k4_mult2 arg15).toNat) ∧
  (∀ a, (k4_off22 arg15) a + S64x128.size a ≤ S176640x128.size a)
theorem k4_mult2_dvd : ∀ (arg15 : BitVec 32) (k4_hw5 : k4_chk5 arg15), 8 ∣ (k4_mult2 arg15).toNat := fun arg15 k4_hw5 => k4_hw5.1
theorem k4_off22_inb : ∀ (arg15 : BitVec 32) (k4_hw5 : k4_chk5 arg15), ∀ a, (k4_off22 arg15) a + S64x128.size a ≤ S176640x128.size a := fun arg15 k4_hw5 => k4_hw5.2

@[reducible] def k4_t9_loop (v20 : BitVec 32) (k4_t8 : Fin (k4_t8_loop v20).trips) : Scf.Loop 32 :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k4_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_32 : BitVec 32 := 1#32
  ⟨c0_i32_30, v61, c1_i32_32⟩
def k4_off23 (v20 : BitVec 32) (k4_t8 : Fin (k4_t8_loop v20).trips) (k4_t9 : Fin (k4_t9_loop v20 k4_t8).trips) : Fin 1 → Nat :=
  let c0_i32_30 : BitVec 32 := 0#32
  let c1_i32_32 : BitVec 32 := 1#32
  let arg16 : BitVec 32 := Scf.iv c0_i32_30 c1_i32_32 k4_t9
  let v63 : Index := Scalar.indexCast arg16
  ![v63.toNat]
def k4_off24 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k4_chk6 (v66 : BitVec 32) : Prop :=
  (∀ (r : Fin 4), ∀ a, (k4_off24 v66 (BitVec.ofNat 32 (16 * r.val))) a + S1x16.size a ≤ S160x128.size a)
theorem k4_off24_inb : ∀ (v66 : BitVec 32) (k4_hw6 : k4_chk6 v66), ∀ (r : Fin 4), ∀ a, (k4_off24 v66 (BitVec.ofNat 32 (16 * r.val))) a + S1x16.size a ≤ S160x128.size a := fun v66 k4_hw6 r => k4_hw6 r

def k4_off25 (v20 : BitVec 32) (k4_t8 : Fin (k4_t8_loop v20).trips) (k4_t9 : Fin (k4_t9_loop v20 k4_t8).trips) (c0_i32_42 : BitVec 32) : Fin 2 → Nat :=
  let c0_i32_30 : BitVec 32 := 0#32
  let c1_i32_32 : BitVec 32 := 1#32
  let arg16 : BitVec 32 := Scf.iv c0_i32_30 c1_i32_32 k4_t9
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]
@[reducible] def k4_t10_loop (v20 : BitVec 32) (k4_t8 : Fin (k4_t8_loop v20).trips) : Scf.Loop 32 :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k4_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let v58 : BitVec 32 := Scalar.addi c0_i32_30 v57
  let c1_i32_33 : BitVec 32 := 1#32
  ⟨v61, v58, c1_i32_33⟩
def k4_off26 (v20 : BitVec 32) (k4_t8 : Fin (k4_t8_loop v20).trips) (k4_t10 : Fin (k4_t10_loop v20 k4_t8).trips) : Fin 1 → Nat :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k4_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k4_t10
  let v63 : Index := Scalar.indexCast arg16
  ![v63.toNat]
def k4_off27 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k4_chk7 (v66 : BitVec 32) : Prop :=
  (∀ (r : Fin 4), ∀ a, (k4_off27 v66 (BitVec.ofNat 32 (16 * r.val))) a + S1x16.size a ≤ S160x128.size a)
theorem k4_off27_inb : ∀ (v66 : BitVec 32) (k4_hw7 : k4_chk7 v66), ∀ (r : Fin 4), ∀ a, (k4_off27 v66 (BitVec.ofNat 32 (16 * r.val))) a + S1x16.size a ≤ S160x128.size a := fun v66 k4_hw7 r => k4_hw7 r

def k4_off28 (v20 : BitVec 32) (k4_t8 : Fin (k4_t8_loop v20).trips) (k4_t10 : Fin (k4_t10_loop v20 k4_t8).trips) (c0_i32_42 : BitVec 32) : Fin 2 → Nat :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k4_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k4_t10
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]

def k4_chk1 (i : grid4.Coords) (k4_t4 : Fin k4_t4_loop.trips) (v20 : BitVec 32) : Prop :=
  ((k4_t5_loop v20).OK) ∧
  (∀ k4_t5 : Fin (k4_t5_loop v20).trips, ∀ a, (k4_off13 i k4_t4 v20 k4_t5) a + S128.size a ≤ S10240128.size a) ∧
  (∀ k4_t5 : Fin (k4_t5_loop v20).trips, (k4_t6_loop v20 k4_t5).OK) ∧
  (∀ (k4_t5 : Fin (k4_t5_loop v20).trips) (k4_t6 : Fin (k4_t6_loop v20 k4_t5).trips), ∀ a, (k4_off15 v20 k4_t5 k4_t6) a + S16.size a ≤ S144.size a) ∧
  (∀ (k4_t5 : Fin (k4_t5_loop v20).trips) (k4_t6 : Fin (k4_t6_loop v20 k4_t5).trips), ∀ (r : Fin 4), ∀ a, (k4_off17 v20 k4_t5 k4_t6 (BitVec.ofNat 32 (16 * r.val))) a + S1x16.size a ≤ S64x128.size a) ∧
  (∀ k4_t5 : Fin (k4_t5_loop v20).trips, (k4_t7_loop v20 k4_t5).OK) ∧
  (∀ (k4_t5 : Fin (k4_t5_loop v20).trips) (k4_t7 : Fin (k4_t7_loop v20 k4_t5).trips), ∀ a, (k4_off18 v20 k4_t5 k4_t7) a + S16.size a ≤ S144.size a) ∧
  (∀ (k4_t5 : Fin (k4_t5_loop v20).trips) (k4_t7 : Fin (k4_t7_loop v20 k4_t5).trips), ∀ (r : Fin 4), ∀ a, (k4_off20 v20 k4_t5 k4_t7 (BitVec.ofNat 32 (16 * r.val))) a + S1x16.size a ≤ S64x128.size a) ∧
  ((k4_t8_loop v20).OK) ∧
  (∀ k4_t8 : Fin (k4_t8_loop v20).trips, ∀ a, (k4_off21 i k4_t4 v20 k4_t8) a + S128.size a ≤ S10240128.size a) ∧
  (∀ k4_t8 : Fin (k4_t8_loop v20).trips, (k4_t9_loop v20 k4_t8).OK) ∧
  (∀ (k4_t8 : Fin (k4_t8_loop v20).trips) (k4_t9 : Fin (k4_t9_loop v20 k4_t8).trips), ∀ a, (k4_off23 v20 k4_t8 k4_t9) a + S16.size a ≤ S144.size a) ∧
  (∀ (k4_t8 : Fin (k4_t8_loop v20).trips) (k4_t9 : Fin (k4_t9_loop v20 k4_t8).trips), ∀ (r : Fin 4), ∀ a, (k4_off25 v20 k4_t8 k4_t9 (BitVec.ofNat 32 (16 * r.val))) a + S1x16.size a ≤ S64x128.size a) ∧
  (∀ k4_t8 : Fin (k4_t8_loop v20).trips, (k4_t10_loop v20 k4_t8).OK) ∧
  (∀ (k4_t8 : Fin (k4_t8_loop v20).trips) (k4_t10 : Fin (k4_t10_loop v20 k4_t8).trips), ∀ a, (k4_off26 v20 k4_t8 k4_t10) a + S16.size a ≤ S144.size a) ∧
  (∀ (k4_t8 : Fin (k4_t8_loop v20).trips) (k4_t10 : Fin (k4_t10_loop v20 k4_t8).trips), ∀ (r : Fin 4), ∀ a, (k4_off28 v20 k4_t8 k4_t10 (BitVec.ofNat 32 (16 * r.val))) a + S1x16.size a ≤ S64x128.size a)
theorem k4_t5_ok : ∀ (i : grid4.Coords) (k4_t4 : Fin k4_t4_loop.trips) (v20 : BitVec 32) (k4_hw1 : k4_chk1 i k4_t4 v20), (k4_t5_loop v20).OK := fun i k4_t4 v20 k4_hw1 => k4_hw1.1
theorem k4_off13_inb : ∀ (i : grid4.Coords) (k4_t4 : Fin k4_t4_loop.trips) (v20 : BitVec 32) (k4_hw1 : k4_chk1 i k4_t4 v20) (k4_t5 : Fin (k4_t5_loop v20).trips), ∀ a, (k4_off13 i k4_t4 v20 k4_t5) a + S128.size a ≤ S10240128.size a := fun i k4_t4 v20 k4_hw1 k4_t5 => k4_hw1.2.1 k4_t5
theorem k4_t6_ok : ∀ (i : grid4.Coords) (k4_t4 : Fin k4_t4_loop.trips) (v20 : BitVec 32) (k4_hw1 : k4_chk1 i k4_t4 v20) (k4_t5 : Fin (k4_t5_loop v20).trips), (k4_t6_loop v20 k4_t5).OK := fun i k4_t4 v20 k4_hw1 k4_t5 => k4_hw1.2.2.1 k4_t5
theorem k4_off15_inb : ∀ (i : grid4.Coords) (k4_t4 : Fin k4_t4_loop.trips) (v20 : BitVec 32) (k4_hw1 : k4_chk1 i k4_t4 v20) (k4_t5 : Fin (k4_t5_loop v20).trips) (k4_t6 : Fin (k4_t6_loop v20 k4_t5).trips), ∀ a, (k4_off15 v20 k4_t5 k4_t6) a + S16.size a ≤ S144.size a := fun i k4_t4 v20 k4_hw1 k4_t5 k4_t6 => k4_hw1.2.2.2.1 k4_t5 k4_t6
theorem k4_off17_inb : ∀ (i : grid4.Coords) (k4_t4 : Fin k4_t4_loop.trips) (v20 : BitVec 32) (k4_hw1 : k4_chk1 i k4_t4 v20) (k4_t5 : Fin (k4_t5_loop v20).trips) (k4_t6 : Fin (k4_t6_loop v20 k4_t5).trips), ∀ (r : Fin 4), ∀ a, (k4_off17 v20 k4_t5 k4_t6 (BitVec.ofNat 32 (16 * r.val))) a + S1x16.size a ≤ S64x128.size a := fun i k4_t4 v20 k4_hw1 k4_t5 k4_t6 r => k4_hw1.2.2.2.2.1 k4_t5 k4_t6 r
theorem k4_t7_ok : ∀ (i : grid4.Coords) (k4_t4 : Fin k4_t4_loop.trips) (v20 : BitVec 32) (k4_hw1 : k4_chk1 i k4_t4 v20) (k4_t5 : Fin (k4_t5_loop v20).trips), (k4_t7_loop v20 k4_t5).OK := fun i k4_t4 v20 k4_hw1 k4_t5 => k4_hw1.2.2.2.2.2.1 k4_t5
theorem k4_off18_inb : ∀ (i : grid4.Coords) (k4_t4 : Fin k4_t4_loop.trips) (v20 : BitVec 32) (k4_hw1 : k4_chk1 i k4_t4 v20) (k4_t5 : Fin (k4_t5_loop v20).trips) (k4_t7 : Fin (k4_t7_loop v20 k4_t5).trips), ∀ a, (k4_off18 v20 k4_t5 k4_t7) a + S16.size a ≤ S144.size a := fun i k4_t4 v20 k4_hw1 k4_t5 k4_t7 => k4_hw1.2.2.2.2.2.2.1 k4_t5 k4_t7
theorem k4_off20_inb : ∀ (i : grid4.Coords) (k4_t4 : Fin k4_t4_loop.trips) (v20 : BitVec 32) (k4_hw1 : k4_chk1 i k4_t4 v20) (k4_t5 : Fin (k4_t5_loop v20).trips) (k4_t7 : Fin (k4_t7_loop v20 k4_t5).trips), ∀ (r : Fin 4), ∀ a, (k4_off20 v20 k4_t5 k4_t7 (BitVec.ofNat 32 (16 * r.val))) a + S1x16.size a ≤ S64x128.size a := fun i k4_t4 v20 k4_hw1 k4_t5 k4_t7 r => k4_hw1.2.2.2.2.2.2.2.1 k4_t5 k4_t7 r
theorem k4_t8_ok : ∀ (i : grid4.Coords) (k4_t4 : Fin k4_t4_loop.trips) (v20 : BitVec 32) (k4_hw1 : k4_chk1 i k4_t4 v20), (k4_t8_loop v20).OK := fun i k4_t4 v20 k4_hw1 => k4_hw1.2.2.2.2.2.2.2.2.1
theorem k4_off21_inb : ∀ (i : grid4.Coords) (k4_t4 : Fin k4_t4_loop.trips) (v20 : BitVec 32) (k4_hw1 : k4_chk1 i k4_t4 v20) (k4_t8 : Fin (k4_t8_loop v20).trips), ∀ a, (k4_off21 i k4_t4 v20 k4_t8) a + S128.size a ≤ S10240128.size a := fun i k4_t4 v20 k4_hw1 k4_t8 => k4_hw1.2.2.2.2.2.2.2.2.2.1 k4_t8
theorem k4_t9_ok : ∀ (i : grid4.Coords) (k4_t4 : Fin k4_t4_loop.trips) (v20 : BitVec 32) (k4_hw1 : k4_chk1 i k4_t4 v20) (k4_t8 : Fin (k4_t8_loop v20).trips), (k4_t9_loop v20 k4_t8).OK := fun i k4_t4 v20 k4_hw1 k4_t8 => k4_hw1.2.2.2.2.2.2.2.2.2.2.1 k4_t8
theorem k4_off23_inb : ∀ (i : grid4.Coords) (k4_t4 : Fin k4_t4_loop.trips) (v20 : BitVec 32) (k4_hw1 : k4_chk1 i k4_t4 v20) (k4_t8 : Fin (k4_t8_loop v20).trips) (k4_t9 : Fin (k4_t9_loop v20 k4_t8).trips), ∀ a, (k4_off23 v20 k4_t8 k4_t9) a + S16.size a ≤ S144.size a := fun i k4_t4 v20 k4_hw1 k4_t8 k4_t9 => k4_hw1.2.2.2.2.2.2.2.2.2.2.2.1 k4_t8 k4_t9
theorem k4_off25_inb : ∀ (i : grid4.Coords) (k4_t4 : Fin k4_t4_loop.trips) (v20 : BitVec 32) (k4_hw1 : k4_chk1 i k4_t4 v20) (k4_t8 : Fin (k4_t8_loop v20).trips) (k4_t9 : Fin (k4_t9_loop v20 k4_t8).trips), ∀ (r : Fin 4), ∀ a, (k4_off25 v20 k4_t8 k4_t9 (BitVec.ofNat 32 (16 * r.val))) a + S1x16.size a ≤ S64x128.size a := fun i k4_t4 v20 k4_hw1 k4_t8 k4_t9 r => k4_hw1.2.2.2.2.2.2.2.2.2.2.2.2.1 k4_t8 k4_t9 r
theorem k4_t10_ok : ∀ (i : grid4.Coords) (k4_t4 : Fin k4_t4_loop.trips) (v20 : BitVec 32) (k4_hw1 : k4_chk1 i k4_t4 v20) (k4_t8 : Fin (k4_t8_loop v20).trips), (k4_t10_loop v20 k4_t8).OK := fun i k4_t4 v20 k4_hw1 k4_t8 => k4_hw1.2.2.2.2.2.2.2.2.2.2.2.2.2.1 k4_t8
theorem k4_off26_inb : ∀ (i : grid4.Coords) (k4_t4 : Fin k4_t4_loop.trips) (v20 : BitVec 32) (k4_hw1 : k4_chk1 i k4_t4 v20) (k4_t8 : Fin (k4_t8_loop v20).trips) (k4_t10 : Fin (k4_t10_loop v20 k4_t8).trips), ∀ a, (k4_off26 v20 k4_t8 k4_t10) a + S16.size a ≤ S144.size a := fun i k4_t4 v20 k4_hw1 k4_t8 k4_t10 => k4_hw1.2.2.2.2.2.2.2.2.2.2.2.2.2.2.1 k4_t8 k4_t10
theorem k4_off28_inb : ∀ (i : grid4.Coords) (k4_t4 : Fin k4_t4_loop.trips) (v20 : BitVec 32) (k4_hw1 : k4_chk1 i k4_t4 v20) (k4_t8 : Fin (k4_t8_loop v20).trips) (k4_t10 : Fin (k4_t10_loop v20 k4_t8).trips), ∀ (r : Fin 4), ∀ a, (k4_off28 v20 k4_t8 k4_t10 (BitVec.ofNat 32 (16 * r.val))) a + S1x16.size a ≤ S64x128.size a := fun i k4_t4 v20 k4_hw1 k4_t8 k4_t10 r => k4_hw1.2.2.2.2.2.2.2.2.2.2.2.2.2.2.2 k4_t8 k4_t10 r

def k4_mult3 (i : grid4.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_11 : BitVec 32 := 160#32
  let v14 : BitVec 32 := Scalar.muli v1 c160_i32_11
  v14
def k4_off29 (i : grid4.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_11 : BitVec 32 := 160#32
  let v14 : BitVec 32 := Scalar.muli v1 c160_i32_11
  let v15 : BitVec 32 := v14
  let c0_i32_12_r6 : BitVec 32 := 0#32
  ![v15.toNat, 0]
abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨2, ![2, 16], ![false, false]⟩

def k6_off1 (i : grid6.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v4 : BitVec 32 := Scalar.muli v1 c8_i32
  let c16_i32 : BitVec 32 := 16#32
  let v5 : BitVec 32 := Scalar.muli v4 c16_i32
  ![v5.toNat]
@[reducible] def k6_t1_loop (i : grid6.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.subi v1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_1 : BitVec 32 := 1#32
  ⟨c0_i32, v10, c1_i32_1⟩
def k6_off2 (i : grid6.Coords) (k6_t1 : Fin (k6_t1_loop i).trips) : Fin 1 → Nat :=
  let c0_i32 : BitVec 32 := 0#32
  let c1_i32_1 : BitVec 32 := 1#32
  let arg17 : BitVec 32 := Scf.iv c0_i32 c1_i32_1 k6_t1
  let c16_i32_7 : BitVec 32 := 16#32
  let v15 : BitVec 32 := Scalar.muli arg17 c16_i32_7
  let v16 : Index := Scalar.indexCast v15
  ![v16.toNat]
@[reducible] def k6_t2_loop (i : grid6.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.subi v1 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_2 : BitVec 32 := 1#32
  ⟨v10, v7, c1_i32_2⟩
def k6_off3 (i : grid6.Coords) (k6_t2 : Fin (k6_t2_loop i).trips) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.subi v1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_2 : BitVec 32 := 1#32
  let arg17 : BitVec 32 := Scf.iv v10 c1_i32_2 k6_t2
  let c16_i32_7 : BitVec 32 := 16#32
  let v15 : BitVec 32 := Scalar.muli arg17 c16_i32_7
  let v16 : Index := Scalar.indexCast v15
  ![v16.toNat]
@[reducible] def k6_t3_loop : Scf.Loop 32 :=
  let c0_i32_3 : BitVec 32 := 0#32
  let c8_i32_4 : BitVec 32 := 8#32
  let v13 : BitVec 32 := Scalar.addi c0_i32_3 c8_i32_4
  let c1_i32_5 : BitVec 32 := 1#32
  ⟨c0_i32_3, v13, c1_i32_5⟩
def k6_off4 (k6_t3 : Fin k6_t3_loop.trips) : Fin 1 → Nat :=
  let c0_i32_3 : BitVec 32 := 0#32
  let c1_i32_5 : BitVec 32 := 1#32
  let arg17 : BitVec 32 := Scf.iv c0_i32_3 c1_i32_5 k6_t3
  let c16_i32_7 : BitVec 32 := 16#32
  let v15 : BitVec 32 := Scalar.muli arg17 c16_i32_7
  let v16 : Index := Scalar.indexCast v15
  ![v16.toNat]
@[reducible] def k6_t4_loop (v19 : BitVec 32) : Scf.Loop 32 :=
  let c0_i32_17 : BitVec 32 := 0#32
  let c128_i32 : BitVec 32 := 128#32
  let v20 : BitVec 32 := Scalar.addi v19 c128_i32
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c128_i32_9 : BitVec 32 := 128#32
  let c0_i32_12 : BitVec 32 := 0#32
  let v28 : BitVec 1 := Scalar.cmpi .sgt c128_i32_9 c0_i32_12
  let v29 : BitVec 32 := Scalar.extui v28
  let c0_i32_13 : BitVec 32 := 0#32
  let v30 : BitVec 1 := Scalar.cmpi .slt c128_i32_9 c0_i32_13
  let v31 : BitVec 32 := Scalar.extui v30
  let v32 : BitVec 32 := Scalar.subi v29 v31
  let v33 : BitVec 1 := Scalar.cmpi .ne v27 v32
  let v34 : BitVec 32 := Scalar.remsi v21 c128_i32_9
  let c0_i32_14 : BitVec 32 := 0#32
  let v35 : BitVec 1 := Scalar.cmpi .ne v34 c0_i32_14
  let v36 : BitVec 1 := Scalar.andi v33 v35
  let v22 : BitVec 32 := Scalar.divsi v21 c128_i32_9
  let c1_i32_15 : BitVec 32 := 1#32
  let v37 : BitVec 32 := Scalar.subi v22 c1_i32_15
  let v38 : BitVec 32 := Scalar.select v36 v37 v22
  let v42 : BitVec 32 := Scalar.subi v38 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_19 : BitVec 32 := 1#32
  ⟨c0_i32_17, v46, c1_i32_19⟩

def k6_off5 (i : grid6.Coords) (k6_t3 : Fin k6_t3_loop.trips) (v19 : BitVec 32) (k6_t4 : Fin (k6_t4_loop v19).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_16 : BitVec 32 := 8#32
  let v39 : BitVec 32 := Scalar.muli v1 c8_i32_16
  let c0_i32_3 : BitVec 32 := 0#32
  let c1_i32_5 : BitVec 32 := 1#32
  let arg17 : BitVec 32 := Scf.iv c0_i32_3 c1_i32_5 k6_t3
  let v40 : BitVec 32 := Scalar.addi v39 arg17
  let c40000_i32 : BitVec 32 := 40000#32
  let v41 : BitVec 32 := Scalar.muli v40 c40000_i32
  let c0_i32_17 : BitVec 32 := 0#32
  let c1_i32_19 : BitVec 32 := 1#32
  let arg19 : BitVec 32 := Scf.iv c0_i32_17 c1_i32_19 k6_t4
  let c128_i32_21 : BitVec 32 := 128#32
  let v49 : BitVec 32 := Scalar.muli arg19 c128_i32_21
  let v50 : BitVec 32 := Scalar.addi v41 v49
  ![v50.toNat]
@[reducible] def k6_t5_loop : Scf.Loop 32 :=
  let c0_i32_24 : BitVec 32 := 0#32
  let c8_i32_25 : BitVec 32 := 8#32
  let v53 : BitVec 32 := Scalar.addi c0_i32_24 c8_i32_25
  let c1_i32_26 : BitVec 32 := 1#32
  ⟨c0_i32_24, v53, c1_i32_26⟩
def k6_off6 (k6_t5 : Fin k6_t5_loop.trips) : Fin 1 → Nat :=
  let c0_i32_24 : BitVec 32 := 0#32
  let c1_i32_26 : BitVec 32 := 1#32
  let arg21 : BitVec 32 := Scf.iv c0_i32_24 c1_i32_26 k6_t5
  let c16_i32_42 : BitVec 32 := 16#32
  let v62 : BitVec 32 := Scalar.muli arg21 c16_i32_42
  let v63 : Index := Scalar.indexCast v62
  ![v63.toNat]
def k6_off7 (k6_t5 : Fin k6_t5_loop.trips) : Fin 1 → Nat :=
  let c0_i32_24 : BitVec 32 := 0#32
  let c1_i32_26 : BitVec 32 := 1#32
  let arg21 : BitVec 32 := Scf.iv c0_i32_24 c1_i32_26 k6_t5
  let c16_i32_44 : BitVec 32 := 16#32
  let v73 : BitVec 32 := Scalar.muli arg21 c16_i32_44
  let v74 : Index := Scalar.indexCast v73
  ![v74.toNat]
@[reducible] def k6_t6_loop : Scf.Loop 32 :=
  let c0_i32_37 : BitVec 32 := 0#32
  let c64_i32 : BitVec 32 := 64#32
  let v58 : BitVec 32 := Scalar.addi c0_i32_37 c64_i32
  let c1_i32_38 : BitVec 32 := 1#32
  ⟨c0_i32_37, v58, c1_i32_38⟩
def k6_off8 (k6_t6 : Fin k6_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t6
  let v62 : BitVec 32 := Scalar.muli c2_i32_42 arg21
  let v63 : BitVec 32 := Scalar.addi v62 c0_i32_43
  let v64 : Index := Scalar.indexCast v63
  let c0 : Index := 0#32
  ![v64.toNat, 0]
def k6_off9 (k6_t6 : Fin k6_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t6
  let v62 : BitVec 32 := Scalar.muli c2_i32_42 arg21
  let v63 : BitVec 32 := Scalar.addi v62 c0_i32_43
  let v66 : Index := Scalar.indexCast v63
  let c64 : Index := 64#32
  ![v66.toNat, 64]
def k6_off10 (k6_t6 : Fin k6_t6_loop.trips) : Fin 2 → Nat :=
  let c0_i32_37 : BitVec 32 := 0#32
  let c1_i32_38 : BitVec 32 := 1#32
  let arg21 : BitVec 32 := Scf.iv c0_i32_37 c1_i32_38 k6_t6
  let v69 : Index := Scalar.indexCast arg21
  let c0_44 : Index := 0#32
  ![v69.toNat, 0]
def k6_off11 (k6_t6 : Fin k6_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t6
  let v62 : BitVec 32 := Scalar.muli c2_i32_42 arg21
  let v63 : BitVec 32 := Scalar.addi v62 c0_i32_43
  let v71 : Index := Scalar.indexCast v63
  let c16 : Index := 16#32
  ![v71.toNat, 16]
def k6_off12 (k6_t6 : Fin k6_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t6
  let v62 : BitVec 32 := Scalar.muli c2_i32_42 arg21
  let v63 : BitVec 32 := Scalar.addi v62 c0_i32_43
  let v73 : Index := Scalar.indexCast v63
  let c80 : Index := 80#32
  ![v73.toNat, 80]
def k6_off13 (k6_t6 : Fin k6_t6_loop.trips) : Fin 2 → Nat :=
  let c0_i32_37 : BitVec 32 := 0#32
  let c1_i32_38 : BitVec 32 := 1#32
  let arg21 : BitVec 32 := Scf.iv c0_i32_37 c1_i32_38 k6_t6
  let v76 : Index := Scalar.indexCast arg21
  let c16_45 : Index := 16#32
  ![v76.toNat, 16]
def k6_off14 (k6_t6 : Fin k6_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t6
  let v62 : BitVec 32 := Scalar.muli c2_i32_42 arg21
  let v63 : BitVec 32 := Scalar.addi v62 c0_i32_43
  let v78 : Index := Scalar.indexCast v63
  let c32 : Index := 32#32
  ![v78.toNat, 32]
def k6_off15 (k6_t6 : Fin k6_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t6
  let v62 : BitVec 32 := Scalar.muli c2_i32_42 arg21
  let v63 : BitVec 32 := Scalar.addi v62 c0_i32_43
  let v80 : Index := Scalar.indexCast v63
  let c96 : Index := 96#32
  ![v80.toNat, 96]
def k6_off16 (k6_t6 : Fin k6_t6_loop.trips) : Fin 2 → Nat :=
  let c0_i32_37 : BitVec 32 := 0#32
  let c1_i32_38 : BitVec 32 := 1#32
  let arg21 : BitVec 32 := Scf.iv c0_i32_37 c1_i32_38 k6_t6
  let v83 : Index := Scalar.indexCast arg21
  let c32_46 : Index := 32#32
  ![v83.toNat, 32]
def k6_off17 (k6_t6 : Fin k6_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t6
  let v62 : BitVec 32 := Scalar.muli c2_i32_42 arg21
  let v63 : BitVec 32 := Scalar.addi v62 c0_i32_43
  let v85 : Index := Scalar.indexCast v63
  let c48 : Index := 48#32
  ![v85.toNat, 48]
def k6_off18 (k6_t6 : Fin k6_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t6
  let v62 : BitVec 32 := Scalar.muli c2_i32_42 arg21
  let v63 : BitVec 32 := Scalar.addi v62 c0_i32_43
  let v87 : Index := Scalar.indexCast v63
  let c112 : Index := 112#32
  ![v87.toNat, 112]
def k6_off19 (k6_t6 : Fin k6_t6_loop.trips) : Fin 2 → Nat :=
  let c0_i32_37 : BitVec 32 := 0#32
  let c1_i32_38 : BitVec 32 := 1#32
  let arg21 : BitVec 32 := Scf.iv c0_i32_37 c1_i32_38 k6_t6
  let v90 : Index := Scalar.indexCast arg21
  let c48_47 : Index := 48#32
  ![v90.toNat, 48]
def k6_off20 (k6_t6 : Fin k6_t6_loop.trips) : Fin 2 → Nat :=
  let c0_i32_37 : BitVec 32 := 0#32
  let c1_i32_38 : BitVec 32 := 1#32
  let arg21 : BitVec 32 := Scf.iv c0_i32_37 c1_i32_38 k6_t6
  let v99 : Index := Scalar.indexCast arg21
  let c64_52 : Index := 64#32
  ![v99.toNat, 64]
def k6_off21 (k6_t6 : Fin k6_t6_loop.trips) : Fin 2 → Nat :=
  let c0_i32_37 : BitVec 32 := 0#32
  let c1_i32_38 : BitVec 32 := 1#32
  let arg21 : BitVec 32 := Scf.iv c0_i32_37 c1_i32_38 k6_t6
  let v106 : Index := Scalar.indexCast arg21
  let c80_55 : Index := 80#32
  ![v106.toNat, 80]
def k6_off22 (k6_t6 : Fin k6_t6_loop.trips) : Fin 2 → Nat :=
  let c0_i32_37 : BitVec 32 := 0#32
  let c1_i32_38 : BitVec 32 := 1#32
  let arg21 : BitVec 32 := Scf.iv c0_i32_37 c1_i32_38 k6_t6
  let v113 : Index := Scalar.indexCast arg21
  let c96_58 : Index := 96#32
  ![v113.toNat, 96]
def k6_off23 (k6_t6 : Fin k6_t6_loop.trips) : Fin 2 → Nat :=
  let c0_i32_37 : BitVec 32 := 0#32
  let c1_i32_38 : BitVec 32 := 1#32
  let arg21 : BitVec 32 := Scf.iv c0_i32_37 c1_i32_38 k6_t6
  let v120 : Index := Scalar.indexCast arg21
  let c112_61 : Index := 112#32
  ![v120.toNat, 112]
def k6_mult1 (arg20 : BitVec 32) : BitVec 32 :=
  let c64_i32_40 : BitVec 32 := 64#32
  let v59 : BitVec 32 := Scalar.muli arg20 c64_i32_40
  v59

def k6_off24 (arg20 : BitVec 32) : Fin 2 → Nat :=
  let c64_i32_40 : BitVec 32 := 64#32
  let v59 : BitVec 32 := Scalar.muli arg20 c64_i32_40
  let v60 : BitVec 32 := v59
  let c0_i32_42_r3 : BitVec 32 := 0#32
  ![v60.toNat, 0]

def k6_chk2 (arg20 : BitVec 32) : Prop :=
  (8 ∣ (k6_mult1 arg20).toNat) ∧
  (∀ a, (k6_off24 arg20) a + S64x128.size a ≤ S176640x128.size a)
theorem k6_mult1_dvd : ∀ (arg20 : BitVec 32) (k6_hw2 : k6_chk2 arg20), 8 ∣ (k6_mult1 arg20).toNat := fun arg20 k6_hw2 => k6_hw2.1
theorem k6_off24_inb : ∀ (arg20 : BitVec 32) (k6_hw2 : k6_chk2 arg20), ∀ a, (k6_off24 arg20) a + S64x128.size a ≤ S176640x128.size a := fun arg20 k6_hw2 => k6_hw2.2

@[reducible] def k6_t7_loop (v19 : BitVec 32) : Scf.Loop 32 :=
  let c0_i32_17 : BitVec 32 := 0#32
  let c128_i32 : BitVec 32 := 128#32
  let v20 : BitVec 32 := Scalar.addi v19 c128_i32
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c128_i32_9 : BitVec 32 := 128#32
  let c0_i32_12 : BitVec 32 := 0#32
  let v28 : BitVec 1 := Scalar.cmpi .sgt c128_i32_9 c0_i32_12
  let v29 : BitVec 32 := Scalar.extui v28
  let c0_i32_13 : BitVec 32 := 0#32
  let v30 : BitVec 1 := Scalar.cmpi .slt c128_i32_9 c0_i32_13
  let v31 : BitVec 32 := Scalar.extui v30
  let v32 : BitVec 32 := Scalar.subi v29 v31
  let v33 : BitVec 1 := Scalar.cmpi .ne v27 v32
  let v34 : BitVec 32 := Scalar.remsi v21 c128_i32_9
  let c0_i32_14 : BitVec 32 := 0#32
  let v35 : BitVec 1 := Scalar.cmpi .ne v34 c0_i32_14
  let v36 : BitVec 1 := Scalar.andi v33 v35
  let v22 : BitVec 32 := Scalar.divsi v21 c128_i32_9
  let c1_i32_15 : BitVec 32 := 1#32
  let v37 : BitVec 32 := Scalar.subi v22 c1_i32_15
  let v38 : BitVec 32 := Scalar.select v36 v37 v22
  let v42 : BitVec 32 := Scalar.subi v38 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let v43 : BitVec 32 := Scalar.addi c0_i32_17 v42
  let c1_i32_20 : BitVec 32 := 1#32
  ⟨v46, v43, c1_i32_20⟩
def k6_off25 (i : grid6.Coords) (k6_t3 : Fin k6_t3_loop.trips) (v19 : BitVec 32) (k6_t7 : Fin (k6_t7_loop v19).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_16 : BitVec 32 := 8#32
  let v39 : BitVec 32 := Scalar.muli v1 c8_i32_16
  let c0_i32_3 : BitVec 32 := 0#32
  let c1_i32_5 : BitVec 32 := 1#32
  let arg17 : BitVec 32 := Scf.iv c0_i32_3 c1_i32_5 k6_t3
  let v40 : BitVec 32 := Scalar.addi v39 arg17
  let c40000_i32 : BitVec 32 := 40000#32
  let v41 : BitVec 32 := Scalar.muli v40 c40000_i32
  let c0_i32_17 : BitVec 32 := 0#32
  let c128_i32 : BitVec 32 := 128#32
  let v20 : BitVec 32 := Scalar.addi v19 c128_i32
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c128_i32_9 : BitVec 32 := 128#32
  let c0_i32_12 : BitVec 32 := 0#32
  let v28 : BitVec 1 := Scalar.cmpi .sgt c128_i32_9 c0_i32_12
  let v29 : BitVec 32 := Scalar.extui v28
  let c0_i32_13 : BitVec 32 := 0#32
  let v30 : BitVec 1 := Scalar.cmpi .slt c128_i32_9 c0_i32_13
  let v31 : BitVec 32 := Scalar.extui v30
  let v32 : BitVec 32 := Scalar.subi v29 v31
  let v33 : BitVec 1 := Scalar.cmpi .ne v27 v32
  let v34 : BitVec 32 := Scalar.remsi v21 c128_i32_9
  let c0_i32_14 : BitVec 32 := 0#32
  let v35 : BitVec 1 := Scalar.cmpi .ne v34 c0_i32_14
  let v36 : BitVec 1 := Scalar.andi v33 v35
  let v22 : BitVec 32 := Scalar.divsi v21 c128_i32_9
  let c1_i32_15 : BitVec 32 := 1#32
  let v37 : BitVec 32 := Scalar.subi v22 c1_i32_15
  let v38 : BitVec 32 := Scalar.select v36 v37 v22
  let v42 : BitVec 32 := Scalar.subi v38 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg19 : BitVec 32 := Scf.iv v46 c1_i32_20 k6_t7
  let c128_i32_21 : BitVec 32 := 128#32
  let v49 : BitVec 32 := Scalar.muli arg19 c128_i32_21
  let v50 : BitVec 32 := Scalar.addi v41 v49
  ![v50.toNat]

def k6_chk1 (i : grid6.Coords) (k6_t3 : Fin k6_t3_loop.trips) (v19 : BitVec 32) : Prop :=
  ((k6_t4_loop v19).OK) ∧
  (∀ k6_t4 : Fin (k6_t4_loop v19).trips, ∀ a, (k6_off5 i k6_t3 v19 k6_t4) a + S128.size a ≤ S10240128.size a) ∧
  ((k6_t7_loop v19).OK) ∧
  (∀ k6_t7 : Fin (k6_t7_loop v19).trips, ∀ a, (k6_off25 i k6_t3 v19 k6_t7) a + S128.size a ≤ S10240128.size a)
theorem k6_t4_ok : ∀ (i : grid6.Coords) (k6_t3 : Fin k6_t3_loop.trips) (v19 : BitVec 32) (k6_hw1 : k6_chk1 i k6_t3 v19), (k6_t4_loop v19).OK := fun i k6_t3 v19 k6_hw1 => k6_hw1.1
theorem k6_off5_inb : ∀ (i : grid6.Coords) (k6_t3 : Fin k6_t3_loop.trips) (v19 : BitVec 32) (k6_hw1 : k6_chk1 i k6_t3 v19) (k6_t4 : Fin (k6_t4_loop v19).trips), ∀ a, (k6_off5 i k6_t3 v19 k6_t4) a + S128.size a ≤ S10240128.size a := fun i k6_t3 v19 k6_hw1 k6_t4 => k6_hw1.2.1 k6_t4
theorem k6_t7_ok : ∀ (i : grid6.Coords) (k6_t3 : Fin k6_t3_loop.trips) (v19 : BitVec 32) (k6_hw1 : k6_chk1 i k6_t3 v19), (k6_t7_loop v19).OK := fun i k6_t3 v19 k6_hw1 => k6_hw1.2.2.1
theorem k6_off25_inb : ∀ (i : grid6.Coords) (k6_t3 : Fin k6_t3_loop.trips) (v19 : BitVec 32) (k6_hw1 : k6_chk1 i k6_t3 v19) (k6_t7 : Fin (k6_t7_loop v19).trips), ∀ a, (k6_off25 i k6_t3 v19 k6_t7) a + S128.size a ≤ S10240128.size a := fun i k6_t3 v19 k6_hw1 k6_t7 => k6_hw1.2.2.2 k6_t7

@[reducible] def k6_t8_loop : Scf.Loop 32 :=
  let c0_i32_24 : BitVec 32 := 0#32
  let c8_i32_25 : BitVec 32 := 8#32
  let v53 : BitVec 32 := Scalar.addi c0_i32_24 c8_i32_25
  let c1_i32_26 : BitVec 32 := 1#32
  ⟨c0_i32_24, v53, c1_i32_26⟩
def k6_off26 (k6_t8 : Fin k6_t8_loop.trips) : Fin 1 → Nat :=
  let c0_i32_24 : BitVec 32 := 0#32
  let c1_i32_26 : BitVec 32 := 1#32
  let arg21 : BitVec 32 := Scf.iv c0_i32_24 c1_i32_26 k6_t8
  let c16_i32_42 : BitVec 32 := 16#32
  let v62 : BitVec 32 := Scalar.muli arg21 c16_i32_42
  let v63 : Index := Scalar.indexCast v62
  ![v63.toNat]
def k6_off27 (k6_t8 : Fin k6_t8_loop.trips) : Fin 1 → Nat :=
  let c0_i32_24 : BitVec 32 := 0#32
  let c1_i32_26 : BitVec 32 := 1#32
  let arg21 : BitVec 32 := Scf.iv c0_i32_24 c1_i32_26 k6_t8
  let c16_i32_44 : BitVec 32 := 16#32
  let v73 : BitVec 32 := Scalar.muli arg21 c16_i32_44
  let v74 : Index := Scalar.indexCast v73
  ![v74.toNat]
@[reducible] def k6_t9_loop : Scf.Loop 32 :=
  let c0_i32_37 : BitVec 32 := 0#32
  let c64_i32 : BitVec 32 := 64#32
  let v58 : BitVec 32 := Scalar.addi c0_i32_37 c64_i32
  let c1_i32_38 : BitVec 32 := 1#32
  ⟨c0_i32_37, v58, c1_i32_38⟩
def k6_off28 (k6_t9 : Fin k6_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t9
  let v62 : BitVec 32 := Scalar.muli c2_i32_42 arg21
  let v63 : BitVec 32 := Scalar.addi v62 c0_i32_43
  let v64 : Index := Scalar.indexCast v63
  let c0 : Index := 0#32
  ![v64.toNat, 0]
def k6_off29 (k6_t9 : Fin k6_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t9
  let v62 : BitVec 32 := Scalar.muli c2_i32_42 arg21
  let v63 : BitVec 32 := Scalar.addi v62 c0_i32_43
  let v66 : Index := Scalar.indexCast v63
  let c64 : Index := 64#32
  ![v66.toNat, 64]
def k6_off30 (k6_t9 : Fin k6_t9_loop.trips) : Fin 2 → Nat :=
  let c0_i32_37 : BitVec 32 := 0#32
  let c1_i32_38 : BitVec 32 := 1#32
  let arg21 : BitVec 32 := Scf.iv c0_i32_37 c1_i32_38 k6_t9
  let v69 : Index := Scalar.indexCast arg21
  let c0_44 : Index := 0#32
  ![v69.toNat, 0]
def k6_off31 (k6_t9 : Fin k6_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t9
  let v62 : BitVec 32 := Scalar.muli c2_i32_42 arg21
  let v63 : BitVec 32 := Scalar.addi v62 c0_i32_43
  let v71 : Index := Scalar.indexCast v63
  let c16 : Index := 16#32
  ![v71.toNat, 16]
def k6_off32 (k6_t9 : Fin k6_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t9
  let v62 : BitVec 32 := Scalar.muli c2_i32_42 arg21
  let v63 : BitVec 32 := Scalar.addi v62 c0_i32_43
  let v73 : Index := Scalar.indexCast v63
  let c80 : Index := 80#32
  ![v73.toNat, 80]
def k6_off33 (k6_t9 : Fin k6_t9_loop.trips) : Fin 2 → Nat :=
  let c0_i32_37 : BitVec 32 := 0#32
  let c1_i32_38 : BitVec 32 := 1#32
  let arg21 : BitVec 32 := Scf.iv c0_i32_37 c1_i32_38 k6_t9
  let v76 : Index := Scalar.indexCast arg21
  let c16_45 : Index := 16#32
  ![v76.toNat, 16]
def k6_off34 (k6_t9 : Fin k6_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t9
  let v62 : BitVec 32 := Scalar.muli c2_i32_42 arg21
  let v63 : BitVec 32 := Scalar.addi v62 c0_i32_43
  let v78 : Index := Scalar.indexCast v63
  let c32 : Index := 32#32
  ![v78.toNat, 32]
def k6_off35 (k6_t9 : Fin k6_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t9
  let v62 : BitVec 32 := Scalar.muli c2_i32_42 arg21
  let v63 : BitVec 32 := Scalar.addi v62 c0_i32_43
  let v80 : Index := Scalar.indexCast v63
  let c96 : Index := 96#32
  ![v80.toNat, 96]
def k6_off36 (k6_t9 : Fin k6_t9_loop.trips) : Fin 2 → Nat :=
  let c0_i32_37 : BitVec 32 := 0#32
  let c1_i32_38 : BitVec 32 := 1#32
  let arg21 : BitVec 32 := Scf.iv c0_i32_37 c1_i32_38 k6_t9
  let v83 : Index := Scalar.indexCast arg21
  let c32_46 : Index := 32#32
  ![v83.toNat, 32]
def k6_off37 (k6_t9 : Fin k6_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t9
  let v62 : BitVec 32 := Scalar.muli c2_i32_42 arg21
  let v63 : BitVec 32 := Scalar.addi v62 c0_i32_43
  let v85 : Index := Scalar.indexCast v63
  let c48 : Index := 48#32
  ![v85.toNat, 48]
def k6_off38 (k6_t9 : Fin k6_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k6_t9
  let v62 : BitVec 32 := Scalar.muli c2_i32_42 arg21
  let v63 : BitVec 32 := Scalar.addi v62 c0_i32_43
  let v87 : Index := Scalar.indexCast v63
  let c112 : Index := 112#32
  ![v87.toNat, 112]
def k6_off39 (k6_t9 : Fin k6_t9_loop.trips) : Fin 2 → Nat :=
  let c0_i32_37 : BitVec 32 := 0#32
  let c1_i32_38 : BitVec 32 := 1#32
  let arg21 : BitVec 32 := Scf.iv c0_i32_37 c1_i32_38 k6_t9
  let v90 : Index := Scalar.indexCast arg21
  let c48_47 : Index := 48#32
  ![v90.toNat, 48]
def k6_off40 (k6_t9 : Fin k6_t9_loop.trips) : Fin 2 → Nat :=
  let c0_i32_37 : BitVec 32 := 0#32
  let c1_i32_38 : BitVec 32 := 1#32
  let arg21 : BitVec 32 := Scf.iv c0_i32_37 c1_i32_38 k6_t9
  let v99 : Index := Scalar.indexCast arg21
  let c64_52 : Index := 64#32
  ![v99.toNat, 64]
def k6_off41 (k6_t9 : Fin k6_t9_loop.trips) : Fin 2 → Nat :=
  let c0_i32_37 : BitVec 32 := 0#32
  let c1_i32_38 : BitVec 32 := 1#32
  let arg21 : BitVec 32 := Scf.iv c0_i32_37 c1_i32_38 k6_t9
  let v106 : Index := Scalar.indexCast arg21
  let c80_55 : Index := 80#32
  ![v106.toNat, 80]
def k6_off42 (k6_t9 : Fin k6_t9_loop.trips) : Fin 2 → Nat :=
  let c0_i32_37 : BitVec 32 := 0#32
  let c1_i32_38 : BitVec 32 := 1#32
  let arg21 : BitVec 32 := Scf.iv c0_i32_37 c1_i32_38 k6_t9
  let v113 : Index := Scalar.indexCast arg21
  let c96_58 : Index := 96#32
  ![v113.toNat, 96]
def k6_off43 (k6_t9 : Fin k6_t9_loop.trips) : Fin 2 → Nat :=
  let c0_i32_37 : BitVec 32 := 0#32
  let c1_i32_38 : BitVec 32 := 1#32
  let arg21 : BitVec 32 := Scf.iv c0_i32_37 c1_i32_38 k6_t9
  let v120 : Index := Scalar.indexCast arg21
  let c112_61 : Index := 112#32
  ![v120.toNat, 112]
def k6_mult2 (arg20 : BitVec 32) : BitVec 32 :=
  let c64_i32_40 : BitVec 32 := 64#32
  let v59 : BitVec 32 := Scalar.muli arg20 c64_i32_40
  v59

def k6_off44 (arg20 : BitVec 32) : Fin 2 → Nat :=
  let c64_i32_40 : BitVec 32 := 64#32
  let v59 : BitVec 32 := Scalar.muli arg20 c64_i32_40
  let v60 : BitVec 32 := v59
  let c0_i32_42_r5 : BitVec 32 := 0#32
  ![v60.toNat, 0]

def k6_chk3 (arg20 : BitVec 32) : Prop :=
  (8 ∣ (k6_mult2 arg20).toNat) ∧
  (∀ a, (k6_off44 arg20) a + S64x128.size a ≤ S176640x128.size a)
theorem k6_mult2_dvd : ∀ (arg20 : BitVec 32) (k6_hw3 : k6_chk3 arg20), 8 ∣ (k6_mult2 arg20).toNat := fun arg20 k6_hw3 => k6_hw3.1
theorem k6_off44_inb : ∀ (arg20 : BitVec 32) (k6_hw3 : k6_chk3 arg20), ∀ a, (k6_off44 arg20) a + S64x128.size a ≤ S176640x128.size a := fun arg20 k6_hw3 => k6_hw3.2

abbrev grid7 : Pipeline.Grid := ⟨1, ![92], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1920x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1920x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨2, ![2, 16], ![false, false]⟩

def k8_off1 (i : grid8.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32 : BitVec 32 := 16#32
  let v3 : BitVec 32 := Scalar.muli v2 c16_i32
  ![v3.toNat]
@[reducible] def k8_t1_loop (i : grid8.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.subi v1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_1 : BitVec 32 := 1#32
  ⟨c0_i32, v8, c1_i32_1⟩
def k8_off2 (i : grid8.Coords) (k8_t1 : Fin (k8_t1_loop i).trips) : Fin 1 → Nat :=
  let c0_i32 : BitVec 32 := 0#32
  let c1_i32_1 : BitVec 32 := 1#32
  let arg12 : BitVec 32 := Scf.iv c0_i32 c1_i32_1 k8_t1
  let c16_i32_12 : BitVec 32 := 16#32
  let v16 : BitVec 32 := Scalar.muli arg12 c16_i32_12
  let v17 : Index := Scalar.indexCast v16
  ![v17.toNat]
@[reducible] def k8_t2_loop (i : grid8.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.subi v1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_2 : BitVec 32 := 1#32
  ⟨v8, v5, c1_i32_2⟩
def k8_off3 (i : grid8.Coords) (k8_t2 : Fin (k8_t2_loop i).trips) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.subi v1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_2 : BitVec 32 := 1#32
  let arg12 : BitVec 32 := Scf.iv v8 c1_i32_2 k8_t2
  let c16_i32_12 : BitVec 32 := 16#32
  let v16 : BitVec 32 := Scalar.muli arg12 c16_i32_12
  let v17 : Index := Scalar.indexCast v16
  ![v17.toNat]
@[reducible] def k8_t3_loop : Scf.Loop 32 :=
  let c0_i32_4 : BitVec 32 := 0#32
  let c160_i32 : BitVec 32 := 160#32
  let v11 : BitVec 32 := Scalar.addi c0_i32_4 c160_i32
  let c1_i32_5 : BitVec 32 := 1#32
  ⟨c0_i32_4, v11, c1_i32_5⟩
def k8_off4 (k8_t3 : Fin k8_t3_loop.trips) : Fin 2 → Nat :=
  let c0_i32_4 : BitVec 32 := 0#32
  let c1_i32_5 : BitVec 32 := 1#32
  let arg12 : BitVec 32 := Scf.iv c0_i32_4 c1_i32_5 k8_t3
  let v17 : Index := Scalar.indexCast arg12
  let c0 : Index := 0#32
  ![v17.toNat, 0]
def k8_off5 (k8_t3 : Fin k8_t3_loop.trips) : Fin 2 → Nat :=
  let c0_i32_4 : BitVec 32 := 0#32
  let c1_i32_5 : BitVec 32 := 1#32
  let arg12 : BitVec 32 := Scf.iv c0_i32_4 c1_i32_5 k8_t3
  let v20 : Index := Scalar.indexCast arg12
  let c16 : Index := 16#32
  ![v20.toNat, 16]
def k8_off6 (k8_t3 : Fin k8_t3_loop.trips) : Fin 2 → Nat :=
  let c0_i32_4 : BitVec 32 := 0#32
  let c1_i32_5 : BitVec 32 := 1#32
  let arg12 : BitVec 32 := Scf.iv c0_i32_4 c1_i32_5 k8_t3
  let v23 : Index := Scalar.indexCast arg12
  let c32 : Index := 32#32
  ![v23.toNat, 32]
def k8_off7 (k8_t3 : Fin k8_t3_loop.trips) : Fin 2 → Nat :=
  let c0_i32_4 : BitVec 32 := 0#32
  let c1_i32_5 : BitVec 32 := 1#32
  let arg12 : BitVec 32 := Scf.iv c0_i32_4 c1_i32_5 k8_t3
  let v26 : Index := Scalar.indexCast arg12
  let c48 : Index := 48#32
  ![v26.toNat, 48]
def k8_off8 (k8_t3 : Fin k8_t3_loop.trips) : Fin 2 → Nat :=
  let c0_i32_4 : BitVec 32 := 0#32
  let c1_i32_5 : BitVec 32 := 1#32
  let arg12 : BitVec 32 := Scf.iv c0_i32_4 c1_i32_5 k8_t3
  let v29 : Index := Scalar.indexCast arg12
  let c64 : Index := 64#32
  ![v29.toNat, 64]
def k8_off9 (k8_t3 : Fin k8_t3_loop.trips) : Fin 2 → Nat :=
  let c0_i32_4 : BitVec 32 := 0#32
  let c1_i32_5 : BitVec 32 := 1#32
  let arg12 : BitVec 32 := Scf.iv c0_i32_4 c1_i32_5 k8_t3
  let v32 : Index := Scalar.indexCast arg12
  let c80 : Index := 80#32
  ![v32.toNat, 80]
def k8_off10 (k8_t3 : Fin k8_t3_loop.trips) : Fin 2 → Nat :=
  let c0_i32_4 : BitVec 32 := 0#32
  let c1_i32_5 : BitVec 32 := 1#32
  let arg12 : BitVec 32 := Scf.iv c0_i32_4 c1_i32_5 k8_t3
  let v35 : Index := Scalar.indexCast arg12
  let c96 : Index := 96#32
  ![v35.toNat, 96]
def k8_off11 (k8_t3 : Fin k8_t3_loop.trips) : Fin 2 → Nat :=
  let c0_i32_4 : BitVec 32 := 0#32
  let c1_i32_5 : BitVec 32 := 1#32
  let arg12 : BitVec 32 := Scf.iv c0_i32_4 c1_i32_5 k8_t3
  let v38 : Index := Scalar.indexCast arg12
  let c112 : Index := 112#32
  ![v38.toNat, 112]
@[reducible] def k8_t4_loop : Scf.Loop 32 :=
  let c0_i32_7 : BitVec 32 := 0#32
  let c8_i32_8 : BitVec 32 := 8#32
  let v12 : BitVec 32 := Scalar.addi c0_i32_7 c8_i32_8
  let c1_i32_9 : BitVec 32 := 1#32
  ⟨c0_i32_7, v12, c1_i32_9⟩
def k8_off12 (k8_t4 : Fin k8_t4_loop.trips) : Fin 1 → Nat :=
  let c0_i32_7 : BitVec 32 := 0#32
  let c1_i32_9 : BitVec 32 := 1#32
  let arg12 : BitVec 32 := Scf.iv c0_i32_7 c1_i32_9 k8_t4
  let c16_i32_12 : BitVec 32 := 16#32
  let v16 : BitVec 32 := Scalar.muli arg12 c16_i32_12
  let v17 : Index := Scalar.indexCast v16
  ![v17.toNat]
@[reducible] def k8_t5_loop (v20 : BitVec 32) : Scf.Loop 32 :=
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_24 : BitVec 32 := 1#32
  ⟨c0_i32_22, v47, c1_i32_24⟩

def k8_off13 (i : grid8.Coords) (k8_t4 : Fin k8_t4_loop.trips) (v20 : BitVec 32) (k8_t5 : Fin (k8_t5_loop v20).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_21 : BitVec 32 := 8#32
  let v40 : BitVec 32 := Scalar.muli v1 c8_i32_21
  let c0_i32_7 : BitVec 32 := 0#32
  let c1_i32_9 : BitVec 32 := 1#32
  let arg12 : BitVec 32 := Scf.iv c0_i32_7 c1_i32_9 k8_t4
  let v41 : BitVec 32 := Scalar.addi v40 arg12
  let c40000_i32 : BitVec 32 := 40000#32
  let v42 : BitVec 32 := Scalar.muli v41 c40000_i32
  let c0_i32_22 : BitVec 32 := 0#32
  let c1_i32_24 : BitVec 32 := 1#32
  let arg14 : BitVec 32 := Scf.iv c0_i32_22 c1_i32_24 k8_t5
  let c128_i32_26 : BitVec 32 := 128#32
  let v50 : BitVec 32 := Scalar.muli arg14 c128_i32_26
  let v51 : BitVec 32 := Scalar.addi v42 v50
  ![v51.toNat]
def k8_mult1 (arg15 : BitVec 32) : BitVec 32 :=
  let c64_i32 : BitVec 32 := 64#32
  let v55 : BitVec 32 := Scalar.muli arg15 c64_i32
  v55

def k8_off14 (arg15 : BitVec 32) : Fin 2 → Nat :=
  let c64_i32 : BitVec 32 := 64#32
  let v55 : BitVec 32 := Scalar.muli arg15 c64_i32
  let v56 : BitVec 32 := v55
  let c0_i32_35_r3 : BitVec 32 := 0#32
  ![v56.toNat, 0]

def k8_chk2 (arg15 : BitVec 32) : Prop :=
  (8 ∣ (k8_mult1 arg15).toNat) ∧
  (∀ a, (k8_off14 arg15) a + S64x128.size a ≤ S176640x128.size a)
theorem k8_mult1_dvd : ∀ (arg15 : BitVec 32) (k8_hw2 : k8_chk2 arg15), 8 ∣ (k8_mult1 arg15).toNat := fun arg15 k8_hw2 => k8_hw2.1
theorem k8_off14_inb : ∀ (arg15 : BitVec 32) (k8_hw2 : k8_chk2 arg15), ∀ a, (k8_off14 arg15) a + S64x128.size a ≤ S176640x128.size a := fun arg15 k8_hw2 => k8_hw2.2

@[reducible] def k8_t6_loop (v20 : BitVec 32) (k8_t5 : Fin (k8_t5_loop v20).trips) : Scf.Loop 32 :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k8_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_32 : BitVec 32 := 1#32
  ⟨c0_i32_30, v61, c1_i32_32⟩
def k8_off15 (v20 : BitVec 32) (k8_t5 : Fin (k8_t5_loop v20).trips) (k8_t6 : Fin (k8_t6_loop v20 k8_t5).trips) : Fin 1 → Nat :=
  let c0_i32_30 : BitVec 32 := 0#32
  let c1_i32_32 : BitVec 32 := 1#32
  let arg16 : BitVec 32 := Scf.iv c0_i32_30 c1_i32_32 k8_t6
  let v63 : Index := Scalar.indexCast arg16
  ![v63.toNat]
def k8_off16 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k8_chk3 (v66 : BitVec 32) : Prop :=
  (∀ (r : Fin 4), ∀ a, (k8_off16 v66 (BitVec.ofNat 32 (16 * r.val))) a + S1x16.size a ≤ S160x128.size a)
theorem k8_off16_inb : ∀ (v66 : BitVec 32) (k8_hw3 : k8_chk3 v66), ∀ (r : Fin 4), ∀ a, (k8_off16 v66 (BitVec.ofNat 32 (16 * r.val))) a + S1x16.size a ≤ S160x128.size a := fun v66 k8_hw3 r => k8_hw3 r

def k8_off17 (v20 : BitVec 32) (k8_t5 : Fin (k8_t5_loop v20).trips) (k8_t6 : Fin (k8_t6_loop v20 k8_t5).trips) (c0_i32_42 : BitVec 32) : Fin 2 → Nat :=
  let c0_i32_30 : BitVec 32 := 0#32
  let c1_i32_32 : BitVec 32 := 1#32
  let arg16 : BitVec 32 := Scf.iv c0_i32_30 c1_i32_32 k8_t6
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]
@[reducible] def k8_t7_loop (v20 : BitVec 32) (k8_t5 : Fin (k8_t5_loop v20).trips) : Scf.Loop 32 :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k8_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let v58 : BitVec 32 := Scalar.addi c0_i32_30 v57
  let c1_i32_33 : BitVec 32 := 1#32
  ⟨v61, v58, c1_i32_33⟩
def k8_off18 (v20 : BitVec 32) (k8_t5 : Fin (k8_t5_loop v20).trips) (k8_t7 : Fin (k8_t7_loop v20 k8_t5).trips) : Fin 1 → Nat :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k8_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k8_t7
  let v63 : Index := Scalar.indexCast arg16
  ![v63.toNat]
def k8_off19 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k8_chk4 (v66 : BitVec 32) : Prop :=
  (∀ (r : Fin 4), ∀ a, (k8_off19 v66 (BitVec.ofNat 32 (16 * r.val))) a + S1x16.size a ≤ S160x128.size a)
theorem k8_off19_inb : ∀ (v66 : BitVec 32) (k8_hw4 : k8_chk4 v66), ∀ (r : Fin 4), ∀ a, (k8_off19 v66 (BitVec.ofNat 32 (16 * r.val))) a + S1x16.size a ≤ S160x128.size a := fun v66 k8_hw4 r => k8_hw4 r

def k8_off20 (v20 : BitVec 32) (k8_t5 : Fin (k8_t5_loop v20).trips) (k8_t7 : Fin (k8_t7_loop v20 k8_t5).trips) (c0_i32_42 : BitVec 32) : Fin 2 → Nat :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k8_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k8_t7
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]
@[reducible] def k8_t8_loop (v20 : BitVec 32) : Scf.Loop 32 :=
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let v44 : BitVec 32 := Scalar.addi c0_i32_22 v43
  let c1_i32_25 : BitVec 32 := 1#32
  ⟨v47, v44, c1_i32_25⟩
def k8_off21 (i : grid8.Coords) (k8_t4 : Fin k8_t4_loop.trips) (v20 : BitVec 32) (k8_t8 : Fin (k8_t8_loop v20).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_21 : BitVec 32 := 8#32
  let v40 : BitVec 32 := Scalar.muli v1 c8_i32_21
  let c0_i32_7 : BitVec 32 := 0#32
  let c1_i32_9 : BitVec 32 := 1#32
  let arg12 : BitVec 32 := Scf.iv c0_i32_7 c1_i32_9 k8_t4
  let v41 : BitVec 32 := Scalar.addi v40 arg12
  let c40000_i32 : BitVec 32 := 40000#32
  let v42 : BitVec 32 := Scalar.muli v41 c40000_i32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k8_t8
  let c128_i32_26 : BitVec 32 := 128#32
  let v50 : BitVec 32 := Scalar.muli arg14 c128_i32_26
  let v51 : BitVec 32 := Scalar.addi v42 v50
  ![v51.toNat]
def k8_mult2 (arg15 : BitVec 32) : BitVec 32 :=
  let c64_i32 : BitVec 32 := 64#32
  let v55 : BitVec 32 := Scalar.muli arg15 c64_i32
  v55

def k8_off22 (arg15 : BitVec 32) : Fin 2 → Nat :=
  let c64_i32 : BitVec 32 := 64#32
  let v55 : BitVec 32 := Scalar.muli arg15 c64_i32
  let v56 : BitVec 32 := v55
  let c0_i32_35_r5 : BitVec 32 := 0#32
  ![v56.toNat, 0]

def k8_chk5 (arg15 : BitVec 32) : Prop :=
  (8 ∣ (k8_mult2 arg15).toNat) ∧
  (∀ a, (k8_off22 arg15) a + S64x128.size a ≤ S176640x128.size a)
theorem k8_mult2_dvd : ∀ (arg15 : BitVec 32) (k8_hw5 : k8_chk5 arg15), 8 ∣ (k8_mult2 arg15).toNat := fun arg15 k8_hw5 => k8_hw5.1
theorem k8_off22_inb : ∀ (arg15 : BitVec 32) (k8_hw5 : k8_chk5 arg15), ∀ a, (k8_off22 arg15) a + S64x128.size a ≤ S176640x128.size a := fun arg15 k8_hw5 => k8_hw5.2

@[reducible] def k8_t9_loop (v20 : BitVec 32) (k8_t8 : Fin (k8_t8_loop v20).trips) : Scf.Loop 32 :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k8_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_32 : BitVec 32 := 1#32
  ⟨c0_i32_30, v61, c1_i32_32⟩
def k8_off23 (v20 : BitVec 32) (k8_t8 : Fin (k8_t8_loop v20).trips) (k8_t9 : Fin (k8_t9_loop v20 k8_t8).trips) : Fin 1 → Nat :=
  let c0_i32_30 : BitVec 32 := 0#32
  let c1_i32_32 : BitVec 32 := 1#32
  let arg16 : BitVec 32 := Scf.iv c0_i32_30 c1_i32_32 k8_t9
  let v63 : Index := Scalar.indexCast arg16
  ![v63.toNat]
def k8_off24 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k8_chk6 (v66 : BitVec 32) : Prop :=
  (∀ (r : Fin 4), ∀ a, (k8_off24 v66 (BitVec.ofNat 32 (16 * r.val))) a + S1x16.size a ≤ S160x128.size a)
theorem k8_off24_inb : ∀ (v66 : BitVec 32) (k8_hw6 : k8_chk6 v66), ∀ (r : Fin 4), ∀ a, (k8_off24 v66 (BitVec.ofNat 32 (16 * r.val))) a + S1x16.size a ≤ S160x128.size a := fun v66 k8_hw6 r => k8_hw6 r

def k8_off25 (v20 : BitVec 32) (k8_t8 : Fin (k8_t8_loop v20).trips) (k8_t9 : Fin (k8_t9_loop v20 k8_t8).trips) (c0_i32_42 : BitVec 32) : Fin 2 → Nat :=
  let c0_i32_30 : BitVec 32 := 0#32
  let c1_i32_32 : BitVec 32 := 1#32
  let arg16 : BitVec 32 := Scf.iv c0_i32_30 c1_i32_32 k8_t9
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]
@[reducible] def k8_t10_loop (v20 : BitVec 32) (k8_t8 : Fin (k8_t8_loop v20).trips) : Scf.Loop 32 :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k8_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let v58 : BitVec 32 := Scalar.addi c0_i32_30 v57
  let c1_i32_33 : BitVec 32 := 1#32
  ⟨v61, v58, c1_i32_33⟩
def k8_off26 (v20 : BitVec 32) (k8_t8 : Fin (k8_t8_loop v20).trips) (k8_t10 : Fin (k8_t10_loop v20 k8_t8).trips) : Fin 1 → Nat :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k8_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k8_t10
  let v63 : Index := Scalar.indexCast arg16
  ![v63.toNat]
def k8_off27 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k8_chk7 (v66 : BitVec 32) : Prop :=
  (∀ (r : Fin 4), ∀ a, (k8_off27 v66 (BitVec.ofNat 32 (16 * r.val))) a + S1x16.size a ≤ S160x128.size a)
theorem k8_off27_inb : ∀ (v66 : BitVec 32) (k8_hw7 : k8_chk7 v66), ∀ (r : Fin 4), ∀ a, (k8_off27 v66 (BitVec.ofNat 32 (16 * r.val))) a + S1x16.size a ≤ S160x128.size a := fun v66 k8_hw7 r => k8_hw7 r

def k8_off28 (v20 : BitVec 32) (k8_t8 : Fin (k8_t8_loop v20).trips) (k8_t10 : Fin (k8_t10_loop v20 k8_t8).trips) (c0_i32_42 : BitVec 32) : Fin 2 → Nat :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k8_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k8_t10
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]

def k8_chk1 (i : grid8.Coords) (k8_t4 : Fin k8_t4_loop.trips) (v20 : BitVec 32) : Prop :=
  ((k8_t5_loop v20).OK) ∧
  (∀ k8_t5 : Fin (k8_t5_loop v20).trips, ∀ a, (k8_off13 i k8_t4 v20 k8_t5) a + S128.size a ≤ S10240128.size a) ∧
  (∀ k8_t5 : Fin (k8_t5_loop v20).trips, (k8_t6_loop v20 k8_t5).OK) ∧
  (∀ (k8_t5 : Fin (k8_t5_loop v20).trips) (k8_t6 : Fin (k8_t6_loop v20 k8_t5).trips), ∀ a, (k8_off15 v20 k8_t5 k8_t6) a + S16.size a ≤ S144.size a) ∧
  (∀ (k8_t5 : Fin (k8_t5_loop v20).trips) (k8_t6 : Fin (k8_t6_loop v20 k8_t5).trips), ∀ (r : Fin 4), ∀ a, (k8_off17 v20 k8_t5 k8_t6 (BitVec.ofNat 32 (16 * r.val))) a + S1x16.size a ≤ S64x128.size a) ∧
  (∀ k8_t5 : Fin (k8_t5_loop v20).trips, (k8_t7_loop v20 k8_t5).OK) ∧
  (∀ (k8_t5 : Fin (k8_t5_loop v20).trips) (k8_t7 : Fin (k8_t7_loop v20 k8_t5).trips), ∀ a, (k8_off18 v20 k8_t5 k8_t7) a + S16.size a ≤ S144.size a) ∧
  (∀ (k8_t5 : Fin (k8_t5_loop v20).trips) (k8_t7 : Fin (k8_t7_loop v20 k8_t5).trips), ∀ (r : Fin 4), ∀ a, (k8_off20 v20 k8_t5 k8_t7 (BitVec.ofNat 32 (16 * r.val))) a + S1x16.size a ≤ S64x128.size a) ∧
  ((k8_t8_loop v20).OK) ∧
  (∀ k8_t8 : Fin (k8_t8_loop v20).trips, ∀ a, (k8_off21 i k8_t4 v20 k8_t8) a + S128.size a ≤ S10240128.size a) ∧
  (∀ k8_t8 : Fin (k8_t8_loop v20).trips, (k8_t9_loop v20 k8_t8).OK) ∧
  (∀ (k8_t8 : Fin (k8_t8_loop v20).trips) (k8_t9 : Fin (k8_t9_loop v20 k8_t8).trips), ∀ a, (k8_off23 v20 k8_t8 k8_t9) a + S16.size a ≤ S144.size a) ∧
  (∀ (k8_t8 : Fin (k8_t8_loop v20).trips) (k8_t9 : Fin (k8_t9_loop v20 k8_t8).trips), ∀ (r : Fin 4), ∀ a, (k8_off25 v20 k8_t8 k8_t9 (BitVec.ofNat 32 (16 * r.val))) a + S1x16.size a ≤ S64x128.size a) ∧
  (∀ k8_t8 : Fin (k8_t8_loop v20).trips, (k8_t10_loop v20 k8_t8).OK) ∧
  (∀ (k8_t8 : Fin (k8_t8_loop v20).trips) (k8_t10 : Fin (k8_t10_loop v20 k8_t8).trips), ∀ a, (k8_off26 v20 k8_t8 k8_t10) a + S16.size a ≤ S144.size a) ∧
  (∀ (k8_t8 : Fin (k8_t8_loop v20).trips) (k8_t10 : Fin (k8_t10_loop v20 k8_t8).trips), ∀ (r : Fin 4), ∀ a, (k8_off28 v20 k8_t8 k8_t10 (BitVec.ofNat 32 (16 * r.val))) a + S1x16.size a ≤ S64x128.size a)
theorem k8_t5_ok : ∀ (i : grid8.Coords) (k8_t4 : Fin k8_t4_loop.trips) (v20 : BitVec 32) (k8_hw1 : k8_chk1 i k8_t4 v20), (k8_t5_loop v20).OK := fun i k8_t4 v20 k8_hw1 => k8_hw1.1
theorem k8_off13_inb : ∀ (i : grid8.Coords) (k8_t4 : Fin k8_t4_loop.trips) (v20 : BitVec 32) (k8_hw1 : k8_chk1 i k8_t4 v20) (k8_t5 : Fin (k8_t5_loop v20).trips), ∀ a, (k8_off13 i k8_t4 v20 k8_t5) a + S128.size a ≤ S10240128.size a := fun i k8_t4 v20 k8_hw1 k8_t5 => k8_hw1.2.1 k8_t5
theorem k8_t6_ok : ∀ (i : grid8.Coords) (k8_t4 : Fin k8_t4_loop.trips) (v20 : BitVec 32) (k8_hw1 : k8_chk1 i k8_t4 v20) (k8_t5 : Fin (k8_t5_loop v20).trips), (k8_t6_loop v20 k8_t5).OK := fun i k8_t4 v20 k8_hw1 k8_t5 => k8_hw1.2.2.1 k8_t5
theorem k8_off15_inb : ∀ (i : grid8.Coords) (k8_t4 : Fin k8_t4_loop.trips) (v20 : BitVec 32) (k8_hw1 : k8_chk1 i k8_t4 v20) (k8_t5 : Fin (k8_t5_loop v20).trips) (k8_t6 : Fin (k8_t6_loop v20 k8_t5).trips), ∀ a, (k8_off15 v20 k8_t5 k8_t6) a + S16.size a ≤ S144.size a := fun i k8_t4 v20 k8_hw1 k8_t5 k8_t6 => k8_hw1.2.2.2.1 k8_t5 k8_t6
theorem k8_off17_inb : ∀ (i : grid8.Coords) (k8_t4 : Fin k8_t4_loop.trips) (v20 : BitVec 32) (k8_hw1 : k8_chk1 i k8_t4 v20) (k8_t5 : Fin (k8_t5_loop v20).trips) (k8_t6 : Fin (k8_t6_loop v20 k8_t5).trips), ∀ (r : Fin 4), ∀ a, (k8_off17 v20 k8_t5 k8_t6 (BitVec.ofNat 32 (16 * r.val))) a + S1x16.size a ≤ S64x128.size a := fun i k8_t4 v20 k8_hw1 k8_t5 k8_t6 r => k8_hw1.2.2.2.2.1 k8_t5 k8_t6 r
theorem k8_t7_ok : ∀ (i : grid8.Coords) (k8_t4 : Fin k8_t4_loop.trips) (v20 : BitVec 32) (k8_hw1 : k8_chk1 i k8_t4 v20) (k8_t5 : Fin (k8_t5_loop v20).trips), (k8_t7_loop v20 k8_t5).OK := fun i k8_t4 v20 k8_hw1 k8_t5 => k8_hw1.2.2.2.2.2.1 k8_t5
theorem k8_off18_inb : ∀ (i : grid8.Coords) (k8_t4 : Fin k8_t4_loop.trips) (v20 : BitVec 32) (k8_hw1 : k8_chk1 i k8_t4 v20) (k8_t5 : Fin (k8_t5_loop v20).trips) (k8_t7 : Fin (k8_t7_loop v20 k8_t5).trips), ∀ a, (k8_off18 v20 k8_t5 k8_t7) a + S16.size a ≤ S144.size a := fun i k8_t4 v20 k8_hw1 k8_t5 k8_t7 => k8_hw1.2.2.2.2.2.2.1 k8_t5 k8_t7
theorem k8_off20_inb : ∀ (i : grid8.Coords) (k8_t4 : Fin k8_t4_loop.trips) (v20 : BitVec 32) (k8_hw1 : k8_chk1 i k8_t4 v20) (k8_t5 : Fin (k8_t5_loop v20).trips) (k8_t7 : Fin (k8_t7_loop v20 k8_t5).trips), ∀ (r : Fin 4), ∀ a, (k8_off20 v20 k8_t5 k8_t7 (BitVec.ofNat 32 (16 * r.val))) a + S1x16.size a ≤ S64x128.size a := fun i k8_t4 v20 k8_hw1 k8_t5 k8_t7 r => k8_hw1.2.2.2.2.2.2.2.1 k8_t5 k8_t7 r
theorem k8_t8_ok : ∀ (i : grid8.Coords) (k8_t4 : Fin k8_t4_loop.trips) (v20 : BitVec 32) (k8_hw1 : k8_chk1 i k8_t4 v20), (k8_t8_loop v20).OK := fun i k8_t4 v20 k8_hw1 => k8_hw1.2.2.2.2.2.2.2.2.1
theorem k8_off21_inb : ∀ (i : grid8.Coords) (k8_t4 : Fin k8_t4_loop.trips) (v20 : BitVec 32) (k8_hw1 : k8_chk1 i k8_t4 v20) (k8_t8 : Fin (k8_t8_loop v20).trips), ∀ a, (k8_off21 i k8_t4 v20 k8_t8) a + S128.size a ≤ S10240128.size a := fun i k8_t4 v20 k8_hw1 k8_t8 => k8_hw1.2.2.2.2.2.2.2.2.2.1 k8_t8
theorem k8_t9_ok : ∀ (i : grid8.Coords) (k8_t4 : Fin k8_t4_loop.trips) (v20 : BitVec 32) (k8_hw1 : k8_chk1 i k8_t4 v20) (k8_t8 : Fin (k8_t8_loop v20).trips), (k8_t9_loop v20 k8_t8).OK := fun i k8_t4 v20 k8_hw1 k8_t8 => k8_hw1.2.2.2.2.2.2.2.2.2.2.1 k8_t8
theorem k8_off23_inb : ∀ (i : grid8.Coords) (k8_t4 : Fin k8_t4_loop.trips) (v20 : BitVec 32) (k8_hw1 : k8_chk1 i k8_t4 v20) (k8_t8 : Fin (k8_t8_loop v20).trips) (k8_t9 : Fin (k8_t9_loop v20 k8_t8).trips), ∀ a, (k8_off23 v20 k8_t8 k8_t9) a + S16.size a ≤ S144.size a := fun i k8_t4 v20 k8_hw1 k8_t8 k8_t9 => k8_hw1.2.2.2.2.2.2.2.2.2.2.2.1 k8_t8 k8_t9
theorem k8_off25_inb : ∀ (i : grid8.Coords) (k8_t4 : Fin k8_t4_loop.trips) (v20 : BitVec 32) (k8_hw1 : k8_chk1 i k8_t4 v20) (k8_t8 : Fin (k8_t8_loop v20).trips) (k8_t9 : Fin (k8_t9_loop v20 k8_t8).trips), ∀ (r : Fin 4), ∀ a, (k8_off25 v20 k8_t8 k8_t9 (BitVec.ofNat 32 (16 * r.val))) a + S1x16.size a ≤ S64x128.size a := fun i k8_t4 v20 k8_hw1 k8_t8 k8_t9 r => k8_hw1.2.2.2.2.2.2.2.2.2.2.2.2.1 k8_t8 k8_t9 r
theorem k8_t10_ok : ∀ (i : grid8.Coords) (k8_t4 : Fin k8_t4_loop.trips) (v20 : BitVec 32) (k8_hw1 : k8_chk1 i k8_t4 v20) (k8_t8 : Fin (k8_t8_loop v20).trips), (k8_t10_loop v20 k8_t8).OK := fun i k8_t4 v20 k8_hw1 k8_t8 => k8_hw1.2.2.2.2.2.2.2.2.2.2.2.2.2.1 k8_t8
theorem k8_off26_inb : ∀ (i : grid8.Coords) (k8_t4 : Fin k8_t4_loop.trips) (v20 : BitVec 32) (k8_hw1 : k8_chk1 i k8_t4 v20) (k8_t8 : Fin (k8_t8_loop v20).trips) (k8_t10 : Fin (k8_t10_loop v20 k8_t8).trips), ∀ a, (k8_off26 v20 k8_t8 k8_t10) a + S16.size a ≤ S144.size a := fun i k8_t4 v20 k8_hw1 k8_t8 k8_t10 => k8_hw1.2.2.2.2.2.2.2.2.2.2.2.2.2.2.1 k8_t8 k8_t10
theorem k8_off28_inb : ∀ (i : grid8.Coords) (k8_t4 : Fin k8_t4_loop.trips) (v20 : BitVec 32) (k8_hw1 : k8_chk1 i k8_t4 v20) (k8_t8 : Fin (k8_t8_loop v20).trips) (k8_t10 : Fin (k8_t10_loop v20 k8_t8).trips), ∀ (r : Fin 4), ∀ a, (k8_off28 v20 k8_t8 k8_t10 (BitVec.ofNat 32 (16 * r.val))) a + S1x16.size a ≤ S64x128.size a := fun i k8_t4 v20 k8_hw1 k8_t8 k8_t10 r => k8_hw1.2.2.2.2.2.2.2.2.2.2.2.2.2.2.2 k8_t8 k8_t10 r

def k8_mult3 (i : grid8.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_11 : BitVec 32 := 160#32
  let v14 : BitVec 32 := Scalar.muli v1 c160_i32_11
  v14
def k8_off29 (i : grid8.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_11 : BitVec 32 := 160#32
  let v14 : BitVec 32 := Scalar.muli v1 c160_i32_11
  let v15 : BitVec 32 := v14
  let c0_i32_12_r6 : BitVec 32 := 0#32
  ![v15.toNat, 0]
abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S2000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨2, ![2, 16], ![false, false]⟩

def k10_off1 (i : grid10.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v4 : BitVec 32 := Scalar.muli v1 c8_i32
  let c16_i32 : BitVec 32 := 16#32
  let v5 : BitVec 32 := Scalar.muli v4 c16_i32
  ![v5.toNat]
@[reducible] def k10_t1_loop (i : grid10.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.subi v1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_1 : BitVec 32 := 1#32
  ⟨c0_i32, v10, c1_i32_1⟩
def k10_off2 (i : grid10.Coords) (k10_t1 : Fin (k10_t1_loop i).trips) : Fin 1 → Nat :=
  let c0_i32 : BitVec 32 := 0#32
  let c1_i32_1 : BitVec 32 := 1#32
  let arg17 : BitVec 32 := Scf.iv c0_i32 c1_i32_1 k10_t1
  let c16_i32_7 : BitVec 32 := 16#32
  let v15 : BitVec 32 := Scalar.muli arg17 c16_i32_7
  let v16 : Index := Scalar.indexCast v15
  ![v16.toNat]
@[reducible] def k10_t2_loop (i : grid10.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.subi v1 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_2 : BitVec 32 := 1#32
  ⟨v10, v7, c1_i32_2⟩
def k10_off3 (i : grid10.Coords) (k10_t2 : Fin (k10_t2_loop i).trips) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.subi v1 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_2 : BitVec 32 := 1#32
  let arg17 : BitVec 32 := Scf.iv v10 c1_i32_2 k10_t2
  let c16_i32_7 : BitVec 32 := 16#32
  let v15 : BitVec 32 := Scalar.muli arg17 c16_i32_7
  let v16 : Index := Scalar.indexCast v15
  ![v16.toNat]
@[reducible] def k10_t3_loop : Scf.Loop 32 :=
  let c0_i32_3 : BitVec 32 := 0#32
  let c8_i32_4 : BitVec 32 := 8#32
  let v13 : BitVec 32 := Scalar.addi c0_i32_3 c8_i32_4
  let c1_i32_5 : BitVec 32 := 1#32
  ⟨c0_i32_3, v13, c1_i32_5⟩
def k10_off4 (k10_t3 : Fin k10_t3_loop.trips) : Fin 1 → Nat :=
  let c0_i32_3 : BitVec 32 := 0#32
  let c1_i32_5 : BitVec 32 := 1#32
  let arg17 : BitVec 32 := Scf.iv c0_i32_3 c1_i32_5 k10_t3
  let c16_i32_7 : BitVec 32 := 16#32
  let v15 : BitVec 32 := Scalar.muli arg17 c16_i32_7
  let v16 : Index := Scalar.indexCast v15
  ![v16.toNat]
@[reducible] def k10_t4_loop (v19 : BitVec 32) : Scf.Loop 32 :=
  let c0_i32_17 : BitVec 32 := 0#32
  let c128_i32 : BitVec 32 := 128#32
  let v20 : BitVec 32 := Scalar.addi v19 c128_i32
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c128_i32_9 : BitVec 32 := 128#32
  let c0_i32_12 : BitVec 32 := 0#32
  let v28 : BitVec 1 := Scalar.cmpi .sgt c128_i32_9 c0_i32_12
  let v29 : BitVec 32 := Scalar.extui v28
  let c0_i32_13 : BitVec 32 := 0#32
  let v30 : BitVec 1 := Scalar.cmpi .slt c128_i32_9 c0_i32_13
  let v31 : BitVec 32 := Scalar.extui v30
  let v32 : BitVec 32 := Scalar.subi v29 v31
  let v33 : BitVec 1 := Scalar.cmpi .ne v27 v32
  let v34 : BitVec 32 := Scalar.remsi v21 c128_i32_9
  let c0_i32_14 : BitVec 32 := 0#32
  let v35 : BitVec 1 := Scalar.cmpi .ne v34 c0_i32_14
  let v36 : BitVec 1 := Scalar.andi v33 v35
  let v22 : BitVec 32 := Scalar.divsi v21 c128_i32_9
  let c1_i32_15 : BitVec 32 := 1#32
  let v37 : BitVec 32 := Scalar.subi v22 c1_i32_15
  let v38 : BitVec 32 := Scalar.select v36 v37 v22
  let v42 : BitVec 32 := Scalar.subi v38 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_19 : BitVec 32 := 1#32
  ⟨c0_i32_17, v46, c1_i32_19⟩

def k10_off5 (i : grid10.Coords) (k10_t3 : Fin k10_t3_loop.trips) (v19 : BitVec 32) (k10_t4 : Fin (k10_t4_loop v19).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_16 : BitVec 32 := 8#32
  let v39 : BitVec 32 := Scalar.muli v1 c8_i32_16
  let c0_i32_3 : BitVec 32 := 0#32
  let c1_i32_5 : BitVec 32 := 1#32
  let arg17 : BitVec 32 := Scf.iv c0_i32_3 c1_i32_5 k10_t3
  let v40 : BitVec 32 := Scalar.addi v39 arg17
  let c40000_i32 : BitVec 32 := 40000#32
  let v41 : BitVec 32 := Scalar.muli v40 c40000_i32
  let c0_i32_17 : BitVec 32 := 0#32
  let c1_i32_19 : BitVec 32 := 1#32
  let arg19 : BitVec 32 := Scf.iv c0_i32_17 c1_i32_19 k10_t4
  let c128_i32_21 : BitVec 32 := 128#32
  let v49 : BitVec 32 := Scalar.muli arg19 c128_i32_21
  let v50 : BitVec 32 := Scalar.addi v41 v49
  ![v50.toNat]
@[reducible] def k10_t5_loop : Scf.Loop 32 :=
  let c0_i32_24 : BitVec 32 := 0#32
  let c8_i32_25 : BitVec 32 := 8#32
  let v53 : BitVec 32 := Scalar.addi c0_i32_24 c8_i32_25
  let c1_i32_26 : BitVec 32 := 1#32
  ⟨c0_i32_24, v53, c1_i32_26⟩
def k10_off6 (k10_t5 : Fin k10_t5_loop.trips) : Fin 1 → Nat :=
  let c0_i32_24 : BitVec 32 := 0#32
  let c1_i32_26 : BitVec 32 := 1#32
  let arg21 : BitVec 32 := Scf.iv c0_i32_24 c1_i32_26 k10_t5
  let c16_i32_42 : BitVec 32 := 16#32
  let v62 : BitVec 32 := Scalar.muli arg21 c16_i32_42
  let v63 : Index := Scalar.indexCast v62
  ![v63.toNat]
def k10_off7 (k10_t5 : Fin k10_t5_loop.trips) : Fin 1 → Nat :=
  let c0_i32_24 : BitVec 32 := 0#32
  let c1_i32_26 : BitVec 32 := 1#32
  let arg21 : BitVec 32 := Scf.iv c0_i32_24 c1_i32_26 k10_t5
  let c16_i32_44 : BitVec 32 := 16#32
  let v73 : BitVec 32 := Scalar.muli arg21 c16_i32_44
  let v74 : Index := Scalar.indexCast v73
  ![v74.toNat]
@[reducible] def k10_t6_loop : Scf.Loop 32 :=
  let c0_i32_37 : BitVec 32 := 0#32
  let c64_i32 : BitVec 32 := 64#32
  let v58 : BitVec 32 := Scalar.addi c0_i32_37 c64_i32
  let c1_i32_38 : BitVec 32 := 1#32
  ⟨c0_i32_37, v58, c1_i32_38⟩
def k10_off8 (k10_t6 : Fin k10_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t6
  let v62 : BitVec 32 := Scalar.muli c2_i32_42 arg21
  let v63 : BitVec 32 := Scalar.addi v62 c0_i32_43
  let v64 : Index := Scalar.indexCast v63
  let c0 : Index := 0#32
  ![v64.toNat, 0]
def k10_off9 (k10_t6 : Fin k10_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t6
  let v62 : BitVec 32 := Scalar.muli c2_i32_42 arg21
  let v63 : BitVec 32 := Scalar.addi v62 c0_i32_43
  let v66 : Index := Scalar.indexCast v63
  let c64 : Index := 64#32
  ![v66.toNat, 64]
def k10_off10 (k10_t6 : Fin k10_t6_loop.trips) : Fin 2 → Nat :=
  let c0_i32_37 : BitVec 32 := 0#32
  let c1_i32_38 : BitVec 32 := 1#32
  let arg21 : BitVec 32 := Scf.iv c0_i32_37 c1_i32_38 k10_t6
  let v69 : Index := Scalar.indexCast arg21
  let c0_44 : Index := 0#32
  ![v69.toNat, 0]
def k10_off11 (k10_t6 : Fin k10_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t6
  let v62 : BitVec 32 := Scalar.muli c2_i32_42 arg21
  let v63 : BitVec 32 := Scalar.addi v62 c0_i32_43
  let v71 : Index := Scalar.indexCast v63
  let c16 : Index := 16#32
  ![v71.toNat, 16]
def k10_off12 (k10_t6 : Fin k10_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t6
  let v62 : BitVec 32 := Scalar.muli c2_i32_42 arg21
  let v63 : BitVec 32 := Scalar.addi v62 c0_i32_43
  let v73 : Index := Scalar.indexCast v63
  let c80 : Index := 80#32
  ![v73.toNat, 80]
def k10_off13 (k10_t6 : Fin k10_t6_loop.trips) : Fin 2 → Nat :=
  let c0_i32_37 : BitVec 32 := 0#32
  let c1_i32_38 : BitVec 32 := 1#32
  let arg21 : BitVec 32 := Scf.iv c0_i32_37 c1_i32_38 k10_t6
  let v76 : Index := Scalar.indexCast arg21
  let c16_45 : Index := 16#32
  ![v76.toNat, 16]
def k10_off14 (k10_t6 : Fin k10_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t6
  let v62 : BitVec 32 := Scalar.muli c2_i32_42 arg21
  let v63 : BitVec 32 := Scalar.addi v62 c0_i32_43
  let v78 : Index := Scalar.indexCast v63
  let c32 : Index := 32#32
  ![v78.toNat, 32]
def k10_off15 (k10_t6 : Fin k10_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t6
  let v62 : BitVec 32 := Scalar.muli c2_i32_42 arg21
  let v63 : BitVec 32 := Scalar.addi v62 c0_i32_43
  let v80 : Index := Scalar.indexCast v63
  let c96 : Index := 96#32
  ![v80.toNat, 96]
def k10_off16 (k10_t6 : Fin k10_t6_loop.trips) : Fin 2 → Nat :=
  let c0_i32_37 : BitVec 32 := 0#32
  let c1_i32_38 : BitVec 32 := 1#32
  let arg21 : BitVec 32 := Scf.iv c0_i32_37 c1_i32_38 k10_t6
  let v83 : Index := Scalar.indexCast arg21
  let c32_46 : Index := 32#32
  ![v83.toNat, 32]
def k10_off17 (k10_t6 : Fin k10_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t6
  let v62 : BitVec 32 := Scalar.muli c2_i32_42 arg21
  let v63 : BitVec 32 := Scalar.addi v62 c0_i32_43
  let v85 : Index := Scalar.indexCast v63
  let c48 : Index := 48#32
  ![v85.toNat, 48]
def k10_off18 (k10_t6 : Fin k10_t6_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t6
  let v62 : BitVec 32 := Scalar.muli c2_i32_42 arg21
  let v63 : BitVec 32 := Scalar.addi v62 c0_i32_43
  let v87 : Index := Scalar.indexCast v63
  let c112 : Index := 112#32
  ![v87.toNat, 112]
def k10_off19 (k10_t6 : Fin k10_t6_loop.trips) : Fin 2 → Nat :=
  let c0_i32_37 : BitVec 32 := 0#32
  let c1_i32_38 : BitVec 32 := 1#32
  let arg21 : BitVec 32 := Scf.iv c0_i32_37 c1_i32_38 k10_t6
  let v90 : Index := Scalar.indexCast arg21
  let c48_47 : Index := 48#32
  ![v90.toNat, 48]
def k10_off20 (k10_t6 : Fin k10_t6_loop.trips) : Fin 2 → Nat :=
  let c0_i32_37 : BitVec 32 := 0#32
  let c1_i32_38 : BitVec 32 := 1#32
  let arg21 : BitVec 32 := Scf.iv c0_i32_37 c1_i32_38 k10_t6
  let v99 : Index := Scalar.indexCast arg21
  let c64_52 : Index := 64#32
  ![v99.toNat, 64]
def k10_off21 (k10_t6 : Fin k10_t6_loop.trips) : Fin 2 → Nat :=
  let c0_i32_37 : BitVec 32 := 0#32
  let c1_i32_38 : BitVec 32 := 1#32
  let arg21 : BitVec 32 := Scf.iv c0_i32_37 c1_i32_38 k10_t6
  let v106 : Index := Scalar.indexCast arg21
  let c80_55 : Index := 80#32
  ![v106.toNat, 80]
def k10_off22 (k10_t6 : Fin k10_t6_loop.trips) : Fin 2 → Nat :=
  let c0_i32_37 : BitVec 32 := 0#32
  let c1_i32_38 : BitVec 32 := 1#32
  let arg21 : BitVec 32 := Scf.iv c0_i32_37 c1_i32_38 k10_t6
  let v113 : Index := Scalar.indexCast arg21
  let c96_58 : Index := 96#32
  ![v113.toNat, 96]
def k10_off23 (k10_t6 : Fin k10_t6_loop.trips) : Fin 2 → Nat :=
  let c0_i32_37 : BitVec 32 := 0#32
  let c1_i32_38 : BitVec 32 := 1#32
  let arg21 : BitVec 32 := Scf.iv c0_i32_37 c1_i32_38 k10_t6
  let v120 : Index := Scalar.indexCast arg21
  let c112_61 : Index := 112#32
  ![v120.toNat, 112]
def k10_mult1 (arg20 : BitVec 32) : BitVec 32 :=
  let c64_i32_40 : BitVec 32 := 64#32
  let v59 : BitVec 32 := Scalar.muli arg20 c64_i32_40
  v59

def k10_off24 (arg20 : BitVec 32) : Fin 2 → Nat :=
  let c64_i32_40 : BitVec 32 := 64#32
  let v59 : BitVec 32 := Scalar.muli arg20 c64_i32_40
  let v60 : BitVec 32 := v59
  let c0_i32_42_r3 : BitVec 32 := 0#32
  ![v60.toNat, 0]

def k10_chk2 (arg20 : BitVec 32) : Prop :=
  (8 ∣ (k10_mult1 arg20).toNat) ∧
  (∀ a, (k10_off24 arg20) a + S64x128.size a ≤ S176640x128.size a)
theorem k10_mult1_dvd : ∀ (arg20 : BitVec 32) (k10_hw2 : k10_chk2 arg20), 8 ∣ (k10_mult1 arg20).toNat := fun arg20 k10_hw2 => k10_hw2.1
theorem k10_off24_inb : ∀ (arg20 : BitVec 32) (k10_hw2 : k10_chk2 arg20), ∀ a, (k10_off24 arg20) a + S64x128.size a ≤ S176640x128.size a := fun arg20 k10_hw2 => k10_hw2.2

@[reducible] def k10_t7_loop (v19 : BitVec 32) : Scf.Loop 32 :=
  let c0_i32_17 : BitVec 32 := 0#32
  let c128_i32 : BitVec 32 := 128#32
  let v20 : BitVec 32 := Scalar.addi v19 c128_i32
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c128_i32_9 : BitVec 32 := 128#32
  let c0_i32_12 : BitVec 32 := 0#32
  let v28 : BitVec 1 := Scalar.cmpi .sgt c128_i32_9 c0_i32_12
  let v29 : BitVec 32 := Scalar.extui v28
  let c0_i32_13 : BitVec 32 := 0#32
  let v30 : BitVec 1 := Scalar.cmpi .slt c128_i32_9 c0_i32_13
  let v31 : BitVec 32 := Scalar.extui v30
  let v32 : BitVec 32 := Scalar.subi v29 v31
  let v33 : BitVec 1 := Scalar.cmpi .ne v27 v32
  let v34 : BitVec 32 := Scalar.remsi v21 c128_i32_9
  let c0_i32_14 : BitVec 32 := 0#32
  let v35 : BitVec 1 := Scalar.cmpi .ne v34 c0_i32_14
  let v36 : BitVec 1 := Scalar.andi v33 v35
  let v22 : BitVec 32 := Scalar.divsi v21 c128_i32_9
  let c1_i32_15 : BitVec 32 := 1#32
  let v37 : BitVec 32 := Scalar.subi v22 c1_i32_15
  let v38 : BitVec 32 := Scalar.select v36 v37 v22
  let v42 : BitVec 32 := Scalar.subi v38 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let v43 : BitVec 32 := Scalar.addi c0_i32_17 v42
  let c1_i32_20 : BitVec 32 := 1#32
  ⟨v46, v43, c1_i32_20⟩
def k10_off25 (i : grid10.Coords) (k10_t3 : Fin k10_t3_loop.trips) (v19 : BitVec 32) (k10_t7 : Fin (k10_t7_loop v19).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_16 : BitVec 32 := 8#32
  let v39 : BitVec 32 := Scalar.muli v1 c8_i32_16
  let c0_i32_3 : BitVec 32 := 0#32
  let c1_i32_5 : BitVec 32 := 1#32
  let arg17 : BitVec 32 := Scf.iv c0_i32_3 c1_i32_5 k10_t3
  let v40 : BitVec 32 := Scalar.addi v39 arg17
  let c40000_i32 : BitVec 32 := 40000#32
  let v41 : BitVec 32 := Scalar.muli v40 c40000_i32
  let c0_i32_17 : BitVec 32 := 0#32
  let c128_i32 : BitVec 32 := 128#32
  let v20 : BitVec 32 := Scalar.addi v19 c128_i32
  let c1_i32_8 : BitVec 32 := 1#32
  let v21 : BitVec 32 := Scalar.subi v20 c1_i32_8
  let c0_i32_10 : BitVec 32 := 0#32
  let v23 : BitVec 1 := Scalar.cmpi .sgt v21 c0_i32_10
  let v24 : BitVec 32 := Scalar.extui v23
  let c0_i32_11 : BitVec 32 := 0#32
  let v25 : BitVec 1 := Scalar.cmpi .slt v21 c0_i32_11
  let v26 : BitVec 32 := Scalar.extui v25
  let v27 : BitVec 32 := Scalar.subi v24 v26
  let c128_i32_9 : BitVec 32 := 128#32
  let c0_i32_12 : BitVec 32 := 0#32
  let v28 : BitVec 1 := Scalar.cmpi .sgt c128_i32_9 c0_i32_12
  let v29 : BitVec 32 := Scalar.extui v28
  let c0_i32_13 : BitVec 32 := 0#32
  let v30 : BitVec 1 := Scalar.cmpi .slt c128_i32_9 c0_i32_13
  let v31 : BitVec 32 := Scalar.extui v30
  let v32 : BitVec 32 := Scalar.subi v29 v31
  let v33 : BitVec 1 := Scalar.cmpi .ne v27 v32
  let v34 : BitVec 32 := Scalar.remsi v21 c128_i32_9
  let c0_i32_14 : BitVec 32 := 0#32
  let v35 : BitVec 1 := Scalar.cmpi .ne v34 c0_i32_14
  let v36 : BitVec 1 := Scalar.andi v33 v35
  let v22 : BitVec 32 := Scalar.divsi v21 c128_i32_9
  let c1_i32_15 : BitVec 32 := 1#32
  let v37 : BitVec 32 := Scalar.subi v22 c1_i32_15
  let v38 : BitVec 32 := Scalar.select v36 v37 v22
  let v42 : BitVec 32 := Scalar.subi v38 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_20 : BitVec 32 := 1#32
  let arg19 : BitVec 32 := Scf.iv v46 c1_i32_20 k10_t7
  let c128_i32_21 : BitVec 32 := 128#32
  let v49 : BitVec 32 := Scalar.muli arg19 c128_i32_21
  let v50 : BitVec 32 := Scalar.addi v41 v49
  ![v50.toNat]

def k10_chk1 (i : grid10.Coords) (k10_t3 : Fin k10_t3_loop.trips) (v19 : BitVec 32) : Prop :=
  ((k10_t4_loop v19).OK) ∧
  (∀ k10_t4 : Fin (k10_t4_loop v19).trips, ∀ a, (k10_off5 i k10_t3 v19 k10_t4) a + S128.size a ≤ S10240128.size a) ∧
  ((k10_t7_loop v19).OK) ∧
  (∀ k10_t7 : Fin (k10_t7_loop v19).trips, ∀ a, (k10_off25 i k10_t3 v19 k10_t7) a + S128.size a ≤ S10240128.size a)
theorem k10_t4_ok : ∀ (i : grid10.Coords) (k10_t3 : Fin k10_t3_loop.trips) (v19 : BitVec 32) (k10_hw1 : k10_chk1 i k10_t3 v19), (k10_t4_loop v19).OK := fun i k10_t3 v19 k10_hw1 => k10_hw1.1
theorem k10_off5_inb : ∀ (i : grid10.Coords) (k10_t3 : Fin k10_t3_loop.trips) (v19 : BitVec 32) (k10_hw1 : k10_chk1 i k10_t3 v19) (k10_t4 : Fin (k10_t4_loop v19).trips), ∀ a, (k10_off5 i k10_t3 v19 k10_t4) a + S128.size a ≤ S10240128.size a := fun i k10_t3 v19 k10_hw1 k10_t4 => k10_hw1.2.1 k10_t4
theorem k10_t7_ok : ∀ (i : grid10.Coords) (k10_t3 : Fin k10_t3_loop.trips) (v19 : BitVec 32) (k10_hw1 : k10_chk1 i k10_t3 v19), (k10_t7_loop v19).OK := fun i k10_t3 v19 k10_hw1 => k10_hw1.2.2.1
theorem k10_off25_inb : ∀ (i : grid10.Coords) (k10_t3 : Fin k10_t3_loop.trips) (v19 : BitVec 32) (k10_hw1 : k10_chk1 i k10_t3 v19) (k10_t7 : Fin (k10_t7_loop v19).trips), ∀ a, (k10_off25 i k10_t3 v19 k10_t7) a + S128.size a ≤ S10240128.size a := fun i k10_t3 v19 k10_hw1 k10_t7 => k10_hw1.2.2.2 k10_t7

@[reducible] def k10_t8_loop : Scf.Loop 32 :=
  let c0_i32_24 : BitVec 32 := 0#32
  let c8_i32_25 : BitVec 32 := 8#32
  let v53 : BitVec 32 := Scalar.addi c0_i32_24 c8_i32_25
  let c1_i32_26 : BitVec 32 := 1#32
  ⟨c0_i32_24, v53, c1_i32_26⟩
def k10_off26 (k10_t8 : Fin k10_t8_loop.trips) : Fin 1 → Nat :=
  let c0_i32_24 : BitVec 32 := 0#32
  let c1_i32_26 : BitVec 32 := 1#32
  let arg21 : BitVec 32 := Scf.iv c0_i32_24 c1_i32_26 k10_t8
  let c16_i32_42 : BitVec 32 := 16#32
  let v62 : BitVec 32 := Scalar.muli arg21 c16_i32_42
  let v63 : Index := Scalar.indexCast v62
  ![v63.toNat]
def k10_off27 (k10_t8 : Fin k10_t8_loop.trips) : Fin 1 → Nat :=
  let c0_i32_24 : BitVec 32 := 0#32
  let c1_i32_26 : BitVec 32 := 1#32
  let arg21 : BitVec 32 := Scf.iv c0_i32_24 c1_i32_26 k10_t8
  let c16_i32_44 : BitVec 32 := 16#32
  let v73 : BitVec 32 := Scalar.muli arg21 c16_i32_44
  let v74 : Index := Scalar.indexCast v73
  ![v74.toNat]
@[reducible] def k10_t9_loop : Scf.Loop 32 :=
  let c0_i32_37 : BitVec 32 := 0#32
  let c64_i32 : BitVec 32 := 64#32
  let v58 : BitVec 32 := Scalar.addi c0_i32_37 c64_i32
  let c1_i32_38 : BitVec 32 := 1#32
  ⟨c0_i32_37, v58, c1_i32_38⟩
def k10_off28 (k10_t9 : Fin k10_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t9
  let v62 : BitVec 32 := Scalar.muli c2_i32_42 arg21
  let v63 : BitVec 32 := Scalar.addi v62 c0_i32_43
  let v64 : Index := Scalar.indexCast v63
  let c0 : Index := 0#32
  ![v64.toNat, 0]
def k10_off29 (k10_t9 : Fin k10_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t9
  let v62 : BitVec 32 := Scalar.muli c2_i32_42 arg21
  let v63 : BitVec 32 := Scalar.addi v62 c0_i32_43
  let v66 : Index := Scalar.indexCast v63
  let c64 : Index := 64#32
  ![v66.toNat, 64]
def k10_off30 (k10_t9 : Fin k10_t9_loop.trips) : Fin 2 → Nat :=
  let c0_i32_37 : BitVec 32 := 0#32
  let c1_i32_38 : BitVec 32 := 1#32
  let arg21 : BitVec 32 := Scf.iv c0_i32_37 c1_i32_38 k10_t9
  let v69 : Index := Scalar.indexCast arg21
  let c0_44 : Index := 0#32
  ![v69.toNat, 0]
def k10_off31 (k10_t9 : Fin k10_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t9
  let v62 : BitVec 32 := Scalar.muli c2_i32_42 arg21
  let v63 : BitVec 32 := Scalar.addi v62 c0_i32_43
  let v71 : Index := Scalar.indexCast v63
  let c16 : Index := 16#32
  ![v71.toNat, 16]
def k10_off32 (k10_t9 : Fin k10_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t9
  let v62 : BitVec 32 := Scalar.muli c2_i32_42 arg21
  let v63 : BitVec 32 := Scalar.addi v62 c0_i32_43
  let v73 : Index := Scalar.indexCast v63
  let c80 : Index := 80#32
  ![v73.toNat, 80]
def k10_off33 (k10_t9 : Fin k10_t9_loop.trips) : Fin 2 → Nat :=
  let c0_i32_37 : BitVec 32 := 0#32
  let c1_i32_38 : BitVec 32 := 1#32
  let arg21 : BitVec 32 := Scf.iv c0_i32_37 c1_i32_38 k10_t9
  let v76 : Index := Scalar.indexCast arg21
  let c16_45 : Index := 16#32
  ![v76.toNat, 16]
def k10_off34 (k10_t9 : Fin k10_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t9
  let v62 : BitVec 32 := Scalar.muli c2_i32_42 arg21
  let v63 : BitVec 32 := Scalar.addi v62 c0_i32_43
  let v78 : Index := Scalar.indexCast v63
  let c32 : Index := 32#32
  ![v78.toNat, 32]
def k10_off35 (k10_t9 : Fin k10_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t9
  let v62 : BitVec 32 := Scalar.muli c2_i32_42 arg21
  let v63 : BitVec 32 := Scalar.addi v62 c0_i32_43
  let v80 : Index := Scalar.indexCast v63
  let c96 : Index := 96#32
  ![v80.toNat, 96]
def k10_off36 (k10_t9 : Fin k10_t9_loop.trips) : Fin 2 → Nat :=
  let c0_i32_37 : BitVec 32 := 0#32
  let c1_i32_38 : BitVec 32 := 1#32
  let arg21 : BitVec 32 := Scf.iv c0_i32_37 c1_i32_38 k10_t9
  let v83 : Index := Scalar.indexCast arg21
  let c32_46 : Index := 32#32
  ![v83.toNat, 32]
def k10_off37 (k10_t9 : Fin k10_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t9
  let v62 : BitVec 32 := Scalar.muli c2_i32_42 arg21
  let v63 : BitVec 32 := Scalar.addi v62 c0_i32_43
  let v85 : Index := Scalar.indexCast v63
  let c48 : Index := 48#32
  ![v85.toNat, 48]
def k10_off38 (k10_t9 : Fin k10_t9_loop.trips) (c0_i32_43 : BitVec 32) : Fin 2 → Nat :=
  let c2_i32_42 : BitVec 32 := 2#32
  let c0_i32_37 : BitVec 32 := 0#32
  let c1_i32_38 : BitVec 32 := 1#32
  let arg21 : BitVec 32 := Scf.iv c0_i32_37 c1_i32_38 k10_t9
  let v62 : BitVec 32 := Scalar.muli c2_i32_42 arg21
  let v63 : BitVec 32 := Scalar.addi v62 c0_i32_43
  let v87 : Index := Scalar.indexCast v63
  let c112 : Index := 112#32
  ![v87.toNat, 112]
def k10_off39 (k10_t9 : Fin k10_t9_loop.trips) : Fin 2 → Nat :=
  let c0_i32_37 : BitVec 32 := 0#32
  let c1_i32_38 : BitVec 32 := 1#32
  let arg21 : BitVec 32 := Scf.iv c0_i32_37 c1_i32_38 k10_t9
  let v90 : Index := Scalar.indexCast arg21
  let c48_47 : Index := 48#32
  ![v90.toNat, 48]
def k10_off40 (k10_t9 : Fin k10_t9_loop.trips) : Fin 2 → Nat :=
  let c0_i32_37 : BitVec 32 := 0#32
  let c1_i32_38 : BitVec 32 := 1#32
  let arg21 : BitVec 32 := Scf.iv c0_i32_37 c1_i32_38 k10_t9
  let v99 : Index := Scalar.indexCast arg21
  let c64_52 : Index := 64#32
  ![v99.toNat, 64]
def k10_off41 (k10_t9 : Fin k10_t9_loop.trips) : Fin 2 → Nat :=
  let c0_i32_37 : BitVec 32 := 0#32
  let c1_i32_38 : BitVec 32 := 1#32
  let arg21 : BitVec 32 := Scf.iv c0_i32_37 c1_i32_38 k10_t9
  let v106 : Index := Scalar.indexCast arg21
  let c80_55 : Index := 80#32
  ![v106.toNat, 80]
def k10_off42 (k10_t9 : Fin k10_t9_loop.trips) : Fin 2 → Nat :=
  let c0_i32_37 : BitVec 32 := 0#32
  let c1_i32_38 : BitVec 32 := 1#32
  let arg21 : BitVec 32 := Scf.iv c0_i32_37 c1_i32_38 k10_t9
  let v113 : Index := Scalar.indexCast arg21
  let c96_58 : Index := 96#32
  ![v113.toNat, 96]
def k10_off43 (k10_t9 : Fin k10_t9_loop.trips) : Fin 2 → Nat :=
  let c0_i32_37 : BitVec 32 := 0#32
  let c1_i32_38 : BitVec 32 := 1#32
  let arg21 : BitVec 32 := Scf.iv c0_i32_37 c1_i32_38 k10_t9
  let v120 : Index := Scalar.indexCast arg21
  let c112_61 : Index := 112#32
  ![v120.toNat, 112]
def k10_mult2 (arg20 : BitVec 32) : BitVec 32 :=
  let c64_i32_40 : BitVec 32 := 64#32
  let v59 : BitVec 32 := Scalar.muli arg20 c64_i32_40
  v59

def k10_off44 (arg20 : BitVec 32) : Fin 2 → Nat :=
  let c64_i32_40 : BitVec 32 := 64#32
  let v59 : BitVec 32 := Scalar.muli arg20 c64_i32_40
  let v60 : BitVec 32 := v59
  let c0_i32_42_r5 : BitVec 32 := 0#32
  ![v60.toNat, 0]

def k10_chk3 (arg20 : BitVec 32) : Prop :=
  (8 ∣ (k10_mult2 arg20).toNat) ∧
  (∀ a, (k10_off44 arg20) a + S64x128.size a ≤ S176640x128.size a)
theorem k10_mult2_dvd : ∀ (arg20 : BitVec 32) (k10_hw3 : k10_chk3 arg20), 8 ∣ (k10_mult2 arg20).toNat := fun arg20 k10_hw3 => k10_hw3.1
theorem k10_off44_inb : ∀ (arg20 : BitVec 32) (k10_hw3 : k10_chk3 arg20), ∀ a, (k10_off44 arg20) a + S64x128.size a ≤ S176640x128.size a := fun arg20 k10_hw3 => k10_hw3.2

abbrev grid11 : Pipeline.Grid := ⟨1, ![92], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1920x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S1920x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨2, ![2, 16], ![false, false]⟩

def k12_off1 (i : grid12.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32 : BitVec 32 := 16#32
  let v3 : BitVec 32 := Scalar.muli v2 c16_i32
  ![v3.toNat]
@[reducible] def k12_t1_loop (i : grid12.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.subi v1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_1 : BitVec 32 := 1#32
  ⟨c0_i32, v8, c1_i32_1⟩
def k12_off2 (i : grid12.Coords) (k12_t1 : Fin (k12_t1_loop i).trips) : Fin 1 → Nat :=
  let c0_i32 : BitVec 32 := 0#32
  let c1_i32_1 : BitVec 32 := 1#32
  let arg12 : BitVec 32 := Scf.iv c0_i32 c1_i32_1 k12_t1
  let c16_i32_12 : BitVec 32 := 16#32
  let v16 : BitVec 32 := Scalar.muli arg12 c16_i32_12
  let v17 : Index := Scalar.indexCast v16
  ![v17.toNat]
@[reducible] def k12_t2_loop (i : grid12.Coords) : Scf.Loop 32 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.subi v1 c0_i32
  let c1_i32 : BitVec 32 := 1#32
  let v6 : BitVec 32 := Scalar.divsi v4 c1_i32
  let v7 : BitVec 32 := Scalar.muli v6 c1_i32
  let v8 : BitVec 32 := Scalar.addi c0_i32 v7
  let v5 : BitVec 32 := Scalar.addi c0_i32 v4
  let c1_i32_2 : BitVec 32 := 1#32
  ⟨v8, v5, c1_i32_2⟩
def k12_off3 (i : grid12.Coords) (k12_t2 : Fin (k12_t2_loop i).trips) : Fin 1 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v4 : BitVec 32 := Scalar.subi v1 c0_i32
  let c1_i32 : BitVec 32 := 1#32
  let v6 : BitVec 32 := Scalar.divsi v4 c1_i32
  let v7 : BitVec 32 := Scalar.muli v6 c1_i32
  let v8 : BitVec 32 := Scalar.addi c0_i32 v7
  let c1_i32_2 : BitVec 32 := 1#32
  let arg12 : BitVec 32 := Scf.iv v8 c1_i32_2 k12_t2
  let c16_i32_12 : BitVec 32 := 16#32
  let v16 : BitVec 32 := Scalar.muli arg12 c16_i32_12
  let v17 : Index := Scalar.indexCast v16
  ![v17.toNat]
@[reducible] def k12_t3_loop : Scf.Loop 32 :=
  let c0_i32_4 : BitVec 32 := 0#32
  let c160_i32 : BitVec 32 := 160#32
  let v11 : BitVec 32 := Scalar.addi c0_i32_4 c160_i32
  let c1_i32_5 : BitVec 32 := 1#32
  ⟨c0_i32_4, v11, c1_i32_5⟩
def k12_off4 (k12_t3 : Fin k12_t3_loop.trips) : Fin 2 → Nat :=
  let c0_i32_4 : BitVec 32 := 0#32
  let c1_i32_5 : BitVec 32 := 1#32
  let arg12 : BitVec 32 := Scf.iv c0_i32_4 c1_i32_5 k12_t3
  let v17 : Index := Scalar.indexCast arg12
  let c0 : Index := 0#32
  ![v17.toNat, 0]
def k12_off5 (k12_t3 : Fin k12_t3_loop.trips) : Fin 2 → Nat :=
  let c0_i32_4 : BitVec 32 := 0#32
  let c1_i32_5 : BitVec 32 := 1#32
  let arg12 : BitVec 32 := Scf.iv c0_i32_4 c1_i32_5 k12_t3
  let v20 : Index := Scalar.indexCast arg12
  let c16 : Index := 16#32
  ![v20.toNat, 16]
def k12_off6 (k12_t3 : Fin k12_t3_loop.trips) : Fin 2 → Nat :=
  let c0_i32_4 : BitVec 32 := 0#32
  let c1_i32_5 : BitVec 32 := 1#32
  let arg12 : BitVec 32 := Scf.iv c0_i32_4 c1_i32_5 k12_t3
  let v23 : Index := Scalar.indexCast arg12
  let c32 : Index := 32#32
  ![v23.toNat, 32]
def k12_off7 (k12_t3 : Fin k12_t3_loop.trips) : Fin 2 → Nat :=
  let c0_i32_4 : BitVec 32 := 0#32
  let c1_i32_5 : BitVec 32 := 1#32
  let arg12 : BitVec 32 := Scf.iv c0_i32_4 c1_i32_5 k12_t3
  let v26 : Index := Scalar.indexCast arg12
  let c48 : Index := 48#32
  ![v26.toNat, 48]
def k12_off8 (k12_t3 : Fin k12_t3_loop.trips) : Fin 2 → Nat :=
  let c0_i32_4 : BitVec 32 := 0#32
  let c1_i32_5 : BitVec 32 := 1#32
  let arg12 : BitVec 32 := Scf.iv c0_i32_4 c1_i32_5 k12_t3
  let v29 : Index := Scalar.indexCast arg12
  let c64 : Index := 64#32
  ![v29.toNat, 64]
def k12_off9 (k12_t3 : Fin k12_t3_loop.trips) : Fin 2 → Nat :=
  let c0_i32_4 : BitVec 32 := 0#32
  let c1_i32_5 : BitVec 32 := 1#32
  let arg12 : BitVec 32 := Scf.iv c0_i32_4 c1_i32_5 k12_t3
  let v32 : Index := Scalar.indexCast arg12
  let c80 : Index := 80#32
  ![v32.toNat, 80]
def k12_off10 (k12_t3 : Fin k12_t3_loop.trips) : Fin 2 → Nat :=
  let c0_i32_4 : BitVec 32 := 0#32
  let c1_i32_5 : BitVec 32 := 1#32
  let arg12 : BitVec 32 := Scf.iv c0_i32_4 c1_i32_5 k12_t3
  let v35 : Index := Scalar.indexCast arg12
  let c96 : Index := 96#32
  ![v35.toNat, 96]
def k12_off11 (k12_t3 : Fin k12_t3_loop.trips) : Fin 2 → Nat :=
  let c0_i32_4 : BitVec 32 := 0#32
  let c1_i32_5 : BitVec 32 := 1#32
  let arg12 : BitVec 32 := Scf.iv c0_i32_4 c1_i32_5 k12_t3
  let v38 : Index := Scalar.indexCast arg12
  let c112 : Index := 112#32
  ![v38.toNat, 112]
@[reducible] def k12_t4_loop : Scf.Loop 32 :=
  let c0_i32_7 : BitVec 32 := 0#32
  let c8_i32_8 : BitVec 32 := 8#32
  let v12 : BitVec 32 := Scalar.addi c0_i32_7 c8_i32_8
  let c1_i32_9 : BitVec 32 := 1#32
  ⟨c0_i32_7, v12, c1_i32_9⟩
def k12_off12 (k12_t4 : Fin k12_t4_loop.trips) : Fin 1 → Nat :=
  let c0_i32_7 : BitVec 32 := 0#32
  let c1_i32_9 : BitVec 32 := 1#32
  let arg12 : BitVec 32 := Scf.iv c0_i32_7 c1_i32_9 k12_t4
  let c16_i32_12 : BitVec 32 := 16#32
  let v16 : BitVec 32 := Scalar.muli arg12 c16_i32_12
  let v17 : Index := Scalar.indexCast v16
  ![v17.toNat]
@[reducible] def k12_t5_loop (v20 : BitVec 32) : Scf.Loop 32 :=
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_24 : BitVec 32 := 1#32
  ⟨c0_i32_22, v47, c1_i32_24⟩

def k12_off13 (i : grid12.Coords) (k12_t4 : Fin k12_t4_loop.trips) (v20 : BitVec 32) (k12_t5 : Fin (k12_t5_loop v20).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_21 : BitVec 32 := 8#32
  let v40 : BitVec 32 := Scalar.muli v1 c8_i32_21
  let c0_i32_7 : BitVec 32 := 0#32
  let c1_i32_9 : BitVec 32 := 1#32
  let arg12 : BitVec 32 := Scf.iv c0_i32_7 c1_i32_9 k12_t4
  let v41 : BitVec 32 := Scalar.addi v40 arg12
  let c40000_i32 : BitVec 32 := 40000#32
  let v42 : BitVec 32 := Scalar.muli v41 c40000_i32
  let c0_i32_22 : BitVec 32 := 0#32
  let c1_i32_24 : BitVec 32 := 1#32
  let arg14 : BitVec 32 := Scf.iv c0_i32_22 c1_i32_24 k12_t5
  let c128_i32_26 : BitVec 32 := 128#32
  let v50 : BitVec 32 := Scalar.muli arg14 c128_i32_26
  let v51 : BitVec 32 := Scalar.addi v42 v50
  ![v51.toNat]
def k12_mult1 (arg15 : BitVec 32) : BitVec 32 :=
  let c64_i32 : BitVec 32 := 64#32
  let v55 : BitVec 32 := Scalar.muli arg15 c64_i32
  v55

def k12_off14 (arg15 : BitVec 32) : Fin 2 → Nat :=
  let c64_i32 : BitVec 32 := 64#32
  let v55 : BitVec 32 := Scalar.muli arg15 c64_i32
  let v56 : BitVec 32 := v55
  let c0_i32_35_r3 : BitVec 32 := 0#32
  ![v56.toNat, 0]

def k12_chk2 (arg15 : BitVec 32) : Prop :=
  (8 ∣ (k12_mult1 arg15).toNat) ∧
  (∀ a, (k12_off14 arg15) a + S64x128.size a ≤ S176640x128.size a)
theorem k12_mult1_dvd : ∀ (arg15 : BitVec 32) (k12_hw2 : k12_chk2 arg15), 8 ∣ (k12_mult1 arg15).toNat := fun arg15 k12_hw2 => k12_hw2.1
theorem k12_off14_inb : ∀ (arg15 : BitVec 32) (k12_hw2 : k12_chk2 arg15), ∀ a, (k12_off14 arg15) a + S64x128.size a ≤ S176640x128.size a := fun arg15 k12_hw2 => k12_hw2.2

@[reducible] def k12_t6_loop (v20 : BitVec 32) (k12_t5 : Fin (k12_t5_loop v20).trips) : Scf.Loop 32 :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k12_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_32 : BitVec 32 := 1#32
  ⟨c0_i32_30, v61, c1_i32_32⟩
def k12_off15 (v20 : BitVec 32) (k12_t5 : Fin (k12_t5_loop v20).trips) (k12_t6 : Fin (k12_t6_loop v20 k12_t5).trips) : Fin 1 → Nat :=
  let c0_i32_30 : BitVec 32 := 0#32
  let c1_i32_32 : BitVec 32 := 1#32
  let arg16 : BitVec 32 := Scf.iv c0_i32_30 c1_i32_32 k12_t6
  let v63 : Index := Scalar.indexCast arg16
  ![v63.toNat]
def k12_off16 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k12_chk3 (v66 : BitVec 32) : Prop :=
  (∀ (r : Fin 4), ∀ a, (k12_off16 v66 (BitVec.ofNat 32 (16 * r.val))) a + S1x16.size a ≤ S160x128.size a)
theorem k12_off16_inb : ∀ (v66 : BitVec 32) (k12_hw3 : k12_chk3 v66), ∀ (r : Fin 4), ∀ a, (k12_off16 v66 (BitVec.ofNat 32 (16 * r.val))) a + S1x16.size a ≤ S160x128.size a := fun v66 k12_hw3 r => k12_hw3 r

def k12_off17 (v20 : BitVec 32) (k12_t5 : Fin (k12_t5_loop v20).trips) (k12_t6 : Fin (k12_t6_loop v20 k12_t5).trips) (c0_i32_42 : BitVec 32) : Fin 2 → Nat :=
  let c0_i32_30 : BitVec 32 := 0#32
  let c1_i32_32 : BitVec 32 := 1#32
  let arg16 : BitVec 32 := Scf.iv c0_i32_30 c1_i32_32 k12_t6
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]
@[reducible] def k12_t7_loop (v20 : BitVec 32) (k12_t5 : Fin (k12_t5_loop v20).trips) : Scf.Loop 32 :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k12_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let v58 : BitVec 32 := Scalar.addi c0_i32_30 v57
  let c1_i32_33 : BitVec 32 := 1#32
  ⟨v61, v58, c1_i32_33⟩
def k12_off18 (v20 : BitVec 32) (k12_t5 : Fin (k12_t5_loop v20).trips) (k12_t7 : Fin (k12_t7_loop v20 k12_t5).trips) : Fin 1 → Nat :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k12_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k12_t7
  let v63 : Index := Scalar.indexCast arg16
  ![v63.toNat]
def k12_off19 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k12_chk4 (v66 : BitVec 32) : Prop :=
  (∀ (r : Fin 4), ∀ a, (k12_off19 v66 (BitVec.ofNat 32 (16 * r.val))) a + S1x16.size a ≤ S160x128.size a)
theorem k12_off19_inb : ∀ (v66 : BitVec 32) (k12_hw4 : k12_chk4 v66), ∀ (r : Fin 4), ∀ a, (k12_off19 v66 (BitVec.ofNat 32 (16 * r.val))) a + S1x16.size a ≤ S160x128.size a := fun v66 k12_hw4 r => k12_hw4 r

def k12_off20 (v20 : BitVec 32) (k12_t5 : Fin (k12_t5_loop v20).trips) (k12_t7 : Fin (k12_t7_loop v20 k12_t5).trips) (c0_i32_42 : BitVec 32) : Fin 2 → Nat :=
  let c0_i32_30 : BitVec 32 := 0#32
  let c128_i32_28 : BitVec 32 := 128#32
  let c0_i32_22 : BitVec 32 := 0#32
  let c1_i32_24 : BitVec 32 := 1#32
  let arg14 : BitVec 32 := Scf.iv c0_i32_22 c1_i32_24 k12_t5
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k12_t7
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]
@[reducible] def k12_t8_loop (v20 : BitVec 32) : Scf.Loop 32 :=
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let v44 : BitVec 32 := Scalar.addi c0_i32_22 v43
  let c1_i32_25 : BitVec 32 := 1#32
  ⟨v47, v44, c1_i32_25⟩
def k12_off21 (i : grid12.Coords) (k12_t4 : Fin k12_t4_loop.trips) (v20 : BitVec 32) (k12_t8 : Fin (k12_t8_loop v20).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_21 : BitVec 32 := 8#32
  let v40 : BitVec 32 := Scalar.muli v1 c8_i32_21
  let c0_i32_7 : BitVec 32 := 0#32
  let c1_i32_9 : BitVec 32 := 1#32
  let arg12 : BitVec 32 := Scf.iv c0_i32_7 c1_i32_9 k12_t4
  let v41 : BitVec 32 := Scalar.addi v40 arg12
  let c40000_i32 : BitVec 32 := 40000#32
  let v42 : BitVec 32 := Scalar.muli v41 c40000_i32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k12_t8
  let c128_i32_26 : BitVec 32 := 128#32
  let v50 : BitVec 32 := Scalar.muli arg14 c128_i32_26
  let v51 : BitVec 32 := Scalar.addi v42 v50
  ![v51.toNat]
def k12_mult2 (arg15 : BitVec 32) : BitVec 32 :=
  let c64_i32 : BitVec 32 := 64#32
  let v55 : BitVec 32 := Scalar.muli arg15 c64_i32
  v55

def k12_off22 (arg15 : BitVec 32) : Fin 2 → Nat :=
  let c64_i32 : BitVec 32 := 64#32
  let v55 : BitVec 32 := Scalar.muli arg15 c64_i32
  let v56 : BitVec 32 := v55
  let c0_i32_35_r5 : BitVec 32 := 0#32
  ![v56.toNat, 0]

def k12_chk5 (arg15 : BitVec 32) : Prop :=
  (8 ∣ (k12_mult2 arg15).toNat) ∧
  (∀ a, (k12_off22 arg15) a + S64x128.size a ≤ S176640x128.size a)
theorem k12_mult2_dvd : ∀ (arg15 : BitVec 32) (k12_hw5 : k12_chk5 arg15), 8 ∣ (k12_mult2 arg15).toNat := fun arg15 k12_hw5 => k12_hw5.1
theorem k12_off22_inb : ∀ (arg15 : BitVec 32) (k12_hw5 : k12_chk5 arg15), ∀ a, (k12_off22 arg15) a + S64x128.size a ≤ S176640x128.size a := fun arg15 k12_hw5 => k12_hw5.2

@[reducible] def k12_t9_loop (v20 : BitVec 32) (k12_t8 : Fin (k12_t8_loop v20).trips) : Scf.Loop 32 :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k12_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_32 : BitVec 32 := 1#32
  ⟨c0_i32_30, v61, c1_i32_32⟩
def k12_off23 (v20 : BitVec 32) (k12_t8 : Fin (k12_t8_loop v20).trips) (k12_t9 : Fin (k12_t9_loop v20 k12_t8).trips) : Fin 1 → Nat :=
  let c0_i32_30 : BitVec 32 := 0#32
  let c1_i32_32 : BitVec 32 := 1#32
  let arg16 : BitVec 32 := Scf.iv c0_i32_30 c1_i32_32 k12_t9
  let v63 : Index := Scalar.indexCast arg16
  ![v63.toNat]
def k12_off24 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k12_chk6 (v66 : BitVec 32) : Prop :=
  (∀ (r : Fin 4), ∀ a, (k12_off24 v66 (BitVec.ofNat 32 (16 * r.val))) a + S1x16.size a ≤ S160x128.size a)
theorem k12_off24_inb : ∀ (v66 : BitVec 32) (k12_hw6 : k12_chk6 v66), ∀ (r : Fin 4), ∀ a, (k12_off24 v66 (BitVec.ofNat 32 (16 * r.val))) a + S1x16.size a ≤ S160x128.size a := fun v66 k12_hw6 r => k12_hw6 r

def k12_off25 (v20 : BitVec 32) (k12_t8 : Fin (k12_t8_loop v20).trips) (k12_t9 : Fin (k12_t9_loop v20 k12_t8).trips) (c0_i32_42 : BitVec 32) : Fin 2 → Nat :=
  let c0_i32_30 : BitVec 32 := 0#32
  let c1_i32_32 : BitVec 32 := 1#32
  let arg16 : BitVec 32 := Scf.iv c0_i32_30 c1_i32_32 k12_t9
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]
@[reducible] def k12_t10_loop (v20 : BitVec 32) (k12_t8 : Fin (k12_t8_loop v20).trips) : Scf.Loop 32 :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k12_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let v58 : BitVec 32 := Scalar.addi c0_i32_30 v57
  let c1_i32_33 : BitVec 32 := 1#32
  ⟨v61, v58, c1_i32_33⟩
def k12_off26 (v20 : BitVec 32) (k12_t8 : Fin (k12_t8_loop v20).trips) (k12_t10 : Fin (k12_t10_loop v20 k12_t8).trips) : Fin 1 → Nat :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k12_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k12_t10
  let v63 : Index := Scalar.indexCast arg16
  ![v63.toNat]
def k12_off27 (v66 : BitVec 32) (c0_i32_41 : BitVec 32) : Fin 2 → Nat :=
  let c511_i32 : BitVec 32 := 511#32
  let v67 : BitVec 32 := Scalar.andi v66 c511_i32
  let c1_i32_37 : BitVec 32 := 1#32
  let v70 : BitVec 32 := Scalar.shrui v67 c1_i32_37
  let v75 : Index := Scalar.indexCast v70
  let c1_i32_35 : BitVec 32 := 1#32
  let v68 : BitVec 32 := Scalar.andi v67 c1_i32_35
  let c64_i32_36 : BitVec 32 := 64#32
  let v69 : BitVec 32 := Scalar.muli v68 c64_i32_36
  let v74 : BitVec 32 := Scalar.addi v69 c0_i32_41
  let v76 : Index := Scalar.indexCast v74
  ![v75.toNat, v76.toNat]

def k12_chk7 (v66 : BitVec 32) : Prop :=
  (∀ (r : Fin 4), ∀ a, (k12_off27 v66 (BitVec.ofNat 32 (16 * r.val))) a + S1x16.size a ≤ S160x128.size a)
theorem k12_off27_inb : ∀ (v66 : BitVec 32) (k12_hw7 : k12_chk7 v66), ∀ (r : Fin 4), ∀ a, (k12_off27 v66 (BitVec.ofNat 32 (16 * r.val))) a + S1x16.size a ≤ S160x128.size a := fun v66 k12_hw7 r => k12_hw7 r

def k12_off28 (v20 : BitVec 32) (k12_t8 : Fin (k12_t8_loop v20).trips) (k12_t10 : Fin (k12_t10_loop v20 k12_t8).trips) (c0_i32_42 : BitVec 32) : Fin 2 → Nat :=
  let c0_i32_30 : BitVec 32 := 0#32
  let c128_i32_28 : BitVec 32 := 128#32
  let c0_i32_22 : BitVec 32 := 0#32
  let c128_i32 : BitVec 32 := 128#32
  let v21 : BitVec 32 := Scalar.addi v20 c128_i32
  let c1_i32_13 : BitVec 32 := 1#32
  let v22 : BitVec 32 := Scalar.subi v21 c1_i32_13
  let c0_i32_15 : BitVec 32 := 0#32
  let v24 : BitVec 1 := Scalar.cmpi .sgt v22 c0_i32_15
  let v25 : BitVec 32 := Scalar.extui v24
  let c0_i32_16 : BitVec 32 := 0#32
  let v26 : BitVec 1 := Scalar.cmpi .slt v22 c0_i32_16
  let v27 : BitVec 32 := Scalar.extui v26
  let v28 : BitVec 32 := Scalar.subi v25 v27
  let c128_i32_14 : BitVec 32 := 128#32
  let c0_i32_17 : BitVec 32 := 0#32
  let v29 : BitVec 1 := Scalar.cmpi .sgt c128_i32_14 c0_i32_17
  let v30 : BitVec 32 := Scalar.extui v29
  let c0_i32_18 : BitVec 32 := 0#32
  let v31 : BitVec 1 := Scalar.cmpi .slt c128_i32_14 c0_i32_18
  let v32 : BitVec 32 := Scalar.extui v31
  let v33 : BitVec 32 := Scalar.subi v30 v32
  let v34 : BitVec 1 := Scalar.cmpi .ne v28 v33
  let v35 : BitVec 32 := Scalar.remsi v22 c128_i32_14
  let c0_i32_19 : BitVec 32 := 0#32
  let v36 : BitVec 1 := Scalar.cmpi .ne v35 c0_i32_19
  let v37 : BitVec 1 := Scalar.andi v34 v36
  let v23 : BitVec 32 := Scalar.divsi v22 c128_i32_14
  let c1_i32_20 : BitVec 32 := 1#32
  let v38 : BitVec 32 := Scalar.subi v23 c1_i32_20
  let v39 : BitVec 32 := Scalar.select v37 v38 v23
  let v43 : BitVec 32 := Scalar.subi v39 c0_i32_22
  let c1_i32_23 : BitVec 32 := 1#32
  let v45 : BitVec 32 := Scalar.divsi v43 c1_i32_23
  let v46 : BitVec 32 := Scalar.muli v45 c1_i32_23
  let v47 : BitVec 32 := Scalar.addi c0_i32_22 v46
  let c1_i32_25 : BitVec 32 := 1#32
  let arg14 : BitVec 32 := Scf.iv v47 c1_i32_25 k12_t8
  let c128_i32_27 : BitVec 32 := 128#32
  let v52 : BitVec 32 := Scalar.muli arg14 c128_i32_27
  let v53 : BitVec 32 := Scalar.subi v20 v52
  let v54 : BitVec 32 := Scalar.minsi c128_i32_28 v53
  let v57 : BitVec 32 := Scalar.subi v54 c0_i32_30
  let c1_i32_31 : BitVec 32 := 1#32
  let v59 : BitVec 32 := Scalar.divsi v57 c1_i32_31
  let v60 : BitVec 32 := Scalar.muli v59 c1_i32_31
  let v61 : BitVec 32 := Scalar.addi c0_i32_30 v60
  let c1_i32_33 : BitVec 32 := 1#32
  let arg16 : BitVec 32 := Scf.iv v61 c1_i32_33 k12_t10
  let c1_i32_40 : BitVec 32 := 1#32
  let v73 : BitVec 32 := Scalar.shrui arg16 c1_i32_40
  let v79 : Index := Scalar.indexCast v73
  let c1_i32_38 : BitVec 32 := 1#32
  let v71 : BitVec 32 := Scalar.andi arg16 c1_i32_38
  let c64_i32_39 : BitVec 32 := 64#32
  let v72 : BitVec 32 := Scalar.muli v71 c64_i32_39
  let v78 : BitVec 32 := Scalar.addi v72 c0_i32_42
  let v80 : Index := Scalar.indexCast v78
  ![v79.toNat, v80.toNat]

def k12_chk1 (i : grid12.Coords) (k12_t4 : Fin k12_t4_loop.trips) (v20 : BitVec 32) : Prop :=
  ((k12_t5_loop v20).OK) ∧
  (∀ k12_t5 : Fin (k12_t5_loop v20).trips, ∀ a, (k12_off13 i k12_t4 v20 k12_t5) a + S128.size a ≤ S10240128.size a) ∧
  (∀ k12_t5 : Fin (k12_t5_loop v20).trips, (k12_t6_loop v20 k12_t5).OK) ∧
  (∀ (k12_t5 : Fin (k12_t5_loop v20).trips) (k12_t6 : Fin (k12_t6_loop v20 k12_t5).trips), ∀ a, (k12_off15 v20 k12_t5 k12_t6) a + S16.size a ≤ S144.size a) ∧
  (∀ (k12_t5 : Fin (k12_t5_loop v20).trips) (k12_t6 : Fin (k12_t6_loop v20 k12_t5).trips), ∀ (r : Fin 4), ∀ a, (k12_off17 v20 k12_t5 k12_t6 (BitVec.ofNat 32 (16 * r.val))) a + S1x16.size a ≤ S64x128.size a) ∧
  (∀ k12_t5 : Fin (k12_t5_loop v20).trips, (k12_t7_loop v20 k12_t5).OK) ∧
  (∀ (k12_t5 : Fin (k12_t5_loop v20).trips) (k12_t7 : Fin (k12_t7_loop v20 k12_t5).trips), ∀ a, (k12_off18 v20 k12_t5 k12_t7) a + S16.size a ≤ S144.size a) ∧
  (∀ (k12_t5 : Fin (k12_t5_loop v20).trips) (k12_t7 : Fin (k12_t7_loop v20 k12_t5).trips), ∀ (r : Fin 4), ∀ a, (k12_off20 v20 k12_t5 k12_t7 (BitVec.ofNat 32 (16 * r.val))) a + S1x16.size a ≤ S64x128.size a) ∧
  ((k12_t8_loop v20).OK) ∧
  (∀ k12_t8 : Fin (k12_t8_loop v20).trips, ∀ a, (k12_off21 i k12_t4 v20 k12_t8) a + S128.size a ≤ S10240128.size a) ∧
  (∀ k12_t8 : Fin (k12_t8_loop v20).trips, (k12_t9_loop v20 k12_t8).OK) ∧
  (∀ (k12_t8 : Fin (k12_t8_loop v20).trips) (k12_t9 : Fin (k12_t9_loop v20 k12_t8).trips), ∀ a, (k12_off23 v20 k12_t8 k12_t9) a + S16.size a ≤ S144.size a) ∧
  (∀ (k12_t8 : Fin (k12_t8_loop v20).trips) (k12_t9 : Fin (k12_t9_loop v20 k12_t8).trips), ∀ (r : Fin 4), ∀ a, (k12_off25 v20 k12_t8 k12_t9 (BitVec.ofNat 32 (16 * r.val))) a + S1x16.size a ≤ S64x128.size a) ∧
  (∀ k12_t8 : Fin (k12_t8_loop v20).trips, (k12_t10_loop v20 k12_t8).OK) ∧
  (∀ (k12_t8 : Fin (k12_t8_loop v20).trips) (k12_t10 : Fin (k12_t10_loop v20 k12_t8).trips), ∀ a, (k12_off26 v20 k12_t8 k12_t10) a + S16.size a ≤ S144.size a) ∧
  (∀ (k12_t8 : Fin (k12_t8_loop v20).trips) (k12_t10 : Fin (k12_t10_loop v20 k12_t8).trips), ∀ (r : Fin 4), ∀ a, (k12_off28 v20 k12_t8 k12_t10 (BitVec.ofNat 32 (16 * r.val))) a + S1x16.size a ≤ S64x128.size a)
theorem k12_t5_ok : ∀ (i : grid12.Coords) (k12_t4 : Fin k12_t4_loop.trips) (v20 : BitVec 32) (k12_hw1 : k12_chk1 i k12_t4 v20), (k12_t5_loop v20).OK := fun i k12_t4 v20 k12_hw1 => k12_hw1.1
theorem k12_off13_inb : ∀ (i : grid12.Coords) (k12_t4 : Fin k12_t4_loop.trips) (v20 : BitVec 32) (k12_hw1 : k12_chk1 i k12_t4 v20) (k12_t5 : Fin (k12_t5_loop v20).trips), ∀ a, (k12_off13 i k12_t4 v20 k12_t5) a + S128.size a ≤ S10240128.size a := fun i k12_t4 v20 k12_hw1 k12_t5 => k12_hw1.2.1 k12_t5
theorem k12_t6_ok : ∀ (i : grid12.Coords) (k12_t4 : Fin k12_t4_loop.trips) (v20 : BitVec 32) (k12_hw1 : k12_chk1 i k12_t4 v20) (k12_t5 : Fin (k12_t5_loop v20).trips), (k12_t6_loop v20 k12_t5).OK := fun i k12_t4 v20 k12_hw1 k12_t5 => k12_hw1.2.2.1 k12_t5
theorem k12_off15_inb : ∀ (i : grid12.Coords) (k12_t4 : Fin k12_t4_loop.trips) (v20 : BitVec 32) (k12_hw1 : k12_chk1 i k12_t4 v20) (k12_t5 : Fin (k12_t5_loop v20).trips) (k12_t6 : Fin (k12_t6_loop v20 k12_t5).trips), ∀ a, (k12_off15 v20 k12_t5 k12_t6) a + S16.size a ≤ S144.size a := fun i k12_t4 v20 k12_hw1 k12_t5 k12_t6 => k12_hw1.2.2.2.1 k12_t5 k12_t6
theorem k12_off17_inb : ∀ (i : grid12.Coords) (k12_t4 : Fin k12_t4_loop.trips) (v20 : BitVec 32) (k12_hw1 : k12_chk1 i k12_t4 v20) (k12_t5 : Fin (k12_t5_loop v20).trips) (k12_t6 : Fin (k12_t6_loop v20 k12_t5).trips), ∀ (r : Fin 4), ∀ a, (k12_off17 v20 k12_t5 k12_t6 (BitVec.ofNat 32 (16 * r.val))) a + S1x16.size a ≤ S64x128.size a := fun i k12_t4 v20 k12_hw1 k12_t5 k12_t6 r => k12_hw1.2.2.2.2.1 k12_t5 k12_t6 r
theorem k12_t7_ok : ∀ (i : grid12.Coords) (k12_t4 : Fin k12_t4_loop.trips) (v20 : BitVec 32) (k12_hw1 : k12_chk1 i k12_t4 v20) (k12_t5 : Fin (k12_t5_loop v20).trips), (k12_t7_loop v20 k12_t5).OK := fun i k12_t4 v20 k12_hw1 k12_t5 => k12_hw1.2.2.2.2.2.1 k12_t5
theorem k12_off18_inb : ∀ (i : grid12.Coords) (k12_t4 : Fin k12_t4_loop.trips) (v20 : BitVec 32) (k12_hw1 : k12_chk1 i k12_t4 v20) (k12_t5 : Fin (k12_t5_loop v20).trips) (k12_t7 : Fin (k12_t7_loop v20 k12_t5).trips), ∀ a, (k12_off18 v20 k12_t5 k12_t7) a + S16.size a ≤ S144.size a := fun i k12_t4 v20 k12_hw1 k12_t5 k12_t7 => k12_hw1.2.2.2.2.2.2.1 k12_t5 k12_t7
theorem k12_off20_inb : ∀ (i : grid12.Coords) (k12_t4 : Fin k12_t4_loop.trips) (v20 : BitVec 32) (k12_hw1 : k12_chk1 i k12_t4 v20) (k12_t5 : Fin (k12_t5_loop v20).trips) (k12_t7 : Fin (k12_t7_loop v20 k12_t5).trips), ∀ (r : Fin 4), ∀ a, (k12_off20 v20 k12_t5 k12_t7 (BitVec.ofNat 32 (16 * r.val))) a + S1x16.size a ≤ S64x128.size a := fun i k12_t4 v20 k12_hw1 k12_t5 k12_t7 r => k12_hw1.2.2.2.2.2.2.2.1 k12_t5 k12_t7 r
theorem k12_t8_ok : ∀ (i : grid12.Coords) (k12_t4 : Fin k12_t4_loop.trips) (v20 : BitVec 32) (k12_hw1 : k12_chk1 i k12_t4 v20), (k12_t8_loop v20).OK := fun i k12_t4 v20 k12_hw1 => k12_hw1.2.2.2.2.2.2.2.2.1
theorem k12_off21_inb : ∀ (i : grid12.Coords) (k12_t4 : Fin k12_t4_loop.trips) (v20 : BitVec 32) (k12_hw1 : k12_chk1 i k12_t4 v20) (k12_t8 : Fin (k12_t8_loop v20).trips), ∀ a, (k12_off21 i k12_t4 v20 k12_t8) a + S128.size a ≤ S10240128.size a := fun i k12_t4 v20 k12_hw1 k12_t8 => k12_hw1.2.2.2.2.2.2.2.2.2.1 k12_t8
theorem k12_t9_ok : ∀ (i : grid12.Coords) (k12_t4 : Fin k12_t4_loop.trips) (v20 : BitVec 32) (k12_hw1 : k12_chk1 i k12_t4 v20) (k12_t8 : Fin (k12_t8_loop v20).trips), (k12_t9_loop v20 k12_t8).OK := fun i k12_t4 v20 k12_hw1 k12_t8 => k12_hw1.2.2.2.2.2.2.2.2.2.2.1 k12_t8
theorem k12_off23_inb : ∀ (i : grid12.Coords) (k12_t4 : Fin k12_t4_loop.trips) (v20 : BitVec 32) (k12_hw1 : k12_chk1 i k12_t4 v20) (k12_t8 : Fin (k12_t8_loop v20).trips) (k12_t9 : Fin (k12_t9_loop v20 k12_t8).trips), ∀ a, (k12_off23 v20 k12_t8 k12_t9) a + S16.size a ≤ S144.size a := fun i k12_t4 v20 k12_hw1 k12_t8 k12_t9 => k12_hw1.2.2.2.2.2.2.2.2.2.2.2.1 k12_t8 k12_t9
theorem k12_off25_inb : ∀ (i : grid12.Coords) (k12_t4 : Fin k12_t4_loop.trips) (v20 : BitVec 32) (k12_hw1 : k12_chk1 i k12_t4 v20) (k12_t8 : Fin (k12_t8_loop v20).trips) (k12_t9 : Fin (k12_t9_loop v20 k12_t8).trips), ∀ (r : Fin 4), ∀ a, (k12_off25 v20 k12_t8 k12_t9 (BitVec.ofNat 32 (16 * r.val))) a + S1x16.size a ≤ S64x128.size a := fun i k12_t4 v20 k12_hw1 k12_t8 k12_t9 r => k12_hw1.2.2.2.2.2.2.2.2.2.2.2.2.1 k12_t8 k12_t9 r
theorem k12_t10_ok : ∀ (i : grid12.Coords) (k12_t4 : Fin k12_t4_loop.trips) (v20 : BitVec 32) (k12_hw1 : k12_chk1 i k12_t4 v20) (k12_t8 : Fin (k12_t8_loop v20).trips), (k12_t10_loop v20 k12_t8).OK := fun i k12_t4 v20 k12_hw1 k12_t8 => k12_hw1.2.2.2.2.2.2.2.2.2.2.2.2.2.1 k12_t8
theorem k12_off26_inb : ∀ (i : grid12.Coords) (k12_t4 : Fin k12_t4_loop.trips) (v20 : BitVec 32) (k12_hw1 : k12_chk1 i k12_t4 v20) (k12_t8 : Fin (k12_t8_loop v20).trips) (k12_t10 : Fin (k12_t10_loop v20 k12_t8).trips), ∀ a, (k12_off26 v20 k12_t8 k12_t10) a + S16.size a ≤ S144.size a := fun i k12_t4 v20 k12_hw1 k12_t8 k12_t10 => k12_hw1.2.2.2.2.2.2.2.2.2.2.2.2.2.2.1 k12_t8 k12_t10
theorem k12_off28_inb : ∀ (i : grid12.Coords) (k12_t4 : Fin k12_t4_loop.trips) (v20 : BitVec 32) (k12_hw1 : k12_chk1 i k12_t4 v20) (k12_t8 : Fin (k12_t8_loop v20).trips) (k12_t10 : Fin (k12_t10_loop v20 k12_t8).trips), ∀ (r : Fin 4), ∀ a, (k12_off28 v20 k12_t8 k12_t10 (BitVec.ofNat 32 (16 * r.val))) a + S1x16.size a ≤ S64x128.size a := fun i k12_t4 v20 k12_hw1 k12_t8 k12_t10 r => k12_hw1.2.2.2.2.2.2.2.2.2.2.2.2.2.2.2 k12_t8 k12_t10 r

def k12_mult3 (i : grid12.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_11 : BitVec 32 := 160#32
  let v14 : BitVec 32 := Scalar.muli v1 c160_i32_11
  v14
def k12_off29 (i : grid12.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32_11 : BitVec 32 := 160#32
  let v14 : BitVec 32 := Scalar.muli v1 c160_i32_11
  let v15 : BitVec 32 := v14
  let c0_i32_12_r6 : BitVec 32 := 0#32
  ![v15.toNat, 0]
abbrev scKind : Fin 7 → Kind := fun | 0 => .scVector | 1 => .scVector | 2 => .scVector | 3 => .scVector | 4 => .scVector | 5 => .scVector | 6 => .scVector | ⟨_ + 7, h⟩ => absurd h (Nat.not_lt.2 (Nat.le_add_left _ _))
abbrev scNCore : Fin 7 → Nat := fun | 0 => 2 | 1 => 2 | 2 => 2 | 3 => 2 | 4 => 2 | 5 => 2 | 6 => 2 | ⟨_ + 7, h⟩ => absurd h (Nat.not_lt.2 (Nat.le_add_left _ _))
abbrev scNSub : Fin 7 → Nat := fun | 0 => 16 | 1 => 16 | 2 => 16 | 3 => 16 | 4 => 16 | 5 => 16 | 6 => 16 | ⟨_ + 7, h⟩ => absurd h (Nat.not_lt.2 (Nat.le_add_left _ _))
-- ==== ReferenceIdeal.lean ====
abbrev S10000x128 : Shape := ⟨2, ![10000, 128]⟩
abbrev S2x320000 : Shape := ⟨2, ![2, 320000]⟩
abbrev S128x64 : Shape := ⟨2, ![128, 64]⟩
abbrev S64 : Shape := ⟨1, ![64]⟩
abbrev S64x64 : Shape := ⟨2, ![64, 64]⟩
abbrev S1x320000 : Shape := ⟨2, ![1, 320000]⟩
abbrev S320000 : Shape := ⟨1, ![320000]⟩
abbrev S10000x64 : Shape := ⟨2, ![10000, 64]⟩
abbrev S1x64 : Shape := ⟨2, ![1, 64]⟩
abbrev S_ : Shape := ⟨0, ![]⟩
abbrev S1x320000x1 : Shape := ⟨3, ![1, 320000, 1]⟩
abbrev S10000 : Shape := ⟨1, ![10000]⟩
abbrev S10000x1x1 : Shape := ⟨3, ![10000, 1, 1]⟩
abbrev S10000x320000x1 : Shape := ⟨3, ![10000, 320000, 1]⟩
abbrev S320000x1 : Shape := ⟨2, ![320000, 1]⟩
abbrev S320000x64 : Shape := ⟨2, ![320000, 64]⟩
abbrev S320000x128 : Shape := ⟨2, ![320000, 128]⟩
abbrev S1x320000x64 : Shape := ⟨3, ![1, 320000, 64]⟩
abbrev S10000x320000x64 : Shape := ⟨3, ![10000, 320000, 64]⟩

abbrev nBuf : Space → Nat
  | .hbm => 189
  | .vmem => 0
  | .smem => 0
  | _ => 0

abbrev hbmTy0_0 (i : Nat) : BufTy := match i % 128 with
  | 0 => ⟨S10000x128, .f32⟩
  | 1 => ⟨S2x320000, .i32⟩
  | 2 => ⟨S128x64, .f32⟩
  | 3 => ⟨S64, .f32⟩
  | 4 => ⟨S64x64, .f32⟩
  | 5 => ⟨S64, .f32⟩
  | 6 => ⟨S128x64, .f32⟩
  | 7 => ⟨S64, .f32⟩
  | 8 => ⟨S64x64, .f32⟩
  | 9 => ⟨S64, .f32⟩
  | 10 => ⟨S128x64, .f32⟩
  | 11 => ⟨S64, .f32⟩
  | 12 => ⟨S64x64, .f32⟩
  | 13 => ⟨S64, .f32⟩
  | 14 => ⟨S128x64, .f32⟩
  | 15 => ⟨S64, .f32⟩
  | 16 => ⟨S64x64, .f32⟩
  | 17 => ⟨S64, .f32⟩
  | 18 => ⟨S1x320000, .i32⟩
  | 19 => ⟨S320000, .i32⟩
  | 20 => ⟨S1x320000, .i32⟩
  | 21 => ⟨S320000, .i32⟩
  | 22 => ⟨S10000x64, .f32⟩
  | 23 => ⟨S1x64, .f32⟩
  | 24 => ⟨S10000x64, .f32⟩
  | 25 => ⟨S10000x64, .f32⟩
  | 26 => ⟨S_, .f32⟩
  | 27 => ⟨S10000x64, .f32⟩
  | 28 => ⟨S10000x64, .f32⟩
  | 29 => ⟨S10000x64, .f32⟩
  | 30 => ⟨S1x64, .f32⟩
  | 31 => ⟨S10000x64, .f32⟩
  | 32 => ⟨S10000x64, .f32⟩
  | 33 => ⟨S1x320000x1, .i32⟩
  | 34 => ⟨S10000, .i32⟩
  | 35 => ⟨S10000x1x1, .i32⟩
  | 36 => ⟨S10000x320000x1, .i32⟩
  | 37 => ⟨S10000x320000x1, .i32⟩
  | 38 => ⟨S10000x320000x1, .i1⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x64, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x64, .f32⟩
  | 57 => ⟨S320000x64, .f32⟩
  | 58 => ⟨S320000x128, .f32⟩
  | 59 => ⟨S320000x64, .f32⟩
  | 60 => ⟨S1x64, .f32⟩
  | 61 => ⟨S320000x64, .f32⟩
  | 62 => ⟨S320000x64, .f32⟩
  | 63 => ⟨S_, .f32⟩
  | 64 => ⟨S320000x64, .f32⟩
  | 65 => ⟨S320000x64, .f32⟩
  | 66 => ⟨S320000x64, .f32⟩
  | 67 => ⟨S1x64, .f32⟩
  | 68 => ⟨S320000x64, .f32⟩
  | 69 => ⟨S320000x64, .f32⟩
  | 70 => ⟨S1x320000x64, .f32⟩
  | 71 => ⟨S_, .f32⟩
  | 72 => ⟨S_, .f32⟩
  | 73 => ⟨S10000x320000x64, .i1⟩
  | 74 => ⟨S10000x320000x64, .f32⟩
  | 75 => ⟨S10000x320000x64, .f32⟩
  | 76 => ⟨S10000x320000x64, .f32⟩
  | 77 => ⟨S_, .f32⟩
  | 78 => ⟨S10000x64, .f32⟩
  | 79 => ⟨S_, .f32⟩
  | 80 => ⟨S10000x64, .f32⟩
  | 81 => ⟨S10000x64, .i1⟩
  | 82 => ⟨S_, .f32⟩
  | 83 => ⟨S_, .f32⟩
  | 84 => ⟨S10000x64, .f32⟩
  | 85 => ⟨S10000x64, .f32⟩
  | 86 => ⟨S_, .f32⟩
  | 87 => ⟨S10000x64, .f32⟩
  | 88 => ⟨S10000x64, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S320000x64, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000x64, .f32⟩
  | 107 => ⟨S320000x64, .f32⟩
  | 108 => ⟨S320000x128, .f32⟩
  | 109 => ⟨S320000x64, .f32⟩
  | 110 => ⟨S1x64, .f32⟩
  | 111 => ⟨S320000x64, .f32⟩
  | 112 => ⟨S320000x64, .f32⟩
  | 113 => ⟨S_, .f32⟩
  | 114 => ⟨S320000x64, .f32⟩
  | 115 => ⟨S320000x64, .f32⟩
  | 116 => ⟨S320000x64, .f32⟩
  | 117 => ⟨S1x64, .f32⟩
  | 118 => ⟨S320000x64, .f32⟩
  | 119 => ⟨S320000x64, .f32⟩
  | 120 => ⟨S1x320000x64, .f32⟩
  | 121 => ⟨S_, .f32⟩
  | 122 => ⟨S_, .f32⟩
  | 123 => ⟨S10000x320000x64, .i1⟩
  | 124 => ⟨S10000x320000x64, .f32⟩
  | 125 => ⟨S10000x320000x64, .f32⟩
  | 126 => ⟨S10000x320000x64, .f32⟩
  | 127 => ⟨S_, .f32⟩
  | _ => ⟨S10000x128, .f32⟩

abbrev hbmTy0_1 (i : Nat) : BufTy := match i % 128 with
  | 0 => ⟨S10000x64, .f32⟩
  | 1 => ⟨S_, .f32⟩
  | 2 => ⟨S10000x64, .f32⟩
  | 3 => ⟨S10000x64, .i1⟩
  | 4 => ⟨S_, .f32⟩
  | 5 => ⟨S_, .f32⟩
  | 6 => ⟨S10000x64, .f32⟩
  | 7 => ⟨S10000x64, .f32⟩
  | 8 => ⟨S_, .f32⟩
  | 9 => ⟨S10000x64, .f32⟩
  | 10 => ⟨S10000x64, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000x64, .f32⟩
  | 20 => ⟨S_, .i32⟩
  | 21 => ⟨S320000, .i32⟩
  | 22 => ⟨S320000, .i1⟩
  | 23 => ⟨S_, .i32⟩
  | 24 => ⟨S320000, .i32⟩
  | 25 => ⟨S320000, .i32⟩
  | 26 => ⟨S320000, .i32⟩
  | 27 => ⟨S320000x1, .i32⟩
  | 28 => ⟨S320000x64, .f32⟩
  | 29 => ⟨S320000x64, .f32⟩
  | 30 => ⟨S320000x128, .f32⟩
  | 31 => ⟨S320000x64, .f32⟩
  | 32 => ⟨S1x64, .f32⟩
  | 33 => ⟨S320000x64, .f32⟩
  | 34 => ⟨S320000x64, .f32⟩
  | 35 => ⟨S_, .f32⟩
  | 36 => ⟨S320000x64, .f32⟩
  | 37 => ⟨S320000x64, .f32⟩
  | 38 => ⟨S320000x64, .f32⟩
  | 39 => ⟨S1x64, .f32⟩
  | 40 => ⟨S320000x64, .f32⟩
  | 41 => ⟨S320000x64, .f32⟩
  | 42 => ⟨S1x320000x64, .f32⟩
  | 43 => ⟨S_, .f32⟩
  | 44 => ⟨S_, .f32⟩
  | 45 => ⟨S10000x320000x64, .i1⟩
  | 46 => ⟨S10000x320000x64, .f32⟩
  | 47 => ⟨S10000x320000x64, .f32⟩
  | 48 => ⟨S10000x320000x64, .f32⟩
  | 49 => ⟨S_, .f32⟩
  | 50 => ⟨S10000x64, .f32⟩
  | 51 => ⟨S_, .f32⟩
  | 52 => ⟨S10000x64, .f32⟩
  | 53 => ⟨S10000x64, .i1⟩
  | 54 => ⟨S_, .f32⟩
  | 55 => ⟨S_, .f32⟩
  | 56 => ⟨S10000x64, .f32⟩
  | 57 => ⟨S10000x64, .f32⟩
  | 58 => ⟨S_, .f32⟩
  | 59 => ⟨S10000x64, .f32⟩
  | 60 => ⟨S10000x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_1 : Ref sig .tc := ⟨.hbm, 48, rfl⟩
abbrev main_v27 : Ref sig .tc := ⟨.hbm, 49, rfl⟩
abbrev main_v28 : Ref sig .tc := ⟨.hbm, 50, rfl⟩
abbrev main_c_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_cst_6 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_call1_v0 : Ref sig .tc := ⟨.hbm, 83, rfl⟩
abbrev main_call1_v1 : Ref sig .tc := ⟨.hbm, 84, rfl⟩
abbrev main_v51 : Ref sig .tc := ⟨.hbm, 85, rfl⟩
abbrev main_cst_8 : Ref sig .tc := ⟨.hbm, 86, rfl⟩
abbrev main_v52 : Ref sig .tc := ⟨.hbm, 87, rfl⟩
abbrev main_v53 : Ref sig .tc := ⟨.hbm, 88, rfl⟩
abbrev main_c_9 : Ref sig .tc := ⟨.hbm, 89, rfl⟩
abbrev main_v54 : Ref sig .tc := ⟨.hbm, 90, rfl⟩
abbrev main_v55 : Ref sig .tc := ⟨.hbm, 91, rfl⟩
abbrev main_c_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_11 : Ref sig .tc := ⟨.hbm, 98, rfl⟩
abbrev main_v61 : Ref sig .tc := ⟨.hbm, 99, rfl⟩
abbrev main_v62 : Ref sig .tc := ⟨.hbm, 100, rfl⟩
abbrev main_c_12 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_13 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_v81 : Ref sig .tc := ⟨.hbm, 126, rfl⟩
abbrev main_cst_15 : Ref sig .tc := ⟨.hbm, 127, rfl⟩
abbrev main_v82 : Ref sig .tc := ⟨.hbm, 128, rfl⟩
abbrev main_cst_16 : Ref sig .tc := ⟨.hbm, 129, rfl⟩
abbrev main_v83 : Ref sig .tc := ⟨.hbm, 130, rfl⟩
abbrev main_v84 : Ref sig .tc := ⟨.hbm, 131, rfl⟩
abbrev main_cst_17 : Ref sig .tc := ⟨.hbm, 132, rfl⟩
abbrev main_call3_v0 : Ref sig .tc := ⟨.hbm, 133, rfl⟩
abbrev main_call3_v1 : Ref sig .tc := ⟨.hbm, 134, rfl⟩
abbrev main_v85 : Ref sig .tc := ⟨.hbm, 135, rfl⟩
abbrev main_cst_18 : Ref sig .tc := ⟨.hbm, 136, rfl⟩
abbrev main_v86 : Ref sig .tc := ⟨.hbm, 137, rfl⟩
abbrev main_v87 : Ref sig .tc := ⟨.hbm, 138, rfl⟩
abbrev main_c_19 : Ref sig .tc := ⟨.hbm, 139, rfl⟩
abbrev main_v88 : Ref sig .tc := ⟨.hbm, 140, rfl⟩
abbrev main_v89 : Ref sig .tc := ⟨.hbm, 141, rfl⟩
abbrev main_c_20 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_c_21 : Ref sig .tc := ⟨.hbm, 148, rfl⟩
abbrev main_v95 : Ref sig .tc := ⟨.hbm, 149, rfl⟩
abbrev main_v96 : Ref sig .tc := ⟨.hbm, 150, rfl⟩
abbrev main_c_22 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_23 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_24 : Ref sig .tc := ⟨.hbm, 171, rfl⟩
abbrev main_call4_v0 : Ref sig .tc := ⟨.hbm, 172, rfl⟩
abbrev main_call4_v1 : Ref sig .tc := ⟨.hbm, 173, rfl⟩
abbrev main_call4_v2 : Ref sig .tc := ⟨.hbm, 174, rfl⟩
abbrev main_call4_v3 : Ref sig .tc := ⟨.hbm, 175, rfl⟩
abbrev main_v115 : Ref sig .tc := ⟨.hbm, 176, rfl⟩
abbrev main_cst_25 : Ref sig .tc := ⟨.hbm, 177, rfl⟩
abbrev main_v116 : Ref sig .tc := ⟨.hbm, 178, rfl⟩
abbrev main_cst_26 : Ref sig .tc := ⟨.hbm, 179, rfl⟩
abbrev main_v117 : Ref sig .tc := ⟨.hbm, 180, rfl⟩
abbrev main_v118 : Ref sig .tc := ⟨.hbm, 181, rfl⟩
abbrev main_cst_27 : Ref sig .tc := ⟨.hbm, 182, rfl⟩
abbrev main_call5_v0 : Ref sig .tc := ⟨.hbm, 183, rfl⟩
abbrev main_call5_v1 : Ref sig .tc := ⟨.hbm, 184, rfl⟩
abbrev main_v119 : Ref sig .tc := ⟨.hbm, 185, rfl⟩
abbrev main_cst_28 : Ref sig .tc := ⟨.hbm, 186, rfl⟩
abbrev main_v120 : Ref sig .tc := ⟨.hbm, 187, rfl⟩
abbrev main_v121 : Ref sig .tc := ⟨.hbm, 188, rfl⟩

abbrev nD : Nat := 1
abbrev τ : Topo := Topo.v7x

variable {F : FTy → Type} [FloatOps F]
-- ==== Proof.Lanes.lean ====
/-
  The lanes of one vector: what a masked scatter leaves at an element, and the running count of a mask.
-/
module

public import Idealize.ShloMosaic.PureOps
public import Idealize.ShloMosaic.Lib.Routing.Ops
public import Mathlib.Data.Nat.Count

@[expose] public section

namespace Cert.Proof.Lanes

open Idealize.ShloMosaic

variable {F : FTy → Type} [FloatOps F]

/-! ## A masked scatter, element by element -/

section Store

variable {s : Shape} {e : EltTy} {d : Fin 1 → Nat}

/-- One lane's write. -/
def put (idxs : Fin s.rank → IVec ⟨1, d⟩ 32) (v : Vec F ⟨1, d⟩ e) (mask : IVec ⟨1, d⟩ 1) (h : ∀ a x, (idxs a x).toNat < s.size a)
    (g : Vec F s e) (k : Fin (d 0)) : Vec F s e :=
  if mask (Shape.ofLane k) = 1 then
    fun j => if (∀ a, (j a).val = (idxAt idxs h (Shape.ofLane k) a).val) then v (Shape.ofLane k) else g j
  else g

omit [FloatOps F] in
theorem foldl_put_keep (idxs : Fin s.rank → IVec ⟨1, d⟩ 32) (v : Vec F ⟨1, d⟩ e) (mask : IVec ⟨1, d⟩ 1) (h : ∀ a x, (idxs a x).toNat < s.size a)
    (j : s.Idx) (y : Elt F e) (l : List (Fin (d 0)))
    (hl : ∀ k ∈ l, mask (Shape.ofLane k) = 1 → (∀ a, (j a).val = (idxAt idxs h (Shape.ofLane k) a).val) → v (Shape.ofLane k) = y) :
    ∀ g : Vec F s e, g j = y → l.foldl (put idxs v mask h) g j = y := by
  induction l with
  | nil => intro g hg; exact hg
  | cons k l ih =>
    intro g hg
    rw [List.foldl_cons]
    refine ih (fun k' hk' => hl k' (List.mem_cons_of_mem _ hk')) _ ?_
    unfold put
    split
    · next hm =>
      show (if _ then _ else _) = y
      by_cases hh : ∀ a, (j a).val = (idxAt idxs h (Shape.ofLane k) a).val
      · rw [if_pos hh]; exact hl k List.mem_cons_self hm hh
      · rw [if_neg hh]; exact hg
    · exact hg

omit [FloatOps F] in
theorem foldl_put_hit (idxs : Fin s.rank → IVec ⟨1, d⟩ 32) (v : Vec F ⟨1, d⟩ e) (mask : IVec ⟨1, d⟩ 1) (h : ∀ a x, (idxs a x).toNat < s.size a)
    (j : s.Idx) (y : Elt F e) (k : Fin (d 0)) (hm : mask (Shape.ofLane k) = 1) (hj : ∀ a, (j a).val = (idxAt idxs h (Shape.ofLane k) a).val)
    (l : List (Fin (d 0)))
    (hl : ∀ k ∈ l, mask (Shape.ofLane k) = 1 → (∀ a, (j a).val = (idxAt idxs h (Shape.ofLane k) a).val) → v (Shape.ofLane k) = y) :
    k ∈ l → ∀ g : Vec F s e, l.foldl (put idxs v mask h) g j = y := by
  induction l with
  | nil => intro hk; cases hk
  | cons k' l ih =>
    intro hk g
    rw [List.foldl_cons]
    have hl' : ∀ k ∈ l, mask (Shape.ofLane k) = 1 → (∀ a, (j a).val = (idxAt idxs h (Shape.ofLane k) a).val) → v (Shape.ofLane k) = y :=
      fun k' hk' => hl k' (List.mem_cons_of_mem _ hk')
    rcases List.mem_cons.mp hk with rfl | hk
    · refine foldl_put_keep idxs v mask h j y l hl' _ ?_
      unfold put
      rw [if_pos hm]
      show (if _ then _ else _) = y
      rw [if_pos hj]
      exact hl k List.mem_cons_self hm hj
    · exact ih hl' hk _

theorem storeIdx_eq (f : Vec F s e) (idxs : Fin s.rank → IVec ⟨1, d⟩ 32) (v : Vec F ⟨1, d⟩ e) (mask : IVec ⟨1, d⟩ 1) (h : ∀ a x, (idxs a x).toNat < s.size a) :
    storeIdx f idxs v mask false h = (List.finRange (d 0)).foldl (put idxs v mask h) f := by
  unfold storeIdx put
  refine congrFun (congrArg₂ List.foldl ?_ rfl) _
  funext g k
  simp only [Bool.false_eq_true, if_false]

/-- An element no stored lane names keeps its value. -/
theorem storeIdx_keep (f : Vec F s e) (idxs : Fin s.rank → IVec ⟨1, d⟩ 32) (v : Vec F ⟨1, d⟩ e) (mask : IVec ⟨1, d⟩ 1) (h : ∀ a x, (idxs a x).toNat < s.size a)
    (j : s.Idx) (hj : ∀ k, mask (Shape.ofLane k) = 1 → ¬ ∀ a, (j a).val = (idxs a (Shape.ofLane k)).toNat) :
    storeIdx f idxs v mask false h j = f j := by
  rw [storeIdx_eq]
  exact foldl_put_keep idxs v mask h j (f j) _ (fun k _ hm hh => absurd hh (hj k hm)) f rfl

/-- An element a stored lane names holds that lane's value, when the lanes that name it agree. -/
theorem storeIdx_hit (f : Vec F s e) (idxs : Fin s.rank → IVec ⟨1, d⟩ 32) (v : Vec F ⟨1, d⟩ e) (mask : IVec ⟨1, d⟩ 1) (h : ∀ a x, (idxs a x).toNat < s.size a)
    (j : s.Idx) (k : Fin (d 0)) (hm : mask (Shape.ofLane k) = 1) (hj : ∀ a, (j a).val = (idxs a (Shape.ofLane k)).toNat)
    (hu : ∀ k', mask (Shape.ofLane k') = 1 → (∀ a, (j a).val = (idxs a (Shape.ofLane k')).toNat) → k' = k) :
    storeIdx f idxs v mask false h j = v (Shape.ofLane k) := by
  rw [storeIdx_eq]
  exact foldl_put_hit idxs v mask h j _ k hm hj _ (fun k' _ hm' hh' => by rw [hu k' hm' hh']) (List.mem_finRange k) f

end Store

/-! ## The running count of a mask -/

theorem count_words (p : ℕ → Prop) [DecidablePred p] (n : ℕ) :
    BitVec.ofNat 32 (Nat.count p n) + (if p n then 1#32 else 0#32) = BitVec.ofNat 32 (Nat.count p (n + 1)) := by
  rw [Nat.count_succ]
  split <;> simp [BitVec.ofNat_add]

theorem foldl_count_words (p : ℕ → Prop) [DecidablePred p] (N : ℕ) (g : Fin N → BitVec 32) (hg : ∀ k, g k = if p k.val then 1#32 else 0#32) (a : ℕ) :
    ∀ n, a + n ≤ N → ∀ l : List (Fin N), l.map Fin.val = List.range' a n →
      l.foldl (fun r k => r + g k) (BitVec.ofNat 32 (Nat.count p a)) = BitVec.ofNat 32 (Nat.count p (a + n)) := by
  intro n
  induction n generalizing a with
  | zero => intro _ l hl; rw [List.range'_zero, List.map_eq_nil_iff] at hl; subst hl; rfl
  | succ n ih =>
    intro hn l hl
    cases l with
    | nil => simp [List.range'] at hl
    | cons k l =>
      rw [List.map_cons, List.range'_succ, List.cons.injEq] at hl
      rw [List.foldl_cons, hg, hl.1, count_words, ih (a + 1) (by omega) l hl.2]
      congr 2; omega

/-- The running sum of a mask's bits, lane by lane: how many set lanes there are up to and with this one. -/
theorem scan_count (p : ℕ → Prop) [DecidablePred p] (v : IVec ⟨1, ![16]⟩ 32) (hv : ∀ k : Fin 16, v (Shape.ofLane k) = if p k.val then 1#32 else 0#32)
    (j : Fin 16) : scan .sum v (Shape.ofLane j) = BitVec.ofNat 32 (Nat.count p (j.val + 1)) := by
  have hl : ((List.finRange 16).filter fun k => decide (0 < k.val ∧ k.val ≤ j.val)).map Fin.val = List.range' 1 j.val := by
    revert j; decide
  have h0 : v (Shape.ofLane (⟨0, by decide⟩ : Fin 16)) = BitVec.ofNat 32 (Nat.count p 1) := by
    rw [hv, ← count_words p 0]; simp
  have := foldl_count_words p 16 (fun k => v (Shape.ofLane k)) hv 1 j.val (by omega) _ hl
  rw [← h0, Nat.add_comm] at this
  exact this

end Cert.Proof.Lanes
-- ==== Proof.Words.lean ====
/-
  The words of the binning kernel: which edges a tile keeps, the packed word of an edge, the place of a kept edge in its
  segment's list, and what one trip of the inner loop (sixteen edges) does to the list and to its length.
-/
module

public import proofs.«01_k».proof.Proof.Gen.KernelIdeal.Skeleton
public import proofs.«01_k».proof.Proof.Lanes

@[expose] public section

noncomputable section

namespace Cert.Proof.Words

open Cert.KernelIdeal Cert.KernelIdeal.Gen
open Idealize.ShloMosaic Cert.Proof.Lanes

variable {F : FTy → Type} [FloatOps F]

/-- The first node of tile `t`. -/
def lo (t : ℕ) : BitVec 32 := BitVec.ofNat 32 (320 * t)

/-- Tile `t` keeps an edge whose destination is one of its 320 nodes. -/
def Mine (t : ℕ) (d : BitVec 32) : Prop := (0#32).sle (d - lo t) = true ∧ (d - lo t).slt 320#32 = true

instance (t : ℕ) (d : BitVec 32) : Decidable (Mine t d) := by unfold Mine; infer_instance

/-- The packed word of an edge: the source node above nine bits of the destination's place among the tile's nodes. -/
def word (t : ℕ) (d s : BitVec 32) : BitVec 32 := s <<< (9#32) ||| ((d - lo t) &&& 511#32)

/-- How many of the first `n` edges tile `t` keeps. -/
abbrev kept (t : ℕ) (D : ℕ → BitVec 32) (n : ℕ) : ℕ := Nat.count (fun e => Mine t (D e)) n

theorem kept_le (t : ℕ) (D : ℕ → BitVec 32) (n : ℕ) : kept t D n ≤ n := Nat.count_le _

/-- The list holds, at each kept edge's place, that edge's word; its other elements are arbitrary. -/
def ListOK {N : ℕ} (t : ℕ) (D S : ℕ → BitVec 32) (n : ℕ) (f : (⟨1, ![N]⟩ : Shape).Idx → BitVec 32) : Prop :=
  ∀ e, e < n → Mine t (D e) → ∀ j : (⟨1, ![N]⟩ : Shape).Idx, (j 0).val = kept t D e → f j = word t (D e) (S e)

section Trip

variable (t : ℕ) (D S : ℕ → BitVec 32) (b : ℕ)

/-- The sixteen destinations of a trip. -/
abbrev Dv (D : ℕ → BitVec 32) (b : ℕ) : Vec F S16 .i32 := fun x => D (b + (x 0).val)

theorem pay4_lane (k : Fin 16) : k0_pay4 (F := F) (lo t) (Dv D b) (Shape.ofLane (d := ![16]) k) = if Mine t (D (b + k.val)) then 1#1 else 0#1 := by
  show IntOp.andi (BitVec.ofBool ((0#32).sle (D (b + k.val) - lo t))) (BitVec.ofBool ((D (b + k.val) - lo t).slt 320#32)) = _
  by_cases h : Mine t (D (b + k.val))
  · rw [if_pos h, h.1, h.2]; rfl
  · rw [if_neg h]
    unfold Mine at h
    revert h
    generalize (0#32).sle (D (b + k.val) - lo t) = u
    generalize (D (b + k.val) - lo t).slt 320#32 = v
    revert u v; decide

theorem pay4_one (k : Fin 16) : k0_pay4 (F := F) (lo t) (Dv D b) (Shape.ofLane (d := ![16]) k) = 1 ↔ Mine t (D (b + k.val)) := by
  rw [pay4_lane]; split <;> simp_all

theorem pay6_lane (k : Fin 16) : k0_pay6 (F := F) (lo t) (Dv D b) (Shape.ofLane (d := ![16]) k)
    = BitVec.ofNat 32 (Nat.count (fun x => Mine t (D (b + x))) (k.val + 1)) := by
  refine scan_count (fun x => Mine t (D (b + x))) _ (fun k => ?_) k
  show (k0_pay4 (F := F) (lo t) (Dv D b) (Shape.ofLane (d := ![16]) k)).setWidth 32 = _
  rw [pay4_lane]; split <;> rfl

theorem kept_add (n : ℕ) : kept t D (b + n) = kept t D b + Nat.count (fun x => Mine t (D (b + x))) n := Nat.count_add _ _ _

theorem pay7_lane (k : Fin 16) : k0_pay7 (F := F) (lo t) (BitVec.ofNat 32 (kept t D b)) (Dv D b) (Shape.ofLane (d := ![16]) k)
    = if Mine t (D (b + k.val)) then BitVec.ofNat 32 (kept t D (b + k.val)) else 0#32 := by
  show Scalar.select (k0_pay4 (F := F) (lo t) (Dv D b) (Shape.ofLane (d := ![16]) k))
    (BitVec.ofNat 32 (kept t D b) + k0_pay6 (F := F) (lo t) (Dv D b) (Shape.ofLane (d := ![16]) k) - 1#32) 0#32 = _
  unfold Scalar.select
  simp only [pay4_one, pay6_lane]
  split
  · next h =>
    rw [Nat.count_succ, if_pos h, kept_add, BitVec.ofNat_add, BitVec.ofNat_add, ← BitVec.add_assoc]
    simp
  · rfl

theorem pay7_toNat (hb : b + 16 ≤ 40000) (k : Fin 16) :
    (k0_pay7 (F := F) (lo t) (BitVec.ofNat 32 (kept t D b)) (Dv D b) (Shape.ofLane (d := ![16]) k)).toNat
      = if Mine t (D (b + k.val)) then kept t D (b + k.val) else 0 := by
  rw [pay7_lane]
  have := kept_le t D (b + k.val)
  split
  · rw [BitVec.toNat_ofNat, Nat.mod_eq_of_lt (by omega)]
  · rfl

theorem ofLane_surj (x : (⟨1, ![16]⟩ : Shape).Idx) : x = Shape.ofLane (d := ![16]) (x 0) := by
  funext a; match a with | 0 => rfl

/-- Every lane's index is inside the list. -/
theorem chk (hb : b + 16 ≤ 40000) : k0_chk1 (k0_pay7 (F := F) (lo t) (BitVec.ofNat 32 (kept t D b)) (Dv D b)) := by
  intro a x
  match a with
  | 0 =>
    show (k0_pay7 (F := F) (lo t) (BitVec.ofNat 32 (kept t D b)) (Dv D b) x).toNat < 40016
    obtain ⟨k, rfl⟩ : ∃ k : Fin 16, x = Shape.ofLane (d := ![16]) k := ⟨x 0, ofLane_surj x⟩
    rw [pay7_toNat t D b hb]
    have := kept_le t D (b + k.val)
    split <;> omega

theorem kept_inj {e e' : ℕ} (h : Mine t (D e)) (h' : Mine t (D e')) (he : kept t D e = kept t D e') : e = e' :=
  Nat.count_injective h h' he

theorem pay5_lane (k : Fin 16) : k0_pay5 (F := F) (lo t) (Dv D b) (Dv S b) (Shape.ofLane (d := ![16]) k) = word t (D (b + k.val)) (S (b + k.val)) := rfl

/-- One trip of the inner loop leaves the list right for sixteen more edges. -/
theorem list_step (hb : b + 16 ≤ 40000) (f : Vec F S40016 .i32) (hf : ListOK (N := 40016) t D S b f)
    (h : ∀ a x, ((![k0_pay7 (F := F) (lo t) (BitVec.ofNat 32 (kept t D b)) (Dv D b)] : Fin 1 → IVec S16 32) a x).toNat < S40016.size a) :
    ListOK (N := 40016) t D S (b + 16)
      (storeIdx (F := F) (s := S40016) (e := .i32) (d := ![16]) f ![k0_pay7 (F := F) (lo t) (BitVec.ofNat 32 (kept t D b)) (Dv D b)]
        (k0_pay5 (F := F) (lo t) (Dv D b) (Dv S b)) (k0_pay4 (F := F) (lo t) (Dv D b)) false h) := by
  intro e he hm j hj
  by_cases hlt : e < b
  · rw [← hf e hlt hm j hj]
    refine storeIdx_keep f _ _ _ h j fun k hk hh => ?_
    have hk' := (pay4_one (F := F) t D b k).mp hk
    have h0 := hh 0
    have h1 := pay7_toNat (F := F) t D b hb k
    rw [if_pos hk'] at h1
    have : e = b + k.val := kept_inj t D hm hk' (by rw [← hj, h0]; exact h1)
    omega
  · obtain ⟨k, hk⟩ : ∃ k : Fin 16, e = b + k.val := ⟨⟨e - b, by omega⟩, by simp; omega⟩
    subst hk
    refine (storeIdx_hit f _ _ _ h j k ((pay4_one (F := F) t D b k).mpr hm) (fun a => ?_) (fun k' hk' hh => ?_)).trans (pay5_lane t D S b k)
    · match a with
      | 0 =>
        have h1 := pay7_toNat (F := F) t D b hb k
        rw [if_pos hm] at h1
        exact hj.trans h1.symm
    · have hm' := (pay4_one (F := F) t D b k').mp hk'
      have h0 := hh 0
      have h1 := pay7_toNat (F := F) t D b hb k'
      rw [if_pos hm'] at h1
      have : b + k.val = b + k'.val := kept_inj t D hm hm' (by rw [← hj, h0]; exact h1)
      exact Fin.ext (by omega)

/-- The list's length after the trip. -/
theorem length_step : Scalar.addi (BitVec.ofNat 32 (kept t D b)) (extractAt ![0] (k0_pay8 (F := F) (lo t) (Dv D b)) inpos_S1_p0)
    = BitVec.ofNat 32 (kept t D (b + 16)) := by
  have h := pay6_lane (F := F) t D b 15
  have h' : extractAt ![0] (k0_pay8 (F := F) (lo t) (Dv D b)) inpos_S1_p0 = k0_pay6 (F := F) (lo t) (Dv D b) (Shape.ofLane (d := ![16]) (15 : Fin 16)) := by
    unfold extractAt k0_pay8 extractStridedSlice
    congr 1
    funext a; match a with | 0 => rfl
  rw [h', h, kept_add, BitVec.ofNat_add]
  rfl

/-- The two, over whatever the trip loaded that is the sixteen edges. -/
theorem list_step' (hb : b + 16 ≤ 40000) (f : Vec F S40016 .i32) (hf : ListOK (N := 40016) t D S b f) (va vb : Vec F S16 .i32) (ha : va = Dv D b)
    (hv : vb = Dv S b) (h : ∀ a x, ((![k0_pay7 (F := F) (lo t) (BitVec.ofNat 32 (kept t D b)) va] : Fin 1 → IVec S16 32) a x).toNat < S40016.size a) :
    ListOK (N := 40016) t D S (b + 16)
      (storeIdx (F := F) (s := S40016) (e := .i32) (d := ![16]) f ![k0_pay7 (F := F) (lo t) (BitVec.ofNat 32 (kept t D b)) va]
        (k0_pay5 (F := F) (lo t) va vb) (k0_pay4 (F := F) (lo t) va) false h) := by
  subst ha hv; exact list_step t D S b hb f hf h

theorem length_step' (va : Vec F S16 .i32) (ha : va = Dv D b) :
    Scalar.addi (BitVec.ofNat 32 (kept t D b)) (extractAt ![0] (k0_pay8 (F := F) (lo t) va) inpos_S1_p0) = BitVec.ofNat 32 (kept t D (b + 16)) := by
  subst ha; exact length_step t D b

end Trip

/-! ## The tile's number and the count of chunks -/

/-- The tile at grid coordinates `i`. -/
abbrev tile (i : grid0.Coords) : ℕ := 2 * (i 1).val + (i 0).val

theorem tile_lt (i : grid0.Coords) : tile i < 32 := by
  have h0 : (i 0).val < 2 := (i 0).isLt
  have h1 : (i 1).val < 16 := (i 1).isLt
  unfold tile; omega

theorem lo_eq (i : grid0.Coords) :
    Scalar.muli (Scalar.addi (Scalar.muli (BitVec.ofNat 32 (i 1).val) 2#32) (BitVec.ofNat 32 (i 0).val)) 320#32 = lo (tile i) := by
  show (BitVec.ofNat 32 (i 1).val * BitVec.ofNat 32 2 + BitVec.ofNat 32 (i 0).val) * BitVec.ofNat 32 320 = BitVec.ofNat 32 (320 * (2 * (i 1).val + (i 0).val))
  rw [← BitVec.ofNat_mul, ← BitVec.ofNat_add, ← BitVec.ofNat_mul]
  congr 1; omega

theorem divsi_128 (u : ArithUnit) (n : ℕ) (hn : n < 2 ^ 31) : IntOp.divsi u (BitVec.ofNat 32 n) 128#32 = BitVec.ofNat 32 (n / 128) := by
  have hcn : ¬ IntOp.SDivCorner (BitVec.ofNat 32 n) 128#32 := by
    unfold IntOp.SDivCorner
    rintro (h | ⟨-, h⟩) <;> exact absurd h (by decide)
  unfold IntOp.divsi
  rw [if_neg hcn, BitVec.sdiv_eq]
  have hm : (BitVec.ofNat 32 n).msb = false := by
    rw [BitVec.msb_eq_false_iff_two_mul_lt, BitVec.toNat_ofNat, Nat.mod_eq_of_lt (by omega)]; omega
  rw [hm, show (128#32).msb = false by decide]
  apply BitVec.eq_of_toNat_eq
  simp only [BitVec.udiv_eq, BitVec.toNat_udiv, BitVec.toNat_ofNat]
  rw [Nat.mod_eq_of_lt (show n < 2 ^ 32 by omega), Nat.mod_eq_of_lt (show n / 128 < 2 ^ 32 by omega)]

/-- The number of chunks of 128 that hold `c` words, as the kernel computes it (a division rounding down). -/
theorem chunks_eq (c : ℕ) (hc : c ≤ 40000) :
    (let v23 := Scalar.subi (Scalar.addi (BitVec.ofNat 32 c) 128#32) 1#32
     let v24 := Scalar.divsi v23 128#32
     Scalar.select (Scalar.andi (Scalar.cmpi .ne (Scalar.subi (Scalar.extui (Scalar.cmpi .sgt v23 0#32)) (Scalar.extui (Scalar.cmpi .slt v23 0#32)))
        (Scalar.subi (Scalar.extui (Scalar.cmpi .sgt 128#32 0#32)) (Scalar.extui (Scalar.cmpi .slt 128#32 0#32))))
        (Scalar.cmpi .ne (Scalar.remsi v23 128#32) 0#32)) (Scalar.subi v24 1#32) v24) = BitVec.ofNat 32 ((c + 127) / 128) := by
  have h23 : Scalar.subi (Scalar.addi (BitVec.ofNat 32 c) 128#32) 1#32 = BitVec.ofNat 32 (c + 127) := by
    show BitVec.ofNat 32 c + BitVec.ofNat 32 128 - BitVec.ofNat 32 1 = _
    rw [← BitVec.ofNat_add]
    apply BitVec.eq_of_toNat_eq
    simp; omega
  simp only [h23]
  have hn : (BitVec.ofNat 32 (c + 127)).toNat = c + 127 := by rw [BitVec.toNat_ofNat, Nat.mod_eq_of_lt (by omega)]
  have hi : (BitVec.ofNat 32 (c + 127)).toInt = c + 127 := by
    rw [BitVec.toInt_eq_toNat_of_lt (by rw [hn]; omega), hn]; rfl
  have h1 : Scalar.cmpi .sgt (BitVec.ofNat 32 (c + 127)) 0#32 = 1#1 := by
    show BitVec.ofBool ((0#32).slt (BitVec.ofNat 32 (c + 127))) = 1#1
    rw [show (0#32).slt (BitVec.ofNat 32 (c + 127)) = true by rw [BitVec.slt_iff_toInt_lt, hi]; show (0 : Int) < _; omega]
    rfl
  have h2 : Scalar.cmpi .slt (BitVec.ofNat 32 (c + 127)) 0#32 = 0#1 := by
    show BitVec.ofBool ((BitVec.ofNat 32 (c + 127)).slt 0#32) = 0#1
    rw [show (BitVec.ofNat 32 (c + 127)).slt 0#32 = false by
      rw [Bool.eq_false_iff, Ne, BitVec.slt_iff_toInt_lt, hi]; show ¬ (_ < (0 : Int)); omega]
    rfl
  rw [h1, h2]
  have h3 : Scalar.andi (Scalar.cmpi .ne (Scalar.subi (Scalar.extui 1#1) (Scalar.extui 0#1))
      (Scalar.subi (Scalar.extui (Scalar.cmpi .sgt 128#32 0#32)) (Scalar.extui (Scalar.cmpi .slt 128#32 0#32))))
      (Scalar.cmpi .ne (Scalar.remsi (BitVec.ofNat 32 (c + 127)) 128#32) 0#32) = 0#1 := by
    rw [show Scalar.cmpi .ne (Scalar.subi (Scalar.extui 1#1) (Scalar.extui 0#1))
      (Scalar.subi (Scalar.extui (Scalar.cmpi .sgt 128#32 0#32)) (Scalar.extui (Scalar.cmpi .slt 128#32 0#32))) = 0#1 by decide]
    exact BitVec.zero_and
  rw [h3]
  show (if (0#1 : BitVec 1) = 1 then _ else Scalar.divsi (BitVec.ofNat 32 (c + 127)) 128#32) = _
  rw [if_neg (by decide)]
  exact divsi_128 .scalar (c + 127) (by omega)

end Cert.Proof.Words

end
-- ==== Proof.Setup.lean ====
/-
  The launch: the program as the launch theorem sees it, the arrays and their parts, what each of them holds.
-/
module

public import proofs.«01_k».proof.Proof.Words
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 6) fun p => (pcfgs (F := F) p).Adm
abbrev K : SparseCore.Cfg τ sig (ΛP (F := F)) 7 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

set_option maxRecDepth 65536 in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined call's rounds, the transfers' counters -/

abbrev UH : Type := URounds (GSem nD τ sig) ℕ
abbrev UP : Type := URounds (GSem nD τ sig) Unit
abbrev UU : Type := UH × (UP × Counters)

local notation "𝕄" => MT nD τ sig (HIx 7) (Elt F) ℕ UU ℕ

abbrev EH : Emb UH (MT nD τ sig (HIx 7) (Elt F) ℕ UU ℕ) := embL

/-! ## The arrays -/

/-- The edges' destinations and sources, and the three results: the lists, their lengths, the totals of chunks. -/
abbrev dstLoc (d : Dev nD) : Loc nD τ sig := (SparseCore.T d).loc main_v3
abbrev srcLoc (d : Dev nD) : Loc nD τ sig := (SparseCore.T d).loc main_v1
abbrev lLoc (d : Dev nD) : Loc nD τ sig := (SparseCore.T d).loc main_v61_0
abbrev cLoc (d : Dev nD) : Loc nD τ sig := (SparseCore.T d).loc main_v61_1
abbrev tLoc (d : Dev nD) : Loc nD τ sig := (SparseCore.T d).loc main_v61_2

/-- Tile `t`'s list of segment `s`, its lengths, its total. -/
def segSet (t s : ℕ) : Finset S10240128.Idx := Finset.univ.filter fun j => 40000 * (8 * t + s) ≤ (j 0).val ∧ (j 0).val < 40000 * (8 * t + s) + 40000
def cSet (t : ℕ) : Finset S4096.Idx := Finset.univ.filter fun j => 128 * t ≤ (j 0).val ∧ (j 0).val < 128 * t + 128
def tSet (t : ℕ) : Finset S512.Idx := Finset.univ.filter fun j => 16 * t ≤ (j 0).val ∧ (j 0).val < 16 * t + 16

theorem mem_segSet {t s : ℕ} {j : S10240128.Idx} : j ∈ segSet t s ↔ 40000 * (8 * t + s) ≤ (j 0).val ∧ (j 0).val < 40000 * (8 * t + s) + 40000 := by
  simp [segSet]
theorem mem_cSet {t : ℕ} {j : S4096.Idx} : j ∈ cSet t ↔ 128 * t ≤ (j 0).val ∧ (j 0).val < 128 * t + 128 := by simp [cSet]
theorem mem_tSet {t : ℕ} {j : S512.Idx} : j ∈ tSet t ↔ 16 * t ≤ (j 0).val ∧ (j 0).val < 16 * t + 16 := by simp [tSet]

/-! ## What the results hold -/

/-- The words of segment `s` of an array of the edges. -/
def seg (X : S320000.Idx → BitVec 32) (s : ℕ) : ℕ → BitVec 32 := fun e => X (Shape.ofLane (d := ![320000]) ⟨(40000 * s + e) % 320000, Nat.mod_lt _ (by decide)⟩)

/-- The length of tile `t`'s list of segment `s`. -/
def len (X : S320000.Idx → BitVec 32) (t s : ℕ) : ℕ := kept t (seg X s) 40000

theorem len_le (X : S320000.Idx → BitVec 32) (t s : ℕ) : len X t s ≤ 40000 := kept_le _ _ _

/-- How many chunks of 128 the first `k` lists of tile `t` take. -/
def chunks (X : S320000.Idx → BitVec 32) (t k : ℕ) : ℕ := ∑ s ∈ Finset.range k, (len X t s + 127) / 128

/-- The array of lengths and the array of totals. -/
def lens (X : S320000.Idx → BitVec 32) : S4096.Idx → BitVec 32 := fun j => BitVec.ofNat 32 (len X ((j 0).val / 128) ((j 0).val % 128 / 16))
def totals (X : S320000.Idx → BitVec 32) : S512.Idx → BitVec 32 := fun j => BitVec.ofNat 32 (chunks X ((j 0).val / 16) 8)

/-- Tile `t`'s list of segment `s` is right: each edge kept stands at its place; elsewhere the list is arbitrary. -/
def SegOK (X Y : S320000.Idx → BitVec 32) (t s : ℕ) (g : S10240128.Idx → BitVec 32) : Prop :=
  ∀ e, e < 40000 → Mine t (seg X s e) → ∀ j : S10240128.Idx, (j 0).val = 40000 * (8 * t + s) + kept t (seg X s) e → g j = word t (seg X s e) (seg Y s e)

/-! ## A tile's own memory -/

abbrev cV (L : grid0.Coords) : Fin τ.nSC := (L 0).castLE hcore0
abbrev jV (L : grid0.Coords) : Fin τ.nSub := (L 1).castLE hsub0
/-- The tile's thread. -/
abbrev tv (d : Dev nD) (L : grid0.Coords) : Thread nD τ := V d (cV L) (jV L)

end Cert.Proof.Bin

end
-- ==== Proof.Own.lean ====
/-
  A tile's own semaphores and buffers, those a call names split off.
-/
module

public import proofs.«01_k».proof.Proof.Setup

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

/-! ## A tile's own semaphores and buffers, the named ones first -/

theorem bigSep_peel {I : Type} [DecidableEq I] (Φ : I → sProp 𝕄) : ∀ (l : List I) (S : Finset I), l.Nodup → (∀ a ∈ l, a ∈ S) →
    bigSep S Φ = l.foldr (fun a r => iprop(Φ a ∗ r)) (bigSep (S \ l.toFinset) Φ)
  | [], S, _, _ => by simp
  | a :: l, S, hn, hS => by
    have h := bigSep_peel Φ l (S.erase a) (List.nodup_cons.mp hn).2 fun b hb => Finset.mem_erase.mpr
      ⟨fun e => (List.nodup_cons.mp hn).1 (e ▸ hb), hS b (List.mem_cons_of_mem _ hb)⟩
    rw [SparseCore.bigSep_erase' (hS a List.mem_cons_self), h, List.foldr_cons]
    have hs : S.erase a \ l.toFinset = S \ (a :: l).toFinset := by
      ext b; simp only [Finset.mem_sdiff, Finset.mem_erase, List.toFinset_cons, Finset.mem_insert]; tauto
    rw [hs]

variable (d : Dev nD) (L : grid0.Coords)

theorem ownSems0_peel (l : List (DmaSem sig)) (hn : l.Nodup) (hs : ∀ s ∈ l, (SemLoc.dma s : SemLoc sig).isScoped .scVector = true) :
    (ownSems0 (tv d L) : sProp 𝕄)
      = l.foldr (fun s r => iprop(semVal ((tv d L, .dma s) : GSem nD τ sig) 0 ∗ r)) (bigSep (ownCells (tv d L) \ (l.map fun s => ((tv d L, .dma s) : GSem nD τ sig)).toFinset) fun g => semVal g 0) := by
  have h := bigSep_peel (F := F) (fun g : GSem nD τ sig => semVal g 0) (l.map fun s => ((tv d L, .dma s) : GSem nD τ sig)) (ownCells (tv d L))
    (hn.map fun a b e => SemLoc.dma.inj (Prod.mk.inj e).2)
    (fun g hg => by
      obtain ⟨s, hs', rfl⟩ := List.mem_map.mp hg
      exact mem_ownCells.mpr ⟨rfl, hs s hs'⟩)
  unfold SparseCore.Cfg.ownSems0
  rw [h, List.foldr_map]

abbrev own (b : Ref sig .scVector) : DevRef τ sig := (Proc.scVector (cV L) (jV L)).devRef b

theorem ownBufs_peel (l : List (Ref sig .scVector)) (hn : l.Nodup) (ho : ∀ b ∈ l, (own L b).owner = .proc (.scVector (cV L) (jV L))) :
    (ownBufs (tv d L) : sProp 𝕄)
      = l.foldr (fun b r => iprop((∃ f, (tv d L).loc b ↦{fullShare} f) ∗ r))
          (bigSep (ownRefs (τ := τ) (.scVector (cV L) (jV L)) \ (l.map (own L)).toFinset) fun b => iprop(∃ f, ((d, b) : Loc nD τ sig) ↦{fullShare} f)) := by
  have h := bigSep_peel (F := F) (fun b : DevRef τ sig => iprop(∃ f, ((d, b) : Loc nD τ sig) ↦{fullShare} f)) (l.map (own L)) (ownRefs (τ := τ) (.scVector (cV L) (jV L)))
    (hn.map (Proc.devRef_injective (Proc.scVector (cV L) (jV L))))
    (fun g hg => by
      obtain ⟨s, hs', rfl⟩ := List.mem_map.mp hg
      exact SparseCore.Cfg.mem_ownRefs_of_owner (ho s hs'))
  unfold SparseCore.Cfg.ownBufs
  rw [List.foldr_map] at h
  exact h

/-! ## A whole memref's buffer -/

variable {d L} in
theorem whole_pts {sp : Space} {s : Shape} {e : EltTy} {m : Memref sig .scVector sp s e} (h : m.IsWhole) (q : PosShare TreeShare) (f : Buf (Elt F) (m.view.loc (tv d L))) :
    (m.view.loc (tv d L) ↦[m.view.set]{q} f : sProp 𝕄) = (m.view.loc (tv d L) ↦{q} f) := by
  rw [h.set_eq_univ]

end Cert.Proof.Bin

end
-- ==== Proof.Vals.lean ====
/-
  What the calls and the operations between them compute, as functions of arrays.
-/
module

public import proofs.«01_k».proof.Proof.Setup

@[expose] public section

noncomputable section

namespace Cert.Proof.Bin

open Cert.KernelIdeal Cert.KernelIdeal.Gen Cert.Proof.Words

open Idealize.ShloMosaic
open Idealize.ShloMosaic.ValueIdx

variable {F : FTy → Type}

/-! ## Arrays made block by block -/

theorem block_row {N R n : ℕ} (hN : N = R * n) {r y : ℕ} (hr : r < N) (hy : y < R) : R * (r / R) + y < N := by
  subst hN
  have h1 : r / R < n := Nat.div_lt_of_lt_mul hr
  have h2 : R * (r / R) + R ≤ R * n := by
    have := Nat.mul_le_mul_left R (Nat.succ_le_of_lt h1)
    rwa [Nat.mul_succ] at this
  omega

/-- `N` rows in blocks of `R`, every block made by itself of the block of `G` that has its rows. -/
def byBlocks {A B : Type} {N R n : ℕ} (hN : N = R * n) (hR : 0 < R) {m k : ℕ} (f : ((⟨2, ![R, m]⟩ : Shape).Idx → A) → (⟨2, ![R, k]⟩ : Shape).Idx → B)
    (G : (⟨2, ![N, m]⟩ : Shape).Idx → A) : (⟨2, ![N, k]⟩ : Shape).Idx → B := fun z =>
  f (fun y => G (ix2 ⟨R * ((z 0).val / R) + (y 0).val, block_row hN (z 0).isLt (y 0).isLt⟩ (y 1))) (ix2 ⟨(z 0).val % R, Nat.mod_lt _ hR⟩ (z 1))

theorem byBlocks_blk {A B : Type} {N R n : ℕ} (hN : N = R * n) (hR : 0 < R) {m k : ℕ} (f : ((⟨2, ![R, m]⟩ : Shape).Idx → A) → (⟨2, ![R, k]⟩ : Shape).Idx → B)
    (G : (⟨2, ![N, m]⟩ : Shape).Idx → A) (g : (⟨2, ![R, m]⟩ : Shape).Idx → A) (t : ℕ)
    (hg : ∀ x : (⟨2, ![R, m]⟩ : Shape).Idx, ∃ z : (⟨2, ![N, m]⟩ : Shape).Idx, g x = G z ∧ (z 0).val = R * t + (x 0).val ∧ (z 1).val = (x 1).val)
    (y : (⟨2, ![R, k]⟩ : Shape).Idx) (z : (⟨2, ![N, k]⟩ : Shape).Idx) (h0 : (z 0).val = R * t + (y 0).val) (h1 : (z 1).val = (y 1).val) :
    f g y = byBlocks hN hR f G z := by
  have hy : (y 0).val < R := (y 0).isLt
  have e1 : (z 0).val / R = t := by rw [h0, Nat.mul_add_div hR, Nat.div_eq_of_lt hy, Nat.add_zero]
  have e2 : (z 0).val % R = (y 0).val := by rw [h0, Nat.mul_add_mod, Nat.mod_eq_of_lt hy]
  unfold byBlocks
  have ey : (ix2 ⟨(z 0).val % R, Nat.mod_lt _ hR⟩ (z 1) : (⟨2, ![R, k]⟩ : Shape).Idx) = y := by
    funext a
    match a with
    | ⟨0, _⟩ => exact Fin.ext e2
    | ⟨1, _⟩ => exact Fin.ext h1
  rw [ey]
  refine congrArg (fun g => f g y) (funext fun x => ?_)
  obtain ⟨w, hw, w0, w1⟩ := hg x
  rw [hw]
  refine congrArg G (funext fun a => ?_)
  match a with
  | ⟨0, _⟩ =>
    refine Fin.ext ?_
    show (w 0).val = R * ((z 0).val / R) + (x 0).val
    rw [e1, w0]
  | ⟨1, _⟩ => exact Fin.ext w1

/-! ## The edges' two rows -/

def srcs (E : S2x320000.Idx → BitVec 32) : S320000.Idx → BitVec 32 :=
  shapeCast S320000 (extractStridedSlice S1x320000 ![0, 0] E slices_S2x320000_S1x320000_0_0) shapeCasts_S1x320000_S320000
def dsts (E : S2x320000.Idx → BitVec 32) : S320000.Idx → BitVec 32 :=
  shapeCast S320000 (extractStridedSlice S1x320000 ![1, 0] E slices_S2x320000_S1x320000_1_0) shapeCasts_S1x320000_S320000

variable [FloatOps F]

/-! ## The weights as the calls take them -/

/-- A pair of equal starting indices. -/
def corner (n : BitVec 32) : S2.Idx → BitVec 32 :=
  concatenate S2 0 [⟨S1, broadcastInDim S1 ![] bcast_S_S1 (constantI S_ 32 n)⟩, ⟨S1, broadcastInDim S1 ![] bcast_S_S1 (constantI S_ 32 n)⟩] concatenates_S1_S1_S2_d0

/-- The second layer's weights twice down the diagonal, and its bias twice. -/
def diag (W : Vec F S64x64 .f32) : Vec F S128x128 .f32 :=
  Host.scatter scatter_S128x128_S2_S64x64_01_n_01_0 (fun _ b => b)
    (Host.scatter scatter_S128x128_S2_S64x64_01_n_01_0 (fun _ b => b) (broadcastInDim S128x128 ![] bcast_S_S128x128 (constant S_ .f32 0x00000000#32)) (corner 0#32) W) (corner 64#32) W
def twice (b : Vec F S64 .f32) : Vec F S1x128 .f32 :=
  broadcastInDim S1x128 ![1] bcast_S128_S1x128_1 (concatenate S128 0 [⟨S64, b⟩, ⟨S64, b⟩] concatenates_S64_S64_S128_d0)

/-- The first layer's weights' two halves, as two columns of blocks: the top less the bottom, and the bottom. -/
def halves (W : Vec F S128x64 .f32) : Vec F S64x128 .f32 :=
  concatenate S64x128 1 [⟨S64x64, subf (extractStridedSlice S64x64 ![0, 0] W slices_S128x64_S64x64_0_0 : Vec F S64x64 .f32) (extractStridedSlice S64x64 ![64, 0] W slices_S128x64_S64x64_64_0)⟩,
    ⟨S64x64, extractStridedSlice S64x64 ![64, 0] W slices_S128x64_S64x64_64_0⟩] concatenates_S64x64_S64x64_S64x128_d1
/-- The first layer's bias, over the first column of blocks alone. -/
def first (b : Vec F S64 .f32) : Vec F S1x128 .f32 :=
  broadcastInDim S1x128 ![1] bcast_S128_S1x128_1 (concatenate S128 0 [⟨S64, b⟩, ⟨S64, broadcastInDim S64 ![] bcast_S_S64 (constant S_ .f32 0x00000000#32)⟩] concatenates_S64_S64_S128_d0)
/-- A bias as a row. -/
def asRow (b : Vec F S64 .f32) : Vec F S1x64 .f32 := broadcastInDim S1x64 ![1] bcast_S64_S1x64_1 b

/-! ## The dense calls' results -/

/-- The messages, of the edges' sums. -/
def msgOut (G : Vec F S176640x128 .f32) (W : Vec F S128x128 .f32) (B : Vec F S1x128 .f32) : Vec F S176640x128 .f32 :=
  byBlocks (n := 92) (N := 176640) (R := 1920) (m := 128) (k := 128) (by decide) (by decide) (fun g => k3_pay1 g W B) G

/-- A layer's table, of its features. -/
def abOut (H : Vec F S10000x64 .f32) (W : Vec F S64x128 .f32) (B : Vec F S1x128 .f32) : Vec F S10000x128 .f32 :=
  byBlocks (n := 5) (N := 10000) (R := 2000) (m := 64) (k := 128) (by decide) (by decide) (fun g => k5_pay1 g W B) H

/-- The first layer's table, of the node inputs. -/
def encOut (X : Vec F S10000x128 .f32) (W1 : Vec F S128x64 .f32) (b1 : Vec F S1x64 .f32) (W2 : Vec F S64x64 .f32) (b2 : Vec F S1x64 .f32)
    (W : Vec F S64x128 .f32) (B : Vec F S1x128 .f32) : Vec F S10000x128 .f32 :=
  byBlocks (n := 5) (N := 10000) (R := 2000) (m := 128) (k := 128) (by decide) (by decide) (fun g => k1_pay1 g W1 b1 W2 b2 W B) X

/-- A layer's features, of the maxima two nodes a row. -/
def result (g : Vec F S5120x128 .f32) : Vec F S10000x64 .f32 :=
  shapeCast S10000x64 (extractStridedSlice S5000x128 ![0, 0] g slices_S5120x128_S5000x128_0_0) shapeCasts_S5000x128_S10000x64

end Cert.Proof.Bin

end
-- ==== Proof.Arr.lean ====
/-
  The TensorCore's arrays by their shape: what holds of each is stated once for every array of a shape.
-/
module

public import proofs.«01_k».proof.Proof.Setup

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 7) (Elt F) ℕ UU ℕ

/-- An array of the TensorCore's of a shape and an element type. -/
inductive Arr : Shape → EltTy → Type
  | of (r : Ref sig .tc) : Arr r.ty.shape r.ty.elt

/-- Device `d`'s array `A`, held on `K` at share `q` with contents `f`. -/
def Arr.pts {s : Shape} {e : EltTy} (A : Arr s e) (d : Dev nD) (K : Finset s.Idx) (q : PosShare TreeShare) (f : s.Idx → Elt F e) : sProp 𝕄 :=
  match A, K, f with
  | .of r, K, f => (SparseCore.T d).loc r ↦[K]{q} f

variable {s : Shape} {e : EltTy} (A : Arr s e) (d : Dev nD)

instance (priority := low) Arr.pts_storable (K : Finset s.Idx) (q : PosShare TreeShare) (f : s.Idx → Elt F e) : BI.Storable (upEmb : UEmb _ 𝕄) (A.pts d K q f) := by
  cases A; unfold Arr.pts; infer_instance

theorem Arr.pts_empty (q : PosShare TreeShare) (f : s.Idx → Elt F e) : (A.pts d ∅ q f : sProp 𝕄) = iprop(emp) := by
  cases A; exact pointsTo_empty

theorem Arr.pts_biUnion {I : Type} (Sx : Finset I) (Kx : I → Finset s.Idx) (q : PosShare TreeShare) (f : s.Idx → Elt F e)
    (h : ∀ i ∈ Sx, ∀ j ∈ Sx, i ≠ j → Disjoint (Kx i) (Kx j)) : (A.pts d (Sx.biUnion Kx) q f : sProp 𝕄) = bigSep Sx fun i => A.pts d (Kx i) q f := by
  cases A with
  | of r => exact pointsTo_biUnion Sx (ℓ := (SparseCore.T d).loc r) Kx h

theorem Arr.pts_union {K K' : Finset s.Idx} (h : Disjoint K K') (q : PosShare TreeShare) (f : s.Idx → Elt F e) :
    (A.pts d (K ∪ K') q f : sProp 𝕄) ⊢ iprop(A.pts d K q f ∗ A.pts d K' q f) := by
  cases A with
  | of r => exact (pointsTo_union (ℓ := (SparseCore.T d).loc r) h).1

theorem Arr.pts_join {K K' : Finset s.Idx} (h : Disjoint K K') (q : PosShare TreeShare) (f g : s.Idx → Elt F e) :
    (iprop(A.pts d K q f ∗ A.pts d K' q g) : sProp 𝕄) ⊢ A.pts d (K ∪ K') q (K'.piecewise g f) := by
  cases A with
  | of r => exact pointsTo_join (ℓ := (SparseCore.T d).loc r) h

theorem Arr.toks_range (f : s.Idx → Elt F e) (k : ℕ) :
    (A.pts d Finset.univ fullShare f : sProp 𝕄) ⊢ iprop(A.pts d Finset.univ (shareDrop fullShare k) f ∗ bigSep (Finset.range k) fun i => A.pts d Finset.univ (shareTokN fullShare i) f) := by
  cases A with
  | of r => exact (Transfers.pointsTo_toks_range (ℓ := (SparseCore.T d).loc r) (S := Finset.univ) (f := f) fullShare k).1

/-- Disjoint parts, each at contents that satisfy a predicate of that part's elements, are their union at contents that satisfy
    all of them. -/
theorem Arr.join {I : Type} (Sx : Finset I) (Kx : I → Finset s.Idx) (Pr : I → (s.Idx → Elt F e) → Prop)
    (h : ∀ i ∈ Sx, ∀ j ∈ Sx, i ≠ j → Disjoint (Kx i) (Kx j)) (hPr : ∀ i g g', (∀ j ∈ Kx i, g' j = g j) → Pr i g → Pr i g') (f₀ : s.Idx → Elt F e) :
    (bigSep Sx fun i => iprop(∃ g, ⌜Pr i g⌝ ∗ A.pts d (Kx i) fullShare g)) ⊢ (iprop(∃ g, ⌜∀ i ∈ Sx, Pr i g⌝ ∗ A.pts d (Sx.biUnion Kx) fullShare g) : sProp 𝕄) := by
  classical
  induction Sx using Finset.induction_on with
  | empty =>
    iintro -
    iexists f₀
    isplitr
    · ipureintro
      exact fun i hi => absurd hi (Finset.notMem_empty i)
    · rw [Finset.biUnion_empty, Arr.pts_empty]; iempintro
  | insert t Sx ht ih =>
    have hd : Disjoint (Kx t) (Sx.biUnion Kx) := (Finset.disjoint_biUnion_right _ _ _).mpr fun j hj =>
      h t (Finset.mem_insert_self _ _) j (Finset.mem_insert_of_mem hj) fun e => ht (e ▸ hj)
    rw [SparseCore.bigSep_insert' ht, Finset.biUnion_insert]
    iintro ⟨⟨%g, %hg, Hg⟩, HS⟩
    ihave HS' := (ih fun i hi j hj => h i (Finset.mem_insert_of_mem hi) j (Finset.mem_insert_of_mem hj)) $$ HS
    icases HS' with ⟨%g', %hg', Hg'⟩
    iexists ((Sx.biUnion Kx).piecewise g' g)
    isplitr [Hg Hg']
    · ipureintro
      intro i hi
      rcases Finset.mem_insert.mp hi with rfl | hi
      · exact hPr i g _ (fun j hj => Finset.piecewise_eq_of_notMem _ _ _ fun hm => Finset.disjoint_left.mp hd hj hm) hg
      · exact hPr i g' _ (fun j hj => Finset.piecewise_eq_of_mem _ _ _ (Finset.mem_biUnion.mpr ⟨i, hi, hj⟩)) (hg' i hi)
    · iapply (A.pts_join d hd)
      isplitl [Hg] <;> iassumption

theorem Arr.some (K : Finset s.Idx) (g : s.Idx → Elt F e) : (A.pts d K fullShare g : sProp 𝕄) ⊢ iprop(∃ g, A.pts d K fullShare g) := by
  iintro H; iexists g; iexact H

/-- The part of an array that is dealt, and the rest. -/
theorem Arr.cut (K : Finset s.Idx) (q : PosShare TreeShare) (g : s.Idx → Elt F e) :
    (A.pts d Finset.univ q g : sProp 𝕄) ⊢ iprop(A.pts d K q g ∗ A.pts d (Finset.univ \ K) q g) := by
  refine Entails.trans (Entails.of_eq ?_) (A.pts_union d Finset.disjoint_sdiff q g)
  rw [Finset.union_sdiff_of_subset (Finset.subset_univ _)]

theorem Arr.uncut (K : Finset s.Idx) (q : PosShare TreeShare) (g g' : s.Idx → Elt F e) :
    (iprop(A.pts d K q g ∗ A.pts d (Finset.univ \ K) q g') : sProp 𝕄) ⊢ A.pts d Finset.univ q ((Finset.univ \ K).piecewise g' g) := by
  refine (A.pts_join d Finset.disjoint_sdiff q g g').trans (Entails.of_eq ?_)
  rw [Finset.union_sdiff_of_subset (Finset.subset_univ _)]

/-! ## The layers' arrays -/

/-- A layer's arrays: the table its edges read, the edges' sums, their messages, the nodes' maxima. -/
structure Lay where
  tab : Arr S10000x128 .f32
  rows : Arr S176640x128 .f32
  msgs : Arr S176640x128 .f32
  agg : Arr S5120x128 .f32

def lay : Fin 3 → Lay
  | 0 => ⟨.of main_v64, .of main_v65, .of main_v66, .of main_v67⟩
  | 1 => ⟨.of main_v70, .of main_v71, .of main_v72, .of main_v73⟩
  | 2 => ⟨.of main_v76, .of main_v77, .of main_v78, .of main_v79⟩

end Cert.Proof.Bin

end
-- ==== Proof.Gather.lean ====
/-
  The gather's tile: its arguments, and the loops of one chunk.
-/
module

public import proofs.«01_k».proof.Proof.Setup
public import Idealize.ShloMosaic.Lib.Pointwise.Index

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

/-- A gather's arguments: the table, the lists, their lengths, the totals of chunks, the rows gathered; the tile's buffers (the
    list's words, the two lists of rows, the rows of each, their sums, the lengths, the totals) and its semaphores. -/
structure GM where
  a2 : Memref sig .scVector .hbm S10000x128 .f32
  h2 : a2.IsWhole
  a3 : Memref sig .scVector .hbm S10240128 .i32
  h3 : a3.IsWhole
  a4 : Memref sig .scVector .hbm S4096 .i32
  h4 : a4.IsWhole
  a5 : Memref sig .scVector .hbm S512 .i32
  h5 : a5.IsWhole
  a6 : Memref sig .scVector .hbm S176640x128 .f32
  h6 : a6.IsWhole
  a7 : Memref sig .scVector .vmem S144 .i32
  h7 : a7.IsWhole
  a8 : Memref sig .scVector .vmem S128 .i32
  h8 : a8.IsWhole
  a9 : Memref sig .scVector .vmem S128 .i32
  h9 : a9.IsWhole
  a10 : Memref sig .scVector .vmem S128x128 .f32
  h10 : a10.IsWhole
  a11 : Memref sig .scVector .vmem S128x128 .f32
  h11 : a11.IsWhole
  a12 : Memref sig .scVector .vmem S64x128 .f32
  h12 : a12.IsWhole
  a13 : Memref sig .scVector .vmem S128 .i32
  h13 : a13.IsWhole
  a14 : Memref sig .scVector .vmem S512 .i32
  h14 : a14.IsWhole
  (a15 a16 r0 r1 r2 r3 r4 r5 : DmaSems sig S_)

variable [FloatOps F] (d : Dev nD) (L : grid2.Coords) (G : GM)

abbrev gT1 := k2_t1_body (F := F) L G.a2 G.h2 G.a3 G.h3 G.a4 G.h4 G.a5 G.h5 G.a6 G.h6 G.a7 G.h7 G.a8 G.h8 G.a9 G.h9 G.a10 G.h10 G.a11 G.h11 G.a12 G.h12 G.a13 G.h13 G.a14 G.h14 G.a15 G.a16 G.r0 G.r1 G.r2 G.r3 G.r4 G.r5
abbrev gT3 := k2_t3_body (F := F) L G.a2 G.h2 G.a3 G.h3 G.a4 G.h4 G.a5 G.h5 G.a6 G.h6 G.a7 G.h7 G.a8 G.h8 G.a9 G.h9 G.a10 G.h10 G.a11 G.h11 G.a12 G.h12 G.a13 G.h13 G.a14 G.h14 G.a15 G.a16 G.r0 G.r1 G.r2 G.r3 G.r4 G.r5
abbrev gT4 := k2_t4_body (F := F) L G.a2 G.h2 G.a3 G.h3 G.a4 G.h4 G.a5 G.h5 G.a6 G.h6 G.a7 G.h7 G.a8 G.h8 G.a9 G.h9 G.a10 G.h10 G.a11 G.h11 G.a12 G.h12 G.a13 G.h13 G.a14 G.h14 G.a15 G.a16 G.r0 G.r1 G.r2 G.r3 G.r4 G.r5
abbrev gT5 := k2_t5_body (F := F) L G.a2 G.h2 G.a3 G.h3 G.a4 G.h4 G.a5 G.h5 G.a6 G.h6 G.a7 G.h7 G.a8 G.h8 G.a9 G.h9 G.a10 G.h10 G.a11 G.h11 G.a12 G.h12 G.a13 G.h13 G.a14 G.h14 G.a15 G.a16 G.r0 G.r1 G.r2 G.r3 G.r4 G.r5
abbrev gT6 := k2_t6_body (F := F) L G.a2 G.h2 G.a3 G.h3 G.a4 G.h4 G.a5 G.h5 G.a6 G.h6 G.a7 G.h7 G.a8 G.h8 G.a9 G.h9 G.a10 G.h10 G.a11 G.h11 G.a12 G.h12 G.a13 G.h13 G.a14 G.h14 G.a15 G.a16 G.r0 G.r1 G.r2 G.r3 G.r4 G.r5

/-- A buffer of the tile's that holds something satisfying `p`. -/
abbrev Has {sp : Space} {s : Shape} {e : EltTy} (m : Memref sig .scVector sp s e) (p : (s.Idx → Elt F e) → Prop) : sProp 𝕄 :=
  iprop(∃ f, ⌜p (m.view.read (Elt F) f)⌝ ∗ m.view.loc (tv d L) ↦[m.view.set]{fullShare} f)

/-! ## The sums -/

/-- The sum at `y`: the destination's row's first half plus the source's row's second half, two edges to a row. -/
def sumAt (A B : S128x128.Idx → F .f32) (y : S64x128.Idx) : F .f32 :=
  have h0 : (y 0).val < 64 := (y 0).isLt
  have h1 : (y 1).val < 128 := (y 1).isLt
  FloatOps.addf (A (ix2 (⟨2 * (y 0).val + (y 1).val / 64, by omega⟩ : Fin 128) (⟨(y 1).val % 64, by omega⟩ : Fin 128)))
    (B (ix2 (⟨2 * (y 0).val + (y 1).val / 64, by omega⟩ : Fin 128) (⟨64 + (y 1).val % 64, by omega⟩ : Fin 128)))

/-- Sixteen sums, as stored, are the sums there. -/
theorem piece_sum (A B : S128x128.Idx → F .f32) {o oA oB : Fin 2 → ℕ} {io : ∀ a, o a + S1x16.size a ≤ S64x128.size a}
    {iA : ∀ a, oA a + S1x16.size a ≤ S128x128.size a} {iB : ∀ a, oB a + S1x16.size a ≤ S128x128.size a} (k h m : ℕ) (hh : h < 2) (hm : m < 4)
    (ho : o = ![k, 64 * h + 16 * m]) (hA : oA = ![2 * k + h, 16 * m]) (hB : oB = ![2 * k + h, 64 + 16 * m])
    (lA lB : S1x16.Idx → F .f32) (eA : ∀ x, lA x = A ((Rect.unit (s := S128x128) oA S1x16.size iA).emb x)) (eB : ∀ x, lB x = B ((Rect.unit (s := S128x128) oB S1x16.size iB).emb x))
    (x : S1x16.Idx) :
    shapeCast S1x16 (addf (shapeCast S16 lA shapeCasts_S1x16_S16) (shapeCast S16 lB shapeCasts_S1x16_S16)) shapeCasts_S16_S1x16 x
      = sumAt A B ((Rect.unit (s := S64x128) o S1x16.size io).emb x) := by
  subst ho hA hB
  have hx0 : (x 0).val < 1 := (x 0).isLt
  have hx1 : (x 1).val < 16 := (x 1).isLt
  rw [shapeCast_apply _ shapeCasts_S16_S1x16 x (ix1 (x 1)) (by
    rw [Shape.rowMajor_val_two, Shape.rowMajor_val_one]
    show (x 1).val = (x 0).val * 16 + (x 1).val
    omega)]
  unfold addf sumAt
  rw [shapeCast_apply lA shapeCasts_S1x16_S16 (ix1 (x 1)) x (by
    rw [Shape.rowMajor_val_two, Shape.rowMajor_val_one]
    show (x 0).val * 16 + (x 1).val = (x 1).val
    omega), shapeCast_apply lB shapeCasts_S1x16_S16 (ix1 (x 1)) x (by
    rw [Shape.rowMajor_val_two, Shape.rowMajor_val_one]
    show (x 0).val * 16 + (x 1).val = (x 1).val
    omega), eA, eB]
  congr 1
  · congr 1
    funext a
    match a with
    | 0 => exact Fin.ext (show 2 * k + h + 1 * (x 0).val = 2 * (k + 1 * (x 0).val) + (64 * h + 16 * m + 1 * (x 1).val) / 64 by omega)
    | 1 => exact Fin.ext (show 16 * m + 1 * (x 1).val = (64 * h + 16 * m + 1 * (x 1).val) % 64 by omega)
  · congr 1
    funext a
    match a with
    | 0 => exact Fin.ext (show 2 * k + h + 1 * (x 0).val = 2 * (k + 1 * (x 0).val) + (64 * h + 16 * m + 1 * (x 1).val) / 64 by omega)
    | 1 => exact Fin.ext (show 64 + 16 * m + 1 * (x 1).val = 64 + (64 * h + 16 * m + 1 * (x 1).val) % 64 by omega)

/-- Before trip `k` of the sums: the rows fetched, and the sums of the first `k` pairs of rows. -/
def inv6 (A B : S128x128.Idx → F .f32) (k : ℕ) (_ : Unit) : sProp 𝕄 :=
  iprop(Has d L G.a10 (· = A) ∗ Has d L G.a11 (· = B) ∗ Has d L G.a12 fun g => ∀ y : S64x128.Idx, (y 0).val < k → g y = sumAt A B y)

theorem trip6 (A B : S128x128.Idx → F .f32) (v2 : BitVec 32) (v3 : IVec S16 32) (k3 : Fin k2_t3_loop.trips) (v19 : BitVec 32) (hw1 : k2_chk1 L k3 v19)
    (v41 c0 c1 : BitVec 32) (k4 : Fin (k2_t4_loop v19).trips) (ob : BitVec 32) (k : Fin k2_t6_loop.trips) (u : Unit) :
    inv6 d L G A B k.val u
      ⊢ wp frame (wpE (defs₀ (F := F)) 𝒱₀ (tv d L) none) Set.univ (gT6 L G v2 v3 k3 v19 hw1 v41 c0 c1 k4 ob k u)
          fun u' => inv6 d L G A B (k.val + 1) u' := by
  unfold inv6
  iintro ⟨⟨%fA, %hA, HA⟩, ⟨%fB, %hB, HB⟩, %g, %hg, Hg⟩
  unfold gT6 k2_t6_body
  rw [k2_part1_eq_skeleton, k2_part2_eq_skeleton]
  unfold k2_part1_skel k2_part2_skel
  sl_exec
  sl_step
  isplitl [HA]
  · iexists fA; isplitr
    · ipureintro; exact hA
    · iexact HA
  isplitl [HB]
  · iexists fB; isplitr
    · ipureintro; exact hB
    · iexact HB
  iexists _; isplitr
  swap; · iexact Hg
  ipureintro
  subst hA hB
  intro y hy
  have hk : k.val < 64 := Nat.lt_of_lt_of_le k.isLt k2_t6_abs.2.1
  have hy1 : (y 1).val < 128 := (y 1).isLt
  by_cases hlt : (y 0).val < k.val
  · rw [View.read_writes_apply_of_forall_not_mem]
    · exact hg y hlt
    · have m : ∀ {o : Fin 2 → ℕ} {io : ∀ a, o a + S1x16.size a ≤ S64x128.size a} {c : ℕ}, o = ![k.val, c] → y ∉ (Rect.unit (s := S64x128) o S1x16.size io).set := by
        intro o io c ho
        exact Rect.not_mem_set_of_axis _ y 0 k.val 1 (congrFun ho 0) rfl rfl (.inl hlt)
      simp only [List.forall_mem_cons, List.not_mem_nil, false_imp_iff, implies_true, and_true]
      exact ⟨m (k2_off23_eq k), m (k2_off22_eq k), m (k2_off21_eq k), m (k2_off20_eq k), m (k2_off19_eq k), m (k2_off16_eq k), m (k2_off13_eq k), m (k2_off10_eq k)⟩
  · have hy0 : (y 0).val = k.val := by omega
    refine View.read_writes_apply_of_pieces (Val := Elt F) G.a12.view g (sumAt (G.a10.view.read (Elt F) fA) (G.a11.view.read (Elt F) fB)) _ ?_ y ?_
    · simp only [List.forall_mem_cons, List.not_mem_nil, false_imp_iff, implies_true, and_true]
      exact ⟨piece_sum _ _ k.val 1 3 (by decide) (by decide) (k2_off23_eq k) (k2_off17_eq k 1) (k2_off18_eq k 1) _ _ (fun _ => rfl) (fun _ => rfl),
        piece_sum _ _ k.val 1 2 (by decide) (by decide) (k2_off22_eq k) (k2_off14_eq k 1) (k2_off15_eq k 1) _ _ (fun _ => rfl) (fun _ => rfl),
        piece_sum _ _ k.val 1 1 (by decide) (by decide) (k2_off21_eq k) (k2_off11_eq k 1) (k2_off12_eq k 1) _ _ (fun _ => rfl) (fun _ => rfl),
        piece_sum _ _ k.val 1 0 (by decide) (by decide) (k2_off20_eq k) (k2_off8_eq k 1) (k2_off9_eq k 1) _ _ (fun _ => rfl) (fun _ => rfl),
        piece_sum _ _ k.val 0 3 (by decide) (by decide) (k2_off19_eq k) (k2_off17_eq k 0) (k2_off18_eq k 0) _ _ (fun _ => rfl) (fun _ => rfl),
        piece_sum _ _ k.val 0 2 (by decide) (by decide) (k2_off16_eq k) (k2_off14_eq k 0) (k2_off15_eq k 0) _ _ (fun _ => rfl) (fun _ => rfl),
        piece_sum _ _ k.val 0 1 (by decide) (by decide) (k2_off13_eq k) (k2_off11_eq k 0) (k2_off12_eq k 0) _ _ (fun _ => rfl) (fun _ => rfl),
        piece_sum _ _ k.val 0 0 (by decide) (by decide) (k2_off10_eq k) (k2_off8_eq k 0) (k2_off9_eq k 0) _ _ (fun _ => rfl) (fun _ => rfl)⟩
    · have m : ∀ {o : Fin 2 → ℕ} {io : ∀ a, o a + S1x16.size a ≤ S64x128.size a} {c : ℕ}, o = ![k.val, c] → c ≤ (y 1).val → (y 1).val < c + 16 →
          y ∈ (Rect.unit (s := S64x128) o S1x16.size io).set := by
        intro o io c ho h1 h2
        subst ho
        rw [Rect.mem_set_unit]
        intro a
        match a with
        | 0 => exact (show k.val ≤ (y 0).val ∧ (y 0).val < k.val + 1 by omega)
        | 1 => exact ⟨h1, h2⟩
      simp only [List.exists_mem_cons_iff, List.not_mem_nil, false_and, exists_false, or_false]
      rcases (show (y 1).val / 16 < 8 by omega) |> (fun h => (by omega : (y 1).val / 16 = 7 ∨ (y 1).val / 16 = 6 ∨ (y 1).val / 16 = 5 ∨ (y 1).val / 16 = 4
          ∨ (y 1).val / 16 = 3 ∨ (y 1).val / 16 = 2 ∨ (y 1).val / 16 = 1 ∨ (y 1).val / 16 = 0)) with h | h | h | h | h | h | h | h
      · exact .inl (m (k2_off23_eq k) (by omega) (by omega))
      · exact .inr (.inl (m (k2_off22_eq k) (by omega) (by omega)))
      · exact .inr (.inr (.inl (m (k2_off21_eq k) (by omega) (by omega))))
      · exact .inr (.inr (.inr (.inl (m (k2_off20_eq k) (by omega) (by omega)))))
      · exact .inr (.inr (.inr (.inr (.inl (m (k2_off19_eq k) (by omega) (by omega))))))
      · exact .inr (.inr (.inr (.inr (.inr (.inl (m (k2_off16_eq k) (by omega) (by omega)))))))
      · exact .inr (.inr (.inr (.inr (.inr (.inr (.inl (m (k2_off13_eq k) (by omega) (by omega))))))))
      · exact .inr (.inr (.inr (.inr (.inr (.inr (.inr ((m (k2_off10_eq k) (by omega) (by omega)))))))))

/-! ## The two lists of rows -/

/-- The row of word `p` of chunk `j` of a list of `n` words: the source's, or any in-range row beyond the list's end. -/
def rowS (n j : ℕ) (W : ℕ → BitVec 32) (p : ℕ) : BitVec 32 := if 128 * j + p < n then W p >>> (9#32) else BitVec.ofNat 32 p
/-- The destination's row of the same word. -/
def rowD (t n j : ℕ) (W : ℕ → BitVec 32) (p : ℕ) : BitVec 32 := if 128 * j + p < n then lo t + (W p &&& 511#32) else BitVec.ofNat 32 p

theorem iv_nat (k : ℕ) : Scf.iv 0#32 1#32 k = BitVec.ofNat 32 k := by
  unfold Scf.iv
  simp

/-- Lanes counted from zero. -/
def Lanes16 (v3 : IVec S16 32) : Prop := ∀ x, v3 x = BitVec.ofNat 32 (x 0).val

theorem pos_lane (v3 : IVec S16 32) (h3 : Lanes16 v3) (k : Fin k2_t5_loop.trips) (x : S16.Idx) : k2_pay12 v3 k x = BitVec.ofNat 32 (16 * k.val + (x 0).val) := by
  show (Scf.iv 0#32 1#32 k.val * 16#32) + v3 x = _
  rw [h3, iv_nat, ← BitVec.ofNat_mul, ← BitVec.ofNat_add, Nat.mul_comm]

theorem in_list (v3 : IVec S16 32) (h3 : Lanes16 v3) (n : ℕ) (hn : n ≤ 40000) (k4 : Fin (k2_t4_loop (BitVec.ofNat 32 n)).trips) (h4 : 128 * k4.val < n)
    (k : Fin k2_t5_loop.trips) (x : S16.Idx) : k2_pay13 v3 (BitVec.ofNat 32 n) 0#32 1#32 k4 k x = if 128 * k4.val + (16 * k.val + (x 0).val) < n then 1#1 else 0#1 := by
  have hk : k.val < 8 := Nat.lt_of_lt_of_le k.isLt k2_t5_abs.2.1
  have hx : (x 0).val < 16 := (x 0).isLt
  show BitVec.ofBool ((k2_pay12 v3 k x).slt (BitVec.ofNat 32 n - Scf.iv 0#32 1#32 k4.val * 128#32)) = _
  rw [pos_lane v3 h3, iv_nat, ← BitVec.ofNat_mul]
  have e : BitVec.ofNat 32 n - BitVec.ofNat 32 (k4.val * 128) = BitVec.ofNat 32 (n - k4.val * 128) := by
    apply BitVec.eq_of_toNat_eq
    simp only [BitVec.toNat_sub, BitVec.toNat_ofNat]
    omega
  rw [e, BitVec.slt]
  have h1 : (BitVec.ofNat 32 (16 * k.val + (x 0).val)).toInt = (16 * k.val + (x 0).val : ℕ) := by
    rw [BitVec.toInt_eq_toNat_cond, BitVec.toNat_ofNat]; split <;> omega
  have h2 : (BitVec.ofNat 32 (n - k4.val * 128)).toInt = (n - k4.val * 128 : ℕ) := by
    rw [BitVec.toInt_eq_toNat_cond, BitVec.toNat_ofNat]; split <;> omega
  rw [h1, h2]
  by_cases h : 128 * k4.val + (16 * k.val + (x 0).val) < n
  · rw [if_pos h, decide_eq_true (by omega)]; rfl
  · rw [if_neg h, decide_eq_false (by omega)]; rfl

theorem paySrc (v3 : IVec S16 32) (h3 : Lanes16 v3) (n : ℕ) (hn : n ≤ 40000) (k4 : Fin (k2_t4_loop (BitVec.ofNat 32 n)).trips) (h4 : 128 * k4.val < n)
    (k : Fin k2_t5_loop.trips) (v : Vec F S16 .i32) (x : S16.Idx) (W : ℕ → BitVec 32) (hv : v x = W (16 * k.val + (x 0).val)) :
    k2_pay14 v3 (BitVec.ofNat 32 n) 0#32 1#32 k4 k v x = rowS n k4.val W (16 * k.val + (x 0).val) := by
  show (if k2_pay13 v3 (BitVec.ofNat 32 n) 0#32 1#32 k4 k x = 1#1 then IntOp.shrui _ (v x) 9#32 else k2_pay12 v3 k x) = _
  rw [in_list v3 h3 n hn k4 h4 k x, pos_lane v3 h3, hv]
  unfold rowS
  by_cases h : 128 * k4.val + (16 * k.val + (x 0).val) < n
  · rw [if_pos h, if_pos rfl, if_pos h]; rfl
  · rw [if_neg h, if_neg (by decide), if_neg h]

theorem payDst (t : ℕ) (v3 : IVec S16 32) (h3 : Lanes16 v3) (n : ℕ) (hn : n ≤ 40000) (k4 : Fin (k2_t4_loop (BitVec.ofNat 32 n)).trips) (h4 : 128 * k4.val < n)
    (k : Fin k2_t5_loop.trips) (v : Vec F S16 .i32) (x : S16.Idx) (W : ℕ → BitVec 32) (hv : v x = W (16 * k.val + (x 0).val)) :
    k2_pay15 (lo t) v3 (BitVec.ofNat 32 n) 0#32 1#32 k4 k v x = rowD t n k4.val W (16 * k.val + (x 0).val) := by
  show (if k2_pay13 v3 (BitVec.ofNat 32 n) 0#32 1#32 k4 k x = 1#1 then lo t + (v x &&& 511#32) else k2_pay12 v3 k x) = _
  rw [in_list v3 h3 n hn k4 h4 k x, pos_lane v3 h3, hv]
  unfold rowD
  by_cases h : 128 * k4.val + (16 * k.val + (x 0).val) < n
  · rw [if_pos h, if_pos rfl, if_pos h]
  · rw [if_neg h, if_neg (by decide), if_neg h]

/-- Sixteen words stored over a list right for `16 k` words leave it right for sixteen more. -/
theorem fill_step {sp : Space} (m : Memref sig .scVector sp S128 .i32) (f : m.view.ty.Contents (Elt F)) (R : ℕ → BitVec 32) (k : ℕ) {o : Fin 1 → ℕ}
    (io : ∀ a, o a + S16.size a ≤ S128.size a) (ho : o = ![16 * k]) (hf : ∀ y : S128.Idx, (y 0).val < 16 * k → m.view.read (Elt F) f y = R (y 0).val)
    (w : S16.Idx → BitVec 32) (hw : ∀ x, w x = R (16 * k + (x 0).val)) (y : S128.Idx) (hy : (y 0).val < 16 * (k + 1)) :
    m.view.read (Elt F) (m.view.writes (Elt F) f [⟨Rect.unit (s := S128) o S16.size io, w⟩]) y = R (y 0).val := by
  subst ho
  by_cases hlt : (y 0).val < 16 * k
  · rw [← hf y hlt]
    exact View.read_writes_cons_miss_of_axis m.view f ⟨Rect.unit (s := S128) ![16 * k] S16.size io, w⟩ [] y 0 (16 * k) 16 rfl rfl rfl (.inl hlt)
  · refine (View.read_writes_cons_hit_of_coords m.view f (Rect.unit (s := S128) ![16 * k] S16.size io) w []
      (Shape.ofLane (d := ![16]) ⟨(y 0).val - 16 * k, (by omega : (y 0).val - 16 * k < 16)⟩) y fun a => by
        match a with
        | 0 => exact (show (y 0).val = 16 * k + 1 * ((y 0).val - 16 * k) by omega)).trans ?_
    rw [hw]
    exact congrArg R (show 16 * k + ((y 0).val - 16 * k) = (y 0).val by omega)

/-- Before trip `k`: the chunk's words, and both lists of rows right for `16 k` words. -/
def inv5 (t n j : ℕ) (W : ℕ → BitVec 32) (k : ℕ) (_ : Unit) : sProp 𝕄 :=
  iprop(Has d L G.a7 (fun f => ∀ y : S144.Idx, (y 0).val < 128 → f y = W (y 0).val) ∗ Has d L G.a8 (fun f => ∀ y : S128.Idx, (y 0).val < 16 * k → f y = rowD t n j W (y 0).val)
    ∗ Has d L G.a9 fun f => ∀ y : S128.Idx, (y 0).val < 16 * k → f y = rowS n j W (y 0).val)

theorem trip5 (t n : ℕ) (hn : n ≤ 40000) (W : ℕ → BitVec 32) (v3 : IVec S16 32) (h3 : Lanes16 v3) (k3 : Fin k2_t3_loop.trips) (hw1 : k2_chk1 L k3 (BitVec.ofNat 32 n))
    (v41 : BitVec 32) (k4 : Fin (k2_t4_loop (BitVec.ofNat 32 n)).trips) (h4 : 128 * k4.val < n) (ob : BitVec 32) (k : Fin k2_t5_loop.trips) (u : Unit) :
    inv5 d L G t n k4.val W k.val u
      ⊢ wp frame (wpE (defs₀ (F := F)) 𝒱₀ (tv d L) none) Set.univ (gT5 L G (lo t) v3 k3 (BitVec.ofNat 32 n) hw1 v41 0#32 1#32 k4 ob k u)
          fun u' => inv5 d L G t n k4.val W (k.val + 1) u' := by
  have hk : k.val < 8 := Nat.lt_of_lt_of_le k.isLt k2_t5_abs.2.1
  unfold inv5
  iintro ⟨⟨%f7, %h7, H7⟩, ⟨%f8, %h8, H8⟩, %f9, %h9, H9⟩
  unfold gT5 k2_t5_body
  sl_exec
  sl_step
  have hv : ∀ x : S16.Idx, View.readAt (Elt F) G.a7.view (Rect.unit (s := S144) (k2_off6 k) S16.size (k2_off6_inb k)).toLoadRect f7 x = W (16 * k.val + (x 0).val) := by
    intro x
    have hx : (x 0).val < 16 := (x 0).isLt
    have ho : k2_off6 k 0 = 16 * k.val := congrFun (k2_off6_eq k) 0
    have e : ((Rect.unit (s := S144) (k2_off6 k) S16.size (k2_off6_inb k)).toLoadRect.idx x 0).val = 16 * k.val + (x 0).val := by
      show k2_off6 k 0 + 1 * (x 0).val = _
      omega
    have := h7 ((Rect.unit (s := S144) (k2_off6 k) S16.size (k2_off6_inb k)).toLoadRect.idx x) (by omega)
    rw [e] at this
    exact this
  isplitl [H7]
  · iexists f7; isplitr
    · ipureintro; exact h7
    · iexact H7
  isplitl [H8]
  · iexists _; isplitr
    swap; · iexact H8
    ipureintro
    exact fill_step G.a8 f8 (rowD t n k4.val W) k.val (k2_off7_inb k) (k2_off7_eq k) h8 _ fun x => payDst t v3 h3 n hn k4 h4 k _ x W (hv x)
  · iexists _; isplitr
    swap; · iexact H9
    ipureintro
    exact fill_step G.a9 f9 (rowS n k4.val W) k.val (k2_off7_inb k) (k2_off7_eq k) h9 _ fun x => paySrc v3 h3 n hn k4 h4 k _ x W (hv x)

end Cert.Proof.Bin

end
-- ==== Proof.Edges.lean ====
/-
  Facts of numbers and words the gather and the scatter share: which edge stands at a place of a list, what its word unpacks to, where
  a list's chunks stand in the array of gathered rows, and that they all fit.
-/
module

public import proofs.«01_k».proof.Proof.Setup
public import Idealize.ShloMosaic.Lib.Pointwise.Index

@[expose] public section

noncomputable section

namespace Cert.Proof.Bin

open Cert.KernelIdeal Cert.KernelIdeal.Gen Cert.Proof.Words
open Idealize.ShloMosaic

/-! ## Places -/

/-- Every place of a list is some kept edge's. -/
theorem exists_kept (t : ℕ) (D : ℕ → BitVec 32) : ∀ (n p : ℕ), p < kept t D n → ∃ e < n, Mine t (D e) ∧ kept t D e = p := by
  intro n
  induction n with
  | zero => intro p hp; exact absurd hp (by unfold kept; simp)
  | succ n ih =>
    intro p hp
    have hs : kept t D (n + 1) = kept t D n + if Mine t (D n) then 1 else 0 := by unfold kept; exact Nat.count_succ _ _
    by_cases h : p < kept t D n
    · obtain ⟨e, he, hm, hk⟩ := ih p h
      exact ⟨e, by omega, hm, hk⟩
    · by_cases hm : Mine t (D n)
      · rw [if_pos hm] at hs
        exact ⟨n, by omega, hm, by omega⟩
      · rw [if_neg hm] at hs
        omega

theorem kept_lt (t : ℕ) (D : ℕ → BitVec 32) {e n : ℕ} (he : e < n) (hm : Mine t (D e)) : kept t D e < kept t D n := by
  have hs : kept t D (e + 1) = kept t D e + if Mine t (D e) then 1 else 0 := by unfold kept; exact Nat.count_succ _ _
  rw [if_pos hm] at hs
  have : kept t D (e + 1) ≤ kept t D n := Nat.count_monotone _ he
  omega

/-! ## Words -/

/-- A destination is the tile's when it is one of the tile's 320 nodes. -/
theorem mine_iff (t : ℕ) (d : BitVec 32) : Mine t d ↔ (d - lo t).toNat < 320 := by
  unfold Mine
  rw [BitVec.sle, BitVec.slt]
  have h0 : (0#32).toInt = 0 := rfl
  have h3 : (320#32).toInt = 320 := rfl
  rw [h0, h3, BitVec.toInt_eq_toNat_cond]
  have := (d - lo t).isLt
  constructor
  · rintro ⟨h1, h2⟩
    have h1 := of_decide_eq_true h1
    have h2 := of_decide_eq_true h2
    split at h1 <;> split at h2 <;> omega
  · intro h
    constructor <;> refine decide_eq_true ?_ <;> split <;> omega

theorem mod_sub (a b : ℕ) (ha : a ≤ 10240) (hb : b < 2 ^ 32) : (2 ^ 32 - a + b) % 2 ^ 32 = if a ≤ b then b - a else 2 ^ 32 - a + b := by
  split
  · rw [show 2 ^ 32 - a + b = (b - a) + 2 ^ 32 by omega, Nat.add_mod_right, Nat.mod_eq_of_lt (by omega)]
  · rw [Nat.mod_eq_of_lt (by omega)]

/-- The tile of a node's number. -/
theorem mine_nat (t : ℕ) (ht : t < 32) (d : BitVec 32) (hd : d.toNat < 10000) : Mine t d ↔ d.toNat / 320 = t := by
  rw [mine_iff]
  have hl : (lo t).toNat = 320 * t := by
    unfold lo; rw [BitVec.toNat_ofNat]; exact Nat.mod_eq_of_lt (by omega)
  rw [BitVec.toNat_sub, hl, mod_sub _ _ (by omega) d.isLt]
  split <;> omega

theorem mine_unique {t t' : ℕ} (ht : t < 32) (ht' : t' < 32) (d : BitVec 32) (h : Mine t d) (h' : Mine t' d) : t = t' := by
  rw [mine_iff] at h h'
  have e1 : (lo t).toNat = 320 * t := by unfold lo; rw [BitVec.toNat_ofNat]; exact Nat.mod_eq_of_lt (by omega)
  have e2 : (lo t').toNat = 320 * t' := by unfold lo; rw [BitVec.toNat_ofNat]; exact Nat.mod_eq_of_lt (by omega)
  rw [BitVec.toNat_sub, e1, mod_sub _ _ (by omega) d.isLt] at h
  rw [BitVec.toNat_sub, e2, mod_sub _ _ (by omega) d.isLt] at h'
  split at h <;> split at h' <;> omega

/-- The place of a node among its tile's. -/
theorem word_place (t : ℕ) (d s : BitVec 32) (hm : Mine t d) (hs : s.toNat < 10000) :
    (word t d s).toNat = s.toNat * 512 + (d - lo t).toNat := by
  have hx := (mine_iff t d).mp hm
  have hand : ((d - lo t) &&& 511#32).toNat = (d - lo t).toNat := by
    rw [BitVec.toNat_and]
    exact (Nat.and_two_pow_sub_one_eq_mod _ 9).trans (Nat.mod_eq_of_lt (by omega))
  have hsh : (s <<< (9#32)).toNat = s.toNat <<< 9 := by
    show (s <<< 9).toNat = _
    rw [BitVec.toNat_shiftLeft, Nat.mod_eq_of_lt]
    rw [Nat.shiftLeft_eq]; omega
  unfold word
  rw [BitVec.toNat_or, hand, hsh, ← Nat.shiftLeft_add_eq_or_of_lt (by omega : (d - lo t).toNat < 2 ^ 9), Nat.shiftLeft_eq]

theorem word_src (t : ℕ) (d s : BitVec 32) (hm : Mine t d) (hs : s.toNat < 10000) : word t d s >>> (9#32) = s := by
  have hx := (mine_iff t d).mp hm
  apply BitVec.eq_of_toNat_eq
  show (word t d s >>> 9).toNat = _
  rw [BitVec.toNat_ushiftRight, word_place t d s hm hs, Nat.shiftRight_eq_div_pow]
  omega

theorem word_low (t : ℕ) (d s : BitVec 32) (hm : Mine t d) (hs : s.toNat < 10000) : word t d s &&& 511#32 = d - lo t := by
  have hx := (mine_iff t d).mp hm
  apply BitVec.eq_of_toNat_eq
  rw [BitVec.toNat_and, word_place t d s hm hs]
  refine (Nat.and_two_pow_sub_one_eq_mod _ 9).trans ?_
  omega

theorem word_dst (t : ℕ) (d s : BitVec 32) (hm : Mine t d) (hs : s.toNat < 10000) : lo t + (word t d s &&& 511#32) = d := by
  rw [word_low t d s hm hs, BitVec.add_comm, BitVec.sub_add_cancel]

/-! ## Chunks -/

/-- Where tile `t`'s chunks start in the array of gathered rows. -/
def base (X : S320000.Idx → BitVec 32) (t : ℕ) : ℕ := ∑ u ∈ Finset.range t, chunks X u 8

theorem chunks_succ (X : S320000.Idx → BitVec 32) (t s : ℕ) : chunks X t (s + 1) = chunks X t s + (len X t s + 127) / 128 := Finset.sum_range_succ _ _
theorem base_succ (X : S320000.Idx → BitVec 32) (t : ℕ) : base X (t + 1) = base X t + chunks X t 8 := Finset.sum_range_succ _ _

theorem chunks_mono (X : S320000.Idx → BitVec 32) (t : ℕ) {s s' : ℕ} (h : s ≤ s') : chunks X t s ≤ chunks X t s' :=
  Finset.sum_le_sum_of_subset (Finset.range_mono h)
theorem base_mono (X : S320000.Idx → BitVec 32) {t t' : ℕ} (h : t ≤ t') : base X t ≤ base X t' :=
  Finset.sum_le_sum_of_subset (Finset.range_mono h)

/-- Each edge is kept by one tile at most. -/
theorem kept_total (D : ℕ → BitVec 32) (n : ℕ) : (∑ t ∈ Finset.range 32, kept t D n) ≤ n := by
  induction n with
  | zero => simp [kept]
  | succ n ih =>
    have hs : ∀ t ∈ Finset.range 32, kept t D (n + 1) = kept t D n + if Mine t (D n) then 1 else 0 := fun t _ => by unfold kept; exact Nat.count_succ _ _
    rw [Finset.sum_congr rfl hs, Finset.sum_add_distrib]
    have : (∑ t ∈ Finset.range 32, if Mine t (D n) then 1 else 0) ≤ 1 := by
      rw [← Finset.card_filter]
      refine Finset.card_le_one.mpr fun a ha b hb => ?_
      rw [Finset.mem_filter, Finset.mem_range] at ha hb
      exact mine_unique ha.1 hb.1 _ ha.2 hb.2
    omega

theorem base_le (X : S320000.Idx → BitVec 32) : base X 32 ≤ 2756 := by
  have h1 : base X 32 = ∑ s ∈ Finset.range 8, ∑ t ∈ Finset.range 32, (len X t s + 127) / 128 := by
    unfold base chunks
    exact Finset.sum_comm
  have h2 : ∀ s, 128 * (∑ t ∈ Finset.range 32, (len X t s + 127) / 128) ≤ 40000 + 32 * 127 := by
    intro s
    rw [Finset.mul_sum]
    refine (Finset.sum_le_sum (g := fun t => len X t s + 127) fun t _ => Nat.mul_div_le _ _).trans ?_
    rw [Finset.sum_add_distrib]
    have := kept_total (seg X s) 40000
    have e : (∑ t ∈ Finset.range 32, len X t s) = ∑ t ∈ Finset.range 32, kept t (seg X s) 40000 := rfl
    rw [e]
    simp only [Finset.sum_const, Finset.card_range, smul_eq_mul]
    omega
  rw [h1]
  refine (Finset.sum_le_card_nsmul (Finset.range 8) _ 344 fun s _ => ?_).trans (by simp)
  have := h2 s
  omega

/-- A tile's chunk is one of the array's. -/
theorem chunk_lt (X : S320000.Idx → BitVec 32) (t n : ℕ) (ht : t < 32) (hn : n < chunks X t 8) : base X t + n < 2756 := by
  have h1 := base_succ X t
  have h2 := base_mono X (show t + 1 ≤ 32 by omega)
  have h3 := base_le X
  omega

/-- The chunk of an edge kept. -/
theorem chunk_of (X : S320000.Idx → BitVec 32) (t s e : ℕ) (hs : s < 8) (he : e < 40000) (hm : Mine t (seg X s e)) :
    chunks X t s + kept t (seg X s) e / 128 < chunks X t 8 := by
  have h1 := chunks_succ X t s
  have h2 := chunks_mono X t (show s + 1 ≤ 8 by omega)
  have h3 : kept t (seg X s) e < len X t s := kept_lt t (seg X s) he hm
  omega

/-! ## Counted loops -/

theorem toInt_nat (n : ℕ) (hn : n < 2 ^ 31) : (BitVec.ofNat 32 n).toInt = n := by
  rw [BitVec.toInt_eq_toNat_cond, BitVec.toNat_ofNat]
  split <;> omega

theorem trips_nat (a b : ℕ) (ha : a < 2 ^ 30) (hb : b < 2 ^ 30) : Scf.trips (BitVec.ofNat 32 a) (BitVec.ofNat 32 b) 1#32 = b - a := by
  unfold Scf.trips
  rw [toInt_nat a (by omega), toInt_nat b (by omega), show (1#32).toInt = 1 from rfl]
  omega

theorem ok_nat (a b : ℕ) (ha : a < 2 ^ 30) (hb : b < 2 ^ 30) : Scf.OK (BitVec.ofNat 32 a) (BitVec.ofNat 32 b) 1#32 := by
  unfold Scf.OK
  rw [trips_nat a b ha hb, toInt_nat a (by omega), show (1#32).toInt = 1 from rfl]
  omega

theorem divsi_1 (u : ArithUnit) (x : BitVec 32) : IntOp.divsi u x 1#32 = x := by
  have hcn : ¬ IntOp.SDivCorner x 1#32 := by
    unfold IntOp.SDivCorner
    rintro (h | ⟨-, h⟩) <;> exact absurd h (by decide)
  unfold IntOp.divsi
  rw [if_neg hcn]
  simp [BitVec.sdiv_one]

theorem t4_ub (n : ℕ) (hn : n ≤ 40000) : (k2_t4_loop (BitVec.ofNat 32 n)).ub = BitVec.ofNat 32 ((n + 127) / 128) := by
  have h := chunks_eq n hn
  show 0#32 + IntOp.divsi _ (_ - 0#32) 1#32 * 1#32 = _
  rw [divsi_1, BitVec.mul_one, BitVec.zero_add, BitVec.sub_zero]
  exact h

theorem t7_lb (n : ℕ) (hn : n ≤ 40000) : (k2_t7_loop (BitVec.ofNat 32 n)).lb = BitVec.ofNat 32 ((n + 127) / 128) := t4_ub n hn
theorem t7_ub (n : ℕ) (hn : n ≤ 40000) : (k2_t7_loop (BitVec.ofNat 32 n)).ub = BitVec.ofNat 32 ((n + 127) / 128) := by
  have h := chunks_eq n hn
  show 0#32 + (_ - 0#32) = _
  rw [BitVec.zero_add, BitVec.sub_zero]
  exact h

theorem t4_trips (n : ℕ) (hn : n ≤ 40000) : (k2_t4_loop (BitVec.ofNat 32 n)).trips = (n + 127) / 128 := by
  show Scf.trips 0#32 (k2_t4_loop (BitVec.ofNat 32 n)).ub 1#32 = _
  rw [t4_ub n hn]
  exact trips_nat 0 _ (by omega) (by omega)
theorem t7_trips (n : ℕ) (hn : n ≤ 40000) : (k2_t7_loop (BitVec.ofNat 32 n)).trips = 0 := by
  show Scf.trips (k2_t7_loop (BitVec.ofNat 32 n)).lb (k2_t7_loop (BitVec.ofNat 32 n)).ub 1#32 = _
  rw [t7_lb n hn, t7_ub n hn, trips_nat _ _ (by omega) (by omega)]
  omega

/-- Where a chunk of a list starts. -/
theorem off5_nat (i : grid2.Coords) (k3 : Fin k2_t3_loop.trips) (v : BitVec 32) (k4 : Fin (k2_t4_loop v).trips) (h4 : k4.val < 400) :
    k2_off5 i k3 v k4 = ![40000 * (8 * tile i + k3.val) + 128 * k4.val] := by
  have h3 : k3.val < 8 := Nat.lt_of_lt_of_le k3.isLt k2_t3_abs.2.1
  have ht := tile_lt i
  have e : ∀ k, Scf.iv 0#32 1#32 k = BitVec.ofNat 32 k := fun k => by unfold Scf.iv; simp
  show ![((((BitVec.ofNat 32 (i 1).val * BitVec.ofNat 32 2 + BitVec.ofNat 32 (i 0).val) * BitVec.ofNat 32 8 + Scf.iv 0#32 1#32 k3.val) * BitVec.ofNat 32 40000
    + Scf.iv 0#32 1#32 k4.val * BitVec.ofNat 32 128).toNat)] = _
  rw [e, e]
  simp only [← BitVec.ofNat_mul, ← BitVec.ofNat_add]
  rw [BitVec.toNat_ofNat]
  congr 1
  unfold tile at ht ⊢
  omega

/-- The loops over a list's chunks mean something and stay inside the lists. -/
theorem chk_list (i : grid2.Coords) (k3 : Fin k2_t3_loop.trips) (n : ℕ) (hn : n ≤ 40000) : k2_chk1 i k3 (BitVec.ofNat 32 n) := by
  have h3 : k3.val < 8 := Nat.lt_of_lt_of_le k3.isLt k2_t3_abs.2.1
  have ht := tile_lt i
  refine ⟨?_, fun k4 a => ?_, ?_, fun k7 => absurd (k7.isLt.trans_eq (t7_trips n hn)) (by omega)⟩
  · show Scf.OK 0#32 (k2_t4_loop (BitVec.ofNat 32 n)).ub 1#32
    rw [t4_ub n hn]
    exact ok_nat 0 _ (by omega) (by omega)
  · have h4 := k4.isLt.trans_eq (t4_trips n hn)
    rw [off5_nat i k3 _ k4 (by omega)]
    match a with
    | 0 => exact (show 40000 * (8 * tile i + k3.val) + 128 * k4.val + 128 ≤ 10240128 by omega)
  · show Scf.OK (k2_t7_loop (BitVec.ofNat 32 n)).lb (k2_t7_loop (BitVec.ofNat 32 n)).ub 1#32
    rw [t7_lb n hn, t7_ub n hn]
    exact ok_nat _ _ (by omega) (by omega)

/-- A chunk of the gathered rows is one of the array's. -/
theorem off24_nat (b : ℕ) (hb : b < 2760) : k2_off24 (BitVec.ofNat 32 b) = ![64 * b, 0] := by
  show ![(BitVec.ofNat 32 b * BitVec.ofNat 32 64).toNat, 0] = _
  rw [← BitVec.ofNat_mul, BitVec.toNat_ofNat]
  congr 1
  omega

theorem chk_chunk (b : ℕ) (hb : b < 2760) : k2_chk2 (BitVec.ofNat 32 b) := by
  refine ⟨?_, fun a => ?_⟩
  · show 8 ∣ (BitVec.ofNat 32 b * BitVec.ofNat 32 64).toNat
    rw [← BitVec.ofNat_mul, BitVec.toNat_ofNat]
    omega
  · rw [off24_nat b hb]
    match a with
    | 0 => exact (show 64 * b + 64 ≤ 176640 by omega)
    | 1 => exact (show 0 + 128 ≤ 128 by omega)

end Cert.Proof.Bin

end
-- ==== Proof.Chunk.lean ====
/-
  The gather's tile: one chunk of a list.
-/
module

public import proofs.«01_k».proof.Proof.Gather
public import proofs.«01_k».proof.Proof.Edges
public import Idealize.ShloMosaic.Lib.SparseCore.Ops
public import Idealize.ShloMosaic.Lib.SparseCore.Stream

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

variable [FloatOps F] (d : Dev nD) (L : grid2.Coords) (G : GM)

/-! ## One chunk of a list -/

/-- Row `R p` of the table at each `p`. -/
def rowsT (Tb : S10000x128.Idx → F .f32) (R : ℕ → BitVec 32) (y : S128x128.Idx) : F .f32 :=
  have h1 : (y 1).val < 128 := (y 1).isLt
  Tb (ix2 (⟨(R (y 0).val).toNat % 10000, Nat.mod_lt _ (by decide)⟩ : Fin 10000) (⟨(y 1).val, h1⟩ : Fin 128))

/-- The elements of chunk `b` of the gathered rows. -/
def chunkIdx (b : ℕ) : Finset S176640x128.Idx := Finset.univ.filter fun y => 64 * b ≤ (y 0).val ∧ (y 0).val < 64 * b + 64
abbrev chunkSet (v : View sig .scVector .hbm S176640x128 .f32) (b : ℕ) := (chunkIdx b).map v.emb

/-- Chunk `b` holds the sums of the pairs of rows `A` and `B`. -/
def ChunkOK (A B : S128x128.Idx → F .f32) (b : ℕ) (g : S176640x128.Idx → F .f32) : Prop :=
  ∀ (y : S64x128.Idx) (z : S176640x128.Idx), (z 0).val = 64 * b + (y 0).val → (z 1).val = (y 1).val → g z = sumAt A B y

/-- What a chunk's copies and loops work with. -/
def Work (q₁ q₂ q₃ : PosShare TreeShare) (Tb : S10000x128.Idx → F .f32) (l : S10240128.Idx → BitVec 32) (O : CellTallies nD τ sig (HIx 7)) (Wt : Waits sig (HIx 7)) : sProp 𝕄 :=
  iprop(Transfers.MayWaits (tv d L) (default : HIx 7) O
    ∗ (∃ f, ⌜G.a2.view.read (Elt F) f = Tb⌝ ∗ G.a2.view.loc (tv d L) ↦[G.a2.view.set]{q₁} f) ∗ (∃ f, ⌜G.a2.view.read (Elt F) f = Tb⌝ ∗ G.a2.view.loc (tv d L) ↦[G.a2.view.set]{q₂} f)
    ∗ (∃ f, ⌜G.a3.view.read (Elt F) f = l⌝ ∗ G.a3.view.loc (tv d L) ↦[G.a3.view.set]{q₃} f)
    ∗ Has d L G.a7 (fun _ => True) ∗ Has d L G.a8 (fun _ => True) ∗ Has d L G.a9 (fun _ => True) ∗ Has d L G.a10 (fun _ => True) ∗ Has d L G.a11 (fun _ => True) ∗ Has d L G.a12 (fun _ => True)
    ∗ semVal (tv d L, .dma G.a15.sem) 0 ∗ semVal (tv d L, .dma G.a16.sem) 0 ∗ semVal (tv d L, .dma G.r2.sem) 0 ∗ semVal (tv d L, .dma G.r3.sem) 0
    ∗ ∃ W', ⌜∀ p ∈ W', p ∈ Wt ∨ p.2 = none⌝ ∗ owes (tv d L) O W')

theorem set_chunk (v : View sig .scVector .hbm S176640x128 .f32) (b : ℕ) (hb : b < 2760) (h : ∀ a, k2_off24 (BitVec.ofNat 32 b) a + S64x128.size a ≤ S176640x128.size a) :
    (v.slice (Rect.unit (s := S176640x128) (k2_off24 (BitVec.ofNat 32 b)) S64x128.size h)).set = chunkSet v b := by
  rw [View.set_slice]
  refine congrArg (Finset.map v.emb) (Finset.ext fun y => ?_)
  rw [Rect.mem_set_unit]
  unfold chunkIdx
  rw [Finset.mem_filter, off24_nat b hb]
  have h1 : (y 1).val < 128 := (y 1).isLt
  constructor
  · intro h
    exact ⟨Finset.mem_univ _, (h 0).1, (h 0).2⟩
  · rintro ⟨-, h, h'⟩ a
    match a with
    | 0 => exact ⟨h, h'⟩
    | 1 => exact ⟨Nat.zero_le _, (show (y 1).val < 0 + 128 by omega)⟩

theorem pts_chunk (b : ℕ) (hb : b < 2760) (h : ∀ a, k2_off24 (BitVec.ofNat 32 b) a + S64x128.size a ≤ S176640x128.size a) (g : G.a6.view.ty.Contents (Elt F)) :
    (((G.a6.slice (Rect.unit (s := S176640x128) (k2_off24 (BitVec.ofNat 32 b)) S64x128.size h) (fun _ => rfl)).view.loc (tv d L)
        ↦[(G.a6.slice (Rect.unit (s := S176640x128) (k2_off24 (BitVec.ofNat 32 b)) S64x128.size h) (fun _ => rfl)).view.set]{fullShare} g : sProp 𝕄))
      = (G.a6.view.loc (tv d L) ↦[chunkSet G.a6.view b]{fullShare} g) := by
  rw [← set_chunk G.a6.view b hb h]

/-- The words a chunk's copy brings. -/
theorem words_read (m3 : Memref sig .scVector .hbm S10240128 .i32) (m7 : Memref sig .scVector .vmem S144 .i32) (n : ℕ) (hn : n ≤ 40000) (k3 : Fin k2_t3_loop.trips) (hw1 : k2_chk1 L k3 (BitVec.ofNat 32 n)) (k4 : Fin (k2_t4_loop (BitVec.ofNat 32 n)).trips) (hk4 : k4.val < 400)
    (fl : m3.view.ty.Contents (Elt F)) (l : S10240128.Idx → BitVec 32) (hl : m3.view.read (Elt F) fl = l) (W : ℕ → BitVec 32)
    (hW : ∀ p, p < 128 → ∀ z : S10240128.Idx, (z 0).val = 40000 * (8 * tile L + k3.val) + 128 * k4.val + p → l z = W p)
    (f7 : m7.view.ty.Contents (Elt F)) (y : S144.Idx) (hy : (y 0).val < 128) :
    m7.view.read (Elt F) (m7.view.writes (Elt F) f7 [⟨Rect.unit ![0] S128.size inb_S144_S128_0,
      (m3.slice (Rect.unit (s := S10240128) (k2_off5 L k3 (BitVec.ofNat 32 n) k4) S128.size (k2_off5_inb L k3 _ hw1 k4)) (fun _ => rfl)).view.read (Elt F) fl⟩]) y = W (y 0).val := by
  let x : S128.Idx := ix1 ⟨(y 0).val, hy⟩
  refine (View.read_writes_cons_hit_of_coords (Val := Elt F) m7.view f7 (Rect.unit ![0] S128.size inb_S144_S128_0) _ [] x y fun a => ?_).trans ?_
  · match a with
    | 0 => exact (show (y 0).val = 0 + 1 * (y 0).val by omega)
  · have h := congrFun (off5_nat L k3 (BitVec.ofNat 32 n) k4 hk4) 0
    have e := hW (y 0).val hy ((Rect.unit (s := S10240128) (k2_off5 L k3 (BitVec.ofNat 32 n) k4) S128.size (k2_off5_inb L k3 _ hw1 k4)).emb x)
      (show k2_off5 L k3 (BitVec.ofNat 32 n) k4 0 + 1 * (y 0).val = _ by rw [h]; show 40000 * (8 * tile L + k3.val) + 128 * k4.val + 1 * (y 0).val = _; omega)
    rw [← e, ← hl]
    rfl

theorem read_whole {sp : Space} {s : Shape} {e : EltTy} (v : View sig .scVector sp s e) (f : v.ty.Contents (Elt F)) (w : Vec F s e) :
    v.read (Elt F) (v.writes (Elt F) f [⟨Rect.whole s, w⟩]) = w := by
  funext x
  refine View.read_writes_cons_hit_of_coords (Val := Elt F) v f (Rect.whole s) w [] x x fun a => ?_
  show _ = 0 + 1 * _
  rw [Nat.zero_add, Nat.one_mul]

/-- The rows an indirect copy brings. -/
theorem rows_read {m : Memref sig .scVector .vmem S128 .i32} (fT : G.a2.view.ty.Contents (Elt F)) (f8 : m.view.ty.Contents (Elt F))
    (hin : ∀ x, (m.view.read (Elt F) f8 x).toNat < S10000x128.size gathers_S10000x128_S128x128.axis) (Tb : S10000x128.Idx → F .f32) (hT : G.a2.view.read (Elt F) fT = Tb)
    (R : ℕ → BitVec 32) (h8 : ∀ y : S128.Idx, m.view.read (Elt F) f8 y = R (y 0).val) :
    SparseCore.gatherPayload gathers_S10000x128_S128x128
      ((G.a2.slice (Rect.unit (s := S10000x128) ![0, 0] S10000x128.size inb_S10000x128_S10000x128_0_0) (fun _ => rfl)).view.read (Elt F) fT)
      (SparseCore.rows (m.view.read (Elt F) f8) rfl hin) = rowsT Tb R := by
  funext y
  have h0 : (y 0).val < 128 := (y 0).isLt
  have hz : (((Shape.rowMajor (s := S128)).symm ⟨(y 0).val, h0⟩) 0).val = (y 0).val := by
    have e := congrArg Fin.val ((Shape.rowMajor (s := S128)).apply_symm_apply ⟨(y 0).val, h0⟩)
    rw [Shape.rowMajor_val_one] at e
    exact e
  have hr : (m.view.read (Elt F) f8 ((Shape.rowMajor (s := S128)).symm ⟨(y 0).val, h0⟩)).toNat = (R (y 0).val).toNat % 10000 := by
    have hl := hin ((Shape.rowMajor (s := S128)).symm ⟨(y 0).val, h0⟩)
    rw [h8, hz] at hl ⊢
    exact (Nat.mod_eq_of_lt hl).symm
  subst hT
  unfold SparseCore.gatherPayload rowsT
  refine congrArg (G.a2.view.read (Elt F) fT) (funext fun a => Fin.ext ?_)
  match a with
  | 0 => exact (show 0 + 1 * (m.view.read (Elt F) f8 ((Shape.rowMajor (s := S128)).symm ⟨(y 0).val, h0⟩)).toNat = (R (y 0).val).toNat % 10000 by omega)
  | 1 => exact (show 0 + 1 * (y 1).val = (y 1).val by omega)

/-- A chunk's copy out leaves the sums in its chunk. -/
theorem chunk_written (b : ℕ) (hb : b < 2760) (h : ∀ a, k2_off24 (BitVec.ofNat 32 b) a + S64x128.size a ≤ S176640x128.size a) (A B : S128x128.Idx → F .f32)
    (g : G.a6.view.ty.Contents (Elt F)) (w : S64x128.Idx → F .f32) (hw : ∀ y, w y = sumAt A B y) :
    ChunkOK A B b (G.a6.view.read (Elt F) ((G.a6.view.slice (Rect.unit (s := S176640x128) (k2_off24 (BitVec.ofNat 32 b)) S64x128.size h)).writes (Elt F) g
      [⟨Rect.whole S64x128, w⟩])) := by
  intro y z hz0 hz1
  have hy0 : (y 0).val < 64 := (y 0).isLt
  have ho := off24_nat b hb
  have hz : (Rect.unit (s := S176640x128) (k2_off24 (BitVec.ofNat 32 b)) S64x128.size h).emb y = z := by
    funext a
    refine Fin.ext ?_
    match a with
    | 0 =>
      have ho := congrFun ho 0
      exact (show k2_off24 (BitVec.ofNat 32 b) 0 + 1 * (y 0).val = (z 0).val by rw [ho]; show 64 * b + 1 * (y 0).val = _; omega)
    | 1 =>
      have ho := congrFun ho 1
      exact (show k2_off24 (BitVec.ofNat 32 b) 1 + 1 * (y 1).val = (z 1).val by rw [ho]; show 0 + 1 * (y 1).val = _; omega)
  have e := congrFun (read_whole (F := F) (G.a6.view.slice (Rect.unit (s := S176640x128) (k2_off24 (BitVec.ofNat 32 b)) S64x128.size h)) g w) y
  rw [← hz, ← hw y]
  exact e

set_option maxRecDepth 65536 in
theorem trip4 (q₁ q₂ q₃ : PosShare TreeShare) (Tb : S10000x128.Idx → F .f32) (l : S10240128.Idx → BitVec 32) (O : CellTallies nD τ sig (HIx 7)) (Wt : Waits sig (HIx 7))
    (n : ℕ) (hn : n ≤ 40000) (W : ℕ → BitVec 32) (v3 : IVec S16 32) (h3 : Lanes16 v3) (k3 : Fin k2_t3_loop.trips) (hw1 : k2_chk1 L k3 (BitVec.ofNat 32 n))
    (v41 : BitVec 32) (k4 : Fin (k2_t4_loop (BitVec.ofNat 32 n)).trips) (h4 : 128 * k4.val < n) (b : ℕ) (hb : b < 2760)
    (hW : ∀ p, p < 128 → ∀ z : S10240128.Idx, (z 0).val = 40000 * (8 * tile L + k3.val) + 128 * k4.val + p → l z = W p)
    (hD : ∀ p, p < 128 → (rowD (tile L) n k4.val W p).toNat < 10000) (hS : ∀ p, p < 128 → (rowS n k4.val W p).toNat < 10000) :
    iprop(Work d L G q₁ q₂ q₃ Tb l O Wt ∗ ∃ g, G.a6.view.loc (tv d L) ↦[chunkSet G.a6.view b]{fullShare} g)
      ⊢ wp frame (wpE (defs₀ (F := F)) 𝒱₀ (tv d L) none) Set.univ (gT4 L G (lo (tile L)) v3 k3 (BitVec.ofNat 32 n) hw1 v41 k4 (BitVec.ofNat 32 b))
          fun ob => iprop(⌜ob = BitVec.ofNat 32 (b + 1)⌝ ∗ Work d L G q₁ q₂ q₃ Tb l O Wt
            ∗ ∃ g, ⌜ChunkOK (rowsT Tb (rowD (tile L) n k4.val W)) (rowsT Tb (rowS n k4.val W)) b (G.a6.view.read (Elt F) g)⌝
                ∗ G.a6.view.loc (tv d L) ↦[chunkSet G.a6.view b]{fullShare} g) := by
  have hk4 : k4.val < 400 := by
    have := k4.isLt.trans_eq (t4_trips n hn)
    omega
  have hw2 := chk_chunk b hb
  unfold Work
  iintro ⟨⟨Hmw, ⟨%fT, %hT, HT⟩, ⟨%fU, %hU, HU⟩, ⟨%fl, %hl, Hl⟩, ⟨%f7, -, H7⟩, ⟨%f8, -, H8⟩, ⟨%f9, -, H9⟩, ⟨%f10, -, H10⟩, ⟨%f11, -, H11⟩, ⟨%f12, -, H12⟩, S15, S16, S2, S3, %W', %hW', HO⟩, %g, Hg⟩
  ihave Hg := (Entails.of_eq (pts_chunk d L G b hb (k2_off24_inb _ hw2) g).symm) $$ Hg
  unfold gT4 k2_t4_body
  rw [k2_part3_eq_skeleton]
  unfold k2_part3_skel
  sl_exec (disch := exact View.amount_pos _ _ (by decide))
  rw [wp_bind]
  sl_for (inv5 d L G (tile L) n k4.val W) $$ [H7 H8 H9]
  case region =>
    intro k u
    exact trip5 d L G (tile L) n hn W v3 h3 k3 hw1 v41 k4 h4 _ k u
  · unfold inv5
    isplitl [H7]
    · iexists _; isplitr
      swap; · iexact H7
      ipureintro
      exact fun y hy => words_read L G.a3 G.a7 n hn k3 hw1 k4 hk4 fl l hl W hW f7 y hy
    isplitl [H8]
    · iexists _; isplitr
      swap; · iexact H8
      ipureintro
      exact fun y hy => absurd hy (by omega)
    · iexists _; isplitr
      swap; · iexact H9
      ipureintro
      exact fun y hy => absurd hy (by omega)
  iintro %u HI
  unfold inv5
  icases HI with ⟨⟨%f7', -, H7⟩, ⟨%f8', %h8, H8⟩, %f9', %h9, H9⟩
  have e5 : Scf.trips k2_t5_loop.lb k2_t5_loop.ub k2_t5_loop.st = 8 := by decide
  rw [e5] at h8 h9
  have hin8 : ∀ x, (G.a8.view.read (Elt F) f8' x).toNat < S10000x128.size gathers_S10000x128_S128x128.axis := fun x => by
    have hx : (x 0).val < 128 := (x 0).isLt
    rw [h8 x (by omega)]
    exact hD _ hx
  have hin9 : ∀ x, (G.a9.view.read (Elt F) f9' x).toNat < S10000x128.size gathers_S10000x128_S128x128.axis := fun x => by
    have hx : (x 0).val < 128 := (x 0).isLt
    rw [h9 x (by omega)]
    exact hS _ hx
  sl_exec (disch := exact View.amount_pos _ _ (by decide))
  sl_for (inv6 d L G (rowsT Tb (rowD (tile L) n k4.val W)) (rowsT Tb (rowS n k4.val W))) $$ [H10 H11 H12]
  case region =>
    intro k u
    exact trip6 d L G _ _ _ v3 k3 _ hw1 v41 _ _ k4 _ k u
  · unfold inv6
    isplitl [H10]
    · iexists _; isplitr
      swap; · iexact H10
      ipureintro
      exact (read_whole _ _ _).trans (rows_read G fT f8' hin8 Tb hT _ fun y => h8 y (by have : (y 0).val < 128 := (y 0).isLt; omega))
    isplitl [H11]
    · iexists _; isplitr
      swap; · iexact H11
      ipureintro
      exact (read_whole _ _ _).trans (rows_read G fU f9' hin9 Tb hU _ fun y => h9 y (by have : (y 0).val < 128 := (y 0).isLt; omega))
    · iexists _; isplitr
      swap; · iexact H12
      ipureintro
      exact fun y hy => absurd hy (by omega)
  iintro %u' HI
  unfold inv6
  icases HI with ⟨⟨%f10', -, H10⟩, ⟨%f11', -, H11⟩, %f12', %h12, H12⟩
  have e6 : Scf.trips k2_t6_loop.lb k2_t6_loop.ub k2_t6_loop.st = 64 := by decide
  rw [e6] at h12
  sl_exec (disch := exact View.amount_pos _ _ (by decide))
  sl_step
  have tail : ∀ p : SemLoc sig × HIx 7, p ∈ insert (SemLoc.dma G.r3.sem, (default : HIx 7)) (insert (SemLoc.dma G.a16.sem, default)
      (insert (SemLoc.dma G.a15.sem, default) (insert (SemLoc.dma G.r2.sem, default) W'))) → p ∈ Wt ∨ p.2 = none := by
    intro p hp
    simp only [Finset.mem_insert] at hp
    rcases hp with rfl | rfl | rfl | rfl | hp
    · exact .inr rfl
    · exact .inr rfl
    · exact .inr rfl
    · exact .inr rfl
    · exact hW' p hp
  isplitr
  · ipureintro
    exact (BitVec.ofNat_add b 1).symm
  isplitr [Hg]
  · isplitl [Hmw]; · iexact Hmw
    isplitl [HT]; · iexists fT; isplitr; · ipureintro; exact hT
                    iexact HT
    isplitl [HU]; · iexists fU; isplitr; · ipureintro; exact hU
                    iexact HU
    isplitl [Hl]; · iexists fl; isplitr; · ipureintro; exact hl
                    iexact Hl
    isplitl [H7]; · iexists _; isplitr; swap; · iexact H7
                    ipureintro; trivial
    isplitl [H8]; · iexists _; isplitr; swap; · iexact H8
                    ipureintro; trivial
    isplitl [H9]; · iexists _; isplitr; swap; · iexact H9
                    ipureintro; trivial
    isplitl [H10]; · iexists _; isplitr; swap; · iexact H10
                     ipureintro; trivial
    isplitl [H11]; · iexists _; isplitr; swap; · iexact H11
                     ipureintro; trivial
    isplitl [H12]; · iexists _; isplitr; swap; · iexact H12
                     ipureintro; trivial
    isplitl [S15]; · iexact S15
    isplitl [S16]; · iexact S16
    isplitl [S2]; · iexact S2
    isplitl [S3]; · iexact S3
    iexists _; isplitr; swap; · iexact HO
    ipureintro
    exact tail
  · iexists _; isplitr; swap; · iapply (Entails.of_eq (pts_chunk d L G b hb (k2_off24_inb _ hw2) _)); iexact Hg
    ipureintro
    exact chunk_written (F := F) G b hb (k2_off24_inb _ hw2) _ _ g (trip4.sl.dma0_1 G f12') fun y => h12 y (y 0).isLt

end Cert.Proof.Bin

end
-- ==== Proof.Rows.lean ====
/-
  The gathered rows: what they hold of the edges.
-/
module

public import proofs.«01_k».proof.Proof.Chunk

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

/-! ## The first lane of a vector -/

theorem pay1_at (w : Vec F S16 .i32) : extractAt ![0] (k2_pay1 w) inpos_S1_p0 = w (ix1 (0 : Fin 16)) := by
  unfold extractAt k2_pay1 extractStridedSlice
  refine congrArg w (funext fun a => ?_)
  match a with
  | 0 => rfl

theorem pay3_at (w : Vec F S16 .i32) : extractAt ![0] (k2_pay3 w) inpos_S1_p0 = w (ix1 (0 : Fin 16)) := pay1_at w

/-! ## What the gathered rows hold -/

/-- Word `m` of the lists. -/
def wordAt (l : S10240128.Idx → BitVec 32) (m : ℕ) : BitVec 32 := l (ix1 (⟨m % 10240128, Nat.mod_lt _ (by decide)⟩ : Fin 10240128))

theorem wordAt_eq (l : S10240128.Idx → BitVec 32) (m : ℕ) (z : S10240128.Idx) (hz : (z 0).val = m) : l z = wordAt l m := by
  refine congrArg l (funext fun a => ?_)
  match a with
  | 0 =>
    have h : (z 0).val < 10240128 := (z 0).isLt
    exact Fin.ext (show (z 0).val = m % 10240128 by omega)

/-- Word `p` of chunk `j` of tile `t`'s list of segment `s`. -/
def wordsOf (l : S10240128.Idx → BitVec 32) (t s j p : ℕ) : BitVec 32 := wordAt l (40000 * (8 * t + s) + 128 * j + p)

section

variable (X Y : S320000.Idx → BitVec 32) (t s : ℕ) (ht : t < 32) (hs : s < 8) (l : S10240128.Idx → BitVec 32) (hl : SegOK X Y t s l) (j : ℕ)

include ht hs hl in
theorem words_edge (p e : ℕ) (he : e < 40000) (hm : Mine t (seg X s e)) (hk : kept t (seg X s) e = 128 * j + p) :
    wordsOf l t s j p = word t (seg X s e) (seg Y s e) := by
  have h := hl e he hm (ix1 (⟨(40000 * (8 * t + s) + 128 * j + p) % 10240128, Nat.mod_lt _ (by decide)⟩ : Fin 10240128))
    (show (40000 * (8 * t + s) + 128 * j + p) % 10240128 = _ by have := kept_le t (seg X s) e; omega)
  exact h

variable (hX : ∀ i, (X i).toNat < 10000) (hY : ∀ i, (Y i).toNat < 10000)

include ht hs hl hX hY in
/-- The two rows of a kept edge are its ends. -/
theorem rows_edge (p e : ℕ) (he : e < 40000) (hm : Mine t (seg X s e)) (hk : kept t (seg X s) e = 128 * j + p) :
    rowD t (len X t s) j (wordsOf l t s j) p = seg X s e ∧ rowS (len X t s) j (wordsOf l t s j) p = seg Y s e := by
  have hlt : 128 * j + p < len X t s := hk ▸ kept_lt t (seg X s) he hm
  unfold rowD rowS
  rw [if_pos hlt, if_pos hlt, words_edge X Y t s ht hs l hl j p e he hm hk]
  exact ⟨word_dst t _ _ hm (hY _), word_src t _ _ hm (hY _)⟩

include ht hs hl hX hY in
/-- Every row is one of the table's. -/
theorem rows_lt (p : ℕ) (hp : p < 128) :
    (rowD t (len X t s) j (wordsOf l t s j) p).toNat < 10000 ∧ (rowS (len X t s) j (wordsOf l t s j) p).toNat < 10000 := by
  by_cases h : 128 * j + p < len X t s
  · obtain ⟨e, he, hm, hk⟩ := exists_kept t (seg X s) 40000 (128 * j + p) h
    rw [(rows_edge X Y t s ht hs l hl j hX hY p e he hm hk).1, (rows_edge X Y t s ht hs l hl j hX hY p e he hm hk).2]
    exact ⟨hX _, hY _⟩
  · unfold rowD rowS
    rw [if_neg h, if_neg h, BitVec.toNat_ofNat]
    omega

end

/-- An edge's sum: its destination's row's first half plus its source's row's second half. -/
def edge (Tb : S10000x128.Idx → F .f32) [FloatOps F] (a b : BitVec 32) (c : Fin 64) : F .f32 :=
  FloatOps.addf (Tb (ix2 (⟨a.toNat % 10000, Nat.mod_lt _ (by decide)⟩ : Fin 10000) (⟨c.val, by omega⟩ : Fin 128)))
    (Tb (ix2 (⟨b.toNat % 10000, Nat.mod_lt _ (by decide)⟩ : Fin 10000) (⟨64 + c.val, by omega⟩ : Fin 128)))

/-- Tile `t`'s chunk `n` holds its edges' sums, two edges to a row. -/
def RowsOK [FloatOps F] (Tb : S10000x128.Idx → F .f32) (X Y : S320000.Idx → BitVec 32) (t n : ℕ) (g : S176640x128.Idx → F .f32) : Prop :=
  ∀ s, s < 8 → ∀ e, e < 40000 → Mine t (seg X s e) → chunks X t s + kept t (seg X s) e / 128 = n → ∀ (c : Fin 64) (z : S176640x128.Idx),
    (z 0).val = 64 * (base X t + n) + kept t (seg X s) e % 128 / 2 → (z 1).val = 64 * (kept t (seg X s) e % 2) + c.val → g z = edge Tb (seg X s e) (seg Y s e) c

theorem chunk_lt_succ (X : S320000.Idx → BitVec 32) (t s e : ℕ) (he : e < 40000) (hm : Mine t (seg X s e)) :
    chunks X t s + kept t (seg X s) e / 128 < chunks X t (s + 1) := by
  rw [chunks_succ]
  have := kept_lt t (seg X s) he hm
  unfold len
  omega

theorem rowsOK_of_chunk [FloatOps F] (Tb : S10000x128.Idx → F .f32) (X Y : S320000.Idx → BitVec 32) (t s : ℕ) (ht : t < 32) (hs : s < 8) (l : S10240128.Idx → BitVec 32)
    (hl : SegOK X Y t s l) (j : ℕ) (hX : ∀ i, (X i).toNat < 10000) (hY : ∀ i, (Y i).toNat < 10000) (hj : 128 * j < len X t s) (g : S176640x128.Idx → F .f32)
    (hg : ChunkOK (rowsT Tb (rowD t (len X t s) j (wordsOf l t s j))) (rowsT Tb (rowS (len X t s) j (wordsOf l t s j))) (base X t + (chunks X t s + j)) g) :
    RowsOK Tb X Y t (chunks X t s + j) g := by
  intro s' hs' e he hm hn c z hz0 hz1
  have hc := chunk_lt_succ X t s' e he hm
  have hj1 : chunks X t s + j < chunks X t (s + 1) := by
    rw [chunks_succ]
    omega
  have hss : s' = s := by
    rcases Nat.lt_trichotomy s' s with h | h | h
    · have := chunks_mono X t (show s' + 1 ≤ s by omega)
      omega
    · exact h
    · have := chunks_mono X t (show s + 1 ≤ s' by omega)
      omega
  subst hss
  have hkj : kept t (seg X s') e / 128 = j := by omega
  have hp : kept t (seg X s') e = 128 * j + kept t (seg X s') e % 128 := by omega
  obtain ⟨eD, eS⟩ := rows_edge X Y t s' ht hs l hl j hX hY _ e he hm hp
  generalize hkk : kept t (seg X s') e = k at *
  have hk2 : k % 128 / 2 < 64 := by omega
  have hc2 : 64 * (k % 2) + c.val < 128 := by omega
  have := hg (ix2 (⟨k % 128 / 2, hk2⟩ : Fin 64) (⟨64 * (k % 2) + c.val, hc2⟩ : Fin 128)) z hz0 hz1
  rw [this]
  have q : 2 * (k % 128 / 2) + (64 * (k % 2) + c.val) / 64 = k % 128 := by omega
  have q' : (64 * (k % 2) + c.val) % 64 = c.val := by omega
  unfold sumAt rowsT edge
  refine congrArg₂ FloatOps.addf ?_ ?_
  · refine congrArg Tb (congrArg₂ ix2 (Fin.ext ?_) (Fin.ext q'))
    show (rowD t (len X t s') j (wordsOf l t s' j) (2 * (k % 128 / 2) + (64 * (k % 2) + c.val) / 64)).toNat % 10000 = _
    rw [q, eD]
  · refine congrArg Tb (congrArg₂ ix2 (Fin.ext ?_) (Fin.ext (congrArg (64 + ·) q')))
    show (rowS (len X t s') j (wordsOf l t s' j) (2 * (k % 128 / 2) + (64 * (k % 2) + c.val) / 64)).toNat % 10000 = _
    rw [q, eS]

end Cert.Proof.Bin

end
-- ==== Proof.GatherTile.lean ====
/-
  The gather's tile: its lists, and the whole of it.
-/
module

public import proofs.«01_k».proof.Proof.Rows

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

variable [FloatOps F] (d : Dev nD) (L : grid2.Coords) (G : GM)

/-! ## The counts -/

/-- Before trip `k` of the first loop: the totals, and the sum of the first `k`. -/
def inv1 (X : S320000.Idx → BitVec 32) (k : ℕ) (u : BitVec 32) : sProp 𝕄 :=
  iprop(⌜u = BitVec.ofNat 32 (base X k)⌝ ∗ Has d L G.a14 (· = totals X))

theorem trip1 (X : S320000.Idx → BitVec 32) (k : Fin (k2_t1_loop L).trips) (u : BitVec 32) :
    inv1 d L G X k.val u
      ⊢ wp frame (wpE (defs₀ (F := F)) 𝒱₀ (tv d L) none) Set.univ (gT1 L G k u) fun u' => inv1 d L G X (k.val + 1) u' := by
  have hk : k.val < 31 := Nat.lt_of_lt_of_le k.isLt (k2_t1_abs L).2.1
  unfold inv1
  iintro ⟨%hu, %f, %hf, H⟩
  subst hu
  unfold gT1 k2_t1_body
  sl_exec
  sl_step
  isplitr
  · ipureintro
    show BitVec.ofNat 32 (base X k.val) + extractAt ![0] (k2_pay1 _) inpos_S1_p0 = _
    rw [pay1_at, base_succ, BitVec.ofNat_add]
    refine congrArg (BitVec.ofNat 32 (base X k.val) + ·) ?_
    have ho := congrFun (k2_off2_eq L k) 0
    refine (congrFun hf ((Rect.unit (s := S512) (k2_off2 L k) S16.size (k2_off2_inb L k)).toLoadRect.idx (ix1 (0 : Fin 16)))).trans ?_
    unfold totals
    have e : ((Rect.unit (s := S512) (k2_off2 L k) S16.size (k2_off2_inb L k)).toLoadRect.idx (ix1 (0 : Fin 16)) 0).val = 16 * k.val := by
      show k2_off2 L k 0 + 1 * 0 = _
      rw [ho]; rfl
    rw [e, show 16 * k.val / 16 = k.val by omega]
  · iexists f; isplitr
    · ipureintro; exact hf
    · iexact H

/-! ## A tile's chunks -/

/-- The tile's chunks, the first `m` of them right. -/
def outs (Tb : S10000x128.Idx → F .f32) (X Y : S320000.Idx → BitVec 32) (m : ℕ) : sProp 𝕄 :=
  bigSep (Finset.range (chunks X (tile L) 8)) fun n => iprop(∃ g, ⌜n < m → RowsOK Tb X Y (tile L) n (G.a6.view.read (Elt F) g)⌝
    ∗ G.a6.view.loc (tv d L) ↦[chunkSet G.a6.view (base X (tile L) + n)]{fullShare} g)

/-- Before the tile's chunk `m`. -/
def inv4 (q₁ q₂ q₃ : PosShare TreeShare) (Tb : S10000x128.Idx → F .f32) (X Y : S320000.Idx → BitVec 32) (l : S10240128.Idx → BitVec 32)
    (O : CellTallies nD τ sig (HIx 7)) (Wt : Waits sig (HIx 7)) (m : ℕ) (ob : BitVec 32) : sProp 𝕄 :=
  iprop(⌜ob = BitVec.ofNat 32 (base X (tile L) + m)⌝ ∗ Work d L G q₁ q₂ q₃ Tb l O Wt ∗ outs d L G Tb X Y m)

/-- Another chunk is as right after one as before it. -/
theorem outs_other (Tb : S10000x128.Idx → F .f32) (X Y : S320000.Idx → BitVec 32) (m n : ℕ) (h : n ≠ m) :
    iprop(∃ g, ⌜n < m → RowsOK Tb X Y (tile L) n (G.a6.view.read (Elt F) g)⌝ ∗ G.a6.view.loc (tv d L) ↦[chunkSet G.a6.view (base X (tile L) + n)]{fullShare} g)
      ⊢ iprop(∃ g, ⌜n < m + 1 → RowsOK Tb X Y (tile L) n (G.a6.view.read (Elt F) g)⌝ ∗ G.a6.view.loc (tv d L) ↦[chunkSet G.a6.view (base X (tile L) + n)]{fullShare} g : sProp 𝕄) := by
  iintro ⟨%g, %hg, H⟩
  iexists g; isplitr
  · ipureintro
    exact fun hn => hg (by omega)
  · iexact H

theorem rest_step (Tb : S10000x128.Idx → F .f32) (X Y : S320000.Idx → BitVec 32) (m : ℕ) :
    (bigSep ((Finset.range (chunks X (tile L) 8)).erase m) fun n => iprop(∃ g, ⌜n < m → RowsOK Tb X Y (tile L) n (G.a6.view.read (Elt F) g)⌝
        ∗ G.a6.view.loc (tv d L) ↦[chunkSet G.a6.view (base X (tile L) + n)]{fullShare} g))
      ⊢ (bigSep ((Finset.range (chunks X (tile L) 8)).erase m) fun n => iprop(∃ g, ⌜n < m + 1 → RowsOK Tb X Y (tile L) n (G.a6.view.read (Elt F) g)⌝
        ∗ G.a6.view.loc (tv d L) ↦[chunkSet G.a6.view (base X (tile L) + n)]{fullShare} g : sProp 𝕄)) :=
  bigSep_mono fun n hn => outs_other d L G Tb X Y m n (Finset.mem_erase.1 hn).1

variable (q₁ q₂ q₃ : PosShare TreeShare) (Tb : S10000x128.Idx → F .f32) (X Y : S320000.Idx → BitVec 32) (l : S10240128.Idx → BitVec 32)
  (O : CellTallies nD τ sig (HIx 7)) (Wt : Waits sig (HIx 7)) (hl : ∀ s, s < 8 → SegOK X Y (tile L) s l)
  (hX : ∀ i, (X i).toNat < 10000) (hY : ∀ i, (Y i).toNat < 10000)

include hl hX hY in
theorem step4 (v3 : IVec S16 32) (h3 : Lanes16 v3) (k3 : Fin k2_t3_loop.trips) (hw1 : k2_chk1 L k3 (BitVec.ofNat 32 (len X (tile L) k3.val)))
    (v41 : BitVec 32) (k4 : Fin (k2_t4_loop (BitVec.ofNat 32 (len X (tile L) k3.val))).trips) (ob : BitVec 32) :
    inv4 d L G q₁ q₂ q₃ Tb X Y l O Wt (chunks X (tile L) k3.val + k4.val) ob
      ⊢ wp frame (wpE (defs₀ (F := F)) 𝒱₀ (tv d L) none) Set.univ (gT4 L G (lo (tile L)) v3 k3 (BitVec.ofNat 32 (len X (tile L) k3.val)) hw1 v41 k4 ob)
          fun ob' => inv4 d L G q₁ q₂ q₃ Tb X Y l O Wt (chunks X (tile L) k3.val + k4.val + 1) ob' := by
  have hk3 : k3.val < 8 := Nat.lt_of_lt_of_le k3.isLt k2_t3_abs.2.1
  have ht := tile_lt L
  have hlen := len_le X (tile L) k3.val
  have hk4 := k4.isLt.trans_eq (t4_trips _ hlen)
  have h4 : 128 * k4.val < len X (tile L) k3.val := by omega
  have hm : chunks X (tile L) k3.val + k4.val < chunks X (tile L) 8 := by
    have h1 := chunks_succ X (tile L) k3.val
    have h2 := chunks_mono X (tile L) (show k3.val + 1 ≤ 8 by omega)
    omega
  have hb := chunk_lt X (tile L) _ ht hm
  unfold inv4 outs
  rw [SparseCore.bigSep_erase' (Finset.mem_range.2 hm), SparseCore.bigSep_erase' (Finset.mem_range.2 hm)]
  iintro ⟨%hob, HW, ⟨%g, -, Hg⟩, Hr⟩
  subst hob
  ihave Hp := (trip4 d L G q₁ q₂ q₃ Tb l O Wt (len X (tile L) k3.val) hlen (wordsOf l (tile L) k3.val k4.val) v3 h3 k3 hw1 v41 k4 h4
    (base X (tile L) + (chunks X (tile L) k3.val + k4.val)) (by omega) (fun p _ z hz => wordAt_eq l _ z hz)
    (fun p hp => (rows_lt X Y (tile L) k3.val ht hk3 l (hl _ hk3) k4.val hX hY p hp).1)
    (fun p hp => (rows_lt X Y (tile L) k3.val ht hk3 l (hl _ hk3) k4.val hX hY p hp).2)) $$ [HW Hg]
  · isplitl [HW]; · iexact HW
    iexists g; iexact Hg
  iapply (wp_wand _ _ _) $$ Hp
  iintro %ob' ⟨%hob, HW, %g', %hg', Hg⟩
  isplitr
  · ipureintro
    exact hob
  isplitl [HW]; · iexact HW
  isplitl [Hg]
  · iexists g'; isplitr
    · ipureintro
      exact fun _ => rowsOK_of_chunk Tb X Y (tile L) k3.val ht hk3 l (hl _ hk3) k4.val hX hY h4 _ hg'
    · iexact Hg
  · iapply (rest_step d L G Tb X Y _)
    iexact Hr

/-- The tile's lengths. -/
def LensOK (X : S320000.Idx → BitVec 32) (t : ℕ) (f : S128.Idx → BitVec 32) : Prop := ∀ y, f y = BitVec.ofNat 32 (len X t ((y 0).val / 16))

/-- Before list `k`. -/
def inv3 (k : ℕ) (ob : BitVec 32) : sProp 𝕄 :=
  iprop(inv4 d L G q₁ q₂ q₃ Tb X Y l O Wt (chunks X (tile L) k) ob ∗ Has d L G.a13 (LensOK X (tile L)))

include hl hX hY in
theorem step4' (v3 : IVec S16 32) (h3 : Lanes16 v3) (k3 : Fin k2_t3_loop.trips) (v : BitVec 32) (hv : v = BitVec.ofNat 32 (len X (tile L) k3.val)) (hw1 : k2_chk1 L k3 v)
    (v41 : BitVec 32) (k4 : Fin (k2_t4_loop v).trips) (ob : BitVec 32) :
    inv4 d L G q₁ q₂ q₃ Tb X Y l O Wt (chunks X (tile L) k3.val + k4.val) ob
      ⊢ wp frame (wpE (defs₀ (F := F)) 𝒱₀ (tv d L) none) Set.univ (gT4 L G (lo (tile L)) v3 k3 v hw1 v41 k4 ob)
          fun ob' => inv4 d L G q₁ q₂ q₃ Tb X Y l O Wt (chunks X (tile L) k3.val + k4.val + 1) ob' := by
  subst hv
  exact step4 d L G q₁ q₂ q₃ Tb X Y l O Wt hl hX hY v3 h3 k3 hw1 v41 k4 ob

include hl hX hY in
theorem trip3 (v1 v2 : BitVec 32) (hv2 : v2 = lo (tile L)) (v3 : IVec S16 32) (h3 : Lanes16 v3) (k3 : Fin k2_t3_loop.trips) (ob : BitVec 32) :
    inv3 d L G q₁ q₂ q₃ Tb X Y l O Wt k3.val ob
      ⊢ wp frame (wpE (defs₀ (F := F)) 𝒱₀ (tv d L) none) Set.univ (gT3 L G v1 v2 v3 k3 ob)
          fun ob' => inv3 d L G q₁ q₂ q₃ Tb X Y l O Wt (k3.val + 1) ob' := by
  subst hv2
  have hk3 : k3.val < 8 := Nat.lt_of_lt_of_le k3.isLt k2_t3_abs.2.1
  have hlen := len_le X (tile L) k3.val
  unfold inv3
  iintro ⟨HI, %f, %hf, H⟩
  have hv : extractAt ![0] (k2_pay3 (View.readAt (Elt F) G.a13.view (Rect.unit (s := S128) (k2_off4 k3) S16.size (k2_off4_inb k3)).toLoadRect f)) inpos_S1_p0
      = BitVec.ofNat 32 (len X (tile L) k3.val) := by
    rw [pay3_at]
    refine (hf ((Rect.unit (s := S128) (k2_off4 k3) S16.size (k2_off4_inb k3)).toLoadRect.idx (ix1 (0 : Fin 16)))).trans ?_
    have e : ((Rect.unit (s := S128) (k2_off4 k3) S16.size (k2_off4_inb k3)).toLoadRect.idx (ix1 (0 : Fin 16)) 0).val = 16 * k3.val := by
      show k2_off4 k3 0 + 1 * 0 = _
      rw [k2_off4_eq]; rfl
    rw [e, show 16 * k3.val / 16 = k3.val by omega]
  have hw1 := chk_list L k3 (len X (tile L) k3.val) hlen
  have ht4 := t4_trips _ hlen
  have ht7 := t7_trips _ hlen
  rw [← hv] at hw1 ht4 ht7
  unfold gT3 k2_t3_body
  sl_exec
  sl_for (fun k ob => inv4 d L G q₁ q₂ q₃ Tb X Y l O Wt (chunks X (tile L) k3.val + k) ob) $$ [HI]
  case region =>
    intro k4 ob'
    exact step4' d L G q₁ q₂ q₃ Tb X Y l O Wt hl hX hY v3 h3 k3 _ hv hw1 _ k4 ob'
  · iexact HI
  iintro %ob1 HI
  sl_for (fun _ ob => inv4 d L G q₁ q₂ q₃ Tb X Y l O Wt (chunks X (tile L) (k3.val + 1)) ob) $$ [HI H]
  case region =>
    intro k7 ob'
    exact absurd (k7.isLt.trans_eq ht7) (by omega)
  · have e := (chunks_succ X (tile L) k3.val).trans (congrArg (chunks X (tile L) k3.val + ·) ht4.symm)
    rw [e]
    isplitl [HI]; · iexact HI
    iintro %ob2 HI
    isplitl [HI]; · iexact HI
    iexists f; isplitr
    · ipureintro; exact hf
    · iexact H

/-! ## The whole tile -/

abbrev gK := cc2__gather_kernel (F := F) L G.a2 G.h2 G.a3 G.h3 G.a4 G.h4 G.a5 G.h5 G.a6 G.h6 G.a7 G.h7 G.a8 G.h8 G.a9 G.h9 G.a10 G.h10 G.a11 G.h11 G.a12 G.h12 G.a13 G.h13 G.a14 G.h14 G.a15 G.a16 G.r0 G.r1 G.r2 G.r3 G.r4 G.r5

theorem lanes_iota : Lanes16 (iota .scVector S16 32 [0] iota_S16_d0_w32_scVector) := fun x => by
  unfold iota
  refine congrArg (BitVec.ofNat 32) ?_
  show 0 * 16 + (x 0).val = (x 0).val
  omega

theorem t1_trips : ∀ i : grid2.Coords, (k2_t1_loop i).trips = tile i := by decide +kernel

/-- What a tile works with: the table, the lists, their lengths and totals, its buffers, its semaphores and its chunks. -/
def TileWork (q₄ q₅ : PosShare TreeShare) (m : ℕ) : sProp 𝕄 :=
  iprop(Work d L G q₁ q₂ q₃ Tb l O Wt ∗ outs d L G Tb X Y m
    ∗ (∃ f, ⌜G.a4.view.read (Elt F) f = lens X⌝ ∗ G.a4.view.loc (tv d L) ↦[G.a4.view.set]{q₄} f) ∗ (∃ f, ⌜G.a5.view.read (Elt F) f = totals X⌝ ∗ G.a5.view.loc (tv d L) ↦[G.a5.view.set]{q₅} f)
    ∗ Has d L G.a13 (fun _ => True) ∗ Has d L G.a14 (fun _ => True) ∗ semVal (tv d L, .dma G.r0.sem) 0 ∗ semVal (tv d L, .dma G.r1.sem) 0)

/-- The lengths a tile copies are its own. -/
theorem lens_read (m4 : Memref sig .scVector .hbm S4096 .i32) (X : S320000.Idx → BitVec 32) (f : m4.view.ty.Contents (Elt F)) (hf : m4.view.read (Elt F) f = lens X) :
    LensOK X (tile L) ((m4.slice (Rect.unit (s := S4096) (k2_off1 L) S128.size (k2_off1_inb L)) (fun _ => rfl)).view.read (Elt F) f) := by
  intro y
  have hy : (y 0).val < 128 := (y 0).isLt
  refine (congrFun hf ((Rect.unit (s := S4096) (k2_off1 L) S128.size (k2_off1_inb L)).emb y)).trans ?_
  have e : ((Rect.unit (s := S4096) (k2_off1 L) S128.size (k2_off1_inb L)).emb y 0).val = 128 * tile L + (y 0).val := by
    show k2_off1 L 0 + 1 * (y 0).val = _
    rw [k2_off1_eq]
    show 256 * (L 1).val + 128 * (L 0).val + 1 * (y 0).val = 128 * (2 * (L 1).val + (L 0).val) + (y 0).val
    omega
  unfold lens
  rw [e, show (128 * tile L + (y 0).val) / 128 = tile L by omega, show (128 * tile L + (y 0).val) % 128 / 16 = (y 0).val / 16 by omega]

include hl hX hY in
theorem gather_body (q₄ q₅ : PosShare TreeShare) :
    TileWork d L G q₁ q₂ q₃ Tb X Y l O Wt q₄ q₅ 0
      ⊢ wp frame (wpE (defs₀ (F := F)) 𝒱₀ (tv d L) none) Set.univ (gK L G) fun _ => TileWork d L G q₁ q₂ q₃ Tb X Y l O Wt q₄ q₅ (chunks X (tile L) 8) := by
  unfold TileWork Work
  iintro ⟨⟨Hmw, HT, HU, Hl, H7, H8, H9, H10, H11, H12, S15, S16, S2, S3, %W', %hW', HO⟩, Ho, ⟨%f4, %h4, H4⟩, ⟨%f5, %h5, H5⟩, ⟨%f13, -, H13⟩, ⟨%f14, -, H14⟩, S0, S1⟩
  unfold gK
  rw [cc2__gather_kernel_eq_skeleton]
  unfold cc2__gather_kernel_skel
  sl_exec (disch := exact View.amount_pos _ _ (by decide))
  sl_for (inv1 d L G X) $$ [H14]
  case region =>
    intro k u
    exact trip1 d L G X k u
  · unfold inv1
    isplitr
    · ipureintro; rfl
    iexists _; isplitr; swap; · iexact H14
    ipureintro
    exact (read_whole _ _ _).trans h5
  iintro %u HI
  unfold inv1
  icases HI with ⟨%hu, ⟨%f14', -, H14⟩⟩
  rw [show Scf.trips (k2_t1_loop L).lb (k2_t1_loop L).ub (k2_t1_loop L).st = tile L from t1_trips L] at hu
  sl_for (fun _ u => iprop(⌜u = BitVec.ofNat 32 (base X (tile L))⌝)) $$ []
  case region =>
    intro k u
    exact absurd k.isLt (Nat.not_lt.2 (Nat.le_trans (k2_t2_abs L).2.1 (Nat.zero_le _)))
  · ipureintro; exact hu
  iintro %u2 %hu2
  sl_for (inv3 d L G q₁ q₂ q₃ Tb X Y l O Wt) $$ [Hmw HT HU Hl H7 H8 H9 H10 H11 H12 S15 S16 S2 S3 HO Ho H13]
  case region =>
    intro k3 ob
    exact trip3 d L G q₁ q₂ q₃ Tb X Y l O Wt hl hX hY _ _ (lo_eq L) _ lanes_iota k3 ob
  · unfold inv3 inv4 Work
    isplitr [H13]
    · isplitr
      · ipureintro
        exact hu2
      isplitr [Ho]
      · isplitl [Hmw]; · iexact Hmw
        isplitl [HT]; · iexact HT
        isplitl [HU]; · iexact HU
        isplitl [Hl]; · iexact Hl
        isplitl [H7]; · iexact H7
        isplitl [H8]; · iexact H8
        isplitl [H9]; · iexact H9
        isplitl [H10]; · iexact H10
        isplitl [H11]; · iexact H11
        isplitl [H12]; · iexact H12
        isplitl [S15]; · iexact S15
        isplitl [S16]; · iexact S16
        isplitl [S2]; · iexact S2
        isplitl [S3]; · iexact S3
        iexists _; isplitr; swap; · iexact HO
        ipureintro
        intro p hp
        simp only [Finset.mem_insert] at hp
        rcases hp with rfl | rfl | hp
        · exact .inr rfl
        · exact .inr rfl
        · exact hW' p hp
      · iexact Ho
    · iexists _; isplitr; swap; · iexact H13
      ipureintro
      exact (read_whole (F := F) G.a13.view _ _).symm ▸ lens_read L G.a4 X f4 h4
  iintro %ob HI
  unfold inv3 inv4
  icases HI with ⟨⟨-, HW, Ho⟩, %f, -, H13⟩
  sl_exec
  sl_step
  unfold Work
  isplitl [HW]; · iexact HW
  isplitl [Ho]; · iexact Ho
  isplitl [H4]; · iexists f4; isplitr; · ipureintro; exact h4
                  iexact H4
  isplitl [H5]; · iexists f5; isplitr; · ipureintro; exact h5
                  iexact H5
  isplitl [H13]; · iexists f; isplitr; · ipureintro; trivial
                   iexact H13
  isplitl [H14]; · iexists f14'; isplitr; · ipureintro; trivial
                   iexact H14
  isplitl [S0]; · iexact S0
  iexact S1

end Cert.Proof.Bin

end
-- ==== Proof.Scat.lean ====
/-
  The maximum's tile: its arguments, the zeroing of its accumulator, and one edge.
-/
module

public import proofs.«01_k».proof.Proof.Rows

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

/-- A maximum's arguments: the messages, the lists, their lengths, the totals of chunks, the nodes' results; the tile's buffers (the
    accumulator, the list's words, the messages of a chunk, the lengths, the totals) and its semaphores. -/
structure SM where
  b2 : Memref sig .scVector .hbm S176640x128 .f32
  h2 : b2.IsWhole
  b3 : Memref sig .scVector .hbm S10240128 .i32
  h3 : b3.IsWhole
  b4 : Memref sig .scVector .hbm S4096 .i32
  h4 : b4.IsWhole
  b5 : Memref sig .scVector .hbm S512 .i32
  h5 : b5.IsWhole
  b6 : Memref sig .scVector .hbm S5120x128 .f32
  h6 : b6.IsWhole
  b7 : Memref sig .scVector .vmem S160x128 .f32
  h7 : b7.IsWhole
  b8 : Memref sig .scVector .vmem S144 .i32
  h8 : b8.IsWhole
  b9 : Memref sig .scVector .vmem S64x128 .f32
  h9 : b9.IsWhole
  b10 : Memref sig .scVector .vmem S128 .i32
  h10 : b10.IsWhole
  b11 : Memref sig .scVector .vmem S512 .i32
  h11 : b11.IsWhole
  (r0 r1 r2 r3 r4 r5 r6 : DmaSems sig S_)

variable [FloatOps F] (d : Dev nD) (L : grid4.Coords) (G : SM)

abbrev sT1 := k4_t1_body (F := F) L G.b2 G.h2 G.b3 G.h3 G.b4 G.h4 G.b5 G.h5 G.b6 G.h6 G.b7 G.h7 G.b8 G.h8 G.b9 G.h9 G.b10 G.h10 G.b11 G.h11 G.r0 G.r1 G.r2 G.r3 G.r4 G.r5 G.r6
abbrev sT3 := k4_t3_body (F := F) L G.b2 G.h2 G.b3 G.h3 G.b4 G.h4 G.b5 G.h5 G.b6 G.h6 G.b7 G.h7 G.b8 G.h8 G.b9 G.h9 G.b10 G.h10 G.b11 G.h11 G.r0 G.r1 G.r2 G.r3 G.r4 G.r5 G.r6
abbrev sT4 := k4_t4_body (F := F) L G.b2 G.h2 G.b3 G.h3 G.b4 G.h4 G.b5 G.h5 G.b6 G.h6 G.b7 G.h7 G.b8 G.h8 G.b9 G.h9 G.b10 G.h10 G.b11 G.h11 G.r0 G.r1 G.r2 G.r3 G.r4 G.r5 G.r6
abbrev sT5 := k4_t5_body (F := F) L G.b2 G.h2 G.b3 G.h3 G.b4 G.h4 G.b5 G.h5 G.b6 G.h6 G.b7 G.h7 G.b8 G.h8 G.b9 G.h9 G.b10 G.h10 G.b11 G.h11 G.r0 G.r1 G.r2 G.r3 G.r4 G.r5 G.r6
abbrev sT6 := k4_t6_body (F := F) L G.b2 G.h2 G.b3 G.h3 G.b4 G.h4 G.b5 G.h5 G.b6 G.h6 G.b7 G.h7 G.b8 G.h8 G.b9 G.h9 G.b10 G.h10 G.b11 G.h11 G.r0 G.r1 G.r2 G.r3 G.r4 G.r5 G.r6
abbrev sK := cc4__scatter_kernel (F := F) L G.b2 G.h2 G.b3 G.h3 G.b4 G.h4 G.b5 G.h5 G.b6 G.h6 G.b7 G.h7 G.b8 G.h8 G.b9 G.h9 G.b10 G.h10 G.b11 G.h11 G.r0 G.r1 G.r2 G.r3 G.r4 G.r5 G.r6

/-! ## The loops and the places, as numbers -/

theorem s5_trips (n : ℕ) (hn : n ≤ 40000) : (k4_t5_loop (BitVec.ofNat 32 n)).trips = (n + 127) / 128 := t4_trips n hn
theorem s8_trips (n : ℕ) (hn : n ≤ 40000) : (k4_t8_loop (BitVec.ofNat 32 n)).trips = 0 := t7_trips n hn

/-- The words of chunk `j` of a list of `n`. -/
def inChunk (n j : ℕ) : ℕ := min 128 (n - 128 * j)

theorem s6_ub (n : ℕ) (hn : n ≤ 40000) (j : Fin (k4_t5_loop (BitVec.ofNat 32 n)).trips) : (k4_t6_loop (BitVec.ofNat 32 n) j).ub = BitVec.ofNat 32 (inChunk n j.val) := by
  have hj := j.isLt.trans_eq (s5_trips n hn)
  have e : BitVec.ofNat 32 n - Scf.iv 0#32 1#32 j.val * 128#32 = BitVec.ofNat 32 (n - 128 * j.val) := by
    rw [iv_nat, ← BitVec.ofNat_mul]
    apply BitVec.eq_of_toNat_eq
    simp only [BitVec.toNat_sub, BitVec.toNat_ofNat]
    omega
  show 0#32 + IntOp.divsi _ (IntOp.minsi 128#32 (BitVec.ofNat 32 n - Scf.iv 0#32 1#32 j.val * 128#32) - 0#32) 1#32 * 1#32 = _
  rw [divsi_1, BitVec.mul_one, BitVec.zero_add, BitVec.sub_zero, e]
  unfold IntOp.minsi inChunk
  rw [BitVec.slt, toInt_nat (n - 128 * j.val) (by omega), show (128#32).toInt = 128 from rfl]
  by_cases h : 128 < n - 128 * j.val
  · rw [if_pos (decide_eq_true (by omega)), Nat.min_eq_left (by omega)]
  · rw [if_neg (by simp; omega), Nat.min_eq_right (by omega)]

theorem s7_lb (n : ℕ) (hn : n ≤ 40000) (j : Fin (k4_t5_loop (BitVec.ofNat 32 n)).trips) : (k4_t7_loop (BitVec.ofNat 32 n) j).lb = BitVec.ofNat 32 (inChunk n j.val) := s6_ub n hn j
theorem s7_ub (n : ℕ) (hn : n ≤ 40000) (j : Fin (k4_t5_loop (BitVec.ofNat 32 n)).trips) : (k4_t7_loop (BitVec.ofNat 32 n) j).ub = BitVec.ofNat 32 (inChunk n j.val) := by
  rw [← s6_ub n hn j]
  show 0#32 + _ = 0#32 + IntOp.divsi _ _ 1#32 * 1#32
  rw [divsi_1, BitVec.mul_one]

theorem s6_trips (n : ℕ) (hn : n ≤ 40000) (j : Fin (k4_t5_loop (BitVec.ofNat 32 n)).trips) : (k4_t6_loop (BitVec.ofNat 32 n) j).trips = inChunk n j.val := by
  show Scf.trips 0#32 (k4_t6_loop (BitVec.ofNat 32 n) j).ub 1#32 = _
  rw [s6_ub n hn]
  exact trips_nat 0 _ (by omega) (by unfold inChunk; omega)
theorem s7_trips (n : ℕ) (hn : n ≤ 40000) (j : Fin (k4_t5_loop (BitVec.ofNat 32 n)).trips) : (k4_t7_loop (BitVec.ofNat 32 n) j).trips = 0 := by
  show Scf.trips (k4_t7_loop (BitVec.ofNat 32 n) j).lb (k4_t7_loop (BitVec.ofNat 32 n) j).ub 1#32 = _
  rw [s7_lb n hn, s7_ub n hn, trips_nat _ _ (by unfold inChunk; omega) (by unfold inChunk; omega)]
  omega

theorem off15_nat (v : BitVec 32) (j : Fin (k4_t5_loop v).trips) (k : Fin (k4_t6_loop v j).trips) (hk : k.val < 128) : k4_off15 v j k = ![k.val] := by
  show ![(Scf.iv 0#32 1#32 k.val).toNat] = _
  rw [iv_nat, BitVec.toNat_ofNat]
  congr 1
  omega

theorem shr_1 (n : ℕ) (hn : n < 2 ^ 32) : (BitVec.ofNat 32 n >>> (1#32)).toNat = n / 2 := by
  show (BitVec.ofNat 32 n >>> (1#32).toNat).toNat = _
  rw [BitVec.toNat_ushiftRight, BitVec.toNat_ofNat, Nat.mod_eq_of_lt hn, show (1#32).toNat = 1 from rfl, Nat.shiftRight_eq_div_pow]

theorem and_1 (n : ℕ) (hn : n < 2 ^ 32) : BitVec.ofNat 32 n &&& 1#32 = BitVec.ofNat 32 (n % 2) := by
  apply BitVec.eq_of_toNat_eq
  rw [BitVec.toNat_and, BitVec.toNat_ofNat, Nat.mod_eq_of_lt hn, show (1#32).toNat = 1 from rfl, Nat.and_one_is_mod, BitVec.toNat_ofNat]
  omega

theorem off17_nat (v : BitVec 32) (j : Fin (k4_t5_loop v).trips) (k : Fin (k4_t6_loop v j).trips) (hk : k.val < 128) (r : Fin 4) :
    k4_off17 v j k (BitVec.ofNat 32 (16 * r.val)) = ![k.val / 2, 64 * (k.val % 2) + 16 * r.val] := by
  show ![(Scf.iv 0#32 1#32 k.val >>> (1#32)).toNat, ((Scf.iv 0#32 1#32 k.val &&& 1#32) * 64#32 + BitVec.ofNat 32 (16 * r.val)).toNat] = _
  rw [iv_nat, shr_1 _ (by omega), and_1 _ (by omega), ← BitVec.ofNat_mul, ← BitVec.ofNat_add, BitVec.toNat_ofNat]
  congr 2
  omega

theorem off16_nat (w : BitVec 32) (m : ℕ) (hw : w &&& 511#32 = BitVec.ofNat 32 m) (hm : m < 320) (r : Fin 4) :
    k4_off16 w (BitVec.ofNat 32 (16 * r.val)) = ![m / 2, 64 * (m % 2) + 16 * r.val] := by
  show ![((w &&& 511#32) >>> (1#32)).toNat, (((w &&& 511#32) &&& 1#32) * 64#32 + BitVec.ofNat 32 (16 * r.val)).toNat] = _
  rw [hw, shr_1 _ (by omega), and_1 _ (by omega), ← BitVec.ofNat_mul, ← BitVec.ofNat_add, BitVec.toNat_ofNat]
  congr 2
  omega

theorem chk_word (w : BitVec 32) (m : ℕ) (hw : w &&& 511#32 = BitVec.ofNat 32 m) (hm : m < 320) : k4_chk3 w := by
  intro r a
  rw [off16_nat w m hw hm]
  match a with
  | 0 => exact (show m / 2 + 1 ≤ 160 by omega)
  | 1 => exact (show 64 * (m % 2) + 16 * r.val + 16 ≤ 128 by omega)

theorem schk_chunk (b : ℕ) (hb : b < 2760) : k4_chk2 (BitVec.ofNat 32 b) := chk_chunk b hb

theorem schk_list (i : grid4.Coords) (k : Fin k4_t4_loop.trips) (n : ℕ) (hn : n ≤ 40000) : k4_chk1 i k (BitVec.ofNat 32 n) := by
  have h := chk_list i k n hn
  have hc : ∀ j, inChunk n j ≤ 128 := fun j => Nat.min_le_left _ _
  have h6 : ∀ j : Fin (k4_t5_loop (BitVec.ofNat 32 n)).trips, (k4_t6_loop (BitVec.ofNat 32 n) j).OK := fun j => by
    show Scf.OK 0#32 (k4_t6_loop (BitVec.ofNat 32 n) j).ub 1#32
    rw [s6_ub n hn]
    exact ok_nat 0 _ (by omega) (by have := hc j.val; omega)
  have h7 : ∀ j : Fin (k4_t5_loop (BitVec.ofNat 32 n)).trips, (k4_t7_loop (BitVec.ofNat 32 n) j).OK := fun j => by
    show Scf.OK (k4_t7_loop (BitVec.ofNat 32 n) j).lb (k4_t7_loop (BitVec.ofNat 32 n) j).ub 1#32
    rw [s7_lb n hn, s7_ub n hn]
    exact ok_nat _ _ (by have := hc j.val; omega) (by have := hc j.val; omega)
  have hk : ∀ (j : Fin (k4_t5_loop (BitVec.ofNat 32 n)).trips) (k : Fin (k4_t6_loop (BitVec.ofNat 32 n) j).trips), k.val < 128 := fun j k => by
    have := k.isLt.trans_eq (s6_trips n hn j)
    have := hc j.val
    omega
  have n7 : ∀ (j : Fin (k4_t5_loop (BitVec.ofNat 32 n)).trips) (k : Fin (k4_t7_loop (BitVec.ofNat 32 n) j).trips), False := fun j k => absurd (k.isLt.trans_eq (s7_trips n hn j)) (by omega)
  have n8 : ∀ j : Fin (k4_t8_loop (BitVec.ofNat 32 n)).trips, False := fun j => absurd (j.isLt.trans_eq (s8_trips n hn)) (by omega)
  refine ⟨h.1, h.2.1, h6, fun j k a => ?_, fun j k r a => ?_, h7, fun j k => (n7 j k).elim, fun j k => (n7 j k).elim, h.2.2.1, fun j => (n8 j).elim,
    fun j => (n8 j).elim, fun j => (n8 j).elim, fun j => (n8 j).elim, fun j => (n8 j).elim, fun j => (n8 j).elim, fun j => (n8 j).elim⟩
  · have := hk j k
    rw [off15_nat _ j k (hk j k)]
    match a with
    | 0 => exact (show k.val + 16 ≤ 144 by omega)
  · have := hk j k
    rw [off17_nat _ j k (hk j k)]
    match a with
    | 0 => exact (show k.val / 2 + 1 ≤ 64 by omega)
    | 1 => exact (show 64 * (k.val % 2) + 16 * r.val + 16 ≤ 128 by omega)

/-! ## The accumulator -/

/-- The accumulator with node `m`'s element of every column taken with `v`'s, in the columns below `c`. -/
def upd (A : S160x128.Idx → F .f32) (m c : ℕ) (v : Fin 64 → F .f32) (y : S160x128.Idx) : F .f32 :=
  if 2 * (y 0).val + (y 1).val / 64 = m ∧ (y 1).val % 64 < c then FloatOps.maximumf (A y) (v ⟨(y 1).val % 64, Nat.mod_lt _ (by decide)⟩) else A y

/-- Sixteen more columns. -/
theorem upd_step (f : G.b7.view.ty.Contents (Elt F)) (Ls : List (View.Piece (Elt F) S160x128 .f32)) (A : S160x128.Idx → F .f32) (m q : ℕ) (hm : m < 320) (hq : q < 4) (v : Fin 64 → F .f32)
    (hf : G.b7.view.read (Elt F) (G.b7.view.writes (Elt F) f Ls) = upd A m (16 * q) v)
    {o : Fin 2 → ℕ} (io : ∀ a, o a + S1x16.size a ≤ S160x128.size a) (ho : o = ![m / 2, 64 * (m % 2) + 16 * q]) (lA lB : S1x16.Idx → F .f32)
    (eA : ∀ x, lA x = G.b7.view.read (Elt F) (G.b7.view.writes (Elt F) f Ls) ((Rect.unit (s := S160x128) o S1x16.size io).emb x))
    (eB : ∀ x, lB x = v ⟨(16 * q + (x 1).val) % 64, Nat.mod_lt _ (by decide)⟩) :
    G.b7.view.read (Elt F) (G.b7.view.writes (Elt F) f (⟨Rect.unit (s := S160x128) o S1x16.size io,
      shapeCast S1x16 (maximumf (shapeCast S16 lA shapeCasts_S1x16_S16) (shapeCast S16 lB shapeCasts_S1x16_S16)) shapeCasts_S16_S1x16⟩ :: Ls)) = upd A m (16 * (q + 1)) v := by
  subst ho
  funext y
  have hy0 : (y 0).val < 160 := (y 0).isLt
  have hy1 : (y 1).val < 128 := (y 1).isLt
  by_cases h0 : (y 0).val = m / 2
  · by_cases h1 : 64 * (m % 2) + 16 * q ≤ (y 1).val ∧ (y 1).val < 64 * (m % 2) + 16 * q + 16
    · let x : S1x16.Idx := ix2 (0 : Fin 1) (⟨(y 1).val - (64 * (m % 2) + 16 * q), by omega⟩ : Fin 16)
      have hx : (Rect.unit (s := S160x128) ![m / 2, 64 * (m % 2) + 16 * q] S1x16.size io).emb x = y := by
        funext a
        match a with
        | 0 => exact Fin.ext (show m / 2 + 1 * 0 = (y 0).val by omega)
        | 1 => exact Fin.ext (show 64 * (m % 2) + 16 * q + 1 * ((y 1).val - (64 * (m % 2) + 16 * q)) = (y 1).val by omega)
      refine (View.read_writes_cons_hit_of_coords (Val := Elt F) G.b7.view f (Rect.unit (s := S160x128) ![m / 2, 64 * (m % 2) + 16 * q] S1x16.size io) _ Ls x y fun a =>
        (congrArg Fin.val (congrFun hx a)).symm).trans ?_
      rw [shapeCast_apply _ shapeCasts_S16_S1x16 x (ix1 (x 1)) (by
        rw [Shape.rowMajor_val_two, Shape.rowMajor_val_one]
        show (x 1).val = 0 * 16 + (x 1).val
        omega)]
      unfold maximumf
      rw [shapeCast_apply lA shapeCasts_S1x16_S16 (ix1 (x 1)) x (by
        rw [Shape.rowMajor_val_two, Shape.rowMajor_val_one]
        show 0 * 16 + (x 1).val = (x 1).val
        omega), shapeCast_apply lB shapeCasts_S1x16_S16 (ix1 (x 1)) x (by
        rw [Shape.rowMajor_val_two, Shape.rowMajor_val_one]
        show 0 * 16 + (x 1).val = (x 1).val
        omega), eA, eB, hx, hf]
      unfold upd
      rw [if_neg (by omega), if_pos (by omega)]
      refine congrArg (FloatOps.maximumf (A y)) (congrArg v (Fin.ext ?_))
      show (16 * q + ((y 1).val - (64 * (m % 2) + 16 * q))) % 64 = (y 1).val % 64
      omega
    · refine (View.read_writes_cons_miss_of_axis G.b7.view f _ Ls y 1 (64 * (m % 2) + 16 * q) 16 rfl rfl rfl (by omega)).trans ?_
      rw [hf]
      unfold upd
      refine if_congr ?_ rfl rfl
      omega
  · refine (View.read_writes_cons_miss_of_axis G.b7.view f _ Ls y 0 (m / 2) 1 rfl rfl rfl (by omega)).trans ?_
    rw [hf]
    unfold upd
    rw [if_neg (by omega), if_neg (by omega)]

/-- Before edge `k` of a chunk: the accumulator, the chunk's words, the chunk's messages. -/
def sinv6 (Ak : ℕ → S160x128.Idx → F .f32) (W : ℕ → BitVec 32) (R : S64x128.Idx → F .f32) (k : ℕ) (_ : Unit) : sProp 𝕄 :=
  iprop(Has d L G.b7 (· = Ak k) ∗ Has d L G.b8 (fun f => ∀ y : S144.Idx, (y 0).val < 128 → f y = W (y 0).val) ∗ Has d L G.b9 (· = R))

theorem strip6 (n : ℕ) (hn : n ≤ 40000) (Ak : ℕ → S160x128.Idx → F .f32) (W : ℕ → BitVec 32) (R : S64x128.Idx → F .f32) (k4 : Fin k4_t4_loop.trips)
    (hw1 : k4_chk1 L k4 (BitVec.ofNat 32 n)) (j : Fin (k4_t5_loop (BitVec.ofNat 32 n)).trips) (k : Fin (k4_t6_loop (BitVec.ofNat 32 n) j).trips) (u : Unit)
    (m : ℕ) (hm : m < 320) (hW : W k.val &&& 511#32 = BitVec.ofNat 32 m) (v : Fin 64 → F .f32)
    (hv : ∀ (c : Fin 64) (z : S64x128.Idx), (z 0).val = k.val / 2 → (z 1).val = 64 * (k.val % 2) + c.val → R z = v c) (hA : Ak (k.val + 1) = upd (Ak k.val) m 64 v) :
    sinv6 d L G Ak W R k.val u
      ⊢ wp frame (wpE (defs₀ (F := F)) 𝒱₀ (tv d L) none) Set.univ (sT6 L G k4 (BitVec.ofNat 32 n) hw1 j k u)
          fun u' => sinv6 d L G Ak W R (k.val + 1) u' := by
  have hk : k.val < 128 := (k.isLt.trans_eq (s6_trips n hn j)).trans_le (Nat.min_le_left _ _)
  unfold sinv6
  iintro ⟨⟨%f, %hf, Hf⟩, ⟨%f8, %h8, H8⟩, %f9, %h9, H9⟩
  have hv66 : extractAt ![0] (k4_pay20 (View.readAt (Elt F) G.b8.view (Rect.unit (s := S144) (k4_off15 (BitVec.ofNat 32 n) j k) S16.size (k4_off15_inb L k4 _ hw1 j k)).toLoadRect f8)) inpos_S1_p0 = W k.val := by
    refine (pay1_at (F := F) _).trans ?_
    have ho := congrFun (off15_nat (BitVec.ofNat 32 n) j k hk) 0
    have e : ((Rect.unit (s := S144) (k4_off15 (BitVec.ofNat 32 n) j k) S16.size (k4_off15_inb L k4 _ hw1 j k)).toLoadRect.idx (ix1 (0 : Fin 16)) 0).val = k.val := by
      show k4_off15 (BitVec.ofNat 32 n) j k 0 + 1 * 0 = _
      rw [ho]; rfl
    have := h8 ((Rect.unit (s := S144) (k4_off15 (BitVec.ofNat 32 n) j k) S16.size (k4_off15_inb L k4 _ hw1 j k)).toLoadRect.idx (ix1 (0 : Fin 16))) (by omega)
    rw [e] at this
    exact this
  have hw3 := chk_word (W k.val) m hW hm
  rw [← hv66] at hw3
  unfold sT6 k4_t6_body
  rw [k4_part1_eq_skeleton]
  unfold k4_part1_skel
  sl_exec
  sl_step
  have hB : ∀ (r : Fin 4) (x : S1x16.Idx), View.readAt (Elt F) G.b9.view (Rect.unit (s := S64x128) (k4_off17 (BitVec.ofNat 32 n) j k (BitVec.ofNat 32 (16 * r.val))) S1x16.size
      (k4_off17_inb L k4 _ hw1 j k r)).toLoadRect f9 x = v ⟨(16 * r.val + (x 1).val) % 64, Nat.mod_lt _ (by decide)⟩ := by
    intro r x
    have hx0 : (x 0).val < 1 := (x 0).isLt
    have hx1 : (x 1).val < 16 := (x 1).isLt
    have ho := off17_nat (BitVec.ofNat 32 n) j k hk r
    refine (congrFun h9 _).trans (hv _ _ ?_ ?_)
    · have ho := congrFun ho 0
      show k4_off17 (BitVec.ofNat 32 n) j k (BitVec.ofNat 32 (16 * r.val)) 0 + 1 * (x 0).val = _
      rw [ho]
      show k.val / 2 + 1 * (x 0).val = _
      omega
    · have ho := congrFun ho 1
      show k4_off17 (BitVec.ofNat 32 n) j k (BitVec.ofNat 32 (16 * r.val)) 1 + 1 * (x 1).val = 64 * (k.val % 2) + (16 * r.val + (x 1).val) % 64
      rw [ho]
      show 64 * (k.val % 2) + 16 * r.val + 1 * (x 1).val = _
      omega
  have hO : ∀ r : Fin 4, k4_off16 (strip6.sl.v66 L G n k4 hw1 j k f8) (BitVec.ofNat 32 (16 * r.val)) = ![m / 2, 64 * (m % 2) + 16 * r.val] := fun r =>
    (congrArg (k4_off16 · (BitVec.ofNat 32 (16 * r.val))) hv66).trans (off16_nat _ m hW hm r)
  have e0 : G.b7.view.read (Elt F) (G.b7.view.writes (Elt F) f []) = upd (Ak k.val) m (16 * 0) v := by
    rw [← hf]
    funext y
    unfold upd
    rw [if_neg (by omega)]
    rfl
  isplitl [Hf]
  · iexists _; isplitr; swap; · iexact Hf
    ipureintro
    rw [hA]
    exact upd_step G f _ _ m 3 hm (by decide) v (upd_step G f _ _ m 2 hm (by decide) v (upd_step G f _ _ m 1 hm (by decide) v (upd_step G f _ _ m 0 hm (by decide) v e0
      _ (hO 0) _ _ (fun _ => rfl) (hB 0)) _ (hO 1) _ _ (fun _ => rfl) (hB 1)) _ (hO 2) _ _ (fun _ => rfl) (hB 2)) _ (hO 3) _ _ (fun _ => rfl) (hB 3)
  isplitl [H8]
  · iexists f8; isplitr; · ipureintro; exact h8
    iexact H8
  · iexists f9; isplitr; · ipureintro; exact h9
    iexact H9

end Cert.Proof.Bin

end
-- ==== Proof.ScatTile.lean ====
/-
  The maximum's tile: its chunks, its lists, and the whole of it.
-/
module

public import proofs.«01_k».proof.Proof.Scat
public import proofs.«01_k».proof.Proof.GatherTile

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

variable [FloatOps F] (d : Dev nD) (L : grid4.Coords) (G : SM)

/-! ## The accumulator along the lists -/

/-- The message of list position `p`, the list's chunks from `b` on. -/
def rowOf (M : S176640x128.Idx → F .f32) (b p : ℕ) (c : Fin 64) : F .f32 :=
  M (ix2 (⟨(64 * (b + p / 128) + p % 128 / 2) % 176640, Nat.mod_lt _ (by decide)⟩ : Fin 176640) (⟨64 * (p % 2) + c.val, by omega⟩ : Fin 128))

/-- The accumulator after the first `p` words of a list. -/
def listAcc (A : S160x128.Idx → F .f32) (M : S176640x128.Idx → F .f32) (l : S10240128.Idx → BitVec 32) (t s b : ℕ) : ℕ → S160x128.Idx → F .f32
  | 0 => A
  | p + 1 => upd (listAcc A M l t s b p) (wordAt l (40000 * (8 * t + s) + p) &&& 511#32).toNat 64 (rowOf M b p)

/-- The accumulator after the tile's first `s` lists. -/
def tileAcc (M : S176640x128.Idx → F .f32) (l : S10240128.Idx → BitVec 32) (X : S320000.Idx → BitVec 32) (t : ℕ) : ℕ → S160x128.Idx → F .f32
  | 0 => fun _ => Scalar.ofBits .f32 0x00000000#32
  | s + 1 => listAcc (tileAcc M l X t s) M l t s (base X t + chunks X t s) (len X t s)

/-! ## The zeroing -/

def sinv3 (k : ℕ) (_ : Unit) : sProp 𝕄 :=
  Has d L G.b7 fun f => ∀ y : S160x128.Idx, (y 0).val < k → f y = Scalar.ofBits .f32 0x00000000#32

theorem strip3 (k : Fin k4_t3_loop.trips) (u : Unit) :
    sinv3 d L G k.val u
      ⊢ wp frame (wpE (defs₀ (F := F)) 𝒱₀ (tv d L) none) Set.univ (sT3 L G k u) fun u' => sinv3 d L G (k.val + 1) u' := by
  unfold sinv3
  iintro ⟨%f, %hf, H⟩
  unfold sT3 k4_t3_body
  sl_exec
  sl_step
  iexists _; isplitr; swap; · iexact H
  ipureintro
  intro y hy
  have hk : k.val < 160 := Nat.lt_of_lt_of_le k.isLt k4_t3_abs.2.1
  have hy1 : (y 1).val < 128 := (y 1).isLt
  by_cases hlt : (y 0).val < k.val
  · rw [View.read_writes_apply_of_forall_not_mem]
    · exact hf y hlt
    · have m : ∀ {o : Fin 2 → ℕ} {io : ∀ a, o a + S1x16.size a ≤ S160x128.size a} {c : ℕ}, o = ![k.val, c] → y ∉ (Rect.unit (s := S160x128) o S1x16.size io).set := by
        intro o io c ho
        exact Rect.not_mem_set_of_axis _ y 0 k.val 1 (congrFun ho 0) rfl rfl (.inl hlt)
      simp only [List.forall_mem_cons, List.not_mem_nil, false_imp_iff, implies_true, and_true]
      exact ⟨m (k4_off11_eq k), m (k4_off10_eq k), m (k4_off9_eq k), m (k4_off8_eq k), m (k4_off7_eq k), m (k4_off6_eq k), m (k4_off5_eq k), m (k4_off4_eq k)⟩
  · have hy0 : (y 0).val = k.val := by omega
    refine View.read_writes_apply_of_pieces (Val := Elt F) G.b7.view f (fun _ => Scalar.ofBits .f32 0x00000000#32) _ ?_ y ?_
    · simp only [List.forall_mem_cons, List.not_mem_nil, false_imp_iff, implies_true, and_true]
      exact ⟨fun _ => rfl, fun _ => rfl, fun _ => rfl, fun _ => rfl, fun _ => rfl, fun _ => rfl, fun _ => rfl, fun _ => rfl⟩
    · have m : ∀ {o : Fin 2 → ℕ} {io : ∀ a, o a + S1x16.size a ≤ S160x128.size a} {c : ℕ}, o = ![k.val, c] → c ≤ (y 1).val → (y 1).val < c + 16 →
          y ∈ (Rect.unit (s := S160x128) o S1x16.size io).set := by
        intro o io c ho h1 h2
        subst ho
        rw [Rect.mem_set_unit]
        intro a
        match a with
        | 0 => exact (show k.val ≤ (y 0).val ∧ (y 0).val < k.val + 1 by omega)
        | 1 => exact ⟨h1, h2⟩
      simp only [List.exists_mem_cons_iff, List.not_mem_nil, false_and, exists_false, or_false]
      rcases (by omega : (y 1).val / 16 = 7 ∨ (y 1).val / 16 = 6 ∨ (y 1).val / 16 = 5 ∨ (y 1).val / 16 = 4 ∨ (y 1).val / 16 = 3 ∨ (y 1).val / 16 = 2
          ∨ (y 1).val / 16 = 1 ∨ (y 1).val / 16 = 0) with h | h | h | h | h | h | h | h
      · exact .inl (m (k4_off11_eq k) (by omega) (by omega))
      · exact .inr (.inl (m (k4_off10_eq k) (by omega) (by omega)))
      · exact .inr (.inr (.inl (m (k4_off9_eq k) (by omega) (by omega))))
      · exact .inr (.inr (.inr (.inl (m (k4_off8_eq k) (by omega) (by omega)))))
      · exact .inr (.inr (.inr (.inr (.inl (m (k4_off7_eq k) (by omega) (by omega))))))
      · exact .inr (.inr (.inr (.inr (.inr (.inl (m (k4_off6_eq k) (by omega) (by omega)))))))
      · exact .inr (.inr (.inr (.inr (.inr (.inr (.inl (m (k4_off5_eq k) (by omega) (by omega))))))))
      · exact .inr (.inr (.inr (.inr (.inr (.inr (.inr (m (k4_off4_eq k) (by omega) (by omega))))))))

/-! ## One chunk -/

/-- What a chunk's copies and loops work with. -/
def SWork (q₁ q₃ : PosShare TreeShare) (M : S176640x128.Idx → F .f32) (l : S10240128.Idx → BitVec 32) (O : CellTallies nD τ sig (HIx 7)) (Wt : Waits sig (HIx 7)) : sProp 𝕄 :=
  iprop(Transfers.MayWaits (tv d L) (default : HIx 7) O
    ∗ (∃ f, ⌜G.b2.view.read (Elt F) f = M⌝ ∗ G.b2.view.loc (tv d L) ↦[G.b2.view.set]{q₁} f)
    ∗ (∃ f, ⌜G.b3.view.read (Elt F) f = l⌝ ∗ G.b3.view.loc (tv d L) ↦[G.b3.view.set]{q₃} f)
    ∗ Has d L G.b8 (fun _ => True) ∗ Has d L G.b9 (fun _ => True) ∗ semVal (tv d L, .dma G.r2.sem) 0 ∗ semVal (tv d L, .dma G.r3.sem) 0
    ∗ ∃ W', ⌜∀ p ∈ W', p ∈ Wt ∨ p.2 = none⌝ ∗ owes (tv d L) O W')

variable (q₁ q₃ : PosShare TreeShare) (M : S176640x128.Idx → F .f32) (X Y : S320000.Idx → BitVec 32) (l : S10240128.Idx → BitVec 32)
  (O : CellTallies nD τ sig (HIx 7)) (Wt : Waits sig (HIx 7)) (hl : ∀ s, s < 8 → SegOK X Y (tile L) s l) (hY : ∀ i, (Y i).toNat < 10000)

/-- Chunk `b` of the messages. -/
def chunkRows (b : ℕ) (y : S64x128.Idx) : F .f32 :=
  have h1 : (y 1).val < 128 := (y 1).isLt
  M (ix2 (⟨(64 * b + (y 0).val) % 176640, Nat.mod_lt _ (by decide)⟩ : Fin 176640) (⟨(y 1).val, h1⟩ : Fin 128))

omit [FloatOps F] in
theorem msgs_read (b : ℕ) (hb : b < 2760) (h : ∀ a, k4_off14 (BitVec.ofNat 32 b) a + S64x128.size a ≤ S176640x128.size a) (f : G.b2.view.ty.Contents (Elt F)) (hf : G.b2.view.read (Elt F) f = M) :
    (G.b2.slice (Rect.unit (s := S176640x128) (k4_off14 (BitVec.ofNat 32 b)) S64x128.size h) (fun _ => rfl)).view.read (Elt F) f = chunkRows M b := by
  subst hf
  funext y
  have hy0 : (y 0).val < 64 := (y 0).isLt
  have ho : k4_off14 (BitVec.ofNat 32 b) = ![64 * b, 0] := off24_nat b hb
  unfold chunkRows
  refine congrArg (G.b2.view.read (Elt F) f) (funext fun a => Fin.ext ?_)
  match a with
  | 0 =>
    have ho := congrFun ho 0
    show k4_off14 (BitVec.ofNat 32 b) 0 + 1 * (y 0).val = (64 * b + (y 0).val) % 176640
    rw [ho]
    show 64 * b + 1 * (y 0).val = _
    omega
  | 1 =>
    have ho := congrFun ho 1
    show k4_off14 (BitVec.ofNat 32 b) 1 + 1 * (y 1).val = (y 1).val
    rw [ho]
    show 0 + 1 * (y 1).val = _
    omega

/-- The node of a word of a list. -/
theorem word_node (t s : ℕ) (ht : t < 32) (hs : s < 8) (h : SegOK X Y t s l) (hY : ∀ i, (Y i).toNat < 10000) (p : ℕ) (hp : p < len X t s) :
    (wordAt l (40000 * (8 * t + s) + p) &&& 511#32).toNat < 320 := by
  obtain ⟨e, he, hm, hk⟩ := exists_kept t (seg X s) 40000 p hp
  have := words_edge X Y t s ht hs l h 0 p e he hm (by omega)
  have e2 : wordsOf l t s 0 p = wordAt l (40000 * (8 * t + s) + p) := rfl
  rw [← e2, this, word_low t _ (seg Y s e) hm (hY _)]
  exact (mine_iff t _).1 hm

/-- Before chunk `j` of list `s`. -/
def sinv5 (A : S160x128.Idx → F .f32) (s : ℕ) (j : ℕ) (ob : BitVec 32) : sProp 𝕄 :=
  iprop(⌜ob = BitVec.ofNat 32 (base X (tile L) + chunks X (tile L) s + j)⌝ ∗ SWork d L G q₁ q₃ M l O Wt
    ∗ Has d L G.b7 (· = listAcc A M l (tile L) s (base X (tile L) + chunks X (tile L) s) (min (len X (tile L) s) (128 * j))))

include hl hY in
theorem strip5 (A : S160x128.Idx → F .f32) (k4 : Fin k4_t4_loop.trips) (v : BitVec 32) (hvn : v = BitVec.ofNat 32 (len X (tile L) k4.val)) (hw1 : k4_chk1 L k4 v)
    (j : Fin (k4_t5_loop v).trips) (ob : BitVec 32) :
    sinv5 d L G q₁ q₃ M X l O Wt A k4.val j.val ob
      ⊢ wp frame (wpE (defs₀ (F := F)) 𝒱₀ (tv d L) none) Set.univ (sT5 L G k4 v hw1 j ob)
          fun ob' => sinv5 d L G q₁ q₃ M X l O Wt A k4.val (j.val + 1) ob' := by
  subst hvn
  have hk4 : k4.val < 8 := Nat.lt_of_lt_of_le k4.isLt k4_t4_abs.2.1
  have ht := tile_lt L
  have hn := len_le X (tile L) k4.val
  have hj := j.isLt.trans_eq (s5_trips _ hn)
  have hm : chunks X (tile L) k4.val + j.val < chunks X (tile L) 8 := by
    have h1 := chunks_succ X (tile L) k4.val
    have h2 := chunks_mono X (tile L) (show k4.val + 1 ≤ 8 by omega)
    omega
  have hb : base X (tile L) + chunks X (tile L) k4.val + j.val < 2760 := by
    have := chunk_lt X (tile L) _ ht hm
    omega
  have hw2 := schk_chunk _ hb
  unfold sinv5 SWork
  iintro ⟨%hob, ⟨Hmw, ⟨%fM, %hM, HM⟩, ⟨%fl, %hfl, Hl⟩, ⟨%f8, -, H8⟩, ⟨%f9, -, H9⟩, S2, S3, %W', %hW', HO⟩, %f7, %h7, H7⟩
  subst hob
  unfold sT5 k4_t5_body
  sl_exec (disch := exact View.amount_pos _ _ (by decide))
  sl_for (sinv6 d L G (fun k => listAcc A M l (tile L) k4.val (base X (tile L) + chunks X (tile L) k4.val) (128 * j.val + k)) (wordsOf l (tile L) k4.val j.val)
    (chunkRows M (base X (tile L) + chunks X (tile L) k4.val + j.val))) $$ [H7 H8 H9]
  case region =>
    intro k u
    have hk := k.isLt.trans_eq (s6_trips _ hn j)
    unfold inChunk at hk
    have hp : 128 * j.val + k.val < len X (tile L) k4.val := by omega
    have hnode := word_node X Y l (tile L) k4.val ht hk4 (hl _ hk4) hY _ hp
    refine strip6 d L G (len X (tile L) k4.val) hn _ _ _ k4 hw1 j k u _ hnode ?_ (rowOf M (base X (tile L) + chunks X (tile L) k4.val) (128 * j.val + k.val)) ?_ rfl
    · rw [BitVec.ofNat_toNat, BitVec.setWidth_eq]
      unfold wordsOf
      rw [Nat.add_assoc]
    · intro c z hz0 hz1
      unfold chunkRows rowOf
      refine congrArg M (congrArg₂ ix2 (Fin.ext ?_) (Fin.ext ?_))
      · show (64 * (base X (tile L) + chunks X (tile L) k4.val + j.val) + (z 0).val) % 176640 = _
        rw [hz0]
        refine congrArg (· % 176640) ?_
        omega
      · show (z 1).val = _
        rw [hz1]
        refine congrArg (64 * · + c.val) ?_
        omega
  · unfold sinv6
    isplitl [H7]
    · iexists f7; isplitr; swap; · iexact H7
      ipureintro
      rw [h7]
      refine congrArg (listAcc A M l (tile L) k4.val _) ?_
      omega
    isplitl [H8]
    · iexists _; isplitr; swap; · iexact H8
      ipureintro
      exact fun y hy => words_read L G.b3 G.b8 _ hn k4 (chk_list L k4 _ hn) j (by omega) fl l hfl (wordsOf l (tile L) k4.val j.val) (fun p _ z hz => wordAt_eq l _ z hz) f8 y hy
    · iexists _; isplitr; swap; · iexact H9
      ipureintro
      exact (read_whole _ _ _).trans (msgs_read G M _ hb (k4_off14_inb _ hw2) fM hM)
  iintro %u HI
  unfold sinv6
  icases HI with ⟨⟨%f7', %h7', H7⟩, ⟨%f8', -, H8⟩, %f9', -, H9⟩
  rw [show Scf.trips _ _ _ = _ from s6_trips _ hn j] at h7'
  sl_for (fun _ _ => iprop(⌜True⌝)) $$ []
  case region =>
    intro k u
    exact absurd (k.isLt.trans_eq (s7_trips _ hn j)) (by omega)
  · ipureintro; trivial
  iintro %u' %_
  sl_exec
  sl_step
  isplitr
  · ipureintro
    exact (BitVec.ofNat_add _ 1).symm
  isplitr [H7]
  · isplitl [Hmw]; · iexact Hmw
    isplitl [HM]; · iexists fM; isplitr; · ipureintro; exact hM
                    iexact HM
    isplitl [Hl]; · iexists fl; isplitr; · ipureintro; exact hfl
                    iexact Hl
    isplitl [H8]; · iexists _; isplitr; swap; · iexact H8
                    ipureintro; trivial
    isplitl [H9]; · iexists _; isplitr; swap; · iexact H9
                    ipureintro; trivial
    isplitl [S2]; · iexact S2
    isplitl [S3]; · iexact S3
    iexists _; isplitr; swap; · iexact HO
    ipureintro
    intro p hp
    simp only [Finset.mem_insert] at hp
    rcases hp with rfl | rfl | hp
    · exact .inr rfl
    · exact .inr rfl
    · exact hW' p hp
  · iexists _; isplitr; swap; · iexact H7
    ipureintro
    rw [h7']
    refine congrArg (listAcc A M l (tile L) k4.val _) ?_
    unfold inChunk
    omega

/-! ## The lists, and the whole tile -/

/-- Before list `k`. -/
def sinv4 (k : ℕ) (ob : BitVec 32) : sProp 𝕄 :=
  iprop(⌜ob = BitVec.ofNat 32 (base X (tile L) + chunks X (tile L) k)⌝ ∗ SWork d L G q₁ q₃ M l O Wt
    ∗ Has d L G.b7 (· = tileAcc M l X (tile L) k) ∗ Has d L G.b10 (LensOK X (tile L)))

include hl hY in
theorem strip4 (k4 : Fin k4_t4_loop.trips) (ob : BitVec 32) :
    sinv4 d L G q₁ q₃ M X l O Wt k4.val ob
      ⊢ wp frame (wpE (defs₀ (F := F)) 𝒱₀ (tv d L) none) Set.univ (sT4 L G k4 ob)
          fun ob' => sinv4 d L G q₁ q₃ M X l O Wt (k4.val + 1) ob' := by
  have hk4 : k4.val < 8 := Nat.lt_of_lt_of_le k4.isLt k4_t4_abs.2.1
  have hlen := len_le X (tile L) k4.val
  unfold sinv4
  iintro ⟨%hob, HW, H7, %f, %hf, H⟩
  have hv : extractAt ![0] (k4_pay11 (View.readAt (Elt F) G.b10.view (Rect.unit (s := S128) (k4_off12 k4) S16.size (k4_off12_inb k4)).toLoadRect f)) inpos_S1_p0
      = BitVec.ofNat 32 (len X (tile L) k4.val) := by
    refine (pay1_at (F := F) _).trans ?_
    refine (hf ((Rect.unit (s := S128) (k4_off12 k4) S16.size (k4_off12_inb k4)).toLoadRect.idx (ix1 (0 : Fin 16)))).trans ?_
    have e : ((Rect.unit (s := S128) (k4_off12 k4) S16.size (k4_off12_inb k4)).toLoadRect.idx (ix1 (0 : Fin 16)) 0).val = 16 * k4.val := by
      show k4_off12 k4 0 + 1 * 0 = _
      rw [k4_off12_eq]; rfl
    rw [e, show 16 * k4.val / 16 = k4.val by omega]
  have hw1 := schk_list L k4 (len X (tile L) k4.val) hlen
  have ht5 := s5_trips _ hlen
  have ht8 := s8_trips _ hlen
  rw [← hv] at hw1 ht5 ht8
  unfold sT4 k4_t4_body
  sl_exec
  sl_for (fun j ob => sinv5 d L G q₁ q₃ M X l O Wt (tileAcc M l X (tile L) k4.val) k4.val j ob) $$ [HW H7]
  case region =>
    intro j ob'
    exact strip5 d L G q₁ q₃ M X Y l O Wt hl hY _ k4 _ hv hw1 j ob'
  · unfold sinv5
    isplitr
    · ipureintro; exact hob
    isplitl [HW]; · iexact HW
    icases H7 with ⟨%f7, %h7, H7⟩
    iexists f7; isplitr; swap; · iexact H7
    ipureintro
    rw [Nat.mul_zero, Nat.min_zero]
    exact h7
  iintro %ob1 HI
  unfold sinv5
  icases HI with ⟨%hob1, HW, %f7, %h7, H7⟩
  sl_for (fun _ ob => iprop(⌜ob = BitVec.ofNat 32 (base X (tile L) + chunks X (tile L) (k4.val + 1))⌝)) $$ [HW H7 H]
  case region =>
    intro k8 ob'
    exact absurd (k8.isLt.trans_eq ht8) (by omega)
  isplitr
  · ipureintro
    refine hob1.trans (congrArg (BitVec.ofNat 32) ((congrArg (base X (tile L) + chunks X (tile L) k4.val + ·) ht5).trans ?_))
    rw [chunks_succ, Nat.add_assoc]
  iintro %ob2 %hob2
  isplitr
  · ipureintro; exact hob2
  isplitl [HW]; · iexact HW
  isplitl [H7]
  · iexists f7; isplitr; swap; · iexact H7
    ipureintro
    refine Eq.trans h7 (congrArg (listAcc _ M l (tile L) k4.val _) ((congrArg (fun n => min (len X (tile L) k4.val) (128 * n)) ht5).trans ?_))
    show min (len X (tile L) k4.val) (128 * ((len X (tile L) k4.val + 127) / 128)) = len X (tile L) k4.val
    omega
  · iexists f; isplitr; · ipureintro; exact hf
    iexact H

/-- Before trip `k` of the first loop. -/
def sinv1 (k : ℕ) (u : BitVec 32) : sProp 𝕄 :=
  iprop(⌜u = BitVec.ofNat 32 (base X k)⌝ ∗ Has d L G.b11 (· = totals X))

theorem strip1 (k : Fin (k4_t1_loop L).trips) (u : BitVec 32) :
    sinv1 d L G X k.val u
      ⊢ wp frame (wpE (defs₀ (F := F)) 𝒱₀ (tv d L) none) Set.univ (sT1 L G k u) fun u' => sinv1 d L G X (k.val + 1) u' := by
  have hk : k.val < 31 := Nat.lt_of_lt_of_le k.isLt (k4_t1_abs L).2.1
  unfold sinv1
  iintro ⟨%hu, %f, %hf, H⟩
  subst hu
  unfold sT1 k4_t1_body
  sl_exec
  sl_step
  isplitr
  · ipureintro
    show BitVec.ofNat 32 (base X k.val) + extractAt ![0] (k2_pay1 _) inpos_S1_p0 = _
    rw [pay1_at, base_succ, BitVec.ofNat_add]
    refine congrArg (BitVec.ofNat 32 (base X k.val) + ·) ?_
    have ho := congrFun (k4_off2_eq L k) 0
    refine (congrFun hf ((Rect.unit (s := S512) (k4_off2 L k) S16.size (k4_off2_inb L k)).toLoadRect.idx (ix1 (0 : Fin 16)))).trans ?_
    unfold totals
    have e : ((Rect.unit (s := S512) (k4_off2 L k) S16.size (k4_off2_inb L k)).toLoadRect.idx (ix1 (0 : Fin 16)) 0).val = 16 * k.val := by
      show k4_off2 L k 0 + 1 * 0 = _
      rw [ho]; rfl
    rw [e, show 16 * k.val / 16 = k.val by omega]
  · iexists f; isplitr
    · ipureintro; exact hf
    · iexact H

/-- The rows of the nodes' results that tile `t` writes. -/
def rowsIdx (t : ℕ) : Finset S5120x128.Idx := Finset.univ.filter fun y => 160 * t ≤ (y 0).val ∧ (y 0).val < 160 * t + 160
abbrev rowsSet (v : View sig .scVector .hbm S5120x128 .f32) (t : ℕ) := (rowsIdx t).map v.emb

/-- Tile `t`'s rows are its accumulator. -/
def NodesOK (M : S176640x128.Idx → F .f32) (l : S10240128.Idx → BitVec 32) (X : S320000.Idx → BitVec 32) (t : ℕ) (g : S5120x128.Idx → F .f32) : Prop :=
  ∀ (y : S160x128.Idx) (z : S5120x128.Idx), (z 0).val = 160 * t + (y 0).val → (z 1).val = (y 1).val → g z = tileAcc M l X t 8 y

theorem off29_tile (L : grid4.Coords) : k4_off29 L = ![160 * tile L, 0] := by
  rw [k4_off29_eq]
  congr 1
  show 320 * (L 1).val + 160 * (L 0).val = 160 * (2 * (L 1).val + (L 0).val)
  omega

theorem set_rows (v : View sig .scVector .hbm S5120x128 .f32) : (v.slice (Rect.unit (s := S5120x128) (k4_off29 L) S160x128.size (k4_off29_inb L))).set = rowsSet v (tile L) := by
  rw [View.set_slice]
  refine congrArg (Finset.map v.emb) (Finset.ext fun y => ?_)
  rw [Rect.mem_set_unit]
  unfold rowsIdx
  rw [Finset.mem_filter, off29_tile]
  have h1 : (y 1).val < 128 := (y 1).isLt
  constructor
  · intro h
    exact ⟨Finset.mem_univ _, (h 0).1, (h 0).2⟩
  · rintro ⟨-, h, h'⟩ a
    match a with
    | 0 => exact ⟨h, h'⟩
    | 1 => exact ⟨Nat.zero_le _, (show (y 1).val < 0 + 128 by omega)⟩

theorem pts_rows (g : G.b6.view.ty.Contents (Elt F)) :
    (((G.b6.slice (Rect.unit (s := S5120x128) (k4_off29 L) S160x128.size (k4_off29_inb L)) (fun _ => rfl)).view.loc (tv d L)
        ↦[(G.b6.slice (Rect.unit (s := S5120x128) (k4_off29 L) S160x128.size (k4_off29_inb L)) (fun _ => rfl)).view.set]{fullShare} g : sProp 𝕄))
      = (G.b6.view.loc (tv d L) ↦[rowsSet G.b6.view (tile L)]{fullShare} g) := by
  rw [← set_rows L G.b6.view]

theorem rows_written (A : S160x128.Idx → F .f32) (hA : A = tileAcc M l X (tile L) 8) (g : G.b6.view.ty.Contents (Elt F)) :
    NodesOK M l X (tile L) (G.b6.view.read (Elt F) ((G.b6.view.slice (Rect.unit (s := S5120x128) (k4_off29 L) S160x128.size (k4_off29_inb L))).writes (Elt F) g
      [⟨Rect.whole S160x128, A⟩])) := by
  intro y z hz0 hz1
  have ho := off29_tile L
  have hz : (Rect.unit (s := S5120x128) (k4_off29 L) S160x128.size (k4_off29_inb L)).emb y = z := by
    funext a
    refine Fin.ext ?_
    match a with
    | 0 =>
      have ho := congrFun ho 0
      exact (show k4_off29 L 0 + 1 * (y 0).val = (z 0).val by rw [ho]; show 160 * tile L + 1 * (y 0).val = _; omega)
    | 1 =>
      have ho := congrFun ho 1
      exact (show k4_off29 L 1 + 1 * (y 1).val = (z 1).val by rw [ho]; show 0 + 1 * (y 1).val = _; omega)
  have e := congrFun (read_whole (F := F) (G.b6.view.slice (Rect.unit (s := S5120x128) (k4_off29 L) S160x128.size (k4_off29_inb L))) g A) y
  rw [← hz, ← hA]
  exact e

/-- What a tile works with, apart from its rows: the messages, the lists, their lengths and totals, its buffers, its semaphores. -/
def STileWork (q₄ q₅ : PosShare TreeShare) : sProp 𝕄 :=
  iprop(SWork d L G q₁ q₃ M l O Wt ∗ Has d L G.b7 (fun _ => True)
    ∗ (∃ f, ⌜G.b4.view.read (Elt F) f = lens X⌝ ∗ G.b4.view.loc (tv d L) ↦[G.b4.view.set]{q₄} f) ∗ (∃ f, ⌜G.b5.view.read (Elt F) f = totals X⌝ ∗ G.b5.view.loc (tv d L) ↦[G.b5.view.set]{q₅} f)
    ∗ Has d L G.b10 (fun _ => True) ∗ Has d L G.b11 (fun _ => True)
    ∗ semVal (tv d L, .dma G.r0.sem) 0 ∗ semVal (tv d L, .dma G.r1.sem) 0 ∗ semVal (tv d L, .dma G.r6.sem) 0)

set_option maxRecDepth 65536 in
include hl hY in
theorem scatter_body (q₄ q₅ : PosShare TreeShare) :
    iprop(STileWork d L G q₁ q₃ M X l O Wt q₄ q₅ ∗ ∃ g, G.b6.view.loc (tv d L) ↦[rowsSet G.b6.view (tile L)]{fullShare} g)
      ⊢ wp frame (wpE (defs₀ (F := F)) 𝒱₀ (tv d L) none) Set.univ (sK L G) fun _ => iprop(STileWork d L G q₁ q₃ M X l O Wt q₄ q₅
          ∗ ∃ g, ⌜NodesOK M l X (tile L) (G.b6.view.read (Elt F) g)⌝ ∗ G.b6.view.loc (tv d L) ↦[rowsSet G.b6.view (tile L)]{fullShare} g) := by
  unfold STileWork SWork
  iintro ⟨⟨⟨Hmw, HM, Hl, H8, H9, S2, S3, %W', %hW', HO⟩, ⟨%f7, -, H7⟩, ⟨%f4, %h4, H4⟩, ⟨%f5, %h5, H5⟩, ⟨%f10, -, H10⟩, ⟨%f11, -, H11⟩, S0, S1, S6⟩, %g, Hg⟩
  ihave Hg := (Entails.of_eq (pts_rows d L G g).symm) $$ Hg
  unfold sK
  rw [cc4__scatter_kernel_eq_skeleton]
  unfold cc4__scatter_kernel_skel
  sl_exec (disch := exact View.amount_pos _ _ (by decide))
  sl_for (sinv1 d L G X) $$ [H11]
  case region =>
    intro k u
    exact strip1 d L G X k u
  · unfold sinv1
    isplitr
    · ipureintro; rfl
    iexists _; isplitr; swap; · iexact H11
    ipureintro
    exact (read_whole _ _ _).trans h5
  iintro %u HI
  unfold sinv1
  icases HI with ⟨%hu, ⟨%f11', -, H11⟩⟩
  rw [show Scf.trips (k4_t1_loop L).lb (k4_t1_loop L).ub (k4_t1_loop L).st = tile L from t1_trips L] at hu
  sl_for (fun _ u => iprop(⌜u = BitVec.ofNat 32 (base X (tile L))⌝)) $$ []
  case region =>
    intro k u
    exact absurd k.isLt (Nat.not_lt.2 (Nat.le_trans (k4_t2_abs L).2.1 (Nat.zero_le _)))
  · ipureintro; exact hu
  iintro %u2 %hu2
  sl_for (sinv3 d L G) $$ [H7]
  case region =>
    intro k u
    exact strip3 d L G k u
  · unfold sinv3
    iexists f7; isplitr; swap; · iexact H7
    ipureintro
    exact fun y hy => absurd hy (by omega)
  iintro %u3 HI
  unfold sinv3
  icases HI with ⟨%f7', %h7, H7⟩
  have e3 : Scf.trips k4_t3_loop.lb k4_t3_loop.ub k4_t3_loop.st = 160 := by decide
  rw [e3] at h7
  sl_for (sinv4 d L G q₁ q₃ M X l O Wt) $$ [Hmw HM Hl H7 H8 H9 S2 S3 HO H10]
  case region =>
    intro k4 ob
    exact strip4 d L G q₁ q₃ M X Y l O Wt hl hY k4 ob
  · unfold sinv4 SWork
    isplitr
    · ipureintro
      exact hu2
    isplitr [H7 H10]
    · isplitl [Hmw]; · iexact Hmw
      isplitl [HM]; · iexact HM
      isplitl [Hl]; · iexact Hl
      isplitl [H8]; · iexact H8
      isplitl [H9]; · iexact H9
      isplitl [S2]; · iexact S2
      isplitl [S3]; · iexact S3
      iexists _; isplitr; swap; · iexact HO
      ipureintro
      intro p hp
      simp only [Finset.mem_insert] at hp
      rcases hp with rfl | rfl | hp
      · exact .inr rfl
      · exact .inr rfl
      · exact hW' p hp
    isplitl [H7]
    · iexists f7'; isplitr; swap; · iexact H7
      ipureintro
      exact funext fun y => h7 y (y 0).isLt
    · iexists _; isplitr; swap; · iexact H10
      ipureintro
      exact (read_whole (F := F) G.b10.view _ _).symm ▸ lens_read L G.b4 X f4 h4
  iintro %ob HI
  unfold sinv4 SWork
  icases HI with ⟨-, ⟨Hmw, HM, Hl, H8, H9, S2, S3, %W2, %hW2, HO⟩, ⟨%f7'', %h7'', H7⟩, %f, -, H10⟩
  sl_exec (disch := exact View.amount_pos _ _ (by decide))
  sl_step
  isplitr [Hg]
  · isplitl [Hmw HM Hl H8 H9 S2 S3 HO]
    · isplitl [Hmw]; · iexact Hmw
      isplitl [HM]; · iexact HM
      isplitl [Hl]; · iexact Hl
      isplitl [H8]; · iexact H8
      isplitl [H9]; · iexact H9
      isplitl [S2]; · iexact S2
      isplitl [S3]; · iexact S3
      iexists _; isplitr; swap; · iexact HO
      ipureintro
      intro p hp
      simp only [Finset.mem_insert] at hp
      rcases hp with rfl | hp
      · exact .inr rfl
      · exact hW2 p hp
    isplitl [H7]; · iexists _; isplitr; swap; · iexact H7
                    ipureintro; trivial
    isplitl [H4]; · iexists f4; isplitr; · ipureintro; exact h4
                    iexact H4
    isplitl [H5]; · iexists f5; isplitr; · ipureintro; exact h5
                    iexact H5
    isplitl [H10]; · iexists f; isplitr; · ipureintro; trivial
                     iexact H10
    isplitl [H11]; · iexists f11'; isplitr; · ipureintro; trivial
                     iexact H11
    isplitl [S0]; · iexact S0
    isplitl [S1]; · iexact S1
    iexact S6
  · iexists _; isplitr; swap; · iapply (Entails.of_eq (pts_rows d L G _)); iexact Hg
    ipureintro
    exact rows_written L G M X l _ h7'' g

end Cert.Proof.Bin

end
-- ==== Proof.Pay.lean ====
/-
  What the handshakes of the seven calls carry.
-/
module

public import proofs.«01_k».proof.Proof.Vals
public import proofs.«01_k».proof.Proof.Arr
public import proofs.«01_k».proof.Proof.GatherTile
public import proofs.«01_k».proof.Proof.ScatTile

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

variable [FloatOps F]

/-! ## The parts -/

/-- Tile `t`'s rows of the sums: its chunks of 64. -/
def outSet (X : S320000.Idx → BitVec 32) (t : ℕ) : Finset S176640x128.Idx :=
  Finset.univ.filter fun y => 64 * base X t ≤ (y 0).val ∧ (y 0).val < 64 * (base X t + chunks X t 8)

theorem mem_outSet {X : S320000.Idx → BitVec 32} {t : ℕ} {y : S176640x128.Idx} :
    y ∈ outSet X t ↔ 64 * base X t ≤ (y 0).val ∧ (y 0).val < 64 * (base X t + chunks X t 8) := by simp [outSet]

/-! ## What the handshakes carry -/

variable (X Y : Dev nD → Vec F S320000 .i32)

/-- Segment `s` of tile `t` after `k` segments: right once it is done. -/
abbrev segPts (d : Dev nD) (t k s : ℕ) : sProp 𝕄 := iprop(∃ g, ⌜s < k → SegOK (X d) (Y d) t s g⌝ ∗ lLoc d ↦[segSet t s]{fullShare} g)

/-- What tile `t` of the first call takes: a share of the edges' two arrays to read, its parts of the three results. -/
def TileIn (d : Dev nD) (t : ℕ) : sProp 𝕄 :=
  iprop((dstLoc d ↦{shareTokN fullShare t} X d) ∗ (srcLoc d ↦{shareTokN fullShare t} Y d)
    ∗ (bigSep Finset.univ fun s : Fin 8 => segPts X Y d t 0 s.val) ∗ (∃ g, cLoc d ↦[cSet t]{fullShare} g) ∗ ∃ g, tLoc d ↦[tSet t]{fullShare} g)
/-- What it brings back: the same, the results filled in. -/
def TileOut (d : Dev nD) (t : ℕ) : sProp 𝕄 :=
  iprop((dstLoc d ↦{shareTokN fullShare t} X d) ∗ (srcLoc d ↦{shareTokN fullShare t} Y d)
    ∗ (bigSep Finset.univ fun s : Fin 8 => segPts X Y d t 8 s.val) ∗ (cLoc d ↦[cSet t]{fullShare} lens (X d)) ∗ tLoc d ↦[tSet t]{fullShare} totals (X d))

/-- The lists a tile reads, right, with the lengths and the totals. -/
def ListsIn (d : Dev nD) (t n : ℕ) : sProp 𝕄 :=
  iprop((∃ l, ⌜∀ s, s < 8 → SegOK (X d) (Y d) t s l⌝ ∗ lLoc d ↦{shareTokN fullShare n} l)
    ∗ (cLoc d ↦{shareTokN fullShare n} lens (X d)) ∗ tLoc d ↦{shareTokN fullShare n} totals (X d))

set_option synthInstance.maxHeartbeats 400000 in
instance TileIn_storable (d : Dev nD) (t : ℕ) : BI.Storable (upEmb : UEmb _ 𝕄) (TileIn X Y d t) := by unfold TileIn; infer_instance
instance TileOut_storable (d : Dev nD) (t : ℕ) : BI.Storable (upEmb : UEmb _ 𝕄) (TileOut X Y d t) := by unfold TileOut; infer_instance

section layer

-- one layer: its arrays, what its table may be, the message stage's weights and bias
variable (A : Lay) (PT : Dev nD → Vec F S10000x128 .f32 → Prop) (W : Dev nD → Vec F S128x128 .f32) (B : Dev nD → Vec F S1x128 .f32)

/-- Tile `t`'s sums are right, of a table the layer may have. -/
def SumsOK (d : Dev nD) (t : ℕ) (g : S176640x128.Idx → F .f32) : Prop := ∃ Tb, PT d Tb ∧ ∀ n, n < chunks (X d) t 8 → RowsOK Tb (X d) (Y d) t n g

/-- What tile `t` of a gathering call takes: shares of the table, its lists, its rows of the sums. -/
def GatherIn (d : Dev nD) (t n : ℕ) : sProp 𝕄 :=
  iprop((∃ Tb, ⌜PT d Tb⌝ ∗ A.tab.pts d Finset.univ (shareTokN fullShare t) Tb ∗ A.tab.pts d Finset.univ (shareTokN fullShare (32 + t)) Tb) ∗ ListsIn X Y d t n
    ∗ ∃ g, A.rows.pts d (outSet (X d) t) fullShare g)
/-- What it brings back: its rows of the sums, right. -/
def GatherOut (d : Dev nD) (t : ℕ) : sProp 𝕄 := iprop(∃ g, ⌜SumsOK X Y PT d t g⌝ ∗ A.rows.pts d (outSet (X d) t) fullShare g)

/-- The messages are right: those of sums that are. -/
def MsgsOK (d : Dev nD) (M : S176640x128.Idx → F .f32) : Prop := ∃ G, (∀ t, t < 32 → SumsOK X Y PT d t G) ∧ M = msgOut G (W d) (B d)

/-- Tile `t`'s nodes are right: the accumulator over right lists and right messages. -/
def AggOK (d : Dev nD) (t : ℕ) (g : S5120x128.Idx → F .f32) : Prop :=
  ∃ l M, (∀ s, s < 8 → SegOK (X d) (Y d) t s l) ∧ MsgsOK X Y PT W B d M ∧ NodesOK M l (X d) t g

/-- What tile `t` of a scattering call takes: a share of the messages, its lists, its rows of the result. -/
def ScatterIn (d : Dev nD) (t n : ℕ) : sProp 𝕄 :=
  iprop((∃ M, ⌜MsgsOK X Y PT W B d M⌝ ∗ A.msgs.pts d Finset.univ (shareTokN fullShare t) M) ∗ ListsIn X Y d t n
    ∗ ∃ g, A.agg.pts d (rowsIdx t) fullShare g)
/-- What it brings back: its rows of the result, right. -/
def ScatterOut (d : Dev nD) (t : ℕ) : sProp 𝕄 := iprop(∃ g, ⌜AggOK X Y PT W B d t g⌝ ∗ A.agg.pts d (rowsIdx t) fullShare g)

instance ListsIn_storable (d : Dev nD) (t n : ℕ) : BI.Storable (upEmb : UEmb _ 𝕄) (ListsIn X Y d t n) := by unfold ListsIn; infer_instance
instance GatherIn_storable (d : Dev nD) (t n : ℕ) : BI.Storable (upEmb : UEmb _ 𝕄) (GatherIn X Y A PT d t n) := by unfold GatherIn; infer_instance
instance GatherOut_storable (d : Dev nD) (t : ℕ) : BI.Storable (upEmb : UEmb _ 𝕄) (GatherOut X Y A PT d t) := by unfold GatherOut; infer_instance
instance ScatterIn_storable (d : Dev nD) (t n : ℕ) : BI.Storable (upEmb : UEmb _ 𝕄) (ScatterIn X Y A PT W B d t n) := by unfold ScatterIn; infer_instance
instance ScatterOut_storable (d : Dev nD) (t : ℕ) : BI.Storable (upEmb : UEmb _ 𝕄) (ScatterOut X Y A PT W B d t) := by unfold ScatterOut; infer_instance

end layer

/-! ## The network -/

/-- The network's data on the devices: the edges' destinations and sources, the first layer's table, and by layer the message
    stage's weights and bias and the table's. -/
structure Net (F : FTy → Type) where
  X : Dev nD → Vec F S320000 .i32
  Y : Dev nD → Vec F S320000 .i32
  T : Dev nD → Vec F S10000x128 .f32
  W : ℕ → Dev nD → Vec F S128x128 .f32
  B : ℕ → Dev nD → Vec F S1x128 .f32
  V : ℕ → Dev nD → Vec F S64x128 .f32
  C : ℕ → Dev nD → Vec F S1x128 .f32

variable (N : Net F)

/-- What a layer's table may be: the first's is given; the next's is made of the maxima over a table the layer before may have. -/
def PT : ℕ → Dev nD → Vec F S10000x128 .f32 → Prop
  | 0 => fun d Tb => Tb = N.T d
  | k + 1 => fun d Tb => ∃ g, (∀ t, t < 32 → AggOK N.X N.Y (PT k) (N.W k) (N.B k) d t g) ∧ Tb = abOut (result g) (N.V (k + 1) d) (N.C (k + 1) d)

/-- A tile's part of each call. -/
def TIn (q : Fin 7) (d : Dev nD) (t : ℕ) : sProp 𝕄 := match q with
  | 0 => TileIn N.X N.Y d t
  | 1 => GatherIn N.X N.Y (lay 0) (PT N 0) d t (32 * 0 + t)
  | 2 => ScatterIn N.X N.Y (lay 0) (PT N 0) (N.W 0) (N.B 0) d t (32 * 1 + t)
  | 3 => GatherIn N.X N.Y (lay 1) (PT N 1) d t (32 * 2 + t)
  | 4 => ScatterIn N.X N.Y (lay 1) (PT N 1) (N.W 1) (N.B 1) d t (32 * 3 + t)
  | 5 => GatherIn N.X N.Y (lay 2) (PT N 2) d t (32 * 4 + t)
  | 6 => ScatterIn N.X N.Y (lay 2) (PT N 2) (N.W 2) (N.B 2) d t (32 * 5 + t)
def TOut (q : Fin 7) (d : Dev nD) (t : ℕ) : sProp 𝕄 := match q with
  | 0 => TileOut N.X N.Y d t
  | 1 => GatherOut N.X N.Y (lay 0) (PT N 0) d t
  | 2 => ScatterOut N.X N.Y (lay 0) (PT N 0) (N.W 0) (N.B 0) d t
  | 3 => GatherOut N.X N.Y (lay 1) (PT N 1) d t
  | 4 => ScatterOut N.X N.Y (lay 1) (PT N 1) (N.W 1) (N.B 1) d t
  | 5 => GatherOut N.X N.Y (lay 2) (PT N 2) d t
  | 6 => ScatterOut N.X N.Y (lay 2) (PT N 2) (N.W 2) (N.B 2) d t

instance TIn_storable (q : Fin 7) (d : Dev nD) (t : ℕ) : BI.Storable (upEmb : UEmb _ 𝕄) (TIn N q d t) := match q with
  | 0 => TileIn_storable _ _ d t
  | 1 => GatherIn_storable _ _ _ _ d t _
  | 2 => ScatterIn_storable _ _ _ _ _ _ d t _
  | 3 => GatherIn_storable _ _ _ _ d t _
  | 4 => ScatterIn_storable _ _ _ _ _ _ d t _
  | 5 => GatherIn_storable _ _ _ _ d t _
  | 6 => ScatterIn_storable _ _ _ _ _ _ d t _
instance TOut_storable (q : Fin 7) (d : Dev nD) (t : ℕ) : BI.Storable (upEmb : UEmb _ 𝕄) (TOut N q d t) := match q with
  | 0 => TileOut_storable _ _ d t
  | 1 => GatherOut_storable _ _ _ _ d t
  | 2 => ScatterOut_storable _ _ _ _ _ _ d t
  | 3 => GatherOut_storable _ _ _ _ d t
  | 4 => ScatterOut_storable _ _ _ _ _ _ d t
  | 5 => GatherOut_storable _ _ _ _ d t
  | 6 => ScatterOut_storable _ _ _ _ _ _ d t

/-- Each call hands each core its sixteen tiles' parts. -/
def P : (K (F := F)).Pay (nD := nD) (Val := Elt F) (Name := ℕ) (U := UU) where
  st := fun q d c => bigSep Finset.univ fun i : Fin ((K (F := F)).nSub q) => TIn N q d (2 * i.val + c.val)
  dn := fun q d c => bigSep Finset.univ fun i : Fin ((K (F := F)).nSub q) => TOut N q d (2 * i.val + c.val)
  go := fun q d c i => TIn N q d (2 * i.val + c.val)
  td := fun q d c i => TOut N q d (2 * i.val + c.val)
  x := fun _ _ => iprop(emp)

instance P_storable : (P (F := F) N).IsStorable where
  st q d c := (inferInstance : BI.Storable (upEmb : UEmb _ 𝕄) (bigSep Finset.univ fun i : Fin ((K (F := F)).nSub q) => TIn N q d (2 * i.val + c.val)))
  dn q d c := (inferInstance : BI.Storable (upEmb : UEmb _ 𝕄) (bigSep Finset.univ fun i : Fin ((K (F := F)).nSub q) => TOut N q d (2 * i.val + c.val)))
  go q d c i := (inferInstance : BI.Storable (upEmb : UEmb _ 𝕄) (TIn N q d (2 * i.val + c.val)))
  td q d c i := (inferInstance : BI.Storable (upEmb : UEmb _ 𝕄) (TOut N q d (2 * i.val + c.val)))

theorem vecSplit (q : Fin 7) : (K (F := F)).VecSplit' (P N) q := by
  intro d c
  show (bigSep Finset.univ fun i : Fin ((K (F := F)).nSub q) => TIn N q d (2 * i.val + c.val)) ⊢ |={Set.univ}=> iprop(
      (bigSep Finset.univ fun i : Fin ((K (F := F)).nSub q) => TIn N q d (2 * i.val + c.val))
      ∗ ((bigSep Finset.univ fun i : Fin ((K (F := F)).nSub q) => TOut N q d (2 * i.val + c.val))
          -∗ (bigSep Finset.univ fun i : Fin ((K (F := F)).nSub q) => TOut N q d (2 * i.val + c.val))))
  iintro H; imodintro
  isplitl [H]; · iexact H
  iintro H; iexact H

end Cert.Proof.Bin

end
-- ==== Proof.Body.lean ====
/-
  One tile's task of the first call: the inner loop over a segment's edges, the loop over the segments, the whole task.
-/
module

public import proofs.«01_k».proof.Proof.Own
public import proofs.«01_k».proof.Proof.Pay

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

-- the kernel's arguments as the task's body is given them
local notation "dstV" => (Memref.whole Cert.KernelIdeal.main_v3_scv : Memref Cert.KernelIdeal.sig Kind.scVector Space.hbm Cert.KernelIdeal.S320000 EltTy.i32)
local notation "srcV" => (Memref.whole Cert.KernelIdeal.main_v1_scv : Memref Cert.KernelIdeal.sig Kind.scVector Space.hbm Cert.KernelIdeal.S320000 EltTy.i32)
local notation "lV" => (Memref.whole Cert.KernelIdeal.main_v61_0_scv : Memref Cert.KernelIdeal.sig Kind.scVector Space.hbm Cert.KernelIdeal.S10240128 EltTy.i32)
local notation "cntsV" => (Memref.whole Cert.KernelIdeal.main_v61_1_scv : Memref Cert.KernelIdeal.sig Kind.scVector Space.hbm Cert.KernelIdeal.S4096 EltTy.i32)
local notation "totsV" => (Memref.whole Cert.KernelIdeal.main_v61_2_scv : Memref Cert.KernelIdeal.sig Kind.scVector Space.hbm Cert.KernelIdeal.S512 EltTy.i32)
local notation "dB" => (Memref.whole Cert.KernelIdeal.cc0_scratch0 : Memref Cert.KernelIdeal.sig Kind.scVector Space.vmem Cert.KernelIdeal.S40000 EltTy.i32)
local notation "sB" => (Memref.whole Cert.KernelIdeal.cc0_scratch1 : Memref Cert.KernelIdeal.sig Kind.scVector Space.vmem Cert.KernelIdeal.S40000 EltTy.i32)
local notation "kB" => (Memref.whole Cert.KernelIdeal.cc0_scratch2 : Memref Cert.KernelIdeal.sig Kind.scVector Space.vmem Cert.KernelIdeal.S40016 EltTy.i32)
local notation "nB" => (Memref.whole Cert.KernelIdeal.cc0_scratch3 : Memref Cert.KernelIdeal.sig Kind.scVector Space.vmem Cert.KernelIdeal.S128 EltTy.i32)
local notation "tB" => (Memref.whole Cert.KernelIdeal.cc0_scratch4 : Memref Cert.KernelIdeal.sig Kind.scVector Space.vmem Cert.KernelIdeal.S16 EltTy.i32)

variable [FloatOps F] (d : Dev nD) (L : grid0.Coords)

/-- The list's buffer, as the scatter names it. -/
theorem pts_kB (f : Buf (Elt F) ((tv d L).loc cc0_scratch2)) :
    (((kB).access (.whole S40016)).loc (tv d L) ↦[((kB).access (.whole S40016)).set]{fullShare} f : sProp 𝕄) = (kB).view.loc (tv d L) ↦{fullShare} f := by
  rw [show ((kB).access (.whole S40016)).set = Finset.univ by
    simp [Memref.access, View.set_slice]; exact Rect.set_whole _]

/-- The words a segment's buffer holds once its copy is in. -/
abbrev buf (W : ℕ → BitVec 32) : Vec F S40000 .i32 := fun j => W (j 0).val

/-- Before trip `k` of the inner loop: the two segments, the list right for `16 k` edges, its length. -/
def binv3 (t : ℕ) (A B : ℕ → BitVec 32) (k : ℕ) (cur : BitVec 32) : sProp 𝕄 :=
  iprop(((dB).view.loc (tv d L) ↦{fullShare} buf (F := F) A) ∗ ((sB).view.loc (tv d L) ↦{fullShare} buf (F := F) B)
    ∗ ∃ f : Vec F S40016 .i32, ⌜ListOK (N := 40016) t A B (16 * k) f ∧ cur = BitVec.ofNat 32 (kept t A (16 * k))⌝ ∗ (kB).view.loc (tv d L) ↦{fullShare} f)

theorem read_dB (k : Fin k0_t3_loop.trips) (W : ℕ → BitVec 32) :
    View.readAt (Elt F) (dB).view (Rect.unit (s := S40000) (k0_off3 k) S16.size (k0_off3_inb k)).toLoadRect (buf (F := F) W) = Dv (F := F) W (16 * k.val) := by
  funext x
  have h : k0_off3 k 0 = 16 * k.val := by rw [k0_off3_eq]; rfl
  exact congrArg W (show k0_off3 k 0 + 1 * (x 0).val = 16 * k.val + (x 0).val by omega)

theorem read_sB (k : Fin k0_t3_loop.trips) (W : ℕ → BitVec 32) :
    View.readAt (Elt F) (sB).view (Rect.unit (s := S40000) (k0_off3 k) S16.size (k0_off3_inb k)).toLoadRect (buf (F := F) W) = Dv (F := F) W (16 * k.val) := by
  funext x
  have h : k0_off3 k 0 = 16 * k.val := by rw [k0_off3_eq]; rfl
  exact congrArg W (show k0_off3 k 0 + 1 * (x 0).val = 16 * k.val + (x 0).val by omega)

theorem btrip3 (t : ℕ) (A B : ℕ → BitVec 32) (v1 a b : BitVec 32) (k2 : Fin k0_t2_loop.trips) (k : Fin k0_t3_loop.trips) (cur : BitVec 32) :
    binv3 (F := F) d L t A B k.val cur
      ⊢ wp frame (wpE (defs₀ (F := F)) 𝒱₀ (tv d L) none) Set.univ
          (k0_t3_body L dstV (Memref.isWhole_whole _) srcV (Memref.isWhole_whole _) lV (Memref.isWhole_whole _) cntsV (Memref.isWhole_whole _) totsV (Memref.isWhole_whole _)
            dB (Memref.isWhole_whole _) sB (Memref.isWhole_whole _) kB (Memref.isWhole_whole _) nB (Memref.isWhole_whole _) tB (Memref.isWhole_whole _)
            cc0_scoped0 cc0_scoped1 cc0_scoped2 cc0_scoped3 cc0_scoped4 v1 (lo t) a b k2 k cur)
          fun cur' => binv3 (F := F) d L t A B (k.val + 1) cur' := by
  have hk : k.val < 2500 := Nat.lt_of_lt_of_le k.isLt k0_t3_abs.2.1
  unfold binv3
  iintro ⟨HA, HB, %f, %hf, Hk⟩
  obtain ⟨hf, rfl⟩ := hf
  unfold k0_t3_body
  sl_exec (disch := assumption)
  have hA := read_dB (F := F) k A
  have hB := read_sB (F := F) k B
  have hc : k0_chk1 (k0_pay7 (F := F) (lo t) (BitVec.ofNat 32 (kept t A (16 * k.val)))
      (View.readAt (Elt F) (dB).view (Rect.unit (s := S40000) (k0_off3 k) S16.size (k0_off3_inb k)).toLoadRect (buf (F := F) A))) := by
    rw [hA]; exact chk t A (16 * k.val) (by omega)
  rw [wp_assume_of _ _ _ _ (show k0_chk1 (btrip3.sl.v68 (F := F) t A k) from hc)]
  ihave Hk' := (Entails.of_eq (pts_kB (F := F) d L f).symm) $$ Hk
  iapply (SparseCore.wp_vectorStoreIdx 𝒱₀ (tv d L) none Set.univ (base := kB)) $$ Hk'; iintro Hk
  rw [Memref.read_access_whole, Memref.write_access_whole_univ]
  ihave Hk' := (Entails.of_eq (pts_kB (F := F) d L _)) $$ Hk
  sl_exec
  sl_step
  isplitl [HA]; · iexact HA
  isplitl [HB]; · iexact HB
  iexists _; isplitr
  swap; · iexact Hk'
  ipureintro
  constructor
  · exact list_step' (F := F) t A B (16 * k.val) (by omega) f hf _ _ hA hB hc
  · exact length_step' (F := F) t A (16 * k.val) _ hA

/-! ## A segment -/

/-- The part of the lists a segment's list goes to, as the body spells it. -/
abbrev lK (k : Fin k0_t2_loop.trips) : Memref sig .scVector .hbm S40000 .i32 :=
  (lV).slice (Rect.unit (s := S10240128) (k0_off5 L k) S40000.size (k0_off5_inb L k)) (fun _ => rfl)

theorem set_lK (k : Fin k0_t2_loop.trips) : (lK L k).view.set = segSet (tile L) k.val := by
  ext j
  rw [mem_segSet]
  show j ∈ ((View.whole main_v61_0_scv).slice (Rect.unit (s := S10240128) (k0_off5 L k) S40000.size (k0_off5_inb L k))).set ↔ _
  rw [View.set_slice_whole, Rect.mem_set_unit]
  have h : k0_off5 L k 0 = 40000 * (8 * tile L + k.val) := by
    rw [k0_off5_eq]; show 640000 * (L 1).val + 320000 * (L 0).val + 40000 * k.val = _
    unfold tile; omega
  constructor
  · intro hj
    have := hj 0
    rw [h] at this; exact this
  · intro hj a
    match a with
    | 0 => rw [h]; exact hj

theorem pts_lK (k : Fin k0_t2_loop.trips) (g : Buf (Elt F) (lLoc d)) :
    ((lK L k).view.loc (tv d L) ↦[(lK L k).view.set]{fullShare} g : sProp 𝕄) = lLoc d ↦[segSet (tile L) k.val]{fullShare} g := by
  rw [set_lK]

/-- A segment of the edges' destinations, as the copy reads it. -/
theorem read_seg_d (k : Fin k0_t2_loop.trips) (X : Vec F S320000 .i32) :
    View.read (Elt F) ((dstV).slice (Rect.unit (s := S320000) (k0_off2 k) S40000.size (k0_off2_inb k)) (fun _ => rfl)).view X = buf (F := F) (seg X k.val) := by
  have hk : k.val < 8 := Nat.lt_of_lt_of_le k.isLt k0_t2_abs.2.1
  funext j
  have h : k0_off2 k 0 = 40000 * k.val := by rw [k0_off2_eq]; rfl
  have hj : (j 0).val < 40000 := (j 0).isLt
  refine congrArg X (funext fun a => Fin.ext ?_)
  match a with
  | 0 => exact (show k0_off2 k 0 + 1 * (j 0).val = (40000 * k.val + (j 0).val) % 320000 by omega)

/-- A segment of the edges' sources, as the copy reads it. -/
theorem read_seg_s (k : Fin k0_t2_loop.trips) (Y : Vec F S320000 .i32) :
    View.read (Elt F) ((srcV).slice (Rect.unit (s := S320000) (k0_off2 k) S40000.size (k0_off2_inb k)) (fun _ => rfl)).view Y = buf (F := F) (seg Y k.val) :=
  read_seg_d (F := F) k Y

variable (X Y : Dev nD → Vec F S320000 .i32)

/-- Before segment `k`: the first `k` lists right, their lengths, the chunks so far. -/
def binv2 (O : CellTallies nD τ sig (HIx 7)) (Wt : Waits sig (HIx 7)) (k : ℕ) (tot : BitVec 32) : sProp 𝕄 :=
  iprop(Transfers.MayWaits (tv d L) (default : HIx 7) O
    ∗ ((dstV).view.loc (tv d L) ↦{shareTokN fullShare (tile L)} X d) ∗ ((srcV).view.loc (tv d L) ↦{shareTokN fullShare (tile L)} Y d)
    ∗ (∃ f, (dB).view.loc (tv d L) ↦{fullShare} f) ∗ (∃ f, (sB).view.loc (tv d L) ↦{fullShare} f) ∗ (∃ f, (kB).view.loc (tv d L) ↦{fullShare} f)
    ∗ (∃ g : Vec F S128 .i32, ⌜(∀ j, (j 0).val < 16 * k → g j = BitVec.ofNat 32 (len (X d) (tile L) ((j 0).val / 16))) ∧ tot = BitVec.ofNat 32 (chunks (X d) (tile L) k)⌝
        ∗ (nB).view.loc (tv d L) ↦{fullShare} g)
    ∗ semVal (tv d L, .dma cc0_scoped0.sem) 0 ∗ semVal (tv d L, .dma cc0_scoped1.sem) 0 ∗ semVal (tv d L, .dma cc0_scoped2.sem) 0
    ∗ (bigSep Finset.univ fun s : Fin 8 => segPts X Y d (tile L) k s.val)
    ∗ ∃ W', ⌜∀ p ∈ W', p ∈ Wt ∨ p.2 = none⌝ ∗ owes (tv d L) O W')

/-- The lengths, once segment `k`'s is stored. -/
theorem lens_step (t : ℕ) (X : Vec F S320000 .i32) (k : Fin k0_t2_loop.trips) (g : Vec F S128 .i32)
    (hg : ∀ j, (j 0).val < 16 * k.val → g j = BitVec.ofNat 32 (len X t ((j 0).val / 16))) (j : S128.Idx) (hj : (j 0).val < 16 * (k.val + 1)) :
    (nB).view.writes (Elt F) g [⟨Rect.unit (s := S128) (k0_off4 k) S16.size (k0_off4_inb k), k0_pay9 (BitVec.ofNat 32 (len X t k.val))⟩] j
      = BitVec.ofNat 32 (len X t ((j 0).val / 16)) := by
  have h : k0_off4 k 0 = 16 * k.val := by rw [k0_off4_eq]; rfl
  by_cases hlt : (j 0).val < 16 * k.val
  · rw [← hg j hlt]
    exact View.read_writes_cons_miss_of_axis (nB).view g ⟨Rect.unit (s := S128) (k0_off4 k) S16.size (k0_off4_inb k), _⟩ [] j 0 (16 * k.val) 16 h rfl rfl (.inl hlt)
  · have hd : (j 0).val / 16 = k.val := by omega
    rw [hd]
    exact View.read_writes_cons_hit_of_coords (nB).view g (Rect.unit (s := S128) (k0_off4 k) S16.size (k0_off4_inb k)) (k0_pay9 _) []
      (Shape.ofLane (d := ![16]) ⟨(j 0).val - 16 * k.val, (by omega : (j 0).val - 16 * k.val < 16)⟩) j fun a => by
        match a with
        | 0 => exact (show (j 0).val = k0_off4 k 0 + 1 * ((j 0).val - 16 * k.val) by omega)

/-- What a view holds at an element it names, once it is written over. -/
theorem writes_whole {κ sp s} (v : View sig κ sp s .i32) (l : v.ty.Contents (Elt F)) (w : Vec F s .i32) (x : s.Idx) :
    _root_.cast (congrArg (Elt F) v.elt_eq) (v.writes (Elt F) l [⟨Rect.whole s, w⟩] (v.emb x)) = w x :=
  View.read_writes_cons_hit_of_coords (Val := Elt F) v l (Rect.whole s) w [] x x fun a => by
    show _ = 0 + 1 * _
    rw [Nat.zero_add, Nat.one_mul]

/-- The segment's part of the lists, once its list is copied out. -/
theorem seg_step (X Y : Vec F S320000 .i32) (k : Fin k0_t2_loop.trips) (l : Vec F S10240128 .i32) (f : Vec F S40016 .i32)
    (hf : ListOK (N := 40016) (tile L) (seg X k.val) (seg Y k.val) 40000 f) :
    SegOK X Y (tile L) k.val ((lK L k).view.writes (Elt F) l
      [⟨Rect.whole S40000, View.read (Elt F) ((kB).slice (Rect.unit (s := S40016) ![0] S40000.size inb_S40016_S40000_0) (fun _ => rfl)).view f⟩]) := by
  intro e he hm j hj
  have hk := kept_le (tile L) (seg X k.val) e
  have h : k0_off5 L k 0 = 40000 * (8 * tile L + k.val) := by
    rw [k0_off5_eq]; show 640000 * (L 1).val + 320000 * (L 0).val + 40000 * k.val = _
    unfold tile; omega
  have hx : j = (lK L k).view.emb (Shape.ofLane (d := ![40000]) ⟨kept (tile L) (seg X k.val) e, (by omega : kept (tile L) (seg X k.val) e < 40000)⟩) := by
    funext a
    match a with
    | 0 => exact Fin.ext (show (j 0).val = k0_off5 L k 0 + 1 * kept (tile L) (seg X k.val) e by omega)
  rw [hx]
  generalize hw : View.read (Elt F) ((kB).slice (Rect.unit (s := S40016) ![0] S40000.size inb_S40016_S40000_0) (fun _ => rfl)).view f = w
  generalize hy : Shape.ofLane (d := ![40000]) ⟨kept (tile L) (seg X k.val) e, (by omega : kept (tile L) (seg X k.val) e < 40000)⟩ = y
  have h1 := writes_whole (F := F) (s := S40000) (lK L k).view l w y
  rw [cast_eq] at h1
  rw [h1]
  subst hw hy
  exact hf e he hm _ (show 0 + 1 * kept (tile L) (seg X k.val) e = _ by omega)

/-- Another segment's part is as right after a segment as before it. -/
theorem segPts_step (t k s : ℕ) (h : s ≠ k) : segPts (F := F) X Y d t k s ⊢ segPts X Y d t (k + 1) s := by
  iintro ⟨%g, %hg, H⟩
  iexists g
  isplitr [H]
  · ipureintro
    exact fun hs => hg (by omega)
  · iexact H

set_option maxHeartbeats 4000000 in
theorem btrip2 (O : CellTallies nD τ sig (HIx 7)) (Wt : Waits sig (HIx 7)) (v1 v2 : BitVec 32) (hv2 : v2 = lo (tile L)) (k : Fin k0_t2_loop.trips) (tot : BitVec 32) :
    binv2 (F := F) d L X Y O Wt k.val tot
      ⊢ wp frame (wpE (defs₀ (F := F)) 𝒱₀ (tv d L) none) Set.univ
          (k0_t2_body L dstV (Memref.isWhole_whole _) srcV (Memref.isWhole_whole _) lV (Memref.isWhole_whole _) cntsV (Memref.isWhole_whole _) totsV (Memref.isWhole_whole _)
            dB (Memref.isWhole_whole _) sB (Memref.isWhole_whole _) kB (Memref.isWhole_whole _) nB (Memref.isWhole_whole _) tB (Memref.isWhole_whole _)
            cc0_scoped0 cc0_scoped1 cc0_scoped2 cc0_scoped3 cc0_scoped4 v1 v2 k tot)
          fun tot' => binv2 (F := F) d L X Y O Wt (k.val + 1) tot' := by
  subst hv2
  have hk : k.val < 8 := Nat.lt_of_lt_of_le k.isLt k0_t2_abs.2.1
  unfold binv2
  rw [SparseCore.bigSep_erase' (s := Finset.univ) (Finset.mem_univ (⟨k.val, hk⟩ : Fin 8))]
  iintro ⟨Hmw, Hd, Hs, ⟨%f0, Hdb⟩, ⟨%f1, Hsb⟩, ⟨%f2, Hkb⟩, ⟨%g, %hg, Hn⟩, H0, H1, H2, ⟨⟨%l, -, Hl⟩, Hls⟩, %W', %hW', HO⟩
  obtain ⟨hg, rfl⟩ := hg
  ihave Hl' := (Entails.of_eq (pts_lK (F := F) d L k l).symm) $$ Hl
  unfold k0_t2_body
  rw [k0_part1_eq_skeleton]
  unfold k0_part1_skel
  sl_exec (disch := exact View.amount_pos _ _ (show 0 < S40000.numel by decide))
  have eA : btrip2.sl.dma0 (F := F) d X k = buf (F := F) (seg (X d) k.val) := read_seg_d (F := F) k (X d)
  have eB : btrip2.sl.dma0_1 (F := F) d Y k = buf (F := F) (seg (Y d) k.val) := read_seg_s (F := F) k (Y d)
  rw [eA, eB]
  rw [wp_bind]
  sl_for (binv3 (F := F) d L (tile L) (seg (X d) k.val) (seg (Y d) k.val)) $$ [Hdb Hsb Hkb]
  case region =>
    intro k3 cur
    exact btrip3 d L (tile L) _ _ _ _ _ k k3 cur
  · unfold binv3
    rw [View.write_whole_univ, View.write_whole_univ]
    isplitl [Hdb]; · iexact Hdb
    isplitl [Hsb]; · iexact Hsb
    iexists f2
    isplitr [Hkb]
    · ipureintro
      exact ⟨fun e he => absurd he (by omega), rfl⟩
    · iexact Hkb
  iintro %cur HI
  unfold binv3
  icases HI with ⟨Hdb, Hsb, %f, %hf, Hkb⟩
  sl_exec (disch := exact View.amount_pos _ _ (show 0 < S40000.numel by decide))
  rw [show 16 * Scf.trips k0_t3_loop.lb k0_t3_loop.ub k0_t3_loop.st = 40000 by decide] at hf
  obtain ⟨hf, rfl⟩ := hf
  rw [show btrip2.sl.v41 (F := F) d L X k (BitVec.ofNat 32 (kept (tile L) (seg (X d) k.val) 40000)) = BitVec.ofNat 32 (chunks (X d) (tile L) (k.val + 1)) from by
    refine (congrArg (BitVec.ofNat 32 (chunks (X d) (tile L) k.val) + ·) (chunks_eq _ (len_le (X d) (tile L) k.val))).trans ?_
    rw [← BitVec.ofNat_add]
    exact congrArg _ (Finset.sum_range_succ _ _).symm]
  rw [wp_ret]; imodintro
  isplitl [Hmw]; · iexact Hmw
  isplitl [Hd]; · iexact Hd
  isplitl [Hs]; · iexact Hs
  isplitl [Hdb]; · iexists _; iexact Hdb
  isplitl [Hsb]; · iexists _; iexact Hsb
  isplitl [Hkb]; · iexists _; iexact Hkb
  isplitl [Hn]
  · iexists _
    isplitr [Hn]
    · ipureintro
      exact ⟨fun j hj => lens_step (F := F) (tile L) (X d) k g hg j hj, rfl⟩
    · iexact Hn
  isplitl [H0]; · iexact H0
  isplitl [H1]; · iexact H1
  isplitl [H2]; · iexact H2
  isplitr [HO]
  · rw [SparseCore.bigSep_erase' (s := Finset.univ) (Finset.mem_univ (⟨k.val, hk⟩ : Fin 8))]
    isplitl [Hl']
    · iexists _
      isplitr [Hl']
      · ipureintro
        exact fun _ => seg_step (F := F) L (X d) (Y d) k l f hf
      · ihave Hl := (Entails.of_eq (pts_lK (F := F) d L k _)) $$ Hl'
        iexact Hl
    · iapply (show (bigSep (Finset.univ.erase (⟨k.val, hk⟩ : Fin 8)) fun s => segPts (F := F) X Y d (tile L) k.val s.val)
          ⊢ bigSep (Finset.univ.erase (⟨k.val, hk⟩ : Fin 8)) fun s => segPts (F := F) X Y d (tile L) (k.val + 1) s.val from bigSep_mono fun s hs => segPts_step (F := F) d X Y (tile L) k.val s.val
        fun h => (Finset.mem_erase.mp hs).1 (Fin.ext h))
      iexact Hls
  · iexists _
    isplitr [HO]
    rotate_left
    · iexact HO
    · ipureintro
      intro p hp
      simp only [Finset.mem_insert, Set.mem_insert_iff] at hp
      rcases hp with rfl | rfl | rfl | hp
      · exact .inr rfl
      · exact .inr rfl
      · exact .inr rfl
      · exact hW' p hp

/-! ## The task -/

/-- The parts of the lengths and of the totals a tile writes, as the body spells them. -/
abbrev cK : Memref sig .scVector .hbm S128 .i32 := (cntsV).slice (Rect.unit (s := S4096) (k0_off6 L) S128.size (k0_off6_inb L)) (fun _ => rfl)
abbrev tK : Memref sig .scVector .hbm S16 .i32 := (totsV).slice (Rect.unit (s := S512) (k0_off7 L) S16.size (k0_off7_inb L)) (fun _ => rfl)

theorem off6 : k0_off6 L 0 = 128 * tile L := by
  rw [k0_off6_eq]; show 256 * (L 1).val + 128 * (L 0).val = _
  unfold tile; omega

theorem off7 : k0_off7 L 0 = 16 * tile L := by
  rw [k0_off7_eq]; show 32 * (L 1).val + 16 * (L 0).val = _
  unfold tile; omega

theorem set_cK : (cK L).view.set = cSet (tile L) := by
  ext j
  rw [mem_cSet]
  show j ∈ ((View.whole main_v61_1_scv).slice (Rect.unit (s := S4096) (k0_off6 L) S128.size (k0_off6_inb L))).set ↔ _
  rw [View.set_slice_whole, Rect.mem_set_unit]
  constructor
  · intro hj
    have := hj 0
    rw [off6] at this; exact this
  · intro hj a
    match a with
    | 0 => rw [off6]; exact hj

theorem set_tK : (tK L).view.set = tSet (tile L) := by
  ext j
  rw [mem_tSet]
  show j ∈ ((View.whole main_v61_2_scv).slice (Rect.unit (s := S512) (k0_off7 L) S16.size (k0_off7_inb L))).set ↔ _
  rw [View.set_slice_whole, Rect.mem_set_unit]
  constructor
  · intro hj
    have := hj 0
    rw [off7] at this; exact this
  · intro hj a
    match a with
    | 0 => rw [off7]; exact hj

theorem pts_cK (g : Buf (Elt F) (cLoc d)) :
    ((cK L).view.loc (tv d L) ↦[(cK L).view.set]{fullShare} g : sProp 𝕄) = cLoc d ↦[cSet (tile L)]{fullShare} g := by
  rw [set_cK]

theorem pts_tK (g : Buf (Elt F) (tLoc d)) :
    ((tK L).view.loc (tv d L) ↦[(tK L).view.set]{fullShare} g : sProp 𝕄) = tLoc d ↦[tSet (tile L)]{fullShare} g := by
  rw [set_tK]

theorem btrip1 (k : Fin k0_t1_loop.trips) (u : Unit) :
    (iprop(∃ f, (kB).view.loc (tv d L) ↦{fullShare} f) : sProp 𝕄)
      ⊢ wp frame (wpE (defs₀ (F := F)) 𝒱₀ (tv d L) none) Set.univ
          (k0_t1_body L dstV (Memref.isWhole_whole _) srcV (Memref.isWhole_whole _) lV (Memref.isWhole_whole _) cntsV (Memref.isWhole_whole _) totsV (Memref.isWhole_whole _)
            dB (Memref.isWhole_whole _) sB (Memref.isWhole_whole _) kB (Memref.isWhole_whole _) nB (Memref.isWhole_whole _) tB (Memref.isWhole_whole _)
            cc0_scoped0 cc0_scoped1 cc0_scoped2 cc0_scoped3 cc0_scoped4 k u)
          fun _ => iprop(∃ f, (kB).view.loc (tv d L) ↦{fullShare} f) := by
  iintro ⟨%f, Hkb⟩
  unfold k0_t1_body
  sl_exec
  sl_step
  iexists _; iexact Hkb

/-- The lengths copied out are the tile's. -/
theorem lens_out (X : Vec F S320000 .i32) (gc : Vec F S4096 .i32) (g : Vec F S128 .i32)
    (hg : ∀ j : S128.Idx, (j 0).val < 128 → g j = BitVec.ofNat 32 (len X (tile L) ((j 0).val / 16))) (i : S4096.Idx) (hi : i ∈ (cK L).view.set) :
    (cK L).view.writes (Elt F) gc [⟨Rect.whole S128, g⟩] i = lens X i := by
  obtain ⟨y, -, rfl⟩ := Finset.mem_map.mp hi
  have h1 := writes_whole (F := F) (s := S128) (cK L).view gc g y
  rw [cast_eq] at h1
  rw [h1, hg y (y 0).isLt]
  have hy : (y 0).val < 128 := (y 0).isLt
  have h6 := off6 L
  have he : (((cK L).view.emb y) 0).val = 128 * tile L + (y 0).val := by
    show k0_off6 L 0 + 1 * (y 0).val = _
    omega
  unfold lens
  rw [he, show (128 * tile L + (y 0).val) / 128 = tile L by omega, show (128 * tile L + (y 0).val) % 128 / 16 = (y 0).val / 16 by omega]

/-- The totals copied out are the tile's. -/
theorem totals_out (X : Vec F S320000 .i32) (gt : Vec F S512 .i32) (g : Vec F S16 .i32)
    (hg : ∀ j : S16.Idx, g j = BitVec.ofNat 32 (chunks X (tile L) 8)) (i : S512.Idx) (hi : i ∈ (tK L).view.set) :
    (tK L).view.writes (Elt F) gt [⟨Rect.whole S16, g⟩] i = totals X i := by
  obtain ⟨y, -, rfl⟩ := Finset.mem_map.mp hi
  have h1 := writes_whole (F := F) (s := S16) (tK L).view gt g y
  rw [cast_eq] at h1
  rw [h1, hg y]
  have hy : (y 0).val < 16 := (y 0).isLt
  have h7 := off7 L
  have he : (((tK L).view.emb y) 0).val = 16 * tile L + (y 0).val := by
    show k0_off7 L 0 + 1 * (y 0).val = _
    omega
  unfold totals
  rw [he, show (16 * tile L + (y 0).val) / 16 = tile L by omega]

/-- The total's buffer, once the total is stored, holds it in every lane. -/
theorem tot_read (f : Vec F S16 .i32) (tot : BitVec 32) (j : S16.Idx) :
    View.read (Elt F) (tB).view ((tB).view.writes (Elt F) f [⟨Rect.unit (s := S16) ![0] S16.size inb_S16_S16_0, k0_pay2 tot⟩]) j = tot :=
  View.read_writes_cons_hit_of_coords (tB).view f (Rect.unit (s := S16) ![0] S16.size inb_S16_S16_0) (k0_pay2 tot) [] j j fun a => by
    match a with
    | 0 => exact (show (j 0).val = 0 + 1 * (j 0).val by omega)

theorem pts_tB (g : Buf (Elt F) ((tv d L).loc cc0_scratch4)) :
    ((tB).view.loc (tv d L) ↦{fullShare} g : sProp 𝕄) = (tv d L).loc cc0_scratch4 ↦{fullShare} g := rfl

/-- The semaphores and the scratches of the tile's that the first call names, and the rest. -/
abbrev binSems : List (DmaSem sig) := [cc0_scoped0.sem, cc0_scoped1.sem, cc0_scoped2.sem, cc0_scoped3.sem, cc0_scoped4.sem]
abbrev binBufs : List (Ref sig .scVector) := [cc0_scratch0, cc0_scratch1, cc0_scratch2, cc0_scratch3, cc0_scratch4]

theorem bin_own : ∀ b ∈ binBufs, (own L b).owner = .proc (.scVector (cV L) (jV L)) := by
  intro b hb
  repeat (cases hb with | head => rfl | tail _ hb => ?_)
  exact nomatch hb

set_option maxHeartbeats 4000000 in
/-- One tile's task: from its parts of the edges and of the results, at any contents, to its lists, their lengths and its total. -/
theorem tile_body (hF : (K (F := F)).Facts) (O : CellTallies nD τ sig (HIx 7)) (W : Waits sig (HIx 7)) (hO : ∀ g, O g none = 0) :
    iprop(levAts (K (F := F)).L (K (F := F)).lev ∗ emp ∗ TileIn X Y d (tile L) ∗ scopedBufs (tv d L) ∗ scopedSems0 (tv d L) ∗ owes (tv d L) O W)
      ⊢ wp frame (wpE (defs₀ (F := F)) 𝒱₀ (tv d L) none) Set.univ
          (cc0__bin_kernel L dstV (Memref.isWhole_whole _) srcV (Memref.isWhole_whole _) lV (Memref.isWhole_whole _) cntsV (Memref.isWhole_whole _) totsV (Memref.isWhole_whole _)
            dB (Memref.isWhole_whole _) sB (Memref.isWhole_whole _) kB (Memref.isWhole_whole _) nB (Memref.isWhole_whole _) tB (Memref.isWhole_whole _)
            cc0_scoped0 cc0_scoped1 cc0_scoped2 cc0_scoped3 cc0_scoped4)
          fun _ => iprop(TileOut X Y d (tile L) ∗ scopedBufs (tv d L) ∗ scopedSems0 (tv d L)
            ∗ ∃ W', ⌜∀ p ∈ W', p ∈ W ∨ p.2 = none ∨ p.2 = some (0 : Fin 7)⌝ ∗ owes (tv d L) O W') := by
  rw [(K (F := F)).scopedBufs_V hF d (cV L) (jV L), SparseCore.Cfg.scopedSems0_V (Val := Elt F) d (cV L) (jV L),
    ownSems0_peel (F := F) d L binSems (by decide) (by decide), ownBufs_peel (F := F) d L binBufs (by decide) (bin_own L)]
  simp only [binSems, binBufs, List.foldr_cons, List.foldr_nil]
  unfold TileIn TileOut
  iintro ⟨#Hlv, -, ⟨Hd, Hs, Hls, ⟨%gc, Hc⟩, %gt, Ht⟩, ⟨⟨%f0, Hdb⟩, ⟨%f1, Hsb⟩, ⟨%f2, Hkb⟩, ⟨%f3, Hn⟩, ⟨%f4, Htb⟩, HB⟩, ⟨H0, H1, H2, H3, H4, HS⟩, HO⟩
  ihave Hmw := (show levAts (K (F := F)).L (K (F := F)).lev ⊢ Transfers.MayWaits (tv d L) (default : HIx 7) O from
    (K (F := F)).mayWaits_none (thr := tv d L) hO) $$ Hlv
  ihave Htb := (Entails.of_eq (pts_tB (F := F) d L f4).symm) $$ Htb
  ihave Hc' := (Entails.of_eq (pts_cK (F := F) d L gc).symm) $$ Hc
  ihave Ht' := (Entails.of_eq (pts_tK (F := F) d L gt).symm) $$ Ht
  rw [cc0__bin_kernel_eq_skeleton]
  unfold cc0__bin_kernel_skel
  sl_exec
  sl_for (fun (_ : ℕ) (_ : Unit) => iprop(∃ f, (kB).view.loc (tv d L) ↦{fullShare} f)) $$ [Hkb]
  case region =>
    intro k u
    exact btrip1 (F := F) d L k u
  · iexists _; iexact Hkb
  iintro %_ ⟨%f2', Hkb⟩
  sl_for (binv2 (F := F) d L X Y O W) $$ [Hmw Hd Hs Hdb Hsb Hkb Hn H0 H1 H2 Hls HO]
  case region =>
    intro k tot
    exact btrip2 d L X Y O W _ _ (lo_eq L) k tot
  · unfold binv2
    isplitl [Hmw]; · iexact Hmw
    isplitl [Hd]; · iexact Hd
    isplitl [Hs]; · iexact Hs
    isplitl [Hdb]; · iexists _; iexact Hdb
    isplitl [Hsb]; · iexists _; iexact Hsb
    isplitl [Hkb]; · iexists _; iexact Hkb
    isplitl [Hn]
    · iexists f3
      isplitr [Hn]
      · ipureintro
        exact ⟨fun j hj => absurd hj (by omega), rfl⟩
      · iexact Hn
    isplitl [H0]; · iexact H0
    isplitl [H1]; · iexact H1
    isplitl [H2]; · iexact H2
    isplitl [Hls]; · iexact Hls
    iexists W
    isplitr [HO]
    · ipureintro; exact fun p hp => .inl hp
    · iexact HO
  iintro %tot HI
  unfold binv2
  icases HI with ⟨Hmw, Hd, Hs, ⟨%f0', Hdb⟩, ⟨%f1', Hsb⟩, ⟨%f2'', Hkb⟩, ⟨%g, %hg, Hn⟩, H0, H1, H2, Hls, %W', %hW', HO⟩
  sl_exec (disch := exact View.amount_pos _ _ (by decide))
  rw [show Scf.trips k0_t2_loop.lb k0_t2_loop.ub k0_t2_loop.st = 8 by decide] at hg
  obtain ⟨hg, rfl⟩ := hg
  rw [show tile_body.sl.dma2 (F := F) g = g from rfl,
    show tile_body.sl.dma2_1 (F := F) d L f4 (BitVec.ofNat 32 (chunks (X d) (tile L) 8)) = fun _ => BitVec.ofNat 32 (chunks (X d) (tile L) 8) from
      funext fun j => tot_read (F := F) f4 _ j]
  ihave Hc := (Entails.of_eq ((pointsTo_congr fun i hi => lens_out (F := F) L (X d) gc g hg i hi).trans (pts_cK (F := F) d L (lens (X d))))) $$ Hc'
  ihave Ht := (Entails.of_eq ((pointsTo_congr fun i hi => totals_out (F := F) L (X d) gt (fun _ => BitVec.ofNat 32 (chunks (X d) (tile L) 8)) (fun _ => rfl) i hi).trans (pts_tK (F := F) d L (totals (X d))))) $$ Ht'
  rw [wp_ret]; imodintro
  isplitl [Hd Hs Hls Hc Ht]
  · isplitl [Hd]; · iexact Hd
    isplitl [Hs]; · iexact Hs
    isplitl [Hls]; · iexact Hls
    isplitl [Hc]; · iexact Hc
    iexact Ht
  isplitl [Hdb Hsb Hkb Hn Htb HB]
  · isplitl [Hdb]; · iexists _; iexact Hdb
    isplitl [Hsb]; · iexists _; iexact Hsb
    isplitl [Hkb]; · iexists _; iexact Hkb
    isplitl [Hn]; · iexists _; iexact Hn
    isplitl [Htb]; · iexists _; iexact Htb
    iexact HB
  isplitl [H0 H1 H2 H3 H4 HS]
  · isplitl [H0]; · iexact H0
    isplitl [H1]; · iexact H1
    isplitl [H2]; · iexact H2
    isplitl [H3]; · iexact H3
    isplitl [H4]; · iexact H4
    iexact HS
  iexists (insert (SemLoc.dma cc0_scoped4.sem, (default : HIx 7)) (insert (SemLoc.dma cc0_scoped3.sem, (default : HIx 7)) W'))
  isplitr [HO]
  · ipureintro
    intro p hp
    simp only [Finset.mem_insert, Set.mem_insert_iff] at hp
    rcases hp with rfl | rfl | hp
    · exact .inr (.inl rfl)
    · exact .inr (.inl rfl)
    · exact (hW' p hp).elim .inl fun h => .inr (.inl h)
  · iexact HO

/-! ## The body table's task -/

/-- The tile's coordinates on the call's grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__bin_kernel (coordsV c s)
          dstV (Memref.isWhole_whole _) srcV (Memref.isWhole_whole _) lV (Memref.isWhole_whole _) cntsV (Memref.isWhole_whole _) totsV (Memref.isWhole_whole _)
          dB (Memref.isWhole_whole _) sB (Memref.isWhole_whole _) kB (Memref.isWhole_whole _) nB (Memref.isWhole_whole _) tB (Memref.isWhole_whole _)
          cc0_scoped0 cc0_scoped1 cc0_scoped2 cc0_scoped3 cc0_scoped4) ⟨⟩ c s := rfl

variable (N : Net F)

theorem tileObl0 (hF : (K (F := F)).Facts) : (K (F := F)).TileObl (D (F := F)) 𝒱 (P N) v₀ 0 := by
  intro d c i O Wt hO _ _
  -- the call owes nothing for a protocol of its own
  simp only [show (P N).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) N.X N.Y hF O Wt hO

end Cert.Proof.Bin

end
-- ==== Proof.Parts.lean ====
/-
  The calls' arrays dealt to the tiles and collected from them.
-/
module

public import proofs.«01_k».proof.Proof.Pay
public import Idealize.ShloMosaic.Lib.Ring

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 7) (Elt F) ℕ UU ℕ

/-! ## Parts that each hold what they should -/

/-- Disjoint parts, each at contents that satisfy a predicate of that part's elements, are their union at contents that satisfy
    all of them. -/
theorem join {I : Type} {ℓ : Loc nD τ sig} (Sx : Finset I) (Kx : I → Finset (Idx ℓ)) (Pr : I → Buf (Elt F) ℓ → Prop)
    (h : ∀ i ∈ Sx, ∀ j ∈ Sx, i ≠ j → Disjoint (Kx i) (Kx j)) (hPr : ∀ i g g', (∀ j ∈ Kx i, g' j = g j) → Pr i g → Pr i g') (f₀ : Buf (Elt F) ℓ) :
    (bigSep Sx fun i => iprop(∃ g, ⌜Pr i g⌝ ∗ ℓ ↦[Kx i]{fullShare} g)) ⊢ (iprop(∃ g, ⌜∀ i ∈ Sx, Pr i g⌝ ∗ ℓ ↦[Sx.biUnion Kx]{fullShare} g) : sProp 𝕄) := by
  classical
  induction Sx using Finset.induction_on with
  | empty =>
    iintro -
    iexists f₀
    isplitr
    · ipureintro
      exact fun i hi => absurd hi (Finset.notMem_empty i)
    · rw [Finset.biUnion_empty, pointsTo_empty]; iempintro
  | insert t Sx ht ih =>
    have hd : Disjoint (Kx t) (Sx.biUnion Kx) := (Finset.disjoint_biUnion_right _ _ _).mpr fun j hj =>
      h t (Finset.mem_insert_self _ _) j (Finset.mem_insert_of_mem hj) fun e => ht (e ▸ hj)
    rw [SparseCore.bigSep_insert' ht, Finset.biUnion_insert]
    iintro ⟨⟨%g, %hg, Hg⟩, HS⟩
    ihave HS' := (ih fun i hi j hj => h i (Finset.mem_insert_of_mem hi) j (Finset.mem_insert_of_mem hj)) $$ HS
    icases HS' with ⟨%g', %hg', Hg'⟩
    iexists ((Sx.biUnion Kx).piecewise g' g)
    isplitr [Hg Hg']
    · ipureintro
      intro i hi
      rcases Finset.mem_insert.mp hi with rfl | hi
      · exact hPr i g _ (fun j hj => Finset.piecewise_eq_of_notMem _ _ _ fun hm => Finset.disjoint_left.mp hd hj hm) hg
      · exact hPr i g' _ (fun j hj => Finset.piecewise_eq_of_mem _ _ _ (Finset.mem_biUnion.mpr ⟨i, hi, hj⟩)) (hg' i hi)
    · iapply (pointsTo_join hd)
      isplitl [Hg] <;> iassumption

/-- The thirty-two tiles, as the launch numbers them: subcore by core. -/
theorem bigSep_tiles (Φ : ℕ → sProp 𝕄) :
    (bigSep Finset.univ fun c : Fin 2 => bigSep Finset.univ fun i : Fin 16 => Φ (2 * i.val + c.val)) = bigSep (Finset.range 32) Φ := by
  have h16 : ∀ Ψ : ℕ → sProp 𝕄, (bigSep Finset.univ fun i : Fin 16 => Ψ i.val) = bigSep (Finset.range 16) Ψ := fun Ψ => by
    rw [← Nat.Iio_eq_range, ← Fin.map_valEmbedding_univ, BI.bigSep_map]; rfl
  rw [BI.bigSep_fin_two, h16 fun i => Φ (2 * i + (0 : Fin 2).val), h16 fun i => Φ (2 * i + (1 : Fin 2).val)]
  exact (Ring.bigSep_range_deinterleave 16 Φ).symm

/-! ## The sets -/

/-- All of tile `t`'s lists. -/
def tileSet (t : ℕ) : Finset S10240128.Idx := (Finset.univ : Finset (Fin 8)).biUnion fun s => segSet t s.val

theorem mem_tileSet {t : ℕ} {j : S10240128.Idx} (h : j ∈ tileSet t) : 320000 * t ≤ (j 0).val ∧ (j 0).val < 320000 * t + 320000 := by
  obtain ⟨s, -, hs⟩ := Finset.mem_biUnion.mp h
  have := mem_segSet.mp hs
  have := s.isLt
  omega

theorem segs_disjoint (t : ℕ) : ∀ s ∈ (Finset.univ : Finset (Fin 8)), ∀ s' ∈ (Finset.univ : Finset (Fin 8)), s ≠ s' → Disjoint (segSet t s.val) (segSet t s'.val) := by
  intro s _ s' _ hne
  refine Finset.disjoint_left.mpr fun j hj hj' => hne (Fin.ext ?_)
  have := mem_segSet.mp hj
  have := mem_segSet.mp hj'
  omega

theorem tiles_disjoint : ∀ t ∈ Finset.range 32, ∀ t' ∈ Finset.range 32, t ≠ t' → Disjoint (tileSet t) (tileSet t') := by
  intro t _ t' _ hne
  refine Finset.disjoint_left.mpr fun j hj hj' => hne ?_
  have := mem_tileSet hj
  have := mem_tileSet hj'
  omega

/-- All the lists; the array's last words are beyond them. -/
def listSet : Finset S10240128.Idx := (Finset.range 32).biUnion tileSet

theorem cSets_disjoint : ∀ t ∈ Finset.range 32, ∀ t' ∈ Finset.range 32, t ≠ t' → Disjoint (cSet t) (cSet t') := by
  intro t _ t' _ hne
  refine Finset.disjoint_left.mpr fun j hj hj' => hne ?_
  have := mem_cSet.mp hj
  have := mem_cSet.mp hj'
  omega

theorem tSets_disjoint : ∀ t ∈ Finset.range 32, ∀ t' ∈ Finset.range 32, t ≠ t' → Disjoint (tSet t) (tSet t') := by
  intro t _ t' _ hne
  refine Finset.disjoint_left.mpr fun j hj hj' => hne ?_
  have := mem_tSet.mp hj
  have := mem_tSet.mp hj'
  omega

theorem cSets_cover : (Finset.range 32).biUnion cSet = Finset.univ := by
  ext j
  have hj : (j 0).val < 4096 := (j 0).isLt
  simp only [Finset.mem_biUnion, Finset.mem_univ, iff_true]
  exact ⟨(j 0).val / 128, Finset.mem_range.mpr (by omega), mem_cSet.mpr ⟨by omega, by omega⟩⟩

theorem tSets_cover : (Finset.range 32).biUnion tSet = Finset.univ := by
  ext j
  have hj : (j 0).val < 512 := (j 0).isLt
  simp only [Finset.mem_biUnion, Finset.mem_univ, iff_true]
  exact ⟨(j 0).val / 16, Finset.mem_range.mpr (by omega), mem_tSet.mpr ⟨by omega, by omega⟩⟩

variable [FloatOps F] (X Y : Dev nD → Vec F S320000 .i32)

/-! ## Dealing and collecting -/

/-- What stays behind during the call: the shares no tile takes, the lists' array beyond the lists. -/
def Rest (d : Dev nD) : sProp 𝕄 :=
  iprop((dstLoc d ↦{shareDrop fullShare 32} X d) ∗ (srcLoc d ↦{shareDrop fullShare 32} Y d) ∗ ∃ g, lLoc d ↦[Finset.univ \ listSet]{fullShare} g)

theorem pts_cSets (d : Dev nD) (g : Buf (Elt F) (cLoc d)) :
    (cLoc d ↦{fullShare} g : sProp 𝕄) = bigSep (Finset.range 32) fun t => cLoc d ↦[cSet t]{fullShare} g := by
  rw [← pointsTo_biUnion (Finset.range 32) (ℓ := cLoc d) cSet cSets_disjoint, cSets_cover]; try rfl
theorem pts_tSets (d : Dev nD) (g : Buf (Elt F) (tLoc d)) :
    (tLoc d ↦{fullShare} g : sProp 𝕄) = bigSep (Finset.range 32) fun t => tLoc d ↦[tSet t]{fullShare} g := by
  rw [← pointsTo_biUnion (Finset.range 32) (ℓ := tLoc d) tSet tSets_disjoint, tSets_cover]; try rfl

theorem pts_lists (d : Dev nD) (g : Buf (Elt F) (lLoc d)) :
    (lLoc d ↦{fullShare} g : sProp 𝕄) ⊢ iprop((bigSep (Finset.range 32) fun t => bigSep Finset.univ fun s : Fin 8 => lLoc d ↦[segSet t s.val]{fullShare} g)
      ∗ lLoc d ↦[Finset.univ \ listSet]{fullShare} g) := by
  have e1 : (bigSep (Finset.range 32) fun t => bigSep Finset.univ fun s : Fin 8 => (lLoc d ↦[segSet t s.val]{fullShare} g : sProp 𝕄))
      = lLoc d ↦[listSet]{fullShare} g := by
    unfold listSet
    rw [pointsTo_biUnion (Finset.range 32) (ℓ := lLoc d) tileSet tiles_disjoint]
    exact bigSep_congr fun t _ => (pointsTo_biUnion Finset.univ (ℓ := lLoc d) (fun s : Fin 8 => segSet t s.val) (segs_disjoint t)).symm
  rw [e1]
  refine Entails.trans (Entails.of_eq ?_) (pointsTo_union Finset.disjoint_sdiff).1
  rw [Finset.union_sdiff_of_subset (Finset.subset_univ _)]

theorem some_pts {ℓ : Loc nD τ sig} (Kx : Finset (Idx ℓ)) (g : Buf (Elt F) ℓ) : (ℓ ↦[Kx]{fullShare} g : sProp 𝕄) ⊢ iprop(∃ g, ℓ ↦[Kx]{fullShare} g) := by
  iintro H; iexists g; iexact H

theorem segPts_start (d : Dev nD) (t s : ℕ) (g : Buf (Elt F) (lLoc d)) : (lLoc d ↦[segSet t s]{fullShare} g : sProp 𝕄) ⊢ segPts X Y d t 0 s := by
  unfold segPts
  iintro H
  iexists g
  isplitr [H]
  · ipureintro
    exact fun h => absurd h (Nat.not_lt_zero _)
  · iexact H

theorem segPts_done (d : Dev nD) (t s : ℕ) (hs : s < 8) :
    segPts X Y d t 8 s ⊢ (iprop(∃ g, ⌜SegOK (X d) (Y d) t s g⌝ ∗ lLoc d ↦[segSet t s]{fullShare} g) : sProp 𝕄) := by
  unfold segPts
  iintro ⟨%g, %hg, H⟩
  iexists g
  isplitr [H]
  · ipureintro
    exact hg hs
  · iexact H

theorem deal (d : Dev nD) (gl : Buf (Elt F) (lLoc d)) (gc : Buf (Elt F) (cLoc d)) (gt : Buf (Elt F) (tLoc d)) :
    iprop((dstLoc d ↦{fullShare} X d) ∗ (srcLoc d ↦{fullShare} Y d) ∗ (lLoc d ↦{fullShare} gl) ∗ (cLoc d ↦{fullShare} gc) ∗ tLoc d ↦{fullShare} gt)
      ⊢ iprop((bigSep (Finset.range 32) fun t => TileIn X Y d t) ∗ Rest X Y d) := by
  unfold TileIn Rest
  rw [pts_cSets, pts_tSets, bigSep_sep', bigSep_sep', bigSep_sep', bigSep_sep']
  iintro ⟨Hd, Hs, Hl, Hc, Ht⟩
  ihave Hd' := (Transfers.pointsTo_toks_range (ℓ := dstLoc d) (S := Finset.univ) (f := X d) fullShare 32).1 $$ Hd
  ihave Hs' := (Transfers.pointsTo_toks_range (ℓ := srcLoc d) (S := Finset.univ) (f := Y d) fullShare 32).1 $$ Hs
  ihave Hl' := (pts_lists (F := F) d gl) $$ Hl
  icases Hd' with ⟨Hd0, Hd⟩
  icases Hs' with ⟨Hs0, Hs⟩
  icases Hl' with ⟨Hl, Hl0⟩
  isplitr [Hd0 Hs0 Hl0]
  · isplitl [Hd]; · iexact Hd
    isplitl [Hs]; · iexact Hs
    isplitl [Hl]
    · iapply (show (bigSep (Finset.range 32) fun t => bigSep Finset.univ fun s : Fin 8 => (lLoc d ↦[segSet t s.val]{fullShare} gl : sProp 𝕄))
          ⊢ bigSep (Finset.range 32) fun t => bigSep Finset.univ fun s : Fin 8 => segPts X Y d t 0 s.val from
        bigSep_mono fun t _ => bigSep_mono fun s _ => segPts_start X Y d t s.val gl)
      iexact Hl
    isplitl [Hc]
    · iapply (show (bigSep (Finset.range 32) fun t => (cLoc d ↦[cSet t]{fullShare} gc : sProp 𝕄)) ⊢ bigSep (Finset.range 32) fun t => iprop(∃ g, cLoc d ↦[cSet t]{fullShare} g) from
        bigSep_mono fun t _ => some_pts _ gc)
      iexact Hc
    · iapply (show (bigSep (Finset.range 32) fun t => (tLoc d ↦[tSet t]{fullShare} gt : sProp 𝕄)) ⊢ bigSep (Finset.range 32) fun t => iprop(∃ g, tLoc d ↦[tSet t]{fullShare} g) from
        bigSep_mono fun t _ => some_pts _ gt)
      iexact Ht
  · isplitl [Hd0]; · iexact Hd0
    isplitl [Hs0]; · iexact Hs0
    iexists gl; iexact Hl0

/-- All the lists are right. -/
def AllOK (X Y : S320000.Idx → BitVec 32) (g : S10240128.Idx → BitVec 32) : Prop := ∀ t ∈ Finset.range 32, ∀ s ∈ (Finset.univ : Finset (Fin 8)), SegOK X Y t s.val g

theorem SegOK_congr (X Y : S320000.Idx → BitVec 32) (t s : ℕ) (g g' : S10240128.Idx → BitVec 32) (h : ∀ j ∈ segSet t s, g' j = g j) (hg : SegOK X Y t s g) :
    SegOK X Y t s g' := by
  intro e he hm j hj
  have := kept_le t (seg X s) e
  rw [h j (mem_segSet.mpr ⟨by omega, by omega⟩)]
  exact hg e he hm j hj

theorem lists_join (d : Dev nD) (g₀ : Buf (Elt F) (lLoc d)) :
    iprop((bigSep (Finset.range 32) fun t => bigSep Finset.univ fun s : Fin 8 => segPts X Y d t 8 s.val) ∗ ∃ g, lLoc d ↦[Finset.univ \ listSet]{fullShare} g)
      ⊢ (iprop(∃ g, ⌜AllOK (X d) (Y d) g⌝ ∗ lLoc d ↦{fullShare} g) : sProp 𝕄) := by
  have h1 : ∀ t, (bigSep Finset.univ fun s : Fin 8 => segPts X Y d t 8 s.val)
      ⊢ (iprop(∃ g, ⌜∀ s ∈ (Finset.univ : Finset (Fin 8)), SegOK (X d) (Y d) t s.val g⌝ ∗ lLoc d ↦[tileSet t]{fullShare} g) : sProp 𝕄) := fun t =>
    (show (bigSep Finset.univ fun s : Fin 8 => segPts X Y d t 8 s.val)
        ⊢ bigSep Finset.univ fun s : Fin 8 => (iprop(∃ g, ⌜SegOK (X d) (Y d) t s.val g⌝ ∗ lLoc d ↦[segSet t s.val]{fullShare} g) : sProp 𝕄) from
      bigSep_mono fun s _ => segPts_done X Y d t s.val s.isLt).trans
    (join (ℓ := lLoc d) Finset.univ (fun s : Fin 8 => segSet t s.val) (fun s g => SegOK (X d) (Y d) t s.val g) (segs_disjoint t)
      (fun s g g' h hg => SegOK_congr (X d) (Y d) t s.val g g' h hg) g₀)
  iintro ⟨H, %g', H'⟩
  ihave H := (show (bigSep (Finset.range 32) fun t => bigSep Finset.univ fun s : Fin 8 => segPts X Y d t 8 s.val)
      ⊢ bigSep (Finset.range 32) fun t => (iprop(∃ g, ⌜∀ s ∈ (Finset.univ : Finset (Fin 8)), SegOK (X d) (Y d) t s.val g⌝ ∗ lLoc d ↦[tileSet t]{fullShare} g) : sProp 𝕄) from
    bigSep_mono fun t _ => h1 t) $$ H
  ihave H := (join (ℓ := lLoc d) (Finset.range 32) tileSet (fun t g => ∀ s ∈ (Finset.univ : Finset (Fin 8)), SegOK (X d) (Y d) t s.val g) tiles_disjoint
      (fun t g g' h hg s hs => SegOK_congr (X d) (Y d) t s.val g g' (fun j hj => h j (Finset.mem_biUnion.mpr ⟨s, hs, hj⟩)) (hg s hs)) g₀) $$ H
  icases H with ⟨%g, %hg, H⟩
  have hu : listSet ∪ (Finset.univ \ listSet) = Finset.univ := Finset.union_sdiff_of_subset (Finset.subset_univ _)
  iexists ((Finset.univ \ listSet).piecewise g' g)
  isplitr [H H']
  · ipureintro
    intro t ht s hs
    refine SegOK_congr (X d) (Y d) t s.val g _ (fun j hj => Finset.piecewise_eq_of_notMem _ _ _ fun hm => ?_) (hg t ht s hs)
    exact (Finset.mem_sdiff.mp hm).2 (Finset.mem_biUnion.mpr ⟨t, ht, Finset.mem_biUnion.mpr ⟨s, hs, hj⟩⟩)
  · have e : ∀ G : Buf (Elt F) (lLoc d), (lLoc d ↦{fullShare} G : sProp 𝕄) = lLoc d ↦[listSet ∪ (Finset.univ \ listSet)]{fullShare} G := fun G => by rw [hu]
    rw [e]
    iapply (pointsTo_join (Finset.disjoint_sdiff (s := listSet) (t := Finset.univ)))
    isplitl [H]
    · iexact H
    · iexact H'

theorem collect (d : Dev nD) (g₀ : Buf (Elt F) (lLoc d)) :
    iprop((bigSep (Finset.range 32) fun t => TileOut X Y d t) ∗ Rest X Y d)
      ⊢ (iprop((dstLoc d ↦{fullShare} X d) ∗ (srcLoc d ↦{fullShare} Y d) ∗ (∃ g, ⌜AllOK (X d) (Y d) g⌝ ∗ lLoc d ↦{fullShare} g)
          ∗ (cLoc d ↦{fullShare} lens (X d)) ∗ tLoc d ↦{fullShare} totals (X d)) : sProp 𝕄) := by
  unfold TileOut Rest
  rw [pts_cSets, pts_tSets, bigSep_sep', bigSep_sep', bigSep_sep', bigSep_sep']
  iintro ⟨⟨Hd, Hs, Hl, Hc, Ht⟩, Hd0, Hs0, Hl0⟩
  isplitl [Hd Hd0]
  · iapply (Transfers.pointsTo_toks_range (ℓ := dstLoc d) (S := Finset.univ) (f := X d) fullShare 32).2
    isplitl [Hd0] <;> iassumption
  isplitl [Hs Hs0]
  · iapply (Transfers.pointsTo_toks_range (ℓ := srcLoc d) (S := Finset.univ) (f := Y d) fullShare 32).2
    isplitl [Hs0] <;> iassumption
  isplitl [Hl Hl0]
  · iapply (lists_join (F := F) X Y d g₀)
    isplitl [Hl] <;> iassumption
  isplitl [Hc] <;> iassumption

/-! ## The sums' rows -/

/-- A tile's rows of the sums are its chunks. -/
theorem outSet_chunks (X : S320000.Idx → BitVec 32) (t : ℕ) : (Finset.range (chunks X t 8)).biUnion (fun n => chunkIdx (base X t + n)) = outSet X t := by
  ext y
  simp only [Finset.mem_biUnion, Finset.mem_range, mem_outSet, chunkIdx, Finset.mem_filter, Finset.mem_univ, true_and]
  constructor
  · rintro ⟨n, hn, h⟩; omega
  · rintro ⟨h1, h2⟩; exact ⟨(y 0).val / 64 - base X t, by omega, by omega, by omega⟩

theorem chunks_disjoint (b m : ℕ) : ∀ n ∈ Finset.range m, ∀ n' ∈ Finset.range m, n ≠ n' → Disjoint (chunkIdx (b + n)) (chunkIdx (b + n')) := by
  intro n _ n' _ hne
  refine Finset.disjoint_left.mpr fun j hj hj' => hne ?_
  have := (Finset.mem_filter.mp hj).2
  have := (Finset.mem_filter.mp hj').2
  omega

theorem outSets_disjoint (X : S320000.Idx → BitVec 32) : ∀ t ∈ Finset.range 32, ∀ t' ∈ Finset.range 32, t ≠ t' → Disjoint (outSet X t) (outSet X t') := by
  have h : ∀ t t', t < t' → Disjoint (outSet X t) (outSet X t') := fun t t' hlt => by
    refine Finset.disjoint_left.mpr fun j hj hj' => ?_
    have h1 := mem_outSet.mp hj
    have h2 := mem_outSet.mp hj'
    have h3 := base_mono X (show t + 1 ≤ t' by omega)
    rw [base_succ] at h3
    omega
  intro t _ t' _ hne
  rcases Nat.lt_or_gt_of_ne hne with hlt | hlt
  · exact h t t' hlt
  · exact (h t' t hlt).symm

/-- All the tiles' rows of the sums. -/
def sumSet (X : S320000.Idx → BitVec 32) : Finset S176640x128.Idx := (Finset.range 32).biUnion (outSet X)

theorem RowsOK_congr (Tb : S10000x128.Idx → F .f32) (X Y : S320000.Idx → BitVec 32) (t n : ℕ) (g g' : S176640x128.Idx → F .f32)
    (h : ∀ j ∈ chunkIdx (base X t + n), g' j = g j) (hg : RowsOK Tb X Y t n g) : RowsOK Tb X Y t n g' := by
  intro s hs e he hm hn c z h0 h1
  rw [h z (Finset.mem_filter.mpr ⟨Finset.mem_univ _, by omega, by omega⟩)]
  exact hg s hs e he hm hn c z h0 h1

section layer

variable (A : Lay) (PT : Dev nD → Vec F S10000x128 .f32 → Prop) (W : Dev nD → Vec F S128x128 .f32) (B : Dev nD → Vec F S1x128 .f32)

theorem SumsOK_congr (d : Dev nD) (t : ℕ) (g g' : S176640x128.Idx → F .f32) (h : ∀ j ∈ outSet (X d) t, g' j = g j) (hg : SumsOK X Y PT d t g) : SumsOK X Y PT d t g' := by
  obtain ⟨Tb, hT, hg⟩ := hg
  exact ⟨Tb, hT, fun n hn => RowsOK_congr Tb (X d) (Y d) t n g g' (fun j hj => h j (by
    rw [← outSet_chunks]; exact Finset.mem_biUnion.mpr ⟨n, Finset.mem_range.mpr hn, hj⟩)) (hg n hn)⟩

theorem sums_deal (d : Dev nD) (g : S176640x128.Idx → F .f32) :
    (A.rows.pts d Finset.univ fullShare g : sProp 𝕄) ⊢ iprop((bigSep (Finset.range 32) fun t => iprop(∃ g, A.rows.pts d (outSet (X d) t) fullShare g))
      ∗ ∃ g, A.rows.pts d (Finset.univ \ sumSet (X d)) fullShare g) := by
  have e2 : (A.rows.pts d (sumSet (X d)) fullShare g : sProp 𝕄) ⊢ bigSep (Finset.range 32) fun t => iprop(∃ g, A.rows.pts d (outSet (X d) t) fullShare g) := by
    unfold sumSet
    rw [Arr.pts_biUnion A.rows d (Finset.range 32) (outSet (X d)) fullShare g (outSets_disjoint (X d))]
    exact bigSep_mono fun t _ => A.rows.some d _ g
  iintro H
  ihave H := (A.rows.cut d (sumSet (X d)) fullShare g) $$ H
  icases H with ⟨H, H0⟩
  isplitl [H]
  · iapply e2; iexact H
  · iexists g; iexact H0

theorem sums_join (d : Dev nD) (g₀ : S176640x128.Idx → F .f32) :
    iprop((bigSep (Finset.range 32) fun t => GatherOut X Y A PT d t) ∗ ∃ g, A.rows.pts d (Finset.univ \ sumSet (X d)) fullShare g)
      ⊢ (iprop(∃ g, ⌜∀ t, t < 32 → SumsOK X Y PT d t g⌝ ∗ A.rows.pts d Finset.univ fullShare g) : sProp 𝕄) := by
  iintro ⟨H, %g', H'⟩
  ihave H := (A.rows.join d (Finset.range 32) (outSet (X d)) (fun t g => SumsOK X Y PT d t g) (outSets_disjoint (X d))
      (fun t g g' h hg => SumsOK_congr X Y PT d t g g' h hg) g₀) $$ [H]
  · iexact H
  icases H with ⟨%g, %hg, H⟩
  iexists ((Finset.univ \ sumSet (X d)).piecewise g' g)
  isplitr [H H']
  · ipureintro
    intro t ht
    refine SumsOK_congr X Y PT d t g _ (fun j hj => Finset.piecewise_eq_of_notMem _ _ _ fun hm => ?_) (hg t (Finset.mem_range.mpr ht))
    exact (Finset.mem_sdiff.mp hm).2 (Finset.mem_biUnion.mpr ⟨t, Finset.mem_range.mpr ht, hj⟩)
  · iapply (A.rows.uncut d (sumSet (X d)) fullShare g g')
    isplitl [H]
    · iexact H
    · iexact H'

end layer

/-! ## The result's rows -/

theorem rows_disjoint : ∀ t ∈ Finset.range 32, ∀ t' ∈ Finset.range 32, t ≠ t' → Disjoint (rowsIdx t) (rowsIdx t') := by
  intro t _ t' _ hne
  refine Finset.disjoint_left.mpr fun j hj hj' => hne ?_
  have := (Finset.mem_filter.mp hj).2
  have := (Finset.mem_filter.mp hj').2
  omega

theorem rows_cover : (Finset.range 32).biUnion rowsIdx = Finset.univ := by
  ext j
  have hj : (j 0).val < 5120 := (j 0).isLt
  simp only [Finset.mem_biUnion, Finset.mem_univ, iff_true]
  exact ⟨(j 0).val / 160, Finset.mem_range.mpr (by omega), Finset.mem_filter.mpr ⟨Finset.mem_univ _, by omega, by omega⟩⟩

theorem NodesOK_congr (M : S176640x128.Idx → F .f32) (l : S10240128.Idx → BitVec 32) (X : S320000.Idx → BitVec 32) (t : ℕ) (g g' : S5120x128.Idx → F .f32)
    (h : ∀ j ∈ rowsIdx t, g' j = g j) (hg : NodesOK M l X t g) : NodesOK M l X t g' := by
  intro y z h0 h1
  have hy : (y 0).val < 160 := (y 0).isLt
  rw [h z (Finset.mem_filter.mpr ⟨Finset.mem_univ _, by omega, by omega⟩)]
  exact hg y z h0 h1

section layer

variable (A : Lay) (PT : Dev nD → Vec F S10000x128 .f32 → Prop) (W : Dev nD → Vec F S128x128 .f32) (B : Dev nD → Vec F S1x128 .f32)

theorem agg_deal (d : Dev nD) (g : S5120x128.Idx → F .f32) :
    (A.agg.pts d Finset.univ fullShare g : sProp 𝕄) ⊢ bigSep (Finset.range 32) fun t => iprop(∃ g, A.agg.pts d (rowsIdx t) fullShare g) := by
  rw [← rows_cover, Arr.pts_biUnion A.agg d (Finset.range 32) rowsIdx fullShare g rows_disjoint]
  exact bigSep_mono fun t _ => A.agg.some d _ g

theorem agg_join (d : Dev nD) (g₀ : S5120x128.Idx → F .f32) :
    (bigSep (Finset.range 32) fun t => ScatterOut X Y A PT W B d t)
      ⊢ (iprop(∃ g, ⌜∀ t, t < 32 → AggOK X Y PT W B d t g⌝ ∗ A.agg.pts d Finset.univ fullShare g) : sProp 𝕄) := by
  iintro H
  ihave H := (A.agg.join d (Finset.range 32) rowsIdx (fun t g => AggOK X Y PT W B d t g) rows_disjoint
      (fun t g g' h hg => by
        obtain ⟨l, M, h1, h2, h3⟩ := hg
        exact ⟨l, M, h1, h2, NodesOK_congr M l (X d) t g g' h h3⟩) g₀) $$ [H]
  · iexact H
  icases H with ⟨%g, %hg, H⟩
  rw [rows_cover]
  iexists g
  isplitr [H]
  · ipureintro; exact fun t ht => hg t (Finset.mem_range.mpr ht)
  · iexact H

end layer

/-! ## The shares the tiles read at -/

theorem shares_groups (Φ : ℕ → sProp 𝕄) : ∀ m : ℕ, bigSep (Finset.range (32 * m)) Φ = bigSep (Finset.range m) fun j => bigSep (Finset.range 32) fun t => Φ (32 * j + t)
  | 0 => by rw [Nat.mul_zero, Finset.range_zero, BI.bigSep_empty, BI.bigSep_empty]
  | m + 1 => by
    have hd : Disjoint ((Finset.range 32).map (addLeftEmbedding (32 * m))) (Finset.range (32 * m)) := by
      refine Finset.disjoint_left.mpr fun j hj hj' => ?_
      obtain ⟨t, -, rfl⟩ := Finset.mem_map.mp hj
      have := Finset.mem_range.mp hj'
      simp only [addLeftEmbedding_apply] at this
      omega
    have hu : Finset.range (32 * (m + 1)) = (Finset.range 32).map (addLeftEmbedding (32 * m)) ∪ Finset.range (32 * m) := by
      ext j
      simp only [Finset.mem_union, Finset.mem_map, Finset.mem_range, addLeftEmbedding_apply]
      constructor
      · intro h
        by_cases h' : j < 32 * m
        · exact Or.inr h'
        · exact Or.inl ⟨j - 32 * m, by omega, by omega⟩
      · rintro (⟨t, ht, rfl⟩ | h) <;> omega
    rw [hu, SparseCore.bigSep_union' hd, BI.bigSep_map, shares_groups Φ m, Finset.range_add_one (n := m), SparseCore.bigSep_insert' Finset.notMem_range_self]
    rfl

/-- Six shares for each tile of what every tile of every call reads. -/
theorem toks6 {ℓ : Loc nD τ sig} (f : Buf (Elt F) ℓ) :
    (ℓ ↦{fullShare} f : sProp 𝕄) ⊢ bigSep (Finset.range 6) fun j => bigSep (Finset.range 32) fun t => ℓ ↦{shareTokN fullShare (32 * j + t)} f := by
  refine (Transfers.pointsTo_toks_range (ℓ := ℓ) (S := Finset.univ) (f := f) fullShare (32 * 6)).1.trans ?_
  rw [shares_groups]
  exact sep_elim_right

theorem lists_in (d : Dev nD) (l : Buf (Elt F) (lLoc d)) (hl : AllOK (X d) (Y d) l) :
    iprop((lLoc d ↦{fullShare} l) ∗ (cLoc d ↦{fullShare} lens (X d)) ∗ tLoc d ↦{fullShare} totals (X d))
      ⊢ (bigSep (Finset.range 6) fun j => bigSep (Finset.range 32) fun t => ListsIn X Y d t (32 * j + t) : sProp 𝕄) := by
  have e : ∀ t ∈ Finset.range 32, ∀ n, (lLoc d ↦{shareTokN fullShare n} l : sProp 𝕄) ⊢ iprop(∃ l, ⌜∀ s, s < 8 → SegOK (X d) (Y d) t s l⌝ ∗ lLoc d ↦{shareTokN fullShare n} l) := fun t ht n => by
    iintro H; iexists l
    isplitr [H]
    · ipureintro; exact fun s hs => hl t ht ⟨s, hs⟩ (Finset.mem_univ _)
    · iexact H
  have e1 : (bigSep (Finset.range 6) fun j => bigSep (Finset.range 32) fun t => (lLoc d ↦{shareTokN fullShare (32 * j + t)} l : sProp 𝕄))
      ⊢ bigSep (Finset.range 6) fun j => bigSep (Finset.range 32) fun t => iprop(∃ l, ⌜∀ s, s < 8 → SegOK (X d) (Y d) t s l⌝ ∗ lLoc d ↦{shareTokN fullShare (32 * j + t)} l) :=
    bigSep_mono fun j _ => bigSep_mono fun t ht => e t ht (32 * j + t)
  have e2 : (bigSep (Finset.range 6) fun j => bigSep (Finset.range 32) fun t => (ListsIn X Y d t (32 * j + t) : sProp 𝕄))
      = iprop((bigSep (Finset.range 6) fun j => bigSep (Finset.range 32) fun t => iprop(∃ l, ⌜∀ s, s < 8 → SegOK (X d) (Y d) t s l⌝ ∗ lLoc d ↦{shareTokN fullShare (32 * j + t)} l))
        ∗ (bigSep (Finset.range 6) fun j => bigSep (Finset.range 32) fun t => cLoc d ↦{shareTokN fullShare (32 * j + t)} lens (X d))
        ∗ bigSep (Finset.range 6) fun j => bigSep (Finset.range 32) fun t => tLoc d ↦{shareTokN fullShare (32 * j + t)} totals (X d)) := by
    unfold ListsIn
    rw [← bigSep_sep', ← bigSep_sep']
    refine bigSep_congr fun j _ => ?_
    rw [bigSep_sep', bigSep_sep']
  rw [e2]
  iintro ⟨Hl, Hc, Ht⟩
  ihave Hl := (toks6 (F := F) (ℓ := lLoc d) l) $$ Hl
  ihave Hc := (toks6 (F := F) (ℓ := cLoc d) (lens (X d))) $$ Hc
  ihave Ht := (toks6 (F := F) (ℓ := tLoc d) (totals (X d))) $$ Ht
  isplitl [Hl]
  · iapply e1; iexact Hl
  isplitl [Hc] <;> iassumption

/-- The six groups of shares one by one. -/
theorem six (Φ : ℕ → sProp 𝕄) : bigSep (Finset.range 6) Φ ⊢ iprop(Φ 0 ∗ Φ 1 ∗ Φ 2 ∗ Φ 3 ∗ Φ 4 ∗ Φ 5) := by
  rw [show Finset.range 6 = {0, 1, 2, 3, 4, 5} by decide, SparseCore.bigSep_insert' (by decide), SparseCore.bigSep_insert' (by decide), SparseCore.bigSep_insert' (by decide),
    SparseCore.bigSep_insert' (by decide), SparseCore.bigSep_insert' (by decide), bigSep_singleton]

section layer

variable (A : Lay) (PT : Dev nD → Vec F S10000x128 .f32 → Prop) (W : Dev nD → Vec F S128x128 .f32) (B : Dev nD → Vec F S1x128 .f32)

theorem gather_deal (d : Dev nD) (n : ℕ) (Tb : Vec F S10000x128 .f32) (hT : PT d Tb) (g : S176640x128.Idx → F .f32) :
    iprop(A.tab.pts d Finset.univ fullShare Tb ∗ (bigSep (Finset.range 32) fun t => ListsIn X Y d t (n + t)) ∗ A.rows.pts d Finset.univ fullShare g)
      ⊢ (iprop((bigSep (Finset.range 32) fun t => GatherIn X Y A PT d t (n + t)) ∗ ∃ g, A.rows.pts d (Finset.univ \ sumSet (X d)) fullShare g) : sProp 𝕄) := by
  have e : ∀ t, (iprop(A.tab.pts d Finset.univ (shareTokN fullShare t) Tb ∗ A.tab.pts d Finset.univ (shareTokN fullShare (32 + t)) Tb) : sProp 𝕄)
      ⊢ iprop(∃ Tb, ⌜PT d Tb⌝ ∗ A.tab.pts d Finset.univ (shareTokN fullShare t) Tb ∗ A.tab.pts d Finset.univ (shareTokN fullShare (32 + t)) Tb) := fun t => by
    iintro H; iexists Tb
    isplitr [H]
    · ipureintro; exact hT
    · iexact H
  have e1 : iprop((bigSep (Finset.range 32) fun t => (A.tab.pts d Finset.univ (shareTokN fullShare t) Tb : sProp 𝕄)) ∗ bigSep (Finset.range 32) fun t => A.tab.pts d Finset.univ (shareTokN fullShare (32 + t)) Tb)
      ⊢ bigSep (Finset.range 32) fun t => iprop(∃ Tb, ⌜PT d Tb⌝ ∗ A.tab.pts d Finset.univ (shareTokN fullShare t) Tb ∗ A.tab.pts d Finset.univ (shareTokN fullShare (32 + t)) Tb) := by
    rw [← bigSep_sep']
    exact bigSep_mono fun t _ => e t
  have e0 : (A.tab.pts d Finset.univ fullShare Tb : sProp 𝕄) ⊢ iprop((bigSep (Finset.range 32) fun t => A.tab.pts d Finset.univ (shareTokN fullShare t) Tb)
      ∗ bigSep (Finset.range 32) fun t => A.tab.pts d Finset.univ (shareTokN fullShare (32 + t)) Tb) := by
    refine ((A.tab.toks_range d Tb (32 * 2)).trans sep_elim_right).trans ?_
    rw [shares_groups, show Finset.range 2 = {0, 1} by decide, SparseCore.bigSep_insert' (by decide), bigSep_singleton]
    simp only [Nat.mul_zero, Nat.zero_add, Nat.mul_one]
    exact Entails.refl _
  unfold GatherIn
  rw [bigSep_sep', bigSep_sep']
  iintro ⟨HT, HL, HR⟩
  ihave HT := e0 $$ HT
  ihave HR := (sums_deal (F := F) X A d g) $$ HR
  icases HR with ⟨HR, HR'⟩
  isplitr [HR']
  · isplitl [HT]
    · iapply e1; iexact HT
    isplitl [HL] <;> iassumption
  · iexact HR'

theorem scatter_deal (d : Dev nD) (n : ℕ) (M : S176640x128.Idx → F .f32) (hM : MsgsOK X Y PT W B d M) (g : S5120x128.Idx → F .f32) :
    iprop(A.msgs.pts d Finset.univ fullShare M ∗ (bigSep (Finset.range 32) fun t => ListsIn X Y d t (n + t)) ∗ A.agg.pts d Finset.univ fullShare g)
      ⊢ (bigSep (Finset.range 32) fun t => ScatterIn X Y A PT W B d t (n + t) : sProp 𝕄) := by
  have e : ∀ n, (A.msgs.pts d Finset.univ (shareTokN fullShare n) M : sProp 𝕄) ⊢ iprop(∃ M, ⌜MsgsOK X Y PT W B d M⌝ ∗ A.msgs.pts d Finset.univ (shareTokN fullShare n) M) := fun n => by
    iintro H; iexists M
    isplitr [H]
    · ipureintro; exact hM
    · iexact H
  have e1 : (bigSep (Finset.range 32) fun t => (A.msgs.pts d Finset.univ (shareTokN fullShare t) M : sProp 𝕄))
      ⊢ bigSep (Finset.range 32) fun t => iprop(∃ M, ⌜MsgsOK X Y PT W B d M⌝ ∗ A.msgs.pts d Finset.univ (shareTokN fullShare t) M) := bigSep_mono fun t _ => e t
  unfold ScatterIn
  rw [bigSep_sep', bigSep_sep']
  iintro ⟨HM, HL, HA⟩
  ihave HM := ((A.msgs.toks_range d M 32).trans sep_elim_right) $$ HM
  isplitl [HM]
  · iapply e1; iexact HM
  isplitl [HL]; · iexact HL
  iapply (agg_deal (F := F) A d g); iexact HA

end layer

end Cert.Proof.Bin

end
-- ==== Proof.Tiles.lean ====
/-
  The gathering calls' tasks and the scattering calls', from what a tile is handed to what it hands back.
-/
module

public import proofs.«01_k».proof.Proof.Body
public import proofs.«01_k».proof.Proof.Parts

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

variable [FloatOps F] (d : Dev nD) (L : grid2.Coords)

/-! ## A tile's own arrays and the calls' -/

theorem has_of {sp : Space} {s : Shape} {e : EltTy} {m : Memref sig .scVector sp s e} (h : m.IsWhole) :
    (iprop(∃ f, m.view.loc (tv d L) ↦{fullShare} f) : sProp 𝕄) ⊢ Has d L m (fun _ => True) := by
  iintro ⟨%f, H⟩
  iexists f
  isplitr [H]
  · ipureintro; trivial
  · iapply (Entails.of_eq (whole_pts (F := F) (d := d) (L := L) h fullShare f).symm); iexact H

theorem of_has {sp : Space} {s : Shape} {e : EltTy} {m : Memref sig .scVector sp s e} (h : m.IsWhole) (p) :
    Has (F := F) d L m p ⊢ (iprop(∃ f, m.view.loc (tv d L) ↦{fullShare} f) : sProp 𝕄) := by
  iintro ⟨%f, -, H⟩
  iexists f
  iapply (Entails.of_eq (whole_pts (F := F) (d := d) (L := L) h fullShare f)); iexact H

theorem reads_of {sp : Space} {s : Shape} {e : EltTy} {m : Memref sig .scVector sp s e} (h : m.IsWhole) (q : PosShare TreeShare) (f : Buf (Elt F) (m.view.loc (tv d L))) (v : s.Idx → Elt F e)
    (hv : m.view.read (Elt F) f = v) :
    (m.view.loc (tv d L) ↦{q} f : sProp 𝕄) ⊢ iprop(∃ f, ⌜m.view.read (Elt F) f = v⌝ ∗ m.view.loc (tv d L) ↦[m.view.set]{q} f) := by
  iintro H
  iexists f
  isplitr [H]
  · ipureintro; exact hv
  · iapply (Entails.of_eq (whole_pts (F := F) (d := d) (L := L) h q f).symm); iexact H

omit [FloatOps F] in
theorem any_pts (ℓ : Loc nD τ sig) (K : Finset ℓ.ty.shape.Idx) (f : Buf (Elt F) ℓ) : (ℓ ↦[K]{fullShare} f : sProp 𝕄) ⊢ iprop(∃ g, ℓ ↦[K]{fullShare} g) := by
  iintro H; iexists f; iexact H

/-! ## What a gathering call's arguments are -/

/-- The semaphores and the buffers of the tile's that a gathering call names. -/
abbrev gatherSems (G : GM) : List (DmaSem sig) := [G.a15.sem, G.a16.sem, G.r0.sem, G.r1.sem, G.r2.sem, G.r3.sem]
abbrev gatherBufs (G : GM) : List (Ref sig .scVector) :=
  [G.a7.view.ref, G.a8.view.ref, G.a9.view.ref, G.a10.view.ref, G.a11.view.ref, G.a12.view.ref, G.a13.view.ref, G.a14.view.ref]

variable (F) in
/-- The arguments `G` are layer `A`'s arrays, the lists, and buffers and semaphores of the tile's own. -/
structure GatherAt (A : Lay) (G : GM) : Prop where
  sems : (gatherSems G).Nodup
  scopes : ∀ s ∈ gatherSems G, (SemLoc.dma s : SemLoc sig).isScoped .scVector = true
  bufs : (gatherBufs G).Nodup
  owned : ∀ L, ∀ b ∈ gatherBufs G, (own L b).owner = .proc (.scVector (cV L) (jV L))
  tab : ∀ d L q (f : Vec F S10000x128 .f32), (A.tab.pts d Finset.univ q f : sProp 𝕄) ⊢ iprop(∃ g, ⌜G.a2.view.read (Elt F) g = f⌝ ∗ G.a2.view.loc (tv d L) ↦[G.a2.view.set]{q} g)
  list : ∀ d L q (f : S10240128.Idx → BitVec 32), (lLoc d ↦{q} f : sProp 𝕄) ⊢ iprop(∃ g, ⌜G.a3.view.read (Elt F) g = f⌝ ∗ G.a3.view.loc (tv d L) ↦[G.a3.view.set]{q} g)
  lens : ∀ d L q (f : S4096.Idx → BitVec 32), (cLoc d ↦{q} f : sProp 𝕄) ⊢ iprop(∃ g, ⌜G.a4.view.read (Elt F) g = f⌝ ∗ G.a4.view.loc (tv d L) ↦[G.a4.view.set]{q} g)
  tots : ∀ d L q (f : S512.Idx → BitVec 32), (tLoc d ↦{q} f : sProp 𝕄) ⊢ iprop(∃ g, ⌜G.a5.view.read (Elt F) g = f⌝ ∗ G.a5.view.loc (tv d L) ↦[G.a5.view.set]{q} g)
  rows : ∀ d L b (f : Vec F S176640x128 .f32), (A.rows.pts d (chunkIdx b) fullShare f : sProp 𝕄) ⊢ iprop(∃ g, G.a6.view.loc (tv d L) ↦[chunkSet G.a6.view b]{fullShare} g)
  sums : ∀ d L b g, (G.a6.view.loc (tv d L) ↦[chunkSet G.a6.view b]{fullShare} g : sProp 𝕄) ⊢ A.rows.pts d (chunkIdx b) fullShare (G.a6.view.read (Elt F) g)

/-- The semaphores and the buffers of the tile's that a scattering call names. -/
abbrev scatterSems (S : SM) : List (DmaSem sig) := [S.r0.sem, S.r1.sem, S.r2.sem, S.r3.sem, S.r6.sem]
abbrev scatterBufs (S : SM) : List (Ref sig .scVector) := [S.b7.view.ref, S.b8.view.ref, S.b9.view.ref, S.b10.view.ref, S.b11.view.ref]

variable (F) in
/-- The same of a scattering call's. -/
structure ScatterAt (A : Lay) (S : SM) : Prop where
  sems : (scatterSems S).Nodup
  scopes : ∀ s ∈ scatterSems S, (SemLoc.dma s : SemLoc sig).isScoped .scVector = true
  bufs : (scatterBufs S).Nodup
  owned : ∀ L, ∀ b ∈ scatterBufs S, (own L b).owner = .proc (.scVector (cV L) (jV L))
  msgs : ∀ d L q (f : Vec F S176640x128 .f32), (A.msgs.pts d Finset.univ q f : sProp 𝕄) ⊢ iprop(∃ g, ⌜S.b2.view.read (Elt F) g = f⌝ ∗ S.b2.view.loc (tv d L) ↦[S.b2.view.set]{q} g)
  list : ∀ d L q (f : S10240128.Idx → BitVec 32), (lLoc d ↦{q} f : sProp 𝕄) ⊢ iprop(∃ g, ⌜S.b3.view.read (Elt F) g = f⌝ ∗ S.b3.view.loc (tv d L) ↦[S.b3.view.set]{q} g)
  lens : ∀ d L q (f : S4096.Idx → BitVec 32), (cLoc d ↦{q} f : sProp 𝕄) ⊢ iprop(∃ g, ⌜S.b4.view.read (Elt F) g = f⌝ ∗ S.b4.view.loc (tv d L) ↦[S.b4.view.set]{q} g)
  tots : ∀ d L q (f : S512.Idx → BitVec 32), (tLoc d ↦{q} f : sProp 𝕄) ⊢ iprop(∃ g, ⌜S.b5.view.read (Elt F) g = f⌝ ∗ S.b5.view.loc (tv d L) ↦[S.b5.view.set]{q} g)
  agg : ∀ d L t (f : Vec F S5120x128 .f32), (A.agg.pts d (rowsIdx t) fullShare f : sProp 𝕄) ⊢ iprop(∃ g, S.b6.view.loc (tv d L) ↦[rowsSet S.b6.view t]{fullShare} g)
  maxs : ∀ d L t g, (S.b6.view.loc (tv d L) ↦[rowsSet S.b6.view t]{fullShare} g : sProp 𝕄) ⊢ A.agg.pts d (rowsIdx t) fullShare (S.b6.view.read (Elt F) g)

variable (X Y : Dev nD → Vec F S320000 .i32) (A : Lay) (G : GM) (S : SM) (PT : Dev nD → Vec F S10000x128 .f32 → Prop) (W : Dev nD → Vec F S128x128 .f32) (B : Dev nD → Vec F S1x128 .f32)

/-! ## A tile's chunks -/

theorem chunk_in (hG : GatherAt F A G) (Tb : Vec F S10000x128 .f32) (n : ℕ) (f : S176640x128.Idx → F .f32) :
    (A.rows.pts d (chunkIdx (base (X d) (tile L) + n)) fullShare f : sProp 𝕄)
      ⊢ iprop(∃ g, ⌜n < 0 → RowsOK Tb (X d) (Y d) (tile L) n (G.a6.view.read (Elt F) g)⌝ ∗ G.a6.view.loc (tv d L) ↦[chunkSet G.a6.view (base (X d) (tile L) + n)]{fullShare} g) := by
  refine (hG.rows d L _ f).trans ?_
  iintro ⟨%g, H⟩
  iexists g
  isplitr [H]
  · ipureintro; exact fun h => absurd h (Nat.not_lt_zero _)
  · iexact H

theorem chunk_out (hG : GatherAt F A G) (Tb : Vec F S10000x128 .f32) (n m : ℕ) (h : n < m) :
    (iprop(∃ g, ⌜n < m → RowsOK Tb (X d) (Y d) (tile L) n (G.a6.view.read (Elt F) g)⌝ ∗ G.a6.view.loc (tv d L) ↦[chunkSet G.a6.view (base (X d) (tile L) + n)]{fullShare} g) : sProp 𝕄)
      ⊢ iprop(∃ g, ⌜RowsOK Tb (X d) (Y d) (tile L) n g⌝ ∗ A.rows.pts d (chunkIdx (base (X d) (tile L) + n)) fullShare g) := by
  iintro ⟨%g, %hg, H⟩
  iexists G.a6.view.read (Elt F) g
  isplitr [H]
  · ipureintro; exact hg h
  · iapply (hG.sums d L _ g); iexact H

theorem outs_in (hG : GatherAt F A G) (Tb : Vec F S10000x128 .f32) (g : S176640x128.Idx → F .f32) :
    (A.rows.pts d (outSet (X d) (tile L)) fullShare g : sProp 𝕄) ⊢ outs d L G Tb (X d) (Y d) 0 := by
  unfold outs
  rw [← outSet_chunks, Arr.pts_biUnion A.rows d (Finset.range (chunks (X d) (tile L) 8)) _ fullShare g (chunks_disjoint _ _)]
  exact bigSep_mono fun n _ => chunk_in d L X Y A G hG Tb n g

theorem outs_out (hG : GatherAt F A G) (Tb : Vec F S10000x128 .f32) (hT : PT d Tb) (g₀ : S176640x128.Idx → F .f32) :
    outs d L G Tb (X d) (Y d) (chunks (X d) (tile L) 8) ⊢ GatherOut X Y A PT d (tile L) := by
  have e : outs d L G Tb (X d) (Y d) (chunks (X d) (tile L) 8)
      ⊢ bigSep (Finset.range (chunks (X d) (tile L) 8)) fun n => (iprop(∃ g, ⌜RowsOK Tb (X d) (Y d) (tile L) n g⌝ ∗ A.rows.pts d (chunkIdx (base (X d) (tile L) + n)) fullShare g) : sProp 𝕄) := by
    unfold outs
    exact bigSep_mono fun n hn => chunk_out d L X Y A G hG Tb n _ (Finset.mem_range.mp hn)
  refine e.trans ((A.rows.join d _ _ _ (chunks_disjoint _ _) (fun n g g' h hg => RowsOK_congr Tb (X d) (Y d) (tile L) n g g' h hg) g₀).trans ?_)
  rw [outSet_chunks]
  unfold GatherOut
  iintro ⟨%g, %hg, H⟩
  iexists g
  isplitr [H]
  · ipureintro; exact ⟨Tb, hT, fun n hn => hg n (Finset.mem_range.mpr hn)⟩
  · iexact H

/-! ## A gathering call's task -/

theorem gather_tile (hG : GatherAt F A G) (q : Fin 7) (n : ℕ) (hF : (K (F := F)).Facts) (hX : ∀ d i, (X d i).toNat < 10000) (hY : ∀ d i, (Y d i).toNat < 10000) (O : CellTallies nD τ sig (HIx 7)) (Wt : Waits sig (HIx 7)) (hO : ∀ g, O g none = 0) :
    iprop(levAts (K (F := F)).L (K (F := F)).lev ∗ emp ∗ GatherIn X Y A PT d (tile L) n ∗ scopedBufs (tv d L) ∗ scopedSems0 (tv d L) ∗ owes (tv d L) O Wt)
      ⊢ wp frame (wpE (defs₀ (F := F)) 𝒱₀ (tv d L) none) Set.univ (gK L G)
          fun _ => iprop(GatherOut X Y A PT d (tile L) ∗ scopedBufs (tv d L) ∗ scopedSems0 (tv d L)
            ∗ ∃ W', ⌜∀ p ∈ W', p ∈ Wt ∨ p.2 = none ∨ p.2 = some q⌝ ∗ owes (tv d L) O W') := by
  rw [(K (F := F)).scopedBufs_V hF d (cV L) (jV L), SparseCore.Cfg.scopedSems0_V (Val := Elt F) d (cV L) (jV L),
    ownSems0_peel (F := F) d L (gatherSems G) hG.sems hG.scopes, ownBufs_peel (F := F) d L (gatherBufs G) hG.bufs (hG.owned L)]
  simp only [gatherSems, gatherBufs, List.foldr_cons, List.foldr_nil]
  unfold GatherIn ListsIn
  iintro ⟨#Hlv, -, ⟨⟨%Tb, %hT, HT, HU⟩, ⟨⟨%l, %hl, Hl⟩, Hc, Ht⟩, %g, Hg⟩, ⟨H7, H8, H9, H10, H11, H12, H13, H14, HB⟩, ⟨S15, S16, S0, S1, S2, S3, HS⟩, HO⟩
  ihave Hmw := (show levAts (K (F := F)).L (K (F := F)).lev ⊢ Transfers.MayWaits (tv d L) (default : HIx 7) O from
    (K (F := F)).mayWaits_none (thr := tv d L) hO) $$ Hlv
  ihave Hp := (gather_body d L G (shareTokN fullShare (tile L)) (shareTokN fullShare (32 + tile L)) (shareTokN fullShare n) Tb (X d) (Y d) l O Wt hl (hX d) (hY d)
    (shareTokN fullShare n) (shareTokN fullShare n)) $$ [Hmw HT HU Hl Hc Ht Hg H7 H8 H9 H10 H11 H12 H13 H14 S15 S16 S0 S1 S2 S3 HO]
  · unfold TileWork Work
    isplitl [Hmw HT HU Hl H7 H8 H9 H10 H11 H12 S15 S16 S2 S3 HO]
    · isplitl [Hmw]; · iexact Hmw
      isplitl [HT]
      · iapply (hG.tab d L _ Tb); iexact HT
      isplitl [HU]
      · iapply (hG.tab d L _ Tb); iexact HU
      isplitl [Hl]
      · iapply (hG.list d L _ l); iexact Hl
      isplitl [H7]
      · iapply (has_of (F := F) d L G.h7); iexact H7
      isplitl [H8]
      · iapply (has_of (F := F) d L G.h8); iexact H8
      isplitl [H9]
      · iapply (has_of (F := F) d L G.h9); iexact H9
      isplitl [H10]
      · iapply (has_of (F := F) d L G.h10); iexact H10
      isplitl [H11]
      · iapply (has_of (F := F) d L G.h11); iexact H11
      isplitl [H12]
      · iapply (has_of (F := F) d L G.h12); iexact H12
      isplitl [S15]; · iexact S15
      isplitl [S16]; · iexact S16
      isplitl [S2]; · iexact S2
      isplitl [S3]; · iexact S3
      iexists Wt
      isplitr [HO]
      · ipureintro; exact fun p hp => .inl hp
      · iexact HO
    isplitl [Hg]
    · iapply (outs_in (F := F) d L X Y A G hG Tb g); iexact Hg
    isplitl [Hc]
    · iapply (hG.lens d L _ (lens (X d))); iexact Hc
    isplitl [Ht]
    · iapply (hG.tots d L _ (totals (X d))); iexact Ht
    isplitl [H13]
    · iapply (has_of (F := F) d L G.h13); iexact H13
    isplitl [H14]
    · iapply (has_of (F := F) d L G.h14); iexact H14
    isplitl [S0] <;> iassumption
  iapply (wp_wand _ _ _) $$ Hp
  unfold TileWork Work
  iintro %a ⟨⟨-, -, -, -, H7, H8, H9, H10, H11, H12, S15, S16, S2, S3, %W', %hW', HO⟩, Ho, -, -, H13, H14, S0, S1⟩
  isplitl [Ho]
  · iapply (outs_out (F := F) d L X Y A G PT hG Tb hT g); iexact Ho
  isplitl [H7 H8 H9 H10 H11 H12 H13 H14 HB]
  · isplitl [H7]
    · iapply (of_has (F := F) d L G.h7); iexact H7
    isplitl [H8]
    · iapply (of_has (F := F) d L G.h8); iexact H8
    isplitl [H9]
    · iapply (of_has (F := F) d L G.h9); iexact H9
    isplitl [H10]
    · iapply (of_has (F := F) d L G.h10); iexact H10
    isplitl [H11]
    · iapply (of_has (F := F) d L G.h11); iexact H11
    isplitl [H12]
    · iapply (of_has (F := F) d L G.h12); iexact H12
    isplitl [H13]
    · iapply (of_has (F := F) d L G.h13); iexact H13
    isplitl [H14]
    · iapply (of_has (F := F) d L G.h14); iexact H14
    iexact HB
  isplitl [S15 S16 S0 S1 S2 S3 HS]
  · isplitl [S15]; · iexact S15
    isplitl [S16]; · iexact S16
    isplitl [S0]; · iexact S0
    isplitl [S1]; · iexact S1
    isplitl [S2]; · iexact S2
    isplitl [S3] <;> iassumption
  iexists W'
  isplitr [HO]
  · ipureintro; exact fun p hp => (hW' p hp).elim .inl fun h => .inr (.inl h)
  · iexact HO

/-! ## A scattering call's task -/

theorem scatter_tile (hS : ScatterAt F A S) (q : Fin 7) (n : ℕ) (hF : (K (F := F)).Facts) (hY : ∀ d i, (Y d i).toNat < 10000) (O : CellTallies nD τ sig (HIx 7)) (Wt : Waits sig (HIx 7)) (hO : ∀ g, O g none = 0) :
    iprop(levAts (K (F := F)).L (K (F := F)).lev ∗ emp ∗ ScatterIn X Y A PT W B d (tile L) n ∗ scopedBufs (tv d L) ∗ scopedSems0 (tv d L) ∗ owes (tv d L) O Wt)
      ⊢ wp frame (wpE (defs₀ (F := F)) 𝒱₀ (tv d L) none) Set.univ (sK L S)
          fun _ => iprop(ScatterOut X Y A PT W B d (tile L) ∗ scopedBufs (tv d L) ∗ scopedSems0 (tv d L)
            ∗ ∃ W', ⌜∀ p ∈ W', p ∈ Wt ∨ p.2 = none ∨ p.2 = some q⌝ ∗ owes (tv d L) O W') := by
  rw [(K (F := F)).scopedBufs_V hF d (cV L) (jV L), SparseCore.Cfg.scopedSems0_V (Val := Elt F) d (cV L) (jV L),
    ownSems0_peel (F := F) d L (scatterSems S) hS.sems hS.scopes, ownBufs_peel (F := F) d L (scatterBufs S) hS.bufs (hS.owned L)]
  simp only [scatterSems, scatterBufs, List.foldr_cons, List.foldr_nil]
  unfold ScatterIn ListsIn ScatterOut
  iintro ⟨#Hlv, -, ⟨⟨%M, %hM, HM⟩, ⟨⟨%l, %hl, Hl⟩, Hc, Ht⟩, %g, Hg⟩, ⟨H7, H8, H9, H10, H11, HB⟩, ⟨S0, S1, S2, S3, S6, HS⟩, HO⟩
  ihave Hmw := (show levAts (K (F := F)).L (K (F := F)).lev ⊢ Transfers.MayWaits (tv d L) (default : HIx 7) O from
    (K (F := F)).mayWaits_none (thr := tv d L) hO) $$ Hlv
  ihave Hp := (scatter_body d L S (shareTokN fullShare (tile L)) (shareTokN fullShare n) M (X d) (Y d) l O Wt hl (hY d)
    (shareTokN fullShare n) (shareTokN fullShare n)) $$ [Hmw HM Hl Hc Ht Hg H7 H8 H9 H10 H11 S0 S1 S2 S3 S6 HO]
  · unfold STileWork SWork
    isplitr [Hg]
    rotate_left
    · iapply (hS.agg d L _ g); iexact Hg
    isplitl [Hmw HM Hl H8 H9 S2 S3 HO]
    · isplitl [Hmw]; · iexact Hmw
      isplitl [HM]
      · iapply (hS.msgs d L _ M); iexact HM
      isplitl [Hl]
      · iapply (hS.list d L _ l); iexact Hl
      isplitl [H8]
      · iapply (has_of (F := F) d L S.h8); iexact H8
      isplitl [H9]
      · iapply (has_of (F := F) d L S.h9); iexact H9
      isplitl [S2]; · iexact S2
      isplitl [S3]; · iexact S3
      iexists Wt
      isplitr [HO]
      · ipureintro; exact fun p hp => .inl hp
      · iexact HO
    isplitl [H7]
    · iapply (has_of (F := F) d L S.h7); iexact H7
    isplitl [Hc]
    · iapply (hS.lens d L _ (lens (X d))); iexact Hc
    isplitl [Ht]
    · iapply (hS.tots d L _ (totals (X d))); iexact Ht
    isplitl [H10]
    · iapply (has_of (F := F) d L S.h10); iexact H10
    isplitl [H11]
    · iapply (has_of (F := F) d L S.h11); iexact H11
    isplitl [S0]; · iexact S0
    isplitl [S1] <;> iassumption
  iapply (wp_wand _ _ _) $$ Hp
  unfold STileWork SWork
  iintro %a ⟨⟨⟨-, -, -, H8, H9, S2, S3, %W', %hW', HO⟩, H7, -, -, H10, H11, S0, S1, S6⟩, %g', %hg', Hg⟩
  isplitl [Hg]
  · iexists S.b6.view.read (Elt F) g'
    isplitr [Hg]
    · ipureintro; exact ⟨l, M, hl, hM, hg'⟩
    · iapply (hS.maxs d L _ g'); iexact Hg
  isplitl [H7 H8 H9 H10 H11 HB]
  · isplitl [H7]
    · iapply (of_has (F := F) d L S.h7); iexact H7
    isplitl [H8]
    · iapply (of_has (F := F) d L S.h8); iexact H8
    isplitl [H9]
    · iapply (of_has (F := F) d L S.h9); iexact H9
    isplitl [H10]
    · iapply (of_has (F := F) d L S.h10); iexact H10
    isplitl [H11]
    · iapply (of_has (F := F) d L S.h11); iexact H11
    iexact HB
  isplitl [S0 S1 S2 S3 S6 HS]
  · isplitl [S0]; · iexact S0
    isplitl [S1]; · iexact S1
    isplitl [S2]; · iexact S2
    isplitl [S3]; · iexact S3
    isplitl [S6] <;> iassumption
  iexists W'
  isplitr [HO]
  · ipureintro; exact fun p hp => (hW' p hp).elim .inl fun h => .inr (.inl h)
  · iexact HO

/-! ## The six calls' arguments -/

abbrev gM0 : GM where
  a2 := Memref.whole main_v64_scv
  h2 := Memref.isWhole_whole _
  a3 := Memref.whole main_v61_0_scv
  h3 := Memref.isWhole_whole _
  a4 := Memref.whole main_v61_1_scv
  h4 := Memref.isWhole_whole _
  a5 := Memref.whole main_v61_2_scv
  h5 := Memref.isWhole_whole _
  a6 := Memref.whole main_v65_scv
  h6 := Memref.isWhole_whole _
  a7 := Memref.whole cc2_scratch0
  h7 := Memref.isWhole_whole _
  a8 := Memref.whole cc2_scratch1
  h8 := Memref.isWhole_whole _
  a9 := Memref.whole cc2_scratch2
  h9 := Memref.isWhole_whole _
  a10 := Memref.whole cc2_scratch3
  h10 := Memref.isWhole_whole _
  a11 := Memref.whole cc2_scratch4
  h11 := Memref.isWhole_whole _
  a12 := Memref.whole cc2_scratch5
  h12 := Memref.isWhole_whole _
  a13 := Memref.whole cc2_scratch6
  h13 := Memref.isWhole_whole _
  a14 := Memref.whole cc2_scratch7
  h14 := Memref.isWhole_whole _
  a15 := cc2_scratch8
  a16 := cc2_scratch9
  r0 := cc2_scoped0
  r1 := cc2_scoped1
  r2 := cc2_scoped2
  r3 := cc2_scoped3
  r4 := cc2_scoped4
  r5 := cc2_scoped5

abbrev sM0 : SM where
  b2 := Memref.whole main_v66_scv
  h2 := Memref.isWhole_whole _
  b3 := Memref.whole main_v61_0_scv
  h3 := Memref.isWhole_whole _
  b4 := Memref.whole main_v61_1_scv
  h4 := Memref.isWhole_whole _
  b5 := Memref.whole main_v61_2_scv
  h5 := Memref.isWhole_whole _
  b6 := Memref.whole main_v67_scv
  h6 := Memref.isWhole_whole _
  b7 := Memref.whole cc4_scratch0
  h7 := Memref.isWhole_whole _
  b8 := Memref.whole cc4_scratch1
  h8 := Memref.isWhole_whole _
  b9 := Memref.whole cc4_scratch2
  h9 := Memref.isWhole_whole _
  b10 := Memref.whole cc4_scratch3
  h10 := Memref.isWhole_whole _
  b11 := Memref.whole cc4_scratch4
  h11 := Memref.isWhole_whole _
  r0 := cc4_scoped0
  r1 := cc4_scoped1
  r2 := cc4_scoped2
  r3 := cc4_scoped3
  r4 := cc4_scoped4
  r5 := cc4_scoped5
  r6 := cc4_scoped6

abbrev gM1 : GM where
  a2 := Memref.whole main_v70_scv
  h2 := Memref.isWhole_whole _
  a3 := Memref.whole main_v61_0_scv
  h3 := Memref.isWhole_whole _
  a4 := Memref.whole main_v61_1_scv
  h4 := Memref.isWhole_whole _
  a5 := Memref.whole main_v61_2_scv
  h5 := Memref.isWhole_whole _
  a6 := Memref.whole main_v71_scv
  h6 := Memref.isWhole_whole _
  a7 := Memref.whole cc6_scratch0
  h7 := Memref.isWhole_whole _
  a8 := Memref.whole cc6_scratch1
  h8 := Memref.isWhole_whole _
  a9 := Memref.whole cc6_scratch2
  h9 := Memref.isWhole_whole _
  a10 := Memref.whole cc6_scratch3
  h10 := Memref.isWhole_whole _
  a11 := Memref.whole cc6_scratch4
  h11 := Memref.isWhole_whole _
  a12 := Memref.whole cc6_scratch5
  h12 := Memref.isWhole_whole _
  a13 := Memref.whole cc6_scratch6
  h13 := Memref.isWhole_whole _
  a14 := Memref.whole cc6_scratch7
  h14 := Memref.isWhole_whole _
  a15 := cc6_scratch8
  a16 := cc6_scratch9
  r0 := cc6_scoped0
  r1 := cc6_scoped1
  r2 := cc6_scoped2
  r3 := cc6_scoped3
  r4 := cc6_scoped4
  r5 := cc6_scoped5

abbrev sM1 : SM where
  b2 := Memref.whole main_v72_scv
  h2 := Memref.isWhole_whole _
  b3 := Memref.whole main_v61_0_scv
  h3 := Memref.isWhole_whole _
  b4 := Memref.whole main_v61_1_scv
  h4 := Memref.isWhole_whole _
  b5 := Memref.whole main_v61_2_scv
  h5 := Memref.isWhole_whole _
  b6 := Memref.whole main_v73_scv
  h6 := Memref.isWhole_whole _
  b7 := Memref.whole cc8_scratch0
  h7 := Memref.isWhole_whole _
  b8 := Memref.whole cc8_scratch1
  h8 := Memref.isWhole_whole _
  b9 := Memref.whole cc8_scratch2
  h9 := Memref.isWhole_whole _
  b10 := Memref.whole cc8_scratch3
  h10 := Memref.isWhole_whole _
  b11 := Memref.whole cc8_scratch4
  h11 := Memref.isWhole_whole _
  r0 := cc8_scoped0
  r1 := cc8_scoped1
  r2 := cc8_scoped2
  r3 := cc8_scoped3
  r4 := cc8_scoped4
  r5 := cc8_scoped5
  r6 := cc8_scoped6

abbrev gM2 : GM where
  a2 := Memref.whole main_v76_scv
  h2 := Memref.isWhole_whole _
  a3 := Memref.whole main_v61_0_scv
  h3 := Memref.isWhole_whole _
  a4 := Memref.whole main_v61_1_scv
  h4 := Memref.isWhole_whole _
  a5 := Memref.whole main_v61_2_scv
  h5 := Memref.isWhole_whole _
  a6 := Memref.whole main_v77_scv
  h6 := Memref.isWhole_whole _
  a7 := Memref.whole cc10_scratch0
  h7 := Memref.isWhole_whole _
  a8 := Memref.whole cc10_scratch1
  h8 := Memref.isWhole_whole _
  a9 := Memref.whole cc10_scratch2
  h9 := Memref.isWhole_whole _
  a10 := Memref.whole cc10_scratch3
  h10 := Memref.isWhole_whole _
  a11 := Memref.whole cc10_scratch4
  h11 := Memref.isWhole_whole _
  a12 := Memref.whole cc10_scratch5
  h12 := Memref.isWhole_whole _
  a13 := Memref.whole cc10_scratch6
  h13 := Memref.isWhole_whole _
  a14 := Memref.whole cc10_scratch7
  h14 := Memref.isWhole_whole _
  a15 := cc10_scratch8
  a16 := cc10_scratch9
  r0 := cc10_scoped0
  r1 := cc10_scoped1
  r2 := cc10_scoped2
  r3 := cc10_scoped3
  r4 := cc10_scoped4
  r5 := cc10_scoped5

abbrev sM2 : SM where
  b2 := Memref.whole main_v78_scv
  h2 := Memref.isWhole_whole _
  b3 := Memref.whole main_v61_0_scv
  h3 := Memref.isWhole_whole _
  b4 := Memref.whole main_v61_1_scv
  h4 := Memref.isWhole_whole _
  b5 := Memref.whole main_v61_2_scv
  h5 := Memref.isWhole_whole _
  b6 := Memref.whole main_v79_scv
  h6 := Memref.isWhole_whole _
  b7 := Memref.whole cc12_scratch0
  h7 := Memref.isWhole_whole _
  b8 := Memref.whole cc12_scratch1
  h8 := Memref.isWhole_whole _
  b9 := Memref.whole cc12_scratch2
  h9 := Memref.isWhole_whole _
  b10 := Memref.whole cc12_scratch3
  h10 := Memref.isWhole_whole _
  b11 := Memref.whole cc12_scratch4
  h11 := Memref.isWhole_whole _
  r0 := cc12_scoped0
  r1 := cc12_scoped1
  r2 := cc12_scoped2
  r3 := cc12_scoped3
  r4 := cc12_scoped4
  r5 := cc12_scoped5
  r6 := cc12_scoped6

/-! ## They are those the calls take -/

set_option maxRecDepth 65536 in
theorem gather_at0 : GatherAt F (lay 0) gM0 where
  sems := by decide
  scopes := by decide
  bufs := by decide
  owned L b hb := by
    repeat (cases hb with | head => rfl | tail _ hb => ?_)
    exact nomatch hb
  tab d L q f := reads_of d L gM0.h2 q f f rfl
  list d L q f := reads_of d L gM0.h3 q f f rfl
  lens d L q f := reads_of d L gM0.h4 q f f rfl
  tots d L q f := reads_of d L gM0.h5 q f f rfl
  rows d L b f := by
    rw [show chunkSet gM0.a6.view b = chunkIdx b from Finset.map_refl]
    exact (show _ ⊢ (gM0.a6.view.loc (tv d L) ↦[chunkIdx b]{fullShare} f : sProp 𝕄) from Entails.refl _).trans (any_pts (F := F) (gM0.a6.view.loc (tv d L)) (chunkIdx b) f)
  sums d L b g := by
    rw [show chunkSet gM0.a6.view b = chunkIdx b from Finset.map_refl]
    exact Entails.refl _

set_option maxRecDepth 65536 in
theorem scatter_at0 : ScatterAt F (lay 0) sM0 where
  sems := by decide
  scopes := by decide
  bufs := by decide
  owned L b hb := by
    repeat (cases hb with | head => rfl | tail _ hb => ?_)
    exact nomatch hb
  msgs d L q f := reads_of d L sM0.h2 q f f rfl
  list d L q f := reads_of d L sM0.h3 q f f rfl
  lens d L q f := reads_of d L sM0.h4 q f f rfl
  tots d L q f := reads_of d L sM0.h5 q f f rfl
  agg d L t f := by
    rw [show rowsSet sM0.b6.view t = rowsIdx t from Finset.map_refl]
    exact (show _ ⊢ (sM0.b6.view.loc (tv d L) ↦[rowsIdx t]{fullShare} f : sProp 𝕄) from Entails.refl _).trans (any_pts (F := F) (sM0.b6.view.loc (tv d L)) (rowsIdx t) f)
  maxs d L t g := by
    rw [show rowsSet sM0.b6.view t = rowsIdx t from Finset.map_refl]
    exact Entails.refl _

set_option maxRecDepth 65536 in
theorem gather_at1 : GatherAt F (lay 1) gM1 where
  sems := by decide
  scopes := by decide
  bufs := by decide
  owned L b hb := by
    repeat (cases hb with | head => rfl | tail _ hb => ?_)
    exact nomatch hb
  tab d L q f := reads_of d L gM1.h2 q f f rfl
  list d L q f := reads_of d L gM1.h3 q f f rfl
  lens d L q f := reads_of d L gM1.h4 q f f rfl
  tots d L q f := reads_of d L gM1.h5 q f f rfl
  rows d L b f := by
    rw [show chunkSet gM1.a6.view b = chunkIdx b from Finset.map_refl]
    exact (show _ ⊢ (gM1.a6.view.loc (tv d L) ↦[chunkIdx b]{fullShare} f : sProp 𝕄) from Entails.refl _).trans (any_pts (F := F) (gM1.a6.view.loc (tv d L)) (chunkIdx b) f)
  sums d L b g := by
    rw [show chunkSet gM1.a6.view b = chunkIdx b from Finset.map_refl]
    exact Entails.refl _

set_option maxRecDepth 65536 in
theorem scatter_at1 : ScatterAt F (lay 1) sM1 where
  sems := by decide
  scopes := by decide
  bufs := by decide
  owned L b hb := by
    repeat (cases hb with | head => rfl | tail _ hb => ?_)
    exact nomatch hb
  msgs d L q f := reads_of d L sM1.h2 q f f rfl
  list d L q f := reads_of d L sM1.h3 q f f rfl
  lens d L q f := reads_of d L sM1.h4 q f f rfl
  tots d L q f := reads_of d L sM1.h5 q f f rfl
  agg d L t f := by
    rw [show rowsSet sM1.b6.view t = rowsIdx t from Finset.map_refl]
    exact (show _ ⊢ (sM1.b6.view.loc (tv d L) ↦[rowsIdx t]{fullShare} f : sProp 𝕄) from Entails.refl _).trans (any_pts (F := F) (sM1.b6.view.loc (tv d L)) (rowsIdx t) f)
  maxs d L t g := by
    rw [show rowsSet sM1.b6.view t = rowsIdx t from Finset.map_refl]
    exact Entails.refl _

set_option maxRecDepth 65536 in
theorem gather_at2 : GatherAt F (lay 2) gM2 where
  sems := by decide
  scopes := by decide
  bufs := by decide
  owned L b hb := by
    repeat (cases hb with | head => rfl | tail _ hb => ?_)
    exact nomatch hb
  tab d L q f := reads_of d L gM2.h2 q f f rfl
  list d L q f := reads_of d L gM2.h3 q f f rfl
  lens d L q f := reads_of d L gM2.h4 q f f rfl
  tots d L q f := reads_of d L gM2.h5 q f f rfl
  rows d L b f := by
    rw [show chunkSet gM2.a6.view b = chunkIdx b from Finset.map_refl]
    exact (show _ ⊢ (gM2.a6.view.loc (tv d L) ↦[chunkIdx b]{fullShare} f : sProp 𝕄) from Entails.refl _).trans (any_pts (F := F) (gM2.a6.view.loc (tv d L)) (chunkIdx b) f)
  sums d L b g := by
    rw [show chunkSet gM2.a6.view b = chunkIdx b from Finset.map_refl]
    exact Entails.refl _

set_option maxRecDepth 65536 in
theorem scatter_at2 : ScatterAt F (lay 2) sM2 where
  sems := by decide
  scopes := by decide
  bufs := by decide
  owned L b hb := by
    repeat (cases hb with | head => rfl | tail _ hb => ?_)
    exact nomatch hb
  msgs d L q f := reads_of d L sM2.h2 q f f rfl
  list d L q f := reads_of d L sM2.h3 q f f rfl
  lens d L q f := reads_of d L sM2.h4 q f f rfl
  tots d L q f := reads_of d L sM2.h5 q f f rfl
  agg d L t f := by
    rw [show rowsSet sM2.b6.view t = rowsIdx t from Finset.map_refl]
    exact (show _ ⊢ (sM2.b6.view.loc (tv d L) ↦[rowsIdx t]{fullShare} f : sProp 𝕄) from Entails.refl _).trans (any_pts (F := F) (sM2.b6.view.loc (tv d L)) (rowsIdx t) f)
  maxs d L t g := by
    rw [show rowsSet sM2.b6.view t = rowsIdx t from Finset.map_refl]
    exact Entails.refl _

/-! ## The body table's tasks -/

theorem defs₀_gather0 (c : Fin τ.nSC) (s : Fin τ.nSub) :
    defs₀ (F := F) (.scVector c s) 2 () = SparseCore.onTile hcore2 hsub2 (fun c s => gK (F := F) (coordsV c s) gM0) ⟨⟩ c s := rfl
theorem defs₀_scatter0 (c : Fin τ.nSC) (s : Fin τ.nSub) :
    defs₀ (F := F) (.scVector c s) 4 () = SparseCore.onTile hcore4 hsub4 (fun c s => sK (F := F) (coordsV c s) sM0) ⟨⟩ c s := rfl
theorem defs₀_gather1 (c : Fin τ.nSC) (s : Fin τ.nSub) :
    defs₀ (F := F) (.scVector c s) 6 () = SparseCore.onTile hcore6 hsub6 (fun c s => gK (F := F) (coordsV c s) gM1) ⟨⟩ c s := rfl
theorem defs₀_scatter1 (c : Fin τ.nSC) (s : Fin τ.nSub) :
    defs₀ (F := F) (.scVector c s) 8 () = SparseCore.onTile hcore8 hsub8 (fun c s => sK (F := F) (coordsV c s) sM1) ⟨⟩ c s := rfl
theorem defs₀_gather2 (c : Fin τ.nSC) (s : Fin τ.nSub) :
    defs₀ (F := F) (.scVector c s) 10 () = SparseCore.onTile hcore10 hsub10 (fun c s => gK (F := F) (coordsV c s) gM2) ⟨⟩ c s := rfl
theorem defs₀_scatter2 (c : Fin τ.nSC) (s : Fin τ.nSub) :
    defs₀ (F := F) (.scVector c s) 12 () = SparseCore.onTile hcore12 hsub12 (fun c s => sK (F := F) (coordsV c s) sM2) ⟨⟩ c s := rfl

variable (N : Net F) (hX : ∀ d i, (N.X d i).toNat < 10000) (hY : ∀ d i, (N.Y d i).toNat < 10000)

include hX hY in
theorem tileObl1 : (K (F := F)).TileObl (D (F := F)) 𝒱 (P N) v₀ 1 := by
  intro d c i O Wt hO _ _
  simp only [show (P N).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_gather0]; simp only [SparseCore.onTile, hci, and_self, ↓reduceDIte]
  exact gather_tile d (coordsV ⟨_, hci.1⟩ ⟨_, hci.2⟩) N.X N.Y (lay 0) gM0 (PT N 0) gather_at0 1 (32 * 0 + tile (coordsV ⟨_, hci.1⟩ ⟨_, hci.2⟩)) facts hX hY O Wt hO

include hY in
theorem tileObl2 : (K (F := F)).TileObl (D (F := F)) 𝒱 (P N) v₀ 2 := by
  intro d c i O Wt hO _ _
  simp only [show (P N).ox = fun _ _ => 0 from rfl, add_zero]
  have hci : ((K (F := F)).core 2 c).val < grid4.bound 0 ∧ ((K (F := F)).sub 2 i).val < grid4.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_scatter0]; simp only [SparseCore.onTile, hci, and_self, ↓reduceDIte]
  exact scatter_tile d (coordsV ⟨_, hci.1⟩ ⟨_, hci.2⟩) N.X N.Y (lay 0) sM0 (PT N 0) (N.W 0) (N.B 0) scatter_at0 2 (32 * 1 + tile (coordsV ⟨_, hci.1⟩ ⟨_, hci.2⟩)) facts hY O Wt hO

include hX hY in
theorem tileObl3 : (K (F := F)).TileObl (D (F := F)) 𝒱 (P N) v₀ 3 := by
  intro d c i O Wt hO _ _
  simp only [show (P N).ox = fun _ _ => 0 from rfl, add_zero]
  have hci : ((K (F := F)).core 3 c).val < grid6.bound 0 ∧ ((K (F := F)).sub 3 i).val < grid6.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [defs₀_gather1]; simp only [SparseCore.onTile, hci, and_self, ↓reduceDIte]
  exact gather_tile d (coordsV ⟨_, hci.1⟩ ⟨_, hci.2⟩) N.X N.Y (lay 1) gM1 (PT N 1) gather_at1 3 (32 * 2 + tile (coordsV ⟨_, hci.1⟩ ⟨_, hci.2⟩)) facts hX hY O Wt hO

include hY in
theorem tileObl4 : (K (F := F)).TileObl (D (F := F)) 𝒱 (P N) v₀ 4 := by
  intro d c i O Wt hO _ _
  simp only [show (P N).ox = fun _ _ => 0 from rfl, add_zero]
  have hci : ((K (F := F)).core 4 c).val < grid8.bound 0 ∧ ((K (F := F)).sub 4 i).val < grid8.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [defs₀_scatter1]; simp only [SparseCore.onTile, hci, and_self, ↓reduceDIte]
  exact scatter_tile d (coordsV ⟨_, hci.1⟩ ⟨_, hci.2⟩) N.X N.Y (lay 1) sM1 (PT N 1) (N.W 1) (N.B 1) scatter_at1 4 (32 * 3 + tile (coordsV ⟨_, hci.1⟩ ⟨_, hci.2⟩)) facts hY O Wt hO

include hX hY in
theorem tileObl5 : (K (F := F)).TileObl (D (F := F)) 𝒱 (P N) v₀ 5 := by
  intro d c i O Wt hO _ _
  simp only [show (P N).ox = fun _ _ => 0 from rfl, add_zero]
  have hci : ((K (F := F)).core 5 c).val < grid10.bound 0 ∧ ((K (F := F)).sub 5 i).val < grid10.bound 1 := ⟨c.isLt, i.isLt⟩
  change _ ⊢ wp _ _ _ (Pipeline.liftProg (defs₀ (F := F) (.scVector ((K (F := F)).core 5 c) ((K (F := F)).sub 5 i)) 10 ())) _
  refine BI.Entails.trans ?_ (Pipeline.wp_liftProg (D (F := F)) (Pipeline.defs_kernel pcfgs defs₀) 𝒱₀ _ Set.univ none _ _)
  rw [defs₀_gather2]; simp only [SparseCore.onTile, hci, and_self, ↓reduceDIte]
  exact gather_tile d (coordsV ⟨_, hci.1⟩ ⟨_, hci.2⟩) N.X N.Y (lay 2) gM2 (PT N 2) gather_at2 5 (32 * 4 + tile (coordsV ⟨_, hci.1⟩ ⟨_, hci.2⟩)) facts hX hY O Wt hO

include hY in
theorem tileObl6 : (K (F := F)).TileObl (D (F := F)) 𝒱 (P N) v₀ 6 := by
  intro d c i O Wt hO _ _
  simp only [show (P N).ox = fun _ _ => 0 from rfl, add_zero]
  have hci : ((K (F := F)).core 6 c).val < grid12.bound 0 ∧ ((K (F := F)).sub 6 i).val < grid12.bound 1 := ⟨c.isLt, i.isLt⟩
  change _ ⊢ wp _ _ _ (Pipeline.liftProg (defs₀ (F := F) (.scVector ((K (F := F)).core 6 c) ((K (F := F)).sub 6 i)) 12 ())) _
  refine BI.Entails.trans ?_ (Pipeline.wp_liftProg (D (F := F)) (Pipeline.defs_kernel pcfgs defs₀) 𝒱₀ _ Set.univ none _ _)
  rw [defs₀_scatter2]; simp only [SparseCore.onTile, hci, and_self, ↓reduceDIte]
  exact scatter_tile d (coordsV ⟨_, hci.1⟩ ⟨_, hci.2⟩) N.X N.Y (lay 2) sM2 (PT N 2) (N.W 2) (N.B 2) scatter_at2 6 (32 * 5 + tile (coordsV ⟨_, hci.1⟩ ⟨_, hci.2⟩)) facts hY O Wt hO

end Cert.Proof.Bin

end
-- ==== Proof.Pipe.lean ====
/-
  A pipelined call as a step of @main: what it leaves in its arrays, from its body's obligation on a block.
-/
module

public import proofs.«01_k».proof.Proof.Setup
public import proofs.«01_k».proof.Proof.Gen.KernelIdeal.Launch
public import proofs.«01_k».proof.Proof.Gen.KernelIdeal.Points
public import Idealize.ShloMosaic.Lib.Pipeline.ValueKit

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

variable [FloatOps F]

open Idealize.ShloMosaic.TcCoe
open Idealize.ShloMosaic.Pipeline (Dat Cfg Window BodyObligation cellOf)

/-! ## A call's data -/

/-- The pairs a core's waits have recorded lie at or below the level the next call asks. -/
def below (n : ℕ) (d : Dev nD) : Set (SemLoc sig × HIx 7) := {p | (K (F := F)).lev (T d, p.1) p.2 ≤ 8 * n}

/-- The data of a pipelined call run after `n` calls of the SparseCore's: the arrays on entry and each staging buffer after
    each block; the buffers of the other calls' pass by. -/
def pdat {cfg : Cfg sig Λ₀} (n : ℕ) (c : Dev nD) (A : (w : Fin cfg.W) → Buf (Elt F) ((cfg.win w).arr.view.loc (c.tc : Thread nD τ)))
    (aft : (w : Fin cfg.W) → Fin cfg.N → (cfg.win w).block.Idx → Elt F (cfg.win w).elt) : Dat τ (Elt F) (HIx 7) ℕ UU ℕ cfg c where
  A := A
  after := aft
  Φ _ := Pipeline.scopedRest cfg.spec c
  q _ := fullShare
  owed _ := (K (F := F)).Otc c n
  recorded _ := below (F := F) n c

abbrev adm : (p : Fin 6) → (pcfgs (F := F) p).Adm := fun p => (cfgs p).toPCfg_adm

/-- Data of the other calls, of no account. -/
def blank (p : Fin 6) (c : Dev nD) : Dat τ (Elt F) (HIx 7) ℕ UU ℕ (Pipeline.pin (pcfgs (F := F)) adm p) c :=
  pdat 0 c (fun _ => Classical.arbitrary _) (fun _ _ => Classical.arbitrary _)

/-- The pipelined calls' rounds' part of the resource algebra. -/
abbrev EP : Emb UP (MT nD τ sig (HIx 7) (Elt F) ℕ UU ℕ) := (Emb.inl : Emb UP (UP × Counters)).trans embR

instance : (EP (F := F)).LandsIn (upEmb : UEmb _ (MT nD τ sig (HIx 7) (Elt F) ℕ UU ℕ)) := by
  unfold EP; infer_instance

/-- What a core owes there, the pairs its waits have recorded bounded. -/
def owesN (n : ℕ) (c : Dev nD) : sProp 𝕄 := iprop(∃ Wt, ⌜(K (F := F)).WBelow (T c) Wt (8 * n)⌝ ∗ owes (T c) ((K (F := F)).Otc c n) Wt)

/-- A call's arrays, each whole. -/
def arrs (cfg : Cfg sig Λ₀) (c : Dev nD) (V : (w : Fin cfg.W) → Buf (Elt F) ((cfg.win w).arr.view.loc (c.tc : Thread nD τ))) : sProp 𝕄 :=
  bigSep Finset.univ fun w => ((c.tc : Thread nD τ).loc (Pipeline.arrRef cfg.spec w)) ↦{fullShare} V w

theorem arrays_arrs {cfg : Cfg sig Λ₀} (n : ℕ) (c : Dev nD) (h : ∀ w : Fin cfg.W, (cfg.spec w).arr.IsWhole) (A aft)
    (V : (w : Fin cfg.W) → Buf (Elt F) ((cfg.win w).arr.view.loc (c.tc : Thread nD τ))) : (pdat (F := F) n c A aft).arrays V = arrs cfg c V := by
  unfold Pipeline.Dat.arrays arrs
  refine bigSep_congr fun w _ => ?_
  rw [show ((cfg.win w).arr.view.set) = Finset.univ from (h w).set_eq_univ, (pdat (F := F) n c A aft).share_full (fun _ => rfl)]

variable (p : Fin 6) (kit : Pipeline.LaunchFacts (nD := nD) (τ := τ) cfgs p) (n : ℕ)
  (A : (c : Dev nD) → (w : Fin (cfgs p).W) → Buf (Elt F) (((cfgs p).win w).arr.view.loc (c.tc : Thread nD τ)))
  (aft : (w : Fin (cfgs p).W) → Fin (cfgs p).N → ((cfgs p).win w).block.Idx → Elt F ((cfgs p).win w).elt)
  (hb : ∀ c, BodyObligation (pdat (F := F) n c (A c) aft) (defs₀ (F := F)) 𝒱₀ none Set.univ)

/-- The data of all the calls, the one's at hand as given. -/
def pdats : (p : Fin 6) → (c : Dev nD) → Dat τ (Elt F) (HIx 7) ℕ UU ℕ (Pipeline.pin (pcfgs (F := F)) adm p) c :=
  Function.update blank p fun c => pdat n c (A c) aft

theorem pdats_self (c : Dev nD) : pdats p n A aft p c = pdat n c (A c) aft := by
  unfold pdats; rw [Function.update_self]

/-- What the call leaves in each array. -/
def left (c : Dev nD) (w : Fin (cfgs p).W) : Buf (Elt F) (((cfgs p).win w).arr.view.loc (c.tc : Thread nD τ)) := (pdat (F := F) n c (A c) aft).arrAt w (cfgs p).N

omit [FloatOps F] in
theorem rest_in (P Q R : sProp 𝕄) (h : R = P) : iprop(BI.emp ∗ Q ∗ R) ⊢ P := by
  subst h
  iintro ⟨-, -, H⟩; iexact H
omit [FloatOps F] in
theorem rest_out (P R : sProp 𝕄) (h : P = R) : P ⊢ iprop(BI.emp ∗ BI.emp ∗ R) := by
  subst h
  iintro H
  isplitr; · iempintro
  isplitr; · iempintro
  iexact H

def reg : Pipeline.RegionSeg (pcfgs (F := F)) adm (pdats p n A aft) none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := by rw [pdats_self]; exact (hb c).loose
  hwaits c := Pipeline.cellsWaits_of_cut (Pipeline.pin (pcfgs (F := F)) adm) (pdats p n A aft) none p c (8 * n) ((K (F := F)).Otc c n) (fun _ => by rw [pdats_self]; rfl)
    (fun _ _ => Finset.mem_univ _) (fun _ _ => Nat.zero_le _) (fun g i h => ⟨Finset.mem_univ _, Nat.lt_of_succ_le (SparseCore.Cfg.lev_of_Otc_pos h)⟩)
  pre c := iprop(arrs (cfgs p) c (A c) ∗ owesN (F := F) n c)
  post c := iprop(arrs (cfgs p) c (left p n A aft c) ∗ owesN (F := F) n c)
  X _ := BI.emp
  Y _ := BI.emp
  Z _ := BI.emp
  hentry c := by
    rw [Pipeline.ownSems0_none, pdats_self]
    iintro ⟨⟨Ha, HO⟩, -, -⟩
    imodintro
    isplitl [Ha]
    · iapply (Entails.of_eq (arrays_arrs (cfg := cfgs p) n c kit.arr_whole (A c) aft _).symm); iexact Ha
    isplitr; · unfold Pipeline.prefHeld; rw [show (Finset.univ : Finset (Fin 0)) = ∅ from rfl, BI.bigSep_empty]; iempintro
    isplitl [HO]
    · unfold owesN Pipeline.Dat.owesAt Pipeline.owesWithin
      icases HO with ⟨%Wt, %hW, HO⟩; iexists Wt; isplitr
      · ipureintro; exact fun p hp => Or.inl (hW p hp)
      iexact HO
    isplitr <;> iempintro
  hin c := by
    rw [pdats_self]
    exact rest_in _ _ _ rfl
  hout c := by
    rw [Pipeline.ownSems0_none, pdats_self]
    exact rest_out _ _ rfl
  hexit c := by
    rw [pdats_self]
    iintro ⟨Ha, HO, -, -⟩
    imodintro
    isplitl [Ha]
    · iapply (Entails.of_eq (arrays_arrs (cfg := cfgs p) n c kit.arr_whole (A c) aft _)); iexact Ha
    unfold owesN Pipeline.Dat.owesAt Pipeline.owesWithin
    icases HO with ⟨%Wt, %hW, HO⟩; iexists Wt; isplitr
    · ipureintro
      intro p hp
      rcases hW hp with h | ⟨w, s, h⟩
      · exact h
      · rw [h]; exact Nat.zero_le _
    iexact HO

include kit hb in
/-- The call's step: from the boundary, its arrays, what the core owes and the pipeline's ghost state, to its arrays as it
    leaves them. -/
theorem pipe_step (c : Dev nD) (Q : PUnit → sProp 𝕄) :
    iprop((iprop(boundary (T c) ∗ arrs (cfgs p) c (left p n A aft c) ∗ owesN (F := F) n c) -∗ Q ⟨⟩)
        ∗ boundary (T c) ∗ (arrs (cfgs p) c (A c) ∗ owesN (F := F) n c) ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs D) 𝒱 (T c) none) Set.univ
          (Prog.lift (.customCall (SparseCore.inner (Pipeline.entry p)) ())) Q := by
  refine BI.Entails.trans ?_ ((K (F := F)).wp_liftProg D 𝒱 (T c) Set.univ none (Prog.lift (.customCall (Pipeline.entry p) ())) Q)
  have h := Pipeline.RegionSeg.wp (pcfgs (F := F)) adm (pdats p n A aft) none cellOf_inj EP defs₀ 𝒱₀ (K (F := F)).L (K (F := F)).lev
    (reg p kit n A aft hb) c none (by simp) (fun u => Prog.ret u) Q
  refine (show _ ⊢ iprop((iprop(boundary (T c) ∗ arrs (cfgs p) c (left p n A aft c) ∗ owesN (F := F) n c) -∗ wp frame (wpE (D (F := F)) 𝒱 (T c) none) Set.univ (Prog.ret ⟨⟩) Q)
        ∗ boundary (T c) ∗ (arrs (cfgs p) c (A c) ∗ owesN (F := F) n c) ∗ levAts (K (F := F)).L (K (F := F)).lev
        ∗ Pipeline.cellsGhost (Pipeline.pin (pcfgs (F := F)) adm) EP p c ∗ Pipeline.toksInit (Pipeline.pin (pcfgs (F := F)) adm) EP p c) from ?_).trans h
  iintro ⟨Hk, Hb, Hp, Hl, Hc, Ht⟩
  isplitl [Hk]
  · iintro H
    rw [wp_ret]; imodintro
    iapply Hk; iexact H
  isplitl [Hb]; · iexact Hb
  isplitl [Hp]; · iexact Hp
  isplitl [Hl]; · iexact Hl
  isplitl [Hc] <;> iassumption

/-- What the TensorCore owes between two calls, apart from the rest of its state. -/
theorem tcSt_owes (n : ℕ) (d : Dev nD) : (K (F := F)).tcSt EH d n ⊢ (iprop(owesN (F := F) n d ∗ (owesN (F := F) n d -∗ (K (F := F)).tcSt EH d n)) : sProp 𝕄) := by
  have e : (K (F := F)).tcSt EH d n ⊢ (iprop(owesN (F := F) n d ∗ (owesN (F := F) n d -∗ (K (F := F)).tcSt EH d n)) : sProp 𝕄) := by
    unfold SparseCore.Cfg.tcSt owesN
    iintro ⟨HO, H⟩
    isplitl [HO]
    · iexact HO
    iintro HO
    isplitl [HO]
    · iexact HO
    · iexact H
  exact e

end Cert.Proof.Bin

end
-- ==== Proof.Msg.lean ====
/-
  The messages' calls: every block of rows through the layer's product, and the array it leaves.
-/
module

public import proofs.«01_k».proof.Proof.Pipe
public import proofs.«01_k».proof.Proof.Arr
public import proofs.«01_k».proof.Proof.Vals

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

variable [FloatOps F]

open Idealize.ShloMosaic.TcCoe
open Idealize.ShloMosaic.Pipeline (Dat Cfg Window BodyObligation cellOf)

/-! ## The body on one block -/

theorem read_writes_unit {sp : Space} {s : Shape} {e : EltTy} (v : View sig .tc sp s e) (f : v.ty.Contents (Elt F)) (off : Fin s.rank → ℕ) (h : off = fun _ => 0)
    (inb : ∀ a, off a + s.size a ≤ s.size a) (w : Vec F s e) : v.read (Elt F) (v.writes (Elt F) f [⟨Rect.unit off s.size inb, w⟩]) = w := by
  funext x
  refine View.read_writes_cons_hit_of_coords (Val := Elt F) v f (Rect.unit off s.size inb) w [] x x fun a => ?_
  subst h
  show _ = 0 + 1 * _
  rw [Nat.zero_add, Nat.one_mul]

theorem zeros2 : (![0, 0] : Fin 2 → ℕ) = fun _ => 0 := by funext a; fin_cases a <;> rfl

theorem msg_run (body) (hbody : body = cc3__msg_body (F := F)) (c : Dev nD) (i : grid3.Coords) (M0 : Memref sig .tc .vmem S1920x128 .f32) (h0 : M0.IsWhole) (M1 : Memref sig .tc .vmem S128x128 .f32) (h1 : M1.IsWhole) (M2 : Memref sig .tc .vmem S1x128 .f32) (h2 : M2.IsWhole) (M3 : Memref sig .tc .vmem S1920x128 .f32) (h3 : M3.IsWhole)
    (g : Vec F S1920x128 .f32) (w : Vec F S128x128 .f32) (b : Vec F S1x128 .f32) (Q : PUnit → sProp 𝕄) :
    iprop(owns (c : Thread nD τ) M0 fullShare g ∗ owns (c : Thread nD τ) M1 fullShare w ∗ owns (c : Thread nD τ) M2 fullShare b ∗ (∃ o, owns (c : Thread nD τ) M3 fullShare o)
        ∗ (iprop(owns (c : Thread nD τ) M0 fullShare g ∗ owns (c : Thread nD τ) M1 fullShare w ∗ owns (c : Thread nD τ) M2 fullShare b ∗ owns (c : Thread nD τ) M3 fullShare (k3_pay1 g w b)) -∗ Q ⟨⟩))
      ⊢ wp frame (wpE (defs₀ (F := F)) 𝒱₀ (c : Thread nD τ) none) Set.univ (body i M0 h0 M1 h1 M2 h2 M3 h3) Q := by
  subst hbody
  unfold owns
  rw [h0.set_eq_univ, h1.set_eq_univ, h2.set_eq_univ, h3.set_eq_univ]
  iintro ⟨⟨%f0, %e0, H0⟩, ⟨%f1, %e1, H1⟩, ⟨%f2, %e2, H2⟩, ⟨%o, %f3, %e3, H3⟩, Hk⟩
  subst e0; subst e1; subst e2; subst e3
  rw [cc3__msg_body_eq_skeleton]
  unfold cc3__msg_body_skel
  sl_exec!
  sl_step
  iapply Hk
  isplitl [H0]
  · iexists f0
    isplitr
    · ipureintro; rfl
    · iexact H0
  isplitl [H1]
  · iexists f1
    isplitr
    · ipureintro; rfl
    · iexact H1
  isplitl [H2]
  · iexists f2
    isplitr
    · ipureintro; rfl
    · iexact H2
  iexists _
  isplitr [H3]
  rotate_left
  · iexact H3
  · ipureintro
    sl_unfold_run_names
    refine (read_writes_unit M3.view _ _ zeros2 _ _).trans ?_
    rw [View.readAt_eq_ld, View.readAt_eq_ld, View.readAt_eq_ld, View.ld_unit_zero zeros2, View.ld_unit_zero zeros2, View.ld_unit_zero zeros2]

/-! ## The messages of layer 0 -/

def msg0_A (G : Vec F S176640x128 .f32) (W : Vec F S128x128 .f32) (B : Vec F S1x128 .f32) (O : Vec F S176640x128 .f32) (c : Dev nD) : (w : Fin cfg3.W) → Buf (Elt F) ((cfg3.win w).arr.view.loc (c.tc : Thread nD τ))
  | ⟨0, _⟩ => G
  | ⟨1, _⟩ => W
  | ⟨2, _⟩ => B
  | ⟨3, _⟩ => O

def msg0_aft (G : Vec F S176640x128 .f32) (W : Vec F S128x128 .f32) (B : Vec F S1x128 .f32) : (w : Fin cfg3.W) → Fin cfg3.N → (cfg3.win w).block.Idx → Elt F (cfg3.win w).elt
  | ⟨0, _⟩ => fun t => ((cfg3.win 0).blk t).view.read (Elt F) G
  | ⟨1, _⟩ => fun t => ((cfg3.win 1).blk t).view.read (Elt F) W
  | ⟨2, _⟩ => fun t => ((cfg3.win 2).blk t).view.read (Elt F) B
  | ⟨3, _⟩ => fun t => k3_pay1 (((cfg3.win 0).blk t).view.read (Elt F) G) (((cfg3.win 1).blk t).view.read (Elt F) W) (((cfg3.win 2).blk t).view.read (Elt F) B)

abbrev msg0_dat (G : Vec F S176640x128 .f32) (W : Vec F S128x128 .f32) (B : Vec F S1x128 .f32) (O : Vec F S176640x128 .f32) (c : Dev nD) : Dat τ (Elt F) (HIx 7) ℕ UU ℕ cfg3 c := pdat 2 c (msg0_A G W B O c) (msg0_aft G W B)

section
variable (G : Vec F S176640x128 .f32) (W : Vec F S128x128 .f32) (B : Vec F S1x128 .f32) (O : Vec F S176640x128 .f32)

theorem msg0_before0 (c : Dev nD) (t : Fin cfg3.N) (d) : (msg0_dat G W B O c).before 0 t d = ((cfg3.win 0).blk t).view.read (Elt F) G :=
  (msg0_dat G W B O c).before_in_eq_fetched 0 rfl (fun _ => rfl) (fun _ _ _ => rfl) (fun _ => rfl) t d
theorem msg0_before1 (c : Dev nD) (t : Fin cfg3.N) (d) : (msg0_dat G W B O c).before 1 t d = ((cfg3.win 1).blk t).view.read (Elt F) W :=
  (msg0_dat G W B O c).before_in_eq_fetched 1 rfl (fun _ => rfl) (fun _ _ _ => rfl) (fun _ => rfl) t d
theorem msg0_before2 (c : Dev nD) (t : Fin cfg3.N) (d) : (msg0_dat G W B O c).before 2 t d = ((cfg3.win 2).blk t).view.read (Elt F) B :=
  (msg0_dat G W B O c).before_in_eq_fetched 2 rfl (fun _ => rfl) (fun _ _ _ => rfl) (fun _ => rfl) t d

theorem msg0_body (c : Dev nD) : BodyObligation (msg0_dat G W B O c) (defs₀ (F := F)) 𝒱₀ none Set.univ := fun t => by
  rw [bigSep_W3, bigSep_W3]
  rw [show (msg0_dat G W B O c).Φ t.succ = (msg0_dat G W B O c).Φ t.castSucc from rfl,
    show (msg0_dat G W B O c).owesAt none t.succ = (msg0_dat G W B O c).owesAt none t.castSucc from rfl]
  iintro ⟨HΦ, Howes, ⟨%d0, H0⟩, ⟨%d1, H1⟩, ⟨%d2, H2⟩, ⟨%d3, H3⟩⟩
  rw [msg0_before0, msg0_before1, msg0_before2]
  iapply (msg_run (cc3__msg_body) rfl c (grid3.coords t) _ (hstage3_0 ((cfg3.slots t 0).cast nbuf3_0)) _ (hstage3_1 ((cfg3.slots t 1).cast nbuf3_1)) _ (hstage3_2 ((cfg3.slots t 2).cast nbuf3_2)) _ (hstage3_3 ((cfg3.slots t 3).cast nbuf3_3)) (((cfg3.win 0).blk t).view.read (Elt F) G) (((cfg3.win 1).blk t).view.read (Elt F) W) (((cfg3.win 2).blk t).view.read (Elt F) B) _)
  isplitl [H0]; · iexact H0
  isplitl [H1]; · iexact H1
  isplitl [H2]; · iexact H2
  isplitl [H3]
  · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem msg0_idx (t : Fin cfg3.N) : win3_3.index t 0 = t.val := by
  have h1 : (grid3.coords t 0).val = t.val / 1 % 92 := Pipeline.Grid.coords_val t 0 (by decide) rfl
  have h2 : t.val < 92 := t.isLt
  show (BitVec.ofNat 32 (grid3.coords t 0).val).toNat = _
  rw [BitVec.toNat_ofNat, h1]
  omega

theorem msg0_read1 (t : Fin cfg3.N) : ((cfg3.win 1).blk t).view.read (Elt F) W = W := by
  funext x
  refine congrArg W (funext fun a => ?_)
  fin_cases a
  · exact Fin.ext (Window.rect_emb_val_of_index_zero win3_1 t 0 rfl x)
  · exact Fin.ext (Window.rect_emb_val_of_index_zero win3_1 t 1 rfl x)
theorem msg0_read2 (t : Fin cfg3.N) : ((cfg3.win 2).blk t).view.read (Elt F) B = B := by
  funext x
  refine congrArg B (funext fun a => ?_)
  fin_cases a
  · exact Fin.ext (Window.rect_emb_val_of_index_zero win3_2 t 0 rfl x)
  · exact Fin.ext (Window.rect_emb_val_of_index_zero win3_2 t 1 rfl x)

theorem msg0_arr (c : Dev nD) : (msg0_dat G W B O c).arrAt 3 cfg3.N = msgOut G W B := by
  refine (msg0_dat G W B O c).arrAt_eq_of_covers 3 _ (by decide +kernel) fun t hf y => ?_
  show k3_pay1 (((cfg3.win 0).blk t).view.read (Elt F) G) (((cfg3.win 1).blk t).view.read (Elt F) W) (((cfg3.win 2).blk t).view.read (Elt F) B) y = _
  rw [msg0_read1, msg0_read2]
  refine byBlocks_blk (by decide) (by decide) (fun g => k3_pay1 g W B) G _ t.val (fun x => ⟨((cfg3.win 0).blk t).view.emb x, rfl, ?_, ?_⟩) y _ ?_ ?_
  · refine (Window.rect_emb_val win3_0 t x 0).trans ?_
    rw [show win3_0.index t 0 = t.val from msg0_idx t]
    show t.val * 1920 + _ = 1920 * t.val + _
    rw [Nat.mul_comm]
  · exact Window.rect_emb_val_of_index_zero win3_0 t 1 rfl x
  · refine (Window.rect_emb_val win3_3 t y 0).trans ?_
    rw [msg0_idx]
    show t.val * 1920 + _ = 1920 * t.val + _
    rw [Nat.mul_comm]
  · exact Window.rect_emb_val_of_index_zero win3_3 t 1 rfl y

theorem msg0_in (c : Dev nD) : (arrs (cfgs 1) c (msg0_A G W B O c) : sProp 𝕄) = iprop(Arr.pts (.of main_v65) c Finset.univ fullShare G ∗ Arr.pts (.of main_v20) c Finset.univ fullShare W ∗ Arr.pts (.of main_v22) c Finset.univ fullShare B ∗ Arr.pts (.of main_v66) c Finset.univ fullShare O) := bigSep_W3 _
set_option maxHeartbeats 2000000 in
theorem msg0_out (c : Dev nD) : arrs (cfgs 1) c (left 1 2 (fun c => msg0_A G W B O c) (msg0_aft G W B) c)
    = (iprop(Arr.pts (.of main_v65) c Finset.univ fullShare G ∗ Arr.pts (.of main_v20) c Finset.univ fullShare W ∗ Arr.pts (.of main_v22) c Finset.univ fullShare B ∗ Arr.pts (.of main_v66) c Finset.univ fullShare (msgOut G W B)) : sProp 𝕄) := by
  refine (bigSep_W3 _).trans ?_
  unfold left
  rw [show (pdat 2 c (msg0_A G W B O c) (msg0_aft G W B)).arrAt 3 (cfgs 1).N = msgOut G W B from msg0_arr G W B O c,
    show (pdat 2 c (msg0_A G W B O c) (msg0_aft G W B)).arrAt 0 (cfgs 1).N = G from (msg0_dat G W B O c).arrAt_in 0 rfl _, show (pdat 2 c (msg0_A G W B O c) (msg0_aft G W B)).arrAt 1 (cfgs 1).N = W from (msg0_dat G W B O c).arrAt_in 1 rfl _, show (pdat 2 c (msg0_A G W B O c) (msg0_aft G W B)).arrAt 2 (cfgs 1).N = B from (msg0_dat G W B O c).arrAt_in 2 rfl _]
  rfl

end

/-! ## The messages of layer 1 -/

def msg1_A (G : Vec F S176640x128 .f32) (W : Vec F S128x128 .f32) (B : Vec F S1x128 .f32) (O : Vec F S176640x128 .f32) (c : Dev nD) : (w : Fin cfg7.W) → Buf (Elt F) ((cfg7.win w).arr.view.loc (c.tc : Thread nD τ))
  | ⟨0, _⟩ => G
  | ⟨1, _⟩ => W
  | ⟨2, _⟩ => B
  | ⟨3, _⟩ => O

def msg1_aft (G : Vec F S176640x128 .f32) (W : Vec F S128x128 .f32) (B : Vec F S1x128 .f32) : (w : Fin cfg7.W) → Fin cfg7.N → (cfg7.win w).block.Idx → Elt F (cfg7.win w).elt
  | ⟨0, _⟩ => fun t => ((cfg7.win 0).blk t).view.read (Elt F) G
  | ⟨1, _⟩ => fun t => ((cfg7.win 1).blk t).view.read (Elt F) W
  | ⟨2, _⟩ => fun t => ((cfg7.win 2).blk t).view.read (Elt F) B
  | ⟨3, _⟩ => fun t => k3_pay1 (((cfg7.win 0).blk t).view.read (Elt F) G) (((cfg7.win 1).blk t).view.read (Elt F) W) (((cfg7.win 2).blk t).view.read (Elt F) B)

abbrev msg1_dat (G : Vec F S176640x128 .f32) (W : Vec F S128x128 .f32) (B : Vec F S1x128 .f32) (O : Vec F S176640x128 .f32) (c : Dev nD) : Dat τ (Elt F) (HIx 7) ℕ UU ℕ cfg7 c := pdat 4 c (msg1_A G W B O c) (msg1_aft G W B)

section
variable (G : Vec F S176640x128 .f32) (W : Vec F S128x128 .f32) (B : Vec F S1x128 .f32) (O : Vec F S176640x128 .f32)

theorem msg1_before0 (c : Dev nD) (t : Fin cfg7.N) (d) : (msg1_dat G W B O c).before 0 t d = ((cfg7.win 0).blk t).view.read (Elt F) G :=
  (msg1_dat G W B O c).before_in_eq_fetched 0 rfl (fun _ => rfl) (fun _ _ _ => rfl) (fun _ => rfl) t d
theorem msg1_before1 (c : Dev nD) (t : Fin cfg7.N) (d) : (msg1_dat G W B O c).before 1 t d = ((cfg7.win 1).blk t).view.read (Elt F) W :=
  (msg1_dat G W B O c).before_in_eq_fetched 1 rfl (fun _ => rfl) (fun _ _ _ => rfl) (fun _ => rfl) t d
theorem msg1_before2 (c : Dev nD) (t : Fin cfg7.N) (d) : (msg1_dat G W B O c).before 2 t d = ((cfg7.win 2).blk t).view.read (Elt F) B :=
  (msg1_dat G W B O c).before_in_eq_fetched 2 rfl (fun _ => rfl) (fun _ _ _ => rfl) (fun _ => rfl) t d

theorem msg1_body (c : Dev nD) : BodyObligation (msg1_dat G W B O c) (defs₀ (F := F)) 𝒱₀ none Set.univ := fun t => by
  rw [bigSep_W7, bigSep_W7]
  rw [show (msg1_dat G W B O c).Φ t.succ = (msg1_dat G W B O c).Φ t.castSucc from rfl,
    show (msg1_dat G W B O c).owesAt none t.succ = (msg1_dat G W B O c).owesAt none t.castSucc from rfl]
  iintro ⟨HΦ, Howes, ⟨%d0, H0⟩, ⟨%d1, H1⟩, ⟨%d2, H2⟩, ⟨%d3, H3⟩⟩
  rw [msg1_before0, msg1_before1, msg1_before2]
  iapply (msg_run (cc7__msg_body) rfl c (grid7.coords t) _ (hstage7_0 ((cfg7.slots t 0).cast nbuf7_0)) _ (hstage7_1 ((cfg7.slots t 1).cast nbuf7_1)) _ (hstage7_2 ((cfg7.slots t 2).cast nbuf7_2)) _ (hstage7_3 ((cfg7.slots t 3).cast nbuf7_3)) (((cfg7.win 0).blk t).view.read (Elt F) G) (((cfg7.win 1).blk t).view.read (Elt F) W) (((cfg7.win 2).blk t).view.read (Elt F) B) _)
  isplitl [H0]; · iexact H0
  isplitl [H1]; · iexact H1
  isplitl [H2]; · iexact H2
  isplitl [H3]
  · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem msg1_idx (t : Fin cfg7.N) : win7_3.index t 0 = t.val := by
  have h1 : (grid7.coords t 0).val = t.val / 1 % 92 := Pipeline.Grid.coords_val t 0 (by decide) rfl
  have h2 : t.val < 92 := t.isLt
  show (BitVec.ofNat 32 (grid7.coords t 0).val).toNat = _
  rw [BitVec.toNat_ofNat, h1]
  omega

theorem msg1_read1 (t : Fin cfg7.N) : ((cfg7.win 1).blk t).view.read (Elt F) W = W := by
  funext x
  refine congrArg W (funext fun a => ?_)
  fin_cases a
  · exact Fin.ext (Window.rect_emb_val_of_index_zero win7_1 t 0 rfl x)
  · exact Fin.ext (Window.rect_emb_val_of_index_zero win7_1 t 1 rfl x)
theorem msg1_read2 (t : Fin cfg7.N) : ((cfg7.win 2).blk t).view.read (Elt F) B = B := by
  funext x
  refine congrArg B (funext fun a => ?_)
  fin_cases a
  · exact Fin.ext (Window.rect_emb_val_of_index_zero win7_2 t 0 rfl x)
  · exact Fin.ext (Window.rect_emb_val_of_index_zero win7_2 t 1 rfl x)

theorem msg1_arr (c : Dev nD) : (msg1_dat G W B O c).arrAt 3 cfg7.N = msgOut G W B := by
  refine (msg1_dat G W B O c).arrAt_eq_of_covers 3 _ (by decide +kernel) fun t hf y => ?_
  show k3_pay1 (((cfg7.win 0).blk t).view.read (Elt F) G) (((cfg7.win 1).blk t).view.read (Elt F) W) (((cfg7.win 2).blk t).view.read (Elt F) B) y = _
  rw [msg1_read1, msg1_read2]
  refine byBlocks_blk (by decide) (by decide) (fun g => k3_pay1 g W B) G _ t.val (fun x => ⟨((cfg7.win 0).blk t).view.emb x, rfl, ?_, ?_⟩) y _ ?_ ?_
  · refine (Window.rect_emb_val win7_0 t x 0).trans ?_
    rw [show win7_0.index t 0 = t.val from msg1_idx t]
    show t.val * 1920 + _ = 1920 * t.val + _
    rw [Nat.mul_comm]
  · exact Window.rect_emb_val_of_index_zero win7_0 t 1 rfl x
  · refine (Window.rect_emb_val win7_3 t y 0).trans ?_
    rw [msg1_idx]
    show t.val * 1920 + _ = 1920 * t.val + _
    rw [Nat.mul_comm]
  · exact Window.rect_emb_val_of_index_zero win7_3 t 1 rfl y

theorem msg1_in (c : Dev nD) : (arrs (cfgs 3) c (msg1_A G W B O c) : sProp 𝕄) = iprop(Arr.pts (.of main_v71) c Finset.univ fullShare G ∗ Arr.pts (.of main_v39) c Finset.univ fullShare W ∗ Arr.pts (.of main_v41) c Finset.univ fullShare B ∗ Arr.pts (.of main_v72) c Finset.univ fullShare O) := bigSep_W7 _
set_option maxHeartbeats 2000000 in
theorem msg1_out (c : Dev nD) : arrs (cfgs 3) c (left 3 4 (fun c => msg1_A G W B O c) (msg1_aft G W B) c)
    = (iprop(Arr.pts (.of main_v71) c Finset.univ fullShare G ∗ Arr.pts (.of main_v39) c Finset.univ fullShare W ∗ Arr.pts (.of main_v41) c Finset.univ fullShare B ∗ Arr.pts (.of main_v72) c Finset.univ fullShare (msgOut G W B)) : sProp 𝕄) := by
  refine (bigSep_W7 _).trans ?_
  unfold left
  rw [show (pdat 4 c (msg1_A G W B O c) (msg1_aft G W B)).arrAt 3 (cfgs 3).N = msgOut G W B from msg1_arr G W B O c,
    show (pdat 4 c (msg1_A G W B O c) (msg1_aft G W B)).arrAt 0 (cfgs 3).N = G from (msg1_dat G W B O c).arrAt_in 0 rfl _, show (pdat 4 c (msg1_A G W B O c) (msg1_aft G W B)).arrAt 1 (cfgs 3).N = W from (msg1_dat G W B O c).arrAt_in 1 rfl _, show (pdat 4 c (msg1_A G W B O c) (msg1_aft G W B)).arrAt 2 (cfgs 3).N = B from (msg1_dat G W B O c).arrAt_in 2 rfl _]
  rfl

end

/-! ## The messages of layer 2 -/

def msg2_A (G : Vec F S176640x128 .f32) (W : Vec F S128x128 .f32) (B : Vec F S1x128 .f32) (O : Vec F S176640x128 .f32) (c : Dev nD) : (w : Fin cfg11.W) → Buf (Elt F) ((cfg11.win w).arr.view.loc (c.tc : Thread nD τ))
  | ⟨0, _⟩ => G
  | ⟨1, _⟩ => W
  | ⟨2, _⟩ => B
  | ⟨3, _⟩ => O

def msg2_aft (G : Vec F S176640x128 .f32) (W : Vec F S128x128 .f32) (B : Vec F S1x128 .f32) : (w : Fin cfg11.W) → Fin cfg11.N → (cfg11.win w).block.Idx → Elt F (cfg11.win w).elt
  | ⟨0, _⟩ => fun t => ((cfg11.win 0).blk t).view.read (Elt F) G
  | ⟨1, _⟩ => fun t => ((cfg11.win 1).blk t).view.read (Elt F) W
  | ⟨2, _⟩ => fun t => ((cfg11.win 2).blk t).view.read (Elt F) B
  | ⟨3, _⟩ => fun t => k3_pay1 (((cfg11.win 0).blk t).view.read (Elt F) G) (((cfg11.win 1).blk t).view.read (Elt F) W) (((cfg11.win 2).blk t).view.read (Elt F) B)

abbrev msg2_dat (G : Vec F S176640x128 .f32) (W : Vec F S128x128 .f32) (B : Vec F S1x128 .f32) (O : Vec F S176640x128 .f32) (c : Dev nD) : Dat τ (Elt F) (HIx 7) ℕ UU ℕ cfg11 c := pdat 6 c (msg2_A G W B O c) (msg2_aft G W B)

section
variable (G : Vec F S176640x128 .f32) (W : Vec F S128x128 .f32) (B : Vec F S1x128 .f32) (O : Vec F S176640x128 .f32)

theorem msg2_before0 (c : Dev nD) (t : Fin cfg11.N) (d) : (msg2_dat G W B O c).before 0 t d = ((cfg11.win 0).blk t).view.read (Elt F) G :=
  (msg2_dat G W B O c).before_in_eq_fetched 0 rfl (fun _ => rfl) (fun _ _ _ => rfl) (fun _ => rfl) t d
theorem msg2_before1 (c : Dev nD) (t : Fin cfg11.N) (d) : (msg2_dat G W B O c).before 1 t d = ((cfg11.win 1).blk t).view.read (Elt F) W :=
  (msg2_dat G W B O c).before_in_eq_fetched 1 rfl (fun _ => rfl) (fun _ _ _ => rfl) (fun _ => rfl) t d
theorem msg2_before2 (c : Dev nD) (t : Fin cfg11.N) (d) : (msg2_dat G W B O c).before 2 t d = ((cfg11.win 2).blk t).view.read (Elt F) B :=
  (msg2_dat G W B O c).before_in_eq_fetched 2 rfl (fun _ => rfl) (fun _ _ _ => rfl) (fun _ => rfl) t d

theorem msg2_body (c : Dev nD) : BodyObligation (msg2_dat G W B O c) (defs₀ (F := F)) 𝒱₀ none Set.univ := fun t => by
  rw [bigSep_W11, bigSep_W11]
  rw [show (msg2_dat G W B O c).Φ t.succ = (msg2_dat G W B O c).Φ t.castSucc from rfl,
    show (msg2_dat G W B O c).owesAt none t.succ = (msg2_dat G W B O c).owesAt none t.castSucc from rfl]
  iintro ⟨HΦ, Howes, ⟨%d0, H0⟩, ⟨%d1, H1⟩, ⟨%d2, H2⟩, ⟨%d3, H3⟩⟩
  rw [msg2_before0, msg2_before1, msg2_before2]
  iapply (msg_run (cc11__msg_body) rfl c (grid11.coords t) _ (hstage11_0 ((cfg11.slots t 0).cast nbuf11_0)) _ (hstage11_1 ((cfg11.slots t 1).cast nbuf11_1)) _ (hstage11_2 ((cfg11.slots t 2).cast nbuf11_2)) _ (hstage11_3 ((cfg11.slots t 3).cast nbuf11_3)) (((cfg11.win 0).blk t).view.read (Elt F) G) (((cfg11.win 1).blk t).view.read (Elt F) W) (((cfg11.win 2).blk t).view.read (Elt F) B) _)
  isplitl [H0]; · iexact H0
  isplitl [H1]; · iexact H1
  isplitl [H2]; · iexact H2
  isplitl [H3]
  · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem msg2_idx (t : Fin cfg11.N) : win11_3.index t 0 = t.val := by
  have h1 : (grid11.coords t 0).val = t.val / 1 % 92 := Pipeline.Grid.coords_val t 0 (by decide) rfl
  have h2 : t.val < 92 := t.isLt
  show (BitVec.ofNat 32 (grid11.coords t 0).val).toNat = _
  rw [BitVec.toNat_ofNat, h1]
  omega

theorem msg2_read1 (t : Fin cfg11.N) : ((cfg11.win 1).blk t).view.read (Elt F) W = W := by
  funext x
  refine congrArg W (funext fun a => ?_)
  fin_cases a
  · exact Fin.ext (Window.rect_emb_val_of_index_zero win11_1 t 0 rfl x)
  · exact Fin.ext (Window.rect_emb_val_of_index_zero win11_1 t 1 rfl x)
theorem msg2_read2 (t : Fin cfg11.N) : ((cfg11.win 2).blk t).view.read (Elt F) B = B := by
  funext x
  refine congrArg B (funext fun a => ?_)
  fin_cases a
  · exact Fin.ext (Window.rect_emb_val_of_index_zero win11_2 t 0 rfl x)
  · exact Fin.ext (Window.rect_emb_val_of_index_zero win11_2 t 1 rfl x)

theorem msg2_arr (c : Dev nD) : (msg2_dat G W B O c).arrAt 3 cfg11.N = msgOut G W B := by
  refine (msg2_dat G W B O c).arrAt_eq_of_covers 3 _ (by decide +kernel) fun t hf y => ?_
  show k3_pay1 (((cfg11.win 0).blk t).view.read (Elt F) G) (((cfg11.win 1).blk t).view.read (Elt F) W) (((cfg11.win 2).blk t).view.read (Elt F) B) y = _
  rw [msg2_read1, msg2_read2]
  refine byBlocks_blk (by decide) (by decide) (fun g => k3_pay1 g W B) G _ t.val (fun x => ⟨((cfg11.win 0).blk t).view.emb x, rfl, ?_, ?_⟩) y _ ?_ ?_
  · refine (Window.rect_emb_val win11_0 t x 0).trans ?_
    rw [show win11_0.index t 0 = t.val from msg2_idx t]
    show t.val * 1920 + _ = 1920 * t.val + _
    rw [Nat.mul_comm]
  · exact Window.rect_emb_val_of_index_zero win11_0 t 1 rfl x
  · refine (Window.rect_emb_val win11_3 t y 0).trans ?_
    rw [msg2_idx]
    show t.val * 1920 + _ = 1920 * t.val + _
    rw [Nat.mul_comm]
  · exact Window.rect_emb_val_of_index_zero win11_3 t 1 rfl y

theorem msg2_in (c : Dev nD) : (arrs (cfgs 5) c (msg2_A G W B O c) : sProp 𝕄) = iprop(Arr.pts (.of main_v77) c Finset.univ fullShare G ∗ Arr.pts (.of main_v58) c Finset.univ fullShare W ∗ Arr.pts (.of main_v60) c Finset.univ fullShare B ∗ Arr.pts (.of main_v78) c Finset.univ fullShare O) := bigSep_W11 _
set_option maxHeartbeats 2000000 in
theorem msg2_out (c : Dev nD) : arrs (cfgs 5) c (left 5 6 (fun c => msg2_A G W B O c) (msg2_aft G W B) c)
    = (iprop(Arr.pts (.of main_v77) c Finset.univ fullShare G ∗ Arr.pts (.of main_v58) c Finset.univ fullShare W ∗ Arr.pts (.of main_v60) c Finset.univ fullShare B ∗ Arr.pts (.of main_v78) c Finset.univ fullShare (msgOut G W B)) : sProp 𝕄) := by
  refine (bigSep_W11 _).trans ?_
  unfold left
  rw [show (pdat 6 c (msg2_A G W B O c) (msg2_aft G W B)).arrAt 3 (cfgs 5).N = msgOut G W B from msg2_arr G W B O c,
    show (pdat 6 c (msg2_A G W B O c) (msg2_aft G W B)).arrAt 0 (cfgs 5).N = G from (msg2_dat G W B O c).arrAt_in 0 rfl _, show (pdat 6 c (msg2_A G W B O c) (msg2_aft G W B)).arrAt 1 (cfgs 5).N = W from (msg2_dat G W B O c).arrAt_in 1 rfl _, show (pdat 6 c (msg2_A G W B O c) (msg2_aft G W B)).arrAt 2 (cfgs 5).N = B from (msg2_dat G W B O c).arrAt_in 2 rfl _]
  rfl

end

end Cert.Proof.Bin

end
-- ==== Proof.Host.lean ====
/-
  The host's operations: what they leave in the arrays the calls read, and the arrays in groups, one for each of the program's steps.
-/
module

public import proofs.«01_k».proof.Proof.Pay

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

open Idealize.ShloMosaic.StableHlo

variable [FloatOps F]

/-! ## The host operations -/

/-- The edges' two rows. -/
abbrev opsI : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 (rfl : (.i32 : EltTy) = .i32) shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 (rfl : (.i32 : EltTy) = .i32) shapeCasts_S1x320000_S320000 ]
/-- The operands of a layer's calls. -/
abbrev opsL0 : List (HloOp τ sig (Elt F)) :=
  [ unary main_arg6 main_v4 ((extractStridedSlice S64x64 ![0, 0] · slices_S128x64_S64x64_0_0) : (⟨S128x64, .f32⟩ : BufTy).Contents (Elt F) → (⟨S64x64, .f32⟩ : BufTy).Contents (Elt F)),
    unary main_arg6 main_v5 ((extractStridedSlice S64x64 ![64, 0] · slices_S128x64_S64x64_64_0) : (⟨S128x64, .f32⟩ : BufTy).Contents (Elt F) → (⟨S64x64, .f32⟩ : BufTy).Contents (Elt F)),
    binary main_v4 main_v5 main_v6 (subf : (⟨S64x64, .f32⟩ : BufTy).Contents (Elt F) → (⟨S64x64, .f32⟩ : BufTy).Contents (Elt F) → (⟨S64x64, .f32⟩ : BufTy).Contents (Elt F)),
    unary main_arg6 main_v7 ((extractStridedSlice S64x64 ![64, 0] · slices_S128x64_S64x64_64_0) : (⟨S128x64, .f32⟩ : BufTy).Contents (Elt F) → (⟨S64x64, .f32⟩ : BufTy).Contents (Elt F)),
    binary main_v6 main_v7 main_v8 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    nullary main_cst (constant S_ .f32 0x00000000#32),
    unary main_cst main_v9 (broadcastInDim S64 ![] bcast_S_S64 : (⟨S_, .f32⟩ : BufTy).Contents (Elt F) → (⟨S64, .f32⟩ : BufTy).Contents (Elt F)),
    binary main_arg7 main_v9 main_v10 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    unary main_v10 main_v11 (broadcastInDim S1x128 ![1] bcast_S128_S1x128_1 : (⟨S128, .f32⟩ : BufTy).Contents (Elt F) → (⟨S1x128, .f32⟩ : BufTy).Contents (Elt F)),
    nullary main_cst_0 (constant S_ .f32 0x00000000#32),
    unary main_cst_0 main_v12 (broadcastInDim S128x128 ![] bcast_S_S128x128 : (⟨S_, .f32⟩ : BufTy).Contents (Elt F) → (⟨S128x128, .f32⟩ : BufTy).Contents (Elt F)),
    nullary main_c (constantI S_ 32 0#32),
    unary main_c main_v13 (broadcastInDim S1 ![] bcast_S_S1 : (⟨S_, .i32⟩ : BufTy).Contents (Elt F) → (⟨S1, .i32⟩ : BufTy).Contents (Elt F)),
    nullary main_c_1 (constantI S_ 32 0#32),
    unary main_c_1 main_v14 (broadcastInDim S1 ![] bcast_S_S1 : (⟨S_, .i32⟩ : BufTy).Contents (Elt F) → (⟨S1, .i32⟩ : BufTy).Contents (Elt F)),
    binary main_v13 main_v14 main_v15 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v12 main_v15 main_arg8 main_v16 ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)),
    nullary main_c_2 (constantI S_ 32 64#32),
    unary main_c_2 main_v17 (broadcastInDim S1 ![] bcast_S_S1 : (⟨S_, .i32⟩ : BufTy).Contents (Elt F) → (⟨S1, .i32⟩ : BufTy).Contents (Elt F)),
    nullary main_c_3 (constantI S_ 32 64#32),
    unary main_c_3 main_v18 (broadcastInDim S1 ![] bcast_S_S1 : (⟨S_, .i32⟩ : BufTy).Contents (Elt F) → (⟨S1, .i32⟩ : BufTy).Contents (Elt F)),
    binary main_v17 main_v18 main_v19 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v16 main_v19 main_arg8 main_v20 ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)),
    binary main_arg9 main_arg9 main_v21 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    unary main_v21 main_v22 (broadcastInDim S1x128 ![1] bcast_S128_S1x128_1 : (⟨S128, .f32⟩ : BufTy).Contents (Elt F) → (⟨S1x128, .f32⟩ : BufTy).Contents (Elt F)) ]
abbrev opsL1 : List (HloOp τ sig (Elt F)) :=
  [ unary main_arg10 main_v23 ((extractStridedSlice S64x64 ![0, 0] · slices_S128x64_S64x64_0_0) : (⟨S128x64, .f32⟩ : BufTy).Contents (Elt F) → (⟨S64x64, .f32⟩ : BufTy).Contents (Elt F)),
    unary main_arg10 main_v24 ((extractStridedSlice S64x64 ![64, 0] · slices_S128x64_S64x64_64_0) : (⟨S128x64, .f32⟩ : BufTy).Contents (Elt F) → (⟨S64x64, .f32⟩ : BufTy).Contents (Elt F)),
    binary main_v23 main_v24 main_v25 (subf : (⟨S64x64, .f32⟩ : BufTy).Contents (Elt F) → (⟨S64x64, .f32⟩ : BufTy).Contents (Elt F) → (⟨S64x64, .f32⟩ : BufTy).Contents (Elt F)),
    unary main_arg10 main_v26 ((extractStridedSlice S64x64 ![64, 0] · slices_S128x64_S64x64_64_0) : (⟨S128x64, .f32⟩ : BufTy).Contents (Elt F) → (⟨S64x64, .f32⟩ : BufTy).Contents (Elt F)),
    binary main_v25 main_v26 main_v27 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    nullary main_cst_4 (constant S_ .f32 0x00000000#32),
    unary main_cst_4 main_v28 (broadcastInDim S64 ![] bcast_S_S64 : (⟨S_, .f32⟩ : BufTy).Contents (Elt F) → (⟨S64, .f32⟩ : BufTy).Contents (Elt F)),
    binary main_arg11 main_v28 main_v29 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    unary main_v29 main_v30 (broadcastInDim S1x128 ![1] bcast_S128_S1x128_1 : (⟨S128, .f32⟩ : BufTy).Contents (Elt F) → (⟨S1x128, .f32⟩ : BufTy).Contents (Elt F)),
    nullary main_cst_5 (constant S_ .f32 0x00000000#32),
    unary main_cst_5 main_v31 (broadcastInDim S128x128 ![] bcast_S_S128x128 : (⟨S_, .f32⟩ : BufTy).Contents (Elt F) → (⟨S128x128, .f32⟩ : BufTy).Contents (Elt F)),
    nullary main_c_6 (constantI S_ 32 0#32),
    unary main_c_6 main_v32 (broadcastInDim S1 ![] bcast_S_S1 : (⟨S_, .i32⟩ : BufTy).Contents (Elt F) → (⟨S1, .i32⟩ : BufTy).Contents (Elt F)),
    nullary main_c_7 (constantI S_ 32 0#32),
    unary main_c_7 main_v33 (broadcastInDim S1 ![] bcast_S_S1 : (⟨S_, .i32⟩ : BufTy).Contents (Elt F) → (⟨S1, .i32⟩ : BufTy).Contents (Elt F)),
    binary main_v32 main_v33 main_v34 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v31 main_v34 main_arg12 main_v35 ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)),
    nullary main_c_8 (constantI S_ 32 64#32),
    unary main_c_8 main_v36 (broadcastInDim S1 ![] bcast_S_S1 : (⟨S_, .i32⟩ : BufTy).Contents (Elt F) → (⟨S1, .i32⟩ : BufTy).Contents (Elt F)),
    nullary main_c_9 (constantI S_ 32 64#32),
    unary main_c_9 main_v37 (broadcastInDim S1 ![] bcast_S_S1 : (⟨S_, .i32⟩ : BufTy).Contents (Elt F) → (⟨S1, .i32⟩ : BufTy).Contents (Elt F)),
    binary main_v36 main_v37 main_v38 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v35 main_v38 main_arg12 main_v39 ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)),
    binary main_arg13 main_arg13 main_v40 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    unary main_v40 main_v41 (broadcastInDim S1x128 ![1] bcast_S128_S1x128_1 : (⟨S128, .f32⟩ : BufTy).Contents (Elt F) → (⟨S1x128, .f32⟩ : BufTy).Contents (Elt F)) ]
abbrev opsL2 : List (HloOp τ sig (Elt F)) :=
  [ unary main_arg14 main_v42 ((extractStridedSlice S64x64 ![0, 0] · slices_S128x64_S64x64_0_0) : (⟨S128x64, .f32⟩ : BufTy).Contents (Elt F) → (⟨S64x64, .f32⟩ : BufTy).Contents (Elt F)),
    unary main_arg14 main_v43 ((extractStridedSlice S64x64 ![64, 0] · slices_S128x64_S64x64_64_0) : (⟨S128x64, .f32⟩ : BufTy).Contents (Elt F) → (⟨S64x64, .f32⟩ : BufTy).Contents (Elt F)),
    binary main_v42 main_v43 main_v44 (subf : (⟨S64x64, .f32⟩ : BufTy).Contents (Elt F) → (⟨S64x64, .f32⟩ : BufTy).Contents (Elt F) → (⟨S64x64, .f32⟩ : BufTy).Contents (Elt F)),
    unary main_arg14 main_v45 ((extractStridedSlice S64x64 ![64, 0] · slices_S128x64_S64x64_64_0) : (⟨S128x64, .f32⟩ : BufTy).Contents (Elt F) → (⟨S64x64, .f32⟩ : BufTy).Contents (Elt F)),
    binary main_v44 main_v45 main_v46 ((fun a b => concatenate S64x128 1 [⟨S64x64, a⟩, ⟨S64x64, b⟩] concatenates_S64x64_S64x64_S64x128_d1) : (⟨S64x64, .f32⟩ : BufTy).Contents (Elt F) → (⟨S64x64, .f32⟩ : BufTy).Contents (Elt F) → (⟨S64x128, .f32⟩ : BufTy).Contents (Elt F)),
    nullary main_cst_10 (constant S_ .f32 0x00000000#32),
    unary main_cst_10 main_v47 (broadcastInDim S64 ![] bcast_S_S64 : (⟨S_, .f32⟩ : BufTy).Contents (Elt F) → (⟨S64, .f32⟩ : BufTy).Contents (Elt F)),
    binary main_arg15 main_v47 main_v48 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    unary main_v48 main_v49 (broadcastInDim S1x128 ![1] bcast_S128_S1x128_1 : (⟨S128, .f32⟩ : BufTy).Contents (Elt F) → (⟨S1x128, .f32⟩ : BufTy).Contents (Elt F)),
    nullary main_cst_11 (constant S_ .f32 0x00000000#32),
    unary main_cst_11 main_v50 (broadcastInDim S128x128 ![] bcast_S_S128x128 : (⟨S_, .f32⟩ : BufTy).Contents (Elt F) → (⟨S128x128, .f32⟩ : BufTy).Contents (Elt F)),
    nullary main_c_12 (constantI S_ 32 0#32),
    unary main_c_12 main_v51 (broadcastInDim S1 ![] bcast_S_S1 : (⟨S_, .i32⟩ : BufTy).Contents (Elt F) → (⟨S1, .i32⟩ : BufTy).Contents (Elt F)),
    nullary main_c_13 (constantI S_ 32 0#32),
    unary main_c_13 main_v52 (broadcastInDim S1 ![] bcast_S_S1 : (⟨S_, .i32⟩ : BufTy).Contents (Elt F) → (⟨S1, .i32⟩ : BufTy).Contents (Elt F)),
    binary main_v51 main_v52 main_v53 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v50 main_v53 main_arg16 main_v54 ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)),
    nullary main_c_14 (constantI S_ 32 64#32),
    unary main_c_14 main_v55 (broadcastInDim S1 ![] bcast_S_S1 : (⟨S_, .i32⟩ : BufTy).Contents (Elt F) → (⟨S1, .i32⟩ : BufTy).Contents (Elt F)),
    nullary main_c_15 (constantI S_ 32 64#32),
    unary main_c_15 main_v56 (broadcastInDim S1 ![] bcast_S_S1 : (⟨S_, .i32⟩ : BufTy).Contents (Elt F) → (⟨S1, .i32⟩ : BufTy).Contents (Elt F)),
    binary main_v55 main_v56 main_v57 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v54 main_v57 main_arg16 main_v58 ((fun x i u => Host.scatter scatter_S128x128_S2_S64x64_01_n_01_0 (fun _ b => b) x i u) : (⟨S128x128, .f32⟩ : BufTy).Contents (Elt F) → (⟨S2, .i32⟩ : BufTy).Contents (Elt F) → (⟨S64x64, .f32⟩ : BufTy).Contents (Elt F) → (⟨S128x128, .f32⟩ : BufTy).Contents (Elt F)),
    binary main_arg17 main_arg17 main_v59 ((fun a b => concatenate S128 0 [⟨S64, a⟩, ⟨S64, b⟩] concatenates_S64_S64_S128_d0) : (⟨S64, .f32⟩ : BufTy).Contents (Elt F) → (⟨S64, .f32⟩ : BufTy).Contents (Elt F) → (⟨S128, .f32⟩ : BufTy).Contents (Elt F)),
    unary main_v59 main_v60 (broadcastInDim S1x128 ![1] bcast_S128_S1x128_1 : (⟨S128, .f32⟩ : BufTy).Contents (Elt F) → (⟨S1x128, .f32⟩ : BufTy).Contents (Elt F)) ]
/-- The encoder's biases, as rows. -/
abbrev opsE : List (HloOp τ sig (Elt F)) :=
  [ unary main_arg3 main_v62 (broadcastInDim S1x64 ![1] bcast_S64_S1x64_1 : (⟨S64, .f32⟩ : BufTy).Contents (Elt F) → (⟨S1x64, .f32⟩ : BufTy).Contents (Elt F)),
    unary main_arg5 main_v63 (broadcastInDim S1x64 ![1] bcast_S64_S1x64_1 : (⟨S64, .f32⟩ : BufTy).Contents (Elt F) → (⟨S1x64, .f32⟩ : BufTy).Contents (Elt F)) ]
/-- A layer's maxima as its result. -/
abbrev opsS0 : List (HloOp τ sig (Elt F)) :=
  [ unary main_v67 main_v68 ((extractStridedSlice S5000x128 ![0, 0] · slices_S5120x128_S5000x128_0_0) : (⟨S5120x128, .f32⟩ : BufTy).Contents (Elt F) → (⟨S5000x128, .f32⟩ : BufTy).Contents (Elt F)),
    reshape main_v68 main_v69 (rfl : (.f32 : EltTy) = .f32) shapeCasts_S5000x128_S10000x64 ]
abbrev opsS1 : List (HloOp τ sig (Elt F)) :=
  [ unary main_v73 main_v74 ((extractStridedSlice S5000x128 ![0, 0] · slices_S5120x128_S5000x128_0_0) : (⟨S5120x128, .f32⟩ : BufTy).Contents (Elt F) → (⟨S5000x128, .f32⟩ : BufTy).Contents (Elt F)),
    reshape main_v74 main_v75 (rfl : (.f32 : EltTy) = .f32) shapeCasts_S5000x128_S10000x64 ]
abbrev opsS2 : List (HloOp τ sig (Elt F)) :=
  [ unary main_v79 main_v80 ((extractStridedSlice S5000x128 ![0, 0] · slices_S5120x128_S5000x128_0_0) : (⟨S5120x128, .f32⟩ : BufTy).Contents (Elt F) → (⟨S5000x128, .f32⟩ : BufTy).Contents (Elt F)),
    reshape main_v80 main_v81 (rfl : (.f32 : EltTy) = .f32) shapeCasts_S5000x128_S10000x64 ]
abbrev opsA : List (HloOp τ sig (Elt F)) := opsI ++ (opsL0 ++ (opsL1 ++ opsL2))

abbrev call (p : Fin 6) : Prog (TpuEff nD τ sig (Elt F) (SparseCore.Sig (ΛP (F := F)) 7) .tc) PUnit := Prog.lift (.customCall (SparseCore.inner (Pipeline.entry p)) ())

set_option maxRecDepth 65536 in
set_option maxHeartbeats 4000000 in
theorem main_eq (d : Dev nD) : main (F := F) d = (seq opsA >>= fun _ => sc.run d 0 >>= fun _ => seq opsE >>= fun _ => call 0 >>= fun _ =>
    sc.run d 1 >>= fun _ => call 1 >>= fun _ => sc.run d 2 >>= fun _ => seq opsS0 >>= fun _ => call 2 >>= fun _ =>
    sc.run d 3 >>= fun _ => call 3 >>= fun _ => sc.run d 4 >>= fun _ => seq opsS1 >>= fun _ => call 4 >>= fun _ =>
    sc.run d 5 >>= fun _ => call 5 >>= fun _ => sc.run d 6 >>= fun _ => seq opsS2) := rfl

/-- Every array of the TensorCore's. -/
def bufs : Finset (DevRef τ sig) := (StableHlo.tcRefs τ sig).filter fun b => ¬ b.isScoped

omit [FloatOps F] in
theorem unscopedBufs_held (d : Dev nD) (W : Valuation τ sig (Elt F)) : (unscopedBufs d (fun b => W (Proc.devRef .tc b)) : sProp 𝕄) = held (T d) bufs W := by
  unfold unscopedBufs StableHlo.held bufs StableHlo.tcRefs
  rw [Finset.filter_map, BI.bigSep_map]
  rfl

/-- Where an array lies. -/
abbrev at' (r : Ref sig .tc) : DevRef τ sig := Proc.devRef .tc r
/-- Its contents at launch. -/
abbrev rd (m : (ℓ : Loc nD τ sig) → Buf (Elt F) ℓ) (d : Dev nD) (r : Ref sig .tc) : Buf (Elt F) ((SparseCore.T d : Thread nD τ).loc r) := m ((SparseCore.T d : Thread nD τ).loc r)

theorem subA : ∀ op ∈ (opsA : List (HloOp τ sig (Elt F))), op.bufs ⊆ bufs := by
  intro _ h
  (repeat (cases h with | head => ((first | rw [unary_bufs] | rw [reshape_bufs] | rw [nullary_bufs] | rw [binary_bufs] | rw [ternary_bufs]); decide) | tail _ h => ?_))
  exact nomatch h
theorem freshA : ∀ op ∈ (opsA : List (HloOp τ sig (Elt F))), op.fresh = ∅ := by
  intro _ h; (repeat (cases h with | head => rfl | tail _ h => ?_)); exact nomatch h
theorem freshE : ∀ op ∈ (opsE : List (HloOp τ sig (Elt F))), op.fresh = ∅ := by
  intro _ h; (repeat (cases h with | head => rfl | tail _ h => ?_)); exact nomatch h
theorem freshS0 : ∀ op ∈ (opsS0 : List (HloOp τ sig (Elt F))), op.fresh = ∅ := by
  intro _ h; (repeat (cases h with | head => rfl | tail _ h => ?_)); exact nomatch h
theorem freshS1 : ∀ op ∈ (opsS1 : List (HloOp τ sig (Elt F))), op.fresh = ∅ := by
  intro _ h; (repeat (cases h with | head => rfl | tail _ h => ?_)); exact nomatch h
theorem freshS2 : ∀ op ∈ (opsS2 : List (HloOp τ sig (Elt F))), op.fresh = ∅ := by
  intro _ h; (repeat (cases h with | head => rfl | tail _ h => ?_)); exact nomatch h

/-! ## The contents before the calls -/

variable (m : (ℓ : Loc nD τ sig) → Buf (Elt F) ℓ)

/-- The program's data: the edges' ends, the first layer's table, each layer's operands. -/
def net : Net F where
  X := fun d => dsts (rd m d main_arg1)
  Y := fun d => srcs (rd m d main_arg1)
  T := fun d => encOut (rd m d main_arg0) (rd m d main_arg2) (asRow (rd m d main_arg3)) (rd m d main_arg4) (asRow (rd m d main_arg5)) (halves (rd m d main_arg6)) (first (rd m d main_arg7))
  W := fun k d => match k with | 0 => diag (rd m d main_arg8) | 1 => diag (rd m d main_arg12) | _ => diag (rd m d main_arg16)
  B := fun k d => match k with | 0 => twice (rd m d main_arg9) | 1 => twice (rd m d main_arg13) | _ => twice (rd m d main_arg17)
  V := fun k d => match k with | 0 => halves (rd m d main_arg6) | 1 => halves (rd m d main_arg10) | _ => halves (rd m d main_arg14)
  C := fun k d => match k with | 0 => first (rd m d main_arg7) | 1 => first (rd m d main_arg11) | _ => first (rd m d main_arg15)

/-- The contents at launch, and before the calls. -/
def V0 (d : Dev nD) : Valuation τ sig (Elt F) := fun b => m (d, b)
def VI (d : Dev nD) : Valuation τ sig (Elt F) := after opsI (V0 m d)
def VL0 (d : Dev nD) : Valuation τ sig (Elt F) := after opsL0 (VI m d)
def VL1 (d : Dev nD) : Valuation τ sig (Elt F) := after opsL1 (VL0 m d)
def V1 (d : Dev nD) : Valuation τ sig (Elt F) := after opsL2 (VL1 m d)

theorem V1_eq (d : Dev nD) : after opsA (V0 m d) = V1 m d := by
  unfold V1 VL1 VL0 VI
  rw [StableHlo.after_append, StableHlo.after_append, StableHlo.after_append]

theorem V1_a0 (d : Dev nD) : V1 m d (at' main_arg0) = rd m d main_arg0 := by
  unfold V1 opsL2 VL1 opsL1 VL0 opsL0 VI opsI; after_results <;> rfl
theorem V1_a1 (d : Dev nD) : V1 m d (at' main_arg1) = rd m d main_arg1 := by
  unfold V1 opsL2 VL1 opsL1 VL0 opsL0 VI opsI; after_results <;> rfl
theorem V1_a2 (d : Dev nD) : V1 m d (at' main_arg2) = rd m d main_arg2 := by
  unfold V1 opsL2 VL1 opsL1 VL0 opsL0 VI opsI; after_results <;> rfl
theorem V1_a3 (d : Dev nD) : V1 m d (at' main_arg3) = rd m d main_arg3 := by
  unfold V1 opsL2 VL1 opsL1 VL0 opsL0 VI opsI; after_results <;> rfl
theorem V1_a4 (d : Dev nD) : V1 m d (at' main_arg4) = rd m d main_arg4 := by
  unfold V1 opsL2 VL1 opsL1 VL0 opsL0 VI opsI; after_results <;> rfl
theorem V1_a5 (d : Dev nD) : V1 m d (at' main_arg5) = rd m d main_arg5 := by
  unfold V1 opsL2 VL1 opsL1 VL0 opsL0 VI opsI; after_results <;> rfl
theorem V1_a6 (d : Dev nD) : V1 m d (at' main_arg6) = rd m d main_arg6 := by
  unfold V1 opsL2 VL1 opsL1 VL0 opsL0 VI opsI; after_results <;> rfl
theorem V1_a7 (d : Dev nD) : V1 m d (at' main_arg7) = rd m d main_arg7 := by
  unfold V1 opsL2 VL1 opsL1 VL0 opsL0 VI opsI; after_results <;> rfl
theorem V1_a8 (d : Dev nD) : V1 m d (at' main_arg8) = rd m d main_arg8 := by
  unfold V1 opsL2 VL1 opsL1 VL0 opsL0 VI opsI; after_results <;> rfl
theorem V1_a9 (d : Dev nD) : V1 m d (at' main_arg9) = rd m d main_arg9 := by
  unfold V1 opsL2 VL1 opsL1 VL0 opsL0 VI opsI; after_results <;> rfl
theorem V1_a10 (d : Dev nD) : V1 m d (at' main_arg10) = rd m d main_arg10 := by
  unfold V1 opsL2 VL1 opsL1 VL0 opsL0 VI opsI; after_results <;> rfl
theorem V1_a11 (d : Dev nD) : V1 m d (at' main_arg11) = rd m d main_arg11 := by
  unfold V1 opsL2 VL1 opsL1 VL0 opsL0 VI opsI; after_results <;> rfl
theorem V1_a12 (d : Dev nD) : V1 m d (at' main_arg12) = rd m d main_arg12 := by
  unfold V1 opsL2 VL1 opsL1 VL0 opsL0 VI opsI; after_results <;> rfl
theorem V1_a13 (d : Dev nD) : V1 m d (at' main_arg13) = rd m d main_arg13 := by
  unfold V1 opsL2 VL1 opsL1 VL0 opsL0 VI opsI; after_results <;> rfl
theorem V1_a14 (d : Dev nD) : V1 m d (at' main_arg14) = rd m d main_arg14 := by
  unfold V1 opsL2 VL1 opsL1 VL0 opsL0 VI opsI; after_results <;> rfl
theorem V1_a15 (d : Dev nD) : V1 m d (at' main_arg15) = rd m d main_arg15 := by
  unfold V1 opsL2 VL1 opsL1 VL0 opsL0 VI opsI; after_results <;> rfl
theorem V1_a16 (d : Dev nD) : V1 m d (at' main_arg16) = rd m d main_arg16 := by
  unfold V1 opsL2 VL1 opsL1 VL0 opsL0 VI opsI; after_results <;> rfl
theorem V1_a17 (d : Dev nD) : V1 m d (at' main_arg17) = rd m d main_arg17 := by
  unfold V1 opsL2 VL1 opsL1 VL0 opsL0 VI opsI; after_results <;> rfl
theorem V1_xd (d : Dev nD) : V1 m d (at' main_v3) = (net m).X d := by
  unfold V1 opsL2 VL1 opsL1 VL0 opsL0 VI opsI; after_results <;> rfl
theorem V1_ys (d : Dev nD) : V1 m d (at' main_v1) = (net m).Y d := by
  unfold V1 opsL2 VL1 opsL1 VL0 opsL0 VI opsI; after_results <;> rfl
theorem net_V0 (d : Dev nD) : (net m).V 0 d = halves (rd m d main_arg6) := by simp only [net]
theorem L0_V (V : Valuation τ sig (Elt F)) : after opsL0 V (at' main_v8) = halves (V (at' main_arg6)) := by
  unfold opsL0; after_results <;> rfl
theorem V1_v8 (d : Dev nD) : V1 m d (at' main_v8) = (net m).V 0 d := by
  have h : V1 m d (at' main_v8) = VL0 m d (at' main_v8) := by
    unfold V1 opsL2 VL1 opsL1; after_results
  have e : VI m d (at' main_arg6) = rd m d main_arg6 := by
    unfold VI opsI; after_results <;> rfl
  rw [h]; unfold VL0; rw [L0_V, e]; exact (net_V0 m d).symm
theorem net_C0 (d : Dev nD) : (net m).C 0 d = first (rd m d main_arg7) := by simp only [net]
theorem L0_C (V : Valuation τ sig (Elt F)) : after opsL0 V (at' main_v11) = first (V (at' main_arg7)) := by
  unfold opsL0; after_results <;> rfl
theorem V1_v11 (d : Dev nD) : V1 m d (at' main_v11) = (net m).C 0 d := by
  have h : V1 m d (at' main_v11) = VL0 m d (at' main_v11) := by
    unfold V1 opsL2 VL1 opsL1; after_results
  have e : VI m d (at' main_arg7) = rd m d main_arg7 := by
    unfold VI opsI; after_results <;> rfl
  rw [h]; unfold VL0; rw [L0_C, e]; exact (net_C0 m d).symm
theorem net_W0 (d : Dev nD) : (net m).W 0 d = diag (rd m d main_arg8) := by simp only [net]
theorem L0_W (V : Valuation τ sig (Elt F)) : after opsL0 V (at' main_v20) = diag (V (at' main_arg8)) := by
  unfold opsL0; after_results <;> rfl
theorem V1_v20 (d : Dev nD) : V1 m d (at' main_v20) = (net m).W 0 d := by
  have h : V1 m d (at' main_v20) = VL0 m d (at' main_v20) := by
    unfold V1 opsL2 VL1 opsL1; after_results
  have e : VI m d (at' main_arg8) = rd m d main_arg8 := by
    unfold VI opsI; after_results <;> rfl
  rw [h]; unfold VL0; rw [L0_W, e]; exact (net_W0 m d).symm
theorem net_B0 (d : Dev nD) : (net m).B 0 d = twice (rd m d main_arg9) := by simp only [net]
theorem L0_B (V : Valuation τ sig (Elt F)) : after opsL0 V (at' main_v22) = twice (V (at' main_arg9)) := by
  unfold opsL0; after_results <;> rfl
theorem V1_v22 (d : Dev nD) : V1 m d (at' main_v22) = (net m).B 0 d := by
  have h : V1 m d (at' main_v22) = VL0 m d (at' main_v22) := by
    unfold V1 opsL2 VL1 opsL1; after_results
  have e : VI m d (at' main_arg9) = rd m d main_arg9 := by
    unfold VI opsI; after_results <;> rfl
  rw [h]; unfold VL0; rw [L0_B, e]; exact (net_B0 m d).symm
theorem net_V1 (d : Dev nD) : (net m).V 1 d = halves (rd m d main_arg10) := by simp only [net]
theorem L1_V (V : Valuation τ sig (Elt F)) : after opsL1 V (at' main_v27) = halves (V (at' main_arg10)) := by
  unfold opsL1; after_results <;> rfl
theorem V1_v27 (d : Dev nD) : V1 m d (at' main_v27) = (net m).V 1 d := by
  have h : V1 m d (at' main_v27) = VL1 m d (at' main_v27) := by
    unfold V1 opsL2; after_results
  have e : VL0 m d (at' main_arg10) = rd m d main_arg10 := by
    unfold VL0 opsL0 VI opsI; after_results <;> rfl
  rw [h]; unfold VL1; rw [L1_V, e]; exact (net_V1 m d).symm
theorem net_C1 (d : Dev nD) : (net m).C 1 d = first (rd m d main_arg11) := by simp only [net]
theorem L1_C (V : Valuation τ sig (Elt F)) : after opsL1 V (at' main_v30) = first (V (at' main_arg11)) := by
  unfold opsL1; after_results <;> rfl
theorem V1_v30 (d : Dev nD) : V1 m d (at' main_v30) = (net m).C 1 d := by
  have h : V1 m d (at' main_v30) = VL1 m d (at' main_v30) := by
    unfold V1 opsL2; after_results
  have e : VL0 m d (at' main_arg11) = rd m d main_arg11 := by
    unfold VL0 opsL0 VI opsI; after_results <;> rfl
  rw [h]; unfold VL1; rw [L1_C, e]; exact (net_C1 m d).symm
theorem net_W1 (d : Dev nD) : (net m).W 1 d = diag (rd m d main_arg12) := by simp only [net]
theorem L1_W (V : Valuation τ sig (Elt F)) : after opsL1 V (at' main_v39) = diag (V (at' main_arg12)) := by
  unfold opsL1; after_results <;> rfl
theorem V1_v39 (d : Dev nD) : V1 m d (at' main_v39) = (net m).W 1 d := by
  have h : V1 m d (at' main_v39) = VL1 m d (at' main_v39) := by
    unfold V1 opsL2; after_results
  have e : VL0 m d (at' main_arg12) = rd m d main_arg12 := by
    unfold VL0 opsL0 VI opsI; after_results <;> rfl
  rw [h]; unfold VL1; rw [L1_W, e]; exact (net_W1 m d).symm
theorem net_B1 (d : Dev nD) : (net m).B 1 d = twice (rd m d main_arg13) := by simp only [net]
theorem L1_B (V : Valuation τ sig (Elt F)) : after opsL1 V (at' main_v41) = twice (V (at' main_arg13)) := by
  unfold opsL1; after_results <;> rfl
theorem V1_v41 (d : Dev nD) : V1 m d (at' main_v41) = (net m).B 1 d := by
  have h : V1 m d (at' main_v41) = VL1 m d (at' main_v41) := by
    unfold V1 opsL2; after_results
  have e : VL0 m d (at' main_arg13) = rd m d main_arg13 := by
    unfold VL0 opsL0 VI opsI; after_results <;> rfl
  rw [h]; unfold VL1; rw [L1_B, e]; exact (net_B1 m d).symm
theorem net_V2 (d : Dev nD) : (net m).V 2 d = halves (rd m d main_arg14) := by simp only [net]
theorem L2_V (V : Valuation τ sig (Elt F)) : after opsL2 V (at' main_v46) = halves (V (at' main_arg14)) := by
  unfold opsL2; after_results <;> rfl
theorem V1_v46 (d : Dev nD) : V1 m d (at' main_v46) = (net m).V 2 d := by
  have e : VL1 m d (at' main_arg14) = rd m d main_arg14 := by
    unfold VL1 opsL1 VL0 opsL0 VI opsI; after_results <;> rfl
  unfold V1; rw [L2_V, e]; exact (net_V2 m d).symm
theorem net_C2 (d : Dev nD) : (net m).C 2 d = first (rd m d main_arg15) := by simp only [net]
theorem L2_C (V : Valuation τ sig (Elt F)) : after opsL2 V (at' main_v49) = first (V (at' main_arg15)) := by
  unfold opsL2; after_results <;> rfl
theorem V1_v49 (d : Dev nD) : V1 m d (at' main_v49) = (net m).C 2 d := by
  have e : VL1 m d (at' main_arg15) = rd m d main_arg15 := by
    unfold VL1 opsL1 VL0 opsL0 VI opsI; after_results <;> rfl
  unfold V1; rw [L2_C, e]; exact (net_C2 m d).symm
theorem net_W2 (d : Dev nD) : (net m).W 2 d = diag (rd m d main_arg16) := by simp only [net]
theorem L2_W (V : Valuation τ sig (Elt F)) : after opsL2 V (at' main_v58) = diag (V (at' main_arg16)) := by
  unfold opsL2; after_results <;> rfl
theorem V1_v58 (d : Dev nD) : V1 m d (at' main_v58) = (net m).W 2 d := by
  have e : VL1 m d (at' main_arg16) = rd m d main_arg16 := by
    unfold VL1 opsL1 VL0 opsL0 VI opsI; after_results <;> rfl
  unfold V1; rw [L2_W, e]; exact (net_W2 m d).symm
theorem net_B2 (d : Dev nD) : (net m).B 2 d = twice (rd m d main_arg17) := by simp only [net]
theorem L2_B (V : Valuation τ sig (Elt F)) : after opsL2 V (at' main_v60) = twice (V (at' main_arg17)) := by
  unfold opsL2; after_results <;> rfl
theorem V1_v60 (d : Dev nD) : V1 m d (at' main_v60) = (net m).B 2 d := by
  have e : VL1 m d (at' main_arg17) = rd m d main_arg17 := by
    unfold VL1 opsL1 VL0 opsL0 VI opsI; after_results <;> rfl
  unfold V1; rw [L2_B, e]; exact (net_B2 m d).symm

end Cert.Proof.Bin

end
-- ==== Proof.Dense.lean ====
/-
  The tables' calls: every block of nodes through the layer's halves, the first from the node inputs.
-/
module

public import proofs.«01_k».proof.Proof.Msg

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

variable [FloatOps F]

open Idealize.ShloMosaic.TcCoe
open Idealize.ShloMosaic.Pipeline (Dat Cfg Window BodyObligation cellOf)

/-! ## The bodies on one block -/

theorem ab_run (body) (hbody : body = cc5__ab_body (F := F)) (c : Dev nD) (i : grid5.Coords) (M0 : Memref sig .tc .vmem S2000x64 .f32) (h0 : M0.IsWhole) (M1 : Memref sig .tc .vmem S64x128 .f32) (h1 : M1.IsWhole) (M2 : Memref sig .tc .vmem S1x128 .f32) (h2 : M2.IsWhole) (M3 : Memref sig .tc .vmem S2000x128 .f32) (h3 : M3.IsWhole)
    (g : Vec F S2000x64 .f32) (w : Vec F S64x128 .f32) (b : Vec F S1x128 .f32) (Q : PUnit → sProp 𝕄) :
    iprop(owns (c : Thread nD τ) M0 fullShare g ∗ owns (c : Thread nD τ) M1 fullShare w ∗ owns (c : Thread nD τ) M2 fullShare b ∗ (∃ o, owns (c : Thread nD τ) M3 fullShare o)
        ∗ (iprop(owns (c : Thread nD τ) M0 fullShare g ∗ owns (c : Thread nD τ) M1 fullShare w ∗ owns (c : Thread nD τ) M2 fullShare b ∗ owns (c : Thread nD τ) M3 fullShare (k5_pay1 g w b)) -∗ Q ⟨⟩))
      ⊢ wp frame (wpE (defs₀ (F := F)) 𝒱₀ (c : Thread nD τ) none) Set.univ (body i M0 h0 M1 h1 M2 h2 M3 h3) Q := by
  subst hbody
  unfold owns
  rw [h0.set_eq_univ, h1.set_eq_univ, h2.set_eq_univ, h3.set_eq_univ]
  iintro ⟨⟨%f0, %e0, H0⟩, ⟨%f1, %e1, H1⟩, ⟨%f2, %e2, H2⟩, ⟨%o, %f3, %e3, H3⟩, Hk⟩
  subst e0; subst e1; subst e2; subst e3
  rw [cc5__ab_body_eq_skeleton]
  unfold cc5__ab_body_skel
  sl_exec!
  sl_step
  iapply Hk
  isplitl [H0]
  · iexists f0
    isplitr
    · ipureintro; rfl
    · iexact H0
  isplitl [H1]
  · iexists f1
    isplitr
    · ipureintro; rfl
    · iexact H1
  isplitl [H2]
  · iexists f2
    isplitr
    · ipureintro; rfl
    · iexact H2
  iexists _
  isplitr [H3]
  rotate_left
  · iexact H3
  · ipureintro
    sl_unfold_run_names
    refine (read_writes_unit M3.view _ _ zeros2 _ _).trans ?_
    rw [View.readAt_eq_ld, View.readAt_eq_ld, View.readAt_eq_ld, View.ld_unit_zero zeros2, View.ld_unit_zero zeros2, View.ld_unit_zero zeros2]

set_option maxHeartbeats 2000000 in
theorem enc_run (body) (hbody : body = cc1__enc_body (F := F)) (c : Dev nD) (i : grid1.Coords) (M0 : Memref sig .tc .vmem S2000x128 .f32) (h0 : M0.IsWhole) (M1 : Memref sig .tc .vmem S128x64 .f32) (h1 : M1.IsWhole) (M2 : Memref sig .tc .vmem S1x64 .f32) (h2 : M2.IsWhole) (M3 : Memref sig .tc .vmem S64x64 .f32) (h3 : M3.IsWhole) (M4 : Memref sig .tc .vmem S1x64 .f32) (h4 : M4.IsWhole) (M5 : Memref sig .tc .vmem S64x128 .f32) (h5 : M5.IsWhole) (M6 : Memref sig .tc .vmem S1x128 .f32) (h6 : M6.IsWhole) (M7 : Memref sig .tc .vmem S2000x128 .f32) (h7 : M7.IsWhole)
    (g : Vec F S2000x128 .f32) (w1 : Vec F S128x64 .f32) (b1 : Vec F S1x64 .f32) (w2 : Vec F S64x64 .f32) (b2 : Vec F S1x64 .f32) (w : Vec F S64x128 .f32) (b : Vec F S1x128 .f32) (Q : PUnit → sProp 𝕄) :
    iprop(owns (c : Thread nD τ) M0 fullShare g ∗ owns (c : Thread nD τ) M1 fullShare w1 ∗ owns (c : Thread nD τ) M2 fullShare b1 ∗ owns (c : Thread nD τ) M3 fullShare w2 ∗ owns (c : Thread nD τ) M4 fullShare b2 ∗ owns (c : Thread nD τ) M5 fullShare w ∗ owns (c : Thread nD τ) M6 fullShare b ∗ (∃ o, owns (c : Thread nD τ) M7 fullShare o)
        ∗ (iprop(owns (c : Thread nD τ) M0 fullShare g ∗ owns (c : Thread nD τ) M1 fullShare w1 ∗ owns (c : Thread nD τ) M2 fullShare b1 ∗ owns (c : Thread nD τ) M3 fullShare w2 ∗ owns (c : Thread nD τ) M4 fullShare b2 ∗ owns (c : Thread nD τ) M5 fullShare w ∗ owns (c : Thread nD τ) M6 fullShare b ∗ owns (c : Thread nD τ) M7 fullShare (k1_pay1 g w1 b1 w2 b2 w b)) -∗ Q ⟨⟩))
      ⊢ wp frame (wpE (defs₀ (F := F)) 𝒱₀ (c : Thread nD τ) none) Set.univ (body i M0 h0 M1 h1 M2 h2 M3 h3 M4 h4 M5 h5 M6 h6 M7 h7) Q := by
  subst hbody
  unfold owns
  rw [h0.set_eq_univ, h1.set_eq_univ, h2.set_eq_univ, h3.set_eq_univ, h4.set_eq_univ, h5.set_eq_univ, h6.set_eq_univ, h7.set_eq_univ]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%o, %f7, %e7, H7⟩, Hk⟩
  subst e0; subst e1; subst e2; subst e3; subst e4; subst e5; subst e6; subst e7
  rw [cc1__enc_body_eq_skeleton]
  unfold cc1__enc_body_skel
  sl_exec!
  sl_step
  iapply Hk
  isplitl [H0]
  · iexists f0
    isplitr
    · ipureintro; rfl
    · iexact H0
  isplitl [H1]
  · iexists f1
    isplitr
    · ipureintro; rfl
    · iexact H1
  isplitl [H2]
  · iexists f2
    isplitr
    · ipureintro; rfl
    · iexact H2
  isplitl [H3]
  · iexists f3
    isplitr
    · ipureintro; rfl
    · iexact H3
  isplitl [H4]
  · iexists f4
    isplitr
    · ipureintro; rfl
    · iexact H4
  isplitl [H5]
  · iexists f5
    isplitr
    · ipureintro; rfl
    · iexact H5
  isplitl [H6]
  · iexists f6
    isplitr
    · ipureintro; rfl
    · iexact H6
  iexists _
  isplitr [H7]
  rotate_left
  · iexact H7
  · ipureintro
    sl_unfold_run_names
    refine (read_writes_unit M7.view _ _ zeros2 _ _).trans ?_
    rw [View.readAt_eq_ld, View.readAt_eq_ld, View.readAt_eq_ld, View.readAt_eq_ld, View.readAt_eq_ld, View.readAt_eq_ld, View.readAt_eq_ld, View.ld_unit_zero zeros2, View.ld_unit_zero zeros2, View.ld_unit_zero zeros2, View.ld_unit_zero zeros2, View.ld_unit_zero zeros2, View.ld_unit_zero zeros2, View.ld_unit_zero zeros2]

/-! ## The first table -/

def enc_A (X : Vec F S10000x128 .f32) (W1 : Vec F S128x64 .f32) (b1 : Vec F S1x64 .f32) (W2 : Vec F S64x64 .f32) (b2 : Vec F S1x64 .f32) (W : Vec F S64x128 .f32) (B : Vec F S1x128 .f32) (O : Vec F S10000x128 .f32) (c : Dev nD) : (w : Fin cfg1.W) → Buf (Elt F) ((cfg1.win w).arr.view.loc (c.tc : Thread nD τ))
  | ⟨0, _⟩ => X
  | ⟨1, _⟩ => W1
  | ⟨2, _⟩ => b1
  | ⟨3, _⟩ => W2
  | ⟨4, _⟩ => b2
  | ⟨5, _⟩ => W
  | ⟨6, _⟩ => B
  | ⟨7, _⟩ => O

def enc_aft (X : Vec F S10000x128 .f32) (W1 : Vec F S128x64 .f32) (b1 : Vec F S1x64 .f32) (W2 : Vec F S64x64 .f32) (b2 : Vec F S1x64 .f32) (W : Vec F S64x128 .f32) (B : Vec F S1x128 .f32) : (w : Fin cfg1.W) → Fin cfg1.N → (cfg1.win w).block.Idx → Elt F (cfg1.win w).elt
  | ⟨0, _⟩ => fun t => ((cfg1.win 0).blk t).view.read (Elt F) X
  | ⟨1, _⟩ => fun t => ((cfg1.win 1).blk t).view.read (Elt F) W1
  | ⟨2, _⟩ => fun t => ((cfg1.win 2).blk t).view.read (Elt F) b1
  | ⟨3, _⟩ => fun t => ((cfg1.win 3).blk t).view.read (Elt F) W2
  | ⟨4, _⟩ => fun t => ((cfg1.win 4).blk t).view.read (Elt F) b2
  | ⟨5, _⟩ => fun t => ((cfg1.win 5).blk t).view.read (Elt F) W
  | ⟨6, _⟩ => fun t => ((cfg1.win 6).blk t).view.read (Elt F) B
  | ⟨7, _⟩ => fun t => k1_pay1 (((cfg1.win 0).blk t).view.read (Elt F) X) (((cfg1.win 1).blk t).view.read (Elt F) W1) (((cfg1.win 2).blk t).view.read (Elt F) b1) (((cfg1.win 3).blk t).view.read (Elt F) W2) (((cfg1.win 4).blk t).view.read (Elt F) b2) (((cfg1.win 5).blk t).view.read (Elt F) W) (((cfg1.win 6).blk t).view.read (Elt F) B)

abbrev enc_dat (X : Vec F S10000x128 .f32) (W1 : Vec F S128x64 .f32) (b1 : Vec F S1x64 .f32) (W2 : Vec F S64x64 .f32) (b2 : Vec F S1x64 .f32) (W : Vec F S64x128 .f32) (B : Vec F S1x128 .f32) (O : Vec F S10000x128 .f32) (c : Dev nD) : Dat τ (Elt F) (HIx 7) ℕ UU ℕ cfg1 c := pdat 1 c (enc_A X W1 b1 W2 b2 W B O c) (enc_aft X W1 b1 W2 b2 W B)

section
variable (X : Vec F S10000x128 .f32) (W1 : Vec F S128x64 .f32) (b1 : Vec F S1x64 .f32) (W2 : Vec F S64x64 .f32) (b2 : Vec F S1x64 .f32) (W : Vec F S64x128 .f32) (B : Vec F S1x128 .f32) (O : Vec F S10000x128 .f32)

theorem enc_before0 (c : Dev nD) (t : Fin cfg1.N) (d) : (enc_dat X W1 b1 W2 b2 W B O c).before 0 t d = ((cfg1.win 0).blk t).view.read (Elt F) X :=
  (enc_dat X W1 b1 W2 b2 W B O c).before_in_eq_fetched 0 rfl (fun _ => rfl) (fun _ _ _ => rfl) (fun _ => rfl) t d
theorem enc_before1 (c : Dev nD) (t : Fin cfg1.N) (d) : (enc_dat X W1 b1 W2 b2 W B O c).before 1 t d = ((cfg1.win 1).blk t).view.read (Elt F) W1 :=
  (enc_dat X W1 b1 W2 b2 W B O c).before_in_eq_fetched 1 rfl (fun _ => rfl) (fun _ _ _ => rfl) (fun _ => rfl) t d
theorem enc_before2 (c : Dev nD) (t : Fin cfg1.N) (d) : (enc_dat X W1 b1 W2 b2 W B O c).before 2 t d = ((cfg1.win 2).blk t).view.read (Elt F) b1 :=
  (enc_dat X W1 b1 W2 b2 W B O c).before_in_eq_fetched 2 rfl (fun _ => rfl) (fun _ _ _ => rfl) (fun _ => rfl) t d
theorem enc_before3 (c : Dev nD) (t : Fin cfg1.N) (d) : (enc_dat X W1 b1 W2 b2 W B O c).before 3 t d = ((cfg1.win 3).blk t).view.read (Elt F) W2 :=
  (enc_dat X W1 b1 W2 b2 W B O c).before_in_eq_fetched 3 rfl (fun _ => rfl) (fun _ _ _ => rfl) (fun _ => rfl) t d
theorem enc_before4 (c : Dev nD) (t : Fin cfg1.N) (d) : (enc_dat X W1 b1 W2 b2 W B O c).before 4 t d = ((cfg1.win 4).blk t).view.read (Elt F) b2 :=
  (enc_dat X W1 b1 W2 b2 W B O c).before_in_eq_fetched 4 rfl (fun _ => rfl) (fun _ _ _ => rfl) (fun _ => rfl) t d
theorem enc_before5 (c : Dev nD) (t : Fin cfg1.N) (d) : (enc_dat X W1 b1 W2 b2 W B O c).before 5 t d = ((cfg1.win 5).blk t).view.read (Elt F) W :=
  (enc_dat X W1 b1 W2 b2 W B O c).before_in_eq_fetched 5 rfl (fun _ => rfl) (fun _ _ _ => rfl) (fun _ => rfl) t d
theorem enc_before6 (c : Dev nD) (t : Fin cfg1.N) (d) : (enc_dat X W1 b1 W2 b2 W B O c).before 6 t d = ((cfg1.win 6).blk t).view.read (Elt F) B :=
  (enc_dat X W1 b1 W2 b2 W B O c).before_in_eq_fetched 6 rfl (fun _ => rfl) (fun _ _ _ => rfl) (fun _ => rfl) t d

theorem enc_body (c : Dev nD) : BodyObligation (enc_dat X W1 b1 W2 b2 W B O c) (defs₀ (F := F)) 𝒱₀ none Set.univ := fun t => by
  rw [bigSep_W1, bigSep_W1]
  rw [show (enc_dat X W1 b1 W2 b2 W B O c).Φ t.succ = (enc_dat X W1 b1 W2 b2 W B O c).Φ t.castSucc from rfl,
    show (enc_dat X W1 b1 W2 b2 W B O c).owesAt none t.succ = (enc_dat X W1 b1 W2 b2 W B O c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [enc_before0, enc_before1, enc_before2, enc_before3, enc_before4, enc_before5, enc_before6]
  iapply (enc_run (cc1__enc_body) rfl c (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) (((cfg1.win 0).blk t).view.read (Elt F) X) (((cfg1.win 1).blk t).view.read (Elt F) W1) (((cfg1.win 2).blk t).view.read (Elt F) b1) (((cfg1.win 3).blk t).view.read (Elt F) W2) (((cfg1.win 4).blk t).view.read (Elt F) b2) (((cfg1.win 5).blk t).view.read (Elt F) W) (((cfg1.win 6).blk t).view.read (Elt F) B) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; iexact H7
  iintro ⟨H0, H1, H2, H3, H4, H5, H6, H7⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem enc_idx (t : Fin cfg1.N) : win1_7.index t 0 = t.val := by
  have h1 : (grid1.coords t 0).val = t.val / 1 % 5 := Pipeline.Grid.coords_val t 0 (by decide) rfl
  have h2 : t.val < 5 := t.isLt
  show (BitVec.ofNat 32 (grid1.coords t 0).val).toNat = _
  rw [BitVec.toNat_ofNat, h1]
  omega

theorem enc_read1 (t : Fin cfg1.N) : ((cfg1.win 1).blk t).view.read (Elt F) W1 = W1 := by
  funext x
  refine congrArg W1 (funext fun a => ?_)
  fin_cases a
  · exact Fin.ext (Window.rect_emb_val_of_index_zero win1_1 t 0 rfl x)
  · exact Fin.ext (Window.rect_emb_val_of_index_zero win1_1 t 1 rfl x)
theorem enc_read2 (t : Fin cfg1.N) : ((cfg1.win 2).blk t).view.read (Elt F) b1 = b1 := by
  funext x
  refine congrArg b1 (funext fun a => ?_)
  fin_cases a
  · exact Fin.ext (Window.rect_emb_val_of_index_zero win1_2 t 0 rfl x)
  · exact Fin.ext (Window.rect_emb_val_of_index_zero win1_2 t 1 rfl x)
theorem enc_read3 (t : Fin cfg1.N) : ((cfg1.win 3).blk t).view.read (Elt F) W2 = W2 := by
  funext x
  refine congrArg W2 (funext fun a => ?_)
  fin_cases a
  · exact Fin.ext (Window.rect_emb_val_of_index_zero win1_3 t 0 rfl x)
  · exact Fin.ext (Window.rect_emb_val_of_index_zero win1_3 t 1 rfl x)
theorem enc_read4 (t : Fin cfg1.N) : ((cfg1.win 4).blk t).view.read (Elt F) b2 = b2 := by
  funext x
  refine congrArg b2 (funext fun a => ?_)
  fin_cases a
  · exact Fin.ext (Window.rect_emb_val_of_index_zero win1_4 t 0 rfl x)
  · exact Fin.ext (Window.rect_emb_val_of_index_zero win1_4 t 1 rfl x)
theorem enc_read5 (t : Fin cfg1.N) : ((cfg1.win 5).blk t).view.read (Elt F) W = W := by
  funext x
  refine congrArg W (funext fun a => ?_)
  fin_cases a
  · exact Fin.ext (Window.rect_emb_val_of_index_zero win1_5 t 0 rfl x)
  · exact Fin.ext (Window.rect_emb_val_of_index_zero win1_5 t 1 rfl x)
theorem enc_read6 (t : Fin cfg1.N) : ((cfg1.win 6).blk t).view.read (Elt F) B = B := by
  funext x
  refine congrArg B (funext fun a => ?_)
  fin_cases a
  · exact Fin.ext (Window.rect_emb_val_of_index_zero win1_6 t 0 rfl x)
  · exact Fin.ext (Window.rect_emb_val_of_index_zero win1_6 t 1 rfl x)

theorem enc_arr (c : Dev nD) : (enc_dat X W1 b1 W2 b2 W B O c).arrAt 7 cfg1.N = encOut X W1 b1 W2 b2 W B := by
  refine (enc_dat X W1 b1 W2 b2 W B O c).arrAt_eq_of_covers 7 _ (by decide +kernel) fun t hf y => ?_
  show k1_pay1 (((cfg1.win 0).blk t).view.read (Elt F) X) (((cfg1.win 1).blk t).view.read (Elt F) W1) (((cfg1.win 2).blk t).view.read (Elt F) b1) (((cfg1.win 3).blk t).view.read (Elt F) W2) (((cfg1.win 4).blk t).view.read (Elt F) b2) (((cfg1.win 5).blk t).view.read (Elt F) W) (((cfg1.win 6).blk t).view.read (Elt F) B) y = _
  rw [enc_read1, enc_read2, enc_read3, enc_read4, enc_read5, enc_read6]
  refine byBlocks_blk (by decide) (by decide) (fun g => k1_pay1 g W1 b1 W2 b2 W B) X _ t.val (fun x => ⟨((cfg1.win 0).blk t).view.emb x, rfl, ?_, ?_⟩) y _ ?_ ?_
  · refine (Window.rect_emb_val win1_0 t x 0).trans ?_
    rw [show win1_0.index t 0 = t.val from enc_idx t]
    show t.val * 2000 + _ = 2000 * t.val + _
    rw [Nat.mul_comm]
  · exact Window.rect_emb_val_of_index_zero win1_0 t 1 rfl x
  · refine (Window.rect_emb_val win1_7 t y 0).trans ?_
    rw [enc_idx]
    show t.val * 2000 + _ = 2000 * t.val + _
    rw [Nat.mul_comm]
  · exact Window.rect_emb_val_of_index_zero win1_7 t 1 rfl y

theorem enc_in (c : Dev nD) : (arrs (cfgs 0) c (enc_A X W1 b1 W2 b2 W B O c) : sProp 𝕄) = iprop(Arr.pts (.of main_arg0) c Finset.univ fullShare X ∗ Arr.pts (.of main_arg2) c Finset.univ fullShare W1 ∗ Arr.pts (.of main_v62) c Finset.univ fullShare b1 ∗ Arr.pts (.of main_arg4) c Finset.univ fullShare W2 ∗ Arr.pts (.of main_v63) c Finset.univ fullShare b2 ∗ Arr.pts (.of main_v8) c Finset.univ fullShare W ∗ Arr.pts (.of main_v11) c Finset.univ fullShare B ∗ Arr.pts (.of main_v64) c Finset.univ fullShare O) := bigSep_W1 _
set_option maxHeartbeats 2000000 in
theorem enc_out (c : Dev nD) : arrs (cfgs 0) c (left 0 1 (fun c => enc_A X W1 b1 W2 b2 W B O c) (enc_aft X W1 b1 W2 b2 W B) c)
    = (iprop(Arr.pts (.of main_arg0) c Finset.univ fullShare X ∗ Arr.pts (.of main_arg2) c Finset.univ fullShare W1 ∗ Arr.pts (.of main_v62) c Finset.univ fullShare b1 ∗ Arr.pts (.of main_arg4) c Finset.univ fullShare W2 ∗ Arr.pts (.of main_v63) c Finset.univ fullShare b2 ∗ Arr.pts (.of main_v8) c Finset.univ fullShare W ∗ Arr.pts (.of main_v11) c Finset.univ fullShare B ∗ Arr.pts (.of main_v64) c Finset.univ fullShare (encOut X W1 b1 W2 b2 W B)) : sProp 𝕄) := by
  refine (bigSep_W1 _).trans ?_
  unfold left
  rw [show (pdat 1 c (enc_A X W1 b1 W2 b2 W B O c) (enc_aft X W1 b1 W2 b2 W B)).arrAt 7 (cfgs 0).N = encOut X W1 b1 W2 b2 W B from enc_arr X W1 b1 W2 b2 W B O c,
    show (pdat 1 c (enc_A X W1 b1 W2 b2 W B O c) (enc_aft X W1 b1 W2 b2 W B)).arrAt 0 (cfgs 0).N = X from (enc_dat X W1 b1 W2 b2 W B O c).arrAt_in 0 rfl _, show (pdat 1 c (enc_A X W1 b1 W2 b2 W B O c) (enc_aft X W1 b1 W2 b2 W B)).arrAt 1 (cfgs 0).N = W1 from (enc_dat X W1 b1 W2 b2 W B O c).arrAt_in 1 rfl _, show (pdat 1 c (enc_A X W1 b1 W2 b2 W B O c) (enc_aft X W1 b1 W2 b2 W B)).arrAt 2 (cfgs 0).N = b1 from (enc_dat X W1 b1 W2 b2 W B O c).arrAt_in 2 rfl _, show (pdat 1 c (enc_A X W1 b1 W2 b2 W B O c) (enc_aft X W1 b1 W2 b2 W B)).arrAt 3 (cfgs 0).N = W2 from (enc_dat X W1 b1 W2 b2 W B O c).arrAt_in 3 rfl _, show (pdat 1 c (enc_A X W1 b1 W2 b2 W B O c) (enc_aft X W1 b1 W2 b2 W B)).arrAt 4 (cfgs 0).N = b2 from (enc_dat X W1 b1 W2 b2 W B O c).arrAt_in 4 rfl _, show (pdat 1 c (enc_A X W1 b1 W2 b2 W B O c) (enc_aft X W1 b1 W2 b2 W B)).arrAt 5 (cfgs 0).N = W from (enc_dat X W1 b1 W2 b2 W B O c).arrAt_in 5 rfl _, show (pdat 1 c (enc_A X W1 b1 W2 b2 W B O c) (enc_aft X W1 b1 W2 b2 W B)).arrAt 6 (cfgs 0).N = B from (enc_dat X W1 b1 W2 b2 W B O c).arrAt_in 6 rfl _]
  rfl

end

/-! ## The table of layer 1 -/

def ab0_A (H : Vec F S10000x64 .f32) (W : Vec F S64x128 .f32) (B : Vec F S1x128 .f32) (O : Vec F S10000x128 .f32) (c : Dev nD) : (w : Fin cfg5.W) → Buf (Elt F) ((cfg5.win w).arr.view.loc (c.tc : Thread nD τ))
  | ⟨0, _⟩ => H
  | ⟨1, _⟩ => W
  | ⟨2, _⟩ => B
  | ⟨3, _⟩ => O

def ab0_aft (H : Vec F S10000x64 .f32) (W : Vec F S64x128 .f32) (B : Vec F S1x128 .f32) : (w : Fin cfg5.W) → Fin cfg5.N → (cfg5.win w).block.Idx → Elt F (cfg5.win w).elt
  | ⟨0, _⟩ => fun t => ((cfg5.win 0).blk t).view.read (Elt F) H
  | ⟨1, _⟩ => fun t => ((cfg5.win 1).blk t).view.read (Elt F) W
  | ⟨2, _⟩ => fun t => ((cfg5.win 2).blk t).view.read (Elt F) B
  | ⟨3, _⟩ => fun t => k5_pay1 (((cfg5.win 0).blk t).view.read (Elt F) H) (((cfg5.win 1).blk t).view.read (Elt F) W) (((cfg5.win 2).blk t).view.read (Elt F) B)

abbrev ab0_dat (H : Vec F S10000x64 .f32) (W : Vec F S64x128 .f32) (B : Vec F S1x128 .f32) (O : Vec F S10000x128 .f32) (c : Dev nD) : Dat τ (Elt F) (HIx 7) ℕ UU ℕ cfg5 c := pdat 3 c (ab0_A H W B O c) (ab0_aft H W B)

section
variable (H : Vec F S10000x64 .f32) (W : Vec F S64x128 .f32) (B : Vec F S1x128 .f32) (O : Vec F S10000x128 .f32)

theorem ab0_before0 (c : Dev nD) (t : Fin cfg5.N) (d) : (ab0_dat H W B O c).before 0 t d = ((cfg5.win 0).blk t).view.read (Elt F) H :=
  (ab0_dat H W B O c).before_in_eq_fetched 0 rfl (fun _ => rfl) (fun _ _ _ => rfl) (fun _ => rfl) t d
theorem ab0_before1 (c : Dev nD) (t : Fin cfg5.N) (d) : (ab0_dat H W B O c).before 1 t d = ((cfg5.win 1).blk t).view.read (Elt F) W :=
  (ab0_dat H W B O c).before_in_eq_fetched 1 rfl (fun _ => rfl) (fun _ _ _ => rfl) (fun _ => rfl) t d
theorem ab0_before2 (c : Dev nD) (t : Fin cfg5.N) (d) : (ab0_dat H W B O c).before 2 t d = ((cfg5.win 2).blk t).view.read (Elt F) B :=
  (ab0_dat H W B O c).before_in_eq_fetched 2 rfl (fun _ => rfl) (fun _ _ _ => rfl) (fun _ => rfl) t d

theorem ab0_body (c : Dev nD) : BodyObligation (ab0_dat H W B O c) (defs₀ (F := F)) 𝒱₀ none Set.univ := fun t => by
  rw [bigSep_W5, bigSep_W5]
  rw [show (ab0_dat H W B O c).Φ t.succ = (ab0_dat H W B O c).Φ t.castSucc from rfl,
    show (ab0_dat H W B O c).owesAt none t.succ = (ab0_dat H W B O c).owesAt none t.castSucc from rfl]
  iintro ⟨HΦ, Howes, ⟨%d0, H0⟩, ⟨%d1, H1⟩, ⟨%d2, H2⟩, ⟨%d3, H3⟩⟩
  rw [ab0_before0, ab0_before1, ab0_before2]
  iapply (ab_run (cc5__ab_body) rfl c (grid5.coords t) _ (hstage5_0 ((cfg5.slots t 0).cast nbuf5_0)) _ (hstage5_1 ((cfg5.slots t 1).cast nbuf5_1)) _ (hstage5_2 ((cfg5.slots t 2).cast nbuf5_2)) _ (hstage5_3 ((cfg5.slots t 3).cast nbuf5_3)) (((cfg5.win 0).blk t).view.read (Elt F) H) (((cfg5.win 1).blk t).view.read (Elt F) W) (((cfg5.win 2).blk t).view.read (Elt F) B) _)
  isplitl [H0]; · iexact H0
  isplitl [H1]; · iexact H1
  isplitl [H2]; · iexact H2
  isplitl [H3]
  · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem ab0_idx (t : Fin cfg5.N) : win5_3.index t 0 = t.val := by
  have h1 : (grid5.coords t 0).val = t.val / 1 % 5 := Pipeline.Grid.coords_val t 0 (by decide) rfl
  have h2 : t.val < 5 := t.isLt
  show (BitVec.ofNat 32 (grid5.coords t 0).val).toNat = _
  rw [BitVec.toNat_ofNat, h1]
  omega

theorem ab0_read1 (t : Fin cfg5.N) : ((cfg5.win 1).blk t).view.read (Elt F) W = W := by
  funext x
  refine congrArg W (funext fun a => ?_)
  fin_cases a
  · exact Fin.ext (Window.rect_emb_val_of_index_zero win5_1 t 0 rfl x)
  · exact Fin.ext (Window.rect_emb_val_of_index_zero win5_1 t 1 rfl x)
theorem ab0_read2 (t : Fin cfg5.N) : ((cfg5.win 2).blk t).view.read (Elt F) B = B := by
  funext x
  refine congrArg B (funext fun a => ?_)
  fin_cases a
  · exact Fin.ext (Window.rect_emb_val_of_index_zero win5_2 t 0 rfl x)
  · exact Fin.ext (Window.rect_emb_val_of_index_zero win5_2 t 1 rfl x)

theorem ab0_arr (c : Dev nD) : (ab0_dat H W B O c).arrAt 3 cfg5.N = abOut H W B := by
  refine (ab0_dat H W B O c).arrAt_eq_of_covers 3 _ (by decide +kernel) fun t hf y => ?_
  show k5_pay1 (((cfg5.win 0).blk t).view.read (Elt F) H) (((cfg5.win 1).blk t).view.read (Elt F) W) (((cfg5.win 2).blk t).view.read (Elt F) B) y = _
  rw [ab0_read1, ab0_read2]
  refine byBlocks_blk (by decide) (by decide) (fun g => k5_pay1 g W B) H _ t.val (fun x => ⟨((cfg5.win 0).blk t).view.emb x, rfl, ?_, ?_⟩) y _ ?_ ?_
  · refine (Window.rect_emb_val win5_0 t x 0).trans ?_
    rw [show win5_0.index t 0 = t.val from ab0_idx t]
    show t.val * 2000 + _ = 2000 * t.val + _
    rw [Nat.mul_comm]
  · exact Window.rect_emb_val_of_index_zero win5_0 t 1 rfl x
  · refine (Window.rect_emb_val win5_3 t y 0).trans ?_
    rw [ab0_idx]
    show t.val * 2000 + _ = 2000 * t.val + _
    rw [Nat.mul_comm]
  · exact Window.rect_emb_val_of_index_zero win5_3 t 1 rfl y

theorem ab0_in (c : Dev nD) : (arrs (cfgs 2) c (ab0_A H W B O c) : sProp 𝕄) = iprop(Arr.pts (.of main_v69) c Finset.univ fullShare H ∗ Arr.pts (.of main_v27) c Finset.univ fullShare W ∗ Arr.pts (.of main_v30) c Finset.univ fullShare B ∗ Arr.pts (.of main_v70) c Finset.univ fullShare O) := bigSep_W5 _
set_option maxHeartbeats 2000000 in
theorem ab0_out (c : Dev nD) : arrs (cfgs 2) c (left 2 3 (fun c => ab0_A H W B O c) (ab0_aft H W B) c)
    = (iprop(Arr.pts (.of main_v69) c Finset.univ fullShare H ∗ Arr.pts (.of main_v27) c Finset.univ fullShare W ∗ Arr.pts (.of main_v30) c Finset.univ fullShare B ∗ Arr.pts (.of main_v70) c Finset.univ fullShare (abOut H W B)) : sProp 𝕄) := by
  refine (bigSep_W5 _).trans ?_
  unfold left
  rw [show (pdat 3 c (ab0_A H W B O c) (ab0_aft H W B)).arrAt 3 (cfgs 2).N = abOut H W B from ab0_arr H W B O c,
    show (pdat 3 c (ab0_A H W B O c) (ab0_aft H W B)).arrAt 0 (cfgs 2).N = H from (ab0_dat H W B O c).arrAt_in 0 rfl _, show (pdat 3 c (ab0_A H W B O c) (ab0_aft H W B)).arrAt 1 (cfgs 2).N = W from (ab0_dat H W B O c).arrAt_in 1 rfl _, show (pdat 3 c (ab0_A H W B O c) (ab0_aft H W B)).arrAt 2 (cfgs 2).N = B from (ab0_dat H W B O c).arrAt_in 2 rfl _]
  rfl

end

/-! ## The table of layer 2 -/

def ab1_A (H : Vec F S10000x64 .f32) (W : Vec F S64x128 .f32) (B : Vec F S1x128 .f32) (O : Vec F S10000x128 .f32) (c : Dev nD) : (w : Fin cfg9.W) → Buf (Elt F) ((cfg9.win w).arr.view.loc (c.tc : Thread nD τ))
  | ⟨0, _⟩ => H
  | ⟨1, _⟩ => W
  | ⟨2, _⟩ => B
  | ⟨3, _⟩ => O

def ab1_aft (H : Vec F S10000x64 .f32) (W : Vec F S64x128 .f32) (B : Vec F S1x128 .f32) : (w : Fin cfg9.W) → Fin cfg9.N → (cfg9.win w).block.Idx → Elt F (cfg9.win w).elt
  | ⟨0, _⟩ => fun t => ((cfg9.win 0).blk t).view.read (Elt F) H
  | ⟨1, _⟩ => fun t => ((cfg9.win 1).blk t).view.read (Elt F) W
  | ⟨2, _⟩ => fun t => ((cfg9.win 2).blk t).view.read (Elt F) B
  | ⟨3, _⟩ => fun t => k5_pay1 (((cfg9.win 0).blk t).view.read (Elt F) H) (((cfg9.win 1).blk t).view.read (Elt F) W) (((cfg9.win 2).blk t).view.read (Elt F) B)

abbrev ab1_dat (H : Vec F S10000x64 .f32) (W : Vec F S64x128 .f32) (B : Vec F S1x128 .f32) (O : Vec F S10000x128 .f32) (c : Dev nD) : Dat τ (Elt F) (HIx 7) ℕ UU ℕ cfg9 c := pdat 5 c (ab1_A H W B O c) (ab1_aft H W B)

section
variable (H : Vec F S10000x64 .f32) (W : Vec F S64x128 .f32) (B : Vec F S1x128 .f32) (O : Vec F S10000x128 .f32)

theorem ab1_before0 (c : Dev nD) (t : Fin cfg9.N) (d) : (ab1_dat H W B O c).before 0 t d = ((cfg9.win 0).blk t).view.read (Elt F) H :=
  (ab1_dat H W B O c).before_in_eq_fetched 0 rfl (fun _ => rfl) (fun _ _ _ => rfl) (fun _ => rfl) t d
theorem ab1_before1 (c : Dev nD) (t : Fin cfg9.N) (d) : (ab1_dat H W B O c).before 1 t d = ((cfg9.win 1).blk t).view.read (Elt F) W :=
  (ab1_dat H W B O c).before_in_eq_fetched 1 rfl (fun _ => rfl) (fun _ _ _ => rfl) (fun _ => rfl) t d
theorem ab1_before2 (c : Dev nD) (t : Fin cfg9.N) (d) : (ab1_dat H W B O c).before 2 t d = ((cfg9.win 2).blk t).view.read (Elt F) B :=
  (ab1_dat H W B O c).before_in_eq_fetched 2 rfl (fun _ => rfl) (fun _ _ _ => rfl) (fun _ => rfl) t d

theorem ab1_body (c : Dev nD) : BodyObligation (ab1_dat H W B O c) (defs₀ (F := F)) 𝒱₀ none Set.univ := fun t => by
  rw [bigSep_W9, bigSep_W9]
  rw [show (ab1_dat H W B O c).Φ t.succ = (ab1_dat H W B O c).Φ t.castSucc from rfl,
    show (ab1_dat H W B O c).owesAt none t.succ = (ab1_dat H W B O c).owesAt none t.castSucc from rfl]
  iintro ⟨HΦ, Howes, ⟨%d0, H0⟩, ⟨%d1, H1⟩, ⟨%d2, H2⟩, ⟨%d3, H3⟩⟩
  rw [ab1_before0, ab1_before1, ab1_before2]
  iapply (ab_run (cc9__ab_body) rfl c (grid9.coords t) _ (hstage9_0 ((cfg9.slots t 0).cast nbuf9_0)) _ (hstage9_1 ((cfg9.slots t 1).cast nbuf9_1)) _ (hstage9_2 ((cfg9.slots t 2).cast nbuf9_2)) _ (hstage9_3 ((cfg9.slots t 3).cast nbuf9_3)) (((cfg9.win 0).blk t).view.read (Elt F) H) (((cfg9.win 1).blk t).view.read (Elt F) W) (((cfg9.win 2).blk t).view.read (Elt F) B) _)
  isplitl [H0]; · iexact H0
  isplitl [H1]; · iexact H1
  isplitl [H2]; · iexact H2
  isplitl [H3]
  · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem ab1_idx (t : Fin cfg9.N) : win9_3.index t 0 = t.val := by
  have h1 : (grid9.coords t 0).val = t.val / 1 % 5 := Pipeline.Grid.coords_val t 0 (by decide) rfl
  have h2 : t.val < 5 := t.isLt
  show (BitVec.ofNat 32 (grid9.coords t 0).val).toNat = _
  rw [BitVec.toNat_ofNat, h1]
  omega

theorem ab1_read1 (t : Fin cfg9.N) : ((cfg9.win 1).blk t).view.read (Elt F) W = W := by
  funext x
  refine congrArg W (funext fun a => ?_)
  fin_cases a
  · exact Fin.ext (Window.rect_emb_val_of_index_zero win9_1 t 0 rfl x)
  · exact Fin.ext (Window.rect_emb_val_of_index_zero win9_1 t 1 rfl x)
theorem ab1_read2 (t : Fin cfg9.N) : ((cfg9.win 2).blk t).view.read (Elt F) B = B := by
  funext x
  refine congrArg B (funext fun a => ?_)
  fin_cases a
  · exact Fin.ext (Window.rect_emb_val_of_index_zero win9_2 t 0 rfl x)
  · exact Fin.ext (Window.rect_emb_val_of_index_zero win9_2 t 1 rfl x)

theorem ab1_arr (c : Dev nD) : (ab1_dat H W B O c).arrAt 3 cfg9.N = abOut H W B := by
  refine (ab1_dat H W B O c).arrAt_eq_of_covers 3 _ (by decide +kernel) fun t hf y => ?_
  show k5_pay1 (((cfg9.win 0).blk t).view.read (Elt F) H) (((cfg9.win 1).blk t).view.read (Elt F) W) (((cfg9.win 2).blk t).view.read (Elt F) B) y = _
  rw [ab1_read1, ab1_read2]
  refine byBlocks_blk (by decide) (by decide) (fun g => k5_pay1 g W B) H _ t.val (fun x => ⟨((cfg9.win 0).blk t).view.emb x, rfl, ?_, ?_⟩) y _ ?_ ?_
  · refine (Window.rect_emb_val win9_0 t x 0).trans ?_
    rw [show win9_0.index t 0 = t.val from ab1_idx t]
    show t.val * 2000 + _ = 2000 * t.val + _
    rw [Nat.mul_comm]
  · exact Window.rect_emb_val_of_index_zero win9_0 t 1 rfl x
  · refine (Window.rect_emb_val win9_3 t y 0).trans ?_
    rw [ab1_idx]
    show t.val * 2000 + _ = 2000 * t.val + _
    rw [Nat.mul_comm]
  · exact Window.rect_emb_val_of_index_zero win9_3 t 1 rfl y

theorem ab1_in (c : Dev nD) : (arrs (cfgs 4) c (ab1_A H W B O c) : sProp 𝕄) = iprop(Arr.pts (.of main_v75) c Finset.univ fullShare H ∗ Arr.pts (.of main_v46) c Finset.univ fullShare W ∗ Arr.pts (.of main_v49) c Finset.univ fullShare B ∗ Arr.pts (.of main_v76) c Finset.univ fullShare O) := bigSep_W9 _
set_option maxHeartbeats 2000000 in
theorem ab1_out (c : Dev nD) : arrs (cfgs 4) c (left 4 5 (fun c => ab1_A H W B O c) (ab1_aft H W B) c)
    = (iprop(Arr.pts (.of main_v75) c Finset.univ fullShare H ∗ Arr.pts (.of main_v46) c Finset.univ fullShare W ∗ Arr.pts (.of main_v49) c Finset.univ fullShare B ∗ Arr.pts (.of main_v76) c Finset.univ fullShare (abOut H W B)) : sProp 𝕄) := by
  refine (bigSep_W9 _).trans ?_
  unfold left
  rw [show (pdat 5 c (ab1_A H W B O c) (ab1_aft H W B)).arrAt 3 (cfgs 4).N = abOut H W B from ab1_arr H W B O c,
    show (pdat 5 c (ab1_A H W B O c) (ab1_aft H W B)).arrAt 0 (cfgs 4).N = H from (ab1_dat H W B O c).arrAt_in 0 rfl _, show (pdat 5 c (ab1_A H W B O c) (ab1_aft H W B)).arrAt 1 (cfgs 4).N = W from (ab1_dat H W B O c).arrAt_in 1 rfl _, show (pdat 5 c (ab1_A H W B O c) (ab1_aft H W B)).arrAt 2 (cfgs 4).N = B from (ab1_dat H W B O c).arrAt_in 2 rfl _]
  rfl

end

end Cert.Proof.Bin

end
-- ==== Proof.Steps.lean ====
/-
  One layer of the program: its gathering call, its messages' call and its scattering call, one after another; and the dense calls.
-/
module

public import proofs.«01_k».proof.Proof.Msg
public import proofs.«01_k».proof.Proof.Host
public import proofs.«01_k».proof.Proof.Dense
public import proofs.«01_k».proof.Proof.Parts
public import proofs.«01_k».proof.Proof.Pay

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

open Idealize.ShloMosaic.StableHlo

variable [FloatOps F]

/-- A pipelined call's ghost state. -/
def gh (p : Fin 6) (d : Dev nD) : sProp 𝕄 :=
  iprop(Pipeline.cellsGhost (Pipeline.pin (pcfgs (F := F)) adm) EP p d ∗ Pipeline.toksInit (Pipeline.pin (pcfgs (F := F)) adm) EP p d)

/-- A pipelined call's step, run after `n` calls of the SparseCore's: from arrays holding what `R` says to arrays holding what `R'` says. -/
def Step (p : Fin 6) (n : ℕ) (c : Dev nD) (R R' : sProp 𝕄) : Prop := ∀ Q : PUnit → sProp 𝕄,
  iprop((iprop(boundary (T c) ∗ R' ∗ owesN (F := F) n c) -∗ Q ⟨⟩) ∗ boundary (T c) ∗ (R ∗ owesN (F := F) n c) ∗ levAts (K (F := F)).L (K (F := F)).lev ∗ gh (F := F) p c)
    ⊢ wp frame (wpE ((K (F := F)).defs (D (F := F))) 𝒱 (T c) none) Set.univ (call p) Q

theorem step_of (p : Fin 6) (kit : Pipeline.LaunchFacts (nD := nD) (τ := τ) cfgs p) (n : ℕ)
    (A : (c : Dev nD) → (w : Fin (cfgs p).W) → Buf (Elt F) (((cfgs p).win w).arr.view.loc (c.tc : Thread nD τ)))
    (aft : (w : Fin (cfgs p).W) → Fin (cfgs p).N → ((cfgs p).win w).block.Idx → Elt F ((cfgs p).win w).elt)
    (hb : ∀ c, Pipeline.BodyObligation (pdat (F := F) n c (A c) aft) (defs₀ (F := F)) 𝒱₀ none Set.univ) (c : Dev nD) :
    Step (F := F) p n c (arrs (cfgs p) c (A c)) (arrs (cfgs p) c (left p n A aft c)) := fun Q => by
  unfold gh
  exact pipe_step p kit n A aft hb c Q

/-- A call of messages. -/
def MsgStep (A : Lay) (w2 : Arr S128x128 .f32) (b2 : Arr S1x128 .f32) (p : Fin 6) (n : ℕ) : Prop :=
  ∀ (G : Vec F S176640x128 .f32) (W : Vec F S128x128 .f32) (B : Vec F S1x128 .f32) (O : Vec F S176640x128 .f32) (c : Dev nD),
    Step (F := F) p n c
      iprop(A.rows.pts c Finset.univ fullShare G ∗ w2.pts c Finset.univ fullShare W ∗ b2.pts c Finset.univ fullShare B ∗ A.msgs.pts c Finset.univ fullShare O)
      iprop(A.rows.pts c Finset.univ fullShare G ∗ w2.pts c Finset.univ fullShare W ∗ b2.pts c Finset.univ fullShare B ∗ A.msgs.pts c Finset.univ fullShare (msgOut G W B))

theorem msg_step0 : MsgStep (F := F) (lay 0) (.of main_v20) (.of main_v22) 1 2 := fun G W B O c => by
  have h := step_of 1 launch3 2 (fun c => msg0_A G W B O c) (msg0_aft G W B) (msg0_body G W B O) c
  rw [msg0_in, msg0_out] at h
  exact h
theorem msg_step1 : MsgStep (F := F) (lay 1) (.of main_v39) (.of main_v41) 3 4 := fun G W B O c => by
  have h := step_of 3 launch7 4 (fun c => msg1_A G W B O c) (msg1_aft G W B) (msg1_body G W B O) c
  rw [msg1_in, msg1_out] at h
  exact h
theorem msg_step2 : MsgStep (F := F) (lay 2) (.of main_v58) (.of main_v60) 5 6 := fun G W B O c => by
  have h := step_of 5 launch11 6 (fun c => msg2_A G W B O c) (msg2_aft G W B) (msg2_body G W B O) c
  rw [msg2_in, msg2_out] at h
  exact h

/-- The encoder's call. -/
theorem enc_step (X : Vec F S10000x128 .f32) (W1 : Vec F S128x64 .f32) (b1 : Vec F S1x64 .f32) (W2 : Vec F S64x64 .f32) (b2 : Vec F S1x64 .f32)
    (W : Vec F S64x128 .f32) (B : Vec F S1x128 .f32) (O : Vec F S10000x128 .f32) (c : Dev nD) :
    Step (F := F) 0 1 c
      iprop(Arr.pts (.of main_arg0) c Finset.univ fullShare X ∗ Arr.pts (.of main_arg2) c Finset.univ fullShare W1 ∗ Arr.pts (.of main_v62) c Finset.univ fullShare b1
        ∗ Arr.pts (.of main_arg4) c Finset.univ fullShare W2 ∗ Arr.pts (.of main_v63) c Finset.univ fullShare b2 ∗ Arr.pts (.of main_v8) c Finset.univ fullShare W
        ∗ Arr.pts (.of main_v11) c Finset.univ fullShare B ∗ Arr.pts (.of main_v64) c Finset.univ fullShare O)
      iprop(Arr.pts (.of main_arg0) c Finset.univ fullShare X ∗ Arr.pts (.of main_arg2) c Finset.univ fullShare W1 ∗ Arr.pts (.of main_v62) c Finset.univ fullShare b1
        ∗ Arr.pts (.of main_arg4) c Finset.univ fullShare W2 ∗ Arr.pts (.of main_v63) c Finset.univ fullShare b2 ∗ Arr.pts (.of main_v8) c Finset.univ fullShare W
        ∗ Arr.pts (.of main_v11) c Finset.univ fullShare B ∗ Arr.pts (.of main_v64) c Finset.univ fullShare (encOut X W1 b1 W2 b2 W B)) := by
  have h := step_of 0 launch1 1 (fun c => enc_A X W1 b1 W2 b2 W B O c) (enc_aft X W1 b1 W2 b2 W B) (enc_body X W1 b1 W2 b2 W B O) c
  rw [enc_in, enc_out] at h
  exact h

/-- A later layer's table's call. -/
def AbStep (h : Arr S10000x64 .f32) (w : Arr S64x128 .f32) (b : Arr S1x128 .f32) (t : Arr S10000x128 .f32) (p : Fin 6) (n : ℕ) : Prop :=
  ∀ (H : Vec F S10000x64 .f32) (W : Vec F S64x128 .f32) (B : Vec F S1x128 .f32) (O : Vec F S10000x128 .f32) (c : Dev nD),
    Step (F := F) p n c
      iprop(h.pts c Finset.univ fullShare H ∗ w.pts c Finset.univ fullShare W ∗ b.pts c Finset.univ fullShare B ∗ t.pts c Finset.univ fullShare O)
      iprop(h.pts c Finset.univ fullShare H ∗ w.pts c Finset.univ fullShare W ∗ b.pts c Finset.univ fullShare B ∗ t.pts c Finset.univ fullShare (abOut H W B))

theorem ab_step0 : AbStep (F := F) (.of main_v69) (.of main_v27) (.of main_v30) (.of main_v70) 2 3 := fun H W B O c => by
  have h := step_of 2 launch5 3 (fun c => ab0_A H W B O c) (ab0_aft H W B) (ab0_body H W B O) c
  rw [ab0_in, ab0_out] at h
  exact h
theorem ab_step1 : AbStep (F := F) (.of main_v75) (.of main_v46) (.of main_v49) (.of main_v76) 4 5 := fun H W B O c => by
  have h := step_of 4 launch9 5 (fun c => ab1_A H W B O c) (ab1_aft H W B) (ab1_body H W B O) c
  rw [ab1_in, ab1_out] at h
  exact h

/-! ## Calls in turn -/

variable (N : Net F)

theorem st_eq (q : Fin 7) (d : Dev nD) : (bigSep Finset.univ fun c : Fin ((K (F := F)).nCore q) => (P N).st q d c) = bigSep (Finset.range 32) fun t => TIn N q d t := by
  rw [← bigSep_tiles]
  match q with
  | 0 => rfl
  | 1 => rfl
  | 2 => rfl
  | 3 => rfl
  | 4 => rfl
  | 5 => rfl
  | 6 => rfl
theorem dn_eq (q : Fin 7) (d : Dev nD) : (bigSep Finset.univ fun c : Fin ((K (F := F)).nCore q) => (P N).dn q d c) = bigSep (Finset.range 32) fun t => TOut N q d t := by
  rw [← bigSep_tiles]
  match q with
  | 0 => rfl
  | 1 => rfl
  | 2 => rfl
  | 3 => rfl
  | 4 => rfl
  | 5 => rfl
  | 6 => rfl

/-- A pipelined call among the others: what the core owes is lent to it. -/
theorem wp_step {p : Fin 6} {n : ℕ} {d : Dev nD} {R R' : sProp 𝕄} (h : Step (F := F) p n d R R') (κ : GSem nD τ sig → ℕ)
    (k : Prog (TpuEff nD τ sig (Elt F) (SparseCore.Sig (ΛP (F := F)) 7) .tc) PUnit) (Q : PUnit → sProp 𝕄) :
    iprop((K (F := F)).ctx EH (P N) κ ∗ (K (F := F)).tcSt EH d n ∗ boundary (T d) ∗ R ∗ gh (F := F) p d
        ∗ (iprop((K (F := F)).tcSt EH d n ∗ boundary (T d) ∗ R') -∗ wp frame (wpE ((K (F := F)).defs (D (F := F))) 𝒱 (T d) none) Set.univ k Q))
      ⊢ wp frame (wpE ((K (F := F)).defs (D (F := F))) 𝒱 (T d) none) Set.univ (call p >>= fun _ => k) Q := by
  iintro ⟨#Hctx, Hst, Hb, HR, Hg, Hk⟩
  ihave #Hlv := (SparseCore.Cfg.ctx_levAts (K := K (F := F)) (EH := EH) (P := P N) κ) $$ Hctx
  rw [wp_bind]
  ihave Hst := (tcSt_owes (F := F) n d) $$ Hst
  icases Hst with ⟨HO, Hst⟩
  iapply (h _) $$ [Hst HO Hb HR Hg Hk]
  isplitr [HO Hb HR Hg]
  rotate_left
  · isplitl [Hb]; · iexact Hb
    isplitl [HO HR]
    · isplitl [HR] <;> iassumption
    isplitr; · iexact Hlv
    iexact Hg
  iintro ⟨Hb, HR, HO⟩
  ihave Hst := Hst $$ HO
  iapply Hk
  isplitl [Hst]; · iexact Hst
  isplitl [Hb] <;> iassumption

/-- One of the SparseCore's calls among the others. -/
theorem wp_call (κ : GSem nD τ sig → ℕ) (d : Dev nD) (q : Fin 7)
    (k : Prog (TpuEff nD τ sig (Elt F) (SparseCore.Sig (ΛP (F := F)) 7) .tc) PUnit) (Q : PUnit → sProp 𝕄) :
    iprop((K (F := F)).ctx EH (P N) κ ∗ (K (F := F)).tcSt EH d q.val ∗ (bigSep (Finset.range 32) fun t => TIn N q d t)
        ∗ (iprop((K (F := F)).tcSt EH d (q.val + 1) ∗ bigSep (Finset.range 32) fun t => TOut N q d t) -∗ wp frame (wpE ((K (F := F)).defs (D (F := F))) 𝒱 (T d) none) Set.univ k Q))
      ⊢ wp frame (wpE ((K (F := F)).defs (D (F := F))) 𝒱 (T d) none) Set.univ (sc.run d q >>= fun _ => k) Q := by
  iintro ⟨#Hctx, Hst, Hin, Hk⟩
  rw [wp_bind]
  iapply ((K (F := F)).wp_run (D (F := F)) 𝒱 (EH := EH) (P := P N) κ d q) $$ [Hst Hin Hk]
  isplitr; · iexact Hctx
  isplitl [Hst]; · iexact Hst
  isplitl [Hin]
  · rw [st_eq]; iexact Hin
  iintro ⟨Hst, Hdn⟩
  ihave Hdn := (Entails.of_eq (dn_eq N q d)) $$ Hdn
  iapply Hk
  isplitl [Hst] <;> iassumption

/-- A layer, from its table to its maxima. -/
theorem layer_step (κ : GSem nD τ sig → ℕ) (d : Dev nD) (A : Lay) (PT : Dev nD → Vec F S10000x128 .f32 → Prop) (W : Dev nD → Vec F S128x128 .f32) (B : Dev nD → Vec F S1x128 .f32)
    (w2 : Arr S128x128 .f32) (b2 : Arr S1x128 .f32) (p : Fin 6) (qg qs : Fin 7) (n₁ n₂ : ℕ) (hq : qs.val = qg.val + 1)
    (hgi : (fun t => TIn N qg d t) = fun t => GatherIn N.X N.Y A PT d t (n₁ + t)) (hgo : (fun t => TOut N qg d t) = fun t => GatherOut N.X N.Y A PT d t)
    (hsi : (fun t => TIn N qs d t) = fun t => ScatterIn N.X N.Y A PT W B d t (n₂ + t)) (hso : (fun t => TOut N qs d t) = fun t => ScatterOut N.X N.Y A PT W B d t)
    (hmsg : MsgStep (F := F) A w2 b2 p (qg.val + 1)) (Tb : Vec F S10000x128 .f32) (hT : PT d Tb) (g₀ M₀ : Vec F S176640x128 .f32) (a₀ : Vec F S5120x128 .f32)
    (k : Prog (TpuEff nD τ sig (Elt F) (SparseCore.Sig (ΛP (F := F)) 7) .tc) PUnit) (Q : PUnit → sProp 𝕄) :
    iprop((K (F := F)).ctx EH (P N) κ ∗ (K (F := F)).tcSt EH d qg.val ∗ boundary (T d) ∗ A.tab.pts d Finset.univ fullShare Tb
        ∗ (bigSep (Finset.range 32) fun t => ListsIn N.X N.Y d t (n₁ + t)) ∗ (bigSep (Finset.range 32) fun t => ListsIn N.X N.Y d t (n₂ + t))
        ∗ (A.rows.pts d Finset.univ fullShare g₀ ∗ w2.pts d Finset.univ fullShare (W d) ∗ b2.pts d Finset.univ fullShare (B d) ∗ A.msgs.pts d Finset.univ fullShare M₀)
        ∗ A.agg.pts d Finset.univ fullShare a₀ ∗ gh (F := F) p d
        ∗ (iprop((K (F := F)).tcSt EH d (qs.val + 1) ∗ boundary (T d) ∗ ∃ a, ⌜∀ t, t < 32 → AggOK N.X N.Y PT W B d t a⌝ ∗ A.agg.pts d Finset.univ fullShare a)
            -∗ wp frame (wpE ((K (F := F)).defs (D (F := F))) 𝒱 (T d) none) Set.univ k Q))
      ⊢ wp frame (wpE ((K (F := F)).defs (D (F := F))) 𝒱 (T d) none) Set.univ (sc.run d qg >>= fun _ => call p >>= fun _ => sc.run d qs >>= fun _ => k) Q := by
  iintro ⟨#Hctx, Hst, Hb, Htb, HL1, HL2, ⟨Hro, Hwt, Hbi, Hms⟩, Hag, Hg, Hk⟩
  ihave Hdeal := (gather_deal (F := F) N.X N.Y A PT d n₁ Tb hT g₀) $$ [Htb HL1 Hro]
  · isplitl [Htb]; · iexact Htb
    isplitl [HL1] <;> iassumption
  icases Hdeal with ⟨Htiles, Hkept⟩
  iapply (wp_call N κ d qg _ Q)
  isplitr; · iexact Hctx
  isplitl [Hst]; · iexact Hst
  isplitl [Htiles]
  · rw [hgi]; iexact Htiles
  rw [hgo]
  iintro ⟨Hst, Hdn⟩
  ihave Hsum := (sums_join (F := F) N.X N.Y A PT d g₀) $$ [Hdn Hkept]
  · isplitl [Hdn] <;> iassumption
  icases Hsum with ⟨%g, %hg, Hro⟩
  iapply (wp_step N (hmsg g (W d) (B d) M₀ d) κ _ Q)
  isplitr; · iexact Hctx
  isplitl [Hst]; · iexact Hst
  isplitl [Hb]; · iexact Hb
  isplitl [Hro Hwt Hbi Hms]
  · isplitl [Hro]; · iexact Hro
    isplitl [Hwt]; · iexact Hwt
    isplitl [Hbi] <;> iassumption
  isplitl [Hg]; · iexact Hg
  iintro ⟨Hst, Hb, -, -, -, Hms⟩
  ihave Htiles := (scatter_deal (F := F) N.X N.Y A PT W B d n₂ (msgOut g (W d) (B d)) ⟨g, hg, rfl⟩ a₀) $$ [Hms HL2 Hag]
  · isplitl [Hms]; · iexact Hms
    isplitl [HL2] <;> iassumption
  rw [← hq]
  iapply (wp_call N κ d qs _ Q)
  isplitr; · iexact Hctx
  isplitl [Hst]; · iexact Hst
  isplitl [Htiles]
  · rw [hsi]; iexact Htiles
  rw [hso]
  iintro ⟨Hst, Hdn⟩
  ihave Hag := (agg_join (F := F) N.X N.Y A PT W B d a₀) $$ Hdn
  iapply Hk
  isplitl [Hst]; · iexact Hst
  isplitl [Hb] <;> iassumption

end Cert.Proof.Bin

end
-- ==== Proof.Launch.lean ====
/-
  The whole program's run: the host operations before the calls, the calls with the operations between them, the host operations after them.
-/
module

public import proofs.«01_k».proof.Proof.Tiles
public import proofs.«01_k».proof.Proof.Steps

@[expose] public section

noncomputable section

namespace Cert.Proof.Bin

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.Transfers (shareTokN shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 7) (Elt F) ℕ UU ℕ

open Idealize.ShloMosaic.StableHlo

variable [FloatOps F]
variable (m : (ℓ : Loc nD τ sig) → Buf (Elt F) ℓ) (ρ : Dev nD → PrngReg)

/-- An array whole. -/
abbrev all (r : Ref sig .tc) (d : Dev nD) (f : Buf (Elt F) ((SparseCore.T d : Thread nD τ).loc r)) : sProp 𝕄 := ((SparseCore.T d : Thread nD τ).loc r) ↦{fullShare} f

/-! ## The arrays in groups -/

omit [FloatOps F] in
theorem held_two (d : Dev nD) (S R : Finset (DevRef τ sig)) (h : Disjoint S R) (W : Valuation τ sig (Elt F)) :
    (held (T d) (S ∪ R) W : sProp 𝕄) = iprop(held (T d) S W ∗ held (T d) R W) := by
  rw [StableHlo.held_sub_split (T d) Finset.subset_union_left, Finset.union_sdiff_cancel_left h]

/-- The edges and the lists. -/
def SE : Finset (DevRef τ sig) := {at' main_v3, at' main_v1, at' main_v61_0, at' main_v61_1, at' main_v61_2}
omit [FloatOps F] in
theorem held_SE (d : Dev nD) (W : Valuation τ sig (Elt F)) : (held (T d) SE W : sProp 𝕄)
    = iprop(all main_v3 d (W (at' main_v3)) ∗ all main_v1 d (W (at' main_v1)) ∗ all main_v61_0 d (W (at' main_v61_0)) ∗ all main_v61_1 d (W (at' main_v61_1)) ∗ all main_v61_2 d (W (at' main_v61_2))) := by
  unfold held SE
  rw [SparseCore.bigSep_insert' (by decide), SparseCore.bigSep_insert' (by decide), SparseCore.bigSep_insert' (by decide), SparseCore.bigSep_insert' (by decide), bigSep_singleton]
/-- The encoder's. -/
def SN : Finset (DevRef τ sig) := {at' main_arg0, at' main_arg2, at' main_arg3, at' main_v62, at' main_arg4, at' main_arg5, at' main_v63, at' main_v8, at' main_v11, at' main_v64}
omit [FloatOps F] in
theorem held_SN (d : Dev nD) (W : Valuation τ sig (Elt F)) : (held (T d) SN W : sProp 𝕄)
    = iprop(Arr.pts (.of main_arg0) d Finset.univ fullShare (W (at' main_arg0)) ∗ Arr.pts (.of main_arg2) d Finset.univ fullShare (W (at' main_arg2)) ∗ Arr.pts (.of main_arg3) d Finset.univ fullShare (W (at' main_arg3)) ∗ Arr.pts (.of main_v62) d Finset.univ fullShare (W (at' main_v62)) ∗ Arr.pts (.of main_arg4) d Finset.univ fullShare (W (at' main_arg4)) ∗ Arr.pts (.of main_arg5) d Finset.univ fullShare (W (at' main_arg5)) ∗ Arr.pts (.of main_v63) d Finset.univ fullShare (W (at' main_v63)) ∗ Arr.pts (.of main_v8) d Finset.univ fullShare (W (at' main_v8)) ∗ Arr.pts (.of main_v11) d Finset.univ fullShare (W (at' main_v11)) ∗ Arr.pts (.of main_v64) d Finset.univ fullShare (W (at' main_v64))) := by
  unfold held SN
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl
/-- A layer's sums, operands and messages. -/
def SL0 : Finset (DevRef τ sig) := {at' main_v65, at' main_v20, at' main_v22, at' main_v66}
omit [FloatOps F] in
theorem held_SL0 (d : Dev nD) (W : Valuation τ sig (Elt F)) : (held (T d) SL0 W : sProp 𝕄)
    = iprop((lay 0).rows.pts d Finset.univ fullShare (W (at' main_v65)) ∗ Arr.pts (.of main_v20) d Finset.univ fullShare (W (at' main_v20)) ∗ Arr.pts (.of main_v22) d Finset.univ fullShare (W (at' main_v22)) ∗ (lay 0).msgs.pts d Finset.univ fullShare (W (at' main_v66))) := by
  unfold held SL0
  rw [SparseCore.bigSep_insert' (by decide), SparseCore.bigSep_insert' (by decide), SparseCore.bigSep_insert' (by decide), bigSep_singleton]
  rfl
def SL1 : Finset (DevRef τ sig) := {at' main_v71, at' main_v39, at' main_v41, at' main_v72}
omit [FloatOps F] in
theorem held_SL1 (d : Dev nD) (W : Valuation τ sig (Elt F)) : (held (T d) SL1 W : sProp 𝕄)
    = iprop((lay 1).rows.pts d Finset.univ fullShare (W (at' main_v71)) ∗ Arr.pts (.of main_v39) d Finset.univ fullShare (W (at' main_v39)) ∗ Arr.pts (.of main_v41) d Finset.univ fullShare (W (at' main_v41)) ∗ (lay 1).msgs.pts d Finset.univ fullShare (W (at' main_v72))) := by
  unfold held SL1
  rw [SparseCore.bigSep_insert' (by decide), SparseCore.bigSep_insert' (by decide), SparseCore.bigSep_insert' (by decide), bigSep_singleton]
  rfl
def SL2 : Finset (DevRef τ sig) := {at' main_v77, at' main_v58, at' main_v60, at' main_v78}
omit [FloatOps F] in
theorem held_SL2 (d : Dev nD) (W : Valuation τ sig (Elt F)) : (held (T d) SL2 W : sProp 𝕄)
    = iprop((lay 2).rows.pts d Finset.univ fullShare (W (at' main_v77)) ∗ Arr.pts (.of main_v58) d Finset.univ fullShare (W (at' main_v58)) ∗ Arr.pts (.of main_v60) d Finset.univ fullShare (W (at' main_v60)) ∗ (lay 2).msgs.pts d Finset.univ fullShare (W (at' main_v78))) := by
  unfold held SL2
  rw [SparseCore.bigSep_insert' (by decide), SparseCore.bigSep_insert' (by decide), SparseCore.bigSep_insert' (by decide), bigSep_singleton]
  rfl
/-- A layer's maxima and result. -/
def SM0 : Finset (DevRef τ sig) := {at' main_v67, at' main_v68, at' main_v69}
omit [FloatOps F] in
theorem held_SM0 (d : Dev nD) (W : Valuation τ sig (Elt F)) : (held (T d) SM0 W : sProp 𝕄)
    = iprop((lay 0).agg.pts d Finset.univ fullShare (W (at' main_v67)) ∗ Arr.pts (.of main_v68) d Finset.univ fullShare (W (at' main_v68)) ∗ Arr.pts (.of main_v69) d Finset.univ fullShare (W (at' main_v69))) := by
  unfold held SM0
  rw [SparseCore.bigSep_insert' (by decide), SparseCore.bigSep_insert' (by decide), bigSep_singleton]
  rfl
def SM1 : Finset (DevRef τ sig) := {at' main_v73, at' main_v74, at' main_v75}
omit [FloatOps F] in
theorem held_SM1 (d : Dev nD) (W : Valuation τ sig (Elt F)) : (held (T d) SM1 W : sProp 𝕄)
    = iprop((lay 1).agg.pts d Finset.univ fullShare (W (at' main_v73)) ∗ Arr.pts (.of main_v74) d Finset.univ fullShare (W (at' main_v74)) ∗ Arr.pts (.of main_v75) d Finset.univ fullShare (W (at' main_v75))) := by
  unfold held SM1
  rw [SparseCore.bigSep_insert' (by decide), SparseCore.bigSep_insert' (by decide), bigSep_singleton]
  rfl
def SM2 : Finset (DevRef τ sig) := {at' main_v79, at' main_v80, at' main_v81}
omit [FloatOps F] in
theorem held_SM2 (d : Dev nD) (W : Valuation τ sig (Elt F)) : (held (T d) SM2 W : sProp 𝕄)
    = iprop((lay 2).agg.pts d Finset.univ fullShare (W (at' main_v79)) ∗ Arr.pts (.of main_v80) d Finset.univ fullShare (W (at' main_v80)) ∗ Arr.pts (.of main_v81) d Finset.univ fullShare (W (at' main_v81))) := by
  unfold held SM2
  rw [SparseCore.bigSep_insert' (by decide), SparseCore.bigSep_insert' (by decide), bigSep_singleton]
  rfl
/-- A later layer's table's operands, and the table. -/
def SA1 : Finset (DevRef τ sig) := {at' main_v27, at' main_v30, at' main_v70}
omit [FloatOps F] in
theorem held_SA1 (d : Dev nD) (W : Valuation τ sig (Elt F)) : (held (T d) SA1 W : sProp 𝕄)
    = iprop(Arr.pts (.of main_v27) d Finset.univ fullShare (W (at' main_v27)) ∗ Arr.pts (.of main_v30) d Finset.univ fullShare (W (at' main_v30)) ∗ Arr.pts (.of main_v70) d Finset.univ fullShare (W (at' main_v70))) := by
  unfold held SA1
  rw [SparseCore.bigSep_insert' (by decide), SparseCore.bigSep_insert' (by decide), bigSep_singleton]
  rfl
def SA2 : Finset (DevRef τ sig) := {at' main_v46, at' main_v49, at' main_v76}
omit [FloatOps F] in
theorem held_SA2 (d : Dev nD) (W : Valuation τ sig (Elt F)) : (held (T d) SA2 W : sProp 𝕄)
    = iprop(Arr.pts (.of main_v46) d Finset.univ fullShare (W (at' main_v46)) ∗ Arr.pts (.of main_v49) d Finset.univ fullShare (W (at' main_v49)) ∗ Arr.pts (.of main_v76) d Finset.univ fullShare (W (at' main_v76))) := by
  unfold held SA2
  rw [SparseCore.bigSep_insert' (by decide), SparseCore.bigSep_insert' (by decide), bigSep_singleton]
  rfl
/-- The arguments no call takes. -/
def SR : Finset (DevRef τ sig) := {at' main_arg1, at' main_arg6, at' main_arg7, at' main_arg8, at' main_arg9, at' main_arg10, at' main_arg11, at' main_arg12, at' main_arg13, at' main_arg14, at' main_arg15, at' main_arg16, at' main_arg17}
/-- All of these. -/
def used : Finset (DevRef τ sig) := SE ∪ (SN ∪ (SL0 ∪ (SM0 ∪ (SA1 ∪ (SL1 ∪ (SM1 ∪ (SA2 ∪ (SL2 ∪ (SM2 ∪ SR)))))))))
set_option maxRecDepth 65536 in
theorem used_sub : used ⊆ bufs := by decide

set_option maxRecDepth 65536 in
omit [FloatOps F] in
theorem held_used (d : Dev nD) (W : Valuation τ sig (Elt F)) : (held (T d) bufs W : sProp 𝕄)
    ⊢ iprop(held (T d) SE W ∗ held (T d) SN W ∗ held (T d) SL0 W ∗ held (T d) SM0 W ∗ held (T d) SA1 W ∗ held (T d) SL1 W ∗ held (T d) SM1 W ∗ held (T d) SA2 W
        ∗ held (T d) SL2 W ∗ held (T d) SM2 W ∗ held (T d) SR W) := by
  rw [StableHlo.held_sub_split (T d) used_sub]
  unfold used
  rw [held_two d SE _ (by decide), held_two d SN _ (by decide), held_two d SL0 _ (by decide), held_two d SM0 _ (by decide), held_two d SA1 _ (by decide), held_two d SL1 _ (by decide),
    held_two d SM1 _ (by decide), held_two d SA2 _ (by decide), held_two d SL2 _ (by decide), held_two d SM2 _ (by decide)]
  exact sep_elim_left

/-! ## The encoder -/

theorem subE : ∀ op ∈ (opsE : List (HloOp τ sig (Elt F))), op.bufs ⊆ SN := by
  intro _ h
  (repeat (cases h with | head => (rw [unary_bufs]; decide) | tail _ h => ?_))
  exact nomatch h

theorem E_v62 (W : Valuation τ sig (Elt F)) : after opsE W (at' main_v62) = asRow (W (at' main_arg3)) := by
  unfold opsE; after_results <;> rfl
theorem E_v63 (W : Valuation τ sig (Elt F)) : after opsE W (at' main_v63) = asRow (W (at' main_arg5)) := by
  unfold opsE; after_results <;> rfl
theorem E_keep (W : Valuation τ sig (Elt F)) (b : DevRef τ sig) (h₁ : b ≠ at' main_v62) (h₂ : b ≠ at' main_v63) : after opsE W b = W b := by
  rw [opsE, StableHlo.after_cons, StableHlo.after_cons, StableHlo.after_nil]
  exact (HloOp.result_of_not_mem _ _ (fun h => h₂ (Finset.mem_singleton.1 h))).trans (HloOp.result_of_not_mem _ _ (fun h => h₁ (Finset.mem_singleton.1 h)))

/-- The encoder's arguments, as at launch. -/
def ins (d : Dev nD) : sProp 𝕄 := iprop(Arr.pts (.of main_arg0) d Finset.univ fullShare (rd m d main_arg0) ∗ Arr.pts (.of main_arg2) d Finset.univ fullShare (rd m d main_arg2) ∗ Arr.pts (.of main_arg3) d Finset.univ fullShare (rd m d main_arg3) ∗ Arr.pts (.of main_arg4) d Finset.univ fullShare (rd m d main_arg4)
  ∗ Arr.pts (.of main_arg5) d Finset.univ fullShare (rd m d main_arg5))

theorem held_E (d : Dev nD) : (held (T d) SN (after opsE (V1 m d)) : sProp 𝕄)
    = iprop(Arr.pts (.of main_arg0) d Finset.univ fullShare (rd m d main_arg0) ∗ Arr.pts (.of main_arg2) d Finset.univ fullShare (rd m d main_arg2) ∗ Arr.pts (.of main_arg3) d Finset.univ fullShare (rd m d main_arg3) ∗ Arr.pts (.of main_v62) d Finset.univ fullShare (asRow (rd m d main_arg3)) ∗ Arr.pts (.of main_arg4) d Finset.univ fullShare (rd m d main_arg4)
      ∗ Arr.pts (.of main_arg5) d Finset.univ fullShare (rd m d main_arg5) ∗ Arr.pts (.of main_v63) d Finset.univ fullShare (asRow (rd m d main_arg5)) ∗ Arr.pts (.of main_v8) d Finset.univ fullShare (halves (rd m d main_arg6)) ∗ Arr.pts (.of main_v11) d Finset.univ fullShare (first (rd m d main_arg7)) ∗ Arr.pts (.of main_v64) d Finset.univ fullShare (V1 m d (at' main_v64))) := by
  rw [held_SN, E_v62, E_v63, E_keep _ (at' main_arg0) (by decide) (by decide), E_keep _ (at' main_arg2) (by decide) (by decide), E_keep _ (at' main_arg3) (by decide) (by decide),
    E_keep _ (at' main_arg4) (by decide) (by decide), E_keep _ (at' main_arg5) (by decide) (by decide), E_keep _ (at' main_v8) (by decide) (by decide), E_keep _ (at' main_v11) (by decide) (by decide),
    E_keep _ (at' main_v64) (by decide) (by decide), V1_a0, V1_a2, V1_a3, V1_a4, V1_a5, V1_v8, V1_v11, net_V0, net_C0]

theorem enc_main (κ : GSem nD τ sig → ℕ) (d : Dev nD) (k : Prog (TpuEff nD τ sig (Elt F) (SparseCore.Sig (ΛP (F := F)) 7) .tc) PUnit) (Q : PUnit → sProp 𝕄) :
    iprop((K (F := F)).ctx EH (P (net m)) κ ∗ (K (F := F)).tcSt EH d 1 ∗ boundary (T d) ∗ held (T d) SN (V1 m d) ∗ gh (F := F) 0 d
        ∗ (iprop((K (F := F)).tcSt EH d 1 ∗ boundary (T d) ∗ ins m d ∗ (lay 0).tab.pts d Finset.univ fullShare ((net m).T d)) -∗ wp frame (wpE ((K (F := F)).defs (D (F := F))) 𝒱 (T d) none) Set.univ k Q))
      ⊢ wp frame (wpE ((K (F := F)).defs (D (F := F))) 𝒱 (T d) none) Set.univ (seq opsE >>= fun _ => call 0 >>= fun _ => k) Q := by
  rw [show (lay 0).tab = Arr.of main_v64 from rfl]
  iintro ⟨#Hctx, Hst, Hb, Hh, Hg, Hk⟩
  iapply (wp_seq 𝒱 none Set.univ d SN (fun _ => call 0 >>= fun _ => k) opsE subE freshE (V1 m d)) $$ [Hb Hh]
  · isplitl [Hb] <;> iassumption
  iintro ⟨Hb, Hh⟩
  ihave Hh := (Entails.of_eq (held_E m d)) $$ Hh
  icases Hh with ⟨H0, H2, H3, H62, H4, H5, H63, H8, H11, H64⟩
  iapply (wp_step (net m) (enc_step (rd m d main_arg0) (rd m d main_arg2) (asRow (rd m d main_arg3)) (rd m d main_arg4) (asRow (rd m d main_arg5)) (halves (rd m d main_arg6)) (first (rd m d main_arg7)) (V1 m d (at' main_v64)) d) κ k Q)
  isplitr; · iexact Hctx
  isplitl [Hst]; · iexact Hst
  isplitl [Hb]; · iexact Hb
  isplitl [H0 H2 H62 H4 H63 H8 H11 H64]
  · isplitl [H0]; · iexact H0
    isplitl [H2]; · iexact H2
    isplitl [H62]; · iexact H62
    isplitl [H4]; · iexact H4
    isplitl [H63]; · iexact H63
    isplitl [H8]; · iexact H8
    isplitl [H11]; · iexact H11
    iexact H64
  isplitl [Hg]; · iexact Hg
  iintro ⟨Hst, Hb, H0, H2, -, H4, -, -, -, H64⟩
  iapply Hk
  isplitl [Hst]; · iexact Hst
  isplitl [Hb]; · iexact Hb
  isplitr [H64]
  · unfold ins
    isplitl [H0]; · iexact H0
    isplitl [H2]; · iexact H2
    isplitl [H3]; · iexact H3
    isplitl [H4] <;> iassumption
  · iexact H64

/-! ## Between the layers -/

theorem subS0 : ∀ op ∈ (opsS0 : List (HloOp τ sig (Elt F))), op.bufs ⊆ SM0 := by
  intro _ h
  (repeat (cases h with | head => ((first | rw [unary_bufs] | rw [reshape_bufs]); decide) | tail _ h => ?_))
  exact nomatch h
theorem S0_h (W : Valuation τ sig (Elt F)) : after opsS0 W (at' main_v69) = result (W (at' main_v67)) := by
  unfold opsS0; after_results <;> rfl
theorem slice0 (d : Dev nD) (a : Vec F S5120x128 .f32) (k : Prog (TpuEff nD τ sig (Elt F) (SparseCore.Sig (ΛP (F := F)) 7) .tc) PUnit) (Q : PUnit → sProp 𝕄) :
    iprop(boundary (T d) ∗ (lay 0).agg.pts d Finset.univ fullShare a ∗ Arr.pts (.of main_v68) d Finset.univ fullShare (V1 m d (at' main_v68)) ∗ Arr.pts (.of main_v69) d Finset.univ fullShare (V1 m d (at' main_v69))
        ∗ (iprop(boundary (T d) ∗ Arr.pts (.of main_v69) d Finset.univ fullShare (result a)) -∗ wp frame (wpE ((K (F := F)).defs (D (F := F))) 𝒱 (T d) none) Set.univ k Q))
      ⊢ wp frame (wpE ((K (F := F)).defs (D (F := F))) 𝒱 (T d) none) Set.univ (seq opsS0 >>= fun _ => k) Q := by
  have e : (held (T d) SM0 (Function.update (V1 m d) (at' main_v67) a) : sProp 𝕄) = iprop((lay 0).agg.pts d Finset.univ fullShare a ∗ Arr.pts (.of main_v68) d Finset.univ fullShare (V1 m d (at' main_v68)) ∗ Arr.pts (.of main_v69) d Finset.univ fullShare (V1 m d (at' main_v69))) := by
    rw [held_SM0, Function.update_self, Function.update_of_ne (show at' main_v68 ≠ at' main_v67 by decide), Function.update_of_ne (show at' main_v69 ≠ at' main_v67 by decide)]
  have e' : (held (T d) SM0 (after opsS0 (Function.update (V1 m d) (at' main_v67) a)) : sProp 𝕄) ⊢ Arr.pts (.of main_v69) d Finset.univ fullShare (result a) := by
    rw [held_SM0, S0_h, Function.update_self]
    exact sep_elim_right.trans sep_elim_right
  iintro ⟨Hb, Hag, Hsl, Hh, Hk⟩
  iapply (wp_seq 𝒱 none Set.univ d SM0 (fun _ => k) opsS0 subS0 freshS0 (Function.update (V1 m d) (at' main_v67) a)) $$ [Hb Hag Hsl Hh]
  · isplitl [Hb]; · iexact Hb
    iapply (Entails.of_eq e.symm)
    isplitl [Hag]; · iexact Hag
    isplitl [Hsl] <;> iassumption
  iintro ⟨Hb, Hheld⟩
  ihave Hh := e' $$ Hheld
  iapply Hk
  isplitl [Hb] <;> iassumption

theorem subS1 : ∀ op ∈ (opsS1 : List (HloOp τ sig (Elt F))), op.bufs ⊆ SM1 := by
  intro _ h
  (repeat (cases h with | head => ((first | rw [unary_bufs] | rw [reshape_bufs]); decide) | tail _ h => ?_))
  exact nomatch h
theorem S1_h (W : Valuation τ sig (Elt F)) : after opsS1 W (at' main_v75) = result (W (at' main_v73)) := by
  unfold opsS1; after_results <;> rfl
theorem slice1 (d : Dev nD) (a : Vec F S5120x128 .f32) (k : Prog (TpuEff nD τ sig (Elt F) (SparseCore.Sig (ΛP (F := F)) 7) .tc) PUnit) (Q : PUnit → sProp 𝕄) :
    iprop(boundary (T d) ∗ (lay 1).agg.pts d Finset.univ fullShare a ∗ Arr.pts (.of main_v74) d Finset.univ fullShare (V1 m d (at' main_v74)) ∗ Arr.pts (.of main_v75) d Finset.univ fullShare (V1 m d (at' main_v75))
        ∗ (iprop(boundary (T d) ∗ Arr.pts (.of main_v75) d Finset.univ fullShare (result a)) -∗ wp frame (wpE ((K (F := F)).defs (D (F := F))) 𝒱 (T d) none) Set.univ k Q))
      ⊢ wp frame (wpE ((K (F := F)).defs (D (F := F))) 𝒱 (T d) none) Set.univ (seq opsS1 >>= fun _ => k) Q := by
  have e : (held (T d) SM1 (Function.update (V1 m d) (at' main_v73) a) : sProp 𝕄) = iprop((lay 1).agg.pts d Finset.univ fullShare a ∗ Arr.pts (.of main_v74) d Finset.univ fullShare (V1 m d (at' main_v74)) ∗ Arr.pts (.of main_v75) d Finset.univ fullShare (V1 m d (at' main_v75))) := by
    rw [held_SM1, Function.update_self, Function.update_of_ne (show at' main_v74 ≠ at' main_v73 by decide), Function.update_of_ne (show at' main_v75 ≠ at' main_v73 by decide)]
  have e' : (held (T d) SM1 (after opsS1 (Function.update (V1 m d) (at' main_v73) a)) : sProp 𝕄) ⊢ Arr.pts (.of main_v75) d Finset.univ fullShare (result a) := by
    rw [held_SM1, S1_h, Function.update_self]
    exact sep_elim_right.trans sep_elim_right
  iintro ⟨Hb, Hag, Hsl, Hh, Hk⟩
  iapply (wp_seq 𝒱 none Set.univ d SM1 (fun _ => k) opsS1 subS1 freshS1 (Function.update (V1 m d) (at' main_v73) a)) $$ [Hb Hag Hsl Hh]
  · isplitl [Hb]; · iexact Hb
    iapply (Entails.of_eq e.symm)
    isplitl [Hag]; · iexact Hag
    isplitl [Hsl] <;> iassumption
  iintro ⟨Hb, Hheld⟩
  ihave Hh := e' $$ Hheld
  iapply Hk
  isplitl [Hb] <;> iassumption

theorem subS2 : ∀ op ∈ (opsS2 : List (HloOp τ sig (Elt F))), op.bufs ⊆ SM2 := by
  intro _ h
  (repeat (cases h with | head => ((first | rw [unary_bufs] | rw [reshape_bufs]); decide) | tail _ h => ?_))
  exact nomatch h
theorem S2_h (W : Valuation τ sig (Elt F)) : after opsS2 W (at' main_v81) = result (W (at' main_v79)) := by
  unfold opsS2; after_results <;> rfl
theorem slice2 (d : Dev nD) (a : Vec F S5120x128 .f32) (k : Prog (TpuEff nD τ sig (Elt F) (SparseCore.Sig (ΛP (F := F)) 7) .tc) PUnit) (Q : PUnit → sProp 𝕄) :
    iprop(boundary (T d) ∗ (lay 2).agg.pts d Finset.univ fullShare a ∗ Arr.pts (.of main_v80) d Finset.univ fullShare (V1 m d (at' main_v80)) ∗ Arr.pts (.of main_v81) d Finset.univ fullShare (V1 m d (at' main_v81))
        ∗ (iprop(boundary (T d) ∗ Arr.pts (.of main_v81) d Finset.univ fullShare (result a)) -∗ wp frame (wpE ((K (F := F)).defs (D (F := F))) 𝒱 (T d) none) Set.univ k Q))
      ⊢ wp frame (wpE ((K (F := F)).defs (D (F := F))) 𝒱 (T d) none) Set.univ (seq opsS2 >>= fun _ => k) Q := by
  have e : (held (T d) SM2 (Function.update (V1 m d) (at' main_v79) a) : sProp 𝕄) = iprop((lay 2).agg.pts d Finset.univ fullShare a ∗ Arr.pts (.of main_v80) d Finset.univ fullShare (V1 m d (at' main_v80)) ∗ Arr.pts (.of main_v81) d Finset.univ fullShare (V1 m d (at' main_v81))) := by
    rw [held_SM2, Function.update_self, Function.update_of_ne (show at' main_v80 ≠ at' main_v79 by decide), Function.update_of_ne (show at' main_v81 ≠ at' main_v79 by decide)]
  have e' : (held (T d) SM2 (after opsS2 (Function.update (V1 m d) (at' main_v79) a)) : sProp 𝕄) ⊢ Arr.pts (.of main_v81) d Finset.univ fullShare (result a) := by
    rw [held_SM2, S2_h, Function.update_self]
    exact sep_elim_right.trans sep_elim_right
  iintro ⟨Hb, Hag, Hsl, Hh, Hk⟩
  iapply (wp_seq 𝒱 none Set.univ d SM2 (fun _ => k) opsS2 subS2 freshS2 (Function.update (V1 m d) (at' main_v79) a)) $$ [Hb Hag Hsl Hh]
  · isplitl [Hb]; · iexact Hb
    iapply (Entails.of_eq e.symm)
    isplitl [Hag]; · iexact Hag
    isplitl [Hsl] <;> iassumption
  iintro ⟨Hb, Hheld⟩
  ihave Hh := e' $$ Hheld
  iapply Hk
  isplitl [Hb] <;> iassumption

theorem layer0 (κ : GSem nD τ sig → ℕ) (d : Dev nD) (Tb : Vec F S10000x128 .f32) (hT : PT (net m) 0 d Tb) (k : Prog (TpuEff nD τ sig (Elt F) (SparseCore.Sig (ΛP (F := F)) 7) .tc) PUnit) (Q : PUnit → sProp 𝕄) :
    iprop((K (F := F)).ctx EH (P (net m)) κ ∗ (K (F := F)).tcSt EH d 1 ∗ boundary (T d) ∗ (lay 0).tab.pts d Finset.univ fullShare Tb
        ∗ (bigSep (Finset.range 32) fun t => ListsIn (net m).X (net m).Y d t (32 * 0 + t)) ∗ (bigSep (Finset.range 32) fun t => ListsIn (net m).X (net m).Y d t (32 * 1 + t))
        ∗ held (T d) SL0 (V1 m d) ∗ held (T d) SM0 (V1 m d) ∗ gh (F := F) 1 d
        ∗ (iprop((K (F := F)).tcSt EH d 3 ∗ boundary (T d) ∗ ∃ a, ⌜∀ t, t < 32 → AggOK (net m).X (net m).Y (PT (net m) 0) ((net m).W 0) ((net m).B 0) d t a⌝ ∗ Arr.pts (.of main_v69) d Finset.univ fullShare (result a))
            -∗ wp frame (wpE ((K (F := F)).defs (D (F := F))) 𝒱 (T d) none) Set.univ k Q))
      ⊢ wp frame (wpE ((K (F := F)).defs (D (F := F))) 𝒱 (T d) none) Set.univ (sc.run d 1 >>= fun _ => call 1 >>= fun _ => sc.run d 2 >>= fun _ => seq opsS0 >>= fun _ => k) Q := by
  rw [held_SL0, held_SM0, V1_v20, V1_v22]
  iintro ⟨#Hctx, Hst, Hb, Htb, HL1, HL2, ⟨Hro, Hwt, Hbi, Hms⟩, ⟨Hag, Hsl, Hh⟩, Hg, Hk⟩
  iapply (layer_step (net m) κ d (lay 0) (PT (net m) 0) ((net m).W 0) ((net m).B 0) (.of main_v20) (.of main_v22) 1 1 2 (32 * 0) (32 * 1) rfl rfl rfl rfl rfl msg_step0 Tb hT
    (V1 m d (at' main_v65)) (V1 m d (at' main_v66)) (V1 m d (at' main_v67)) _ Q)
  isplitr; · iexact Hctx
  isplitl [Hst]; · iexact Hst
  isplitl [Hb]; · iexact Hb
  isplitl [Htb]; · iexact Htb
  isplitl [HL1]; · iexact HL1
  isplitl [HL2]; · iexact HL2
  isplitl [Hro Hwt Hbi Hms]
  · isplitl [Hro]; · iexact Hro
    isplitl [Hwt]; · iexact Hwt
    isplitl [Hbi]; · iexact Hbi
    iexact Hms
  isplitl [Hag]; · iexact Hag
  isplitl [Hg]; · iexact Hg
  iintro ⟨Hst, Hb, %a, %ha, Hag⟩
  iapply (slice0 m d a k Q)
  isplitl [Hb]; · iexact Hb
  isplitl [Hag]; · iexact Hag
  isplitl [Hsl]; · iexact Hsl
  isplitl [Hh]; · iexact Hh
  iintro ⟨Hb, Hh⟩
  iapply Hk
  isplitl [Hst]; · iexact Hst
  isplitl [Hb]; · iexact Hb
  iexists a
  isplitr
  · ipureintro; exact ha
  · iexact Hh

theorem layer1 (κ : GSem nD τ sig → ℕ) (d : Dev nD) (Tb : Vec F S10000x128 .f32) (hT : PT (net m) 1 d Tb) (k : Prog (TpuEff nD τ sig (Elt F) (SparseCore.Sig (ΛP (F := F)) 7) .tc) PUnit) (Q : PUnit → sProp 𝕄) :
    iprop((K (F := F)).ctx EH (P (net m)) κ ∗ (K (F := F)).tcSt EH d 3 ∗ boundary (T d) ∗ (lay 1).tab.pts d Finset.univ fullShare Tb
        ∗ (bigSep (Finset.range 32) fun t => ListsIn (net m).X (net m).Y d t (32 * 2 + t)) ∗ (bigSep (Finset.range 32) fun t => ListsIn (net m).X (net m).Y d t (32 * 3 + t))
        ∗ held (T d) SL1 (V1 m d) ∗ held (T d) SM1 (V1 m d) ∗ gh (F := F) 3 d
        ∗ (iprop((K (F := F)).tcSt EH d 5 ∗ boundary (T d) ∗ ∃ a, ⌜∀ t, t < 32 → AggOK (net m).X (net m).Y (PT (net m) 1) ((net m).W 1) ((net m).B 1) d t a⌝ ∗ Arr.pts (.of main_v75) d Finset.univ fullShare (result a))
            -∗ wp frame (wpE ((K (F := F)).defs (D (F := F))) 𝒱 (T d) none) Set.univ k Q))
      ⊢ wp frame (wpE ((K (F := F)).defs (D (F := F))) 𝒱 (T d) none) Set.univ (sc.run d 3 >>= fun _ => call 3 >>= fun _ => sc.run d 4 >>= fun _ => seq opsS1 >>= fun _ => k) Q := by
  rw [held_SL1, held_SM1, V1_v39, V1_v41]
  iintro ⟨#Hctx, Hst, Hb, Htb, HL1, HL2, ⟨Hro, Hwt, Hbi, Hms⟩, ⟨Hag, Hsl, Hh⟩, Hg, Hk⟩
  iapply (layer_step (net m) κ d (lay 1) (PT (net m) 1) ((net m).W 1) ((net m).B 1) (.of main_v39) (.of main_v41) 3 3 4 (32 * 2) (32 * 3) rfl rfl rfl rfl rfl msg_step1 Tb hT
    (V1 m d (at' main_v71)) (V1 m d (at' main_v72)) (V1 m d (at' main_v73)) _ Q)
  isplitr; · iexact Hctx
  isplitl [Hst]; · iexact Hst
  isplitl [Hb]; · iexact Hb
  isplitl [Htb]; · iexact Htb
  isplitl [HL1]; · iexact HL1
  isplitl [HL2]; · iexact HL2
  isplitl [Hro Hwt Hbi Hms]
  · isplitl [Hro]; · iexact Hro
    isplitl [Hwt]; · iexact Hwt
    isplitl [Hbi]; · iexact Hbi
    iexact Hms
  isplitl [Hag]; · iexact Hag
  isplitl [Hg]; · iexact Hg
  iintro ⟨Hst, Hb, %a, %ha, Hag⟩
  iapply (slice1 m d a k Q)
  isplitl [Hb]; · iexact Hb
  isplitl [Hag]; · iexact Hag
  isplitl [Hsl]; · iexact Hsl
  isplitl [Hh]; · iexact Hh
  iintro ⟨Hb, Hh⟩
  iapply Hk
  isplitl [Hst]; · iexact Hst
  isplitl [Hb]; · iexact Hb
  iexists a
  isplitr
  · ipureintro; exact ha
  · iexact Hh

theorem layer2 (κ : GSem nD τ sig → ℕ) (d : Dev nD) (Tb : Vec F S10000x128 .f32) (hT : PT (net m) 2 d Tb) (k : Prog (TpuEff nD τ sig (Elt F) (SparseCore.Sig (ΛP (F := F)) 7) .tc) PUnit) (Q : PUnit → sProp 𝕄) :
    iprop((K (F := F)).ctx EH (P (net m)) κ ∗ (K (F := F)).tcSt EH d 5 ∗ boundary (T d) ∗ (lay 2).tab.pts d Finset.univ fullShare Tb
        ∗ (bigSep (Finset.range 32) fun t => ListsIn (net m).X (net m).Y d t (32 * 4 + t)) ∗ (bigSep (Finset.range 32) fun t => ListsIn (net m).X (net m).Y d t (32 * 5 + t))
        ∗ held (T d) SL2 (V1 m d) ∗ held (T d) SM2 (V1 m d) ∗ gh (F := F) 5 d
        ∗ (iprop((K (F := F)).tcSt EH d 7 ∗ boundary (T d) ∗ ∃ a, ⌜∀ t, t < 32 → AggOK (net m).X (net m).Y (PT (net m) 2) ((net m).W 2) ((net m).B 2) d t a⌝ ∗ Arr.pts (.of main_v81) d Finset.univ fullShare (result a))
            -∗ wp frame (wpE ((K (F := F)).defs (D (F := F))) 𝒱 (T d) none) Set.univ k Q))
      ⊢ wp frame (wpE ((K (F := F)).defs (D (F := F))) 𝒱 (T d) none) Set.univ (sc.run d 5 >>= fun _ => call 5 >>= fun _ => sc.run d 6 >>= fun _ => seq opsS2 >>= fun _ => k) Q := by
  rw [held_SL2, held_SM2, V1_v58, V1_v60]
  iintro ⟨#Hctx, Hst, Hb, Htb, HL1, HL2, ⟨Hro, Hwt, Hbi, Hms⟩, ⟨Hag, Hsl, Hh⟩, Hg, Hk⟩
  iapply (layer_step (net m) κ d (lay 2) (PT (net m) 2) ((net m).W 2) ((net m).B 2) (.of main_v58) (.of main_v60) 5 5 6 (32 * 4) (32 * 5) rfl rfl rfl rfl rfl msg_step2 Tb hT
    (V1 m d (at' main_v77)) (V1 m d (at' main_v78)) (V1 m d (at' main_v79)) _ Q)
  isplitr; · iexact Hctx
  isplitl [Hst]; · iexact Hst
  isplitl [Hb]; · iexact Hb
  isplitl [Htb]; · iexact Htb
  isplitl [HL1]; · iexact HL1
  isplitl [HL2]; · iexact HL2
  isplitl [Hro Hwt Hbi Hms]
  · isplitl [Hro]; · iexact Hro
    isplitl [Hwt]; · iexact Hwt
    isplitl [Hbi]; · iexact Hbi
    iexact Hms
  isplitl [Hag]; · iexact Hag
  isplitl [Hg]; · iexact Hg
  iintro ⟨Hst, Hb, %a, %ha, Hag⟩
  iapply (slice2 m d a k Q)
  isplitl [Hb]; · iexact Hb
  isplitl [Hag]; · iexact Hag
  isplitl [Hsl]; · iexact Hsl
  isplitl [Hh]; · iexact Hh
  iintro ⟨Hb, Hh⟩
  iapply Hk
  isplitl [Hst]; · iexact Hst
  isplitl [Hb]; · iexact Hb
  iexists a
  isplitr
  · ipureintro; exact ha
  · iexact Hh

theorem table1 (κ : GSem nD τ sig → ℕ) (d : Dev nD) (H : Vec F S10000x64 .f32) (k : Prog (TpuEff nD τ sig (Elt F) (SparseCore.Sig (ΛP (F := F)) 7) .tc) PUnit) (Q : PUnit → sProp 𝕄) :
    iprop((K (F := F)).ctx EH (P (net m)) κ ∗ (K (F := F)).tcSt EH d 3 ∗ boundary (T d) ∗ Arr.pts (.of main_v69) d Finset.univ fullShare H ∗ held (T d) SA1 (V1 m d) ∗ gh (F := F) 2 d
        ∗ (iprop((K (F := F)).tcSt EH d 3 ∗ boundary (T d) ∗ (lay 1).tab.pts d Finset.univ fullShare (abOut H ((net m).V 1 d) ((net m).C 1 d)))
            -∗ wp frame (wpE ((K (F := F)).defs (D (F := F))) 𝒱 (T d) none) Set.univ k Q))
      ⊢ wp frame (wpE ((K (F := F)).defs (D (F := F))) 𝒱 (T d) none) Set.univ (call 2 >>= fun _ => k) Q := by
  rw [held_SA1, V1_v27, V1_v30, show (lay 1).tab = Arr.of main_v70 from rfl]
  iintro ⟨#Hctx, Hst, Hb, Hh, ⟨Hv, Hc, Ht⟩, Hg, Hk⟩
  iapply (wp_step (net m) (ab_step0 H ((net m).V 1 d) ((net m).C 1 d) (V1 m d (at' main_v70)) d) κ k Q)
  isplitr; · iexact Hctx
  isplitl [Hst]; · iexact Hst
  isplitl [Hb]; · iexact Hb
  isplitl [Hh Hv Hc Ht]
  · isplitl [Hh]; · iexact Hh
    isplitl [Hv]; · iexact Hv
    isplitl [Hc]; · iexact Hc
    iexact Ht
  isplitl [Hg]; · iexact Hg
  iintro ⟨Hst, Hb, -, -, -, Ht⟩
  iapply Hk
  isplitl [Hst]; · iexact Hst
  isplitl [Hb] <;> iassumption

theorem table2 (κ : GSem nD τ sig → ℕ) (d : Dev nD) (H : Vec F S10000x64 .f32) (k : Prog (TpuEff nD τ sig (Elt F) (SparseCore.Sig (ΛP (F := F)) 7) .tc) PUnit) (Q : PUnit → sProp 𝕄) :
    iprop((K (F := F)).ctx EH (P (net m)) κ ∗ (K (F := F)).tcSt EH d 5 ∗ boundary (T d) ∗ Arr.pts (.of main_v75) d Finset.univ fullShare H ∗ held (T d) SA2 (V1 m d) ∗ gh (F := F) 4 d
        ∗ (iprop((K (F := F)).tcSt EH d 5 ∗ boundary (T d) ∗ (lay 2).tab.pts d Finset.univ fullShare (abOut H ((net m).V 2 d) ((net m).C 2 d)))
            -∗ wp frame (wpE ((K (F := F)).defs (D (F := F))) 𝒱 (T d) none) Set.univ k Q))
      ⊢ wp frame (wpE ((K (F := F)).defs (D (F := F))) 𝒱 (T d) none) Set.univ (call 4 >>= fun _ => k) Q := by
  rw [held_SA2, V1_v46, V1_v49, show (lay 2).tab = Arr.of main_v76 from rfl]
  iintro ⟨#Hctx, Hst, Hb, Hh, ⟨Hv, Hc, Ht⟩, Hg, Hk⟩
  iapply (wp_step (net m) (ab_step1 H ((net m).V 2 d) ((net m).C 2 d) (V1 m d (at' main_v76)) d) κ k Q)
  isplitr; · iexact Hctx
  isplitl [Hst]; · iexact Hst
  isplitl [Hb]; · iexact Hb
  isplitl [Hh Hv Hc Ht]
  · isplitl [Hh]; · iexact Hh
    isplitl [Hv]; · iexact Hv
    isplitl [Hc]; · iexact Hc
    iexact Ht
  isplitl [Hg]; · iexact Hg
  iintro ⟨Hst, Hb, -, -, -, Ht⟩
  iapply Hk
  isplitl [Hst]; · iexact Hst
  isplitl [Hb] <;> iassumption

/-! ## @main -/

/-- What is read beside the arguments no call takes. -/
def seen₀ : Finset (DevRef τ sig) := {at' main_v81, at' main_arg0, at' main_arg2, at' main_arg3, at' main_arg4, at' main_arg5}

/-- What is read of the final state, and the arrays' contents. -/
def seen : Finset (DevRef τ sig) := seen₀ ∪ SR
def VE (d : Dev nD) (g : Vec F S5120x128 .f32) : Valuation τ sig (Elt F) := Function.update (V1 m d) (at' main_v81) (result g)

/-- The last layer's maxima are right. -/
def Last (d : Dev nD) (g : Vec F S5120x128 .f32) : Prop := ∀ t, t < 32 → AggOK (net m).X (net m).Y (PT (net m) 2) ((net m).W 2) ((net m).B 2) d t g

/-- What @main leaves. -/
def FIN (d : Dev nD) : sProp 𝕄 := iprop(∃ g, ⌜Last m d g⌝ ∗ bigSep seen fun b => ((d, b) : Loc nD τ sig) ↦{fullShare} VE m d g b)

theorem VE_of_ne (d : Dev nD) (g : Vec F S5120x128 .f32) (b : DevRef τ sig) (h : b ≠ at' main_v81) : VE m d g b = V1 m d b := Function.update_of_ne h _ _

theorem held_seen (d : Dev nD) (W : Valuation τ sig (Elt F)) : (held (T d) seen₀ W : sProp 𝕄)
    = iprop(Arr.pts (.of main_v81) d Finset.univ fullShare (W (at' main_v81)) ∗ Arr.pts (.of main_arg0) d Finset.univ fullShare (W (at' main_arg0)) ∗ Arr.pts (.of main_arg2) d Finset.univ fullShare (W (at' main_arg2)) ∗ Arr.pts (.of main_arg3) d Finset.univ fullShare (W (at' main_arg3)) ∗ Arr.pts (.of main_arg4) d Finset.univ fullShare (W (at' main_arg4)) ∗ Arr.pts (.of main_arg5) d Finset.univ fullShare (W (at' main_arg5))) := by
  unfold held seen₀
  rw [SparseCore.bigSep_insert' (by decide), SparseCore.bigSep_insert' (by decide), SparseCore.bigSep_insert' (by decide), SparseCore.bigSep_insert' (by decide), SparseCore.bigSep_insert' (by decide), bigSep_singleton]
  rfl

theorem fin_in (d : Dev nD) (g : Vec F S5120x128 .f32) :
    (iprop(Arr.pts (.of main_v81) d Finset.univ fullShare (result g) ∗ ins m d ∗ held (T d) SR (V1 m d)) : sProp 𝕄) ⊢ bigSep seen fun b => ((d, b) : Loc nD τ sig) ↦{fullShare} VE m d g b := by
  have e : (bigSep seen fun b => (((d, b) : Loc nD τ sig) ↦{fullShare} VE m d g b : sProp 𝕄)) = iprop(held (T d) seen₀ (VE m d g) ∗ held (T d) SR (VE m d g)) :=
    held_two d seen₀ SR (by decide) (VE m d g)
  have eR : (held (T d) SR (VE m d g) : sProp 𝕄) = held (T d) SR (V1 m d) :=
    bigSep_congr fun b hb => by rw [VE_of_ne m d g b (fun e => absurd (e ▸ hb) (by decide))]
  rw [e, eR, held_seen, show VE m d g (at' main_v81) = result g from Function.update_self _ _ _, VE_of_ne m d g (at' main_arg0) (by decide), VE_of_ne m d g (at' main_arg2) (by decide), VE_of_ne m d g (at' main_arg3) (by decide), VE_of_ne m d g (at' main_arg4) (by decide), VE_of_ne m d g (at' main_arg5) (by decide), V1_a0, V1_a2, V1_a3, V1_a4, V1_a5]
  unfold ins
  iintro ⟨Ho, ⟨H0, H2, H3, H4, H5⟩, HR⟩
  isplitr [HR]
  · isplitl [Ho]; · iexact Ho
    isplitl [H0]; · iexact H0
    isplitl [H2]; · iexact H2
    isplitl [H3]; · iexact H3
    isplitl [H4]; · iexact H4
    iexact H5
  · iexact HR

/-- The pipelined calls' ghost state. -/
def G (d : Dev nD) : sProp (MT nD τ sig (HIx 7) (Elt F) ℕ UU ℕ) :=
  iprop(gh (F := F) 0 d ∗ gh (F := F) 1 d ∗ gh (F := F) 2 d ∗ gh (F := F) 3 d ∗ gh (F := F) 4 d ∗ gh (F := F) 5 d)

/-- What the calls after the first need of the arrays. -/
theorem bin_out (d : Dev nD) :
    iprop((bigSep (Finset.range 32) fun t => TileOut (net m).X (net m).Y d t) ∗ Rest (net m).X (net m).Y d)
      ⊢ (bigSep (Finset.range 6) fun j => bigSep (Finset.range 32) fun t => ListsIn (net m).X (net m).Y d t (32 * j + t) : sProp 𝕄) := by
  refine (collect (F := F) (net m).X (net m).Y d (V1 m d (at' main_v61_0))).trans ?_
  iintro ⟨-, -, ⟨%l, %hl, Hl⟩, Hc, Ht⟩
  iapply (lists_in (F := F) (net m).X (net m).Y d l hl)
  isplitl [Hl]; · iexact Hl
  isplitl [Hc] <;> iassumption

theorem bin_in (d : Dev nD) : (held (T d) SE (V1 m d) : sProp 𝕄)
    ⊢ iprop((bigSep (Finset.range 32) fun t => TileIn (net m).X (net m).Y d t) ∗ Rest (net m).X (net m).Y d) := by
  rw [held_SE, V1_xd, V1_ys]
  exact deal (F := F) (net m).X (net m).Y d _ _ _

theorem hmain (κ : GSem nD τ sig → ℕ) (d : Dev nD) :
    iprop((K (F := F)).ctx EH (P (net m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 7 ∗ FIN m d ∗ (K (F := F)).tcEnd d) := by
  unfold SparseCore.Cfg.tcRes SparseCore.Cfg.tcEnd G
  rw [show (unscopedBufs d (fun b => m ((SparseCore.T d).loc b)) : sProp 𝕄) = held (T d) bufs (V0 m d) from unscopedBufs_held d (V0 m d), main_eq]
  iintro ⟨#Hctx, Hst, ⟨Hb, Hheld, Hts, -⟩, Hg0, Hg1, Hg2, Hg3, Hg4, Hg5⟩
  iapply (wp_seq 𝒱 none Set.univ d bufs _ opsA subA freshA (V0 m d)) $$ [Hb Hheld]
  · isplitl [Hb] <;> iassumption
  rw [V1_eq]
  iintro ⟨Hb, Hheld⟩
  ihave Hh := (held_used (F := F) d (V1 m d)) $$ Hheld
  icases Hh with ⟨HE, HN, HL0, HM0, HA1, HL1, HM1, HA2, HL2, HM2, HR⟩
  ihave Hdeal := (bin_in m d) $$ HE
  icases Hdeal with ⟨Htiles, Hkept⟩
  iapply (wp_call (net m) κ d 0 _ _)
  isplitr; · iexact Hctx
  isplitl [Hst]; · iexact Hst
  isplitl [Htiles]; · iexact Htiles
  iintro ⟨Hst, Hdn⟩
  ihave Hls := (bin_out m d) $$ [Hdn Hkept]
  · isplitl [Hdn]; · iexact Hdn
    iexact Hkept
  ihave Hls := (six _) $$ Hls
  icases Hls with ⟨Hl0, Hl1, Hl2, Hl3, Hl4, Hl5⟩
  iapply (enc_main m κ d _ _)
  isplitr; · iexact Hctx
  isplitl [Hst]; · iexact Hst
  isplitl [Hb]; · iexact Hb
  isplitl [HN]; · iexact HN
  isplitl [Hg0]; · iexact Hg0
  iintro ⟨Hst, Hb, Hins, Htb⟩
  iapply (layer0 m κ d ((net m).T d) rfl _ _)
  isplitr; · iexact Hctx
  isplitl [Hst]; · iexact Hst
  isplitl [Hb]; · iexact Hb
  isplitl [Htb]; · iexact Htb
  isplitl [Hl0]; · iexact Hl0
  isplitl [Hl1]; · iexact Hl1
  isplitl [HL0]; · iexact HL0
  isplitl [HM0]; · iexact HM0
  isplitl [Hg1]; · iexact Hg1
  iintro ⟨Hst, Hb, %a, %ha, Hh⟩
  iapply (table1 m κ d (result a) _ _)
  isplitr; · iexact Hctx
  isplitl [Hst]; · iexact Hst
  isplitl [Hb]; · iexact Hb
  isplitl [Hh]; · iexact Hh
  isplitl [HA1]; · iexact HA1
  isplitl [Hg2]; · iexact Hg2
  iintro ⟨Hst, Hb, Htb⟩
  iapply (layer1 m κ d _ ⟨a, ha, rfl⟩ _ _)
  isplitr; · iexact Hctx
  isplitl [Hst]; · iexact Hst
  isplitl [Hb]; · iexact Hb
  isplitl [Htb]; · iexact Htb
  isplitl [Hl2]; · iexact Hl2
  isplitl [Hl3]; · iexact Hl3
  isplitl [HL1]; · iexact HL1
  isplitl [HM1]; · iexact HM1
  isplitl [Hg3]; · iexact Hg3
  iintro ⟨Hst, Hb, %a', %ha', Hh⟩
  iapply (table2 m κ d (result a') _ _)
  isplitr; · iexact Hctx
  isplitl [Hst]; · iexact Hst
  isplitl [Hb]; · iexact Hb
  isplitl [Hh]; · iexact Hh
  isplitl [HA2]; · iexact HA2
  isplitl [Hg4]; · iexact Hg4
  iintro ⟨Hst, Hb, Htb⟩
  rw [show (seq opsS2 : Prog (TpuEff nD τ sig (Elt F) (SparseCore.Sig (ΛP (F := F)) 7) .tc) PUnit) = (seq opsS2 >>= fun _ => Pure.pure PUnit.unit) from (bind_pure _).symm]
  iapply (layer2 m κ d _ ⟨a', ha', rfl⟩ _ _)
  isplitr; · iexact Hctx
  isplitl [Hst]; · iexact Hst
  isplitl [Hb]; · iexact Hb
  isplitl [Htb]; · iexact Htb
  isplitl [Hl4]; · iexact Hl4
  isplitl [Hl5]; · iexact Hl5
  isplitl [HL2]; · iexact HL2
  isplitl [HM2]; · iexact HM2
  isplitl [Hg5]; · iexact Hg5
  iintro ⟨Hst, Hb, %g, %hg, Ho⟩
  rw [wp_pure]; imodintro
  isplitl [Hst]; · iexact Hst
  isplitr [Hb Hts]
  · unfold FIN
    iexists g
    isplitr
    · ipureintro; exact hg
    · iapply (fin_in m d g)
      isplitl [Ho]; · iexact Ho
      isplitl [Hins] <;> iassumption
  isplitl [Hb] <;> iassumption

/-! ## The run -/

/-- The launch's ghost state: the handshakes', the pipelined call's, and no transfer counted. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem no_sep {I : Type} (s : Finset I) : (bigSep s fun _ => iprop(emp)) = (iprop(emp) : sProp 𝕄) := bigSep_emp_const s

theorem hG : (iprop((bigSep Finset.univ fun c : Dev nD => bigSep Finset.univ fun p => Pipeline.cellsGhost (Pipeline.pin (pcfgs (F := F)) adm) EP p c)
      ∗ bigSep Finset.univ fun c : Dev nD => bigSep Finset.univ fun p => Pipeline.toksInit (Pipeline.pin (pcfgs (F := F)) adm) EP p c) : sProp 𝕄)
    ⊢ bigSep Finset.univ (G (F := F)) := by
  rw [← bigSep_sep']
  refine bigSep_mono fun c _ => ?_
  rw [← bigSep_sep']
  exact Entails.of_eq (bigSep_univ_eq_bigSepL [(0 : Fin 6), 1, 2, 3, 4, 5] (by decide) (by decide) fun p => gh (F := F) p c)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 7 => (P (net m)).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HP⟩
  ihave HP := (show (BI.own (embR ((initOf (Pipeline.cells (Pipeline.pin (pcfgs (F := F)) adm) cellOf_inj) (Pipeline.launchToks (Pipeline.pin (pcfgs (F := F)) adm) cellOf_inj), 1) : UP × Counters)) : sProp 𝕄)
    ⊢ BI.own (EP (initOf (Pipeline.cells (Pipeline.pin (pcfgs (F := F)) adm) cellOf_inj) (Pipeline.launchToks (Pipeline.pin (pcfgs (F := F)) adm) cellOf_inj))) from Entails.refl _) $$ HP
  imod (Pipeline.fund_ghost (Pipeline.pin (pcfgs (F := F)) adm) EP cellOf_inj) $$ HP with ⟨Hc, Ht⟩
  imodintro
  isplitl [HH]; · iexact HH
  isplitl [Hc Ht]
  · iapply hG
    isplitl [Hc] <;> iassumption
  rw [show (bigSep Finset.univ fun thr : Thread nD τ => bigSep Finset.univ fun q : Fin 7 => (P (net m)).x q thr) = bigSep Finset.univ fun _ => iprop(emp) from
    bigSep_congr fun _ _ => no_sep _, no_sep]
  iempintro

/-- What the claims read of a device's final state. -/
def Done (d : Dev nD) (mem : (ℓ : Loc nD τ sig) → Buf (Elt F) ℓ) : Prop :=
  (∃ g, Last m d g ∧ rd mem d main_v81 = result g) ∧ rd mem d main_arg0 = rd m d main_arg0 ∧ rd mem d main_arg1 = rd m d main_arg1 ∧ rd mem d main_arg2 = rd m d main_arg2 ∧ rd mem d main_arg3 = rd m d main_arg3 ∧ rd mem d main_arg4 = rd m d main_arg4 ∧ rd mem d main_arg5 = rd m d main_arg5 ∧ rd mem d main_arg6 = rd m d main_arg6 ∧ rd mem d main_arg7 = rd m d main_arg7 ∧ rd mem d main_arg8 = rd m d main_arg8 ∧ rd mem d main_arg9 = rd m d main_arg9 ∧ rd mem d main_arg10 = rd m d main_arg10 ∧ rd mem d main_arg11 = rd m d main_arg11 ∧ rd mem d main_arg12 = rd m d main_arg12 ∧ rd mem d main_arg13 = rd m d main_arg13 ∧ rd mem d main_arg14 = rd m d main_arg14 ∧ rd mem d main_arg15 = rd m d main_arg15 ∧ rd mem d main_arg16 = rd m d main_arg16 ∧ rd mem d main_arg17 = rd m d main_arg17

theorem hfin (d : Dev nD) (s' : Phys nD τ sig (Elt F)) : iprop(FIN m d ∗ SI s') ⊢ (⌜Done m d s'.mem.mem⌝ : sProp 𝕄) := by
  unfold FIN
  iintro ⟨⟨%g, %hg, H⟩, HSI⟩
  ihave %h := (SI_pointsTo_bufs_agree (qs := fun _ => fullShare) seen) $$ [HSI H]
  · isplitl [HSI]; · iexact HSI
    iexact H
  ipureintro
  exact ⟨⟨g, hg, (h (at' main_v81) (by decide)).trans (Function.update_self _ _ _)⟩,
    (h (at' main_arg0) (by decide)).trans ((VE_of_ne m d g (at' main_arg0) (by decide)).trans (V1_a0 m d)),
    (h (at' main_arg1) (by decide)).trans ((VE_of_ne m d g (at' main_arg1) (by decide)).trans (V1_a1 m d)),
    (h (at' main_arg2) (by decide)).trans ((VE_of_ne m d g (at' main_arg2) (by decide)).trans (V1_a2 m d)),
    (h (at' main_arg3) (by decide)).trans ((VE_of_ne m d g (at' main_arg3) (by decide)).trans (V1_a3 m d)),
    (h (at' main_arg4) (by decide)).trans ((VE_of_ne m d g (at' main_arg4) (by decide)).trans (V1_a4 m d)),
    (h (at' main_arg5) (by decide)).trans ((VE_of_ne m d g (at' main_arg5) (by decide)).trans (V1_a5 m d)),
    (h (at' main_arg6) (by decide)).trans ((VE_of_ne m d g (at' main_arg6) (by decide)).trans (V1_a6 m d)),
    (h (at' main_arg7) (by decide)).trans ((VE_of_ne m d g (at' main_arg7) (by decide)).trans (V1_a7 m d)),
    (h (at' main_arg8) (by decide)).trans ((VE_of_ne m d g (at' main_arg8) (by decide)).trans (V1_a8 m d)),
    (h (at' main_arg9) (by decide)).trans ((VE_of_ne m d g (at' main_arg9) (by decide)).trans (V1_a9 m d)),
    (h (at' main_arg10) (by decide)).trans ((VE_of_ne m d g (at' main_arg10) (by decide)).trans (V1_a10 m d)),
    (h (at' main_arg11) (by decide)).trans ((VE_of_ne m d g (at' main_arg11) (by decide)).trans (V1_a11 m d)),
    (h (at' main_arg12) (by decide)).trans ((VE_of_ne m d g (at' main_arg12) (by decide)).trans (V1_a12 m d)),
    (h (at' main_arg13) (by decide)).trans ((VE_of_ne m d g (at' main_arg13) (by decide)).trans (V1_a13 m d)),
    (h (at' main_arg14) (by decide)).trans ((VE_of_ne m d g (at' main_arg14) (by decide)).trans (V1_a14 m d)),
    (h (at' main_arg15) (by decide)).trans ((VE_of_ne m d g (at' main_arg15) (by decide)).trans (V1_a15 m d)),
    (h (at' main_arg16) (by decide)).trans ((VE_of_ne m d g (at' main_arg16) (by decide)).trans (V1_a16 m d)),
    (h (at' main_arg17) (by decide)).trans ((VE_of_ne m d g (at' main_arg17) (by decide)).trans (V1_a17 m d))⟩

theorem run_main [∀ e, Nonempty (Elt F e)] (hX : ∀ d i, ((net m).X d i).toNat < 10000) (hY : ∀ d i, ((net m).Y d i).toNat < 10000) :
    θ_run (Cert.KernelIdeal.defs (F := F)) (Cert.KernelIdeal.threads (F := F)) ⟨m, fun _ => 0, ρ⟩
    fun r => (∀ d : Dev nD, Done m d r.2.mem) ∧ r.2.sem = fun _ => 0 :=
  SparseCore.Cfg.θ_run_sc_quiescent (K := K (F := F)) (D := D (F := F)) (𝒱 := 𝒱) (EH := EH) (P := P (net m)) (A := ∅) facts v₀
    (fun q hq => match q with | 0 => nomatch hq | 1 => nomatch hq | 2 => nomatch hq | 3 => nomatch hq | 4 => nomatch hq | 5 => nomatch hq | 6 => nomatch hq)
    (fun q _ => match q with
      | 0 => tileObl0 (net m) facts
      | 1 => tileObl1 (net m) hX hY
      | 2 => tileObl2 (net m) hY
      | 3 => tileObl3 (net m) hX hY
      | 4 => tileObl4 (net m) hY
      | 5 => tileObl5 (net m) hX hY
      | 6 => tileObl6 (net m) hY)
    (fun q _ => SparseCore.Cfg.VecSplit.of_plain (vecSplit (net m) q))
    m ρ main (G (F := F)) (FIN m) (u₀ (F := F)) (sep_elim_left.trans (hu₀ m)) (hmain m ρ) (fun d s' => Done m d s'.mem.mem) (hfin m)
    (fun r => (∀ d : Dev nD, Done m d r.2.mem) ∧ r.2.sem = fun _ => 0) (fun _ h hz => ⟨h, hz⟩)

end Cert.Proof.Bin

end
-- ==== Proof.Diag.lean ====
/-
  The arrays that the calls take of the weights, read at an element: the second layer's weights twice down a diagonal and its
  bias twice in a row; the first layer's weights' halves side by side and its bias beside zeros.
-/
module

public import proofs.«01_k».proof.Proof.Vals
public import proofs.«01_k».proof.Proof.Edges

@[expose] public section

noncomputable section

namespace Cert.Proof.Bin

open Cert.KernelIdeal Cert.KernelIdeal.Gen Cert.Proof.Words

open Idealize.ShloMosaic

variable {F : FTy → Type}

/-! ## A block written at a corner -/

/-- An overwriting fold keeps what no step writes. -/
theorem fold_keeps {ι A B : Type} (step : (A → B) → ι → (A → B)) (a : A) (l : List ι) (h : ∀ n ∈ l, ∀ r, step r n a = r a) (r : A → B) :
    l.foldl step r a = r a := by
  induction l generalizing r with
  | nil => rfl
  | cons n l ih => exact (ih (fun k hk => h k (List.mem_cons_of_mem _ hk)) _).trans (h n List.mem_cons_self r)

/-- An overwriting fold holds the value that some step writes, where each step writes that or nothing. -/
theorem fold_holds {ι A B : Type} (step : (A → B) → ι → (A → B)) (a : A) (v : B) (l : List ι) (h : ∀ n ∈ l, ∀ r, step r n a = v ∨ step r n a = r a)
    (n₀ : ι) (hn : n₀ ∈ l) (hit : ∀ r, step r n₀ a = v) (r : A → B) : l.foldl step r a = v := by
  have keep : ∀ (l : List ι), (∀ n ∈ l, ∀ r, step r n a = v ∨ step r n a = r a) → ∀ r : A → B, r a = v → l.foldl step r a = v := by
    intro l
    induction l with
    | nil => exact fun _ r hr => hr
    | cons n l ih =>
      intro h r hr
      refine ih (fun k hk => h k (List.mem_cons_of_mem _ hk)) _ ?_
      rcases h n List.mem_cons_self r with e | e
      · exact e
      · exact e.trans hr
  induction l generalizing r with
  | nil => exact absurd hn List.not_mem_nil
  | cons n l ih =>
    rcases List.mem_cons.1 hn with rfl | hn'
    · exact keep l (fun k hk => h k (List.mem_cons_of_mem _ hk)) _ (hit r)
    · exact ih (fun k hk => h k (List.mem_cons_of_mem _ hk)) hn' _

theorem corner_apply (n : BitVec 32) (k : S2.Idx) : corner n k = n := by
  obtain ⟨i, rfl⟩ : ∃ i : Fin 2, k = ix1 i := ⟨k 0, eq_ix1 k⟩
  match i with
  | ⟨0, _⟩ => rfl
  | ⟨1, _⟩ => rfl

/-- Entry `(i, j)` of the block lands at the corner and as far on. -/
theorem block_start (n : ℕ) (hn : n ≤ 64) (x : S64x64.Idx) (a : Fin 2) : scatter_S128x128_S2_S64x64_01_n_01_0.start x (corner (BitVec.ofNat 32 n)) a = (n : ℤ) := by
  unfold ScatterDims.start
  have ha : a ∈ scatter_S128x128_S2_S64x64_01_n_01_0.scatterDimsToOperandDims := by
    show a ∈ ([0, 1] : List (Fin 2))
    revert a; decide
  rw [dif_pos ha, corner_apply, toInt_nat n (by omega)]

theorem block_window (x : S64x64.Idx) (a : Fin 2) : scatter_S128x128_S2_S64x64_01_n_01_0.window x a = (x a).val := by
  match a with
  | ⟨0, _⟩ => rfl
  | ⟨1, _⟩ => rfl

theorem block_lands (n : ℕ) (hn : n ≤ 64) (x : S64x64.Idx) :
    ∃ z, scatter_S128x128_S2_S64x64_01_n_01_0.resultIdx? x (corner (BitVec.ofNat 32 n)) = some z ∧ ∀ a : Fin 2, (z a).val = n + (x a).val := by
  have h64 : ∀ a : Fin 2, (x a).val < 64 := fun a => by
    match a with
    | ⟨0, _⟩ => exact (x 0).isLt
    | ⟨1, _⟩ => exact (x 1).isLt
  have h128 : ∀ a : Fin 2, S128x128.size a = 128 := by decide
  have h : ∀ a : Fin 2, 0 ≤ scatter_S128x128_S2_S64x64_01_n_01_0.start x (corner (BitVec.ofNat 32 n)) a + scatter_S128x128_S2_S64x64_01_n_01_0.window x a
      ∧ scatter_S128x128_S2_S64x64_01_n_01_0.start x (corner (BitVec.ofNat 32 n)) a + scatter_S128x128_S2_S64x64_01_n_01_0.window x a < S128x128.size a := by
    intro a
    rw [block_start n hn, block_window, h128]
    have := h64 a
    omega
  unfold ScatterDims.resultIdx?
  rw [dif_pos h]
  refine ⟨_, rfl, fun a => ?_⟩
  show (scatter_S128x128_S2_S64x64_01_n_01_0.start x (corner (BitVec.ofNat 32 n)) a + scatter_S128x128_S2_S64x64_01_n_01_0.window x a).toNat = _
  rw [block_start n hn, block_window]
  omega

/-- The array with the block written at a corner. -/
theorem block_apply (A : S128x128.Idx → F .f32) (n : ℕ) (hn : n ≤ 64) (W : S64x64.Idx → F .f32) (z : S128x128.Idx) :
    (∀ x : S64x64.Idx, (∀ a : Fin 2, (z a).val = n + (x a).val) → Host.scatter scatter_S128x128_S2_S64x64_01_n_01_0 (fun _ b => b) A (corner (BitVec.ofNat 32 n)) W z = W x)
    ∧ ((∀ x : S64x64.Idx, ¬ ∀ a : Fin 2, (z a).val = n + (x a).val) → Host.scatter scatter_S128x128_S2_S64x64_01_n_01_0 (fun _ b => b) A (corner (BitVec.ofNat 32 n)) W z = A z) := by
  unfold Host.scatter
  constructor
  · intro x hx
    refine fold_holds _ z (W x) _ (fun k _ r => ?_) (S64x64.rowMajor x) (List.mem_finRange _) (fun r => ?_) _
    · obtain ⟨y, hy, hv⟩ := block_lands n hn (S64x64.rowMajor.symm k)
      dsimp only
      rw [hy]
      by_cases e : z = y
      · refine Or.inl ?_
        dsimp only
        rw [if_pos e]
        refine congrArg W (funext fun a => Fin.ext ?_)
        have h1 := hv a
        have h2 := hx a
        rw [e] at h2
        omega
      · exact Or.inr (if_neg e)
    · obtain ⟨y, hy, hv⟩ := block_lands n hn x
      dsimp only
      rw [Equiv.symm_apply_apply, hy]
      dsimp only
      exact if_pos (funext fun a => Fin.ext ((hx a).trans (hv a).symm))
  · intro h
    refine fold_keeps _ z _ (fun k _ r => ?_) _
    obtain ⟨y, hy, hv⟩ := block_lands n hn (S64x64.rowMajor.symm k)
    dsimp only
    rw [hy]
    exact if_neg fun e => h _ fun a => by rw [e]; exact hv a

/-! ## The weights and the bias -/

variable [FloatOps F]

/-- Inside a block of the diagonal the weights; outside zero. -/
theorem diag_on (W : S64x64.Idx → F .f32) (k c : Fin 64) (h : ℕ) (hh : h < 2) (z : S128x128.Idx) (h0 : (z 0).val = 64 * h + k.val) (h1 : (z 1).val = 64 * h + c.val) :
    diag W z = W (ix2 k c) := by
  have hk := k.isLt
  have hc := c.isLt
  have two : ∀ n : ℕ, (z 0).val = n + k.val → (z 1).val = n + c.val → ∀ a : Fin 2, (z a).val = n + (ix2 k c a).val := fun n e0 e1 a => by
    match a with
    | ⟨0, _⟩ => exact e0
    | ⟨1, _⟩ => exact e1
  unfold diag
  obtain rfl | rfl : h = 1 ∨ h = 0 := by omega
  · exact (block_apply _ 64 (by omega) W z).1 (ix2 k c) (two 64 h0 h1)
  · refine ((block_apply _ 64 (by omega) W z).2 fun x hx => ?_).trans ((block_apply _ 0 (by omega) W z).1 (ix2 k c) (two 0 h0 h1))
    have := hx 0
    omega

theorem diag_off (W : S64x64.Idx → F .f32) (z : S128x128.Idx) (h : (z 0).val / 64 ≠ (z 1).val / 64) :
    diag W z = FloatOps.ofBits .f32 0x00000000#32 := by
  unfold diag
  refine ((block_apply _ 64 (by omega) W z).2 fun x hx => ?_).trans (((block_apply _ 0 (by omega) W z).2 fun x hx => ?_).trans rfl)
  · have h0 := hx 0
    have h1 := hx 1
    have l0 : (x 0).val < 64 := (x 0).isLt
    have l1 : (x 1).val < 64 := (x 1).isLt
    omega
  · have h0 := hx 0
    have h1 := hx 1
    have l0 : (x 0).val < 64 := (x 0).isLt
    have l1 : (x 1).val < 64 := (x 1).isLt
    omega

theorem twice_apply (b : S64.Idx → F .f32) (c : Fin 64) (h : ℕ) (hh : h < 2) (z : S1x128.Idx) (h1 : (z 1).val = 64 * h + c.val) :
    twice b z = b (ix1 c) := by
  have hc := c.isLt
  unfold twice
  refine (broadcastInDim_apply _ _ _ z (ix1 (⟨64 * h + c.val, by omega⟩ : Fin 128)) fun a => ?_).trans ?_
  · match a with
    | ⟨0, _⟩ => exact h1.symm
  obtain rfl | rfl : h = 1 ∨ h = 0 := by omega
  · refine concatenate_pair_apply_right (t := S128) (s₁ := S64) (s₂ := S64) 0 b b concatenates_S64_S64_S128_d0 _ rfl rfl (ix1 c) (fun a ha => ?_) ?_
    · exact absurd (Subsingleton.elim (α := Fin 1) _ _) ha
    · show c.val + 64 = 64 * 1 + c.val
      omega
  · refine concatenate_pair_apply_left (t := S128) (s₁ := S64) (s₂ := S64) 0 b b concatenates_S64_S64_S128_d0 _ rfl (ix1 c) fun a => ?_
    match a with
    | ⟨0, _⟩ =>
      show c.val = 64 * 0 + c.val
      omega

/-! ## The first layer's -/

/-- The first columns of the halves: the top rows less the bottom rows. -/
theorem halves_left (W : S128x64.Idx → F .f32) (j k : Fin 64) (z : S64x128.Idx) (h0 : (z 0).val = j.val) (h1 : (z 1).val = k.val) :
    halves W z = FloatOps.subf (W (ix2 (⟨j.val, by omega⟩ : Fin 128) k)) (W (ix2 (⟨64 + j.val, by omega⟩ : Fin 128) k)) := by
  unfold halves
  refine (concatenate_pair_apply_left (t := S64x128) (s₁ := S64x64) (s₂ := S64x64) 1 _ _ concatenates_S64x64_S64x64_S64x128_d1 _ rfl (ix2 j k) fun a => ?_).trans ?_
  · match a with
    | ⟨0, _⟩ => exact h0.symm
    | ⟨1, _⟩ => exact h1.symm
  · refine congrArg₂ (fun a b => FloatOps.subf a b) ?_ ?_
    · refine extractStridedSlice_apply _ _ _ _ _ fun a => ?_
      match a with
      | ⟨0, _⟩ => exact (Nat.zero_add _).symm
      | ⟨1, _⟩ => exact (Nat.zero_add _).symm
    · refine extractStridedSlice_apply _ _ _ _ _ fun a => ?_
      match a with
      | ⟨0, _⟩ => rfl
      | ⟨1, _⟩ => exact (Nat.zero_add _).symm

/-- The last columns: the bottom rows. -/
theorem halves_right (W : S128x64.Idx → F .f32) (j k : Fin 64) (z : S64x128.Idx) (h0 : (z 0).val = j.val) (h1 : (z 1).val = 64 + k.val) :
    halves W z = W (ix2 (⟨64 + j.val, by omega⟩ : Fin 128) k) := by
  unfold halves
  refine (concatenate_pair_apply_right (t := S64x128) (s₁ := S64x64) (s₂ := S64x64) 1 _ _ concatenates_S64x64_S64x64_S64x128_d1 _ rfl rfl (ix2 j k) (fun a ha => ?_) ?_).trans ?_
  · match a with
    | ⟨0, _⟩ => exact h0.symm
    | ⟨1, _⟩ => exact absurd rfl ha
  · show k.val + 64 = (z 1).val
    omega
  · refine extractStridedSlice_apply _ _ _ _ _ fun a => ?_
    match a with
    | ⟨0, _⟩ => rfl
    | ⟨1, _⟩ => exact (Nat.zero_add _).symm

/-- The first columns of the row: the bias. -/
theorem first_left (b : S64.Idx → F .f32) (c : Fin 64) (z : S1x128.Idx) (h1 : (z 1).val = c.val) : first b z = b (ix1 c) := by
  have hc := c.isLt
  unfold first
  refine (broadcastInDim_apply _ _ _ z (ix1 (⟨c.val, by omega⟩ : Fin 128)) fun a => ?_).trans ?_
  · match a with
    | ⟨0, _⟩ => exact h1.symm
  · refine concatenate_pair_apply_left (t := S128) (s₁ := S64) (s₂ := S64) 0 _ _ concatenates_S64_S64_S128_d0 _ rfl (ix1 c) fun a => ?_
    match a with
    | ⟨0, _⟩ => rfl

/-- The last columns: zero. -/
theorem first_right (b : S64.Idx → F .f32) (c : Fin 64) (z : S1x128.Idx) (h1 : (z 1).val = 64 + c.val) : first b z = FloatOps.ofBits .f32 0x00000000#32 := by
  have hc := c.isLt
  unfold first
  refine (broadcastInDim_apply _ _ _ z (ix1 (⟨64 + c.val, by omega⟩ : Fin 128)) fun a => ?_).trans ?_
  · match a with
    | ⟨0, _⟩ => exact h1.symm
  · refine (concatenate_pair_apply_right (t := S128) (s₁ := S64) (s₂ := S64) 0 _ _ concatenates_S64_S64_S128_d0 _ rfl rfl (ix1 c) (fun a ha => ?_) ?_).trans rfl
    · exact absurd (Subsingleton.elim (α := Fin 1) _ _) ha
    · show c.val + 64 = 64 + c.val
      omega

/-- A bias as a row, at a column. -/
theorem asRow_apply (b : S64.Idx → F .f32) (c : Fin 64) (z : S1x64.Idx) (h1 : (z 1).val = c.val) : asRow b z = b (ix1 c) := by
  unfold asRow
  refine broadcastInDim_apply _ _ _ z (ix1 c) fun a => ?_
  match a with
  | ⟨0, _⟩ => exact h1.symm

end Cert.Proof.Bin

end
-- ==== Proof.Value.lean ====
/-
  What the layer computes, at the ideal values: each node's greatest message, or zero.
-/
module

public import proofs.«01_k».proof.Proof.Diag
public import proofs.«01_k».proof.Proof.Pay
public import Idealize.ShloMosaic.Lib.ValueIdx
public import Idealize.ShloMosaic.Lib.MatmulPlain
public import Idealize.ShloMosaic.PureOps.Ideal.Laws

@[expose] public section

noncomputable section

namespace Cert.Proof.Bin

open Cert.KernelIdeal Cert.KernelIdeal.Gen Cert.Proof.Words

open Idealize.ShloMosaic

/-! ## The meaning -/

/-- The message of an edge from `b` to `a`, column `c`: the second layer of the two nodes' hidden sums. -/
def message (Tb : S10000x128.Idx → EReal) (W : S64x64.Idx → EReal) (bias : S64.Idx → EReal) (a b : BitVec 32) (c : Fin 64) : EReal :=
  (∑ k : Fin 64, max (edge (F := Ideal) Tb a b k) 0 * W (ix2 k c)) + bias (ix1 c)

/-- `r` is the greatest of zero and the messages of the edges that end at node `n`. -/
def Greatest (X Y : S320000.Idx → BitVec 32) (Tb : S10000x128.Idx → EReal) (W : S64x64.Idx → EReal) (bias : S64.Idx → EReal) (n : ℕ) (c : Fin 64) (r : EReal) : Prop :=
  ∀ x : EReal, r ≤ x ↔ 0 ≤ x ∧ ∀ i : Fin 320000, (X (ix1 i)).toNat = n → message Tb W bias (X (ix1 i)) (Y (ix1 i)) c ≤ x

theorem Greatest.unique {X Y : S320000.Idx → BitVec 32} {Tb : S10000x128.Idx → EReal} {W : S64x64.Idx → EReal} {bias : S64.Idx → EReal} {n : ℕ} {c : Fin 64} {r r' : EReal}
    (h : Greatest X Y Tb W bias n c r) (h' : Greatest X Y Tb W bias n c r') : r = r' :=
  le_antisymm ((h r').2 ((h' r').1 le_rfl)) ((h' r).2 ((h r).1 le_rfl))

/-! ## The accumulator -/

theorem listAcc_le (A : S160x128.Idx → EReal) (M : S176640x128.Idx → EReal) (l : S10240128.Idx → BitVec 32) (t s b : ℕ) (y : S160x128.Idx) (x : EReal) : ∀ p : ℕ,
    listAcc (F := Ideal) A M l t s b p y ≤ x ↔ A y ≤ x ∧ ∀ q < p, 2 * (y 0).val + (y 1).val / 64 = (wordAt l (40000 * (8 * t + s) + q) &&& 511#32).toNat →
      rowOf (F := Ideal) M b q ⟨(y 1).val % 64, Nat.mod_lt _ (by decide)⟩ ≤ x
  | 0 => ⟨fun h => ⟨h, fun _ hq => absurd hq (Nat.not_lt_zero _)⟩, fun h => h.1⟩
  | p + 1 => by
    have ih := listAcc_le A M l t s b y x p
    have h64 : (y 1).val % 64 < 64 := Nat.mod_lt _ (by decide)
    unfold listAcc upd
    by_cases e : 2 * (y 0).val + (y 1).val / 64 = (wordAt l (40000 * (8 * t + s) + p) &&& 511#32).toNat
    · rw [if_pos ⟨e, h64⟩]
      refine (max_le_iff (α := EReal)).trans ?_
      rw [ih]
      constructor
      · rintro ⟨⟨h1, h2⟩, h3⟩
        refine ⟨h1, fun q hq hw => ?_⟩
        rcases Nat.lt_succ_iff_lt_or_eq.1 hq with h | rfl
        · exact h2 q h hw
        · exact h3
      · exact fun h => ⟨⟨h.1, fun q hq => h.2 q (Nat.lt_succ_of_lt hq)⟩, h.2 p (Nat.lt_succ_self p) e⟩
    · rw [if_neg fun h => e h.1, ih]
      constructor
      · rintro ⟨h1, h2⟩
        refine ⟨h1, fun q hq hw => ?_⟩
        rcases Nat.lt_succ_iff_lt_or_eq.1 hq with h | rfl
        · exact h2 q h hw
        · exact absurd hw e
      · exact fun h => ⟨h.1, fun q hq => h.2 q (Nat.lt_succ_of_lt hq)⟩

theorem tileAcc_le (M : S176640x128.Idx → EReal) (l : S10240128.Idx → BitVec 32) (X : S320000.Idx → BitVec 32) (t : ℕ) (y : S160x128.Idx) (x : EReal) : ∀ k : ℕ,
    tileAcc (F := Ideal) M l X t k y ≤ x ↔ 0 ≤ x ∧ ∀ s < k, ∀ q < len X t s, 2 * (y 0).val + (y 1).val / 64 = (wordAt l (40000 * (8 * t + s) + q) &&& 511#32).toNat →
      rowOf (F := Ideal) M (base X t + chunks X t s) q ⟨(y 1).val % 64, Nat.mod_lt _ (by decide)⟩ ≤ x
  | 0 => by
    show Ideal.ofBits .f32 0x00000000#32 ≤ x ↔ _
    rw [Ideal.ofBits_zero_f32]
    exact ⟨fun h => ⟨h, fun _ hs => absurd hs (Nat.not_lt_zero _)⟩, fun h => h.1⟩
  | k + 1 => by
    unfold tileAcc
    rw [listAcc_le, tileAcc_le M l X t y x k]
    constructor
    · rintro ⟨⟨h1, h2⟩, h3⟩
      refine ⟨h1, fun s hs => ?_⟩
      rcases Nat.lt_succ_iff_lt_or_eq.1 hs with h | rfl
      · exact h2 s h
      · exact h3
    · exact fun h => ⟨⟨h.1, fun s hs => h.2 s (Nat.lt_succ_of_lt hs)⟩, h.2 k (Nat.lt_succ_self k)⟩

/-! ## A row of messages -/

/-- An entry of the message stage's result for a block. -/
theorem block_at (v0 : S1920x128.Idx → EReal) (v3 : S128x128.Idx → EReal) (v6 : S1x128.Idx → EReal) (r : Fin 1920) (c : Fin 128) :
    k3_pay1 (F := Ideal) v0 v3 v6 (ix2 r c) = (∑ k : Fin 128, max (v0 (ix2 r k)) 0 * v3 (ix2 k c)) + v6 (ix2 (0 : Fin 1) c) := by
  unfold k3_pay1
  refine (ValueIdx.addf_apply _ _ _).trans ?_
  refine congrArg₂ (fun a b : EReal => a + b) ?_ ?_
  · refine (Ideal.matmul_plain_apply none _ _ _ r c).trans ?_
    refine Eq.trans (congrArg₂ (fun a b : EReal => a + b) (show _ = (0 : EReal) from Ideal.ofBits_zero_f32) (Finset.sum_congr rfl fun k _ => ?_)) (zero_add _)
    refine congrArg₂ (fun a b : EReal => a * b) ?_ ?_
    · exact congrArg (max (v0 (ix2 r k))) Ideal.ofBits_zero_f32
    · exact congrFun (shapeCast_self _ _) _
  · refine (broadcastTo_apply _ _ _ (ix2 (0 : Fin 1) c) fun a => ?_).trans (congrFun (shapeCast_self _ _) _)
    match a with
    | ⟨0, _⟩ => rfl
    | ⟨1, _⟩ => rfl

/-- A sum against a column of the diagonal: the column's block alone. -/
theorem sum_block (f : Fin 128 → EReal) (W : S64x64.Idx → EReal) (h : ℕ) (hh : h < 2) (c : Fin 64) (x : Fin 128) (hx : x.val = 64 * h + c.val) :
    ∑ k : Fin 128, f k * diag (F := Ideal) W (ix2 k x) = ∑ k : Fin 64, f (⟨64 * h + k.val, by omega⟩ : Fin 128) * W (ix2 k c) := by
  have hc := c.isLt
  refine (Fin.sum_univ_add (a := 64) (b := 64) (fun k : Fin (64 + 64) => f k * diag (F := Ideal) W (ix2 k x))).trans ?_
  have on : ∀ (k : Fin 64) (k' : Fin 128), k'.val = 64 * h + k.val →
      f k' * diag (F := Ideal) W (ix2 k' x) = f (⟨64 * h + k.val, by omega⟩ : Fin 128) * W (ix2 k c) := fun k k' hk => by
    rw [diag_on (F := Ideal) W k c h hh (ix2 k' x) hk hx, show k' = (⟨64 * h + k.val, by omega⟩ : Fin 128) from Fin.ext hk]
  have off : ∀ k' : Fin 128, k'.val / 64 ≠ h → f k' * diag (F := Ideal) W (ix2 k' x) = 0 := fun k' hk => by
    rw [diag_off (F := Ideal) W (ix2 k' x) (show k'.val / 64 ≠ x.val / 64 by omega), show (FloatOps.ofBits .f32 0x00000000#32 : Ideal .f32) = (0 : EReal) from Ideal.ofBits_zero_f32, mul_zero]
  obtain rfl | rfl : h = 1 ∨ h = 0 := by omega
  · refine (congrArg₂ (fun a b : EReal => a + b) (Finset.sum_eq_zero fun k _ => off _ ?_) (Finset.sum_congr rfl fun k _ => on k _ ?_)).trans (zero_add _)
    · have := k.isLt
      show k.val / 64 ≠ 1
      omega
    · show 64 + k.val = _
      omega
  · refine (congrArg₂ (fun a b : EReal => a + b) (Finset.sum_congr rfl fun k _ => on k _ ?_) (Finset.sum_eq_zero fun k _ => off _ ?_)).trans (add_zero _)
    · show k.val = _
      omega
    · show (64 + k.val) / 64 ≠ 0
      omega

/-- A row of the message stage's result, half `h`: the second layer of that half of the sums. -/
theorem msg_half (G : S176640x128.Idx → EReal) (W : S64x64.Idx → EReal) (bias : S64.Idx → EReal) (z : S176640x128.Idx) (h : ℕ) (hh : h < 2) (c : Fin 64)
    (hz : (z 1).val = 64 * h + c.val) :
    msgOut (F := Ideal) G (diag (F := Ideal) W) (twice (F := Ideal) bias) z
      = (∑ k : Fin 64, max (G (ix2 (⟨(z 0).val, (z 0).isLt⟩ : Fin 176640) (⟨64 * h + k.val, by omega⟩ : Fin 128))) 0 * W (ix2 k c)) + bias (ix1 c) := by
  have hz0 : (z 0).val < 176640 := (z 0).isLt
  unfold msgOut byBlocks
  refine (block_at _ _ _ _ _).trans ?_
  refine congrArg₂ (fun a b : EReal => a + b) ?_ (twice_apply (F := Ideal) bias c h hh _ hz)
  refine (sum_block (fun k : Fin 128 => max _ 0) W h hh c _ hz).trans (Finset.sum_congr rfl fun k _ => ?_)
  refine congrArg (fun a : EReal => max a 0 * W (ix2 k c)) (congrArg G (funext fun a => Fin.ext ?_))
  match a with
  | ⟨0, _⟩ =>
    show 1920 * ((z 0).val / 1920) + (z 0).val % 1920 = (z 0).val
    omega
  | ⟨1, _⟩ => rfl

/-- The message of the list position where an edge stands. -/
theorem row_message {X Y : S320000.Idx → BitVec 32} {Tb : S10000x128.Idx → EReal} {W : S64x64.Idx → EReal} {bias : S64.Idx → EReal} {t : ℕ} (ht : t < 32)
    {G : S176640x128.Idx → EReal} (hG : ∀ n, n < chunks X t 8 → RowsOK (F := Ideal) Tb X Y t n G) (s e : ℕ) (hs : s < 8) (he : e < 40000) (hm : Mine t (seg X s e)) (c : Fin 64) :
    rowOf (F := Ideal) (msgOut (F := Ideal) G (diag (F := Ideal) W) (twice (F := Ideal) bias)) (base X t + chunks X t s) (kept t (seg X s) e) c
      = message Tb W bias (seg X s e) (seg Y s e) c := by
  have hn : chunks X t s + kept t (seg X s) e / 128 < chunks X t 8 := (chunk_lt_succ X t s e he hm).trans_le (chunks_mono X t hs)
  have hb := chunk_lt X t _ ht hn
  unfold rowOf message
  refine (msg_half G W bias _ (kept t (seg X s) e % 2) (Nat.mod_lt _ (by decide)) c rfl).trans ?_
  refine congrArg (fun a : EReal => a + bias (ix1 c)) (Finset.sum_congr rfl fun k _ => congrArg (fun a : EReal => max a 0 * W (ix2 k c)) ?_)
  refine hG _ hn s hs e he hm rfl k _ ?_ rfl
  show (64 * (base X t + chunks X t s + kept t (seg X s) e / 128) + kept t (seg X s) e % 128 / 2) % 176640 = _
  omega

/-! ## Every node -/

/-- The accumulator's entry is its node's greatest message. -/
theorem tileAcc_greatest {X Y : S320000.Idx → BitVec 32} (hX : ∀ i, (X i).toNat < 10000) (hY : ∀ i, (Y i).toNat < 10000) {Tb : S10000x128.Idx → EReal} {W : S64x64.Idx → EReal}
    {bias : S64.Idx → EReal} {t : ℕ} (ht : t < 32) {G : S176640x128.Idx → EReal} (hG : ∀ n, n < chunks X t 8 → RowsOK (F := Ideal) Tb X Y t n G)
    {l : S10240128.Idx → BitVec 32} (hl : ∀ s, s < 8 → SegOK X Y t s l) (y : S160x128.Idx) (n : ℕ) (hn : n = 320 * t + (2 * (y 0).val + (y 1).val / 64)) (c : Fin 64) (hc : c.val = (y 1).val % 64) :
    Greatest X Y Tb W bias n c (tileAcc (F := Ideal) (msgOut (F := Ideal) G (diag (F := Ideal) W) (twice (F := Ideal) bias)) l X t 8 y) := by
  have hy0 : (y 0).val < 160 := (y 0).isLt
  have hy1 : (y 1).val < 128 := (y 1).isLt
  have hcc : (⟨(y 1).val % 64, Nat.mod_lt _ (by decide)⟩ : Fin 64) = c := Fin.ext hc.symm
  have hsX : ∀ s e, (seg X s e).toNat < 10000 := fun s e => hX _
  have hsY : ∀ s e, (seg Y s e).toNat < 10000 := fun s e => hY _
  -- the word of an edge that stands in a list
  have hw : ∀ s < 8, ∀ e < 40000, Mine t (seg X s e) →
      (wordAt l (40000 * (8 * t + s) + kept t (seg X s) e) &&& 511#32).toNat = (seg X s e).toNat - 320 * t ∧ 320 * t ≤ (seg X s e).toNat := fun s hs e he hm => by
    have h1 := words_edge X Y t s ht hs l (hl s hs) 0 (kept t (seg X s) e) e he hm (by omega)
    unfold wordsOf at h1
    rw [Nat.mul_zero, Nat.add_zero] at h1
    rw [h1, word_low t _ _ hm (hsY s e)]
    have h2 := (mine_nat t ht _ (hsX s e)).1 hm
    have h3 : (lo t).toNat = 320 * t := by
      unfold lo
      rw [BitVec.toNat_ofNat]
      omega
    have h4 := hsX s e
    rw [BitVec.toNat_sub, h3]
    omega
  intro x
  rw [tileAcc_le]
  refine and_congr_right fun _ => ⟨fun h i hi => ?_, fun h s hs q hq hwq => ?_⟩
  · have hil := i.isLt
    have hs : i.val / 40000 < 8 := by omega
    have he : i.val % 40000 < 40000 := Nat.mod_lt _ (by decide)
    have hseg : ∀ Z : S320000.Idx → BitVec 32, seg Z (i.val / 40000) (i.val % 40000) = Z (ix1 i) := fun Z => by
      unfold seg
      refine congrArg Z (funext fun a => ?_)
      match a with
      | ⟨0, _⟩ =>
        refine Fin.ext ?_
        show (40000 * (i.val / 40000) + i.val % 40000) % 320000 = i.val
        omega
    have hm : Mine t (seg X (i.val / 40000) (i.val % 40000)) := by
      rw [hseg]
      exact (mine_nat t ht _ (hX _)).2 (by omega)
    have h1 := hw _ hs _ he hm
    have h2 := h _ hs _ (kept_lt t (seg X (i.val / 40000)) he hm) (by rw [h1.1, hseg, hi]; omega)
    rw [hcc, row_message ht hG _ _ hs he hm, hseg, hseg] at h2
    exact h2
  · obtain ⟨e, he, hm, rfl⟩ := exists_kept t (seg X s) 40000 q hq
    have h1 := hw s hs e he hm
    rw [h1.1] at hwq
    rw [hcc, row_message ht hG s e hs he hm]
    have hseg : ∀ Z : S320000.Idx → BitVec 32, seg Z s e = Z (ix1 (⟨(40000 * s + e) % 320000, Nat.mod_lt _ (by decide)⟩ : Fin 320000)) := fun Z => by
      unfold seg
      refine congrArg Z (funext fun a => ?_)
      match a with
      | ⟨0, _⟩ => rfl
    have hxn : (seg X s e).toNat = n := by omega
    rw [hseg] at hxn
    rw [hseg, hseg]
    exact h _ hxn

/-- The result's entry is its node's greatest message, of the one table there can be. -/
theorem result_greatest {X Y : Dev nD → S320000.Idx → BitVec 32} {PT : Dev nD → (S10000x128.Idx → EReal) → Prop} {W2 : Dev nD → S128x128.Idx → EReal} {B2 : Dev nD → S1x128.Idx → EReal}
    {d : Dev nD} (hX : ∀ i, (X d i).toNat < 10000) (hY : ∀ i, (Y d i).toNat < 10000) {Tb : S10000x128.Idx → EReal} (hPT : ∀ Tb', PT d Tb' → Tb' = Tb) {W : S64x64.Idx → EReal}
    {bias : S64.Idx → EReal} (hW : W2 d = diag (F := Ideal) W) (hB : B2 d = twice (F := Ideal) bias) {g : S5120x128.Idx → EReal}
    (hg : ∀ t, t < 32 → AggOK (F := Ideal) X Y PT W2 B2 d t g) (n : Fin 10000) (c : Fin 64) :
    Greatest (X d) (Y d) Tb W bias n.val c (result (F := Ideal) g (ix2 n c)) := by
  have hn := n.isLt
  have hc := c.isLt
  have ht : n.val / 320 < 32 := by omega
  obtain ⟨l, M, hl, ⟨G, hG, rfl⟩, hN⟩ := hg (n.val / 320) ht
  have hGT : ∀ k, k < chunks (X d) (n.val / 320) 8 → RowsOK (F := Ideal) Tb (X d) (Y d) (n.val / 320) k G := by
    obtain ⟨Tb', h1, h2⟩ := hG _ ht
    rw [← hPT Tb' h1]
    exact h2
  rw [hW, hB] at hN
  have hr : result (F := Ideal) g (ix2 n c) = g (ix2 (⟨n.val / 2, by omega⟩ : Fin 5120) (⟨64 * (n.val % 2) + c.val, by omega⟩ : Fin 128)) := by
    unfold result
    refine (shapeCast_apply _ _ _ (ix2 (⟨n.val / 2, by omega⟩ : Fin 5000) (⟨64 * (n.val % 2) + c.val, by omega⟩ : Fin 128)) ?_).trans ?_
    · rw [Shape.rowMajor_val_two, Shape.rowMajor_val_two]
      show n.val / 2 * 128 + (64 * (n.val % 2) + c.val) = n.val * 64 + c.val
      omega
    · refine extractStridedSlice_apply _ _ _ _ _ fun a => ?_
      match a with
      | ⟨0, _⟩ => exact (Nat.zero_add _).symm
      | ⟨1, _⟩ => exact (Nat.zero_add _).symm
  rw [hr, hN (ix2 (⟨n.val / 2 - 160 * (n.val / 320), by omega⟩ : Fin 160) (⟨64 * (n.val % 2) + c.val, by omega⟩ : Fin 128)) _ ?_ rfl]
  · refine tileAcc_greatest hX hY ht hGT hl _ n.val ?_ c ?_
    · show n.val = 320 * (n.val / 320) + (2 * (n.val / 2 - 160 * (n.val / 320)) + (64 * (n.val % 2) + c.val) / 64)
      omega
    · show c.val = (64 * (n.val % 2) + c.val) % 64
      omega
  · show n.val / 2 = 160 * (n.val / 320) + (n.val / 2 - 160 * (n.val / 320))
    omega

end Cert.Proof.Bin

end
-- ==== Proof.Table.lean ====
/-
  The dense calls' tables, read at an element at the ideal values; and, where every number is finite, an edge's sum of two
  table rows as the first layer of the two nodes' features.
-/
module

public import proofs.«01_k».proof.Proof.Value

@[expose] public section

noncomputable section

namespace Cert.Proof.Bin

open Cert.KernelIdeal Cert.KernelIdeal.Gen Cert.Proof.Words

open Idealize.ShloMosaic

/-! ## Finite numbers -/

/-- A number that is neither infinity. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.sub {x y : EReal} : IsReal x → IsReal y → IsReal (x - y)
  | ⟨a, ha⟩, ⟨b, hb⟩ => ⟨a - b, by rw [ha, hb, EReal.coe_sub]⟩
theorem IsReal.zero : IsReal 0 := ⟨0, rfl⟩
theorem IsReal.max {x y : EReal} (hx : IsReal x) (hy : IsReal y) : IsReal (max x y) := by
  rcases max_choice x y with h | h <;> rw [h] <;> assumption
theorem IsReal.sum {n : ℕ} {f : Fin n → EReal} (h : ∀ i, IsReal (f i)) : IsReal (∑ i, f i) :=
  Finset.sum_induction f IsReal (fun _ _ => IsReal.add) IsReal.zero fun i _ => h i
theorem IsReal.of_bounds {x : EReal} (h0 : x ≠ ⊥) (h1 : x ≠ ⊤) : IsReal x := ⟨x.toReal, (EReal.coe_toReal h1 h0).symm⟩

theorem coe_sum {n : ℕ} (f : Fin n → ℝ) : ((∑ i, f i : ℝ) : EReal) = ∑ i, (f i : EReal) := by
  classical
  refine Finset.induction_on (Finset.univ : Finset (Fin n)) ?_ fun a s ha ih => ?_
  · rw [Finset.sum_empty, Finset.sum_empty, EReal.coe_zero]
  · rw [Finset.sum_insert ha, Finset.sum_insert ha, EReal.coe_add, ih]

/-- Every entry is finite. -/
def AllReal {s : Shape} (A : s.Idx → EReal) : Prop := ∀ i, IsReal (A i)

theorem AllReal.lift {s : Shape} {A : s.Idx → EReal} (h : AllReal A) : ∃ a : s.Idx → ℝ, A = fun i => (a i : EReal) := by
  choose a ha using h
  exact ⟨a, funext ha⟩

/-! ## The tables -/

/-- An entry of a layer's table: the features of a node against a column of the first layer's halves, and the bias. -/
def tableAt (h : S10000x64.Idx → EReal) (W : S128x64.Idx → EReal) (b : S64.Idx → EReal) (n : Fin 10000) (c : Fin 128) : EReal :=
  (∑ j : Fin 64, h (ix2 n j) * halves (F := Ideal) W (ix2 j c)) + first (F := Ideal) b (ix2 (0 : Fin 1) c)

/-- A row's bias added over the rows, at an element. -/
theorem row_added {R m : ℕ} (h₁ : (⟨2, ![1, m]⟩ : Shape).ShapeCasts ⟨2, ![1, m]⟩) (h₂ : (⟨2, ![1, m]⟩ : Shape).Broadcasts ⟨2, ![R, m]⟩) (v : (⟨2, ![1, m]⟩ : Shape).Idx → EReal) (r : Fin R)
    (c : Fin m) : broadcastTo (⟨2, ![R, m]⟩ : Shape) (shapeCast (⟨2, ![1, m]⟩ : Shape) v h₁) h₂ (ix2 r c) = v (ix2 (0 : Fin 1) c) := by
  refine (broadcastTo_apply _ _ _ (ix2 (0 : Fin 1) c) fun a => ?_).trans (congrFun (shapeCast_self _ _) _)
  match a with
  | ⟨0, _⟩ => rfl
  | ⟨1, _⟩ =>
    show c.val = if m = 1 then 0 else c.val
    have := c.isLt
    split <;> omega

/-- An entry of a later layer's table, for a block. -/
theorem ab_block (v0 : S2000x64.Idx → EReal) (v2 : S64x128.Idx → EReal) (v5 : S1x128.Idx → EReal) (r : Fin 2000) (c : Fin 128) :
    k5_pay1 (F := Ideal) v0 v2 v5 (ix2 r c) = (∑ k : Fin 64, v0 (ix2 r k) * v2 (ix2 k c)) + v5 (ix2 (0 : Fin 1) c) := by
  unfold k5_pay1
  refine (ValueIdx.addf_apply _ _ _).trans ?_
  refine congrArg₂ (fun a b : EReal => a + b) ?_ (row_added _ _ v5 r c)
  refine (Ideal.matmul_plain_apply none _ _ _ r c).trans ?_
  refine Eq.trans (congrArg₂ (fun a b : EReal => a + b) (show _ = (0 : EReal) from Ideal.ofBits_zero_f32) (Finset.sum_congr rfl fun k _ => ?_)) (zero_add _)
  exact congrArg₂ (fun a b : EReal => a * b) (congrFun (shapeCast_self _ _) _) (congrFun (shapeCast_self _ _) _)

/-- The encoder's features of the node inputs. -/
def encoded (x : S10000x128.Idx → EReal) (W1 : S128x64.Idx → EReal) (b1 : S64.Idx → EReal) (W2 : S64x64.Idx → EReal) (b2 : S64.Idx → EReal) (n : Fin 10000) (j : Fin 64) : EReal :=
  (∑ k : Fin 64, max ((∑ i : Fin 128, x (ix2 n i) * W1 (ix2 i k)) + b1 (ix1 k)) 0 * W2 (ix2 k j)) + b2 (ix1 j)

/-- An entry of the first layer's table, for a block. -/
theorem enc_block (v0 : S2000x128.Idx → EReal) (v1 : S128x64.Idx → EReal) (v3 : S1x64.Idx → EReal) (v9 : S64x64.Idx → EReal) (v11 : S1x64.Idx → EReal) (v15 : S64x128.Idx → EReal)
    (v18 : S1x128.Idx → EReal) (r : Fin 2000) (c : Fin 128) :
    k1_pay1 (F := Ideal) v0 v1 v3 v9 v11 v15 v18 (ix2 r c)
      = (∑ j : Fin 64, ((∑ k : Fin 64, max ((∑ i : Fin 128, v0 (ix2 r i) * v1 (ix2 i k)) + v3 (ix2 (0 : Fin 1) k)) 0 * v9 (ix2 k j)) + v11 (ix2 (0 : Fin 1) j)) * v15 (ix2 j c))
        + v18 (ix2 (0 : Fin 1) c) := by
  unfold k1_pay1
  refine (ValueIdx.addf_apply _ _ _).trans ?_
  refine congrArg₂ (fun a b : EReal => a + b) ?_ (row_added _ _ v18 r c)
  refine (Ideal.matmul_plain_apply none _ _ _ r c).trans ?_
  refine Eq.trans (congrArg₂ (fun a b : EReal => a + b) (show _ = (0 : EReal) from Ideal.ofBits_zero_f32) (Finset.sum_congr rfl fun j _ => ?_)) (zero_add _)
  refine congrArg₂ (fun a b : EReal => a * b) ?_ (congrFun (shapeCast_self _ _) _)
  refine (ValueIdx.addf_apply _ _ _).trans ?_
  refine congrArg₂ (fun a b : EReal => a + b) ?_ (row_added _ _ v11 r j)
  refine (Ideal.matmul_plain_apply none _ _ _ r j).trans ?_
  refine Eq.trans (congrArg₂ (fun a b : EReal => a + b) (show _ = (0 : EReal) from Ideal.ofBits_zero_f32) (Finset.sum_congr rfl fun k _ => ?_)) (zero_add _)
  refine congrArg (fun a : EReal => a * v9 (ix2 k j)) ?_
  refine congrArg₂ (fun a b : EReal => max a b) ?_ Ideal.ofBits_zero_f32
  refine (ValueIdx.addf_apply _ _ _).trans ?_
  refine congrArg₂ (fun a b : EReal => a + b) ?_ (row_added _ _ v3 r k)
  refine (Ideal.matmul_plain_apply none _ _ _ r k).trans ?_
  exact Eq.trans (congrArg₂ (fun a b : EReal => a + b) (show _ = (0 : EReal) from Ideal.ofBits_zero_f32) rfl) (zero_add _)

/-- The row of the block that holds row `n`. -/
theorem block_of (R n m : ℕ) (G : (⟨2, ![n, m]⟩ : Shape).Idx → EReal) (r : Fin n) (j : Fin m) (hb : R * (r.val / R) + r.val % R < n) :
    G (ValueIdx.ix2 (⟨R * (r.val / R) + r.val % R, hb⟩ : Fin n) j) = G (ix2 r j) := by
  refine congrArg G (funext fun a => Fin.ext ?_)
  match a with
  | ⟨0, _⟩ => exact Nat.div_add_mod _ _
  | ⟨1, _⟩ => rfl

theorem ab_at (h : S10000x64.Idx → EReal) (W : S128x64.Idx → EReal) (b : S64.Idx → EReal) (n : Fin 10000) (c : Fin 128) :
    abOut (F := Ideal) h (halves (F := Ideal) W) (first (F := Ideal) b) (ix2 n c) = tableAt h W b n c := by
  unfold abOut byBlocks tableAt
  refine (ab_block _ _ _ _ _).trans (congrArg (fun a : EReal => a + first (F := Ideal) b (ix2 (0 : Fin 1) c)) (Finset.sum_congr rfl fun j _ => ?_))
  exact congrArg (fun a : EReal => a * halves (F := Ideal) W (ix2 j c)) (block_of 2000 10000 64 h n j _)

theorem enc_at (x : S10000x128.Idx → EReal) (W1 : S128x64.Idx → EReal) (b1 : S64.Idx → EReal) (W2 : S64x64.Idx → EReal) (b2 : S64.Idx → EReal) (W : S128x64.Idx → EReal) (b : S64.Idx → EReal)
    (h : S10000x64.Idx → EReal) (hh : ∀ n j, h (ix2 n j) = encoded x W1 b1 W2 b2 n j) (n : Fin 10000) (c : Fin 128) :
    encOut (F := Ideal) x W1 (asRow (F := Ideal) b1) W2 (asRow (F := Ideal) b2) (halves (F := Ideal) W) (first (F := Ideal) b) (ix2 n c) = tableAt h W b n c := by
  unfold encOut byBlocks tableAt
  refine (enc_block _ _ _ _ _ _ _ _ _).trans (congrArg (fun a : EReal => a + first (F := Ideal) b (ix2 (0 : Fin 1) c)) (Finset.sum_congr rfl fun j _ => ?_))
  refine congrArg (fun a : EReal => a * halves (F := Ideal) W (ix2 j c)) ?_
  rw [hh]
  unfold encoded
  refine congrArg₂ (fun a b : EReal => a + b) (Finset.sum_congr rfl fun k _ => congrArg (fun a : EReal => max a 0 * W2 (ix2 k j)) ?_) (asRow_apply (F := Ideal) b2 j _ rfl)
  refine congrArg₂ (fun a b : EReal => a + b) (Finset.sum_congr rfl fun i _ => ?_) (asRow_apply (F := Ideal) b1 k _ rfl)
  exact congrArg (fun a : EReal => a * W1 (ix2 i k)) (block_of 2000 10000 128 x n i _)

/-! ## An edge -/

/-- The node that a word names. -/
def node (a : BitVec 32) : Fin 10000 := ⟨a.toNat % 10000, Nat.mod_lt _ (by decide)⟩

/-- The first layer's sum for an edge from `b'` to `a`: of the end's features, and of the difference of the two nodes'. -/
def hidden (h : S10000x64.Idx → EReal) (W : S128x64.Idx → EReal) (b : S64.Idx → EReal) (a b' : BitVec 32) (k : Fin 64) : EReal :=
  ((∑ j : Fin 64, h (ix2 (node a) j) * W (ix2 (⟨j.val, by omega⟩ : Fin 128) k))
    + ∑ j : Fin 64, (h (ix2 (node b') j) - h (ix2 (node a) j)) * W (ix2 (⟨64 + j.val, by omega⟩ : Fin 128) k)) + b (ix1 k)

/-- The sum of the two table rows is the first layer's sum. -/
theorem edge_hidden {h : S10000x64.Idx → EReal} {W : S128x64.Idx → EReal} {b : S64.Idx → EReal} (hh : AllReal h) (hW : AllReal W) (hb : AllReal b) {Tb : S10000x128.Idx → EReal}
    (hT : ∀ n c, Tb (ix2 n c) = tableAt h W b n c) (a b' : BitVec 32) (k : Fin 64) : edge (F := Ideal) Tb a b' k = hidden h W b a b' k := by
  have hk := k.isLt
  have e1 : tableAt h W b (node a) (⟨k.val, by omega⟩ : Fin 128)
      = (∑ j : Fin 64, h (ix2 (node a) j) * (W (ix2 (⟨j.val, by omega⟩ : Fin 128) k) - W (ix2 (⟨64 + j.val, by omega⟩ : Fin 128) k))) + b (ix1 k) := by
    unfold tableAt
    refine congrArg₂ (fun a b : EReal => a + b) (Finset.sum_congr rfl fun j _ => congrArg (fun x : EReal => h (ix2 (node a) j) * x) ?_) (first_left (F := Ideal) b k _ rfl)
    exact halves_left (F := Ideal) W j k _ rfl rfl
  have e2 : tableAt h W b (node b') (⟨64 + k.val, by omega⟩ : Fin 128) = (∑ j : Fin 64, h (ix2 (node b') j) * W (ix2 (⟨64 + j.val, by omega⟩ : Fin 128) k)) + 0 := by
    unfold tableAt
    refine congrArg₂ (fun a b : EReal => a + b) (Finset.sum_congr rfl fun j _ => congrArg (fun x : EReal => h (ix2 (node b') j) * x) ?_)
      ((first_right (F := Ideal) b k _ rfl).trans Ideal.ofBits_zero_f32)
    exact halves_right (F := Ideal) W j k _ rfl rfl
  have e : edge (F := Ideal) Tb a b' k = tableAt h W b (node a) (⟨k.val, by omega⟩ : Fin 128) + tableAt h W b (node b') (⟨64 + k.val, by omega⟩ : Fin 128) := by
    rw [← hT, ← hT]
    rfl
  rw [e, e1, e2]
  obtain ⟨h, rfl⟩ := hh.lift
  obtain ⟨W, rfl⟩ := hW.lift
  obtain ⟨b, rfl⟩ := hb.lift
  unfold hidden
  simp only [← EReal.coe_sub, ← EReal.coe_mul, ← coe_sum, ← EReal.coe_add, add_zero]
  refine congrArg (fun x : ℝ => (x : EReal)) ?_
  simp only [mul_sub, sub_mul, Finset.sum_sub_distrib]
  ring

theorem hidden_real {h : S10000x64.Idx → EReal} {W : S128x64.Idx → EReal} {b : S64.Idx → EReal} (hh : AllReal h) (hW : AllReal W) (hb : AllReal b) (a b' : BitVec 32) (k : Fin 64) :
    IsReal (hidden h W b a b' k) :=
  (((IsReal.sum fun j => (hh _).mul (hW _))).add (IsReal.sum fun j => ((hh _).sub (hh _)).mul (hW _))).add (hb _)

theorem encoded_real {x : S10000x128.Idx → EReal} {W1 : S128x64.Idx → EReal} {b1 : S64.Idx → EReal} {W2 : S64x64.Idx → EReal} {b2 : S64.Idx → EReal} (hx : AllReal x) (h1 : AllReal W1)
    (h2 : AllReal b1) (h3 : AllReal W2) (h4 : AllReal b2) (n : Fin 10000) (j : Fin 64) : IsReal (encoded x W1 b1 W2 b2 n j) :=
  (IsReal.sum fun k => (((IsReal.sum fun i => (hx _).mul (h1 _)).add (h2 _)).max IsReal.zero).mul (h3 _)).add (h4 _)

theorem message_real {Tb : S10000x128.Idx → EReal} {W : S64x64.Idx → EReal} {bias : S64.Idx → EReal} {a b : BitVec 32} (he : ∀ k, IsReal (edge (F := Ideal) Tb a b k)) (hW : AllReal W)
    (hb : AllReal bias) (c : Fin 64) : IsReal (message Tb W bias a b c) :=
  (IsReal.sum fun k => ((he k).max IsReal.zero).mul (hW _)).add (hb _)

/-- The greatest of finite messages is finite. -/
theorem Greatest.real {X Y : S320000.Idx → BitVec 32} {Tb : S10000x128.Idx → EReal} {W : S64x64.Idx → EReal} {bias : S64.Idx → EReal} {n : ℕ} {c : Fin 64} {r : EReal}
    (h : Greatest X Y Tb W bias n c r) (hm : ∀ i, IsReal (message Tb W bias (X (ix1 i)) (Y (ix1 i)) c)) : IsReal r := by
  have h0 : 0 ≤ r := ((h r).1 le_rfl).1
  have h1 : r ≤ max 0 (Finset.univ.sup fun i : Fin 320000 => message Tb W bias (X (ix1 i)) (Y (ix1 i)) c) :=
    (h _).2 ⟨le_max_left _ _, fun i _ => (Finset.le_sup (f := fun i : Fin 320000 => message Tb W bias (X (ix1 i)) (Y (ix1 i)) c) (Finset.mem_univ i)).trans (le_max_right _ _)⟩
  have h2 : max 0 (Finset.univ.sup fun i : Fin 320000 => message Tb W bias (X (ix1 i)) (Y (ix1 i)) c) < ⊤ := by
    refine max_lt EReal.zero_lt_top ((Finset.sup_lt_iff bot_lt_top).2 fun i _ => ?_)
    obtain ⟨x, hx⟩ := hm i
    rw [hx]
    exact EReal.coe_lt_top x
  exact IsReal.of_bounds (fun e => absurd (e ▸ h0) (not_le_of_gt EReal.bot_lt_zero)) (h1.trans_lt h2).ne

end Cert.Proof.Bin

end
-- ==== Proof.RefValue.lean ====
/-
  What the reference computes, at the ideal values: the same greatest messages, of the same tables.
-/
module

public import proofs.«01_k».proof.Defs
public import proofs.«01_k».proof.Proof.Gen.ReferenceIdeal.Run
public import proofs.«01_k».proof.Proof.Table
public import Idealize.ShloMosaic.Lib.Routing.Ops
public import Idealize.ShloMosaic.Lib.StackMember

@[expose] public section

noncomputable section

namespace Cert.Proof.RefValue

open Idealize.ShloMosaic Idealize.SL.Sem

/-! ## The reference's parts -/

open Cert.ReferenceIdeal Cert.ReferenceIdeal.Gen

/-- The node numbers as the gather takes them. -/
def wrapped (v : S320000.Idx → BitVec 32) : S320000x1.Idx → BitVec 32 :=
  broadcastInDim S320000x1 ![0] bcast_S320000_S320000x1_0 (select (cmpi .slt v (broadcastInDim S320000 ![] bcast_S_S320000 (constantI S_ 32 0#32)))
    (addi v (broadcastInDim S320000 ![] bcast_S_S320000 (constantI S_ 32 10000#32))) v)

theorem wrapped_at (v : S320000.Idx → BitVec 32) (e : Fin 320000) (hv : (v (ix1 e)).toNat < 10000) : wrapped v (ix2 e (0 : Fin 1)) = v (ix1 e) := by
  unfold wrapped
  refine (broadcastInDim_apply _ _ _ _ (ix1 e) fun a => ?_).trans ?_
  · match a with
    | ⟨0, _⟩ => rfl
  · show Scalar.select (BitVec.ofBool ((v (ix1 e)).slt 0#32)) _ _ = _
    have h0 : (v (ix1 e)).slt 0#32 = false := by
      rw [BitVec.slt_eq_decide, decide_eq_false_iff_not]
      have h00 : (0#32).toInt = 0 := by decide
      rw [h00, BitVec.toInt_eq_toNat_cond]
      split <;> omega
    rw [h0]
    rfl

/-- A gathered row. -/
theorem gathered (h : S10000x64.Idx → EReal) (v : S320000.Idx → BitVec 32) (e : Fin 320000) (hv : (v (ix1 e)).toNat < 10000) (c : Fin 64) :
    Host.gather gather_S10000x64_S320000x1_S320000x64_1_0_n_n_0_1_164 h (wrapped v) (ix2 e c) = h (ix2 (Bin.node (v (ix1 e))) c) := by
  refine Routing.gather_row gather_S10000x64_S320000x1_S320000x64_1_0_n_n_0_1_164 rfl rfl rfl rfl rfl h (wrapped v) e c _ ?_ (by decide)
  refine (wrapped_at v e hv).trans ?_
  show _ = BitVec.ofNat 32 ((v (ix1 e)).toNat % 10000)
  rw [Nat.mod_eq_of_lt hv, BitVec.ofNat_toNat, BitVec.setWidth_eq]

/-- The features of every node. -/
def features (x : S10000x128.Idx → EReal) (W1 : S128x64.Idx → EReal) (b1 : S64.Idx → EReal) (W2 : S64x64.Idx → EReal) (b2 : S64.Idx → EReal) : S10000x64.Idx → EReal :=
  addf (F := Ideal) (φ := .f32) (Host.dotGeneral (φ₁ := .f32) (φ₂ := .f32) dot_S10000x64_S64x64_S10000x64_1_0_0_1_n_n none
    (maximumf (F := Ideal) (φ := .f32) (addf (F := Ideal) (φ := .f32) (Host.dotGeneral (φ₁ := .f32) (φ₂ := .f32) dot_S10000x128_S128x64_S10000x64_1_0_0_1_n_n none x W1)
        (broadcastInDim S10000x64 ![0, 1] bcast_S1x64_S10000x64_0_1 (broadcastInDim S1x64 ![1] bcast_S64_S1x64_1 b1)))
      (broadcastInDim S10000x64 ![] bcast_S_S10000x64 (constant (F := Ideal) S_ .f32 0x00000000#32))) W2)
    (broadcastInDim S10000x64 ![0, 1] bcast_S1x64_S10000x64_0_1 (broadcastInDim S1x64 ![1] bcast_S64_S1x64_1 b2))

/-- A bias over rows, at an element. -/
theorem bias_at {R m : ℕ} (h₁ : (⟨1, ![m]⟩ : Shape).BroadcastsInDim ⟨2, ![1, m]⟩ (![1] : Fin 1 → Fin 2)) (h₂ : (⟨2, ![1, m]⟩ : Shape).BroadcastsInDim ⟨2, ![R, m]⟩ (![0, 1] : Fin 2 → Fin 2))
    (b : (⟨1, ![m]⟩ : Shape).Idx → EReal) (r : Fin R) (c : Fin m) :
    broadcastInDim (⟨2, ![R, m]⟩ : Shape) (![0, 1] : Fin 2 → Fin 2) h₂ (broadcastInDim (⟨2, ![1, m]⟩ : Shape) (![1] : Fin 1 → Fin 2) h₁ b) (ix2 r c) = b (ix1 c) := by
  have hc := c.isLt
  refine (broadcastInDim_apply _ _ _ _ (ix2 (0 : Fin 1) c) fun a => ?_).trans (broadcastInDim_apply _ _ _ _ (ix1 c) fun a => ?_)
  · match a with
    | ⟨0, _⟩ => rfl
    | ⟨1, _⟩ =>
      show c.val = if m = 1 then 0 else c.val
      split <;> omega
  · match a with
    | ⟨0, _⟩ =>
      show c.val = if m = 1 then 0 else c.val
      split <;> omega

theorem features_at (x : S10000x128.Idx → EReal) (W1 : S128x64.Idx → EReal) (b1 : S64.Idx → EReal) (W2 : S64x64.Idx → EReal) (b2 : S64.Idx → EReal) (n : Fin 10000) (j : Fin 64) :
    features x W1 b1 W2 b2 (ix2 n j) = Bin.encoded x W1 b1 W2 b2 n j := by
  unfold features Bin.encoded
  refine congrArg₂ (fun a b : EReal => a + b) ?_ (bias_at _ _ b2 n j)
  refine (StackMember.dotGeneral_plain_apply none _ _ n j).trans (Finset.sum_congr rfl fun k _ => congrArg (fun a : EReal => a * W2 (ix2 k j)) ?_)
  refine congrArg₂ (fun a b : EReal => max a b) ?_ Ideal.ofBits_zero_f32
  exact congrArg₂ (fun a b : EReal => a + b) (StackMember.dotGeneral_plain_apply none x W1 n k) (bias_at _ _ b1 n k)

/-- The ends' features beside the differences. -/
def pairs (h : S10000x64.Idx → EReal) (X Y : S320000.Idx → BitVec 32) : S320000x128.Idx → EReal :=
  concatenate S320000x128 1 [⟨S320000x64, Host.gather gather_S10000x64_S320000x1_S320000x64_1_0_n_n_0_1_164 h (wrapped X)⟩,
    ⟨S320000x64, subf (F := Ideal) (φ := .f32) (Host.gather gather_S10000x64_S320000x1_S320000x64_1_0_n_n_0_1_164 h (wrapped Y)) (Host.gather gather_S10000x64_S320000x1_S320000x64_1_0_n_n_0_1_164 h (wrapped X))⟩]
    concatenates_S320000x64_S320000x64_S320000x128_d1

theorem pairs_left (h : S10000x64.Idx → EReal) (X Y : S320000.Idx → BitVec 32) (hX : ∀ i, (X i).toNat < 10000) (e : Fin 320000) (j : Fin 64) (c : Fin 128) (hc : c.val = j.val) :
    pairs h X Y (ix2 e c) = h (ix2 (Bin.node (X (ix1 e))) j) := by
  unfold pairs
  refine (concatenate_pair_apply_left (t := S320000x128) (s₁ := S320000x64) (s₂ := S320000x64) 1 _ _ concatenates_S320000x64_S320000x64_S320000x128_d1 _ rfl (ix2 e j) fun a => ?_).trans
    (gathered h X e (hX _) j)
  match a with
  | ⟨0, _⟩ => rfl
  | ⟨1, _⟩ => exact hc.symm

theorem pairs_right (h : S10000x64.Idx → EReal) (X Y : S320000.Idx → BitVec 32) (hX : ∀ i, (X i).toNat < 10000) (hY : ∀ i, (Y i).toNat < 10000) (e : Fin 320000) (j : Fin 64) (c : Fin 128)
    (hc : c.val = 64 + j.val) : pairs h X Y (ix2 e c) = h (ix2 (Bin.node (Y (ix1 e))) j) - h (ix2 (Bin.node (X (ix1 e))) j) := by
  unfold pairs
  refine (concatenate_pair_apply_right (t := S320000x128) (s₁ := S320000x64) (s₂ := S320000x64) 1 _ _ concatenates_S320000x64_S320000x64_S320000x128_d1 _ rfl rfl (ix2 e j) (fun a ha => ?_) ?_).trans
    (congrArg₂ (fun a b : EReal => a - b) (gathered h Y e (hY _) j) (gathered h X e (hX _) j))
  · match a with
    | ⟨0, _⟩ => rfl
    | ⟨1, _⟩ => exact absurd rfl ha
  · show j.val + 64 = c.val
    omega

/-- The messages of all edges. -/
def messages (h : S10000x64.Idx → EReal) (X Y : S320000.Idx → BitVec 32) (W1 : S128x64.Idx → EReal) (b1 : S64.Idx → EReal) (W : S64x64.Idx → EReal) (bias : S64.Idx → EReal) :
    S320000x64.Idx → EReal :=
  addf (F := Ideal) (φ := .f32) (Host.dotGeneral (φ₁ := .f32) (φ₂ := .f32) dot_S320000x64_S64x64_S320000x64_1_0_0_1_n_n none
    (maximumf (F := Ideal) (φ := .f32) (addf (F := Ideal) (φ := .f32) (Host.dotGeneral (φ₁ := .f32) (φ₂ := .f32) dot_S320000x128_S128x64_S320000x64_1_0_0_1_n_n none (pairs h X Y) W1)
        (broadcastInDim S320000x64 ![0, 1] bcast_S1x64_S320000x64_0_1 (broadcastInDim S1x64 ![1] bcast_S64_S1x64_1 b1)))
      (broadcastInDim S320000x64 ![] bcast_S_S320000x64 (constant (F := Ideal) S_ .f32 0x00000000#32))) W)
    (broadcastInDim S320000x64 ![0, 1] bcast_S1x64_S320000x64_0_1 (broadcastInDim S1x64 ![1] bcast_S64_S1x64_1 bias))

theorem messages_at {h : S10000x64.Idx → EReal} {X Y : S320000.Idx → BitVec 32} (hX : ∀ i, (X i).toNat < 10000) (hY : ∀ i, (Y i).toNat < 10000) {W1 : S128x64.Idx → EReal}
    {b1 : S64.Idx → EReal} (hh : Bin.AllReal h) (hW : Bin.AllReal W1) (hb : Bin.AllReal b1) (W : S64x64.Idx → EReal) (bias : S64.Idx → EReal) {Tb : S10000x128.Idx → EReal}
    (hT : ∀ n c, Tb (ix2 n c) = Bin.tableAt h W1 b1 n c) (e : Fin 320000) (c : Fin 64) :
    messages h X Y W1 b1 W bias (ix2 e c) = Bin.message Tb W bias (X (ix1 e)) (Y (ix1 e)) c := by
  unfold messages Bin.message
  refine congrArg₂ (fun a b : EReal => a + b) ?_ (bias_at _ _ bias e c)
  refine (StackMember.dotGeneral_plain_apply none _ _ e c).trans (Finset.sum_congr rfl fun k _ => congrArg (fun a : EReal => a * W (ix2 k c)) ?_)
  refine congrArg₂ (fun a b : EReal => max a b) ?_ Ideal.ofBits_zero_f32
  rw [Bin.edge_hidden hh hW hb hT]
  unfold Bin.hidden
  refine congrArg₂ (fun a b : EReal => a + b) ?_ (bias_at _ _ b1 e k)
  refine (StackMember.dotGeneral_plain_apply none _ _ e k).trans ?_
  refine (Fin.sum_univ_add (a := 64) (b := 64) (fun j : Fin (64 + 64) => pairs h X Y (ix2 e j) * W1 (ix2 j k))).trans ?_
  refine congrArg₂ (fun a b : EReal => a + b) (Finset.sum_congr rfl fun j _ => ?_) (Finset.sum_congr rfl fun j _ => ?_)
  · exact congrArg₂ (fun a b : EReal => a * b) (pairs_left h X Y hX e j _ rfl) rfl
  · exact congrArg₂ (fun a b : EReal => a * b) (pairs_right h X Y hX hY e j _ rfl) rfl

/-- Each node's messages, minus infinity where the edge ends elsewhere. -/
def spread (X : S320000.Idx → BitVec 32) (M : S320000x64.Idx → EReal) : S10000x320000x64.Idx → EReal :=
  select (broadcastInDim S10000x320000x64 ![0, 1, 2] bcast_S10000x320000x1_S10000x320000x64_0_1_2
      (cmpi .eq (broadcastInDim S10000x320000x1 ![0, 1, 2] bcast_S1x320000x1_S10000x320000x1_0_1_2 (broadcastInDim S1x320000x1 ![1] bcast_S320000_S1x320000x1_1 X))
        (broadcastInDim S10000x320000x1 ![0, 1, 2] bcast_S10000x1x1_S10000x320000x1_0_1_2 (broadcastInDim S10000x1x1 ![0] bcast_S10000_S10000x1x1_0 (iotaInDim S10000 32 0)))))
    (broadcastInDim S10000x320000x64 ![0, 1, 2] bcast_S1x320000x64_S10000x320000x64_0_1_2 (broadcastInDim S1x320000x64 ![1, 2] bcast_S320000x64_S1x320000x64_1_2 M))
    (broadcastInDim S10000x320000x64 ![] bcast_S_S10000x320000x64 (id (constant (F := Ideal) S_ .f32 0xFF800000#32)))

theorem bottom : (Ideal.ofBits .f32 0xFF800000#32 : EReal) = ⊥ := by simp [Ideal.ofBits, Ideal.ieee]

theorem spread_at (X : S320000.Idx → BitVec 32) (M : S320000x64.Idx → EReal) (n : Fin 10000) (e : Fin 320000) (c : Fin 64) :
    spread X M (ix3 n e c) = if (X (ix1 e)).toNat = n.val then M (ix2 e c) else ⊥ := by
  unfold spread
  refine (ValueIdx.select_apply _ _ _ _).trans ?_
  have hc : (broadcastInDim S10000x320000x64 ![0, 1, 2] bcast_S10000x320000x1_S10000x320000x64_0_1_2
      (cmpi .eq (broadcastInDim S10000x320000x1 ![0, 1, 2] bcast_S1x320000x1_S10000x320000x1_0_1_2 (broadcastInDim S1x320000x1 ![1] bcast_S320000_S1x320000x1_1 X))
        (broadcastInDim S10000x320000x1 ![0, 1, 2] bcast_S10000x1x1_S10000x320000x1_0_1_2 (broadcastInDim S10000x1x1 ![0] bcast_S10000_S10000x1x1_0 (iotaInDim S10000 32 0))))) (ix3 n e c)
      = BitVec.ofBool (X (ix1 e) == BitVec.ofNat 32 n.val) := by
    refine (broadcastInDim_apply _ _ _ _ (ix3 n e (0 : Fin 1)) fun a => ?_).trans ?_
    · match a with
      | ⟨0, _⟩ => rfl
      | ⟨1, _⟩ => rfl
      | ⟨2, _⟩ => rfl
    · refine congrArg₂ (fun a b : BitVec 32 => BitVec.ofBool (a == b)) ?_ ?_
      · refine (broadcastInDim_apply _ _ _ _ (ix3 (0 : Fin 1) e (0 : Fin 1)) fun a => ?_).trans (broadcastInDim_apply _ _ _ _ (ix1 e) fun a => ?_)
        · match a with
          | ⟨0, _⟩ => rfl
          | ⟨1, _⟩ => rfl
          | ⟨2, _⟩ => rfl
        · match a with
          | ⟨0, _⟩ => rfl
      · refine (broadcastInDim_apply _ _ _ _ (ix3 n (0 : Fin 1) (0 : Fin 1)) fun a => ?_).trans ((broadcastInDim_apply _ _ _ _ (ix1 n) fun a => ?_).trans rfl)
        · match a with
          | ⟨0, _⟩ => rfl
          | ⟨1, _⟩ => rfl
          | ⟨2, _⟩ => rfl
        · match a with
          | ⟨0, _⟩ => rfl
  have hm : (broadcastInDim S10000x320000x64 ![0, 1, 2] bcast_S1x320000x64_S10000x320000x64_0_1_2 (broadcastInDim S1x320000x64 ![1, 2] bcast_S320000x64_S1x320000x64_1_2 M)) (ix3 n e c)
      = M (ix2 e c) := by
    refine (broadcastInDim_apply _ _ _ _ (ix3 (0 : Fin 1) e c) fun a => ?_).trans (broadcastInDim_apply _ _ _ _ (ix2 e c) fun a => ?_)
    · match a with
      | ⟨0, _⟩ => rfl
      | ⟨1, _⟩ => rfl
      | ⟨2, _⟩ => rfl
    · match a with
      | ⟨0, _⟩ => rfl
      | ⟨1, _⟩ => rfl
  rw [hc, hm]
  have hn := n.isLt
  by_cases h : (X (ix1 e)).toNat = n.val
  · have he : (X (ix1 e) == BitVec.ofNat 32 n.val) = true := beq_iff_eq.2 (BitVec.eq_of_toNat_eq (by rw [h, BitVec.toNat_ofNat]; omega))
    rw [he, if_pos h]
    rfl
  · have he : (X (ix1 e) == BitVec.ofNat 32 n.val) = false := beq_eq_false_iff_ne.2 fun hx => h (by rw [hx, BitVec.toNat_ofNat]; omega)
    rw [he, if_neg h]
    exact bottom

/-- The greatest of a node's messages. -/
def greatest (A : S10000x320000x64.Idx → EReal) : S10000x64.Idx → EReal :=
  Host.reduce (FloatOps.maximumf (F := Ideal) (φ := .f32)) A (constant (F := Ideal) S_ .f32 0xFF800000#32) reducesTo_S10000x320000x64_S10000x64_d1 h_S_

theorem greatest_le (A : S10000x320000x64.Idx → EReal) (n : Fin 10000) (c : Fin 64) (x : EReal) : greatest A (ix2 n c) ≤ x ↔ ∀ e : Fin 320000, A (ix3 n e c) ≤ x := by
  unfold greatest
  rw [Host.reduce_eq_fold]
  refine (Finset.fold_max_le (β := EReal) x).trans ?_
  have hb : (constant (F := Ideal) S_ .f32 0xFF800000#32 : S_.Idx → EReal) (Shape.Idx.first h_S_) ≤ x := (show _ = (⊥ : EReal) from bottom).trans_le bot_le
  have hd : ∀ k : S10000x320000x64.Idx, reducesTo_S10000x320000x64_S10000x64_d1.drop k = ix2 n c ↔ k 0 = n ∧ k 2 = c := fun k => by
    have h0 : (reducesTo_S10000x320000x64_S10000x64_d1.drop k 0 : ℕ) = k 0 := Shape.ReducesTo.drop_apply_val_of_eq _ k 0 0
    have h1 : (reducesTo_S10000x320000x64_S10000x64_d1.drop k 1 : ℕ) = k 2 := Shape.ReducesTo.drop_apply_val_of_eq _ k 1 2
    constructor
    · intro e
      rw [e] at h0 h1
      exact ⟨Fin.ext h0.symm, Fin.ext h1.symm⟩
    · rintro ⟨e0, e1⟩
      funext a
      match a with
      | ⟨0, _⟩ => exact Fin.ext (h0.trans (congrArg Fin.val e0))
      | ⟨1, _⟩ => exact Fin.ext (h1.trans (congrArg Fin.val e1))
  constructor
  · exact fun h e => h.2 _ (Finset.mem_filter.2 ⟨Finset.mem_univ _, (hd _).2 ⟨rfl, rfl⟩⟩)
  · refine fun h => ⟨hb, fun k hk => ?_⟩
    obtain ⟨e0, e1⟩ := (hd k).1 (Finset.mem_filter.1 hk).2
    have := h (k 1)
    rw [← e0, ← e1, ← eq_ix3 k] at this
    exact this

/-- Minus infinity made zero, and nothing below zero. -/
def raised (R : S10000x64.Idx → EReal) : S10000x64.Idx → EReal :=
  maximumf (F := Ideal) (φ := .f32) (select (cmpf (F := Ideal) (φ := .f32) .oeq R (broadcastInDim S10000x64 ![] bcast_S_S10000x64 (constant (F := Ideal) S_ .f32 0xFF800000#32)))
    (broadcastInDim S10000x64 ![] bcast_S_S10000x64 (id (constant (F := Ideal) S_ .f32 0x00000000#32))) R) (broadcastInDim S10000x64 ![] bcast_S_S10000x64 (constant (F := Ideal) S_ .f32 0x00000000#32))

theorem raised_at (R : S10000x64.Idx → EReal) (j : S10000x64.Idx) : raised R j = max (if R j = ⊥ then 0 else R j) 0 := by
  unfold raised
  refine congrArg₂ (fun a b : EReal => max a b) ?_ Ideal.ofBits_zero_f32
  show Scalar.select (BitVec.ofBool (decide (R j = Ideal.ofBits .f32 0xFF800000#32))) (Ideal.ofBits .f32 0x00000000#32) (R j) = _
  rw [bottom, Ideal.ofBits_zero_f32]
  by_cases h : R j = ⊥
  · rw [decide_eq_true h, if_pos h]
    rfl
  · rw [decide_eq_false h, if_neg h]
    rfl

/-- A layer of the reference. -/
def layer (h : S10000x64.Idx → EReal) (X Y : S320000.Idx → BitVec 32) (W1 : S128x64.Idx → EReal) (b1 : S64.Idx → EReal) (W : S64x64.Idx → EReal) (bias : S64.Idx → EReal) : S10000x64.Idx → EReal :=
  raised (greatest (spread X (messages h X Y W1 b1 W bias)))

theorem layer_greatest {h : S10000x64.Idx → EReal} {X Y : S320000.Idx → BitVec 32} (hX : ∀ i, (X i).toNat < 10000) (hY : ∀ i, (Y i).toNat < 10000) {W1 : S128x64.Idx → EReal}
    {b1 : S64.Idx → EReal} (hh : Bin.AllReal h) (hW : Bin.AllReal W1) (hb : Bin.AllReal b1) (W : S64x64.Idx → EReal) (bias : S64.Idx → EReal) {Tb : S10000x128.Idx → EReal}
    (hT : ∀ n c, Tb (ix2 n c) = Bin.tableAt h W1 b1 n c) (n : Fin 10000) (c : Fin 64) : Bin.Greatest X Y Tb W bias n.val c (layer h X Y W1 b1 W bias (ix2 n c)) := by
  intro x
  have hR := greatest_le (spread X (messages h X Y W1 b1 W bias)) n c x
  have hR' : greatest (spread X (messages h X Y W1 b1 W bias)) (ix2 n c) ≤ x
      ↔ ∀ i : Fin 320000, (X (ix1 i)).toNat = n.val → Bin.message Tb W bias (X (ix1 i)) (Y (ix1 i)) c ≤ x := by
    refine hR.trans (forall_congr' fun e => ?_)
    rw [spread_at, messages_at hX hY hh hW hb W bias hT]
    by_cases h : (X (ix1 e)).toNat = n.val
    · rw [if_pos h]
      exact ⟨fun hx _ => hx, fun hx => hx h⟩
    · rw [if_neg h]
      exact ⟨fun _ hx => absurd hx h, fun _ => bot_le⟩
  rw [← hR']
  generalize hr : greatest (spread X (messages h X Y W1 b1 W bias)) (ix2 n c) = r
  have hv : layer h X Y W1 b1 W bias (ix2 n c) = max (if r = ⊥ then 0 else r) 0 := by
    rw [← hr]
    exact raised_at _ _
  rw [hv]
  by_cases h : r = ⊥
  · rw [if_pos h, max_self, h]
    exact ⟨fun hx => ⟨hx, bot_le⟩, fun hx => hx.1⟩
  · rw [if_neg h]
    exact max_le_iff.trans And.comm

/-- A layer's features are finite where everything it takes is. -/
theorem layer_real {h : S10000x64.Idx → EReal} {X Y : S320000.Idx → BitVec 32} (hX : ∀ i, (X i).toNat < 10000) (hY : ∀ i, (Y i).toNat < 10000) {W1 : S128x64.Idx → EReal}
    {b1 : S64.Idx → EReal} (hh : Bin.AllReal h) (hW : Bin.AllReal W1) (hb : Bin.AllReal b1) {W : S64x64.Idx → EReal} {bias : S64.Idx → EReal} (hW2 : Bin.AllReal W) (hb2 : Bin.AllReal bias)
    {Tb : S10000x128.Idx → EReal} (hT : ∀ n c, Tb (ix2 n c) = Bin.tableAt h W1 b1 n c) : Bin.AllReal (layer h X Y W1 b1 W bias) := fun j => by
  rw [eq_ix2 j]
  refine (layer_greatest hX hY hh hW hb W bias hT (j 0) (j 1)).real fun i => Bin.message_real (fun k => ?_) hW2 hb2 _
  rw [Bin.edge_hidden hh hW hb hT]
  exact Bin.hidden_real hh hW hb _ _ k

/-! ## The reference's run -/

variable (V : Valuation τ sig (Elt Ideal))

theorem res_v1 : Value.res_main_v1 V = Bin.srcs (V (Proc.devRef .tc main_arg1)) := rfl
theorem res_v3 : Value.res_main_v3 V = Bin.dsts (V (Proc.devRef .tc main_arg1)) := rfl

theorem res_v13 : Value.res_main_v13 V = features (V (Proc.devRef .tc main_arg0)) (V (Proc.devRef .tc main_arg2)) (V (Proc.devRef .tc main_arg3)) (V (Proc.devRef .tc main_arg4)) (V (Proc.devRef .tc main_arg5)) := rfl

/-- A layer's features as the operations spell them. -/
theorem res_v53 : Value.res_main_v53 V = layer (Value.res_main_v13 V) (Value.res_main_v3 V) (Value.res_main_v1 V) (V (Proc.devRef .tc main_arg6)) (V (Proc.devRef .tc main_arg7)) (V (Proc.devRef .tc main_arg8)) (V (Proc.devRef .tc main_arg9)) := by
  unfold Value.res_main_v53 Value.res_main_v48 Value.res_main_v26 Value.res_main_v19
  generalize Value.res_main_v13 V = h
  generalize Value.res_main_v3 V = X
  generalize Value.res_main_v1 V = Y
  rfl
theorem res_v87 : Value.res_main_v87 V = layer (Value.res_main_v53 V) (Value.res_main_v3 V) (Value.res_main_v1 V) (V (Proc.devRef .tc main_arg10)) (V (Proc.devRef .tc main_arg11)) (V (Proc.devRef .tc main_arg12)) (V (Proc.devRef .tc main_arg13)) := by
  unfold Value.res_main_v87 Value.res_main_v82 Value.res_main_v60 Value.res_main_v19
  generalize Value.res_main_v53 V = h
  generalize Value.res_main_v3 V = X
  generalize Value.res_main_v1 V = Y
  rfl
theorem res_v121 : (maximumf (select (cmpf .oeq (Value.res_main_v116 V) (broadcastInDim S10000x64 ![] bcast_S_S10000x64 (constant S_ .f32 0xFF800000#32)))
      (broadcastInDim S10000x64 ![] bcast_S_S10000x64 (id (constant S_ .f32 0x00000000#32))) (Value.res_main_v116 V)) (broadcastInDim S10000x64 ![] bcast_S_S10000x64 (constant S_ .f32 0x00000000#32)) : FVec Ideal S10000x64 .f32)
    = layer (Value.res_main_v87 V) (Value.res_main_v3 V) (Value.res_main_v1 V) (V (Proc.devRef .tc main_arg14)) (V (Proc.devRef .tc main_arg15)) (V (Proc.devRef .tc main_arg16)) (V (Proc.devRef .tc main_arg17)) := by
  unfold Value.res_main_v116 Value.res_main_v94 Value.res_main_v19
  generalize Value.res_main_v87 V = h
  generalize Value.res_main_v3 V = X
  generalize Value.res_main_v1 V = Y
  rfl

/-- The reference's result, of its arguments. -/
theorem res_value (m : (ℓ : Loc nD τ sig) → Buf (Elt Ideal) ℓ) (c : Dev nD) : (maximumf (select (cmpf .oeq (Value.res_main_v116 (StableHlo.launchContents m c)) (broadcastInDim S10000x64 ![] bcast_S_S10000x64 (constant S_ .f32 0xFF800000#32)))
      (broadcastInDim S10000x64 ![] bcast_S_S10000x64 (id (constant S_ .f32 0x00000000#32))) (Value.res_main_v116 (StableHlo.launchContents m c))) (broadcastInDim S10000x64 ![] bcast_S_S10000x64 (constant S_ .f32 0x00000000#32)) : FVec Ideal S10000x64 .f32)
    = layer (layer (layer (features (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (Bin.dsts (m ((c.tc : Thread nD τ).loc main_arg1))) (Bin.srcs (m ((c.tc : Thread nD τ).loc main_arg1))) (m ((c.tc : Thread nD τ).loc main_arg6)) (m ((c.tc : Thread nD τ).loc main_arg7)) (m ((c.tc : Thread nD τ).loc main_arg8)) (m ((c.tc : Thread nD τ).loc main_arg9))) (Bin.dsts (m ((c.tc : Thread nD τ).loc main_arg1))) (Bin.srcs (m ((c.tc : Thread nD τ).loc main_arg1))) (m ((c.tc : Thread nD τ).loc main_arg10)) (m ((c.tc : Thread nD τ).loc main_arg11)) (m ((c.tc : Thread nD τ).loc main_arg12)) (m ((c.tc : Thread nD τ).loc main_arg13))) (Bin.dsts (m ((c.tc : Thread nD τ).loc main_arg1))) (Bin.srcs (m ((c.tc : Thread nD τ).loc main_arg1))) (m ((c.tc : Thread nD τ).loc main_arg14)) (m ((c.tc : Thread nD τ).loc main_arg15)) (m ((c.tc : Thread nD τ).loc main_arg16)) (m ((c.tc : Thread nD τ).loc main_arg17)) := by
  rw [res_v121, res_v87, res_v53, res_v13, res_v3, res_v1]

end Cert.Proof.RefValue

end
-- ==== Proof.Pres.lean ====
/-
  What the preconditions say: the edges' ends are nodes, and the features and the weights are finite.
-/
module

public import proofs.«01_k».proof.Defs
public import proofs.«01_k».proof.Proof.Gen.Pre_nodes
public import proofs.«01_k».proof.Proof.Gen.Pre_finite_nodes
public import proofs.«01_k».proof.Proof.Table

@[expose] public section

noncomputable section

namespace Cert.Proof.Pres

open Idealize.ShloMosaic

/-- A conjunction of bits that is one has every bit one. -/
theorem fold_and {ι : Type} (f : ι → BitVec 1) (s : Finset ι) (h : s.fold IntOp.andi (1#1) f = 1#1) : ∀ i ∈ s, f i = 1#1 := by
  classical
  induction s using Finset.induction with
  | empty => exact fun i hi => absurd hi (Finset.notMem_empty i)
  | insert a s ha ih =>
    rw [Finset.fold_insert ha] at h
    have both : ∀ x y : BitVec 1, IntOp.andi x y = 1#1 → x = 1#1 ∧ y = 1#1 := by decide
    have h2 := both _ _ h
    intro i hi
    rcases Finset.mem_insert.1 hi with rfl | hi
    · exact h2.1
    · exact ih h2.2 i hi

theorem both : ∀ x y : BitVec 1, IntOp.andi x y = 1#1 → x = 1#1 ∧ y = 1#1 := by decide

theorem one : ∀ b : Bool, BitVec.ofBool b = 1#1 → b = true := by decide

/-- A conjunction over a whole array that is one has every element one. -/
theorem reduce_and {s t : Shape} {dims : List (Fin s.rank)} (ht : t.rank = 0) (v : IVec s 1) (h : s.ReducesTo dims t) (hS : 0 < t.numel) (j : t.Idx)
    (e : Host.reduce IntOp.andi v (constantI t 1 1#1) h hS j = 1#1) (i : s.Idx) : v i = 1#1 := by
  rw [Host.reduce_eq_fold] at e
  refine fold_and _ _ e i (Finset.mem_filter.2 ⟨Finset.mem_univ _, funext fun a => absurd a.isLt ?_⟩)
  omega

/-- An index in the range is a node. -/
theorem in_range (x : BitVec 32) (h : IntOp.andi (BitVec.ofBool ((0#32).sle x)) (BitVec.ofBool (x.slt 10000#32)) = 1#1) : x.toNat < 10000 := by
  obtain ⟨hge, hlt⟩ := both _ _ h
  have hge' := one _ hge
  have hlt' := one _ hlt
  rw [BitVec.sle_eq_decide, decide_eq_true_eq] at hge'
  rw [BitVec.slt_eq_decide, decide_eq_true_eq] at hlt'
  have h10 : (10000#32).toInt = 10000 := by decide
  have h00 : (0#32).toInt = 0 := by decide
  rw [h10, BitVec.toInt_eq_toNat_cond] at hlt'
  rw [h00, BitVec.toInt_eq_toNat_cond] at hge'
  have := x.isLt
  split at hlt' <;> split at hge' <;> omega

theorem top : (Ideal.ofBits .f32 0x7F800000#32 : EReal) = ⊤ := by simp [Ideal.ofBits, Ideal.ieee]

/-- A value whose magnitude is below infinity is real. -/
theorem real_of (x : EReal) (h : BitVec.ofBool (decide (max x (-x) < (Ideal.ofBits .f32 0x7F800000#32 : EReal))) = 1#1) : Bin.IsReal x := by
  have h := of_decide_eq_true (one _ h)
  rw [top, max_lt_iff] at h
  refine Bin.IsReal.of_bounds (fun hx => ?_) h.1.ne
  rw [hx, EReal.neg_bot] at h
  exact lt_irrefl _ h.2

/-- An array whose magnitudes are all below infinity is real. -/
theorem all_real {s t : Shape} {dims : List (Fin s.rank)} (ht : t.rank = 0) (A : FVec Ideal s .f32) (f : FVec Ideal s .f32) (hf : ∀ i, f i = (Ideal.ofBits .f32 0x7F800000#32 : EReal))
    (h : s.ReducesTo dims t) (hS : 0 < t.numel) (j : t.Idx) (e : Host.reduce IntOp.andi (cmpf .olt (Host.absf A) f) (constantI t 1 1#1) h hS j = 1#1) : Bin.AllReal A := fun i => by
  have h1 := reduce_and ht _ h hS j e i
  refine real_of (A i) ?_
  rw [← hf i]
  exact h1

/-- Under the precondition every end of an edge is a node. -/
theorem nodes_of_pre {F : FTy → Type} [FloatOps F] (a0 : FVec F Cert.Pre_nodes.S10000x128 .f32) (E : IVec Cert.Pre_nodes.S2x320000 32) (a2 : FVec F Cert.Pre_nodes.S128x64 .f32) (a3 : FVec F Cert.Pre_nodes.S64 .f32) (a4 : FVec F Cert.Pre_nodes.S64x64 .f32) (a5 : FVec F Cert.Pre_nodes.S64 .f32) (a6 : FVec F Cert.Pre_nodes.S128x64 .f32) (a7 : FVec F Cert.Pre_nodes.S64 .f32) (a8 : FVec F Cert.Pre_nodes.S64x64 .f32) (a9 : FVec F Cert.Pre_nodes.S64 .f32) (a10 : FVec F Cert.Pre_nodes.S128x64 .f32) (a11 : FVec F Cert.Pre_nodes.S64 .f32) (a12 : FVec F Cert.Pre_nodes.S64x64 .f32) (a13 : FVec F Cert.Pre_nodes.S64 .f32) (a14 : FVec F Cert.Pre_nodes.S128x64 .f32) (a15 : FVec F Cert.Pre_nodes.S64 .f32) (a16 : FVec F Cert.Pre_nodes.S64x64 .f32) (a17 : FVec F Cert.Pre_nodes.S64 .f32)
    (h : @Cert.Pre_nodes.fn Cert.Pre_nodes.Gen.facts F _ a0 E a2 a3 a4 a5 a6 a7 a8 a9 a10 a11 a12 a13 a14 a15 a16 a17 = fun _ => 1#1) (i : Cert.Pre_nodes.S2x320000.Idx) : (E i).toNat < 10000 := by
  have h0 := congrFun h ix0
  unfold Cert.Pre_nodes.fn at h0
  dsimp only at h0
  exact in_range (E i) (reduce_and rfl _ _ _ _ h0 i)

/-- What is finite. -/
structure Finite (a0 : FVec Ideal Cert.Pre_finite_nodes.S10000x128 .f32) (a2 : FVec Ideal Cert.Pre_finite_nodes.S128x64 .f32) (a3 : FVec Ideal Cert.Pre_finite_nodes.S64 .f32) (a4 : FVec Ideal Cert.Pre_finite_nodes.S64x64 .f32) (a5 : FVec Ideal Cert.Pre_finite_nodes.S64 .f32) (a6 : FVec Ideal Cert.Pre_finite_nodes.S128x64 .f32) (a7 : FVec Ideal Cert.Pre_finite_nodes.S64 .f32) (a8 : FVec Ideal Cert.Pre_finite_nodes.S64x64 .f32) (a9 : FVec Ideal Cert.Pre_finite_nodes.S64 .f32) (a10 : FVec Ideal Cert.Pre_finite_nodes.S128x64 .f32) (a11 : FVec Ideal Cert.Pre_finite_nodes.S64 .f32) (a12 : FVec Ideal Cert.Pre_finite_nodes.S64x64 .f32) (a13 : FVec Ideal Cert.Pre_finite_nodes.S64 .f32) (a14 : FVec Ideal Cert.Pre_finite_nodes.S128x64 .f32) (a15 : FVec Ideal Cert.Pre_finite_nodes.S64 .f32) (a16 : FVec Ideal Cert.Pre_finite_nodes.S64x64 .f32) (a17 : FVec Ideal Cert.Pre_finite_nodes.S64 .f32) : Prop where
  h0 : Bin.AllReal a0
  h2 : Bin.AllReal a2
  h3 : Bin.AllReal a3
  h4 : Bin.AllReal a4
  h5 : Bin.AllReal a5
  h6 : Bin.AllReal a6
  h7 : Bin.AllReal a7
  h8 : Bin.AllReal a8
  h9 : Bin.AllReal a9
  h10 : Bin.AllReal a10
  h11 : Bin.AllReal a11
  h12 : Bin.AllReal a12
  h13 : Bin.AllReal a13
  h14 : Bin.AllReal a14
  h15 : Bin.AllReal a15
  h16 : Bin.AllReal a16
  h17 : Bin.AllReal a17

/-- Under the stronger precondition every end of an edge is a node and the features and the weights are finite. -/
theorem finite_of_pre (a0 : FVec Ideal Cert.Pre_finite_nodes.S10000x128 .f32) (E : IVec Cert.Pre_finite_nodes.S2x320000 32) (a2 : FVec Ideal Cert.Pre_finite_nodes.S128x64 .f32) (a3 : FVec Ideal Cert.Pre_finite_nodes.S64 .f32) (a4 : FVec Ideal Cert.Pre_finite_nodes.S64x64 .f32) (a5 : FVec Ideal Cert.Pre_finite_nodes.S64 .f32) (a6 : FVec Ideal Cert.Pre_finite_nodes.S128x64 .f32) (a7 : FVec Ideal Cert.Pre_finite_nodes.S64 .f32) (a8 : FVec Ideal Cert.Pre_finite_nodes.S64x64 .f32) (a9 : FVec Ideal Cert.Pre_finite_nodes.S64 .f32) (a10 : FVec Ideal Cert.Pre_finite_nodes.S128x64 .f32) (a11 : FVec Ideal Cert.Pre_finite_nodes.S64 .f32) (a12 : FVec Ideal Cert.Pre_finite_nodes.S64x64 .f32) (a13 : FVec Ideal Cert.Pre_finite_nodes.S64 .f32) (a14 : FVec Ideal Cert.Pre_finite_nodes.S128x64 .f32) (a15 : FVec Ideal Cert.Pre_finite_nodes.S64 .f32) (a16 : FVec Ideal Cert.Pre_finite_nodes.S64x64 .f32) (a17 : FVec Ideal Cert.Pre_finite_nodes.S64 .f32)
    (h : @Cert.Pre_finite_nodes.fn Cert.Pre_finite_nodes.Gen.facts Ideal _ a0 E a2 a3 a4 a5 a6 a7 a8 a9 a10 a11 a12 a13 a14 a15 a16 a17 = fun _ => 1#1) :
    (∀ i, (E i).toNat < 10000) ∧ Finite a0 a2 a3 a4 a5 a6 a7 a8 a9 a10 a11 a12 a13 a14 a15 a16 a17 := by
  have e := congrFun h ix0
  unfold Cert.Pre_finite_nodes.fn Cert.Pre_finite_nodes.fn_part1 Cert.Pre_finite_nodes.fn_part2 Cert.Pre_finite_nodes.fn_part3 Cert.Pre_finite_nodes.fn_part4 Cert.Pre_finite_nodes.fn_part5 at e
  dsimp only at e
  obtain ⟨e, e17⟩ := both _ _ e
  obtain ⟨e, e16⟩ := both _ _ e
  obtain ⟨e, e15⟩ := both _ _ e
  obtain ⟨e, e14⟩ := both _ _ e
  obtain ⟨e, e13⟩ := both _ _ e
  obtain ⟨e, e12⟩ := both _ _ e
  obtain ⟨e, e11⟩ := both _ _ e
  obtain ⟨e, e10⟩ := both _ _ e
  obtain ⟨e, e9⟩ := both _ _ e
  obtain ⟨e, e8⟩ := both _ _ e
  obtain ⟨e, e7⟩ := both _ _ e
  obtain ⟨e, e6⟩ := both _ _ e
  obtain ⟨e, e5⟩ := both _ _ e
  obtain ⟨e, e4⟩ := both _ _ e
  obtain ⟨e, e3⟩ := both _ _ e
  obtain ⟨e, e2⟩ := both _ _ e
  obtain ⟨e, e0⟩ := both _ _ e
  refine ⟨fun i => in_range (E i) (reduce_and rfl _ _ _ _ e i), ⟨?_, ?_, ?_, ?_, ?_, ?_, ?_, ?_, ?_, ?_, ?_, ?_, ?_, ?_, ?_, ?_, ?_⟩⟩
  · exact all_real rfl a0 _ (fun _ => rfl) _ _ _ e0
  · exact all_real rfl a2 _ (fun _ => rfl) _ _ _ e2
  · exact all_real rfl a3 _ (fun _ => rfl) _ _ _ e3
  · exact all_real rfl a4 _ (fun _ => rfl) _ _ _ e4
  · exact all_real rfl a5 _ (fun _ => rfl) _ _ _ e5
  · exact all_real rfl a6 _ (fun _ => rfl) _ _ _ e6
  · exact all_real rfl a7 _ (fun _ => rfl) _ _ _ e7
  · exact all_real rfl a8 _ (fun _ => rfl) _ _ _ e8
  · exact all_real rfl a9 _ (fun _ => rfl) _ _ _ e9
  · exact all_real rfl a10 _ (fun _ => rfl) _ _ _ e10
  · exact all_real rfl a11 _ (fun _ => rfl) _ _ _ e11
  · exact all_real rfl a12 _ (fun _ => rfl) _ _ _ e12
  · exact all_real rfl a13 _ (fun _ => rfl) _ _ _ e13
  · exact all_real rfl a14 _ (fun _ => rfl) _ _ _ e14
  · exact all_real rfl a15 _ (fun _ => rfl) _ _ _ e15
  · exact all_real rfl a16 _ (fun _ => rfl) _ _ _ e16
  · exact all_real rfl a17 _ (fun _ => rfl) _ _ _ e17

end Cert.Proof.Pres

end
-- ==== Proof.Equal.lean ====
/-
  The kernel's result is the reference's: the tables and the features of the layers, one after the other.
-/
module

public import proofs.«01_k».proof.Proof.Host
public import proofs.«01_k».proof.Proof.Value
public import proofs.«01_k».proof.Proof.RefValue
public import proofs.«01_k».proof.Proof.Pres

@[expose] public section

noncomputable section

namespace Cert.Proof.Equal

open Cert.KernelIdeal Cert.KernelIdeal.Gen
open Idealize.ShloMosaic
open RefValue (layer features)

variable (m : (ℓ : Loc nD τ sig) → Buf (Elt Ideal) ℓ) (d : Dev nD)

/-- The features before a layer, and each layer's. -/
def h0 : S10000x64.Idx → EReal := features (Bin.rd m d main_arg0) (Bin.rd m d main_arg2) (Bin.rd m d main_arg3) (Bin.rd m d main_arg4) (Bin.rd m d main_arg5)
def h1 : S10000x64.Idx → EReal := layer (h0 m d) ((Bin.net m).X d) ((Bin.net m).Y d) (Bin.rd m d main_arg6) (Bin.rd m d main_arg7) (Bin.rd m d main_arg8) (Bin.rd m d main_arg9)
def h2 : S10000x64.Idx → EReal := layer (h1 m d) ((Bin.net m).X d) ((Bin.net m).Y d) (Bin.rd m d main_arg10) (Bin.rd m d main_arg11) (Bin.rd m d main_arg12) (Bin.rd m d main_arg13)
def h3 : S10000x64.Idx → EReal := layer (h2 m d) ((Bin.net m).X d) ((Bin.net m).Y d) (Bin.rd m d main_arg14) (Bin.rd m d main_arg15) (Bin.rd m d main_arg16) (Bin.rd m d main_arg17)

/-- A layer's features, of the one table there can be, are the reference's. -/
theorem layer_eq {X Y : Dev nD → S320000.Idx → BitVec 32} {PT : Dev nD → (S10000x128.Idx → EReal) → Prop} {W2 : Dev nD → S128x128.Idx → EReal} {B2 : Dev nD → S1x128.Idx → EReal}
    {d : Dev nD} (hX : ∀ i, (X d i).toNat < 10000) (hY : ∀ i, (Y d i).toNat < 10000) {h : S10000x64.Idx → EReal} {V : S128x64.Idx → EReal} {b : S64.Idx → EReal} (hh : Bin.AllReal h)
    (hV : Bin.AllReal V) (hb : Bin.AllReal b) (hPT : ∀ Tb n c, PT d Tb → Tb (ix2 n c) = Bin.tableAt h V b n c) {W : S64x64.Idx → EReal} {bias : S64.Idx → EReal}
    (hW : W2 d = Bin.diag (F := Ideal) W) (hB : B2 d = Bin.twice (F := Ideal) bias) {g : S5120x128.Idx → EReal}
    (hg : ∀ t, t < 32 → Bin.AggOK (F := Ideal) X Y PT W2 B2 d t g) :
    Bin.result (F := Ideal) g = layer h (X d) (Y d) V b W bias := by
  have hT : ∀ (n : Fin 10000) (c : Fin 128), (fun j : S10000x128.Idx => Bin.tableAt h V b (j 0) (j 1)) (ix2 n c) = Bin.tableAt h V b n c := fun n c => rfl
  funext j
  rw [eq_ix2 j]
  refine (Bin.result_greatest hX hY (Tb := fun j => Bin.tableAt h V b (j 0) (j 1)) (fun Tb hTb => ?_) hW hB hg (j 0) (j 1)).unique
    (RefValue.layer_greatest hX hY hh hV hb W bias hT (j 0) (j 1))
  funext i
  rw [eq_ix2 i]
  exact hPT Tb (i 0) (i 1) hTb

/-- A layer's features are finite. -/
theorem layer_real {X Y : S320000.Idx → BitVec 32} (hX : ∀ i, (X i).toNat < 10000) (hY : ∀ i, (Y i).toNat < 10000) {h : S10000x64.Idx → EReal} {V : S128x64.Idx → EReal}
    {b : S64.Idx → EReal} (hh : Bin.AllReal h) (hV : Bin.AllReal V) (hb : Bin.AllReal b) {W : S64x64.Idx → EReal} {bias : S64.Idx → EReal} (hW : Bin.AllReal W) (hB : Bin.AllReal bias) :
    Bin.AllReal (layer h X Y V b W bias) :=
  RefValue.layer_real hX hY hh hV hb hW hB (Tb := fun j : S10000x128.Idx => Bin.tableAt h V b (j 0) (j 1)) fun _ _ => rfl

variable (hX : ∀ i, ((Bin.net m).X d i).toNat < 10000) (hY : ∀ i, ((Bin.net m).Y d i).toNat < 10000)
  (hA : Pres.Finite (Bin.rd m d main_arg0) (Bin.rd m d main_arg2) (Bin.rd m d main_arg3) (Bin.rd m d main_arg4) (Bin.rd m d main_arg5) (Bin.rd m d main_arg6) (Bin.rd m d main_arg7) (Bin.rd m d main_arg8) (Bin.rd m d main_arg9) (Bin.rd m d main_arg10) (Bin.rd m d main_arg11) (Bin.rd m d main_arg12) (Bin.rd m d main_arg13) (Bin.rd m d main_arg14) (Bin.rd m d main_arg15) (Bin.rd m d main_arg16) (Bin.rd m d main_arg17))

include hA in
theorem real0 : Bin.AllReal (h0 m d) := fun j => by
  obtain ⟨n, c, rfl⟩ : ∃ (n : Fin 10000) (c : Fin 64), j = ix2 n c := ⟨j 0, j 1, eq_ix2 j⟩
  exact (congrArg Bin.IsReal (RefValue.features_at _ _ _ _ _ n c)).mpr (Bin.encoded_real hA.h0 hA.h2 hA.h3 hA.h4 hA.h5 n c)

include hX hY hA in
theorem real1 : Bin.AllReal (h1 m d) := layer_real hX hY (real0 m d hA) hA.h6 hA.h7 hA.h8 hA.h9

include hX hY hA in
theorem real2 : Bin.AllReal (h2 m d) := layer_real hX hY (real1 m d hX hY hA) hA.h10 hA.h11 hA.h12 hA.h13

/-- The first table. -/
theorem table0 (Tb : S10000x128.Idx → EReal) (n : Fin 10000) (c : Fin 128) (h : Bin.PT (Bin.net m) 0 d Tb) : Tb (ix2 n c) = Bin.tableAt (h0 m d) (Bin.rd m d main_arg6) (Bin.rd m d main_arg7) n c := by
  rw [show Tb = (Bin.net m).T d from h]
  exact Bin.enc_at _ _ _ _ _ _ _ (h0 m d) (fun n j => RefValue.features_at _ _ _ _ _ n j) n c

include hX hY hA in
theorem table1 (Tb : S10000x128.Idx → EReal) (n : Fin 10000) (c : Fin 128) (h : Bin.PT (Bin.net m) 1 d Tb) : Tb (ix2 n c) = Bin.tableAt (h1 m d) (Bin.rd m d main_arg10) (Bin.rd m d main_arg11) n c := by
  obtain ⟨g, hg, rfl⟩ := h
  rw [layer_eq (h := h0 m d) hX hY (real0 m d hA) hA.h6 hA.h7 (table0 m d) (Bin.net_W0 m d) (Bin.net_B0 m d) hg]
  refine Eq.trans ?_ (Bin.ab_at (h1 m d) (Bin.rd m d main_arg10) (Bin.rd m d main_arg11) n c)
  rw [← Bin.net_V1, ← Bin.net_C1]
  rfl

include hX hY hA in
theorem table2 (Tb : S10000x128.Idx → EReal) (n : Fin 10000) (c : Fin 128) (h : Bin.PT (Bin.net m) 2 d Tb) : Tb (ix2 n c) = Bin.tableAt (h2 m d) (Bin.rd m d main_arg14) (Bin.rd m d main_arg15) n c := by
  obtain ⟨g, hg, rfl⟩ := h
  rw [layer_eq (h := h1 m d) hX hY (real1 m d hX hY hA) hA.h10 hA.h11 (table1 m d hX hY hA) (Bin.net_W1 m d) (Bin.net_B1 m d) hg]
  refine Eq.trans ?_ (Bin.ab_at (h2 m d) (Bin.rd m d main_arg14) (Bin.rd m d main_arg15) n c)
  rw [← Bin.net_V2, ← Bin.net_C2]
  rfl

include hX hY hA in
/-- The result, of right aggregates of the last layer. -/
theorem result_eq (g : S5120x128.Idx → EReal)
    (hg : ∀ t, t < 32 → Bin.AggOK (F := Ideal) (Bin.net m).X (Bin.net m).Y (Bin.PT (Bin.net m) 2) ((Bin.net m).W 2) ((Bin.net m).B 2) d t g) : Bin.result (F := Ideal) g = h3 m d :=
  layer_eq (h := h2 m d) hX hY (real2 m d hX hY hA) hA.h14 hA.h15 (table2 m d hX hY hA) (Bin.net_W2 m d) (Bin.net_B2 m d) hg

end Cert.Proof.Equal

end
-- ==== Proof.SameA.lean ====
/-
  The two printed programs are one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof

open Idealize.ShloMosaic Idealize.SL.Sem

set_option maxHeartbeats 16000000 in
/-- The two printed programs have the same bodies. -/
theorem bodies_same {F : FTy → Type} [FloatOps F] : Cert.Kernel.defs₀ (F := F) = Cert.KernelIdeal.defs₀ (F := F) := by
  funext p l a
  match p, l, a with
  | .tc, ⟨0, _⟩, _ => rfl
  | .tc, ⟨1, _⟩, _ => rfl
  | .tc, ⟨2, _⟩, _ => rfl
  | .tc, ⟨3, _⟩, _ => rfl
  | .tc, ⟨4, _⟩, _ => rfl
  | .tc, ⟨5, _⟩, _ => rfl
  | .tc, ⟨6, _⟩, _ => rfl
  | .tc, ⟨7, _⟩, _ => rfl
  | .tc, ⟨8, _⟩, _ => rfl
  | .tc, ⟨9, _⟩, _ => rfl
  | .tc, ⟨10, _⟩, _ => rfl
  | .tc, ⟨11, _⟩, _ => rfl
  | .tc, ⟨12, _⟩, _ => rfl
  | .scScalar _, ⟨0, _⟩, _ => rfl
  | .scScalar _, ⟨1, _⟩, _ => rfl
  | .scScalar _, ⟨2, _⟩, _ => rfl
  | .scScalar _, ⟨3, _⟩, _ => rfl
  | .scScalar _, ⟨4, _⟩, _ => rfl
  | .scScalar _, ⟨5, _⟩, _ => rfl
  | .scScalar _, ⟨6, _⟩, _ => rfl
  | .scScalar _, ⟨7, _⟩, _ => rfl
  | .scScalar _, ⟨8, _⟩, _ => rfl
  | .scScalar _, ⟨9, _⟩, _ => rfl
  | .scScalar _, ⟨10, _⟩, _ => rfl
  | .scScalar _, ⟨11, _⟩, _ => rfl
  | .scScalar _, ⟨12, _⟩, _ => rfl
  | .scVector _ _, ⟨0, _⟩, _ => rfl
  | .scVector _ _, ⟨1, _⟩, _ => rfl
  | .scVector _ _, ⟨2, _⟩, _ => rfl
  | .scVector _ _, ⟨3, _⟩, _ => rfl
  | .scVector _ _, ⟨4, _⟩, _ => rfl
  | .scVector _ _, ⟨5, _⟩, _ => rfl
  | .scVector _ _, ⟨6, _⟩, _ => rfl
  | .scVector _ _, ⟨7, _⟩, _ => rfl
  | .scVector _ _, ⟨8, _⟩, _ => rfl
  | .scVector _ _, ⟨9, _⟩, _ => rfl
  | .scVector _ _, ⟨10, _⟩, _ => rfl
  | .scVector _ _, ⟨11, _⟩, _ => rfl
  | .scVector _ _, ⟨12, _⟩, _ => rfl

end Cert.Proof

end
-- ==== Proof.SameB.lean ====
/-
  The two printed programs are one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof

open Idealize.ShloMosaic Idealize.SL.Sem

set_option maxHeartbeats 16000000 in
theorem defs_same {F : FTy → Type} [FloatOps F] (hb : Cert.Kernel.defs₀ (F := F) = Cert.KernelIdeal.defs₀ (F := F)) : Cert.Kernel.defs (F := F) = Cert.KernelIdeal.defs (F := F) :=
  congrArg (fun D => (Cert.KernelIdeal.sc (F := F)).defs (Pipeline.defs Cert.KernelIdeal.pcfgs D)) hb

end Cert.Proof

end
-- ==== Proof.lean ====
/-
  The claims: the kernel and its reference run, end quiescent and leave their arguments unchanged, and the kernel's result is
  the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_nodes
public import proofs.«01_k».proof.Proof.Gen.Pre_finite_nodes
public import proofs.«01_k».proof.Proof.Launch
public import proofs.«01_k».proof.Proof.Equal
public import proofs.«01_k».proof.Proof.SameA
public import proofs.«01_k».proof.Proof.SameB
public import Idealize.ShloMosaic.Adequacy
public import Idealize.ShloMosaic.Init

@[expose] public section

noncomputable section

namespace Cert.Proof

open Idealize.ShloMosaic Idealize.SL.Sem

/-! ## The edges' ends are nodes -/

/-- Ends that are nodes are nodes in either row. -/
theorem dsts_nodes {F : FTy → Type} [FloatOps F] (m : (ℓ : Loc Cert.KernelIdeal.nD Cert.KernelIdeal.τ Cert.KernelIdeal.sig) → Buf (Elt F) ℓ)
    (h : ∀ c i, (Bin.rd m c Cert.KernelIdeal.main_arg1 i : BitVec 32).toNat < 10000) (d : Dev Cert.KernelIdeal.nD) (i : Cert.KernelIdeal.S320000.Idx) : ((Bin.net m).X d i).toNat < 10000 :=
  h d _

theorem srcs_nodes {F : FTy → Type} [FloatOps F] (m : (ℓ : Loc Cert.KernelIdeal.nD Cert.KernelIdeal.τ Cert.KernelIdeal.sig) → Buf (Elt F) ℓ)
    (h : ∀ c i, (Bin.rd m c Cert.KernelIdeal.main_arg1 i : BitVec 32).toNat < 10000) (d : Dev Cert.KernelIdeal.nD) (i : Cert.KernelIdeal.S320000.Idx) : ((Bin.net m).Y d i).toNat < 10000 :=
  h d _

/-! ## The frames -/

theorem frame_kernelIdeal : Cert.quiescent_KernelIdeal (hKernelIdeal := Cert.KernelIdeal.Gen.facts) (hPre_nodes := Cert.Pre_nodes.Gen.facts) := fun m ρ hp => by
  have hn : ∀ c i, (Bin.rd m c Cert.KernelIdeal.main_arg1 i : BitVec 32).toNat < 10000 := fun c i => Pres.nodes_of_pre _ _ _ _ _ _ _ _ _ _ _ _ _ _ _ _ _ _ (hp c) i
  exact (θ_run (Cert.KernelIdeal.defs (F := Ideal)) _ _).mono (fun _ h => ⟨fun c => (h.1 c).2, h.2⟩) (Bin.run_main (F := Ideal) m ρ (dsts_nodes m hn) (srcs_nodes m hn))

/-- What the stronger precondition says at the kernel's arguments. -/
theorem finite_nodes (m : (ℓ : Loc Cert.KernelIdeal.nD Cert.KernelIdeal.τ Cert.KernelIdeal.sig) → Buf (Elt Ideal) ℓ)
    (hp : Cert.Pre_KernelIdeal_finite_nodes (hPre_finite_nodes := Cert.Pre_finite_nodes.Gen.facts) m) (c : Dev Cert.KernelIdeal.nD) :
    (∀ i, (Bin.rd m c Cert.KernelIdeal.main_arg1 i : BitVec 32).toNat < 10000) ∧ Pres.Finite (Bin.rd m c Cert.KernelIdeal.main_arg0) (Bin.rd m c Cert.KernelIdeal.main_arg2) (Bin.rd m c Cert.KernelIdeal.main_arg3) (Bin.rd m c Cert.KernelIdeal.main_arg4) (Bin.rd m c Cert.KernelIdeal.main_arg5) (Bin.rd m c Cert.KernelIdeal.main_arg6) (Bin.rd m c Cert.KernelIdeal.main_arg7) (Bin.rd m c Cert.KernelIdeal.main_arg8) (Bin.rd m c Cert.KernelIdeal.main_arg9) (Bin.rd m c Cert.KernelIdeal.main_arg10) (Bin.rd m c Cert.KernelIdeal.main_arg11) (Bin.rd m c Cert.KernelIdeal.main_arg12) (Bin.rd m c Cert.KernelIdeal.main_arg13) (Bin.rd m c Cert.KernelIdeal.main_arg14) (Bin.rd m c Cert.KernelIdeal.main_arg15) (Bin.rd m c Cert.KernelIdeal.main_arg16) (Bin.rd m c Cert.KernelIdeal.main_arg17) :=
  Pres.finite_of_pre _ _ _ _ _ _ _ _ _ _ _ _ _ _ _ _ _ _ (hp c)

theorem frame_kernelIdeal_finite : Cert.quiescent_KernelIdeal_pre_finite_nodes (hKernelIdeal := Cert.KernelIdeal.Gen.facts) (hPre_finite_nodes := Cert.Pre_finite_nodes.Gen.facts) := fun m ρ hp => by
  have hn := fun c => (finite_nodes m hp c).1
  exact (θ_run (Cert.KernelIdeal.defs (F := Ideal)) _ _).mono (fun _ h => ⟨fun c => (h.1 c).2, h.2⟩) (Bin.run_main (F := Ideal) m ρ (dsts_nodes m hn) (srcs_nodes m hn))

set_option maxHeartbeats 16000000 in
theorem frame_kernel : Cert.quiescent_Kernel (hKernel := Cert.Kernel.Gen.facts) (hPre_nodes := Cert.Pre_nodes.Gen.facts) := fun m ρ hp => by
  have hn : ∀ c i, (Bin.rd (F := Bits) m c Cert.KernelIdeal.main_arg1 i : BitVec 32).toNat < 10000 := fun c i => Pres.nodes_of_pre _ _ _ _ _ _ _ _ _ _ _ _ _ _ _ _ _ _ (hp c) i
  have h := (θ_run (Cert.KernelIdeal.defs (F := Bits)) _ _).mono (fun _ h => show _ ∧ _ from ⟨fun c => (h.1 c).2, h.2⟩) (Bin.run_main (F := Bits) m ρ (dsts_nodes m hn) (srcs_nodes m hn))
  rw [← defs_same bodies_same] at h
  exact h

theorem frame_referenceIdeal : Cert.quiescent_ReferenceIdeal (hReferenceIdeal := Cert.ReferenceIdeal.Gen.facts) := fun m ρ _ =>
  (θ_run (Cert.ReferenceIdeal.defs (F := Ideal)) _ _).mono (fun r h => ⟨fun c => (h c).2, Idealize.ShloMosaic.sem_eq_zero_of_no_sems (by decide) r.2⟩)
    (Cert.ReferenceIdeal.Value.run (F := Ideal) m ρ)

theorem frame_referenceIdeal_finite : Cert.quiescent_ReferenceIdeal_pre_finite_nodes (hReferenceIdeal := Cert.ReferenceIdeal.Gen.facts) (hPre_finite_nodes := Cert.Pre_finite_nodes.Gen.facts) :=
  fun m ρ _ => frame_referenceIdeal m ρ trivial

/-! ## The value -/

theorem algebraic : Cert.algebraic_KernelIdeal_ReferenceIdeal_pre_finite_nodes (hKernelIdeal := Cert.KernelIdeal.Gen.facts) (hReferenceIdeal := Cert.ReferenceIdeal.Gen.facts)
    (hPre_finite_nodes := Cert.Pre_finite_nodes.Gen.facts) := fun m ρ m' ρ' hp hm => by
  have hn := fun c => (finite_nodes m hp c).1
  refine ⟨fun c => Equal.h3 m c, ?_, ?_⟩
  · refine (θ_run (Cert.KernelIdeal.defs (F := Ideal)) _ _).mono (fun _ h c => ?_) (Bin.run_main (F := Ideal) m ρ (dsts_nodes m hn) (srcs_nodes m hn))
    obtain ⟨⟨g, hg, h0⟩, h1⟩ := h.1 c
    exact ⟨h0.trans (Equal.result_eq m c (dsts_nodes m hn c) (srcs_nodes m hn c) (finite_nodes m hp c).2 g hg), h1⟩
  · refine (θ_run (Cert.ReferenceIdeal.defs (F := Ideal)) _ _).mono (fun _ h c => ?_) (Cert.ReferenceIdeal.Value.run (F := Ideal) m' ρ')
    obtain ⟨h0, h1⟩ := h c
    refine ⟨(h0.trans (RefValue.res_value m' c)).trans ?_, h1⟩
    obtain ⟨e0, e1, e2, e3, e4, e5, e6, e7, e8, e9, e10, e11, e12, e13, e14, e15, e16, e17⟩ := hm c
    rw [e0, e1, e2, e3, e4, e5, e6, e7, e8, e9, e10, e11, e12, e13, e14, e15, e16, e17]
    rfl

theorem claim : Cert.Claim := ⟨Cert.Kernel.Gen.facts, Cert.KernelIdeal.Gen.facts, Cert.ReferenceIdeal.Gen.facts, Cert.Pre_nodes.Gen.facts, Cert.Pre_finite_nodes.Gen.facts,
  frame_kernel, frame_kernelIdeal, frame_kernelIdeal_finite, frame_referenceIdeal, frame_referenceIdeal_finite, trivial, algebraic⟩

end Cert.Proof

end
